-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Ff2Bwd (m : (ℓ : Loc Cert.Ff2Bwd.nD Cert.Ff2Bwd.τ Cert.Ff2Bwd.sig) → Buf (Elt Bits) ℓ) : Prop :=
  True

def Pre_Ff2BwdIdeal (m : (ℓ : Loc Cert.Ff2BwdIdeal.nD Cert.Ff2BwdIdeal.τ Cert.Ff2BwdIdeal.sig) → Buf (Elt Ideal) ℓ) : Prop :=
  True

def Pre_Ff2BwdRefIdeal (m : (ℓ : Loc Cert.Ff2BwdRefIdeal.nD Cert.Ff2BwdRefIdeal.τ Cert.Ff2BwdRefIdeal.sig) → Buf (Elt Ideal) ℓ) : Prop :=
  True

def Pre_Ff2Wgrad (m : (ℓ : Loc Cert.Ff2Wgrad.nD Cert.Ff2Wgrad.τ Cert.Ff2Wgrad.sig) → Buf (Elt Bits) ℓ) : Prop :=
  True

def Pre_Ff2WgradIdeal (m : (ℓ : Loc Cert.Ff2WgradIdeal.nD Cert.Ff2WgradIdeal.τ Cert.Ff2WgradIdeal.sig) → Buf (Elt Ideal) ℓ) : Prop :=
  True

def Pre_Ff2WgradRefIdeal (m : (ℓ : Loc Cert.Ff2WgradRefIdeal.nD Cert.Ff2WgradRefIdeal.τ Cert.Ff2WgradRefIdeal.sig) → Buf (Elt Ideal) ℓ) : Prop :=
  True

def Pre_Ff1Wgrad (m : (ℓ : Loc Cert.Ff1Wgrad.nD Cert.Ff1Wgrad.τ Cert.Ff1Wgrad.sig) → Buf (Elt Bits) ℓ) : Prop :=
  True

def Pre_Ff1WgradIdeal (m : (ℓ : Loc Cert.Ff1WgradIdeal.nD Cert.Ff1WgradIdeal.τ Cert.Ff1WgradIdeal.sig) → Buf (Elt Ideal) ℓ) : Prop :=
  True

def Pre_Ff1WgradRefIdeal (m : (ℓ : Loc Cert.Ff1WgradRefIdeal.nD Cert.Ff1WgradRefIdeal.τ Cert.Ff1WgradRefIdeal.sig) → Buf (Elt Ideal) ℓ) : Prop :=
  True

def Pre_Ff1Bwd (m : (ℓ : Loc Cert.Ff1Bwd.nD Cert.Ff1Bwd.τ Cert.Ff1Bwd.sig) → Buf (Elt Bits) ℓ) : Prop :=
  True

def Pre_Ff1BwdIdeal (m : (ℓ : Loc Cert.Ff1BwdIdeal.nD Cert.Ff1BwdIdeal.τ Cert.Ff1BwdIdeal.sig) → Buf (Elt Ideal) ℓ) : Prop :=
  True

def Pre_Ff1BwdRefIdeal (m : (ℓ : Loc Cert.Ff1BwdRefIdeal.nD Cert.Ff1BwdRefIdeal.τ Cert.Ff1BwdRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_MixWgrad (m : (ℓ : Loc Cert.MixWgrad.nD Cert.MixWgrad.τ Cert.MixWgrad.sig) → Buf (Elt Bits) ℓ) : Prop :=
  True

def Pre_MixWgradIdeal (m : (ℓ : Loc Cert.MixWgradIdeal.nD Cert.MixWgradIdeal.τ Cert.MixWgradIdeal.sig) → Buf (Elt Ideal) ℓ) : Prop :=
  True

def Pre_MixWgradRefIdeal (m : (ℓ : Loc Cert.MixWgradRefIdeal.nD Cert.MixWgradRefIdeal.τ Cert.MixWgradRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_AdaWgrad (m : (ℓ : Loc Cert.AdaWgrad.nD Cert.AdaWgrad.τ Cert.AdaWgrad.sig) → Buf (Elt Bits) ℓ) : Prop :=
  True

def Pre_AdaWgradIdeal (m : (ℓ : Loc Cert.AdaWgradIdeal.nD Cert.AdaWgradIdeal.τ Cert.AdaWgradIdeal.sig) → Buf (Elt Ideal) ℓ) : Prop :=
  True

def Pre_AdaWgradRefIdeal (m : (ℓ : Loc Cert.AdaWgradRefIdeal.nD Cert.AdaWgradRefIdeal.τ Cert.AdaWgradRefIdeal.sig) → Buf (Elt Ideal) ℓ) : Prop :=
  True

def Pre_AdamFf1 (m : (ℓ : Loc Cert.AdamFf1.nD Cert.AdamFf1.τ Cert.AdamFf1.sig) → Buf (Elt Bits) ℓ) : Prop :=
  True

def Pre_AdamFf1Ideal (m : (ℓ : Loc Cert.AdamFf1Ideal.nD Cert.AdamFf1Ideal.τ Cert.AdamFf1Ideal.sig) → Buf (Elt Ideal) ℓ) : Prop :=
  True

def Pre_AdamFf1RefIdeal (m : (ℓ : Loc Cert.AdamFf1RefIdeal.nD Cert.AdamFf1RefIdeal.τ Cert.AdamFf1RefIdeal.sig) → Buf (Elt Ideal) ℓ) : Prop :=
  True

def Pre_AdamFf2 (m : (ℓ : Loc Cert.AdamFf2.nD Cert.AdamFf2.τ Cert.AdamFf2.sig) → Buf (Elt Bits) ℓ) : Prop :=
  True

def Pre_AdamFf2Ideal (m : (ℓ : Loc Cert.AdamFf2Ideal.nD Cert.AdamFf2Ideal.τ Cert.AdamFf2Ideal.sig) → Buf (Elt Ideal) ℓ) : Prop :=
  True

def Pre_AdamFf2RefIdeal (m : (ℓ : Loc Cert.AdamFf2RefIdeal.nD Cert.AdamFf2RefIdeal.τ Cert.AdamFf2RefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ff2Bwd [hFf2Bwd : Cert.Ff2Bwd.Facts] : Prop :=
  ∀ (m : (ℓ : Loc Cert.Ff2Bwd.nD Cert.Ff2Bwd.τ Cert.Ff2Bwd.sig) → Buf (Elt Bits) ℓ) (g : Dev Cert.Ff2Bwd.nD → PrngReg), Pre_Ff2Bwd m →
    θ_run (Cert.Ff2Bwd.defs (F := Bits)) (onTc (τ := Cert.Ff2Bwd.τ) (Cert.Ff2Bwd.main (F := Bits))) ⟨m, fun _ => 0, g⟩ (fun r => (∀ c : Dev Cert.Ff2Bwd.nD,
      r.2.mem ((c.tc : Thread Cert.Ff2Bwd.nD Cert.Ff2Bwd.τ).loc Cert.Ff2Bwd.main_arg0) = m ((c.tc : Thread Cert.Ff2Bwd.nD Cert.Ff2Bwd.τ).loc Cert.Ff2Bwd.main_arg0)
      ∧ r.2.mem ((c.tc : Thread Cert.Ff2Bwd.nD Cert.Ff2Bwd.τ).loc Cert.Ff2Bwd.main_arg1) = m ((c.tc : Thread Cert.Ff2Bwd.nD Cert.Ff2Bwd.τ).loc Cert.Ff2Bwd.main_arg1)
      ∧ r.2.mem ((c.tc : Thread Cert.Ff2Bwd.nD Cert.Ff2Bwd.τ).loc Cert.Ff2Bwd.main_arg2) = m ((c.tc : Thread Cert.Ff2Bwd.nD Cert.Ff2Bwd.τ).loc Cert.Ff2Bwd.main_arg2))
      ∧ r.2.sem = fun _ => 0)

def quiescent_Ff2BwdIdeal [hFf2BwdIdeal : Cert.Ff2BwdIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg), Pre_Ff2BwdIdeal m →
    θ_run (Cert.Ff2BwdIdeal.defs (F := Ideal)) (onTc (τ := Cert.Ff2BwdIdeal.τ) (Cert.Ff2BwdIdeal.main (F := Ideal))) ⟨m, fun _ => 0, g⟩ (fun r => (∀ c : Dev Cert.Ff2BwdIdeal.nD,
      r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
      ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
      ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ r.2.sem = fun _ => 0)

def quiescent_Ff2BwdRefIdeal [hFf2BwdRefIdeal : Cert.Ff2BwdRefIdeal.Facts] : Prop :=
  ∀ (m : (ℓ : Loc Cert.Ff2BwdRefIdeal.nD Cert.Ff2BwdRefIdeal.τ Cert.Ff2BwdRefIdeal.sig) → Buf (Elt Ideal) ℓ) (g : Dev Cert.Ff2BwdRefIdeal.nD → PrngReg), Pre_Ff2BwdRefIdeal m →
    θ_run (Cert.Ff2BwdRefIdeal.defs (F := Ideal)) (onTc (τ := Cert.Ff2BwdRefIdeal.τ) (Cert.Ff2BwdRefIdeal.main (F := Ideal))) ⟨m, fun _ => 0, g⟩ (fun r => (∀ c : Dev Cert.Ff2BwdRefIdeal.nD,
      r.2.mem ((c.tc : Thread Cert.Ff2BwdRefIdeal.nD Cert.Ff2BwdRefIdeal.τ).loc Cert.Ff2BwdRefIdeal.main_arg0) = m ((c.tc : Thread Cert.Ff2BwdRefIdeal.nD Cert.Ff2BwdRefIdeal.τ).loc Cert.Ff2BwdRefIdeal.main_arg0)
      ∧ r.2.mem ((c.tc : Thread Cert.Ff2BwdRefIdeal.nD Cert.Ff2BwdRefIdeal.τ).loc Cert.Ff2BwdRefIdeal.main_arg1) = m ((c.tc : Thread Cert.Ff2BwdRefIdeal.nD Cert.Ff2BwdRefIdeal.τ).loc Cert.Ff2BwdRefIdeal.main_arg1)
      ∧ r.2.mem ((c.tc : Thread Cert.Ff2BwdRefIdeal.nD Cert.Ff2BwdRefIdeal.τ).loc Cert.Ff2BwdRefIdeal.main_arg2) = m ((c.tc : Thread Cert.Ff2BwdRefIdeal.nD Cert.Ff2BwdRefIdeal.τ).loc Cert.Ff2BwdRefIdeal.main_arg2))
      ∧ r.2.sem = fun _ => 0)

def quiescent_Ff2Wgrad [hFf2Wgrad : Cert.Ff2Wgrad.Facts] : Prop :=
  ∀ (m : (ℓ : Loc Cert.Ff2Wgrad.nD Cert.Ff2Wgrad.τ Cert.Ff2Wgrad.sig) → Buf (Elt Bits) ℓ) (g : Dev Cert.Ff2Wgrad.nD → PrngReg), Pre_Ff2Wgrad m →
    θ_run (Cert.Ff2Wgrad.defs (F := Bits)) (onTc (τ := Cert.Ff2Wgrad.τ) (Cert.Ff2Wgrad.main (F := Bits))) ⟨m, fun _ => 0, g⟩ (fun r => (∀ c : Dev Cert.Ff2Wgrad.nD,
      r.2.mem ((c.tc : Thread Cert.Ff2Wgrad.nD Cert.Ff2Wgrad.τ).loc Cert.Ff2Wgrad.main_arg0) = m ((c.tc : Thread Cert.Ff2Wgrad.nD Cert.Ff2Wgrad.τ).loc Cert.Ff2Wgrad.main_arg0)
      ∧ r.2.mem ((c.tc : Thread Cert.Ff2Wgrad.nD Cert.Ff2Wgrad.τ).loc Cert.Ff2Wgrad.main_arg1) = m ((c.tc : Thread Cert.Ff2Wgrad.nD Cert.Ff2Wgrad.τ).loc Cert.Ff2Wgrad.main_arg1)
      ∧ r.2.mem ((c.tc : Thread Cert.Ff2Wgrad.nD Cert.Ff2Wgrad.τ).loc Cert.Ff2Wgrad.main_arg2) = m ((c.tc : Thread Cert.Ff2Wgrad.nD Cert.Ff2Wgrad.τ).loc Cert.Ff2Wgrad.main_arg2))
      ∧ r.2.sem = fun _ => 0)

def quiescent_Ff2WgradIdeal [hFf2WgradIdeal : Cert.Ff2WgradIdeal.Facts] : Prop :=
  ∀ (m : (ℓ : Loc Cert.Ff2WgradIdeal.nD Cert.Ff2WgradIdeal.τ Cert.Ff2WgradIdeal.sig) → Buf (Elt Ideal) ℓ) (g : Dev Cert.Ff2WgradIdeal.nD → PrngReg), Pre_Ff2WgradIdeal m →
    θ_run (Cert.Ff2WgradIdeal.defs (F := Ideal)) (onTc (τ := Cert.Ff2WgradIdeal.τ) (Cert.Ff2WgradIdeal.main (F := Ideal))) ⟨m, fun _ => 0, g⟩ (fun r => (∀ c : Dev Cert.Ff2WgradIdeal.nD,
      r.2.mem ((c.tc : Thread Cert.Ff2WgradIdeal.nD Cert.Ff2WgradIdeal.τ).loc Cert.Ff2WgradIdeal.main_arg0) = m ((c.tc : Thread Cert.Ff2WgradIdeal.nD Cert.Ff2WgradIdeal.τ).loc Cert.Ff2WgradIdeal.main_arg0)
      ∧ r.2.mem ((c.tc : Thread Cert.Ff2WgradIdeal.nD Cert.Ff2WgradIdeal.τ).loc Cert.Ff2WgradIdeal.main_arg1) = m ((c.tc : Thread Cert.Ff2WgradIdeal.nD Cert.Ff2WgradIdeal.τ).loc Cert.Ff2WgradIdeal.main_arg1)
      ∧ r.2.mem ((c.tc : Thread Cert.Ff2WgradIdeal.nD Cert.Ff2WgradIdeal.τ).loc Cert.Ff2WgradIdeal.main_arg2) = m ((c.tc : Thread Cert.Ff2WgradIdeal.nD Cert.Ff2WgradIdeal.τ).loc Cert.Ff2WgradIdeal.main_arg2))
      ∧ r.2.sem = fun _ => 0)

def quiescent_Ff2WgradRefIdeal [hFf2WgradRefIdeal : Cert.Ff2WgradRefIdeal.Facts] : Prop :=
  ∀ (m : (ℓ : Loc Cert.Ff2WgradRefIdeal.nD Cert.Ff2WgradRefIdeal.τ Cert.Ff2WgradRefIdeal.sig) → Buf (Elt Ideal) ℓ) (g : Dev Cert.Ff2WgradRefIdeal.nD → PrngReg), Pre_Ff2WgradRefIdeal m →
    θ_run (Cert.Ff2WgradRefIdeal.defs (F := Ideal)) (onTc (τ := Cert.Ff2WgradRefIdeal.τ) (Cert.Ff2WgradRefIdeal.main (F := Ideal))) ⟨m, fun _ => 0, g⟩ (fun r => (∀ c : Dev Cert.Ff2WgradRefIdeal.nD,
      r.2.mem ((c.tc : Thread Cert.Ff2WgradRefIdeal.nD Cert.Ff2WgradRefIdeal.τ).loc Cert.Ff2WgradRefIdeal.main_arg0) = m ((c.tc : Thread Cert.Ff2WgradRefIdeal.nD Cert.Ff2WgradRefIdeal.τ).loc Cert.Ff2WgradRefIdeal.main_arg0)
      ∧ r.2.mem ((c.tc : Thread Cert.Ff2WgradRefIdeal.nD Cert.Ff2WgradRefIdeal.τ).loc Cert.Ff2WgradRefIdeal.main_arg1) = m ((c.tc : Thread Cert.Ff2WgradRefIdeal.nD Cert.Ff2WgradRefIdeal.τ).loc Cert.Ff2WgradRefIdeal.main_arg1)
      ∧ r.2.mem ((c.tc : Thread Cert.Ff2WgradRefIdeal.nD Cert.Ff2WgradRefIdeal.τ).loc Cert.Ff2WgradRefIdeal.main_arg2) = m ((c.tc : Thread Cert.Ff2WgradRefIdeal.nD Cert.Ff2WgradRefIdeal.τ).loc Cert.Ff2WgradRefIdeal.main_arg2))
      ∧ r.2.sem = fun _ => 0)

def quiescent_Ff1Wgrad [hFf1Wgrad : Cert.Ff1Wgrad.Facts] : Prop :=
  ∀ (m : (ℓ : Loc Cert.Ff1Wgrad.nD Cert.Ff1Wgrad.τ Cert.Ff1Wgrad.sig) → Buf (Elt Bits) ℓ) (g : Dev Cert.Ff1Wgrad.nD → PrngReg), Pre_Ff1Wgrad m →
    θ_run (Cert.Ff1Wgrad.defs (F := Bits)) (onTc (τ := Cert.Ff1Wgrad.τ) (Cert.Ff1Wgrad.main (F := Bits))) ⟨m, fun _ => 0, g⟩ (fun r => (∀ c : Dev Cert.Ff1Wgrad.nD,
      r.2.mem ((c.tc : Thread Cert.Ff1Wgrad.nD Cert.Ff1Wgrad.τ).loc Cert.Ff1Wgrad.main_arg0) = m ((c.tc : Thread Cert.Ff1Wgrad.nD Cert.Ff1Wgrad.τ).loc Cert.Ff1Wgrad.main_arg0)
      ∧ r.2.mem ((c.tc : Thread Cert.Ff1Wgrad.nD Cert.Ff1Wgrad.τ).loc Cert.Ff1Wgrad.main_arg1) = m ((c.tc : Thread Cert.Ff1Wgrad.nD Cert.Ff1Wgrad.τ).loc Cert.Ff1Wgrad.main_arg1)
      ∧ r.2.mem ((c.tc : Thread Cert.Ff1Wgrad.nD Cert.Ff1Wgrad.τ).loc Cert.Ff1Wgrad.main_arg2) = m ((c.tc : Thread Cert.Ff1Wgrad.nD Cert.Ff1Wgrad.τ).loc Cert.Ff1Wgrad.main_arg2))
      ∧ r.2.sem = fun _ => 0)

def quiescent_Ff1WgradIdeal [hFf1WgradIdeal : Cert.Ff1WgradIdeal.Facts] : Prop :=
  ∀ (m : (ℓ : Loc Cert.Ff1WgradIdeal.nD Cert.Ff1WgradIdeal.τ Cert.Ff1WgradIdeal.sig) → Buf (Elt Ideal) ℓ) (g : Dev Cert.Ff1WgradIdeal.nD → PrngReg), Pre_Ff1WgradIdeal m →
    θ_run (Cert.Ff1WgradIdeal.defs (F := Ideal)) (onTc (τ := Cert.Ff1WgradIdeal.τ) (Cert.Ff1WgradIdeal.main (F := Ideal))) ⟨m, fun _ => 0, g⟩ (fun r => (∀ c : Dev Cert.Ff1WgradIdeal.nD,
      r.2.mem ((c.tc : Thread Cert.Ff1WgradIdeal.nD Cert.Ff1WgradIdeal.τ).loc Cert.Ff1WgradIdeal.main_arg0) = m ((c.tc : Thread Cert.Ff1WgradIdeal.nD Cert.Ff1WgradIdeal.τ).loc Cert.Ff1WgradIdeal.main_arg0)
      ∧ r.2.mem ((c.tc : Thread Cert.Ff1WgradIdeal.nD Cert.Ff1WgradIdeal.τ).loc Cert.Ff1WgradIdeal.main_arg1) = m ((c.tc : Thread Cert.Ff1WgradIdeal.nD Cert.Ff1WgradIdeal.τ).loc Cert.Ff1WgradIdeal.main_arg1)
      ∧ r.2.mem ((c.tc : Thread Cert.Ff1WgradIdeal.nD Cert.Ff1WgradIdeal.τ).loc Cert.Ff1WgradIdeal.main_arg2) = m ((c.tc : Thread Cert.Ff1WgradIdeal.nD Cert.Ff1WgradIdeal.τ).loc Cert.Ff1WgradIdeal.main_arg2))
      ∧ r.2.sem = fun _ => 0)

def quiescent_Ff1WgradRefIdeal [hFf1WgradRefIdeal : Cert.Ff1WgradRefIdeal.Facts] : Prop :=
  ∀ (m : (ℓ : Loc Cert.Ff1WgradRefIdeal.nD Cert.Ff1WgradRefIdeal.τ Cert.Ff1WgradRefIdeal.sig) → Buf (Elt Ideal) ℓ) (g : Dev Cert.Ff1WgradRefIdeal.nD → PrngReg), Pre_Ff1WgradRefIdeal m →
    θ_run (Cert.Ff1WgradRefIdeal.defs (F := Ideal)) (onTc (τ := Cert.Ff1WgradRefIdeal.τ) (Cert.Ff1WgradRefIdeal.main (F := Ideal))) ⟨m, fun _ => 0, g⟩ (fun r => (∀ c : Dev Cert.Ff1WgradRefIdeal.nD,
      r.2.mem ((c.tc : Thread Cert.Ff1WgradRefIdeal.nD Cert.Ff1WgradRefIdeal.τ).loc Cert.Ff1WgradRefIdeal.main_arg0) = m ((c.tc : Thread Cert.Ff1WgradRefIdeal.nD Cert.Ff1WgradRefIdeal.τ).loc Cert.Ff1WgradRefIdeal.main_arg0)
      ∧ r.2.mem ((c.tc : Thread Cert.Ff1WgradRefIdeal.nD Cert.Ff1WgradRefIdeal.τ).loc Cert.Ff1WgradRefIdeal.main_arg1) = m ((c.tc : Thread Cert.Ff1WgradRefIdeal.nD Cert.Ff1WgradRefIdeal.τ).loc Cert.Ff1WgradRefIdeal.main_arg1)
      ∧ r.2.mem ((c.tc : Thread Cert.Ff1WgradRefIdeal.nD Cert.Ff1WgradRefIdeal.τ).loc Cert.Ff1WgradRefIdeal.main_arg2) = m ((c.tc : Thread Cert.Ff1WgradRefIdeal.nD Cert.Ff1WgradRefIdeal.τ).loc Cert.Ff1WgradRefIdeal.main_arg2))
      ∧ r.2.sem = fun _ => 0)

def quiescent_Ff1Bwd [hFf1Bwd : Cert.Ff1Bwd.Facts] : Prop :=
  ∀ (m : (ℓ : Loc Cert.Ff1Bwd.nD Cert.Ff1Bwd.τ Cert.Ff1Bwd.sig) → Buf (Elt Bits) ℓ) (g : Dev Cert.Ff1Bwd.nD → PrngReg), Pre_Ff1Bwd m →
    θ_run (Cert.Ff1Bwd.defs (F := Bits)) (onTc (τ := Cert.Ff1Bwd.τ) (Cert.Ff1Bwd.main (F := Bits))) ⟨m, fun _ => 0, g⟩ (fun r => (∀ c : Dev Cert.Ff1Bwd.nD,
      r.2.mem ((c.tc : Thread Cert.Ff1Bwd.nD Cert.Ff1Bwd.τ).loc Cert.Ff1Bwd.main_arg0) = m ((c.tc : Thread Cert.Ff1Bwd.nD Cert.Ff1Bwd.τ).loc Cert.Ff1Bwd.main_arg0)
      ∧ r.2.mem ((c.tc : Thread Cert.Ff1Bwd.nD Cert.Ff1Bwd.τ).loc Cert.Ff1Bwd.main_arg1) = m ((c.tc : Thread Cert.Ff1Bwd.nD Cert.Ff1Bwd.τ).loc Cert.Ff1Bwd.main_arg1)
      ∧ r.2.mem ((c.tc : Thread Cert.Ff1Bwd.nD Cert.Ff1Bwd.τ).loc Cert.Ff1Bwd.main_arg2) = m ((c.tc : Thread Cert.Ff1Bwd.nD Cert.Ff1Bwd.τ).loc Cert.Ff1Bwd.main_arg2))
      ∧ r.2.sem = fun _ => 0)

def quiescent_Ff1BwdIdeal [hFf1BwdIdeal : Cert.Ff1BwdIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg), Pre_Ff1BwdIdeal m →
    θ_run (Cert.Ff1BwdIdeal.defs (F := Ideal)) (onTc (τ := Cert.Ff1BwdIdeal.τ) (Cert.Ff1BwdIdeal.main (F := Ideal))) ⟨m, fun _ => 0, g⟩ (fun r => (∀ c : Dev Cert.Ff1BwdIdeal.nD,
      r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
      ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
      ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2))
      ∧ r.2.sem = fun _ => 0)

def quiescent_Ff1BwdRefIdeal [hFf1BwdRefIdeal : Cert.Ff1BwdRefIdeal.Facts] : Prop :=
  ∀ (m : (ℓ : Loc Cert.Ff1BwdRefIdeal.nD Cert.Ff1BwdRefIdeal.τ Cert.Ff1BwdRefIdeal.sig) → Buf (Elt Ideal) ℓ) (g : Dev Cert.Ff1BwdRefIdeal.nD → PrngReg), Pre_Ff1BwdRefIdeal m →
    θ_run (Cert.Ff1BwdRefIdeal.defs (F := Ideal)) (onTc (τ := Cert.Ff1BwdRefIdeal.τ) (Cert.Ff1BwdRefIdeal.main (F := Ideal))) ⟨m, fun _ => 0, g⟩ (fun r => (∀ c : Dev Cert.Ff1BwdRefIdeal.nD,
      r.2.mem ((c.tc : Thread Cert.Ff1BwdRefIdeal.nD Cert.Ff1BwdRefIdeal.τ).loc Cert.Ff1BwdRefIdeal.main_arg0) = m ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m ((c.tc : Thread Cert.Ff1BwdRefIdeal.nD Cert.Ff1BwdRefIdeal.τ).loc Cert.Ff1BwdRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2))
      ∧ r.2.sem = fun _ => 0)

def quiescent_MixWgrad [hMixWgrad : Cert.MixWgrad.Facts] : Prop :=
  ∀ (m : (ℓ : Loc Cert.MixWgrad.nD Cert.MixWgrad.τ Cert.MixWgrad.sig) → Buf (Elt Bits) ℓ) (g : Dev Cert.MixWgrad.nD → PrngReg), Pre_MixWgrad m →
    θ_run (Cert.MixWgrad.defs (F := Bits)) (onTc (τ := Cert.MixWgrad.τ) (Cert.MixWgrad.main (F := Bits))) ⟨m, fun _ => 0, g⟩ (fun r => (∀ c : Dev Cert.MixWgrad.nD,
      r.2.mem ((c.tc : Thread Cert.MixWgrad.nD Cert.MixWgrad.τ).loc Cert.MixWgrad.main_arg0) = m ((c.tc : Thread Cert.MixWgrad.nD Cert.MixWgrad.τ).loc Cert.MixWgrad.main_arg0)
      ∧ r.2.mem ((c.tc : Thread Cert.MixWgrad.nD Cert.MixWgrad.τ).loc Cert.MixWgrad.main_arg1) = m ((c.tc : Thread Cert.MixWgrad.nD Cert.MixWgrad.τ).loc Cert.MixWgrad.main_arg1)
      ∧ r.2.mem ((c.tc : Thread Cert.MixWgrad.nD Cert.MixWgrad.τ).loc Cert.MixWgrad.main_arg2) = m ((c.tc : Thread Cert.MixWgrad.nD Cert.MixWgrad.τ).loc Cert.MixWgrad.main_arg2))
      ∧ r.2.sem = fun _ => 0)

def quiescent_MixWgradIdeal [hMixWgradIdeal : Cert.MixWgradIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg), Pre_MixWgradIdeal m →
    θ_run (Cert.MixWgradIdeal.defs (F := Ideal)) (onTc (τ := Cert.MixWgradIdeal.τ) (Cert.MixWgradIdeal.main (F := Ideal))) ⟨m, fun _ => 0, g⟩ (fun r => (∀ c : Dev Cert.MixWgradIdeal.nD,
      r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
      ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1)
      ∧ r.2.mem ((c.tc : Thread Cert.MixWgradIdeal.nD Cert.MixWgradIdeal.τ).loc Cert.MixWgradIdeal.main_arg2) = m ((c.tc : Thread Cert.MixWgradIdeal.nD Cert.MixWgradIdeal.τ).loc Cert.MixWgradIdeal.main_arg2))
      ∧ r.2.sem = fun _ => 0)

def quiescent_MixWgradRefIdeal [hMixWgradRefIdeal : Cert.MixWgradRefIdeal.Facts] : Prop :=
  ∀ (m : (ℓ : Loc Cert.MixWgradRefIdeal.nD Cert.MixWgradRefIdeal.τ Cert.MixWgradRefIdeal.sig) → Buf (Elt Ideal) ℓ) (g : Dev Cert.MixWgradRefIdeal.nD → PrngReg), Pre_MixWgradRefIdeal m →
    θ_run (Cert.MixWgradRefIdeal.defs (F := Ideal)) (onTc (τ := Cert.MixWgradRefIdeal.τ) (Cert.MixWgradRefIdeal.main (F := Ideal))) ⟨m, fun _ => 0, g⟩ (fun r => (∀ c : Dev Cert.MixWgradRefIdeal.nD,
      r.2.mem ((c.tc : Thread Cert.MixWgradRefIdeal.nD Cert.MixWgradRefIdeal.τ).loc Cert.MixWgradRefIdeal.main_arg0) = m ((c.tc : Thread Cert.MixWgradRefIdeal.nD Cert.MixWgradRefIdeal.τ).loc Cert.MixWgradRefIdeal.main_arg0)
      ∧ r.2.mem ((c.tc : Thread Cert.MixWgradRefIdeal.nD Cert.MixWgradRefIdeal.τ).loc Cert.MixWgradRefIdeal.main_arg1) = m ((c.tc : Thread Cert.MixWgradRefIdeal.nD Cert.MixWgradRefIdeal.τ).loc Cert.MixWgradRefIdeal.main_arg1)
      ∧ r.2.mem ((c.tc : Thread Cert.MixWgradRefIdeal.nD Cert.MixWgradRefIdeal.τ).loc Cert.MixWgradRefIdeal.main_arg2) = m ((c.tc : Thread Cert.MixWgradRefIdeal.nD Cert.MixWgradRefIdeal.τ).loc Cert.MixWgradRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1)
      ∧ r.2.mem ((c.tc : Thread Cert.InWgrad.nD Cert.InWgrad.τ).loc Cert.InWgrad.main_arg2) = m ((c.tc : Thread Cert.InWgrad.nD Cert.InWgrad.τ).loc Cert.InWgrad.main_arg2))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
      ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1)
      ∧ r.2.mem ((c.tc : Thread Cert.InWgradRefIdeal.nD Cert.InWgradRefIdeal.τ).loc Cert.InWgradRefIdeal.main_arg2) = m ((c.tc : Thread Cert.InWgradRefIdeal.nD Cert.InWgradRefIdeal.τ).loc Cert.InWgradRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2))
      ∧ r.2.sem = fun _ => 0)

def quiescent_AdaWgrad [hAdaWgrad : Cert.AdaWgrad.Facts] : Prop :=
  ∀ (m : (ℓ : Loc Cert.AdaWgrad.nD Cert.AdaWgrad.τ Cert.AdaWgrad.sig) → Buf (Elt Bits) ℓ) (g : Dev Cert.AdaWgrad.nD → PrngReg), Pre_AdaWgrad m →
    θ_run (Cert.AdaWgrad.defs (F := Bits)) (onTc (τ := Cert.AdaWgrad.τ) (Cert.AdaWgrad.main (F := Bits))) ⟨m, fun _ => 0, g⟩ (fun r => (∀ c : Dev Cert.AdaWgrad.nD,
      r.2.mem ((c.tc : Thread Cert.AdaWgrad.nD Cert.AdaWgrad.τ).loc Cert.AdaWgrad.main_arg0) = m ((c.tc : Thread Cert.AdaWgrad.nD Cert.AdaWgrad.τ).loc Cert.AdaWgrad.main_arg0)
      ∧ r.2.mem ((c.tc : Thread Cert.AdaWgrad.nD Cert.AdaWgrad.τ).loc Cert.AdaWgrad.main_arg1) = m ((c.tc : Thread Cert.AdaWgrad.nD Cert.AdaWgrad.τ).loc Cert.AdaWgrad.main_arg1)
      ∧ r.2.mem ((c.tc : Thread Cert.AdaWgrad.nD Cert.AdaWgrad.τ).loc Cert.AdaWgrad.main_arg2) = m ((c.tc : Thread Cert.AdaWgrad.nD Cert.AdaWgrad.τ).loc Cert.AdaWgrad.main_arg2))
      ∧ r.2.sem = fun _ => 0)

def quiescent_AdaWgradIdeal [hAdaWgradIdeal : Cert.AdaWgradIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg), Pre_AdaWgradIdeal m →
    θ_run (Cert.AdaWgradIdeal.defs (F := Ideal)) (onTc (τ := Cert.AdaWgradIdeal.τ) (Cert.AdaWgradIdeal.main (F := Ideal))) ⟨m, fun _ => 0, g⟩ (fun r => (∀ c : Dev Cert.AdaWgradIdeal.nD,
      r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
      ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1)
      ∧ r.2.mem ((c.tc : Thread Cert.AdaWgradIdeal.nD Cert.AdaWgradIdeal.τ).loc Cert.AdaWgradIdeal.main_arg2) = m ((c.tc : Thread Cert.AdaWgradIdeal.nD Cert.AdaWgradIdeal.τ).loc Cert.AdaWgradIdeal.main_arg2))
      ∧ r.2.sem = fun _ => 0)

def quiescent_AdaWgradRefIdeal [hAdaWgradRefIdeal : Cert.AdaWgradRefIdeal.Facts] : Prop :=
  ∀ (m : (ℓ : Loc Cert.AdaWgradRefIdeal.nD Cert.AdaWgradRefIdeal.τ Cert.AdaWgradRefIdeal.sig) → Buf (Elt Ideal) ℓ) (g : Dev Cert.AdaWgradRefIdeal.nD → PrngReg), Pre_AdaWgradRefIdeal m →
    θ_run (Cert.AdaWgradRefIdeal.defs (F := Ideal)) (onTc (τ := Cert.AdaWgradRefIdeal.τ) (Cert.AdaWgradRefIdeal.main (F := Ideal))) ⟨m, fun _ => 0, g⟩ (fun r => (∀ c : Dev Cert.AdaWgradRefIdeal.nD,
      r.2.mem ((c.tc : Thread Cert.AdaWgradRefIdeal.nD Cert.AdaWgradRefIdeal.τ).loc Cert.AdaWgradRefIdeal.main_arg0) = m ((c.tc : Thread Cert.AdaWgradRefIdeal.nD Cert.AdaWgradRefIdeal.τ).loc Cert.AdaWgradRefIdeal.main_arg0)
      ∧ r.2.mem ((c.tc : Thread Cert.AdaWgradRefIdeal.nD Cert.AdaWgradRefIdeal.τ).loc Cert.AdaWgradRefIdeal.main_arg1) = m ((c.tc : Thread Cert.AdaWgradRefIdeal.nD Cert.AdaWgradRefIdeal.τ).loc Cert.AdaWgradRefIdeal.main_arg1)
      ∧ r.2.mem ((c.tc : Thread Cert.AdaWgradRefIdeal.nD Cert.AdaWgradRefIdeal.τ).loc Cert.AdaWgradRefIdeal.main_arg2) = m ((c.tc : Thread Cert.AdaWgradRefIdeal.nD Cert.AdaWgradRefIdeal.τ).loc Cert.AdaWgradRefIdeal.main_arg2))
      ∧ r.2.sem = fun _ => 0)

def quiescent_AdamFf1 [hAdamFf1 : Cert.AdamFf1.Facts] : Prop :=
  ∀ (m : (ℓ : Loc Cert.AdamFf1.nD Cert.AdamFf1.τ Cert.AdamFf1.sig) → Buf (Elt Bits) ℓ) (g : Dev Cert.AdamFf1.nD → PrngReg), Pre_AdamFf1 m →
    θ_run (Cert.AdamFf1.defs (F := Bits)) (onTc (τ := Cert.AdamFf1.τ) (Cert.AdamFf1.main (F := Bits))) ⟨m, fun _ => 0, g⟩ (fun r => (∀ c : Dev Cert.AdamFf1.nD,
      r.2.mem ((c.tc : Thread Cert.AdamFf1.nD Cert.AdamFf1.τ).loc Cert.AdamFf1.main_arg0) = m ((c.tc : Thread Cert.AdamFf1.nD Cert.AdamFf1.τ).loc Cert.AdamFf1.main_arg0)
      ∧ r.2.mem ((c.tc : Thread Cert.AdamFf1.nD Cert.AdamFf1.τ).loc Cert.AdamFf1.main_arg1) = m ((c.tc : Thread Cert.AdamFf1.nD Cert.AdamFf1.τ).loc Cert.AdamFf1.main_arg1)
      ∧ r.2.mem ((c.tc : Thread Cert.AdamFf1.nD Cert.AdamFf1.τ).loc Cert.AdamFf1.main_arg2) = m ((c.tc : Thread Cert.AdamFf1.nD Cert.AdamFf1.τ).loc Cert.AdamFf1.main_arg2)
      ∧ r.2.mem ((c.tc : Thread Cert.AdamFf1.nD Cert.AdamFf1.τ).loc Cert.AdamFf1.main_arg3) = m ((c.tc : Thread Cert.AdamFf1.nD Cert.AdamFf1.τ).loc Cert.AdamFf1.main_arg3))
      ∧ r.2.sem = fun _ => 0)

def quiescent_AdamFf1Ideal [hAdamFf1Ideal : Cert.AdamFf1Ideal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg), Pre_AdamFf1Ideal m →
    θ_run (Cert.AdamFf1Ideal.defs (F := Ideal)) (onTc (τ := Cert.AdamFf1Ideal.τ) (Cert.AdamFf1Ideal.main (F := Ideal))) ⟨m, fun _ => 0, g⟩ (fun r => (∀ c : Dev Cert.AdamFf1Ideal.nD,
      r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
      ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
      ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
      ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3))
      ∧ r.2.sem = fun _ => 0)

def quiescent_AdamFf1RefIdeal [hAdamFf1RefIdeal : Cert.AdamFf1RefIdeal.Facts] : Prop :=
  ∀ (m : (ℓ : Loc Cert.AdamFf1RefIdeal.nD Cert.AdamFf1RefIdeal.τ Cert.AdamFf1RefIdeal.sig) → Buf (Elt Ideal) ℓ) (g : Dev Cert.AdamFf1RefIdeal.nD → PrngReg), Pre_AdamFf1RefIdeal m →
    θ_run (Cert.AdamFf1RefIdeal.defs (F := Ideal)) (onTc (τ := Cert.AdamFf1RefIdeal.τ) (Cert.AdamFf1RefIdeal.main (F := Ideal))) ⟨m, fun _ => 0, g⟩ (fun r => (∀ c : Dev Cert.AdamFf1RefIdeal.nD,
      r.2.mem ((c.tc : Thread Cert.AdamFf1RefIdeal.nD Cert.AdamFf1RefIdeal.τ).loc Cert.AdamFf1RefIdeal.main_arg0) = m ((c.tc : Thread Cert.AdamFf1RefIdeal.nD Cert.AdamFf1RefIdeal.τ).loc Cert.AdamFf1RefIdeal.main_arg0)
      ∧ r.2.mem ((c.tc : Thread Cert.AdamFf1RefIdeal.nD Cert.AdamFf1RefIdeal.τ).loc Cert.AdamFf1RefIdeal.main_arg1) = m ((c.tc : Thread Cert.AdamFf1RefIdeal.nD Cert.AdamFf1RefIdeal.τ).loc Cert.AdamFf1RefIdeal.main_arg1)
      ∧ r.2.mem ((c.tc : Thread Cert.AdamFf1RefIdeal.nD Cert.AdamFf1RefIdeal.τ).loc Cert.AdamFf1RefIdeal.main_arg2) = m ((c.tc : Thread Cert.AdamFf1RefIdeal.nD Cert.AdamFf1RefIdeal.τ).loc Cert.AdamFf1RefIdeal.main_arg2)
      ∧ r.2.mem ((c.tc : Thread Cert.AdamFf1RefIdeal.nD Cert.AdamFf1RefIdeal.τ).loc Cert.AdamFf1RefIdeal.main_arg3) = m ((c.tc : Thread Cert.AdamFf1RefIdeal.nD Cert.AdamFf1RefIdeal.τ).loc Cert.AdamFf1RefIdeal.main_arg3))
      ∧ r.2.sem = fun _ => 0)

def quiescent_AdamFf2 [hAdamFf2 : Cert.AdamFf2.Facts] : Prop :=
  ∀ (m : (ℓ : Loc Cert.AdamFf2.nD Cert.AdamFf2.τ Cert.AdamFf2.sig) → Buf (Elt Bits) ℓ) (g : Dev Cert.AdamFf2.nD → PrngReg), Pre_AdamFf2 m →
    θ_run (Cert.AdamFf2.defs (F := Bits)) (onTc (τ := Cert.AdamFf2.τ) (Cert.AdamFf2.main (F := Bits))) ⟨m, fun _ => 0, g⟩ (fun r => (∀ c : Dev Cert.AdamFf2.nD,
      r.2.mem ((c.tc : Thread Cert.AdamFf2.nD Cert.AdamFf2.τ).loc Cert.AdamFf2.main_arg0) = m ((c.tc : Thread Cert.AdamFf2.nD Cert.AdamFf2.τ).loc Cert.AdamFf2.main_arg0)
      ∧ r.2.mem ((c.tc : Thread Cert.AdamFf2.nD Cert.AdamFf2.τ).loc Cert.AdamFf2.main_arg1) = m ((c.tc : Thread Cert.AdamFf2.nD Cert.AdamFf2.τ).loc Cert.AdamFf2.main_arg1)
      ∧ r.2.mem ((c.tc : Thread Cert.AdamFf2.nD Cert.AdamFf2.τ).loc Cert.AdamFf2.main_arg2) = m ((c.tc : Thread Cert.AdamFf2.nD Cert.AdamFf2.τ).loc Cert.AdamFf2.main_arg2)
      ∧ r.2.mem ((c.tc : Thread Cert.AdamFf2.nD Cert.AdamFf2.τ).loc Cert.AdamFf2.main_arg3) = m ((c.tc : Thread Cert.AdamFf2.nD Cert.AdamFf2.τ).loc Cert.AdamFf2.main_arg3))
      ∧ r.2.sem = fun _ => 0)

def quiescent_AdamFf2Ideal [hAdamFf2Ideal : Cert.AdamFf2Ideal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg), Pre_AdamFf2Ideal m →
    θ_run (Cert.AdamFf2Ideal.defs (F := Ideal)) (onTc (τ := Cert.AdamFf2Ideal.τ) (Cert.AdamFf2Ideal.main (F := Ideal))) ⟨m, fun _ => 0, g⟩ (fun r => (∀ c : Dev Cert.AdamFf2Ideal.nD,
      r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
      ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
      ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
      ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ r.2.sem = fun _ => 0)

def quiescent_AdamFf2RefIdeal [hAdamFf2RefIdeal : Cert.AdamFf2RefIdeal.Facts] : Prop :=
  ∀ (m : (ℓ : Loc Cert.AdamFf2RefIdeal.nD Cert.AdamFf2RefIdeal.τ Cert.AdamFf2RefIdeal.sig) → Buf (Elt Ideal) ℓ) (g : Dev Cert.AdamFf2RefIdeal.nD → PrngReg), Pre_AdamFf2RefIdeal m →
    θ_run (Cert.AdamFf2RefIdeal.defs (F := Ideal)) (onTc (τ := Cert.AdamFf2RefIdeal.τ) (Cert.AdamFf2RefIdeal.main (F := Ideal))) ⟨m, fun _ => 0, g⟩ (fun r => (∀ c : Dev Cert.AdamFf2RefIdeal.nD,
      r.2.mem ((c.tc : Thread Cert.AdamFf2RefIdeal.nD Cert.AdamFf2RefIdeal.τ).loc Cert.AdamFf2RefIdeal.main_arg0) = m ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m ((c.tc : Thread Cert.AdamFf2RefIdeal.nD Cert.AdamFf2RefIdeal.τ).loc Cert.AdamFf2RefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v129_0)) (v1 : (c : Dev Cert.KernelIdeal.nD) → Buf (Elt Ideal) ((c.tc : Thread Cert.KernelIdeal.nD Cert.KernelIdeal.τ).loc Cert.KernelIdeal.main_v129_1)) (v2 : (c : Dev Cert.KernelIdeal.nD) → Buf (Elt Ideal) ((c.tc : Thread Cert.KernelIdeal.nD Cert.KernelIdeal.τ).loc Cert.KernelIdeal.main_v129_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129_0) = v0 c
          ∧ r.2.mem ((c.tc : Thread Cert.KernelIdeal.nD Cert.KernelIdeal.τ).loc Cert.KernelIdeal.main_v129_1) = v1 c
          ∧ r.2.mem ((c.tc : Thread Cert.KernelIdeal.nD Cert.KernelIdeal.τ).loc Cert.KernelIdeal.main_v129_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_v237) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ff2Bwd_Ff2BwdIdeal : Prop :=
  True

def algebraic_Ff2BwdIdeal_Ff2BwdRefIdeal [hFf2BwdIdeal : Cert.Ff2BwdIdeal.Facts] [hFf2BwdRefIdeal : Cert.Ff2BwdRefIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg)
    (m' : (ℓ : Loc Cert.Ff2BwdRefIdeal.nD Cert.Ff2BwdRefIdeal.τ Cert.Ff2BwdRefIdeal.sig) → Buf (Elt Ideal) ℓ) (g' : Dev Cert.Ff2BwdRefIdeal.nD → PrngReg), Pre_Ff2BwdIdeal m →
    (∀ c : Dev Cert.Ff2BwdIdeal.nD,
      m' ((c.tc : Thread Cert.Ff2BwdRefIdeal.nD Cert.Ff2BwdRefIdeal.τ).loc Cert.Ff2BwdRefIdeal.main_arg0) = m ((c.tc : Thread Cert.Ff2BwdIdeal.nD Cert.Ff2BwdIdeal.τ).loc Cert.Ff2BwdIdeal.main_arg0)
      ∧ m' ((c.tc : Thread Cert.Ff2BwdRefIdeal.nD Cert.Ff2BwdRefIdeal.τ).loc Cert.Ff2BwdRefIdeal.main_arg1) = m ((c.tc : Thread Cert.Ff2BwdIdeal.nD Cert.Ff2BwdIdeal.τ).loc Cert.Ff2BwdIdeal.main_arg1)
      ∧ m' ((c.tc : Thread Cert.Ff2BwdRefIdeal.nD Cert.Ff2BwdRefIdeal.τ).loc Cert.Ff2BwdRefIdeal.main_arg2) = m ((c.tc : Thread Cert.Ff2BwdIdeal.nD Cert.Ff2BwdIdeal.τ).loc Cert.Ff2BwdIdeal.main_arg2)) →
    ∃ (v0 : (c : Dev Cert.Ff2BwdIdeal.nD) → Buf (Elt Ideal) ((c.tc : Thread Cert.Ff2BwdIdeal.nD Cert.Ff2BwdIdeal.τ).loc Cert.Ff2BwdIdeal.main_v0)),
      θ_run (Cert.Ff2BwdIdeal.defs (F := Ideal)) (onTc (τ := Cert.Ff2BwdIdeal.τ) (Cert.Ff2BwdIdeal.main (F := Ideal))) ⟨m, fun _ => 0, g⟩ (fun r => ∀ c : Dev Cert.Ff2BwdIdeal.nD,
          r.2.mem ((c.tc : Thread Cert.Ff2BwdIdeal.nD Cert.Ff2BwdIdeal.τ).loc Cert.Ff2BwdIdeal.main_v0) = v0 c
          ∧ r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
          ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
          ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ θ_run (Cert.Ff2BwdRefIdeal.defs (F := Ideal)) (onTc (τ := Cert.Ff2BwdRefIdeal.τ) (Cert.Ff2BwdRefIdeal.main (F := Ideal))) ⟨m', fun _ => 0, g'⟩ (fun r => ∀ c : Dev Cert.Ff2BwdRefIdeal.nD,
          r.2.mem ((c.tc : Thread Cert.Ff2BwdRefIdeal.nD Cert.Ff2BwdRefIdeal.τ).loc Cert.Ff2BwdRefIdeal.main_v15) = v0 c
          ∧ r.2.mem ((c.tc : Thread Cert.Ff2BwdRefIdeal.nD Cert.Ff2BwdRefIdeal.τ).loc Cert.Ff2BwdRefIdeal.main_arg0) = m' ((c.tc : Thread Cert.Ff2BwdRefIdeal.nD Cert.Ff2BwdRefIdeal.τ).loc Cert.Ff2BwdRefIdeal.main_arg0)
          ∧ r.2.mem ((c.tc : Thread Cert.Ff2BwdRefIdeal.nD Cert.Ff2BwdRefIdeal.τ).loc Cert.Ff2BwdRefIdeal.main_arg1) = m' ((c.tc : Thread Cert.Ff2BwdRefIdeal.nD Cert.Ff2BwdRefIdeal.τ).loc Cert.Ff2BwdRefIdeal.main_arg1)
          ∧ r.2.mem ((c.tc : Thread Cert.Ff2BwdRefIdeal.nD Cert.Ff2BwdRefIdeal.τ).loc Cert.Ff2BwdRefIdeal.main_arg2) = m' ((c.tc : Thread Cert.Ff2BwdRefIdeal.nD Cert.Ff2BwdRefIdeal.τ).loc Cert.Ff2BwdRefIdeal.main_arg2))

def preserves_Ff2Wgrad_Ff2WgradIdeal : Prop :=
  True

def algebraic_Ff2WgradIdeal_Ff2WgradRefIdeal [hFf2WgradIdeal : Cert.Ff2WgradIdeal.Facts] [hFf2WgradRefIdeal : Cert.Ff2WgradRefIdeal.Facts] : Prop :=
  ∀ (m : (ℓ : Loc Cert.Ff2WgradIdeal.nD Cert.Ff2WgradIdeal.τ Cert.Ff2WgradIdeal.sig) → Buf (Elt Ideal) ℓ) (g : Dev Cert.Ff2WgradIdeal.nD → PrngReg)
    (m' : (ℓ : Loc Cert.Ff2WgradRefIdeal.nD Cert.Ff2WgradRefIdeal.τ Cert.Ff2WgradRefIdeal.sig) → Buf (Elt Ideal) ℓ) (g' : Dev Cert.Ff2WgradRefIdeal.nD → PrngReg), Pre_Ff2WgradIdeal m →
    (∀ c : Dev Cert.Ff2WgradIdeal.nD,
      m' ((c.tc : Thread Cert.Ff2WgradRefIdeal.nD Cert.Ff2WgradRefIdeal.τ).loc Cert.Ff2WgradRefIdeal.main_arg0) = m ((c.tc : Thread Cert.Ff2WgradIdeal.nD Cert.Ff2WgradIdeal.τ).loc Cert.Ff2WgradIdeal.main_arg0)
      ∧ m' ((c.tc : Thread Cert.Ff2WgradRefIdeal.nD Cert.Ff2WgradRefIdeal.τ).loc Cert.Ff2WgradRefIdeal.main_arg1) = m ((c.tc : Thread Cert.Ff2WgradIdeal.nD Cert.Ff2WgradIdeal.τ).loc Cert.Ff2WgradIdeal.main_arg1)
      ∧ m' ((c.tc : Thread Cert.Ff2WgradRefIdeal.nD Cert.Ff2WgradRefIdeal.τ).loc Cert.Ff2WgradRefIdeal.main_arg2) = m ((c.tc : Thread Cert.Ff2WgradIdeal.nD Cert.Ff2WgradIdeal.τ).loc Cert.Ff2WgradIdeal.main_arg2)) →
    ∃ (v0 : (c : Dev Cert.Ff2WgradIdeal.nD) → Buf (Elt Ideal) ((c.tc : Thread Cert.Ff2WgradIdeal.nD Cert.Ff2WgradIdeal.τ).loc Cert.Ff2WgradIdeal.main_v0)),
      θ_run (Cert.Ff2WgradIdeal.defs (F := Ideal)) (onTc (τ := Cert.Ff2WgradIdeal.τ) (Cert.Ff2WgradIdeal.main (F := Ideal))) ⟨m, fun _ => 0, g⟩ (fun r => ∀ c : Dev Cert.Ff2WgradIdeal.nD,
          r.2.mem ((c.tc : Thread Cert.Ff2WgradIdeal.nD Cert.Ff2WgradIdeal.τ).loc Cert.Ff2WgradIdeal.main_v0) = v0 c
          ∧ r.2.mem ((c.tc : Thread Cert.Ff2WgradIdeal.nD Cert.Ff2WgradIdeal.τ).loc Cert.Ff2WgradIdeal.main_arg0) = m ((c.tc : Thread Cert.Ff2WgradIdeal.nD Cert.Ff2WgradIdeal.τ).loc Cert.Ff2WgradIdeal.main_arg0)
          ∧ r.2.mem ((c.tc : Thread Cert.Ff2WgradIdeal.nD Cert.Ff2WgradIdeal.τ).loc Cert.Ff2WgradIdeal.main_arg1) = m ((c.tc : Thread Cert.Ff2WgradIdeal.nD Cert.Ff2WgradIdeal.τ).loc Cert.Ff2WgradIdeal.main_arg1)
          ∧ r.2.mem ((c.tc : Thread Cert.Ff2WgradIdeal.nD Cert.Ff2WgradIdeal.τ).loc Cert.Ff2WgradIdeal.main_arg2) = m ((c.tc : Thread Cert.Ff2WgradIdeal.nD Cert.Ff2WgradIdeal.τ).loc Cert.Ff2WgradIdeal.main_arg2))
      ∧ θ_run (Cert.Ff2WgradRefIdeal.defs (F := Ideal)) (onTc (τ := Cert.Ff2WgradRefIdeal.τ) (Cert.Ff2WgradRefIdeal.main (F := Ideal))) ⟨m', fun _ => 0, g'⟩ (fun r => ∀ c : Dev Cert.Ff2WgradRefIdeal.nD,
          r.2.mem ((c.tc : Thread Cert.Ff2WgradRefIdeal.nD Cert.Ff2WgradRefIdeal.τ).loc Cert.Ff2WgradRefIdeal.main_v8) = v0 c
          ∧ r.2.mem ((c.tc : Thread Cert.Ff2WgradRefIdeal.nD Cert.Ff2WgradRefIdeal.τ).loc Cert.Ff2WgradRefIdeal.main_arg0) = m' ((c.tc : Thread Cert.Ff2WgradRefIdeal.nD Cert.Ff2WgradRefIdeal.τ).loc Cert.Ff2WgradRefIdeal.main_arg0)
          ∧ r.2.mem ((c.tc : Thread Cert.Ff2WgradRefIdeal.nD Cert.Ff2WgradRefIdeal.τ).loc Cert.Ff2WgradRefIdeal.main_arg1) = m' ((c.tc : Thread Cert.Ff2WgradRefIdeal.nD Cert.Ff2WgradRefIdeal.τ).loc Cert.Ff2WgradRefIdeal.main_arg1)
          ∧ r.2.mem ((c.tc : Thread Cert.Ff2WgradRefIdeal.nD Cert.Ff2WgradRefIdeal.τ).loc Cert.Ff2WgradRefIdeal.main_arg2) = m' ((c.tc : Thread Cert.Ff2WgradRefIdeal.nD Cert.Ff2WgradRefIdeal.τ).loc Cert.Ff2WgradRefIdeal.main_arg2))

def preserves_Ff1Wgrad_Ff1WgradIdeal : Prop :=
  True

def algebraic_Ff1WgradIdeal_Ff1WgradRefIdeal [hFf1WgradIdeal : Cert.Ff1WgradIdeal.Facts] [hFf1WgradRefIdeal : Cert.Ff1WgradRefIdeal.Facts] : Prop :=
  ∀ (m : (ℓ : Loc Cert.Ff1WgradIdeal.nD Cert.Ff1WgradIdeal.τ Cert.Ff1WgradIdeal.sig) → Buf (Elt Ideal) ℓ) (g : Dev Cert.Ff1WgradIdeal.nD → PrngReg)
    (m' : (ℓ : Loc Cert.Ff1WgradRefIdeal.nD Cert.Ff1WgradRefIdeal.τ Cert.Ff1WgradRefIdeal.sig) → Buf (Elt Ideal) ℓ) (g' : Dev Cert.Ff1WgradRefIdeal.nD → PrngReg), Pre_Ff1WgradIdeal m →
    (∀ c : Dev Cert.Ff1WgradIdeal.nD,
      m' ((c.tc : Thread Cert.Ff1WgradRefIdeal.nD Cert.Ff1WgradRefIdeal.τ).loc Cert.Ff1WgradRefIdeal.main_arg0) = m ((c.tc : Thread Cert.Ff1WgradIdeal.nD Cert.Ff1WgradIdeal.τ).loc Cert.Ff1WgradIdeal.main_arg0)
      ∧ m' ((c.tc : Thread Cert.Ff1WgradRefIdeal.nD Cert.Ff1WgradRefIdeal.τ).loc Cert.Ff1WgradRefIdeal.main_arg1) = m ((c.tc : Thread Cert.Ff1WgradIdeal.nD Cert.Ff1WgradIdeal.τ).loc Cert.Ff1WgradIdeal.main_arg1)
      ∧ m' ((c.tc : Thread Cert.Ff1WgradRefIdeal.nD Cert.Ff1WgradRefIdeal.τ).loc Cert.Ff1WgradRefIdeal.main_arg2) = m ((c.tc : Thread Cert.Ff1WgradIdeal.nD Cert.Ff1WgradIdeal.τ).loc Cert.Ff1WgradIdeal.main_arg2)) →
    ∃ (v0 : (c : Dev Cert.Ff1WgradIdeal.nD) → Buf (Elt Ideal) ((c.tc : Thread Cert.Ff1WgradIdeal.nD Cert.Ff1WgradIdeal.τ).loc Cert.Ff1WgradIdeal.main_v0)),
      θ_run (Cert.Ff1WgradIdeal.defs (F := Ideal)) (onTc (τ := Cert.Ff1WgradIdeal.τ) (Cert.Ff1WgradIdeal.main (F := Ideal))) ⟨m, fun _ => 0, g⟩ (fun r => ∀ c : Dev Cert.Ff1WgradIdeal.nD,
          r.2.mem ((c.tc : Thread Cert.Ff1WgradIdeal.nD Cert.Ff1WgradIdeal.τ).loc Cert.Ff1WgradIdeal.main_v0) = v0 c
          ∧ r.2.mem ((c.tc : Thread Cert.Ff1WgradIdeal.nD Cert.Ff1WgradIdeal.τ).loc Cert.Ff1WgradIdeal.main_arg0) = m ((c.tc : Thread Cert.Ff1WgradIdeal.nD Cert.Ff1WgradIdeal.τ).loc Cert.Ff1WgradIdeal.main_arg0)
          ∧ r.2.mem ((c.tc : Thread Cert.Ff1WgradIdeal.nD Cert.Ff1WgradIdeal.τ).loc Cert.Ff1WgradIdeal.main_arg1) = m ((c.tc : Thread Cert.Ff1WgradIdeal.nD Cert.Ff1WgradIdeal.τ).loc Cert.Ff1WgradIdeal.main_arg1)
          ∧ r.2.mem ((c.tc : Thread Cert.Ff1WgradIdeal.nD Cert.Ff1WgradIdeal.τ).loc Cert.Ff1WgradIdeal.main_arg2) = m ((c.tc : Thread Cert.Ff1WgradIdeal.nD Cert.Ff1WgradIdeal.τ).loc Cert.Ff1WgradIdeal.main_arg2))
      ∧ θ_run (Cert.Ff1WgradRefIdeal.defs (F := Ideal)) (onTc (τ := Cert.Ff1WgradRefIdeal.τ) (Cert.Ff1WgradRefIdeal.main (F := Ideal))) ⟨m', fun _ => 0, g'⟩ (fun r => ∀ c : Dev Cert.Ff1WgradRefIdeal.nD,
          r.2.mem ((c.tc : Thread Cert.Ff1WgradRefIdeal.nD Cert.Ff1WgradRefIdeal.τ).loc Cert.Ff1WgradRefIdeal.main_v8) = v0 c
          ∧ r.2.mem ((c.tc : Thread Cert.Ff1WgradRefIdeal.nD Cert.Ff1WgradRefIdeal.τ).loc Cert.Ff1WgradRefIdeal.main_arg0) = m' ((c.tc : Thread Cert.Ff1WgradRefIdeal.nD Cert.Ff1WgradRefIdeal.τ).loc Cert.Ff1WgradRefIdeal.main_arg0)
          ∧ r.2.mem ((c.tc : Thread Cert.Ff1WgradRefIdeal.nD Cert.Ff1WgradRefIdeal.τ).loc Cert.Ff1WgradRefIdeal.main_arg1) = m' ((c.tc : Thread Cert.Ff1WgradRefIdeal.nD Cert.Ff1WgradRefIdeal.τ).loc Cert.Ff1WgradRefIdeal.main_arg1)
          ∧ r.2.mem ((c.tc : Thread Cert.Ff1WgradRefIdeal.nD Cert.Ff1WgradRefIdeal.τ).loc Cert.Ff1WgradRefIdeal.main_arg2) = m' ((c.tc : Thread Cert.Ff1WgradRefIdeal.nD Cert.Ff1WgradRefIdeal.τ).loc Cert.Ff1WgradRefIdeal.main_arg2))

def preserves_Ff1Bwd_Ff1BwdIdeal : Prop :=
  True

def algebraic_Ff1BwdIdeal_Ff1BwdRefIdeal [hFf1BwdIdeal : Cert.Ff1BwdIdeal.Facts] [hFf1BwdRefIdeal : Cert.Ff1BwdRefIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg)
    (m' : (ℓ : Loc Cert.Ff1BwdRefIdeal.nD Cert.Ff1BwdRefIdeal.τ Cert.Ff1BwdRefIdeal.sig) → Buf (Elt Ideal) ℓ) (g' : Dev Cert.Ff1BwdRefIdeal.nD → PrngReg), Pre_Ff1BwdIdeal m →
    (∀ c : Dev Cert.Ff1BwdIdeal.nD,
      m' ((c.tc : Thread Cert.Ff1BwdRefIdeal.nD Cert.Ff1BwdRefIdeal.τ).loc Cert.Ff1BwdRefIdeal.main_arg0) = m ((c.tc : Thread Cert.Ff1BwdIdeal.nD Cert.Ff1BwdIdeal.τ).loc Cert.Ff1BwdIdeal.main_arg0)
      ∧ m' ((c.tc : Thread Cert.Ff1BwdRefIdeal.nD Cert.Ff1BwdRefIdeal.τ).loc Cert.Ff1BwdRefIdeal.main_arg1) = m ((c.tc : Thread Cert.Ff1BwdIdeal.nD Cert.Ff1BwdIdeal.τ).loc Cert.Ff1BwdIdeal.main_arg1)
      ∧ m' ((c.tc : Thread Cert.Ff1BwdRefIdeal.nD Cert.Ff1BwdRefIdeal.τ).loc Cert.Ff1BwdRefIdeal.main_arg2) = m ((c.tc : Thread Cert.Ff1BwdIdeal.nD Cert.Ff1BwdIdeal.τ).loc Cert.Ff1BwdIdeal.main_arg2)) →
    ∃ (v0 : (c : Dev Cert.Ff1BwdIdeal.nD) → Buf (Elt Ideal) ((c.tc : Thread Cert.Ff1BwdIdeal.nD Cert.Ff1BwdIdeal.τ).loc Cert.Ff1BwdIdeal.main_v2)),
      θ_run (Cert.Ff1BwdIdeal.defs (F := Ideal)) (onTc (τ := Cert.Ff1BwdIdeal.τ) (Cert.Ff1BwdIdeal.main (F := Ideal))) ⟨m, fun _ => 0, g⟩ (fun r => ∀ c : Dev Cert.Ff1BwdIdeal.nD,
          r.2.mem ((c.tc : Thread Cert.Ff1BwdIdeal.nD Cert.Ff1BwdIdeal.τ).loc Cert.Ff1BwdIdeal.main_v2) = v0 c
          ∧ r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
          ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
          ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2))
      ∧ θ_run (Cert.Ff1BwdRefIdeal.defs (F := Ideal)) (onTc (τ := Cert.Ff1BwdRefIdeal.τ) (Cert.Ff1BwdRefIdeal.main (F := Ideal))) ⟨m', fun _ => 0, g'⟩ (fun r => ∀ c : Dev Cert.Ff1BwdRefIdeal.nD,
          r.2.mem ((c.tc : Thread Cert.Ff1BwdRefIdeal.nD Cert.Ff1BwdRefIdeal.τ).loc Cert.Ff1BwdRefIdeal.main_v5) = v0 c
          ∧ r.2.mem ((c.tc : Thread Cert.Ff1BwdRefIdeal.nD Cert.Ff1BwdRefIdeal.τ).loc Cert.Ff1BwdRefIdeal.main_arg0) = m' ((c.tc : Thread Cert.Ff1BwdRefIdeal.nD Cert.Ff1BwdRefIdeal.τ).loc Cert.Ff1BwdRefIdeal.main_arg0)
          ∧ r.2.mem ((c.tc : Thread Cert.Ff1BwdRefIdeal.nD Cert.Ff1BwdRefIdeal.τ).loc Cert.Ff1BwdRefIdeal.main_arg1) = m' ((c.tc : Thread Cert.Ff1BwdRefIdeal.nD Cert.Ff1BwdRefIdeal.τ).loc Cert.Ff1BwdRefIdeal.main_arg1)
          ∧ r.2.mem ((c.tc : Thread Cert.Ff1BwdRefIdeal.nD Cert.Ff1BwdRefIdeal.τ).loc Cert.Ff1BwdRefIdeal.main_arg2) = m' ((c.tc : Thread Cert.Ff1BwdRefIdeal.nD Cert.Ff1BwdRefIdeal.τ).loc Cert.Ff1BwdRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v2)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v2) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v3) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v5) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)) →
    ∃ (v0 : (c : Dev Cert.MixBwdIdeal.nD) → Buf (Elt Ideal) ((c.tc : Thread Cert.MixBwdIdeal.nD Cert.MixBwdIdeal.τ).loc Cert.MixBwdIdeal.main_v0)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0) = v0 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v5) = v0 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2))

def preserves_MixWgrad_MixWgradIdeal : Prop :=
  True

def algebraic_MixWgradIdeal_MixWgradRefIdeal [hMixWgradIdeal : Cert.MixWgradIdeal.Facts] [hMixWgradRefIdeal : Cert.MixWgradRefIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg)
    (m' : (ℓ : Loc Cert.MixWgradRefIdeal.nD Cert.MixWgradRefIdeal.τ Cert.MixWgradRefIdeal.sig) → Buf (Elt Ideal) ℓ) (g' : Dev Cert.MixWgradRefIdeal.nD → PrngReg), Pre_MixWgradIdeal m →
    (∀ c : Dev Cert.MixWgradIdeal.nD,
      m' ((c.tc : Thread Cert.MixWgradRefIdeal.nD Cert.MixWgradRefIdeal.τ).loc Cert.MixWgradRefIdeal.main_arg0) = m ((c.tc : Thread Cert.MixWgradIdeal.nD Cert.MixWgradIdeal.τ).loc Cert.MixWgradIdeal.main_arg0)
      ∧ m' ((c.tc : Thread Cert.MixWgradRefIdeal.nD Cert.MixWgradRefIdeal.τ).loc Cert.MixWgradRefIdeal.main_arg1) = m ((c.tc : Thread Cert.MixWgradIdeal.nD Cert.MixWgradIdeal.τ).loc Cert.MixWgradIdeal.main_arg1)
      ∧ m' ((c.tc : Thread Cert.MixWgradRefIdeal.nD Cert.MixWgradRefIdeal.τ).loc Cert.MixWgradRefIdeal.main_arg2) = m ((c.tc : Thread Cert.MixWgradIdeal.nD Cert.MixWgradIdeal.τ).loc Cert.MixWgradIdeal.main_arg2)) →
    ∃ (v0 : (c : Dev Cert.MixWgradIdeal.nD) → Buf (Elt Ideal) ((c.tc : Thread Cert.MixWgradIdeal.nD Cert.MixWgradIdeal.τ).loc Cert.MixWgradIdeal.main_v0)),
      θ_run (Cert.MixWgradIdeal.defs (F := Ideal)) (onTc (τ := Cert.MixWgradIdeal.τ) (Cert.MixWgradIdeal.main (F := Ideal))) ⟨m, fun _ => 0, g⟩ (fun r => ∀ c : Dev Cert.MixWgradIdeal.nD,
          r.2.mem ((c.tc : Thread Cert.MixWgradIdeal.nD Cert.MixWgradIdeal.τ).loc Cert.MixWgradIdeal.main_v0) = v0 c
          ∧ r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
          ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1)
          ∧ r.2.mem ((c.tc : Thread Cert.MixWgradIdeal.nD Cert.MixWgradIdeal.τ).loc Cert.MixWgradIdeal.main_arg2) = m ((c.tc : Thread Cert.MixWgradIdeal.nD Cert.MixWgradIdeal.τ).loc Cert.MixWgradIdeal.main_arg2))
      ∧ θ_run (Cert.MixWgradRefIdeal.defs (F := Ideal)) (onTc (τ := Cert.MixWgradRefIdeal.τ) (Cert.MixWgradRefIdeal.main (F := Ideal))) ⟨m', fun _ => 0, g'⟩ (fun r => ∀ c : Dev Cert.MixWgradRefIdeal.nD,
          r.2.mem ((c.tc : Thread Cert.MixWgradRefIdeal.nD Cert.MixWgradRefIdeal.τ).loc Cert.MixWgradRefIdeal.main_v6) = v0 c
          ∧ r.2.mem ((c.tc : Thread Cert.MixWgradRefIdeal.nD Cert.MixWgradRefIdeal.τ).loc Cert.MixWgradRefIdeal.main_arg0) = m' ((c.tc : Thread Cert.MixWgradRefIdeal.nD Cert.MixWgradRefIdeal.τ).loc Cert.MixWgradRefIdeal.main_arg0)
          ∧ r.2.mem ((c.tc : Thread Cert.MixWgradRefIdeal.nD Cert.MixWgradRefIdeal.τ).loc Cert.MixWgradRefIdeal.main_arg1) = m' ((c.tc : Thread Cert.MixWgradRefIdeal.nD Cert.MixWgradRefIdeal.τ).loc Cert.MixWgradRefIdeal.main_arg1)
          ∧ r.2.mem ((c.tc : Thread Cert.MixWgradRefIdeal.nD Cert.MixWgradRefIdeal.τ).loc Cert.MixWgradRefIdeal.main_arg2) = m' ((c.tc : Thread Cert.MixWgradRefIdeal.nD Cert.MixWgradRefIdeal.τ).loc Cert.MixWgradRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)
      ∧ m' ((c.tc : Thread Cert.InWgradRefIdeal.nD Cert.InWgradRefIdeal.τ).loc Cert.InWgradRefIdeal.main_arg2) = m ((c.tc : Thread Cert.InWgradIdeal.nD Cert.InWgradIdeal.τ).loc Cert.InWgradIdeal.main_arg2)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
          ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v8) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1)
          ∧ r.2.mem ((c.tc : Thread Cert.InWgradRefIdeal.nD Cert.InWgradRefIdeal.τ).loc Cert.InWgradRefIdeal.main_arg2) = m' ((c.tc : Thread Cert.InWgradRefIdeal.nD Cert.InWgradRefIdeal.τ).loc Cert.InWgradRefIdeal.main_arg2))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)) →
    ∃ (v0 : (c : Dev Cert.InBwdIdeal.nD) → Buf (Elt Ideal) ((c.tc : Thread Cert.InBwdIdeal.nD Cert.InBwdIdeal.τ).loc Cert.InBwdIdeal.main_v2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v2) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v5) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2))

def preserves_AdaWgrad_AdaWgradIdeal : Prop :=
  True

def algebraic_AdaWgradIdeal_AdaWgradRefIdeal [hAdaWgradIdeal : Cert.AdaWgradIdeal.Facts] [hAdaWgradRefIdeal : Cert.AdaWgradRefIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg)
    (m' : (ℓ : Loc Cert.AdaWgradRefIdeal.nD Cert.AdaWgradRefIdeal.τ Cert.AdaWgradRefIdeal.sig) → Buf (Elt Ideal) ℓ) (g' : Dev Cert.AdaWgradRefIdeal.nD → PrngReg), Pre_AdaWgradIdeal m →
    (∀ c : Dev Cert.AdaWgradIdeal.nD,
      m' ((c.tc : Thread Cert.AdaWgradRefIdeal.nD Cert.AdaWgradRefIdeal.τ).loc Cert.AdaWgradRefIdeal.main_arg0) = m ((c.tc : Thread Cert.AdaWgradIdeal.nD Cert.AdaWgradIdeal.τ).loc Cert.AdaWgradIdeal.main_arg0)
      ∧ m' ((c.tc : Thread Cert.AdaWgradRefIdeal.nD Cert.AdaWgradRefIdeal.τ).loc Cert.AdaWgradRefIdeal.main_arg1) = m ((c.tc : Thread Cert.AdaWgradIdeal.nD Cert.AdaWgradIdeal.τ).loc Cert.AdaWgradIdeal.main_arg1)
      ∧ m' ((c.tc : Thread Cert.AdaWgradRefIdeal.nD Cert.AdaWgradRefIdeal.τ).loc Cert.AdaWgradRefIdeal.main_arg2) = m ((c.tc : Thread Cert.AdaWgradIdeal.nD Cert.AdaWgradIdeal.τ).loc Cert.AdaWgradIdeal.main_arg2)) →
    ∃ (v0 : (c : Dev Cert.AdaWgradIdeal.nD) → Buf (Elt Ideal) ((c.tc : Thread Cert.AdaWgradIdeal.nD Cert.AdaWgradIdeal.τ).loc Cert.AdaWgradIdeal.main_v0)),
      θ_run (Cert.AdaWgradIdeal.defs (F := Ideal)) (onTc (τ := Cert.AdaWgradIdeal.τ) (Cert.AdaWgradIdeal.main (F := Ideal))) ⟨m, fun _ => 0, g⟩ (fun r => ∀ c : Dev Cert.AdaWgradIdeal.nD,
          r.2.mem ((c.tc : Thread Cert.AdaWgradIdeal.nD Cert.AdaWgradIdeal.τ).loc Cert.AdaWgradIdeal.main_v0) = v0 c
          ∧ r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
          ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1)
          ∧ r.2.mem ((c.tc : Thread Cert.AdaWgradIdeal.nD Cert.AdaWgradIdeal.τ).loc Cert.AdaWgradIdeal.main_arg2) = m ((c.tc : Thread Cert.AdaWgradIdeal.nD Cert.AdaWgradIdeal.τ).loc Cert.AdaWgradIdeal.main_arg2))
      ∧ θ_run (Cert.AdaWgradRefIdeal.defs (F := Ideal)) (onTc (τ := Cert.AdaWgradRefIdeal.τ) (Cert.AdaWgradRefIdeal.main (F := Ideal))) ⟨m', fun _ => 0, g'⟩ (fun r => ∀ c : Dev Cert.AdaWgradRefIdeal.nD,
          r.2.mem ((c.tc : Thread Cert.AdaWgradRefIdeal.nD Cert.AdaWgradRefIdeal.τ).loc Cert.AdaWgradRefIdeal.main_v2) = v0 c
          ∧ r.2.mem ((c.tc : Thread Cert.AdaWgradRefIdeal.nD Cert.AdaWgradRefIdeal.τ).loc Cert.AdaWgradRefIdeal.main_arg0) = m' ((c.tc : Thread Cert.AdaWgradRefIdeal.nD Cert.AdaWgradRefIdeal.τ).loc Cert.AdaWgradRefIdeal.main_arg0)
          ∧ r.2.mem ((c.tc : Thread Cert.AdaWgradRefIdeal.nD Cert.AdaWgradRefIdeal.τ).loc Cert.AdaWgradRefIdeal.main_arg1) = m' ((c.tc : Thread Cert.AdaWgradRefIdeal.nD Cert.AdaWgradRefIdeal.τ).loc Cert.AdaWgradRefIdeal.main_arg1)
          ∧ r.2.mem ((c.tc : Thread Cert.AdaWgradRefIdeal.nD Cert.AdaWgradRefIdeal.τ).loc Cert.AdaWgradRefIdeal.main_arg2) = m' ((c.tc : Thread Cert.AdaWgradRefIdeal.nD Cert.AdaWgradRefIdeal.τ).loc Cert.AdaWgradRefIdeal.main_arg2))

def preserves_AdamFf1_AdamFf1Ideal : Prop :=
  True

def algebraic_AdamFf1Ideal_AdamFf1RefIdeal [hAdamFf1Ideal : Cert.AdamFf1Ideal.Facts] [hAdamFf1RefIdeal : Cert.AdamFf1RefIdeal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg)
    (m' : (ℓ : Loc Cert.AdamFf1RefIdeal.nD Cert.AdamFf1RefIdeal.τ Cert.AdamFf1RefIdeal.sig) → Buf (Elt Ideal) ℓ) (g' : Dev Cert.AdamFf1RefIdeal.nD → PrngReg), Pre_AdamFf1Ideal m →
    (∀ c : Dev Cert.AdamFf1Ideal.nD,
      m' ((c.tc : Thread Cert.AdamFf1RefIdeal.nD Cert.AdamFf1RefIdeal.τ).loc Cert.AdamFf1RefIdeal.main_arg0) = m ((c.tc : Thread Cert.AdamFf1Ideal.nD Cert.AdamFf1Ideal.τ).loc Cert.AdamFf1Ideal.main_arg0)
      ∧ m' ((c.tc : Thread Cert.AdamFf1RefIdeal.nD Cert.AdamFf1RefIdeal.τ).loc Cert.AdamFf1RefIdeal.main_arg1) = m ((c.tc : Thread Cert.AdamFf1Ideal.nD Cert.AdamFf1Ideal.τ).loc Cert.AdamFf1Ideal.main_arg1)
      ∧ m' ((c.tc : Thread Cert.AdamFf1RefIdeal.nD Cert.AdamFf1RefIdeal.τ).loc Cert.AdamFf1RefIdeal.main_arg2) = m ((c.tc : Thread Cert.AdamFf1Ideal.nD Cert.AdamFf1Ideal.τ).loc Cert.AdamFf1Ideal.main_arg2)
      ∧ m' ((c.tc : Thread Cert.AdamFf1RefIdeal.nD Cert.AdamFf1RefIdeal.τ).loc Cert.AdamFf1RefIdeal.main_arg3) = m ((c.tc : Thread Cert.AdamFf1Ideal.nD Cert.AdamFf1Ideal.τ).loc Cert.AdamFf1Ideal.main_arg3)) →
    ∃ (v0 : (c : Dev Cert.AdamFf1Ideal.nD) → Buf (Elt Ideal) ((c.tc : Thread Cert.AdamFf1Ideal.nD Cert.AdamFf1Ideal.τ).loc Cert.AdamFf1Ideal.main_v0_0)) (v1 : (c : Dev Cert.AdamFf1Ideal.nD) → Buf (Elt Ideal) ((c.tc : Thread Cert.AdamFf1Ideal.nD Cert.AdamFf1Ideal.τ).loc Cert.AdamFf1Ideal.main_v0_1)) (v2 : (c : Dev Cert.AdamFf1Ideal.nD) → Buf (Elt Ideal) ((c.tc : Thread Cert.AdamFf1Ideal.nD Cert.AdamFf1Ideal.τ).loc Cert.AdamFf1Ideal.main_v0_2)),
      θ_run (Cert.AdamFf1Ideal.defs (F := Ideal)) (onTc (τ := Cert.AdamFf1Ideal.τ) (Cert.AdamFf1Ideal.main (F := Ideal))) ⟨m, fun _ => 0, g⟩ (fun r => ∀ c : Dev Cert.AdamFf1Ideal.nD,
          r.2.mem ((c.tc : Thread Cert.AdamFf1Ideal.nD Cert.AdamFf1Ideal.τ).loc Cert.AdamFf1Ideal.main_v0_0) = v0 c
          ∧ r.2.mem ((c.tc : Thread Cert.AdamFf1Ideal.nD Cert.AdamFf1Ideal.τ).loc Cert.AdamFf1Ideal.main_v0_1) = v1 c
          ∧ r.2.mem ((c.tc : Thread Cert.AdamFf1Ideal.nD Cert.AdamFf1Ideal.τ).loc Cert.AdamFf1Ideal.main_v0_2) = v2 c
          ∧ r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
          ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
          ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
          ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3))
      ∧ θ_run (Cert.AdamFf1RefIdeal.defs (F := Ideal)) (onTc (τ := Cert.AdamFf1RefIdeal.τ) (Cert.AdamFf1RefIdeal.main (F := Ideal))) ⟨m', fun _ => 0, g'⟩ (fun r => ∀ c : Dev Cert.AdamFf1RefIdeal.nD,
          r.2.mem ((c.tc : Thread Cert.AdamFf1RefIdeal.nD Cert.AdamFf1RefIdeal.τ).loc Cert.AdamFf1RefIdeal.main_v23) = v0 c
          ∧ r.2.mem ((c.tc : Thread Cert.AdamFf1RefIdeal.nD Cert.AdamFf1RefIdeal.τ).loc Cert.AdamFf1RefIdeal.main_v4) = v1 c
          ∧ r.2.mem ((c.tc : Thread Cert.AdamFf1RefIdeal.nD Cert.AdamFf1RefIdeal.τ).loc Cert.AdamFf1RefIdeal.main_v10) = v2 c
          ∧ r.2.mem ((c.tc : Thread Cert.AdamFf1RefIdeal.nD Cert.AdamFf1RefIdeal.τ).loc Cert.AdamFf1RefIdeal.main_arg0) = m' ((c.tc : Thread Cert.AdamFf1RefIdeal.nD Cert.AdamFf1RefIdeal.τ).loc Cert.AdamFf1RefIdeal.main_arg0)
          ∧ r.2.mem ((c.tc : Thread Cert.AdamFf1RefIdeal.nD Cert.AdamFf1RefIdeal.τ).loc Cert.AdamFf1RefIdeal.main_arg1) = m' ((c.tc : Thread Cert.AdamFf1RefIdeal.nD Cert.AdamFf1RefIdeal.τ).loc Cert.AdamFf1RefIdeal.main_arg1)
          ∧ r.2.mem ((c.tc : Thread Cert.AdamFf1RefIdeal.nD Cert.AdamFf1RefIdeal.τ).loc Cert.AdamFf1RefIdeal.main_arg2) = m' ((c.tc : Thread Cert.AdamFf1RefIdeal.nD Cert.AdamFf1RefIdeal.τ).loc Cert.AdamFf1RefIdeal.main_arg2)
          ∧ r.2.mem ((c.tc : Thread Cert.AdamFf1RefIdeal.nD Cert.AdamFf1RefIdeal.τ).loc Cert.AdamFf1RefIdeal.main_arg3) = m' ((c.tc : Thread Cert.AdamFf1RefIdeal.nD Cert.AdamFf1RefIdeal.τ).loc Cert.AdamFf1RefIdeal.main_arg3))

def preserves_AdamFf2_AdamFf2Ideal : Prop :=
  True

def algebraic_AdamFf2Ideal_AdamFf2RefIdeal [hAdamFf2Ideal : Cert.AdamFf2Ideal.Facts] [hAdamFf2RefIdeal : Cert.AdamFf2RefIdeal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg)
    (m' : (ℓ : Loc Cert.AdamFf2RefIdeal.nD Cert.AdamFf2RefIdeal.τ Cert.AdamFf2RefIdeal.sig) → Buf (Elt Ideal) ℓ) (g' : Dev Cert.AdamFf2RefIdeal.nD → PrngReg), Pre_AdamFf2Ideal m →
    (∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)) →
    ∃ (v0 : (c : Dev Cert.AdamFf2Ideal.nD) → Buf (Elt Ideal) ((c.tc : Thread Cert.AdamFf2Ideal.nD Cert.AdamFf2Ideal.τ).loc Cert.AdamFf2Ideal.main_v0_0)) (v1 : (c : Dev Cert.AdamFf2Ideal.nD) → Buf (Elt Ideal) ((c.tc : Thread Cert.AdamFf2Ideal.nD Cert.AdamFf2Ideal.τ).loc Cert.AdamFf2Ideal.main_v0_1)) (v2 : (c : Dev Cert.AdamFf2Ideal.nD) → Buf (Elt Ideal) ((c.tc : Thread Cert.AdamFf2Ideal.nD Cert.AdamFf2Ideal.τ).loc Cert.AdamFf2Ideal.main_v0_2)),
      θ_run (Cert.AdamFf2Ideal.defs (F := Ideal)) (onTc (τ := Cert.AdamFf2Ideal.τ) (Cert.AdamFf2Ideal.main (F := Ideal))) ⟨m, fun _ => 0, g⟩ (fun r => ∀ c : Dev Cert.AdamFf2Ideal.nD,
          r.2.mem ((c.tc : Thread Cert.AdamFf2Ideal.nD Cert.AdamFf2Ideal.τ).loc Cert.AdamFf2Ideal.main_v0_0) = v0 c
          ∧ r.2.mem ((c.tc : Thread Cert.AdamFf2Ideal.nD Cert.AdamFf2Ideal.τ).loc Cert.AdamFf2Ideal.main_v0_1) = v1 c
          ∧ r.2.mem ((c.tc : Thread Cert.AdamFf2Ideal.nD Cert.AdamFf2Ideal.τ).loc Cert.AdamFf2Ideal.main_v0_2) = v2 c
          ∧ r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
          ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
          ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
          ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ θ_run (Cert.AdamFf2RefIdeal.defs (F := Ideal)) (onTc (τ := Cert.AdamFf2RefIdeal.τ) (Cert.AdamFf2RefIdeal.main (F := Ideal))) ⟨m', fun _ => 0, g'⟩ (fun r => ∀ c : Dev Cert.AdamFf2RefIdeal.nD,
          r.2.mem ((c.tc : Thread Cert.AdamFf2RefIdeal.nD Cert.AdamFf2RefIdeal.τ).loc Cert.AdamFf2RefIdeal.main_v23) = v0 c
          ∧ r.2.mem ((c.tc : Thread Cert.AdamFf2RefIdeal.nD Cert.AdamFf2RefIdeal.τ).loc Cert.AdamFf2RefIdeal.main_v4) = v1 c
          ∧ r.2.mem ((c.tc : Thread Cert.AdamFf2RefIdeal.nD Cert.AdamFf2RefIdeal.τ).loc Cert.AdamFf2RefIdeal.main_v10) = v2 c
          ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
          ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
          ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
          ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hFf2Bwd : Cert.Ff2Bwd.Facts) (hFf2BwdIdeal : Cert.Ff2BwdIdeal.Facts) (hFf2BwdRefIdeal : Cert.Ff2BwdRefIdeal.Facts) (hFf2Wgrad : Cert.Ff2Wgrad.Facts) (hFf2WgradIdeal : Cert.Ff2WgradIdeal.Facts) (hFf2WgradRefIdeal : Cert.Ff2WgradRefIdeal.Facts) (hFf1Wgrad : Cert.Ff1Wgrad.Facts) (hFf1WgradIdeal : Cert.Ff1WgradIdeal.Facts) (hFf1WgradRefIdeal : Cert.Ff1WgradRefIdeal.Facts) (hFf1Bwd : Cert.Ff1Bwd.Facts) (hFf1BwdIdeal : Cert.Ff1BwdIdeal.Facts) (hFf1BwdRefIdeal : Cert.Ff1BwdRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hMixBwd : Cert.MixBwd.Facts) (hMixBwdIdeal : Cert.MixBwdIdeal.Facts) (hMixBwdRefIdeal : Cert.MixBwdRefIdeal.Facts) (hMixWgrad : Cert.MixWgrad.Facts) (hMixWgradIdeal : Cert.MixWgradIdeal.Facts) (hMixWgradRefIdeal : Cert.MixWgradRefIdeal.Facts) (hMix : Cert.Mix.Facts) (hMixIdeal : Cert.MixIdeal.Facts) (hMixRefIdeal : Cert.MixRefIdeal.Facts) (hIn : Cert.In.Facts) (hInIdeal : Cert.InIdeal.Facts) (hInRefIdeal : Cert.InRefIdeal.Facts) (hInWgrad : Cert.InWgrad.Facts) (hInWgradIdeal : Cert.InWgradIdeal.Facts) (hInWgradRefIdeal : Cert.InWgradRefIdeal.Facts) (hInBwd : Cert.InBwd.Facts) (hInBwdIdeal : Cert.InBwdIdeal.Facts) (hInBwdRefIdeal : Cert.InBwdRefIdeal.Facts) (hAdaWgrad : Cert.AdaWgrad.Facts) (hAdaWgradIdeal : Cert.AdaWgradIdeal.Facts) (hAdaWgradRefIdeal : Cert.AdaWgradRefIdeal.Facts) (hAdamFf1 : Cert.AdamFf1.Facts) (hAdamFf1Ideal : Cert.AdamFf1Ideal.Facts) (hAdamFf1RefIdeal : Cert.AdamFf1RefIdeal.Facts) (hAdamFf2 : Cert.AdamFf2.Facts) (hAdamFf2Ideal : Cert.AdamFf2Ideal.Facts) (hAdamFf2RefIdeal : Cert.AdamFf2RefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff2Bwd (hFf2Bwd := hFf2Bwd)
    ∧ quiescent_Ff2BwdIdeal (hFf2BwdIdeal := hFf2BwdIdeal)
    ∧ quiescent_Ff2BwdRefIdeal (hFf2BwdRefIdeal := hFf2BwdRefIdeal)
    ∧ quiescent_Ff2Wgrad (hFf2Wgrad := hFf2Wgrad)
    ∧ quiescent_Ff2WgradIdeal (hFf2WgradIdeal := hFf2WgradIdeal)
    ∧ quiescent_Ff2WgradRefIdeal (hFf2WgradRefIdeal := hFf2WgradRefIdeal)
    ∧ quiescent_Ff1Wgrad (hFf1Wgrad := hFf1Wgrad)
    ∧ quiescent_Ff1WgradIdeal (hFf1WgradIdeal := hFf1WgradIdeal)
    ∧ quiescent_Ff1WgradRefIdeal (hFf1WgradRefIdeal := hFf1WgradRefIdeal)
    ∧ quiescent_Ff1Bwd (hFf1Bwd := hFf1Bwd)
    ∧ quiescent_Ff1BwdIdeal (hFf1BwdIdeal := hFf1BwdIdeal)
    ∧ quiescent_Ff1BwdRefIdeal (hFf1BwdRefIdeal := hFf1BwdRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_MixWgrad (hMixWgrad := hMixWgrad)
    ∧ quiescent_MixWgradIdeal (hMixWgradIdeal := hMixWgradIdeal)
    ∧ quiescent_MixWgradRefIdeal (hMixWgradRefIdeal := hMixWgradRefIdeal)
    ∧ quiescent_Mix (hMix := hMix)
    ∧ quiescent_MixIdeal (hMixIdeal := hMixIdeal)
    ∧ quiescent_MixRefIdeal (hMixRefIdeal := hMixRefIdeal)
    ∧ quiescent_In (hIn := hIn)
    ∧ quiescent_InIdeal (hInIdeal := hInIdeal)
    ∧ quiescent_InRefIdeal (hInRefIdeal := hInRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_AdaWgrad (hAdaWgrad := hAdaWgrad)
    ∧ quiescent_AdaWgradIdeal (hAdaWgradIdeal := hAdaWgradIdeal)
    ∧ quiescent_AdaWgradRefIdeal (hAdaWgradRefIdeal := hAdaWgradRefIdeal)
    ∧ quiescent_AdamFf1 (hAdamFf1 := hAdamFf1)
    ∧ quiescent_AdamFf1Ideal (hAdamFf1Ideal := hAdamFf1Ideal)
    ∧ quiescent_AdamFf1RefIdeal (hAdamFf1RefIdeal := hAdamFf1RefIdeal)
    ∧ quiescent_AdamFf2 (hAdamFf2 := hAdamFf2)
    ∧ quiescent_AdamFf2Ideal (hAdamFf2Ideal := hAdamFf2Ideal)
    ∧ quiescent_AdamFf2RefIdeal (hAdamFf2RefIdeal := hAdamFf2RefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff2Bwd_Ff2BwdIdeal
    ∧ algebraic_Ff2BwdIdeal_Ff2BwdRefIdeal (hFf2BwdIdeal := hFf2BwdIdeal) (hFf2BwdRefIdeal := hFf2BwdRefIdeal)
    ∧ preserves_Ff2Wgrad_Ff2WgradIdeal
    ∧ algebraic_Ff2WgradIdeal_Ff2WgradRefIdeal (hFf2WgradIdeal := hFf2WgradIdeal) (hFf2WgradRefIdeal := hFf2WgradRefIdeal)
    ∧ preserves_Ff1Wgrad_Ff1WgradIdeal
    ∧ algebraic_Ff1WgradIdeal_Ff1WgradRefIdeal (hFf1WgradIdeal := hFf1WgradIdeal) (hFf1WgradRefIdeal := hFf1WgradRefIdeal)
    ∧ preserves_Ff1Bwd_Ff1BwdIdeal
    ∧ algebraic_Ff1BwdIdeal_Ff1BwdRefIdeal (hFf1BwdIdeal := hFf1BwdIdeal) (hFf1BwdRefIdeal := hFf1BwdRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_MixBwd_MixBwdIdeal
    ∧ algebraic_MixBwdIdeal_MixBwdRefIdeal (hMixBwdIdeal := hMixBwdIdeal) (hMixBwdRefIdeal := hMixBwdRefIdeal)
    ∧ preserves_MixWgrad_MixWgradIdeal
    ∧ algebraic_MixWgradIdeal_MixWgradRefIdeal (hMixWgradIdeal := hMixWgradIdeal) (hMixWgradRefIdeal := hMixWgradRefIdeal)
    ∧ preserves_Mix_MixIdeal
    ∧ algebraic_MixIdeal_MixRefIdeal (hMixIdeal := hMixIdeal) (hMixRefIdeal := hMixRefIdeal)
    ∧ preserves_In_InIdeal
    ∧ algebraic_InIdeal_InRefIdeal (hInIdeal := hInIdeal) (hInRefIdeal := hInRefIdeal)
    ∧ preserves_InWgrad_InWgradIdeal
    ∧ algebraic_InWgradIdeal_InWgradRefIdeal (hInWgradIdeal := hInWgradIdeal) (hInWgradRefIdeal := hInWgradRefIdeal)
    ∧ preserves_InBwd_InBwdIdeal
    ∧ algebraic_InBwdIdeal_InBwdRefIdeal (hInBwdIdeal := hInBwdIdeal) (hInBwdRefIdeal := hInBwdRefIdeal)
    ∧ preserves_AdaWgrad_AdaWgradIdeal
    ∧ algebraic_AdaWgradIdeal_AdaWgradRefIdeal (hAdaWgradIdeal := hAdaWgradIdeal) (hAdaWgradRefIdeal := hAdaWgradRefIdeal)
    ∧ preserves_AdamFf1_AdamFf1Ideal
    ∧ algebraic_AdamFf1Ideal_AdamFf1RefIdeal (hAdamFf1Ideal := hAdamFf1Ideal) (hAdamFf1RefIdeal := hAdamFf1RefIdeal)
    ∧ preserves_AdamFf2_AdamFf2Ideal
    ∧ algebraic_AdamFf2Ideal_AdamFf2RefIdeal (hAdamFf2Ideal := hAdamFf2Ideal) (hAdamFf2RefIdeal := hAdamFf2RefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite.lean ====
abbrev S8192x1024 : Shape := ⟨2, ![8192, 1024]⟩
abbrev S8192x8x128 : Shape := ⟨3, ![8192, 8, 128]⟩
abbrev S8192x8 : Shape := ⟨2, ![8192, 8]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x8x128 : S_.BroadcastsInDim S8192x8x128 (![] : Fin 0 → Fin S8192x8x128.rank)
  bcast_S_S8192x8 : S_.BroadcastsInDim S8192x8 (![] : Fin 0 → Fin S8192x8.rank)

variable [Facts]

def fn_part1 {F : FTy → Type} [FloatOps F] (main_arg5 : FVec F S8192x8 .f32) (main_arg6 : FVec F S8192x8x128 .f32) (main_arg7 : FVec F S8192x8 .f32) (main_v3 : IVec S8192x1024 1) (main_v7 : IVec S8192x1024 1) (main_v11 : IVec S8192x1024 1) (main_v15 : IVec S8192x1024 1) (main_v18 : IVec S8192x8x128 1) : IVec S8192x1024 1 × IVec S8192x1024 1 × IVec S8192x1024 1 × IVec S8192x1024 1 × IVec S8192x8x128 1 × IVec S8192x8 1 × IVec S8192x8x128 1 × IVec S8192x8 1 :=
  let main_v19 : FVec F S8192x8 .f32 := Host.absf main_arg5
  let main_cst_4 : FVec F S_ .f32 := constant S_ .f32 0x7F800000#32
  let main_v20 : FVec F S8192x8 .f32 := broadcastInDim S8192x8 ![] bcast_S_S8192x8 main_cst_4
  let main_v21 : IVec S8192x8 1 := cmpf .olt main_v19 main_v20
  let main_v22 : FVec F S8192x8x128 .f32 := Host.absf main_arg6
  let main_cst_5 : FVec F S_ .f32 := constant S_ .f32 0x7F800000#32
  let main_v23 : FVec F S8192x8x128 .f32 := broadcastInDim S8192x8x128 ![] bcast_S_S8192x8x128 main_cst_5
  let main_v24 : IVec S8192x8x128 1 := cmpf .olt main_v22 main_v23
  let main_v25 : FVec F S8192x8 .f32 := Host.absf main_arg7
  let main_cst_6 : FVec F S_ .f32 := constant S_ .f32 0x7F800000#32
  let main_v26 : FVec F S8192x8 .f32 := broadcastInDim S8192x8 ![] bcast_S_S8192x8 main_cst_6
  let main_v27 : IVec S8192x8 1 := cmpf .olt main_v25 main_v26
  (main_v3, main_v7, main_v11, main_v15, main_v18, main_v21, main_v24, main_v27)

def fn {F : FTy → Type} [FloatOps F] (main_arg0 : FVec F S8192x1024 .bf16) (main_arg1 : FVec F S8192x1024 .bf16) (main_arg2 : FVec F S8192x1024 .bf16) (main_arg3 : FVec F S8192x1024 .bf16) (main_arg4 : FVec F S8192x8x128 .f32) (main_arg5 : FVec F S8192x8 .f32) (main_arg6 : FVec F S8192x8x128 .f32) (main_arg7 : FVec F S8192x8 .f32) : IVec S8192x1024 1 × IVec S8192x1024 1 × IVec S8192x1024 1 × IVec S8192x1024 1 × IVec S8192x8x128 1 × IVec S8192x8 1 × IVec S8192x8x128 1 × IVec S8192x8 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x1024 .f32 := (extf .f32 · bitsLt_bf16_f32) main_arg3
  let main_v13 : FVec F S8192x1024 .f32 := Host.absf main_v12
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  let main_v16 : FVec F S8192x8x128 .f32 := Host.absf main_arg4
  let main_cst_3 : FVec F S_ .f32 := constant S_ .f32 0x7F800000#32
  let main_v17 : FVec F S8192x8x128 .f32 := broadcastInDim S8192x8x128 ![] bcast_S_S8192x8x128 main_cst_3
  let main_v18 : IVec S8192x8x128 1 := cmpf .olt main_v16 main_v17
  fn_part1 (F := F) main_arg5 main_arg6 main_arg7 main_v3 main_v7 main_v11 main_v15 main_v18
-- ==== Kernel.lean ====
abbrev S8192x1024 : Shape := ⟨2, ![8192, 1024]⟩
abbrev S8192x8x128 : Shape := ⟨3, ![8192, 8, 128]⟩
abbrev S8192x8 : Shape := ⟨2, ![8192, 8]⟩
abbrev S8 : Shape := ⟨1, ![8]⟩
abbrev S_ : Shape := ⟨0, ![]⟩
abbrev S64x128x8x128 : Shape := ⟨4, ![64, 128, 8, 128]⟩
abbrev S1x128x8x128 : Shape := ⟨4, ![1, 128, 8, 128]⟩
abbrev S63x128x8x128 : Shape := ⟨4, ![63, 128, 8, 128]⟩
abbrev S64x256x8x128 : Shape := ⟨4, ![64, 256, 8, 128]⟩
abbrev S64x8x128x256 : Shape := ⟨4, ![64, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x1x1 : Shape := ⟨3, ![8, 1, 1]⟩
abbrev S8x128x256 : Shape := ⟨3, ![8, 128, 256]⟩
abbrev S1x8x128x256 : Shape := ⟨4, ![1, 8, 128, 256]⟩
abbrev S64x1x128x256 : Shape := ⟨4, ![64, 1, 128, 256]⟩
abbrev S64x8x128 : Shape := ⟨3, ![64, 8, 128]⟩
abbrev S64x8x128x1 : Shape := ⟨4, ![64, 8, 128, 1]⟩
abbrev S64x8x128x128 : Shape := ⟨4, ![64, 8, 128, 128]⟩
abbrev S64x128x8 : Shape := ⟨3, ![64, 128, 8]⟩
abbrev S64x128x8x1 : Shape := ⟨4, ![64, 128, 8, 1]⟩
abbrev S8192x8x1 : Shape := ⟨3, ![8192, 8, 1]⟩
abbrev S8192x128 : Shape := ⟨2, ![8192, 128]⟩
abbrev S256x1024 : Shape := ⟨2, ![256, 1024]⟩
abbrev S128x1024 : Shape := ⟨2, ![128, 1024]⟩
abbrev S256x128 : Shape := ⟨2, ![256, 128]⟩
abbrev S128x128 : Shape := ⟨2, ![128, 128]⟩

abbrev nBuf : Space → Nat
  | .hbm => 164
  | .vmem => 27
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S8192x8x128, .f32⟩
  | 5 => ⟨S8192x8, .f32⟩
  | 6 => ⟨S8192x8x128, .f32⟩
  | 7 => ⟨S8192x8, .f32⟩
  | 8 => ⟨S8192x1024, .f32⟩
  | 9 => ⟨S8192x8x128, .f32⟩
  | 10 => ⟨S8192x1024, .f32⟩
  | 11 => ⟨S8192x8x128, .f32⟩
  | 12 => ⟨S8192x1024, .f32⟩
  | 13 => ⟨S8192x8x128, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S64x128x8x128, .f32⟩
  | 28 => ⟨S64x128x8x128, .f32⟩
  | 29 => ⟨S1x128x8x128, .f32⟩
  | 30 => ⟨S_, .f32⟩
  | 31 => ⟨S1x128x8x128, .f32⟩
  | 32 => ⟨S63x128x8x128, .f32⟩
  | 33 => ⟨S64x128x8x128, .f32⟩
  | 34 => ⟨S64x256x8x128, .f32⟩
  | 35 => ⟨S64x128x8x128, .f32⟩
  | 36 => ⟨S1x128x8x128, .f32⟩
  | 37 => ⟨S_, .f32⟩
  | 38 => ⟨S1x128x8x128, .f32⟩
  | 39 => ⟨S63x128x8x128, .f32⟩
  | 40 => ⟨S64x128x8x128, .f32⟩
  | 41 => ⟨S64x256x8x128, .f32⟩
  | 42 => ⟨S64x8x128x256, .f32⟩
  | 43 => ⟨S_, .f32⟩
  | 44 => ⟨S64x8x128x256, .f32⟩
  | 45 => ⟨S64x8x128x256, .f32⟩
  | 46 => ⟨S128, .i32⟩
  | 47 => ⟨S128x1, .i32⟩
  | 48 => ⟨S256, .i32⟩
  | 49 => ⟨S1x256, .i32⟩
  | 50 => ⟨S128x256, .i32⟩
  | 51 => ⟨S128x256, .i32⟩
  | 52 => ⟨S128x256, .i32⟩
  | 53 => ⟨S_, .i32⟩
  | 54 => ⟨S128x256, .i32⟩
  | 55 => ⟨S128x256, .i32⟩
  | 56 => ⟨S64, .i32⟩
  | 57 => ⟨S64x1x1, .i32⟩
  | 58 => ⟨S_, .i32⟩
  | 59 => ⟨S64x1x1, .i32⟩
  | 60 => ⟨S64x1x1, .i32⟩
  | 61 => ⟨S_, .i32⟩
  | 62 => ⟨S64x1x1, .i32⟩
  | 63 => ⟨S64x1x1, .i32⟩
  | 64 => ⟨S1x1x256, .i32⟩
  | 65 => ⟨S64x1x256, .i32⟩
  | 66 => ⟨S64x1x256, .i32⟩
  | 67 => ⟨S64x1x256, .i32⟩
  | 68 => ⟨S_, .i32⟩
  | 69 => ⟨S128x256, .i32⟩
  | 70 => ⟨S128x256, .i1⟩
  | 71 => ⟨S_, .i32⟩
  | 72 => ⟨S128x256, .i32⟩
  | 73 => ⟨S128x256, .i1⟩
  | 74 => ⟨S128x256, .i1⟩
  | 75 => ⟨S_, .i32⟩
  | 76 => ⟨S64x1x256, .i32⟩
  | 77 => ⟨S64x1x256, .i1⟩
  | 78 => ⟨S1x128x256, .i1⟩
  | 79 => ⟨S64x128x256, .i1⟩
  | 80 => ⟨S64x128x256, .i1⟩
  | 81 => ⟨S64x128x256, .i1⟩
  | 82 => ⟨S8x1x1, .f32⟩
  | 83 => ⟨S8x1x1, .f32⟩
  | 84 => ⟨S128x256, .f32⟩
  | 85 => ⟨S1x128x256, .f32⟩
  | 86 => ⟨S8x128x256, .f32⟩
  | 87 => ⟨S8x128x256, .f32⟩
  | 88 => ⟨S8x128x256, .f32⟩
  | 89 => ⟨S1x8x128x256, .f32⟩
  | 90 => ⟨S64x8x128x256, .f32⟩
  | 91 => ⟨S64x8x128x256, .f32⟩
  | 92 => ⟨S64x1x128x256, .i1⟩
  | 93 => ⟨S_, .f32⟩
  | 94 => ⟨S_, .f32⟩
  | 95 => ⟨S64x8x128x256, .i1⟩
  | 96 => ⟨S64x8x128x256, .f32⟩
  | 97 => ⟨S64x8x128x256, .f32⟩
  | 98 => ⟨S_, .f32⟩
  | 99 => ⟨S64x8x128, .f32⟩
  | 100 => ⟨S64x8x128x1, .f32⟩
  | 101 => ⟨S64x8x128x256, .f32⟩
  | 102 => ⟨S64x8x128x256, .f32⟩
  | 103 => ⟨S64x8x128x256, .f32⟩
  | 104 => ⟨S_, .f32⟩
  | 105 => ⟨S64x8x128, .f32⟩
  | 106 => ⟨S64x8x128x1, .f32⟩
  | 107 => ⟨S64x8x128x128, .f32⟩
  | 108 => ⟨S64x128x8x128, .f32⟩
  | 109 => ⟨S64x8x128, .f32⟩
  | 110 => ⟨S64x128x8, .f32⟩
  | 111 => ⟨S64x8x128, .f32⟩
  | 112 => ⟨S64x128x8, .f32⟩
  | 113 => ⟨S64x128x8, .f32⟩
  | 114 => ⟨S64x128x8, .f32⟩
  | 115 => ⟨S64x128x8x1, .f32⟩
  | 116 => ⟨S64x128x8x128, .f32⟩
  | 117 => ⟨S64x128x8x128, .f32⟩
  | 118 => ⟨S8192x8x128, .f32⟩
  | 119 => ⟨S8192x8, .f32⟩
  | 120 => ⟨S8192x8, .f32⟩
  | 121 => ⟨S8192x8, .f32⟩
  | 122 => ⟨S8192x8, .f32⟩
  | 123 => ⟨S8192x8, .f32⟩
  | 124 => ⟨S8192x8, .f32⟩
  | 125 => ⟨S8192x8, .f32⟩
  | 126 => ⟨S8192x8, .f32⟩
  | 127 => ⟨S8192x8, .f32⟩
  | _ => ⟨S8192x1024, .bf16⟩

abbrev hbmTy0_1 (i : Nat) : BufTy := match i % 128 with
  | 0 => ⟨S8192x8, .f32⟩
  | 1 => ⟨S8192x8, .f32⟩
  | 2 => ⟨S8192x8, .f32⟩
  | 3 => ⟨S8192x8, .f32⟩
  | 4 => ⟨S8192x8, .f32⟩
  | 5 => ⟨S8192x8, .f32⟩
  | 6 => ⟨S8192x8x1, .f32⟩
  | 7 => ⟨S8192x8x128, .f32⟩
  | 8 => ⟨S8192x8x128, .f32⟩
  | 9 => ⟨S_, .f32⟩
  | 10 => ⟨S8192x8x128, .f32⟩
  | 11 => ⟨S8192x8x128, .f32⟩
  | 12 => ⟨S8192x8, .f32⟩
  | 13 => ⟨S8192x8, .f32⟩
  | 14 => ⟨S8192x8x1, .f32⟩
  | 15 => ⟨S8192x8x128, .f32⟩
  | 16 => ⟨S8192x8x128, .f32⟩
  | 17 => ⟨S8192x8x128, .f32⟩
  | 18 => ⟨S8192x8, .f32⟩
  | 19 => ⟨S8192x8, .f32⟩
  | 20 => ⟨S8192x8x1, .f32⟩
  | 21 => ⟨S8192x8x128, .f32⟩
  | 22 => ⟨S8192x8x128, .f32⟩
  | 23 => ⟨S8192x8x128, .f32⟩
  | 24 => ⟨S8192x1024, .f32⟩
  | 25 => ⟨S8192x8x128, .f32⟩
  | 26 => ⟨S8192x8, .f32⟩
  | 27 => ⟨S_, .i32⟩
  | 28 => ⟨S_, .f32⟩
  | 29 => ⟨S8192x128, .f32⟩
  | 30 => ⟨S_, .i32⟩
  | 31 => ⟨S_, .f32⟩
  | 32 => ⟨S8192x128, .f32⟩
  | 33 => ⟨S8192x1024, .bf16⟩
  | 34 => ⟨S8192x1024, .bf16⟩
  | 35 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S128x1024, .bf16⟩
  | .local _ .vmem, ⟨3, _⟩ => ⟨S128x1024, .bf16⟩
  | .local _ .vmem, ⟨4, _⟩ => ⟨S256x1024, .bf16⟩
  | .local _ .vmem, ⟨5, _⟩ => ⟨S256x1024, .bf16⟩
  | .local _ .vmem, ⟨6, _⟩ => ⟨S128x1024, .bf16⟩
  | .local _ .vmem, ⟨7, _⟩ => ⟨S128x1024, .bf16⟩
  | .local _ .vmem, ⟨8, _⟩ => ⟨S256x128, .f32⟩
  | .local _ .vmem, ⟨9, _⟩ => ⟨S256x128, .f32⟩
  | .local _ .vmem, ⟨10, _⟩ => ⟨S128x128, .f32⟩
  | .local _ .vmem, ⟨11, _⟩ => ⟨S128x128, .f32⟩
  | .local _ .vmem, ⟨12, _⟩ => ⟨S256x128, .f32⟩
  | .local _ .vmem, ⟨13, _⟩ => ⟨S256x128, .f32⟩
  | .local _ .vmem, ⟨14, _⟩ => ⟨S128x128, .f32⟩
  | .local _ .vmem, ⟨15, _⟩ => ⟨S128x128, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S128x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_14 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_c_15 : Ref sig .tc := ⟨.hbm, 155, rfl⟩
abbrev main_call1_v0 : Ref sig .tc := ⟨.hbm, 156, rfl⟩
abbrev main_v127 : Ref sig .tc := ⟨.hbm, 157, rfl⟩
abbrev main_c_16 : Ref sig .tc := ⟨.hbm, 158, rfl⟩
abbrev main_call2_v0 : Ref sig .tc := ⟨.hbm, 159, rfl⟩
abbrev main_v128 : Ref sig .tc := ⟨.hbm, 160, rfl⟩
abbrev main_v129_0 : Ref sig .tc := ⟨.hbm, 161, rfl⟩
abbrev main_v129_1 : Ref sig .tc := ⟨.hbm, 162, rfl⟩
abbrev main_v129_2 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c63_i32 : BitVec 32 := 63#32
  let v2 : BitVec 32 := Scalar.minsi v1 c63_i32
  let c0_i32 : BitVec 32 := 0#32
  let c0_i32_1 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x1024 : Shape := ⟨2, ![8192, 1024]⟩
abbrev S8192x8x128 : Shape := ⟨3, ![8192, 8, 128]⟩
abbrev S8192x8 : Shape := ⟨2, ![8192, 8]⟩
abbrev S8 : Shape := ⟨1, ![8]⟩
abbrev S_ : Shape := ⟨0, ![]⟩
abbrev S64x128x8x128 : Shape := ⟨4, ![64, 128, 8, 128]⟩
abbrev S1x128x8x128 : Shape := ⟨4, ![1, 128, 8, 128]⟩
abbrev S63x128x8x128 : Shape := ⟨4, ![63, 128, 8, 128]⟩
abbrev S64x256x8x128 : Shape := ⟨4, ![64, 256, 8, 128]⟩
abbrev S64x8x128x256 : Shape := ⟨4, ![64, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S8x1x1 : Shape := ⟨3, ![8, 1, 1]⟩
abbrev S8x128x256 : Shape := ⟨3, ![8, 128, 256]⟩
abbrev S1x8x128x256 : Shape := ⟨4, ![1, 8, 128, 256]⟩
abbrev S64x1x128x256 : Shape := ⟨4, ![64, 1, 128, 256]⟩
abbrev S64x8x128 : Shape := ⟨3, ![64, 8, 128]⟩
abbrev S64x8x128x1 : Shape := ⟨4, ![64, 8, 128, 1]⟩
abbrev S64x8x128x128 : Shape := ⟨4, ![64, 8, 128, 128]⟩
abbrev S64x128x8 : Shape := ⟨3, ![64, 128, 8]⟩
abbrev S64x128x8x1 : Shape := ⟨4, ![64, 128, 8, 1]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x128 : Shape := ⟨4, ![1, 8192, 8, 128]⟩
abbrev S3x8192x8x128 : Shape := ⟨4, ![3, 8192, 8, 128]⟩
abbrev S64x8x256x128 : Shape := ⟨4, ![64, 8, 256, 128]⟩

abbrev nBuf : Space → Nat
  | .hbm => 304
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S8192x8x128, .f32⟩
  | 5 => ⟨S8192x8, .f32⟩
  | 6 => ⟨S8192x8x128, .f32⟩
  | 7 => ⟨S8192x8, .f32⟩
  | 8 => ⟨S8192x1024, .f32⟩
  | 9 => ⟨S8192x8x128, .f32⟩
  | 10 => ⟨S8192x1024, .f32⟩
  | 11 => ⟨S8192x8x128, .f32⟩
  | 12 => ⟨S8192x1024, .f32⟩
  | 13 => ⟨S8192x8x128, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S64x128x8x128, .f32⟩
  | 28 => ⟨S64x128x8x128, .f32⟩
  | 29 => ⟨S1x128x8x128, .f32⟩
  | 30 => ⟨S_, .f32⟩
  | 31 => ⟨S1x128x8x128, .f32⟩
  | 32 => ⟨S63x128x8x128, .f32⟩
  | 33 => ⟨S64x128x8x128, .f32⟩
  | 34 => ⟨S_, .f32⟩
  | 35 => ⟨S1x128x8x128, .f32⟩
  | 36 => ⟨S64x256x8x128, .f32⟩
  | 37 => ⟨S64x128x8x128, .f32⟩
  | 38 => ⟨S1x128x8x128, .f32⟩
  | 39 => ⟨S_, .f32⟩
  | 40 => ⟨S1x128x8x128, .f32⟩
  | 41 => ⟨S63x128x8x128, .f32⟩
  | 42 => ⟨S64x128x8x128, .f32⟩
  | 43 => ⟨S_, .f32⟩
  | 44 => ⟨S1x128x8x128, .f32⟩
  | 45 => ⟨S64x256x8x128, .f32⟩
  | 46 => ⟨S64x8x128x256, .f32⟩
  | 47 => ⟨S_, .f32⟩
  | 48 => ⟨S64x8x128x256, .f32⟩
  | 49 => ⟨S64x8x128x256, .f32⟩
  | 50 => ⟨S128, .i32⟩
  | 51 => ⟨S128x1, .i32⟩
  | 52 => ⟨S256, .i32⟩
  | 53 => ⟨S1x256, .i32⟩
  | 54 => ⟨S128x256, .i32⟩
  | 55 => ⟨S128x256, .i32⟩
  | 56 => ⟨S128x256, .i32⟩
  | 57 => ⟨S_, .i32⟩
  | 58 => ⟨S128x256, .i32⟩
  | 59 => ⟨S128x256, .i32⟩
  | 60 => ⟨S64, .i32⟩
  | 61 => ⟨S64x1x1, .i32⟩
  | 62 => ⟨S_, .i32⟩
  | 63 => ⟨S64x1x1, .i32⟩
  | 64 => ⟨S64x1x1, .i32⟩
  | 65 => ⟨S_, .i32⟩
  | 66 => ⟨S64x1x1, .i32⟩
  | 67 => ⟨S64x1x1, .i32⟩
  | 68 => ⟨S1x1x256, .i32⟩
  | 69 => ⟨S64x1x256, .i32⟩
  | 70 => ⟨S64x1x256, .i32⟩
  | 71 => ⟨S64x1x256, .i32⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i1⟩
  | 78 => ⟨S128x256, .i1⟩
  | 79 => ⟨S_, .i32⟩
  | 80 => ⟨S64x1x256, .i32⟩
  | 81 => ⟨S64x1x256, .i1⟩
  | 82 => ⟨S1x128x256, .i1⟩
  | 83 => ⟨S64x128x256, .i1⟩
  | 84 => ⟨S64x128x256, .i1⟩
  | 85 => ⟨S64x128x256, .i1⟩
  | 86 => ⟨S8x1x1, .f32⟩
  | 87 => ⟨S8x1x1, .f32⟩
  | 88 => ⟨S128x256, .f32⟩
  | 89 => ⟨S1x128x256, .f32⟩
  | 90 => ⟨S8x128x256, .f32⟩
  | 91 => ⟨S8x128x256, .f32⟩
  | 92 => ⟨S8x128x256, .f32⟩
  | 93 => ⟨S1x8x128x256, .f32⟩
  | 94 => ⟨S64x8x128x256, .f32⟩
  | 95 => ⟨S64x8x128x256, .f32⟩
  | 96 => ⟨S64x1x128x256, .i1⟩
  | 97 => ⟨S_, .f32⟩
  | 98 => ⟨S_, .f32⟩
  | 99 => ⟨S64x8x128x256, .i1⟩
  | 100 => ⟨S64x8x128x256, .f32⟩
  | 101 => ⟨S64x8x128x256, .f32⟩
  | 102 => ⟨S_, .f32⟩
  | 103 => ⟨S64x8x128x256, .f32⟩
  | 104 => ⟨S_, .f32⟩
  | 105 => ⟨S64x8x128, .f32⟩
  | 106 => ⟨S64x8x128x1, .f32⟩
  | 107 => ⟨S64x8x128x256, .f32⟩
  | 108 => ⟨S64x8x128x256, .i1⟩
  | 109 => ⟨S64x8x128x256, .f32⟩
  | 110 => ⟨S_, .f32⟩
  | 111 => ⟨S64x8x128, .f32⟩
  | 112 => ⟨S64x8x128x1, .f32⟩
  | 113 => ⟨S64x8x128x256, .f32⟩
  | 114 => ⟨S64x8x128x256, .f32⟩
  | 115 => ⟨S64x8x128x256, .f32⟩
  | 116 => ⟨S_, .f32⟩
  | 117 => ⟨S64x8x128, .f32⟩
  | 118 => ⟨S64x8x128x1, .f32⟩
  | 119 => ⟨S64x8x128x128, .f32⟩
  | 120 => ⟨S64x128x8x128, .f32⟩
  | 121 => ⟨S64x8x128, .f32⟩
  | 122 => ⟨S64x128x8, .f32⟩
  | 123 => ⟨S64x8x128, .f32⟩
  | 124 => ⟨S64x128x8, .f32⟩
  | 125 => ⟨S64x128x8, .f32⟩
  | 126 => ⟨S64x128x8, .f32⟩
  | 127 => ⟨S64x128x8x1, .f32⟩
  | _ => ⟨S8192x1024, .bf16⟩

abbrev hbmTy0_1 (i : Nat) : BufTy := match i % 128 with
  | 0 => ⟨S64x128x8x128, .f32⟩
  | 1 => ⟨S64x128x8x128, .f32⟩
  | 2 => ⟨S64x128x8x1, .f32⟩
  | 3 => ⟨S_, .f32⟩
  | 4 => ⟨S64x128x8x1, .f32⟩
  | 5 => ⟨S64x128x8x1, .f32⟩
  | 6 => ⟨S8192x8x128, .f32⟩
  | 7 => ⟨S8192x8, .f32⟩
  | 8 => ⟨S1x8192x8, .f32⟩
  | 9 => ⟨S1x8192x8, .f32⟩
  | 10 => ⟨S1x8192x8, .f32⟩
  | 11 => ⟨S3x8192x8, .f32⟩
  | 12 => ⟨S_, .f32⟩
  | 13 => ⟨S8192x8, .f32⟩
  | 14 => ⟨S_, .f32⟩
  | 15 => ⟨S8192x8, .f32⟩
  | 16 => ⟨S_, .f32⟩
  | 17 => ⟨S8192x8, .f32⟩
  | 18 => ⟨S1x8192x8, .f32⟩
  | 19 => ⟨S3x8192x8, .f32⟩
  | 20 => ⟨S3x8192x8, .i1⟩
  | 21 => ⟨S3x8192x8, .f32⟩
  | 22 => ⟨S_, .f32⟩
  | 23 => ⟨S8192x8, .f32⟩
  | 24 => ⟨S_, .f32⟩
  | 25 => ⟨S8192x8, .f32⟩
  | 26 => ⟨S8192x8, .f32⟩
  | 27 => ⟨S_, .f32⟩
  | 28 => ⟨S8192x8, .f32⟩
  | 29 => ⟨S8192x8, .i1⟩
  | 30 => ⟨S_, .f32⟩
  | 31 => ⟨S8192x8, .f32⟩
  | 32 => ⟨S8192x8, .i1⟩
  | 33 => ⟨S_, .f32⟩
  | 34 => ⟨S8192x8, .f32⟩
  | 35 => ⟨S_, .f32⟩
  | 36 => ⟨S8192x8, .f32⟩
  | 37 => ⟨S_, .f32⟩
  | 38 => ⟨S8192x8, .f32⟩
  | 39 => ⟨S8192x8, .f32⟩
  | 40 => ⟨S8192x8, .f32⟩
  | 41 => ⟨S1x8192x8, .f32⟩
  | 42 => ⟨S3x8192x8, .f32⟩
  | 43 => ⟨S3x8192x8, .f32⟩
  | 44 => ⟨S3x8192x8, .f32⟩
  | 45 => ⟨S_, .f32⟩
  | 46 => ⟨S8192x8, .f32⟩
  | 47 => ⟨S1x8192x8, .f32⟩
  | 48 => ⟨S3x8192x8, .f32⟩
  | 49 => ⟨S3x8192x8, .f32⟩
  | 50 => ⟨S1x8192x8, .f32⟩
  | 51 => ⟨S_, .f32⟩
  | 52 => ⟨S1x8192x8, .f32⟩
  | 53 => ⟨S1x8192x8, .f32⟩
  | 54 => ⟨S3x8192x8x1, .f32⟩
  | 55 => ⟨S1x8192x8x128, .f32⟩
  | 56 => ⟨S1x8192x8x128, .f32⟩
  | 57 => ⟨S1x8192x8x128, .f32⟩
  | 58 => ⟨S3x8192x8x128, .f32⟩
  | 59 => ⟨S_, .f32⟩
  | 60 => ⟨S8192x8x128, .f32⟩
  | 61 => ⟨S_, .f32⟩
  | 62 => ⟨S8192x8x128, .f32⟩
  | 63 => ⟨S3x8192x8x128, .f32⟩
  | 64 => ⟨S3x8192x8x128, .f32⟩
  | 65 => ⟨S_, .f32⟩
  | 66 => ⟨S8192x8x128, .f32⟩
  | 67 => ⟨S8192x1024, .f32⟩
  | 68 => ⟨S8192x8x128, .f32⟩
  | 69 => ⟨S3x8192x8x128, .f32⟩
  | 70 => ⟨S3x8192x8x128, .f32⟩
  | 71 => ⟨S3x8192x8x128, .f32⟩
  | 72 => ⟨S3x8192x8x128, .f32⟩
  | 73 => ⟨S_, .f32⟩
  | 74 => ⟨S3x8192x8, .f32⟩
  | 75 => ⟨S3x8192x8x1, .f32⟩
  | 76 => ⟨S1x8192x8x128, .f32⟩
  | 77 => ⟨S8192x8x128, .f32⟩
  | 78 => ⟨S1x8192x8x128, .f32⟩
  | 79 => ⟨S8192x8x128, .f32⟩
  | 80 => ⟨S1x8192x8x128, .f32⟩
  | 81 => ⟨S8192x8x128, .f32⟩
  | 82 => ⟨S_, .f32⟩
  | 83 => ⟨S3x8192x8, .f32⟩
  | 84 => ⟨S3x8192x8, .f32⟩
  | 85 => ⟨S3x8192x8, .f32⟩
  | 86 => ⟨S3x8192x8, .f32⟩
  | 87 => ⟨S_, .f32⟩
  | 88 => ⟨S8192x8, .f32⟩
  | 89 => ⟨S1x8192x8, .f32⟩
  | 90 => ⟨S1x8192x8, .f32⟩
  | 91 => ⟨S3x8192x8, .f32⟩
  | 92 => ⟨S3x8192x8, .f32⟩
  | 93 => ⟨S_, .f32⟩
  | 94 => ⟨S8192x8, .f32⟩
  | 95 => ⟨S3x8192x8, .f32⟩
  | 96 => ⟨S3x8192x8, .f32⟩
  | 97 => ⟨S3x8192x8, .f32⟩
  | 98 => ⟨S1x8192x8, .f32⟩
  | 99 => ⟨S8192x8, .f32⟩
  | 100 => ⟨S1x8192x8, .f32⟩
  | 101 => ⟨S8192x8, .f32⟩
  | 102 => ⟨S1x8192x8, .f32⟩
  | 103 => ⟨S8192x8, .f32⟩
  | 104 => ⟨S64x128x8, .f32⟩
  | 105 => ⟨S64x128x8x128, .f32⟩
  | 106 => ⟨S64x128x8x128, .f32⟩
  | 107 => ⟨S64x128x8x128, .f32⟩
  | 108 => ⟨S64x128x8x128, .f32⟩
  | 109 => ⟨S_, .f32⟩
  | 110 => ⟨S64x128x8, .f32⟩
  | 111 => ⟨S64x128x8x1, .f32⟩
  | 112 => ⟨S64x128x8x1, .f32⟩
  | 113 => ⟨S64x128x8x128, .f32⟩
  | 114 => ⟨S64x128x8x128, .f32⟩
  | 115 => ⟨S_, .f32⟩
  | 116 => ⟨S64x128x8, .f32⟩
  | 117 => ⟨S64x128x8, .f32⟩
  | 118 => ⟨S64x128x8, .f32⟩
  | 119 => ⟨S64x8x128, .f32⟩
  | 120 => ⟨S64x8x128x1, .f32⟩
  | 121 => ⟨S64x8x128, .f32⟩
  | 122 => ⟨S64x8x128x1, .f32⟩
  | 123 => ⟨S64x8x128x128, .f32⟩
  | 124 => ⟨S64x8x128x256, .f32⟩
  | 125 => ⟨S64x8x128x256, .f32⟩
  | 126 => ⟨S64x256x8x128, .f32⟩
  | 127 => ⟨S_, .f32⟩
  | _ => ⟨S8192x1024, .bf16⟩

abbrev hbmTy0_2 (i : Nat) : BufTy := match i % 128 with
  | 0 => ⟨S64x8x128, .f32⟩
  | 1 => ⟨S64x8x128x256, .f32⟩
  | 2 => ⟨S64x8x128x256, .f32⟩
  | 3 => ⟨S64x8x128x256, .f32⟩
  | 4 => ⟨S64x8x128x256, .f32⟩
  | 5 => ⟨S_, .f32⟩
  | 6 => ⟨S64x8x128, .f32⟩
  | 7 => ⟨S64x8x128x1, .f32⟩
  | 8 => ⟨S64x8x128x1, .f32⟩
  | 9 => ⟨S_, .f32⟩
  | 10 => ⟨S64x8x128, .f32⟩
  | 11 => ⟨S64x8x128, .f32⟩
  | 12 => ⟨S64x8x128x256, .f32⟩
  | 13 => ⟨S64x8x128x256, .f32⟩
  | 14 => ⟨S64x8x128x256, .f32⟩
  | 15 => ⟨S_, .f32⟩
  | 16 => ⟨S64x8x128x256, .f32⟩
  | 17 => ⟨S64x8x128x256, .f32⟩
  | 18 => ⟨S_, .f32⟩
  | 19 => ⟨S64x8x128x256, .f32⟩
  | 20 => ⟨S64x8x128x256, .f32⟩
  | 21 => ⟨S64x8x256x128, .f32⟩
  | 22 => ⟨S64x256x8x128, .f32⟩
  | 23 => ⟨S64x8x128x128, .f32⟩
  | 24 => ⟨S64x128x8x128, .f32⟩
  | 25 => ⟨S64x128x8x128, .f32⟩
  | 26 => ⟨S64x128x8x128, .f32⟩
  | 27 => ⟨S1x128x8x128, .f32⟩
  | 28 => ⟨S63x128x8x128, .f32⟩
  | 29 => ⟨S_, .f32⟩
  | 30 => ⟨S64x128x8x128, .f32⟩
  | 31 => ⟨S64x128x8x128, .f32⟩
  | 32 => ⟨S8192x8x128, .f32⟩
  | 33 => ⟨S64x128x8x128, .f32⟩
  | 34 => ⟨S64x128x8x128, .f32⟩
  | 35 => ⟨S1x128x8x128, .f32⟩
  | 36 => ⟨S63x128x8x128, .f32⟩
  | 37 => ⟨S_, .f32⟩
  | 38 => ⟨S64x128x8x128, .f32⟩
  | 39 => ⟨S64x128x8x128, .f32⟩
  | 40 => ⟨S8192x8x128, .f32⟩
  | 41 => ⟨S8192x8x128, .f32⟩
  | 42 => ⟨S8192x1024, .f32⟩
  | 43 => ⟨S8192x1024, .bf16⟩
  | 44 => ⟨S8192x1024, .f32⟩
  | 45 => ⟨S8192x1024, .bf16⟩
  | 46 => ⟨S8192x1024, .f32⟩
  | 47 => ⟨S8192x1024, .bf16⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_call0_v0 : Ref sig .tc := ⟨.hbm, 98, rfl⟩
abbrev main_v74_1 : Ref sig .tc := ⟨.hbm, 99, rfl⟩
abbrev main_call0_v2 : Ref sig .tc := ⟨.hbm, 100, rfl⟩
abbrev main_v74_0 : Ref sig .tc := ⟨.hbm, 101, rfl⟩
abbrev main_call0_cst : Ref sig .tc := ⟨.hbm, 102, rfl⟩
abbrev main_v74_2 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_17 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_18 : Ref sig .tc := ⟨.hbm, 140, rfl⟩
abbrev main_v107 : Ref sig .tc := ⟨.hbm, 141, rfl⟩
abbrev main_cst_19 : Ref sig .tc := ⟨.hbm, 142, rfl⟩
abbrev main_v108 : Ref sig .tc := ⟨.hbm, 143, rfl⟩
abbrev main_cst_20 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_21 : Ref sig .tc := ⟨.hbm, 150, rfl⟩
abbrev main_v114 : Ref sig .tc := ⟨.hbm, 151, rfl⟩
abbrev main_cst_22 : Ref sig .tc := ⟨.hbm, 152, rfl⟩
abbrev main_v115 : Ref sig .tc := ⟨.hbm, 153, rfl⟩
abbrev main_v116 : Ref sig .tc := ⟨.hbm, 154, rfl⟩
abbrev main_cst_23 : Ref sig .tc := ⟨.hbm, 155, rfl⟩
abbrev main_v117 : Ref sig .tc := ⟨.hbm, 156, rfl⟩
abbrev main_v118 : Ref sig .tc := ⟨.hbm, 157, rfl⟩
abbrev main_cst_24 : Ref sig .tc := ⟨.hbm, 158, rfl⟩
abbrev main_v119 : Ref sig .tc := ⟨.hbm, 159, rfl⟩
abbrev main_v120 : Ref sig .tc := ⟨.hbm, 160, rfl⟩
abbrev main_cst_25 : Ref sig .tc := ⟨.hbm, 161, rfl⟩
abbrev main_v121 : Ref sig .tc := ⟨.hbm, 162, rfl⟩
abbrev main_cst_26 : Ref sig .tc := ⟨.hbm, 163, rfl⟩
abbrev main_v122 : Ref sig .tc := ⟨.hbm, 164, rfl⟩
abbrev main_cst_27 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_28 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_29 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_30 : Ref sig .tc := ⟨.hbm, 187, rfl⟩
abbrev main_v142 : Ref sig .tc := ⟨.hbm, 188, rfl⟩
abbrev main_cst_31 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_32 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_33 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_34 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_35 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_cst_36 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_37 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_cst_38 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_cst_39 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_40 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_41 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_call1_cst : Ref sig .tc := ⟨.hbm, 271, rfl⟩
abbrev main_call1_v0 : Ref sig .tc := ⟨.hbm, 272, rfl⟩
abbrev main_v214 : Ref sig .tc := ⟨.hbm, 273, rfl⟩
abbrev main_cst_42 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_cst_43 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_cst_44 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩

abbrev nD : Nat := 1
abbrev τ : Topo := Topo.v7x

variable {F : FTy → Type} [FloatOps F]
-- ==== Ff2Bwd.lean ====
abbrev S8192x8192 : Shape := ⟨2, ![8192, 8192]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2BwdRefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Ff2Wgrad.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2WgradRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Ff1Wgrad.lean ====
abbrev S8192x2048 : Shape := ⟨2, ![8192, 2048]⟩
abbrev S2048x8192 : Shape := ⟨2, ![2048, 8192]⟩
abbrev S8192x8192 : Shape := ⟨2, ![8192, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .hbm, ⟨3, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1WgradRefIdeal.lean ====
abbrev S8192x2048 : Shape := ⟨2, ![8192, 2048]⟩
abbrev S2048x8192 : Shape := ⟨2, ![2048, 8192]⟩
abbrev S8192x8192 : Shape := ⟨2, ![8192, 8192]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ff1Bwd.lean ====
abbrev S8192x2048 : Shape := ⟨2, ![8192, 2048]⟩
abbrev S2048x8192 : Shape := ⟨2, ![2048, 8192]⟩
abbrev S8192x8192 : Shape := ⟨2, ![8192, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .hbm, ⟨3, _⟩ => ⟨S2048x4x2048, .bf16⟩
  | .hbm, ⟨4, _⟩ => ⟨S4x2048x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1BwdRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1.lean ====
abbrev S8192x2048 : Shape := ⟨2, ![8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1RefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ff2.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixBwd.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixBwdRefIdeal.lean ====
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixWgrad.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWgradRefIdeal.lean ====
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mix.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== In.lean ====
abbrev S8192x2048 : Shape := ⟨2, ![8192, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InWgrad.lean ====
abbrev S8192x2048 : Shape := ⟨2, ![8192, 2048]⟩
abbrev S2048x4096 : Shape := ⟨2, ![2048, 4096]⟩
abbrev S8192x4096 : Shape := ⟨2, ![8192, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .hbm, ⟨3, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWgradRefIdeal.lean ====
abbrev S8192x2048 : Shape := ⟨2, ![8192, 2048]⟩
abbrev S2048x4096 : Shape := ⟨2, ![2048, 4096]⟩
abbrev S8192x4096 : Shape := ⟨2, ![8192, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x4x1024, .bf16⟩
  | .hbm, ⟨11, _⟩ => ⟨S4x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InBwd.lean ====
abbrev S8192x2048 : Shape := ⟨2, ![8192, 2048]⟩
abbrev S2048x4096 : Shape := ⟨2, ![2048, 4096]⟩
abbrev S8192x4096 : Shape := ⟨2, ![8192, 4096]⟩
abbrev S2048x4x1024 : Shape := ⟨3, ![2048, 4, 1024]⟩
abbrev S4x2048x1024 : Shape := ⟨3, ![4, 2048, 1024]⟩
abbrev S1024x1024 : Shape := ⟨2, ![1024, 1024]⟩
abbrev S1x2048x1024 : Shape := ⟨3, ![1, 2048, 1024]⟩
abbrev S1024x2048 : Shape := ⟨2, ![1024, 2048]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .hbm, ⟨3, _⟩ => ⟨S2048x4x1024, .bf16⟩
  | .hbm, ⟨4, _⟩ => ⟨S4x2048x1024, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwdRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x4096, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdaWgrad.lean ====
abbrev S8x2048 : Shape := ⟨2, ![8, 2048]⟩
abbrev S2048x3072 : Shape := ⟨2, ![2048, 3072]⟩
abbrev S8x3072 : Shape := ⟨2, ![8, 3072]⟩
abbrev S8x512 : Shape := ⟨2, ![8, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S8x3072, .f32⟩
  | .hbm, ⟨3, _⟩ => ⟨S2048x3072, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaWgradRefIdeal.lean ====
abbrev S8x2048 : Shape := ⟨2, ![8, 2048]⟩
abbrev S2048x3072 : Shape := ⟨2, ![2048, 3072]⟩
abbrev S8x3072 : Shape := ⟨2, ![8, 3072]⟩
abbrev S3072x2048 : Shape := ⟨2, ![3072, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x3072, .f32⟩
  | .hbm, ⟨2, _⟩ => ⟨S8x3072, .f32⟩
  | .hbm, ⟨3, _⟩ => ⟨S8x3072, .f32⟩
  | .hbm, ⟨4, _⟩ => ⟨S3072x2048, .f32⟩
  | .hbm, ⟨5, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamFf1.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFf1RefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFf2.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFf2RefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1024 : Shape := ⟨2, ![2048, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S2048x3072 : Shape := ⟨2, ![2048, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S288x1024 : Shape := ⟨2, ![288, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S288x1024, .f32⟩
  | .hbm, ⟨1, _⟩ => ⟨S288x1024, .f32⟩
  | .hbm, ⟨2, _⟩ => ⟨S288x1024, .f32⟩
  | .hbm, ⟨3, _⟩ => ⟨S288x1024, .f32⟩
  | .hbm, ⟨4, _⟩ => ⟨S288x1024, .f32⟩
  | .hbm, ⟨5, _⟩ => ⟨S288x1024, .f32⟩
  | .hbm, ⟨6, _⟩ => ⟨S288x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S288x1024 : Shape := ⟨2, ![288, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x1024, .f32⟩
  | .hbm, ⟨1, _⟩ => ⟨S288x1024, .f32⟩
  | .hbm, ⟨2, _⟩ => ⟨S288x1024, .f32⟩
  | .hbm, ⟨3, _⟩ => ⟨S288x1024, .f32⟩
  | .hbm, ⟨4, _⟩ => ⟨S_, .f32⟩
  | .hbm, ⟨5, _⟩ => ⟨S288x1024, .f32⟩
  | .hbm, ⟨6, _⟩ => ⟨S288x1024, .f32⟩
  | .hbm, ⟨7, _⟩ => ⟨S_, .f32⟩
  | .hbm, ⟨8, _⟩ => ⟨S288x1024, .f32⟩
  | .hbm, ⟨9, _⟩ => ⟨S288x1024, .f32⟩
  | .hbm, ⟨10, _⟩ => ⟨S288x1024, .f32⟩
  | .hbm, ⟨11, _⟩ => ⟨S_, .f32⟩
  | .hbm, ⟨12, _⟩ => ⟨S288x1024, .f32⟩
  | .hbm, ⟨13, _⟩ => ⟨S288x1024, .f32⟩
  | .hbm, ⟨14, _⟩ => ⟨S288x1024, .f32⟩
  | .hbm, ⟨15, _⟩ => ⟨S_, .f32⟩
  | .hbm, ⟨16, _⟩ => ⟨S288x1024, .f32⟩
  | .hbm, ⟨17, _⟩ => ⟨S288x1024, .f32⟩
  | .hbm, ⟨18, _⟩ => ⟨S288x1024, .f32⟩
  | .hbm, ⟨19, _⟩ => ⟨S_, .f32⟩
  | .hbm, ⟨20, _⟩ => ⟨S288x1024, .f32⟩
  | .hbm, ⟨21, _⟩ => ⟨S288x1024, .f32⟩
  | .hbm, ⟨22, _⟩ => ⟨S_, .f32⟩
  | .hbm, ⟨23, _⟩ => ⟨S288x1024, .f32⟩
  | .hbm, ⟨24, _⟩ => ⟨S288x1024, .f32⟩
  | .hbm, ⟨25, _⟩ => ⟨S288x1024, .f32⟩
  | .hbm, ⟨26, _⟩ => ⟨S_, .f32⟩
  | .hbm, ⟨27, _⟩ => ⟨S288x1024, .f32⟩
  | .hbm, ⟨28, _⟩ => ⟨S288x1024, .f32⟩
  | .hbm, ⟨29, _⟩ => ⟨S288x1024, .f32⟩
  | .hbm, ⟨30, _⟩ => ⟨S_, .f32⟩
  | .hbm, ⟨31, _⟩ => ⟨S288x1024, .f32⟩
  | .hbm, ⟨32, _⟩ => ⟨S288x1024, .f32⟩
  | .hbm, ⟨33, _⟩ => ⟨S288x1024, .f32⟩
  | .hbm, ⟨34, _⟩ => ⟨S_, .f32⟩
  | .hbm, ⟨35, _⟩ => ⟨S288x1024, .f32⟩
  | .hbm, ⟨36, _⟩ => ⟨S288x1024, .f32⟩
  | _, _ => ⟨S288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x288x1024 : Shape := ⟨3, ![8, 288, 1024]⟩
abbrev S288x1024 : Shape := ⟨2, ![288, 1024]⟩
abbrev S1x288x1024 : Shape := ⟨3, ![1, 288, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x288x1024, .f32⟩
  | .hbm, ⟨1, _⟩ => ⟨S288x1024, .f32⟩
  | .local _ .vmem, ⟨0, _⟩ => ⟨S8x288x1024, .f32⟩
  | .local _ .vmem, ⟨1, _⟩ => ⟨S288x1024, .f32⟩
  | _, _ => ⟨S8x288x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S288x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x288x1024 : Shape := ⟨3, ![8, 288, 1024]⟩
abbrev S_ : Shape := ⟨0, ![]⟩
abbrev S288x1024 : Shape := ⟨2, ![288, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x288x1024, .f32⟩
  | .hbm, ⟨1, _⟩ => ⟨S_, .f32⟩
  | .hbm, ⟨2, _⟩ => ⟨S288x1024, .f32⟩
  | _, _ => ⟨S8x288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prefix.lean ====
/- The kernel's host operations, in six stretches: the buffers that the later ones read, as the reference's own terms of the
   arguments where the two programs do the same, and as explicit terms over those for the rest. -/
module

public import proofs.«01_k».proof.Proof.Gen.KernelIdeal.Frame
public import proofs.«01_k».proof.Proof.Gen.ReferenceIdeal.Read

@[expose] public section

set_option maxRecDepth 16384

noncomputable section

namespace Cert.Prefix

open Cert.KernelIdeal Cert.KernelIdeal.Gen Idealize.ShloMosaic Idealize.ShloMosaic.TcCoe Idealize.SL.Sem Idealize.ShloMosaic.StableHlo

variable {F : FTy → Type} [FloatOps F]

/-- A block of rows before the blocks of rows. -/
def fnRows : (⟨S1x128x8x128, .f32⟩ : BufTy).Contents (Elt F) → (⟨S63x128x8x128, .f32⟩ : BufTy).Contents (Elt F) → (⟨S64x128x8x128, .f32⟩ : BufTy).Contents (Elt F) :=
  (fun a b => concatenate S64x128x8x128 0 [⟨S1x128x8x128, a⟩, ⟨S63x128x8x128, b⟩] concatenates_S1x128x8x128_S63x128x8x128_S64x128x8x128_d0)
/-- A block of rows before its own, side by side. -/
def fnPair : (⟨S64x128x8x128, .f32⟩ : BufTy).Contents (Elt F) → (⟨S64x128x8x128, .f32⟩ : BufTy).Contents (Elt F) → (⟨S64x256x8x128, .f32⟩ : BufTy).Contents (Elt F) :=
  (fun a b => concatenate S64x256x8x128 1 [⟨S64x128x8x128, a⟩, ⟨S64x128x8x128, b⟩] concatenates_S64x128x8x128_S64x128x8x128_S64x256x8x128_d1)

set_option maxHeartbeats 4000000 in
/-- Stretch 1 of the host operations. -/
abbrev seg1 : List (HloOp τ sig (Elt F)) :=
  ( StableHlo.unary main_arg0 main_v0 ((extf .f32 · bitsLt_bf16_f32) : (⟨S8192x1024, .bf16⟩ : BufTy).Contents (Elt F) → (⟨S8192x1024, .f32⟩ : BufTy).Contents (Elt F))
  :: StableHlo.reshape main_v0 main_v1 (rfl : (.f32 : EltTy) = .f32) shapeCasts_S8192x1024_S8192x8x128
  :: StableHlo.unary main_arg1 main_v2 ((extf .f32 · bitsLt_bf16_f32) : (⟨S8192x1024, .bf16⟩ : BufTy).Contents (Elt F) → (⟨S8192x1024, .f32⟩ : BufTy).Contents (Elt F))
  :: StableHlo.reshape main_v2 main_v3 (rfl : (.f32 : EltTy) = .f32) shapeCasts_S8192x1024_S8192x8x128
  :: StableHlo.unary main_arg2 main_v4 ((extf .f32 · bitsLt_bf16_f32) : (⟨S8192x1024, .bf16⟩ : BufTy).Contents (Elt F) → (⟨S8192x1024, .f32⟩ : BufTy).Contents (Elt F))
  :: StableHlo.reshape main_v4 main_v5 (rfl : (.f32 : EltTy) = .f32) shapeCasts_S8192x1024_S8192x8x128
  :: StableHlo.nullary main_v6 (sitofp .f32 (iotaInDim S8 32 0))
  :: StableHlo.nullary main_cst (constant S_ .f32 0x3F800000#32)
  :: StableHlo.unary main_cst main_v7 (broadcastInDim S8 ![] bcast_S_S8 : (⟨S_, .f32⟩ : BufTy).Contents (Elt F) → (⟨S8, .f32⟩ : BufTy).Contents (Elt F))
  :: StableHlo.binary main_v6 main_v7 main_v8 (addf : (⟨S8, .f32⟩ : BufTy).Contents (Elt F) → (⟨S8, .f32⟩ : BufTy).Contents (Elt F) → (⟨S8, .f32⟩ : BufTy).Contents (Elt F))
  :: StableHlo.nullary main_cst_0 (constant S_ .f32 0xC1000000#32)
  :: StableHlo.unary main_cst_0 main_v9 (broadcastInDim S8 ![] bcast_S_S8 : (⟨S_, .f32⟩ : BufTy).Contents (Elt F) → (⟨S8, .f32⟩ : BufTy).Contents (Elt F))
  :: StableHlo.binary main_v9 main_v8 main_v10 (mulf : (⟨S8, .f32⟩ : BufTy).Contents (Elt F) → (⟨S8, .f32⟩ : BufTy).Contents (Elt F) → (⟨S8, .f32⟩ : BufTy).Contents (Elt F))
  :: StableHlo.nullary main_cst_1 (constant S_ .f32 0x41000000#32)
  :: StableHlo.unary main_cst_1 main_v11 (broadcastInDim S8 ![] bcast_S_S8 : (⟨S_, .f32⟩ : BufTy).Contents (Elt F) → (⟨S8, .f32⟩ : BufTy).Contents (Elt F))
  :: StableHlo.binary main_v10 main_v11 main_v12 (Host.divf : (⟨S8, .f32⟩ : BufTy).Contents (Elt F) → (⟨S8, .f32⟩ : BufTy).Contents (Elt F) → (⟨S8, .f32⟩ : BufTy).Contents (Elt F))
  :: StableHlo.nullary main_cst_2 (constant S_ .f32 0x40000000#32)
  :: StableHlo.unary main_cst_2 main_v13 (broadcastInDim S8 ![] bcast_S_S8 : (⟨S_, .f32⟩ : BufTy).Contents (Elt F) → (⟨S8, .f32⟩ : BufTy).Contents (Elt F))
  :: StableHlo.binary main_v13 main_v12 main_v14 (Host.powf : (⟨S8, .f32⟩ : BufTy).Contents (Elt F) → (⟨S8, .f32⟩ : BufTy).Contents (Elt F) → (⟨S8, .f32⟩ : BufTy).Contents (Elt F))
  :: StableHlo.reshape main_v1 main_v15 (rfl : (.f32 : EltTy) = .f32) shapeCasts_S8192x8x128_S64x128x8x128
  :: StableHlo.reshape main_v3 main_v16 (rfl : (.f32 : EltTy) = .f32) shapeCasts_S8192x8x128_S64x128x8x128
  :: StableHlo.unary main_v16 main_v17 ((extractStridedSlice S1x128x8x128 ![0, 0, 0, 0] · slices_S64x128x8x128_S1x128x8x128_0_0_0_0) : (⟨S64x128x8x128, .f32⟩ : BufTy).Contents (Elt F) → (⟨S1x128x8x128, .f32⟩ : BufTy).Contents (Elt F))
  :: StableHlo.nullary main_cst_3 (constant S_ .f32 0x00000000#32)
  :: StableHlo.unary main_cst_3 main_v18 (broadcastInDim S1x128x8x128 ![] bcast_S_S1x128x8x128 : (⟨S_, .f32⟩ : BufTy).Contents (Elt F) → (⟨S1x128x8x128, .f32⟩ : BufTy).Contents (Elt F))
  :: StableHlo.unary main_v16 main_v19 ((extractStridedSlice S63x128x8x128 ![0, 0, 0, 0] · slices_S64x128x8x128_S63x128x8x128_0_0_0_0) : (⟨S64x128x8x128, .f32⟩ : BufTy).Contents (Elt F) → (⟨S63x128x8x128, .f32⟩ : BufTy).Contents (Elt F))
  :: StableHlo.binary main_v18 main_v19 main_v20 (fnRows : (⟨S1x128x8x128, .f32⟩ : BufTy).Contents (Elt F) → (⟨S63x128x8x128, .f32⟩ : BufTy).Contents (Elt F) → (⟨S64x128x8x128, .f32⟩ : BufTy).Contents (Elt F))
  :: StableHlo.binary main_v20 main_v16 main_v21 (fnPair : (⟨S64x128x8x128, .f32⟩ : BufTy).Contents (Elt F) → (⟨S64x128x8x128, .f32⟩ : BufTy).Contents (Elt F) → (⟨S64x256x8x128, .f32⟩ : BufTy).Contents (Elt F))
  :: StableHlo.reshape main_v5 main_v22 (rfl : (.f32 : EltTy) = .f32) shapeCasts_S8192x8x128_S64x128x8x128
  :: StableHlo.unary main_v22 main_v23 ((extractStridedSlice S1x128x8x128 ![0, 0, 0, 0] · slices_S64x128x8x128_S1x128x8x128_0_0_0_0) : (⟨S64x128x8x128, .f32⟩ : BufTy).Contents (Elt F) → (⟨S1x128x8x128, .f32⟩ : BufTy).Contents (Elt F))
  :: StableHlo.nullary main_cst_4 (constant S_ .f32 0x00000000#32)
  :: StableHlo.unary main_cst_4 main_v24 (broadcastInDim S1x128x8x128 ![] bcast_S_S1x128x8x128 : (⟨S_, .f32⟩ : BufTy).Contents (Elt F) → (⟨S1x128x8x128, .f32⟩ : BufTy).Contents (Elt F))
  :: StableHlo.unary main_v22 main_v25 ((extractStridedSlice S63x128x8x128 ![0, 0, 0, 0] · slices_S64x128x8x128_S63x128x8x128_0_0_0_0) : (⟨S64x128x8x128, .f32⟩ : BufTy).Contents (Elt F) → (⟨S63x128x8x128, .f32⟩ : BufTy).Contents (Elt F))
  :: StableHlo.binary main_v24 main_v25 main_v26 (fnRows : (⟨S1x128x8x128, .f32⟩ : BufTy).Contents (Elt F) → (⟨S63x128x8x128, .f32⟩ : BufTy).Contents (Elt F) → (⟨S64x128x8x128, .f32⟩ : BufTy).Contents (Elt F))
  :: StableHlo.binary main_v26 main_v22 main_v27 (fnPair : (⟨S64x128x8x128, .f32⟩ : BufTy).Contents (Elt F) → (⟨S64x128x8x128, .f32⟩ : BufTy).Contents (Elt F) → (⟨S64x256x8x128, .f32⟩ : BufTy).Contents (Elt F))
  :: StableHlo.binary main_v15 main_v21 main_v28 ((fun l r => Host.dotGeneral dot_S64x128x8x128_S64x256x8x128_S64x8x128x256_3_3_1_1_02_02 none l r) : (⟨S64x128x8x128, .f32⟩ : BufTy).Contents (Elt F) → (⟨S64x256x8x128, .f32⟩ : BufTy).Contents (Elt F) → (⟨S64x8x128x256, .f32⟩ : BufTy).Contents (Elt F))
  :: StableHlo.nullary main_cst_5 (constant S_ .f32 0x3DB504F3#32)
  :: StableHlo.unary main_cst_5 main_v29 (broadcastInDim S64x8x128x256 ![] bcast_S_S64x8x128x256 : (⟨S_, .f32⟩ : BufTy).Contents (Elt F) → (⟨S64x8x128x256, .f32⟩ : BufTy).Contents (Elt F))
  :: StableHlo.binary main_v28 main_v29 main_v30 (mulf : (⟨S64x8x128x256, .f32⟩ : BufTy).Contents (Elt F) → (⟨S64x8x128x256, .f32⟩ : BufTy).Contents (Elt F) → (⟨S64x8x128x256, .f32⟩ : BufTy).Contents (Elt F))
  :: [] )
/-- The buffers it writes. -/
abbrev seg1_W : List (Ref sig .tc) := [main_v0, main_v1, main_v2, main_v3, main_v4, main_v5, main_v6, main_cst, main_v7, main_v8, main_cst_0, main_v9, main_v10, main_cst_1, main_v11, main_v12, main_cst_2, main_v13, main_v14, main_v15, main_v16, main_v17, main_cst_3, main_v18, main_v19, main_v20, main_v21, main_v22, main_v23, main_cst_4, main_v24, main_v25, main_v26, main_v27, main_v28, main_cst_5, main_v29, main_v30]
set_option maxRecDepth 8192 in
theorem seg1_writes : (seg1 : List (HloOp τ sig (Elt F))).Forall fun op => op.writes ⊆ (seg1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, TRef.unary, TRef.binary, TRef.ternary, Finset.singleton_subset_iff, List.mem_toFinset]; exact List.mem_map_of_mem (by decide))
/-- A buffer that stretch 1 does not write keeps its contents through it. -/
theorem seg1_keep (V0 : Valuation τ sig (Elt F)) (r : Ref sig .tc) (h : r ∉ seg1_W) :
    after seg1 V0 (Proc.devRef .tc r) = V0 (Proc.devRef .tc r) :=
  after_of_writes_sub seg1 _ seg1_writes h
set_option maxHeartbeats 4000000 in
/-- Stretch 2 of the host operations. -/
abbrev seg2 : List (HloOp τ sig (Elt F)) :=
  ( StableHlo.nullary main_v31 (iotaInDim S128 32 0)
  :: StableHlo.unary main_v31 main_v32 (broadcastInDim S128x1 ![0] bcast_S128_S128x1_0 : (⟨S128, .i32⟩ : BufTy).Contents (Elt F) → (⟨S128x1, .i32⟩ : BufTy).Contents (Elt F))
  :: StableHlo.nullary main_v33 (iotaInDim S256 32 0)
  :: StableHlo.unary main_v33 main_v34 (broadcastInDim S1x256 ![1] bcast_S256_S1x256_1 : (⟨S256, .i32⟩ : BufTy).Contents (Elt F) → (⟨S1x256, .i32⟩ : BufTy).Contents (Elt F))
  :: StableHlo.unary main_v32 main_v35 (broadcastInDim S128x256 ![0, 1] bcast_S128x1_S128x256_0_1 : (⟨S128x1, .i32⟩ : BufTy).Contents (Elt F) → (⟨S128x256, .i32⟩ : BufTy).Contents (Elt F))
  :: StableHlo.unary main_v34 main_v36 (broadcastInDim S128x256 ![0, 1] bcast_S1x256_S128x256_0_1 : (⟨S1x256, .i32⟩ : BufTy).Contents (Elt F) → (⟨S128x256, .i32⟩ : BufTy).Contents (Elt F))
  :: StableHlo.binary main_v35 main_v36 main_v37 (subi : (⟨S128x256, .i32⟩ : BufTy).Contents (Elt F) → (⟨S128x256, .i32⟩ : BufTy).Contents (Elt F) → (⟨S128x256, .i32⟩ : BufTy).Contents (Elt F))
  :: StableHlo.nullary main_c (constantI S_ 32 128#32)
  :: StableHlo.unary main_c main_v38 (broadcastInDim S128x256 ![] bcast_S_S128x256 : (⟨S_, .i32⟩ : BufTy).Contents (Elt F) → (⟨S128x256, .i32⟩ : BufTy).Contents (Elt F))
  :: StableHlo.binary main_v37 main_v38 main_v39 (addi : (⟨S128x256, .i32⟩ : BufTy).Contents (Elt F) → (⟨S128x256, .i32⟩ : BufTy).Contents (Elt F) → (⟨S128x256, .i32⟩ : BufTy).Contents (Elt F))
  :: StableHlo.nullary main_v40 (iotaInDim S64 32 0)
  :: StableHlo.unary main_v40 main_v41 (broadcastInDim S64x1x1 ![0] bcast_S64_S64x1x1_0 : (⟨S64, .i32⟩ : BufTy).Contents (Elt F) → (⟨S64x1x1, .i32⟩ : BufTy).Contents (Elt F))
  :: StableHlo.nullary main_c_6 (constantI S_ 32 128#32)
  :: StableHlo.unary main_c_6 main_v42 (broadcastInDim S64x1x1 ![] bcast_S_S64x1x1 : (⟨S_, .i32⟩ : BufTy).Contents (Elt F) → (⟨S64x1x1, .i32⟩ : BufTy).Contents (Elt F))
  :: StableHlo.binary main_v41 main_v42 main_v43 (muli : (⟨S64x1x1, .i32⟩ : BufTy).Contents (Elt F) → (⟨S64x1x1, .i32⟩ : BufTy).Contents (Elt F) → (⟨S64x1x1, .i32⟩ : BufTy).Contents (Elt F))
  :: StableHlo.nullary main_c_7 (constantI S_ 32 128#32)
  :: StableHlo.unary main_c_7 main_v44 (broadcastInDim S64x1x1 ![] bcast_S_S64x1x1 : (⟨S_, .i32⟩ : BufTy).Contents (Elt F) → (⟨S64x1x1, .i32⟩ : BufTy).Contents (Elt F))
  :: StableHlo.binary main_v43 main_v44 main_v45 (subi : (⟨S64x1x1, .i32⟩ : BufTy).Contents (Elt F) → (⟨S64x1x1, .i32⟩ : BufTy).Contents (Elt F) → (⟨S64x1x1, .i32⟩ : BufTy).Contents (Elt F))
  :: StableHlo.unary main_v34 main_v46 (broadcastInDim S1x1x256 ![1, 2] bcast_S1x256_S1x1x256_1_2 : (⟨S1x256, .i32⟩ : BufTy).Contents (Elt F) → (⟨S1x1x256, .i32⟩ : BufTy).Contents (Elt F))
  :: StableHlo.unary main_v45 main_v47 (broadcastInDim S64x1x256 ![0, 1, 2] bcast_S64x1x1_S64x1x256_0_1_2 : (⟨S64x1x1, .i32⟩ : BufTy).Contents (Elt F) → (⟨S64x1x256, .i32⟩ : BufTy).Contents (Elt F))
  :: StableHlo.unary main_v46 main_v48 (broadcastInDim S64x1x256 ![0, 1, 2] bcast_S1x1x256_S64x1x256_0_1_2 : (⟨S1x1x256, .i32⟩ : BufTy).Contents (Elt F) → (⟨S64x1x256, .i32⟩ : BufTy).Contents (Elt F))
  :: StableHlo.binary main_v47 main_v48 main_v49 (addi : (⟨S64x1x256, .i32⟩ : BufTy).Contents (Elt F) → (⟨S64x1x256, .i32⟩ : BufTy).Contents (Elt F) → (⟨S64x1x256, .i32⟩ : BufTy).Contents (Elt F))
  :: StableHlo.nullary main_c_8 (constantI S_ 32 0#32)
  :: StableHlo.unary main_c_8 main_v50 (broadcastInDim S128x256 ![] bcast_S_S128x256 : (⟨S_, .i32⟩ : BufTy).Contents (Elt F) → (⟨S128x256, .i32⟩ : BufTy).Contents (Elt F))
  :: StableHlo.binary main_v39 main_v50 main_v51 (cmpi .sge : (⟨S128x256, .i32⟩ : BufTy).Contents (Elt F) → (⟨S128x256, .i32⟩ : BufTy).Contents (Elt F) → (⟨S128x256, .i1⟩ : BufTy).Contents (Elt F))
  :: StableHlo.nullary main_c_9 (constantI S_ 32 128#32)
  :: StableHlo.unary main_c_9 main_v52 (broadcastInDim S128x256 ![] bcast_S_S128x256 : (⟨S_, .i32⟩ : BufTy).Contents (Elt F) → (⟨S128x256, .i32⟩ : BufTy).Contents (Elt F))
  :: StableHlo.binary main_v39 main_v52 main_v53 (cmpi .sle : (⟨S128x256, .i32⟩ : BufTy).Contents (Elt F) → (⟨S128x256, .i32⟩ : BufTy).Contents (Elt F) → (⟨S128x256, .i1⟩ : BufTy).Contents (Elt F))
  :: StableHlo.binary main_v51 main_v53 main_v54 (andi : (⟨S128x256, .i1⟩ : BufTy).Contents (Elt F) → (⟨S128x256, .i1⟩ : BufTy).Contents (Elt F) → (⟨S128x256, .i1⟩ : BufTy).Contents (Elt F))
  :: StableHlo.nullary main_c_10 (constantI S_ 32 0#32)
  :: StableHlo.unary main_c_10 main_v55 (broadcastInDim S64x1x256 ![] bcast_S_S64x1x256 : (⟨S_, .i32⟩ : BufTy).Contents (Elt F) → (⟨S64x1x256, .i32⟩ : BufTy).Contents (Elt F))
  :: StableHlo.binary main_v49 main_v55 main_v56 (cmpi .sge : (⟨S64x1x256, .i32⟩ : BufTy).Contents (Elt F) → (⟨S64x1x256, .i32⟩ : BufTy).Contents (Elt F) → (⟨S64x1x256, .i1⟩ : BufTy).Contents (Elt F))
  :: StableHlo.unary main_v54 main_v57 (broadcastInDim S1x128x256 ![1, 2] bcast_S128x256_S1x128x256_1_2 : (⟨S128x256, .i1⟩ : BufTy).Contents (Elt F) → (⟨S1x128x256, .i1⟩ : BufTy).Contents (Elt F))
  :: StableHlo.unary main_v57 main_v58 (broadcastInDim S64x128x256 ![0, 1, 2] bcast_S1x128x256_S64x128x256_0_1_2 : (⟨S1x128x256, .i1⟩ : BufTy).Contents (Elt F) → (⟨S64x128x256, .i1⟩ : BufTy).Contents (Elt F))
  :: StableHlo.unary main_v56 main_v59 (broadcastInDim S64x128x256 ![0, 1, 2] bcast_S64x1x256_S64x128x256_0_1_2 : (⟨S64x1x256, .i1⟩ : BufTy).Contents (Elt F) → (⟨S64x128x256, .i1⟩ : BufTy).Contents (Elt F))
  :: StableHlo.binary main_v58 main_v59 main_v60 (andi : (⟨S64x128x256, .i1⟩ : BufTy).Contents (Elt F) → (⟨S64x128x256, .i1⟩ : BufTy).Contents (Elt F) → (⟨S64x128x256, .i1⟩ : BufTy).Contents (Elt F))
  :: StableHlo.unary main_v14 main_v61 (broadcastInDim S8x1x1 ![0] bcast_S8_S8x1x1_0 : (⟨S8, .f32⟩ : BufTy).Contents (Elt F) → (⟨S8x1x1, .f32⟩ : BufTy).Contents (Elt F))
  :: StableHlo.unary main_v61 main_v62 (Host.negf : (⟨S8x1x1, .f32⟩ : BufTy).Contents (Elt F) → (⟨S8x1x1, .f32⟩ : BufTy).Contents (Elt F))
  :: StableHlo.unary main_v39 main_v63 (sitofp .f32 : (⟨S128x256, .i32⟩ : BufTy).Contents (Elt F) → (⟨S128x256, .f32⟩ : BufTy).Contents (Elt F))
  :: StableHlo.unary main_v63 main_v64 (broadcastInDim S1x128x256 ![1, 2] bcast_S128x256_S1x128x256_1_2 : (⟨S128x256, .f32⟩ : BufTy).Contents (Elt F) → (⟨S1x128x256, .f32⟩ : BufTy).Contents (Elt F))
  :: StableHlo.unary main_v62 main_v65 (broadcastInDim S8x128x256 ![0, 1, 2] bcast_S8x1x1_S8x128x256_0_1_2 : (⟨S8x1x1, .f32⟩ : BufTy).Contents (Elt F) → (⟨S8x128x256, .f32⟩ : BufTy).Contents (Elt F))
  :: StableHlo.unary main_v64 main_v66 (broadcastInDim S8x128x256 ![0, 1, 2] bcast_S1x128x256_S8x128x256_0_1_2 : (⟨S1x128x256, .f32⟩ : BufTy).Contents (Elt F) → (⟨S8x128x256, .f32⟩ : BufTy).Contents (Elt F))
  :: StableHlo.binary main_v65 main_v66 main_v67 (mulf : (⟨S8x128x256, .f32⟩ : BufTy).Contents (Elt F) → (⟨S8x128x256, .f32⟩ : BufTy).Contents (Elt F) → (⟨S8x128x256, .f32⟩ : BufTy).Contents (Elt F))
  :: StableHlo.unary main_v67 main_v68 (broadcastInDim S1x8x128x256 ![1, 2, 3] bcast_S8x128x256_S1x8x128x256_1_2_3 : (⟨S8x128x256, .f32⟩ : BufTy).Contents (Elt F) → (⟨S1x8x128x256, .f32⟩ : BufTy).Contents (Elt F))
  :: StableHlo.unary main_v68 main_v69 (broadcastInDim S64x8x128x256 ![0, 1, 2, 3] bcast_S1x8x128x256_S64x8x128x256_0_1_2_3 : (⟨S1x8x128x256, .f32⟩ : BufTy).Contents (Elt F) → (⟨S64x8x128x256, .f32⟩ : BufTy).Contents (Elt F))
  :: StableHlo.binary main_v30 main_v69 main_v70 (addf : (⟨S64x8x128x256, .f32⟩ : BufTy).Contents (Elt F) → (⟨S64x8x128x256, .f32⟩ : BufTy).Contents (Elt F) → (⟨S64x8x128x256, .f32⟩ : BufTy).Contents (Elt F))
  :: StableHlo.unary main_v60 main_v71 (broadcastInDim S64x1x128x256 ![0, 2, 3] bcast_S64x128x256_S64x1x128x256_0_2_3 : (⟨S64x128x256, .i1⟩ : BufTy).Contents (Elt F) → (⟨S64x1x128x256, .i1⟩ : BufTy).Contents (Elt F))
  :: StableHlo.nullary main_cst_11 (constant S_ .f32 0xFF800000#32)
  :: [] )
/-- The buffers it writes. -/
abbrev seg2_W : List (Ref sig .tc) := [main_v31, main_v32, main_v33, main_v34, main_v35, main_v36, main_v37, main_c, main_v38, main_v39, main_v40, main_v41, main_c_6, main_v42, main_v43, main_c_7, main_v44, main_v45, main_v46, main_v47, main_v48, main_v49, main_c_8, main_v50, main_v51, main_c_9, main_v52, main_v53, main_v54, main_c_10, main_v55, main_v56, main_v57, main_v58, main_v59, main_v60, main_v61, main_v62, main_v63, main_v64, main_v65, main_v66, main_v67, main_v68, main_v69, main_v70, main_v71, main_cst_11]
set_option maxRecDepth 8192 in
theorem seg2_writes : (seg2 : List (HloOp τ sig (Elt F))).Forall fun op => op.writes ⊆ (seg2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, TRef.unary, TRef.binary, TRef.ternary, Finset.singleton_subset_iff, List.mem_toFinset]; exact List.mem_map_of_mem (by decide))
/-- A buffer that stretch 2 does not write keeps its contents through it. -/
theorem seg2_keep (V0 : Valuation τ sig (Elt F)) (r : Ref sig .tc) (h : r ∉ seg2_W) :
    after seg2 V0 (Proc.devRef .tc r) = V0 (Proc.devRef .tc r) :=
  after_of_writes_sub seg2 _ seg2_writes h
set_option maxHeartbeats 4000000 in
/-- Stretch 3 of the host operations. -/
abbrev seg3 : List (HloOp τ sig (Elt F)) :=
  ( StableHlo.TRef.unary (.of main_cst_11 : StableHlo.TRef sig ⟨S_, .f32⟩) (.of main_call0_v0 : StableHlo.TRef sig ⟨S_, .f32⟩) id
  :: StableHlo.TRef.unary (.of main_v71 : StableHlo.TRef sig ⟨S64x1x128x256, .i1⟩) (.of main_call0_v1 : StableHlo.TRef sig ⟨S64x8x128x256, .i1⟩) (broadcastInDim S64x8x128x256 ![0, 1, 2, 3] bcast_S64x1x128x256_S64x8x128x256_0_1_2_3)
  :: StableHlo.TRef.unary (.of main_call0_v0 : StableHlo.TRef sig ⟨S_, .f32⟩) (.of main_call0_v2 : StableHlo.TRef sig ⟨S64x8x128x256, .f32⟩) (broadcastInDim S64x8x128x256 ![] bcast_S_S64x8x128x256)
  :: StableHlo.TRef.ternary (.of main_call0_v1 : StableHlo.TRef sig ⟨S64x8x128x256, .i1⟩) (.of main_v70 : StableHlo.TRef sig ⟨S64x8x128x256, .f32⟩) (.of main_call0_v2 : StableHlo.TRef sig ⟨S64x8x128x256, .f32⟩) (.of main_v72 : StableHlo.TRef sig ⟨S64x8x128x256, .f32⟩) select
  :: StableHlo.nullary main_cst_12 (constant S_ .f32 0xFF800000#32)
  :: StableHlo.binary main_v72 main_cst_12 main_v73 ((fun x v => Host.reduce FloatOps.maximumf x v reducesTo_S64x8x128x256_S64x8x128_d3 h_S_) : (⟨S64x8x128x256, .f32⟩ : BufTy).Contents (Elt F) → (⟨S_, .f32⟩ : BufTy).Contents (Elt F) → (⟨S64x8x128, .f32⟩ : BufTy).Contents (Elt F))
  :: StableHlo.unary main_v73 main_v74 (broadcastInDim S64x8x128x1 ![0, 1, 2] bcast_S64x8x128_S64x8x128x1_0_1_2 : (⟨S64x8x128, .f32⟩ : BufTy).Contents (Elt F) → (⟨S64x8x128x1, .f32⟩ : BufTy).Contents (Elt F))
  :: StableHlo.unary main_v74 main_v75 (broadcastInDim S64x8x128x256 ![0, 1, 2, 3] bcast_S64x8x128x1_S64x8x128x256_0_1_2_3 : (⟨S64x8x128x1, .f32⟩ : BufTy).Contents (Elt F) → (⟨S64x8x128x256, .f32⟩ : BufTy).Contents (Elt F))
  :: StableHlo.binary main_v72 main_v75 main_v76 (subf : (⟨S64x8x128x256, .f32⟩ : BufTy).Contents (Elt F) → (⟨S64x8x128x256, .f32⟩ : BufTy).Contents (Elt F) → (⟨S64x8x128x256, .f32⟩ : BufTy).Contents (Elt F))
  :: StableHlo.unary main_v76 main_v77 (Host.exp : (⟨S64x8x128x256, .f32⟩ : BufTy).Contents (Elt F) → (⟨S64x8x128x256, .f32⟩ : BufTy).Contents (Elt F))
  :: StableHlo.nullary main_cst_13 (constant S_ .f32 0x00000000#32)
  :: StableHlo.binary main_v77 main_cst_13 main_v78 ((fun x v => Host.reduceAdd x v reducesTo_S64x8x128x256_S64x8x128_d3 h_S_) : (⟨S64x8x128x256, .f32⟩ : BufTy).Contents (Elt F) → (⟨S_, .f32⟩ : BufTy).Contents (Elt F) → (⟨S64x8x128, .f32⟩ : BufTy).Contents (Elt F))
  :: StableHlo.unary main_v78 main_v79 (broadcastInDim S64x8x128x1 ![0, 1, 2] bcast_S64x8x128_S64x8x128x1_0_1_2 : (⟨S64x8x128, .f32⟩ : BufTy).Contents (Elt F) → (⟨S64x8x128x1, .f32⟩ : BufTy).Contents (Elt F))
  :: StableHlo.binary main_v27 main_v77 main_v80 ((fun l r => Host.dotGeneral dot_S64x256x8x128_S64x8x128x256_S64x8x128x128_1_3_3_2_02_01 none l r) : (⟨S64x256x8x128, .f32⟩ : BufTy).Contents (Elt F) → (⟨S64x8x128x256, .f32⟩ : BufTy).Contents (Elt F) → (⟨S64x8x128x128, .f32⟩ : BufTy).Contents (Elt F))
  :: StableHlo.unary main_v80 main_v81 ((transpose S64x128x8x128 [0, 3, 1, 2] · transposes_S64x8x128x128_S64x128x8x128_0_3_1_2) : (⟨S64x8x128x128, .f32⟩ : BufTy).Contents (Elt F) → (⟨S64x128x8x128, .f32⟩ : BufTy).Contents (Elt F))
  :: StableHlo.reshape main_v79 main_v82 (rfl : (.f32 : EltTy) = .f32) shapeCasts_S64x8x128x1_S64x8x128
  :: StableHlo.unary main_v82 main_v83 ((transpose S64x128x8 [0, 2, 1] · transposes_S64x8x128_S64x128x8_0_2_1) : (⟨S64x8x128, .f32⟩ : BufTy).Contents (Elt F) → (⟨S64x128x8, .f32⟩ : BufTy).Contents (Elt F))
  :: StableHlo.reshape main_v74 main_v84 (rfl : (.f32 : EltTy) = .f32) shapeCasts_S64x8x128x1_S64x8x128
  :: StableHlo.unary main_v84 main_v85 ((transpose S64x128x8 [0, 2, 1] · transposes_S64x8x128_S64x128x8_0_2_1) : (⟨S64x8x128, .f32⟩ : BufTy).Contents (Elt F) → (⟨S64x128x8, .f32⟩ : BufTy).Contents (Elt F))
  :: StableHlo.unary main_v83 main_v86 (Host.log : (⟨S64x128x8, .f32⟩ : BufTy).Contents (Elt F) → (⟨S64x128x8, .f32⟩ : BufTy).Contents (Elt F))
  :: StableHlo.binary main_v85 main_v86 main_v87 (addf : (⟨S64x128x8, .f32⟩ : BufTy).Contents (Elt F) → (⟨S64x128x8, .f32⟩ : BufTy).Contents (Elt F) → (⟨S64x128x8, .f32⟩ : BufTy).Contents (Elt F))
  :: StableHlo.unary main_v83 main_v88 (broadcastInDim S64x128x8x1 ![0, 1, 2] bcast_S64x128x8_S64x128x8x1_0_1_2 : (⟨S64x128x8, .f32⟩ : BufTy).Contents (Elt F) → (⟨S64x128x8x1, .f32⟩ : BufTy).Contents (Elt F))
  :: StableHlo.unary main_v88 main_v89 (broadcastInDim S64x128x8x128 ![0, 1, 2, 3] bcast_S64x128x8x1_S64x128x8x128_0_1_2_3 : (⟨S64x128x8x1, .f32⟩ : BufTy).Contents (Elt F) → (⟨S64x128x8x128, .f32⟩ : BufTy).Contents (Elt F))
  :: StableHlo.binary main_v81 main_v89 main_v90 (Host.divf : (⟨S64x128x8x128, .f32⟩ : BufTy).Contents (Elt F) → (⟨S64x128x8x128, .f32⟩ : BufTy).Contents (Elt F) → (⟨S64x128x8x128, .f32⟩ : BufTy).Contents (Elt F))
  :: StableHlo.reshape main_v90 main_v91 (rfl : (.f32 : EltTy) = .f32) shapeCasts_S64x128x8x128_S8192x8x128
  :: StableHlo.reshape main_v87 main_v92 (rfl : (.f32 : EltTy) = .f32) shapeCasts_S64x128x8_S8192x8
  :: [] )
/-- The buffers it writes. -/
abbrev seg3_W : List (Ref sig .tc) := [main_call0_v0, main_call0_v1, main_call0_v2, main_v72, main_cst_12, main_v73, main_v74, main_v75, main_v76, main_v77, main_cst_13, main_v78, main_v79, main_v80, main_v81, main_v82, main_v83, main_v84, main_v85, main_v86, main_v87, main_v88, main_v89, main_v90, main_v91, main_v92]
set_option maxRecDepth 8192 in
theorem seg3_writes : (seg3 : List (HloOp τ sig (Elt F))).Forall fun op => op.writes ⊆ (seg3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, TRef.unary, TRef.binary, TRef.ternary, Finset.singleton_subset_iff, List.mem_toFinset]; exact List.mem_map_of_mem (by decide))
/-- A buffer that stretch 3 does not write keeps its contents through it. -/
theorem seg3_keep (V0 : Valuation τ sig (Elt F)) (r : Ref sig .tc) (h : r ∉ seg3_W) :
    after seg3 V0 (Proc.devRef .tc r) = V0 (Proc.devRef .tc r) :=
  after_of_writes_sub seg3 _ seg3_writes h
set_option maxHeartbeats 4000000 in
/-- Stretch 4 of the host operations. -/
abbrev seg4 : List (HloOp τ sig (Elt F)) :=
  ( StableHlo.binary main_v92 main_arg5 main_v93 (maximumf : (⟨S8192x8, .f32⟩ : BufTy).Contents (Elt F) → (⟨S8192x8, .f32⟩ : BufTy).Contents (Elt F) → (⟨S8192x8, .f32⟩ : BufTy).Contents (Elt F))
  :: StableHlo.binary main_v93 main_arg7 main_v94 (maximumf : (⟨S8192x8, .f32⟩ : BufTy).Contents (Elt F) → (⟨S8192x8, .f32⟩ : BufTy).Contents (Elt F) → (⟨S8192x8, .f32⟩ : BufTy).Contents (Elt F))
  :: StableHlo.binary main_v92 main_v94 main_v95 (subf : (⟨S8192x8, .f32⟩ : BufTy).Contents (Elt F) → (⟨S8192x8, .f32⟩ : BufTy).Contents (Elt F) → (⟨S8192x8, .f32⟩ : BufTy).Contents (Elt F))
  :: StableHlo.unary main_v95 main_v96 (Host.exp : (⟨S8192x8, .f32⟩ : BufTy).Contents (Elt F) → (⟨S8192x8, .f32⟩ : BufTy).Contents (Elt F))
  :: StableHlo.binary main_arg5 main_v94 main_v97 (subf : (⟨S8192x8, .f32⟩ : BufTy).Contents (Elt F) → (⟨S8192x8, .f32⟩ : BufTy).Contents (Elt F) → (⟨S8192x8, .f32⟩ : BufTy).Contents (Elt F))
  :: StableHlo.unary main_v97 main_v98 (Host.exp : (⟨S8192x8, .f32⟩ : BufTy).Contents (Elt F) → (⟨S8192x8, .f32⟩ : BufTy).Contents (Elt F))
  :: StableHlo.binary main_v96 main_v98 main_v99 (addf : (⟨S8192x8, .f32⟩ : BufTy).Contents (Elt F) → (⟨S8192x8, .f32⟩ : BufTy).Contents (Elt F) → (⟨S8192x8, .f32⟩ : BufTy).Contents (Elt F))
  :: StableHlo.binary main_arg7 main_v94 main_v100 (subf : (⟨S8192x8, .f32⟩ : BufTy).Contents (Elt F) → (⟨S8192x8, .f32⟩ : BufTy).Contents (Elt F) → (⟨S8192x8, .f32⟩ : BufTy).Contents (Elt F))
  :: StableHlo.unary main_v100 main_v101 (Host.exp : (⟨S8192x8, .f32⟩ : BufTy).Contents (Elt F) → (⟨S8192x8, .f32⟩ : BufTy).Contents (Elt F))
  :: StableHlo.binary main_v99 main_v101 main_v102 (addf : (⟨S8192x8, .f32⟩ : BufTy).Contents (Elt F) → (⟨S8192x8, .f32⟩ : BufTy).Contents (Elt F) → (⟨S8192x8, .f32⟩ : BufTy).Contents (Elt F))
  :: StableHlo.unary main_v102 main_v103 (Host.log : (⟨S8192x8, .f32⟩ : BufTy).Contents (Elt F) → (⟨S8192x8, .f32⟩ : BufTy).Contents (Elt F))
  :: StableHlo.binary main_v94 main_v103 main_v104 (addf : (⟨S8192x8, .f32⟩ : BufTy).Contents (Elt F) → (⟨S8192x8, .f32⟩ : BufTy).Contents (Elt F) → (⟨S8192x8, .f32⟩ : BufTy).Contents (Elt F))
  :: [] )
/-- The buffers it writes. -/
abbrev seg4_W : List (Ref sig .tc) := [main_v93, main_v94, main_v95, main_v96, main_v97, main_v98, main_v99, main_v100, main_v101, main_v102, main_v103, main_v104]
set_option maxRecDepth 8192 in
theorem seg4_writes : (seg4 : List (HloOp τ sig (Elt F))).Forall fun op => op.writes ⊆ (seg4_W.map (Proc.devRef (τ := τ) .tc)).toFinset := by
  simp only [List.Forall]; refine ⟨?_, ?_, ?_, ?_, ?_, ?_, ?_, ?_, ?_, ?_, ?_, ?_⟩ <;> (simp only [nullary_writes, unary_writes, binary_writes, ternary_writes, reshape_writes, TRef.unary, TRef.binary, TRef.ternary, Finset.singleton_subset_iff, List.mem_toFinset]; exact List.mem_map_of_mem (by decide))
/-- A buffer that stretch 4 does not write keeps its contents through it. -/
theorem seg4_keep (V0 : Valuation τ sig (Elt F)) (r : Ref sig .tc) (h : r ∉ seg4_W) :
    after seg4 V0 (Proc.devRef .tc r) = V0 (Proc.devRef .tc r) :=
  after_of_writes_sub seg4 _ seg4_writes h
set_option maxHeartbeats 4000000 in
/-- Stretch 5 of the host operations. -/
abbrev seg5 : List (HloOp τ sig (Elt F)) :=
  ( StableHlo.binary main_v92 main_v104 main_v105 (subf : (⟨S8192x8, .f32⟩ : BufTy).Contents (Elt F) → (⟨S8192x8, .f32⟩ : BufTy).Contents (Elt F) → (⟨S8192x8, .f32⟩ : BufTy).Contents (Elt F))
  :: StableHlo.unary main_v105 main_v106 (Host.exp : (⟨S8192x8, .f32⟩ : BufTy).Contents (Elt F) → (⟨S8192x8, .f32⟩ : BufTy).Contents (Elt F))
  :: StableHlo.unary main_v106 main_v107 (broadcastInDim S8192x8x1 ![0, 1] bcast_S8192x8_S8192x8x1_0_1 : (⟨S8192x8, .f32⟩ : BufTy).Contents (Elt F) → (⟨S8192x8x1, .f32⟩ : BufTy).Contents (Elt F))
  :: StableHlo.unary main_v107 main_v108 (broadcastInDim S8192x8x128 ![0, 1, 2] bcast_S8192x8x1_S8192x8x128_0_1_2 : (⟨S8192x8x1, .f32⟩ : BufTy).Contents (Elt F) → (⟨S8192x8x128, .f32⟩ : BufTy).Contents (Elt F))
  :: StableHlo.binary main_v108 main_v91 main_v109 (mulf : (⟨S8192x8x128, .f32⟩ : BufTy).Contents (Elt F) → (⟨S8192x8x128, .f32⟩ : BufTy).Contents (Elt F) → (⟨S8192x8x128, .f32⟩ : BufTy).Contents (Elt F))
  :: StableHlo.nullary main_cst_14 (constant S_ .f32 0x00000000#32)
  :: StableHlo.unary main_cst_14 main_v110 (broadcastInDim S8192x8x128 ![] bcast_S_S8192x8x128 : (⟨S_, .f32⟩ : BufTy).Contents (Elt F) → (⟨S8192x8x128, .f32⟩ : BufTy).Contents (Elt F))
  :: StableHlo.binary main_v110 main_v109 main_v111 (addf : (⟨S8192x8x128, .f32⟩ : BufTy).Contents (Elt F) → (⟨S8192x8x128, .f32⟩ : BufTy).Contents (Elt F) → (⟨S8192x8x128, .f32⟩ : BufTy).Contents (Elt F))
  :: StableHlo.binary main_arg5 main_v104 main_v112 (subf : (⟨S8192x8, .f32⟩ : BufTy).Contents (Elt F) → (⟨S8192x8, .f32⟩ : BufTy).Contents (Elt F) → (⟨S8192x8, .f32⟩ : BufTy).Contents (Elt F))
  :: StableHlo.unary main_v112 main_v113 (Host.exp : (⟨S8192x8, .f32⟩ : BufTy).Contents (Elt F) → (⟨S8192x8, .f32⟩ : BufTy).Contents (Elt F))
  :: StableHlo.unary main_v113 main_v114 (broadcastInDim S8192x8x1 ![0, 1] bcast_S8192x8_S8192x8x1_0_1 : (⟨S8192x8, .f32⟩ : BufTy).Contents (Elt F) → (⟨S8192x8x1, .f32⟩ : BufTy).Contents (Elt F))
  :: StableHlo.unary main_v114 main_v115 (broadcastInDim S8192x8x128 ![0, 1, 2] bcast_S8192x8x1_S8192x8x128_0_1_2 : (⟨S8192x8x1, .f32⟩ : BufTy).Contents (Elt F) → (⟨S8192x8x128, .f32⟩ : BufTy).Contents (Elt F))
  :: StableHlo.binary main_v115 main_arg4 main_v116 (mulf : (⟨S8192x8x128, .f32⟩ : BufTy).Contents (Elt F) → (⟨S8192x8x128, .f32⟩ : BufTy).Contents (Elt F) → (⟨S8192x8x128, .f32⟩ : BufTy).Contents (Elt F))
  :: StableHlo.binary main_v111 main_v116 main_v117 (addf : (⟨S8192x8x128, .f32⟩ : BufTy).Contents (Elt F) → (⟨S8192x8x128, .f32⟩ : BufTy).Contents (Elt F) → (⟨S8192x8x128, .f32⟩ : BufTy).Contents (Elt F))
  :: StableHlo.binary main_arg7 main_v104 main_v118 (subf : (⟨S8192x8, .f32⟩ : BufTy).Contents (Elt F) → (⟨S8192x8, .f32⟩ : BufTy).Contents (Elt F) → (⟨S8192x8, .f32⟩ : BufTy).Contents (Elt F))
  :: StableHlo.unary main_v118 main_v119 (Host.exp : (⟨S8192x8, .f32⟩ : BufTy).Contents (Elt F) → (⟨S8192x8, .f32⟩ : BufTy).Contents (Elt F))
  :: StableHlo.unary main_v119 main_v120 (broadcastInDim S8192x8x1 ![0, 1] bcast_S8192x8_S8192x8x1_0_1 : (⟨S8192x8, .f32⟩ : BufTy).Contents (Elt F) → (⟨S8192x8x1, .f32⟩ : BufTy).Contents (Elt F))
  :: StableHlo.unary main_v120 main_v121 (broadcastInDim S8192x8x128 ![0, 1, 2] bcast_S8192x8x1_S8192x8x128_0_1_2 : (⟨S8192x8x1, .f32⟩ : BufTy).Contents (Elt F) → (⟨S8192x8x128, .f32⟩ : BufTy).Contents (Elt F))
  :: StableHlo.binary main_v121 main_arg6 main_v122 (mulf : (⟨S8192x8x128, .f32⟩ : BufTy).Contents (Elt F) → (⟨S8192x8x128, .f32⟩ : BufTy).Contents (Elt F) → (⟨S8192x8x128, .f32⟩ : BufTy).Contents (Elt F))
  :: StableHlo.binary main_v117 main_v122 main_v123 (addf : (⟨S8192x8x128, .f32⟩ : BufTy).Contents (Elt F) → (⟨S8192x8x128, .f32⟩ : BufTy).Contents (Elt F) → (⟨S8192x8x128, .f32⟩ : BufTy).Contents (Elt F))
  :: StableHlo.unary main_arg3 main_v124 ((extf .f32 · bitsLt_bf16_f32) : (⟨S8192x1024, .bf16⟩ : BufTy).Contents (Elt F) → (⟨S8192x1024, .f32⟩ : BufTy).Contents (Elt F))
  :: StableHlo.reshape main_v124 main_v125 (rfl : (.f32 : EltTy) = .f32) shapeCasts_S8192x1024_S8192x8x128
  :: StableHlo.binary main_v125 main_v123 main_v126 ((fun l r => Host.dotGeneral dot_S8192x8x128_S8192x8x128_S8192x8_2_2_n_n_01_01 none l r) : (⟨S8192x8x128, .f32⟩ : BufTy).Contents (Elt F) → (⟨S8192x8x128, .f32⟩ : BufTy).Contents (Elt F) → (⟨S8192x8, .f32⟩ : BufTy).Contents (Elt F))
  :: [] )
/-- The buffers it writes. -/
abbrev seg5_W : List (Ref sig .tc) := [main_v105, main_v106, main_v107, main_v108, main_v109, main_cst_14, main_v110, main_v111, main_v112, main_v113, main_v114, main_v115, main_v116, main_v117, main_v118, main_v119, main_v120, main_v121, main_v122, main_v123, main_v124, main_v125, main_v126]
set_option maxRecDepth 8192 in
theorem seg5_writes : (seg5 : List (HloOp τ sig (Elt F))).Forall fun op => op.writes ⊆ (seg5_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, reshape_writes, TRef.unary, TRef.binary, TRef.ternary, Finset.singleton_subset_iff, List.mem_toFinset]; exact List.mem_map_of_mem (by decide))
/-- A buffer that stretch 5 does not write keeps its contents through it. -/
theorem seg5_keep (V0 : Valuation τ sig (Elt F)) (r : Ref sig .tc) (h : r ∉ seg5_W) :
    after seg5 V0 (Proc.devRef .tc r) = V0 (Proc.devRef .tc r) :=
  after_of_writes_sub seg5 _ seg5_writes h
set_option maxHeartbeats 4000000 in
/-- Stretch 6 of the host operations. -/
abbrev seg6 : List (HloOp τ sig (Elt F)) :=
  ( StableHlo.nullary main_c_15 (constantI S_ 32 0#32)
  :: StableHlo.TRef.unary (.of main_c_15 : StableHlo.TRef sig ⟨S_, .i32⟩) (.of main_call1_v0 : StableHlo.TRef sig ⟨S_, .f32⟩) (sitofp .f32)
  :: StableHlo.TRef.binary (.of main_v104 : StableHlo.TRef sig ⟨S8192x8, .f32⟩) (.of main_call1_v0 : StableHlo.TRef sig ⟨S_, .f32⟩) (.of main_v127 : StableHlo.TRef sig ⟨S8192x128, .f32⟩) (fun x v => pad S8192x128 ![0, 0] ![0, 120] ![0, 0] x v pads_S8192x8_S8192x128_000_01200 h_S_)
  :: StableHlo.nullary main_c_16 (constantI S_ 32 0#32)
  :: StableHlo.TRef.unary (.of main_c_16 : StableHlo.TRef sig ⟨S_, .i32⟩) (.of main_call2_v0 : StableHlo.TRef sig ⟨S_, .f32⟩) (sitofp .f32)
  :: StableHlo.TRef.binary (.of main_v126 : StableHlo.TRef sig ⟨S8192x8, .f32⟩) (.of main_call2_v0 : StableHlo.TRef sig ⟨S_, .f32⟩) (.of main_v128 : StableHlo.TRef sig ⟨S8192x128, .f32⟩) (fun x v => pad S8192x128 ![0, 0] ![0, 120] ![0, 0] x v pads_S8192x8_S8192x128_000_01200 h_S_)
  :: [] )
/-- The buffers it writes. -/
abbrev seg6_W : List (Ref sig .tc) := [main_c_15, main_call1_v0, main_v127, main_c_16, main_call2_v0, main_v128]
set_option maxRecDepth 8192 in
theorem seg6_writes : (seg6 : List (HloOp τ sig (Elt F))).Forall fun op => op.writes ⊆ (seg6_W.map (Proc.devRef (τ := τ) .tc)).toFinset := by
  simp only [List.Forall]; refine ⟨?_, ?_, ?_, ?_, ?_, ?_⟩ <;> (simp only [nullary_writes, unary_writes, binary_writes, ternary_writes, reshape_writes, TRef.unary, TRef.binary, TRef.ternary, Finset.singleton_subset_iff, List.mem_toFinset]; exact List.mem_map_of_mem (by decide))
/-- A buffer that stretch 6 does not write keeps its contents through it. -/
theorem seg6_keep (V0 : Valuation τ sig (Elt F)) (r : Ref sig .tc) (h : r ∉ seg6_W) :
    after seg6 V0 (Proc.devRef .tc r) = V0 (Proc.devRef .tc r) :=
  after_of_writes_sub seg6 _ seg6_writes h

theorem after_app (l₁ l₂ : List (HloOp τ sig (Elt F))) (V : Valuation τ sig (Elt F)) : after (l₁ ++ l₂) V = after l₂ (after l₁ V) := by
  induction l₁ generalizing V with
  | nil => rfl
  | cons op l ih => exact ih _

set_option maxHeartbeats 4000000 in
theorem list_eq : List.flatten [hostOps0, hostOps0_1, hostOps0_2, hostOps0_3, hostOps0_4, hostOps0_5]
    = ((seg1 ++ (seg2 ++ (seg3 ++ (seg4 ++ (seg5 ++ seg6))))) : List (HloOp τ sig (Elt F))) := rfl

end Cert.Prefix
-- ==== Proof.PrefixVal.lean ====
/- What the kernel's host operations leave in the buffers that its grid reads. -/
module

public import proofs.«01_k».proof.Proof.Prefix

@[expose] public section

set_option maxRecDepth 16384

noncomputable section

namespace Cert.Prefix

open Cert.KernelIdeal Cert.KernelIdeal.Gen Idealize.ShloMosaic Idealize.ShloMosaic.TcCoe Idealize.SL.Sem Idealize.ShloMosaic.StableHlo

variable {F : FTy → Type} [FloatOps F]

abbrev Arg (F : FTy → Type) [FloatOps F] : Type := (⟨S8192x1024, .bf16⟩ : BufTy).Contents (Elt F)
abbrev Arg3 (F : FTy → Type) [FloatOps F] : Type := (⟨S8192x8x128, .f32⟩ : BufTy).Contents (Elt F)
abbrev Arg2 (F : FTy → Type) [FloatOps F] : Type := (⟨S8192x8, .f32⟩ : BufTy).Contents (Elt F)

set_option maxRecDepth 8192 in
set_option maxHeartbeats 4000000 in
theorem seg1_v14 (V0 : Valuation τ sig (Elt F)) :
    after seg1 V0 (no_index (Proc.devRef .tc main_v14)) = Cert.ReferenceIdeal.Read.val_main_v14 (F := F) := by
  simp only [seg1]
  after_results_simp
  all_goals rfl

set_option maxRecDepth 8192 in
set_option maxHeartbeats 4000000 in
theorem seg1_v27 (V0 : Valuation τ sig (Elt F)) (x2 : Arg F) (h2 : V0 (Proc.devRef .tc main_arg2) = x2) :
    after seg1 V0 (no_index (Proc.devRef .tc main_v27)) = Cert.ReferenceIdeal.Read.val_main_v29 (F := F) x2 := by
  simp only [seg1]
  after_results_simp
  simp only [h2]
  all_goals rfl

set_option maxRecDepth 8192 in
set_option maxHeartbeats 4000000 in
theorem seg1_v30 (V0 : Valuation τ sig (Elt F)) (x0 x1 : Arg F) (h0 : V0 (Proc.devRef .tc main_arg0) = x0)
    (h1 : V0 (Proc.devRef .tc main_arg1) = x1) :
    after seg1 V0 (no_index (Proc.devRef .tc main_v30)) = Cert.ReferenceIdeal.Read.val_main_v32 (F := F) x0 x1 := by
  simp only [seg1]
  after_results_simp
  simp only [h0, h1]
  all_goals rfl

set_option maxRecDepth 8192 in
set_option maxHeartbeats 4000000 in
theorem seg2_v70 (V : Valuation τ sig (Elt F)) (x0 x1 : Arg F)
    (h14 : V (Proc.devRef .tc main_v14) = Cert.ReferenceIdeal.Read.val_main_v14 (F := F))
    (h30 : V (Proc.devRef .tc main_v30) = Cert.ReferenceIdeal.Read.val_main_v32 (F := F) x0 x1) :
    after seg2 V (no_index (Proc.devRef .tc main_v70)) = Cert.ReferenceIdeal.Read.val_main_v72 (F := F) x0 x1 := by
  simp only [seg2]
  after_results_simp
  simp only [h14, h30]
  all_goals rfl

set_option maxRecDepth 8192 in
set_option maxHeartbeats 4000000 in
theorem seg2_v71 (V : Valuation τ sig (Elt F)) :
    after seg2 V (no_index (Proc.devRef .tc main_v71)) = Cert.ReferenceIdeal.Read.val_main_v73 (F := F) := by
  simp only [seg2]
  after_results_simp
  all_goals rfl

set_option maxRecDepth 8192 in
set_option maxHeartbeats 4000000 in
theorem seg2_cst (V : Valuation τ sig (Elt F)) :
    after seg2 V (no_index (Proc.devRef .tc main_cst_11)) = (constant S_ .f32 0xFF800000#32 : (⟨S_, .f32⟩ : BufTy).Contents (Elt F)) := by
  simp only [seg2]
  after_results_simp
  all_goals rfl

set_option maxRecDepth 8192 in
set_option maxHeartbeats 4000000 in
theorem seg3_v92 (V : Valuation τ sig (Elt F)) (x0 x1 : Arg F)
    (h70 : V (Proc.devRef .tc main_v70) = Cert.ReferenceIdeal.Read.val_main_v72 (F := F) x0 x1)
    (h71 : V (Proc.devRef .tc main_v71) = Cert.ReferenceIdeal.Read.val_main_v73 (F := F))
    (hc : V (Proc.devRef .tc main_cst_11) = (constant S_ .f32 0xFF800000#32 : (⟨S_, .f32⟩ : BufTy).Contents (Elt F))) :
    after seg3 V (no_index (Proc.devRef .tc main_v92)) = Cert.ReferenceIdeal.Read.val_main_v102 (F := F) x0 x1 := by
  simp only [seg3]
  after_results_simp
  simp only [h70, h71, hc]
  all_goals rfl

set_option maxRecDepth 8192 in
set_option maxHeartbeats 4000000 in
theorem seg3_v91 (V : Valuation τ sig (Elt F)) (x0 x1 x2 : Arg F)
    (h27 : V (Proc.devRef .tc main_v27) = Cert.ReferenceIdeal.Read.val_main_v29 (F := F) x2)
    (h70 : V (Proc.devRef .tc main_v70) = Cert.ReferenceIdeal.Read.val_main_v72 (F := F) x0 x1)
    (h71 : V (Proc.devRef .tc main_v71) = Cert.ReferenceIdeal.Read.val_main_v73 (F := F))
    (hc : V (Proc.devRef .tc main_cst_11) = (constant S_ .f32 0xFF800000#32 : (⟨S_, .f32⟩ : BufTy).Contents (Elt F))) :
    after seg3 V (no_index (Proc.devRef .tc main_v91)) = Cert.ReferenceIdeal.Read.val_main_v101 (F := F) x0 x1 x2 := by
  simp only [seg3]
  after_results_simp
  simp only [h27, h70, h71, hc]
  all_goals rfl

/-- The greatest of a row's three log-sums. -/
def tMax (l x5 x7 : Arg2 F) : Arg2 F := maximumf (maximumf l x5) x7
/-- The three patterns' joint log-sum. -/
def tLse (l x5 x7 : Arg2 F) : Arg2 F :=
  addf (tMax l x5 x7) (Host.log (addf (addf (Host.exp (subf l (tMax l x5 x7))) (Host.exp (subf x5 (tMax l x5 x7)))) (Host.exp (subf x7 (tMax l x5 x7)))))
/-- One pattern's share of the mixture. -/
def tPart (l z : Arg2 F) (o : Arg3 F) : Arg3 F :=
  mulf (broadcastInDim S8192x8x128 ![0, 1, 2] bcast_S8192x8x1_S8192x8x128_0_1_2
    (broadcastInDim S8192x8x1 ![0, 1] bcast_S8192x8_S8192x8x1_0_1 (Host.exp (subf l z)))) o
/-- The mixture. -/
def tMix (l x5 x7 z : Arg2 F) (o x4 x6 : Arg3 F) : Arg3 F :=
  addf (addf (addf (broadcastInDim S8192x8x128 ![] bcast_S_S8192x8x128 (constant S_ .f32 0x00000000#32)) (tPart l z o)) (tPart x5 z x4)) (tPart x7 z x6)
/-- The cotangent against the mixture, head by head. -/
def tDelta (x3 : Arg F) (o : Arg3 F) : Arg2 F :=
  Host.dotGeneral dot_S8192x8x128_S8192x8x128_S8192x8_2_2_n_n_01_01 none
    (Cert.ReferenceIdeal.Read.val_main_v148 (F := F) x3) o
/-- Eight columns widened to a block's 128. -/
def tPad (x : Arg2 F) : (⟨S8192x128, .f32⟩ : BufTy).Contents (Elt F) :=
  pad S8192x128 ![0, 0] ![0, 120] ![0, 0] x (sitofp .f32 (constantI S_ 32 0#32)) pads_S8192x8_S8192x128_000_01200 h_S_

set_option maxRecDepth 8192 in
set_option maxHeartbeats 4000000 in
theorem seg4_v104 (V : Valuation τ sig (Elt F)) (l x5 x7 : Arg2 F) (hl : V (Proc.devRef .tc main_v92) = l)
    (h5 : V (Proc.devRef .tc main_arg5) = x5) (h7 : V (Proc.devRef .tc main_arg7) = x7) :
    after seg4 V (no_index (Proc.devRef .tc main_v104)) = tLse l x5 x7 := by
  simp only [seg4]
  after_results_simp
  simp only [hl, h5, h7]
  all_goals rfl

set_option maxRecDepth 8192 in
set_option maxHeartbeats 4000000 in
theorem seg5_v126 (V : Valuation τ sig (Elt F)) (l x5 x7 z : Arg2 F) (o x4 x6 : Arg3 F) (x3 : Arg F)
    (hl : V (Proc.devRef .tc main_v92) = l) (ho : V (Proc.devRef .tc main_v91) = o) (hz : V (Proc.devRef .tc main_v104) = z)
    (h3 : V (Proc.devRef .tc main_arg3) = x3) (h4 : V (Proc.devRef .tc main_arg4) = x4)
    (h5 : V (Proc.devRef .tc main_arg5) = x5) (h6 : V (Proc.devRef .tc main_arg6) = x6) (h7 : V (Proc.devRef .tc main_arg7) = x7) :
    after seg5 V (no_index (Proc.devRef .tc main_v126)) = tDelta x3 (tMix l x5 x7 z o x4 x6) := by
  simp only [seg5]
  after_results_simp
  simp only [hl, ho, hz, h3, h4, h5, h6, h7]
  all_goals rfl

set_option maxRecDepth 8192 in
set_option maxHeartbeats 4000000 in
theorem seg6_v127 (V : Valuation τ sig (Elt F)) (z : Arg2 F) (hz : V (Proc.devRef .tc main_v104) = z) :
    after seg6 V (no_index (Proc.devRef .tc main_v127)) = tPad z := by
  simp only [seg6]
  after_results_simp
  simp only [hz]
  all_goals rfl

set_option maxRecDepth 8192 in
set_option maxHeartbeats 4000000 in
theorem seg6_v128 (V : Valuation τ sig (Elt F)) (z : Arg2 F) (hz : V (Proc.devRef .tc main_v126) = z) :
    after seg6 V (no_index (Proc.devRef .tc main_v128)) = tPad z := by
  simp only [seg6]
  after_results_simp
  simp only [hz]
  all_goals rfl

end Cert.Prefix
-- ==== Proof.Spec.lean ====
/- The mathematics of the gradient, over the reals. Rows and columns are natural numbers: row `128 n + q` is query `q`
   of block `n`, column `128 h + e` is entry `e` of head `h`; block `n` sees 256 keys, those of block `n - 1` and its own. -/
module

public import Idealize.ShloMosaic.PureOps.Ideal.Laws

@[expose] public section

noncomputable section

namespace Cert.Spec

/-- Key `k` of the 256 that block `n` sees: zero where the sequence has no such key. -/
def kw (K : ℕ → ℕ → ℝ) (n k c : ℕ) : ℝ := if n = 0 ∧ k < 128 then 0 else K (128 * n + k - 128) c

/-- Query `q` of block `n` sees key `k`. -/
def ok (n q k : ℕ) : Prop := q ≤ k ∧ k ≤ q + 128 ∧ 128 ≤ 128 * n + k

instance (n q k : ℕ) : Decidable (ok n q k) := by unfold ok; infer_instance

/-- The slope of head `h`. -/
def slope (h : ℕ) : ℝ := (1 / 2) ^ (h + 1)

variable (scale : ℝ) (Q K V G : ℕ → ℕ → ℝ) (O4 O16 : ℕ → ℕ → ℕ → ℝ) (L4 L16 : ℕ → ℕ → ℝ)

/-- The score of query `q` and key `k`. -/
def sc (n h q k : ℕ) : ℝ :=
  (∑ e : Fin 128, Q (128 * n + q) (128 * h + e) * kw K n k (128 * h + e)) * scale + -slope h * ((q : ℝ) - k + 128)

/-- The sum of a row's exponentials. -/
def den (n h q : ℕ) : ℝ := ∑ k : Fin 256, if ok n q k then Real.exp (sc scale Q K n h q k) else 0

/-- The row's exponentials against the values. -/
def num (n h q e : ℕ) : ℝ :=
  ∑ k : Fin 256, (if ok n q k then Real.exp (sc scale Q K n h q k) else 0) * kw V n k (128 * h + e)

/-- The first pattern's row log-sum. -/
def l1 (r h : ℕ) : ℝ := Real.log (den scale Q K (r / 128) h (r % 128))

/-- The first pattern's result. -/
def o1 (r h e : ℕ) : ℝ := num scale Q K V (r / 128) h (r % 128) e / den scale Q K (r / 128) h (r % 128)

/-- The three patterns' row log-sum. -/
def lse (r h : ℕ) : ℝ := Real.log (Real.exp (l1 scale Q K r h) + Real.exp (L4 r h) + Real.exp (L16 r h))

/-- The cotangent against the mixture of the three patterns' results. -/
def delta (r h : ℕ) : ℝ :=
  ∑ e : Fin 128, G r (128 * h + e) *
    (Real.exp (l1 scale Q K r h - lse scale Q K L4 L16 r h) * o1 scale Q K V r h e
      + Real.exp (L4 r h - lse scale Q K L4 L16 r h) * O4 r h e + Real.exp (L16 r h - lse scale Q K L4 L16 r h) * O16 r h e)

/-- The probability of key `k` among all three patterns' keys. -/
def prob (n h q k : ℕ) : ℝ :=
  if ok n q k then Real.exp (sc scale Q K n h q k - lse scale Q K L4 L16 (128 * n + q) h) else 0

/-- The gradient of the score. -/
def ds (n h q k : ℕ) : ℝ :=
  prob scale Q K L4 L16 n h q k *
    ((∑ e : Fin 128, G (128 * n + q) (128 * h + e) * kw V n k (128 * h + e))
      - delta scale Q K V G O4 O16 L4 L16 (128 * n + q) h)

/-- The gradient of the queries. -/
def dq (n h q e : ℕ) : ℝ := (∑ k : Fin 256, ds scale Q K V G O4 O16 L4 L16 n h q k * kw K n k (128 * h + e)) * scale

/-- Block `n`'s part of the gradient of the 256 keys it sees. -/
def dkp (n h k e : ℕ) : ℝ :=
  ∑ q : Fin 128, ds scale Q K V G O4 O16 L4 L16 n h q k * Q (128 * n + q) (128 * h + e)

/-- Block `n`'s part of the gradient of the 256 values it sees. -/
def dvp (n h k e : ℕ) : ℝ := ∑ q : Fin 128, prob scale Q K L4 L16 n h q k * G (128 * n + q) (128 * h + e)

/-- The gradient of key `a` of block `n`: its own block's queries and the next block's. -/
def dk (n h a e : ℕ) : ℝ :=
  (dkp scale Q K V G O4 O16 L4 L16 n h (128 + a) e
    + (if n < 63 then dkp scale Q K V G O4 O16 L4 L16 (n + 1) h a e else 0)) * scale

/-- The gradient of value `a` of block `n`. -/
def dv (n h a e : ℕ) : ℝ :=
  dvp scale Q K G L4 L16 n h (128 + a) e + (if n < 63 then dvp scale Q K G L4 L16 (n + 1) h a e else 0)

theorem den_pos (n h q : ℕ) (hq : q < 128) : 0 < den scale Q K n h q := by
  unfold den
  refine Finset.sum_pos' (fun k _ => ?_) ⟨⟨q + 128, by omega⟩, Finset.mem_univ _, ?_⟩
  · split_ifs
    · exact (Real.exp_pos _).le
    · exact le_rfl
  · rw [if_pos (by unfold ok; simp only; omega)]
    exact Real.exp_pos _

/-- The exponentials over a row maximum `m`: their sum. -/
theorem den_shift (m : ℝ) (n h q : ℕ) :
    (∑ k : Fin 256, if ok n q k then Real.exp (sc scale Q K n h q k - m) else 0) = den scale Q K n h q * Real.exp (-m) := by
  unfold den
  rw [Finset.sum_mul]
  refine Finset.sum_congr rfl fun k _ => ?_
  split_ifs
  · rw [← Real.exp_add, sub_eq_add_neg]
  · rw [zero_mul]

/-- The exponentials over a row maximum `m`, against the values. -/
theorem num_shift (m : ℝ) (n h q e : ℕ) :
    (∑ k : Fin 256, kw V n k (128 * h + e) * (if ok n q k then Real.exp (sc scale Q K n h q k - m) else 0))
      = num scale Q K V n h q e * Real.exp (-m) := by
  unfold num
  rw [Finset.sum_mul]
  refine Finset.sum_congr rfl fun k _ => ?_
  split_ifs
  · rw [sub_eq_add_neg, Real.exp_add]; ring
  · simp

theorem l1_shift (m : ℝ) (n h q : ℕ) (hq : q < 128) :
    m + Real.log (den scale Q K n h q * Real.exp (-m)) = Real.log (den scale Q K n h q) := by
  rw [Real.log_mul (den_pos scale Q K n h q hq).ne' (Real.exp_pos _).ne', Real.log_exp]; ring

theorem l1_row (n h q : ℕ) (hq : q < 128) : l1 scale Q K (128 * n + q) h = Real.log (den scale Q K n h q) := by
  unfold l1
  rw [show (128 * n + q) / 128 = n by omega, show (128 * n + q) % 128 = q by omega]

theorem o1_row (n h q e : ℕ) (hq : q < 128) :
    o1 scale Q K V (128 * n + q) h e = num scale Q K V n h q e / den scale Q K n h q := by
  unfold o1
  rw [show (128 * n + q) / 128 = n by omega, show (128 * n + q) % 128 = q by omega]

/-- The three patterns' row log-sum by way of a maximum `m`. -/
theorem lse_shift (m : ℝ) (r h : ℕ) :
    m + Real.log (Real.exp (l1 scale Q K r h - m) + Real.exp (L4 r h - m) + Real.exp (L16 r h - m))
      = lse scale Q K L4 L16 r h := by
  have e : Real.exp (l1 scale Q K r h - m) + Real.exp (L4 r h - m) + Real.exp (L16 r h - m)
      = (Real.exp (l1 scale Q K r h) + Real.exp (L4 r h) + Real.exp (L16 r h)) * Real.exp (-m) := by
    simp only [sub_eq_add_neg, Real.exp_add]; ring
  have hp : 0 < Real.exp (l1 scale Q K r h) + Real.exp (L4 r h) + Real.exp (L16 r h) := by positivity
  rw [e, Real.log_mul hp.ne' (Real.exp_pos _).ne', Real.log_exp]
  unfold lse
  ring

/-- A pattern's weight in the mixture, by way of a maximum `m`. -/
theorem weight_shift (m x : ℝ) (r h : ℕ) :
    Real.exp (x - m) / (Real.exp (l1 scale Q K r h - m) + Real.exp (L4 r h - m) + Real.exp (L16 r h - m))
      = Real.exp (x - lse scale Q K L4 L16 r h) := by
  have hp : 0 < Real.exp (l1 scale Q K r h - m) + Real.exp (L4 r h - m) + Real.exp (L16 r h - m) := by positivity
  have hz : Real.exp (l1 scale Q K r h - m) + Real.exp (L4 r h - m) + Real.exp (L16 r h - m)
      = Real.exp (lse scale Q K L4 L16 r h - m) := by
    rw [← lse_shift scale Q K L4 L16 m r h, add_sub_cancel_left, Real.exp_log hp]
  rw [hz, ← Real.exp_sub]
  congr 1; ring

end Cert.Spec

end
-- ==== Proof.Tools.lean ====
/- Sums, exponentials and quotients of extended reals that are real; constants of the two programs. -/
module

public import Idealize.ShloMosaic.Lib.Pipeline.Value
public import Idealize.ShloMosaic.Lib.ValueIdx
public import Idealize.ShloMosaic.PureOps.Ideal.Laws
public import Idealize.ShloMosaic.Lib.IdealHost

@[expose] public section

noncomputable section

namespace Cert.Tools

open Idealize.ShloMosaic

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of extended reals each of which is real. -/
theorem sum_coe {ι : Type*} (s : Finset ι) (g : ι → EReal) (f : ι → ℝ) (h : ∀ i ∈ s, g i = ((f i : ℝ) : EReal)) :
    ∑ i ∈ s, g i = ((∑ i ∈ s, f i : ℝ) : EReal) := by
  rw [coe_sum]; exact Finset.sum_congr rfl h

/-- A sum from zero of extended reals each of which is real. -/
theorem zsum {ι : Type*} [Fintype ι] (z : EReal) (hz : z = ((0 : ℝ) : EReal)) (g : ι → EReal) (f : ι → ℝ)
    (h : ∀ i, g i = ((f i : ℝ) : EReal)) : z + ∑ i, g i = ((∑ i, f i : ℝ) : EReal) := by
  rw [hz, sum_coe _ _ f fun i _ => h i, ← EReal.coe_add, zero_add]

theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

theorem log_coe (x : ℝ) (h : 0 < x) : Ideal.log (x : EReal) = ((Real.log x : ℝ) : EReal) := by
  rw [Ideal.log_coe, if_neg (not_le.2 h)]

theorem exp_sub_coe (x y : ℝ) : Ideal.exp ((x : EReal) - (y : EReal)) = ((Real.exp (x - y) : ℝ) : EReal) := by
  rw [← EReal.coe_sub, Ideal.exp_coe]

theorem exp_bot_sub (y : ℝ) : Ideal.exp ((⊥ : EReal) - (y : EReal)) = 0 := by
  rw [EReal.bot_sub, Ideal.exp_bot]

/-- The words of the programs' constants. -/
theorem w_one : Ideal.ofBits .f32 0x3F800000#32 = ((1 : ℝ) : EReal) := by
  rw [Ideal.ofBits_one_f32]; rfl
theorem w_zero : Ideal.ofBits .f32 0x00000000#32 = ((0 : ℝ) : EReal) := by
  rw [Ideal.ofBits_zero_f32]; rfl
theorem w_two : Ideal.ofBits .f32 0x40000000#32 = ((2 : ℝ) : EReal) := by
  simp [Ideal.ofBits, Ideal.ieee]; norm_cast; try norm_num [zpow_neg]
theorem w_eight : Ideal.ofBits .f32 0x41000000#32 = ((8 : ℝ) : EReal) := by
  simp [Ideal.ofBits, Ideal.ieee]; norm_cast; try norm_num [zpow_neg]
theorem w_neg_eight : Ideal.ofBits .f32 0xC1000000#32 = ((-8 : ℝ) : EReal) := by
  simp [Ideal.ofBits, Ideal.ieee]; norm_cast; try norm_num [zpow_neg]
theorem w_bot : Ideal.ofBits .f32 0xFF800000#32 = ⊥ := by
  simp [Ideal.ofBits, Ideal.ieee]
theorem w_top : Ideal.ofBits .f32 0x7F800000#32 = ⊤ := by
  simp [Ideal.ofBits, Ideal.ieee]

/-- The scale's word. -/
def scaleR : ℝ := (Ideal.ofBits .f32 0x3DB504F3#32).toReal
theorem w_scale : Ideal.ofBits .f32 0x3DB504F3#32 = ((scaleR : ℝ) : EReal) := by
  unfold scaleR
  rw [EReal.coe_toReal] <;> simp [Ideal.ofBits, Ideal.ieee, ← EReal.coe_mul]

/-- The slopes' words. -/
theorem w_slope0 : Ideal.ofBits .f32 0x3F000000#32 = (((1 / 2) ^ (0 + 1) : ℝ) : EReal) := by
  simp [Ideal.ofBits, Ideal.ieee]; norm_cast; try norm_num [zpow_neg]
theorem w_slope7 : Ideal.ofBits .f32 0x3B800000#32 = (((1 / 2) ^ (7 + 1) : ℝ) : EReal) := by
  simp [Ideal.ofBits, Ideal.ieee]; norm_cast; try norm_num [zpow_neg]

theorem toInt_nat (n : ℕ) (h : n < 2 ^ 31) : (BitVec.ofNat 32 n).toInt = (n : ℤ) := by
  rw [BitVec.toInt_ofNat']; exact Int.bmod_eq_of_le (by omega) (by omega)

theorem toInt_add_of (x y : BitVec 32) (a b : ℤ) (hx : x.toInt = a) (hy : y.toInt = b) (hl : -2 ^ 31 ≤ a + b) (hu : a + b < 2 ^ 31) :
    (x + y).toInt = a + b := by
  rw [BitVec.toInt_add, hx, hy]; exact Int.bmod_eq_of_le (by omega) (by omega)

theorem toInt_sub_of (x y : BitVec 32) (a b : ℤ) (hx : x.toInt = a) (hy : y.toInt = b) (hl : -2 ^ 31 ≤ a - b) (hu : a - b < 2 ^ 31) :
    (x - y).toInt = a - b := by
  rw [BitVec.toInt_sub, hx, hy]; exact Int.bmod_eq_of_le (by omega) (by omega)

theorem toInt_mul_of (x y : BitVec 32) (a b : ℤ) (hx : x.toInt = a) (hy : y.toInt = b) (hl : -2 ^ 31 ≤ a * b) (hu : a * b < 2 ^ 31) :
    (x * y).toInt = a * b := by
  rw [BitVec.toInt_mul, hx, hy]; exact Int.bmod_eq_of_le (by omega) (by omega)

theorem cmpi_sge (x y : BitVec 32) : IntOp.cmpi .sge x y = if y.toInt ≤ x.toInt then 1#1 else 0#1 := by
  show BitVec.ofBool (y.sle x) = _
  rw [BitVec.sle_eq_decide]
  by_cases h : y.toInt ≤ x.toInt <;> simp [h]

theorem cmpi_sle (x y : BitVec 32) : IntOp.cmpi .sle x y = if x.toInt ≤ y.toInt then 1#1 else 0#1 := by
  show BitVec.ofBool (x.sle y) = _
  rw [BitVec.sle_eq_decide]
  by_cases h : x.toInt ≤ y.toInt <;> simp [h]

theorem andi_ite (p q : Prop) [Decidable p] [Decidable q] :
    IntOp.andi (if p then 1#1 else 0#1) (if q then 1#1 else 0#1) = if p ∧ q then 1#1 else 0#1 := by
  by_cases hp : p <;> by_cases hq : q <;> simp [hp, hq] <;> decide

theorem select_ite {α : Type} (p : Prop) [Decidable p] (a b : α) :
    Scalar.select (if p then 1#1 else 0#1) a b = if p then a else b := by
  by_cases hp : p <;> simp [hp, Scalar.select]

theorem le_foldl_max {ι : Type*} (f : ι → EReal) (l : List ι) (z : EReal) :
    z ≤ l.foldl (fun r n => max r (f n)) z ∧ ∀ n ∈ l, f n ≤ l.foldl (fun r n => max r (f n)) z := by
  induction l generalizing z with
  | nil => simp
  | cons a l ih =>
    have h := ih (max z (f a))
    refine ⟨(le_max_left _ _).trans h.1, fun n hn => ?_⟩
    rcases List.mem_cons.1 hn with rfl | hn
    · exact (le_max_right _ _).trans h.1
    · exact h.2 n hn

theorem foldl_max_lt_top {ι : Type*} (f : ι → EReal) (l : List ι) (z : EReal) (hz : z < ⊤) (hf : ∀ n, f n < ⊤) :
    l.foldl (fun r n => max r (f n)) z < ⊤ := by
  induction l generalizing z with
  | nil => exact hz
  | cons a l ih => exact ih _ (max_lt hz (hf a))

/-- A maximum along axes of an array with no `⊤`, one of the entries being real: a real number, and none is greater. -/
theorem reduce_max_real {s t u : Shape} {axes : List (Fin s.rank)} (x : s.Idx → EReal) (init : u.Idx → EReal)
    (h : s.ReducesTo axes t) (hu : 0 < u.numel) (j : t.Idx) (hi : init (Shape.Idx.first hu) = ⊥)
    (hx : ∀ i, x i < ⊤) (i0 : s.Idx) (hj : h.drop i0 = j) (r0 : ℝ) (h0 : x i0 = ((r0 : ℝ) : EReal)) :
    ∃ m : ℝ, Host.reduce (fun a b : EReal => max a b) x init h hu j = ((m : ℝ) : EReal) := by
  unfold Host.reduce
  rw [hi]
  have hlt := foldl_max_lt_top (fun n => x (s.rowMajor.symm n))
    ((List.finRange s.numel).filter fun n => h.drop (s.rowMajor.symm n) = j) ⊥ bot_lt_top (fun n => hx _)
  have hle := (le_foldl_max (fun n => x (s.rowMajor.symm n))
    ((List.finRange s.numel).filter fun n => h.drop (s.rowMajor.symm n) = j) ⊥).2 (s.rowMajor i0)
    (by simp [hj])
  simp only [Equiv.symm_apply_apply, h0] at hle
  generalize ((List.finRange s.numel).filter fun n => h.drop (s.rowMajor.symm n) = j).foldl
    (fun r n => max r (x (s.rowMajor.symm n))) ⊥ = y at hlt hle
  refine ⟨y.toReal, (EReal.coe_toReal hlt.ne (fun hb => ?_)).symm⟩
  rw [hb] at hle
  exact absurd hle (by simp)

end Cert.Tools

end
-- ==== Proof.Ref1.lean ====
/- The reference's scores: its blocks of queries, keys and values, the slopes and the mask, read at an index. -/
module

public import proofs.«01_k».proof.Proof.Gen.ReferenceIdeal.Read
public import proofs.«01_k».proof.Proof.Spec
public import proofs.«01_k».proof.Proof.Tools

@[expose] public section

set_option maxRecDepth 16384

noncomputable section

namespace Cert.Ref

open Idealize.ShloMosaic Cert.ReferenceIdeal Cert.ReferenceIdeal.Read Cert.Tools Cert.Spec

abbrev In : Type := (⟨S8192x1024, .bf16⟩ : BufTy).Contents (Elt Ideal)

/-- An argument whose entries are the reals of `A`. -/
def Holds (x : In) (A : ℕ → ℕ → ℝ) : Prop := ∀ i, x i = ((A (i 0).val (i 1).val : ℝ) : EReal)

section
variable {x0 x1 x2 : In} {Q K V : ℕ → ℕ → ℝ}

theorem a15 (hq : Holds x0 Q) (i : S64x128x8x128.Idx) :
    val_main_v15 (F := Ideal) x0 i = ((Q (128 * (i 0).val + (i 1).val) (128 * (i 2).val + (i 3).val) : ℝ) : EReal) := by
  have h1 : (i 1).val < 128 := (i 1).isLt
  have h2 : (i 2).val < 8 := (i 2).isLt
  have h3 : (i 3).val < 128 := (i 3).isLt
  rw [val_main_v15_apply, val_main_v1_apply, val_main_v0_apply, Ideal.extf_def, hq]
  refine congrArg _ (congrArg₂ Q ?_ ?_)
  · dsimp only [idx_main_v1, idx_main_v15]; omega
  · dsimp only [idx_main_v1, idx_main_v15]; omega

theorem a16 (hk : Holds x1 K) (i : S64x128x8x128.Idx) :
    val_main_v16 (F := Ideal) x1 i = ((K (128 * (i 0).val + (i 1).val) (128 * (i 2).val + (i 3).val) : ℝ) : EReal) := by
  have h1 : (i 1).val < 128 := (i 1).isLt
  have h2 : (i 2).val < 8 := (i 2).isLt
  have h3 : (i 3).val < 128 := (i 3).isLt
  rw [val_main_v16_apply, val_main_v3_apply, val_main_v2_apply, Ideal.extf_def, hk]
  refine congrArg _ (congrArg₂ K ?_ ?_)
  · dsimp only [idx_main_v3, idx_main_v16]; omega
  · dsimp only [idx_main_v3, idx_main_v16]; omega

theorem a22 (hk : Holds x1 K) (i : S64x256x8x128.Idx) :
    val_main_v22 (F := Ideal) x1 i = ((kw K (i 0).val (i 1).val (128 * (i 2).val + (i 3).val) : ℝ) : EReal) := by
  have h0 : (i 0).val < 64 := (i 0).isLt
  have h1 : (i 1).val < 256 := (i 1).isLt
  unfold val_main_v22 kw
  by_cases hc : (i 1).val < 128
  · rw [concatenate_pair_apply_left (t := S64x256x8x128) (s₁ := S64x128x8x128) (s₂ := S64x128x8x128) 1 _ _ _ i rfl
      (ValueIdx.ix4 (i 0) ⟨(i 1).val, hc⟩ (i 2) (i 3)) (fun b => by match b with | ⟨0, _⟩ => rfl | ⟨1, _⟩ => rfl | ⟨2, _⟩ => rfl | ⟨3, _⟩ => rfl)]
    unfold val_main_v20
    by_cases h : (i 0).val < 1
    · rw [concatenate_pair_apply_left (t := S64x128x8x128) (s₁ := S1x128x8x128) (s₂ := S63x128x8x128) 0 _ _ _ _ rfl
        (ValueIdx.ix4 ⟨(i 0).val, h⟩ ⟨(i 1).val, hc⟩ (i 2) (i 3)) (fun b => by match b with | ⟨0, _⟩ => rfl | ⟨1, _⟩ => rfl | ⟨2, _⟩ => rfl | ⟨3, _⟩ => rfl)]
      rw [val_main_v18_apply, val_main_cst_3_apply, Ideal.ofBits_def, w_zero, if_pos ⟨by omega, hc⟩]
    · rw [concatenate_pair_apply_right (t := S64x128x8x128) (s₁ := S1x128x8x128) (s₂ := S63x128x8x128) 0 _ _ _ _ rfl rfl
        (ValueIdx.ix4 ⟨(i 0).val - 1, by omega⟩ ⟨(i 1).val, hc⟩ (i 2) (i 3))
        (fun b hb => by match b with | ⟨0, _⟩ => exact absurd rfl hb | ⟨1, _⟩ => rfl | ⟨2, _⟩ => rfl | ⟨3, _⟩ => rfl)
        (by show (i 0).val - 1 + 1 = (i 0).val; omega)]
      rw [val_main_v19_apply, a16 hk, if_neg (by omega)]
      refine congrArg _ (congrArg₂ K ?_ rfl)
      show 128 * ((i 0).val - 1) + (i 1).val = _
      omega
  · rw [concatenate_pair_apply_right (t := S64x256x8x128) (s₁ := S64x128x8x128) (s₂ := S64x128x8x128) 1 _ _ _ i rfl rfl
      (ValueIdx.ix4 (i 0) ⟨(i 1).val - 128, by omega⟩ (i 2) (i 3))
      (fun b hb => by match b with | ⟨0, _⟩ => rfl | ⟨1, _⟩ => exact absurd rfl hb | ⟨2, _⟩ => rfl | ⟨3, _⟩ => rfl)
      (by show (i 1).val - 128 + 128 = (i 1).val; omega)]
    rw [a16 hk, if_neg (by omega)]
    refine congrArg _ (congrArg₂ K ?_ rfl)
    show 128 * (i 0).val + ((i 1).val - 128) = _
    omega

theorem a23 (hv : Holds x2 V) (i : S64x128x8x128.Idx) :
    val_main_v23 (F := Ideal) x2 i = ((V (128 * (i 0).val + (i 1).val) (128 * (i 2).val + (i 3).val) : ℝ) : EReal) := a16 hv i

theorem a29 (hv : Holds x2 V) (i : S64x256x8x128.Idx) :
    val_main_v29 (F := Ideal) x2 i = ((kw V (i 0).val (i 1).val (128 * (i 2).val + (i 3).val) : ℝ) : EReal) := a22 hv i

/-- The slopes. -/
theorem a14 (i : S8.Idx) : val_main_v14 (F := Ideal) i = ((Spec.slope (i 0).val : ℝ) : EReal) := by
  have e6 : val_main_v6 (F := Ideal) i = (((i 0).val : ℝ) : EReal) := by
    have h : (i 0).val < 8 := (i 0).isLt
    show (((BitVec.ofNat 32 (i 0).val).toInt : ℝ) : EReal) = _
    rw [toInt_nat _ (by omega)]
    norm_cast
  rw [val_main_v14_apply, val_main_v12_apply, val_main_v10_apply, val_main_v8_apply, e6, val_main_v7_apply, val_main_cst_apply,
    val_main_v9_apply, val_main_cst_0_apply, val_main_v11_apply, val_main_cst_1_apply, val_main_v13_apply, val_main_cst_2_apply]
  simp only [Ideal.ofBits_def, w_one, w_eight, w_neg_eight, w_two, Ideal.hostDivf_def, Ideal.hostPowf_def, Ideal.addf_def,
    Ideal.mulf_def, ← EReal.coe_add, ← EReal.coe_mul]
  rw [div_coe _ _ (by norm_num), Ideal.pow_coe_coe]
  refine congrArg _ ?_
  show (2 : ℝ) ^ ((-8 * (((i 0).val : ℝ) + 1)) / 8) = _
  rw [show (-8 * (((i 0).val : ℝ) + 1)) / 8 = -(((i 0).val + 1 : ℕ) : ℝ) by push_cast; ring, Real.rpow_neg (by norm_num), Real.rpow_natCast]
  unfold Spec.slope
  rw [one_div, inv_pow]

theorem a41 (i : S128x256.Idx) : (val_main_v41 (F := Ideal) i).toInt = ((i 0).val : ℤ) - (i 1).val + 128 := by
  have h0 : (i 0).val < 128 := (i 0).isLt
  have h1 : (i 1).val < 256 := (i 1).isLt
  rw [val_main_v41_apply, val_main_v39_apply, val_main_v37_apply, val_main_v34_apply, val_main_v33_apply, val_main_v38_apply,
    val_main_v36_apply, val_main_v35_apply, val_main_v40_apply, val_main_c_apply]
  show (BitVec.ofNat 32 (i 0).val - BitVec.ofNat 32 (i 1).val + 128#32).toInt = _
  exact toInt_add_of _ _ _ _ (toInt_sub_of _ _ _ _ (toInt_nat _ (by omega)) (toInt_nat _ (by omega)) (by omega) (by omega)) rfl (by omega) (by omega)

theorem a51 (i : S64x1x256.Idx) : (val_main_v51 (F := Ideal) i).toInt = ((i 0).val : ℤ) * 128 - 128 + (i 2).val := by
  have h0 : (i 0).val < 64 := (i 0).isLt
  have h1 : (i 2).val < 256 := (i 2).isLt
  rw [val_main_v51_apply, val_main_v49_apply, val_main_v47_apply, val_main_v45_apply, val_main_v43_apply, val_main_v42_apply,
    val_main_v44_apply, val_main_c_8_apply, val_main_v46_apply, val_main_c_9_apply, val_main_v50_apply, val_main_v48_apply,
    val_main_v36_apply, val_main_v35_apply]
  show (BitVec.ofNat 32 (i 0).val * 128#32 - 128#32 + BitVec.ofNat 32 (i 2).val).toInt = _
  exact toInt_add_of _ _ _ _ (toInt_sub_of _ _ _ _ (toInt_mul_of _ _ _ _ (toInt_nat _ (by omega)) rfl (by omega) (by omega)) rfl
    (by omega) (by omega)) (toInt_nat _ (by omega)) (by omega) (by omega)

/-- The mask. -/
theorem a74 (i : S64x8x128x256.Idx) :
    val_main_v74_1 (F := Ideal) i = if ok (i 0).val (i 2).val (i 3).val then 1#1 else 0#1 := by
  rw [val_main_v74_1_apply, val_main_v73_apply, val_main_v62_apply, val_main_v60_apply, val_main_v59_apply, val_main_v56_apply,
    val_main_v53_apply, val_main_v55_apply, val_main_v61_apply, val_main_v58_apply, val_main_v52_apply, val_main_c_10_apply,
    val_main_v54_apply, val_main_c_11_apply, val_main_v57_apply, val_main_c_12_apply, cmpi_sge, cmpi_sge, cmpi_sle, a41, a51,
    andi_ite, andi_ite]
  refine if_congr ?_ rfl rfl
  unfold ok
  show (((0#32).toInt ≤ ((i 2).val : ℤ) - (i 3).val + 128 ∧ ((i 2).val : ℤ) - (i 3).val + 128 ≤ (128#32).toInt)
    ∧ (0#32).toInt ≤ ((i 0).val : ℤ) * 128 - 128 + (i 3).val) ↔ _
  rw [show (0#32).toInt = 0 from rfl, show (128#32).toInt = 128 from rfl]
  omega

/-- The scores. -/
theorem a72 (hq : Holds x0 Q) (hk : Holds x1 K) (i : S64x8x128x256.Idx) :
    val_main_v72 (F := Ideal) x0 x1 i = ((sc scaleR Q K (i 0).val (i 1).val (i 2).val (i 3).val : ℝ) : EReal) := by
  have e30 : val_main_v30 (F := Ideal) x0 x1 i = ((∑ e : Fin 128, Q (128 * (i 0).val + (i 2).val) (128 * (i 1).val + e)
      * kw K (i 0).val (i 3).val (128 * (i 1).val + e) : ℝ) : EReal) := by
    rw [val_main_v30_apply]
    refine sum_coe _ _ _ fun e _ => ?_
    rw [a15 hq, a22 hk, ← EReal.coe_mul]
  have e69 : val_main_v71 (F := Ideal) i = ((-Spec.slope (i 1).val * (((i 2).val : ℝ) - (i 3).val + 128) : ℝ) : EReal) := by
    rw [val_main_v71_apply, val_main_v70_apply, val_main_v69_apply, val_main_v67_apply, val_main_v64_apply, val_main_v63_apply, a14,
      val_main_v68_apply, val_main_v66_apply, val_main_v65_apply, Ideal.mulf_def]
    show (-((Spec.slope (i 1).val : ℝ) : EReal)) * (((val_main_v41 (F := Ideal) _).toInt : ℝ) : EReal) = _
    rw [a41, ← EReal.coe_neg, ← EReal.coe_mul]
    refine congrArg _ (congrArg _ ?_)
    push_cast
    rfl
  rw [val_main_v72_apply, val_main_v32_apply, e30, e69, val_main_v31_apply, val_main_cst_7_apply, Ideal.ofBits_def, w_scale,
    Ideal.addf_def, Ideal.mulf_def, ← EReal.coe_mul, ← EReal.coe_add]
  rfl

theorem a74_0 (hq : Holds x0 Q) (hk : Holds x1 K) (i : S64x8x128x256.Idx) :
    val_main_v74_0 (F := Ideal) x0 x1 i = if ok (i 0).val (i 2).val (i 3).val
      then ((sc scaleR Q K (i 0).val (i 1).val (i 2).val (i 3).val : ℝ) : EReal) else ⊥ := by
  rw [val_main_v74_0_apply, a74, select_ite, a72 hq hk, val_main_call0_v2_apply, val_main_call0_v0_apply, val_main_cst_13_apply,
    Ideal.ofBits_def, w_bot]

/-- The row maxima are real. -/
theorem a75 (hq : Holds x0 Q) (hk : Holds x1 K) :
    ∃ M : ℕ → ℕ → ℕ → ℝ, ∀ i, val_main_v75 (F := Ideal) x0 x1 i = ((M (i 0).val (i 1).val (i 2).val : ℝ) : EReal) := by
  have h : ∀ i : S64x8x128.Idx, ∃ m : ℝ, val_main_v75 (F := Ideal) x0 x1 i = ((m : ℝ) : EReal) := fun i => by
    have h2 : (i 2).val < 128 := (i 2).isLt
    unfold val_main_v75
    refine reduce_max_real (val_main_v74_0 (F := Ideal) x0 x1) _ _ _ i ?_ (fun j => ?_)
      (ValueIdx.ix4 (i 0) (i 1) (i 2) ⟨(i 2).val + 128, by omega⟩) ?_ (sc scaleR Q K (i 0).val (i 1).val (i 2).val ((i 2).val + 128)) ?_
    · rw [val_main_cst_14_apply, Ideal.ofBits_def, w_bot]
    · rw [a74_0 hq hk]
      split_ifs
      · exact EReal.coe_lt_top _
      · exact bot_lt_top
    · funext a
      match a with
      | ⟨0, _⟩ => rfl
      | ⟨1, _⟩ => rfl
      | ⟨2, _⟩ => rfl
    · rw [a74_0 hq hk]
      refine if_pos ?_
      · show ok (i 0).val (i 2).val ((i 2).val + 128)
        unfold ok
        omega
  choose f hf using h
  refine ⟨fun a b c => if h : a < 64 ∧ b < 8 ∧ c < 128 then f (ValueIdx.ix3 ⟨a, h.1⟩ ⟨b, h.2.1⟩ ⟨c, h.2.2⟩) else 0, fun i => ?_⟩
  have h : (i 0).val < 64 ∧ (i 1).val < 8 ∧ (i 2).val < 128 := ⟨(i 0).isLt, (i 1).isLt, (i 2).isLt⟩
  beta_reduce
  rw [hf, dif_pos h]
  refine congrArg _ (congrArg f ?_)
  funext a
  match a with
  | ⟨0, _⟩ => rfl
  | ⟨1, _⟩ => rfl
  | ⟨2, _⟩ => rfl

end

end Cert.Ref

end
-- ==== Proof.Ref2.lean ====
/- The reference's first pattern: its result and its row log-sum, and the three patterns' weights, read at an index. -/
module

public import proofs.«01_k».proof.Proof.Ref1

@[expose] public section

set_option maxRecDepth 16384

noncomputable section

namespace Cert.Ref

open Idealize.ShloMosaic Cert.ReferenceIdeal Cert.ReferenceIdeal.Read Cert.Tools Cert.Spec

abbrev In3 : Type := (⟨S8192x8x128, .f32⟩ : BufTy).Contents (Elt Ideal)
abbrev In2 : Type := (⟨S8192x8, .f32⟩ : BufTy).Contents (Elt Ideal)

/-- The arguments, their entries' real values, and the real maxima of the first pattern's rows. -/
structure Ctx where
  x0 : In
  x1 : In
  x2 : In
  x3 : In
  x4 : In3
  x5 : In2
  x6 : In3
  x7 : In2
  Q : ℕ → ℕ → ℝ
  K : ℕ → ℕ → ℝ
  V : ℕ → ℕ → ℝ
  G : ℕ → ℕ → ℝ
  O4 : ℕ → ℕ → ℕ → ℝ
  O16 : ℕ → ℕ → ℕ → ℝ
  L4 : ℕ → ℕ → ℝ
  L16 : ℕ → ℕ → ℝ
  M : ℕ → ℕ → ℕ → ℝ
  hq : Holds x0 Q
  hk : Holds x1 K
  hv : Holds x2 V
  hg : Holds x3 G
  h4 : ∀ i, x4 i = ((O4 (i 0).val (i 1).val (i 2).val : ℝ) : EReal)
  h5 : ∀ i, x5 i = ((L4 (i 0).val (i 1).val : ℝ) : EReal)
  h6 : ∀ i, x6 i = ((O16 (i 0).val (i 1).val (i 2).val : ℝ) : EReal)
  h7 : ∀ i, x7 i = ((L16 (i 0).val (i 1).val : ℝ) : EReal)
  hM : ∀ i, val_main_v75 (F := Ideal) x0 x1 i = ((M (i 0).val (i 1).val (i 2).val : ℝ) : EReal)

namespace Ctx

variable (c : Ctx)

/-- The exponential of a score less its row's maximum. -/
def pe (n h q k : ℕ) : ℝ := if ok n q k then Real.exp (sc scaleR c.Q c.K n h q k - c.M n h q) else 0
/-- Their sum over a row. -/
def dn (n h q : ℕ) : ℝ := den scaleR c.Q c.K n h q * Real.exp (-(c.M n h q))
/-- Their sum over a row, against the values. -/
def nn (n h q e : ℕ) : ℝ := num scaleR c.Q c.K c.V n h q e * Real.exp (-(c.M n h q))

theorem dn_pos (n h q : ℕ) (hq : q < 128) : 0 < c.dn n h q := mul_pos (den_pos _ _ _ _ _ _ hq) (Real.exp_pos _)

theorem a82 (i : S64x8x128x256.Idx) :
    val_main_v82 (F := Ideal) c.x0 c.x1 i = ((c.M (i 0).val (i 1).val (i 2).val : ℝ) : EReal) := by
  rw [val_main_v82_apply, val_main_v81_apply, c.hM]

theorem a84 (i : S64x8x128x256.Idx) :
    val_main_v84 (F := Ideal) c.x0 c.x1 i = ((c.pe (i 0).val (i 1).val (i 2).val (i 3).val : ℝ) : EReal) := by
  rw [val_main_v84_apply, val_main_v83_apply, a74_0 c.hq c.hk, a82, Ideal.hostUnary_exp_def, Ideal.subf_def]
  unfold pe
  split_ifs
  · rw [exp_sub_coe]
  · rw [exp_bot_sub]; rfl

theorem a85 (i : S64x8x128.Idx) :
    val_main_v85 (F := Ideal) c.x0 c.x1 i = ((c.dn (i 0).val (i 1).val (i 2).val : ℝ) : EReal) := by
  rw [val_main_v85_apply]
  exact (zsum _ w_zero _ _ fun k => c.a84 _).trans (congrArg _ (den_shift _ _ _ _ _ _ _))

theorem a87 (i : S64x8x128x128.Idx) :
    val_main_v87 (F := Ideal) c.x0 c.x1 c.x2 i = ((c.nn (i 0).val (i 1).val (i 3).val (i 2).val : ℝ) : EReal) := by
  rw [val_main_v87_apply]
  refine (sum_coe _ _ (fun k : Fin 256 => kw c.V (i 0).val k (128 * (i 1).val + (i 2).val) * c.pe (i 0).val (i 1).val (i 3).val k)
    fun k _ => ?_).trans (congrArg _ (num_shift _ _ _ _ _ _ _ _ _))
  rw [a29 c.hv, a84, ← EReal.coe_mul]

theorem a88 (i : S64x128x8x128.Idx) :
    val_main_v88 (F := Ideal) c.x0 c.x1 c.x2 i = ((c.nn (i 0).val (i 2).val (i 1).val (i 3).val : ℝ) : EReal) := by
  rw [val_main_v88_apply, a87]

theorem a90 (i : S64x128x8.Idx) :
    val_main_v90 (F := Ideal) c.x0 c.x1 i = ((c.dn (i 0).val (i 2).val (i 1).val : ℝ) : EReal) := by
  have h1 : (i 1).val < 128 := (i 1).isLt
  have h2 : (i 2).val < 8 := (i 2).isLt
  rw [val_main_v90_apply, val_main_v89_apply, val_main_v86_apply, a85]
  refine congrArg _ ?_
  dsimp only [idx_main_v86, idx_main_v89, idx_main_v90]
  congr 1 <;> omega

theorem a92 (i : S64x128x8.Idx) :
    val_main_v92 (F := Ideal) c.x0 c.x1 i = ((c.M (i 0).val (i 2).val (i 1).val : ℝ) : EReal) := by
  have h1 : (i 1).val < 128 := (i 1).isLt
  have h2 : (i 2).val < 8 := (i 2).isLt
  rw [val_main_v92_apply, val_main_v91_apply, val_main_v81_apply, c.hM]
  refine congrArg _ ?_
  dsimp only [idx_main_v81, idx_main_v91, idx_main_v92]
  congr 1 <;> omega

theorem a94 (i : S64x128x8.Idx) :
    val_main_v94 (F := Ideal) c.x0 c.x1 i = ((Real.log (den scaleR c.Q c.K (i 0).val (i 2).val (i 1).val) : ℝ) : EReal) := by
  rw [val_main_v94_apply, val_main_v93_apply, a90, a92, Ideal.hostUnary_log_def, Ideal.addf_def, log_coe _ (c.dn_pos _ _ _ (i 1).isLt),
    ← EReal.coe_add]
  exact congrArg _ (l1_shift _ _ _ _ _ _ _ (i 1).isLt)

theorem a95 (i : S64x128x8x1.Idx) :
    val_main_v95 (F := Ideal) c.x0 c.x1 i = ((c.dn (i 0).val (i 2).val (i 1).val : ℝ) : EReal) := by
  rw [val_main_v95_apply, a90]

theorem a97 (i : S64x128x8x128.Idx) :
    val_main_v97 (F := Ideal) c.x0 c.x1 c.x2 i
      = ((num scaleR c.Q c.K c.V (i 0).val (i 2).val (i 1).val (i 3).val / den scaleR c.Q c.K (i 0).val (i 2).val (i 1).val : ℝ) : EReal) := by
  rw [val_main_v97_apply, a88, val_main_v96_apply, a95, Ideal.hostDivf_def]
  refine (div_coe _ _ (c.dn_pos _ _ _ (i 1).isLt).ne').trans (congrArg _ ?_)
  exact mul_div_mul_right _ _ (Real.exp_pos _).ne'

theorem a100 (i : S64x128x8x1.Idx) :
    val_main_v100 (F := Ideal) c.x0 c.x1 i
      = ((1 / (c.dn (i 0).val (i 2).val (i 1).val * c.dn (i 0).val (i 2).val (i 1).val) : ℝ) : EReal) := by
  rw [val_main_v100_apply, val_main_v98_apply, a95, val_main_v99_apply, val_main_cst_17_apply, Ideal.hostDivf_def, Ideal.mulf_def,
    Ideal.ofBits_def, w_one, ← EReal.coe_mul]
  exact div_coe _ _ (mul_pos (c.dn_pos _ _ _ (i 1).isLt) (c.dn_pos _ _ _ (i 1).isLt)).ne'

/-- The first pattern's result. -/
theorem a101 (i : S8192x8x128.Idx) :
    val_main_v101 (F := Ideal) c.x0 c.x1 c.x2 i = ((o1 scaleR c.Q c.K c.V (i 0).val (i 1).val (i 2).val : ℝ) : EReal) := by
  have h1 : (i 1).val < 8 := (i 1).isLt
  have h2 : (i 2).val < 128 := (i 2).isLt
  rw [val_main_v101_apply, a97]
  have e0 : (idx_main_v101 i 0).val = (i 0).val / 128 := by dsimp only [idx_main_v101]; omega
  have e1 : (idx_main_v101 i 1).val = (i 0).val % 128 := by dsimp only [idx_main_v101]; omega
  have e2 : (idx_main_v101 i 2).val = (i 1).val := by dsimp only [idx_main_v101]; omega
  have e3 : (idx_main_v101 i 3).val = (i 2).val := by dsimp only [idx_main_v101]; omega
  rw [e0, e1, e2, e3]
  rfl

/-- The first pattern's row log-sum. -/
theorem a102 (i : S8192x8.Idx) :
    val_main_v102 (F := Ideal) c.x0 c.x1 i = ((l1 scaleR c.Q c.K (i 0).val (i 1).val : ℝ) : EReal) := by
  have h1 : (i 1).val < 8 := (i 1).isLt
  rw [val_main_v102_apply, a94]
  have e0 : (idx_main_v102 i 0).val = (i 0).val / 128 := by dsimp only [idx_main_v102]; omega
  have e1 : (idx_main_v102 i 1).val = (i 0).val % 128 := by dsimp only [idx_main_v102]; omega
  have e2 : (idx_main_v102 i 2).val = (i 1).val := by dsimp only [idx_main_v102]; omega
  rw [e0, e1, e2]
  rfl

/-- Pattern `t`'s row log-sum. -/
def lv (t r h : ℕ) : ℝ := if t = 0 then l1 scaleR c.Q c.K r h else if t = 1 then c.L4 r h else c.L16 r h
/-- Pattern `t`'s result. -/
def ov (t r h e : ℕ) : ℝ := if t = 0 then o1 scaleR c.Q c.K c.V r h e else if t = 1 then c.O4 r h e else c.O16 r h e

theorem a106 (i : S3x8192x8.Idx) :
    val_main_v106 (F := Ideal) c.x0 c.x1 c.x5 c.x7 i = ((c.lv (i 0).val (i 1).val (i 2).val : ℝ) : EReal) := by
  have h0 : (i 0).val < 3 := (i 0).isLt
  have hi : ∀ b : Fin 3, b ≠ 0 → (ValueIdx.ix3 (⟨0, Nat.one_pos⟩ : Fin 1) (i 1) (i 2) b).val = (i b).val := fun b hb => by
    match b with
    | ⟨0, _⟩ => exact absurd rfl hb
    | ⟨1, _⟩ => rfl
    | ⟨2, _⟩ => rfl
  unfold val_main_v106 lv
  rcases (by omega : (i 0).val = 0 ∨ (i 0).val = 1 ∨ (i 0).val = 2) with h | h | h
  · rw [concatenate_apply_piece (t := S3x8192x8) 0 _ _ i 0 (by simp) S1x8192x8 _ rfl rfl 0 rfl
      (ValueIdx.ix3 ⟨0, Nat.one_pos⟩ (i 1) (i 2)) hi (by rw [h]; rfl), val_main_v103_apply, a102, if_pos h]
  · rw [concatenate_apply_piece (t := S3x8192x8) 0 _ _ i 1 (by simp) S1x8192x8 _ rfl rfl 1 rfl
      (ValueIdx.ix3 ⟨0, Nat.one_pos⟩ (i 1) (i 2)) hi (by rw [h]; rfl), val_main_v104_apply, c.h5, if_neg (by omega), if_pos h]
  · rw [concatenate_apply_piece (t := S3x8192x8) 0 _ _ i 2 (by simp) S1x8192x8 _ rfl rfl 2 rfl
      (ValueIdx.ix3 ⟨0, Nat.one_pos⟩ (i 1) (i 2)) hi (by rw [h]; rfl), val_main_v105_apply, c.h7, if_neg (by omega), if_neg (by omega)]

theorem a141 (i : S3x8192x8x128.Idx) :
    val_main_v141 (F := Ideal) c.x0 c.x1 c.x2 c.x4 c.x6 i = ((c.ov (i 0).val (i 1).val (i 2).val (i 3).val : ℝ) : EReal) := by
  have h0 : (i 0).val < 3 := (i 0).isLt
  have hi : ∀ b : Fin 4, b ≠ 0 → (ValueIdx.ix4 (⟨0, Nat.one_pos⟩ : Fin 1) (i 1) (i 2) (i 3) b).val = (i b).val := fun b hb => by
    match b with
    | ⟨0, _⟩ => exact absurd rfl hb
    | ⟨1, _⟩ => rfl
    | ⟨2, _⟩ => rfl
    | ⟨3, _⟩ => rfl
  unfold val_main_v141 ov
  rcases (by omega : (i 0).val = 0 ∨ (i 0).val = 1 ∨ (i 0).val = 2) with h | h | h
  · rw [concatenate_apply_piece (t := S3x8192x8x128) 0 _ _ i 0 (by simp) S1x8192x8x128 _ rfl rfl 0 rfl
      (ValueIdx.ix4 ⟨0, Nat.one_pos⟩ (i 1) (i 2) (i 3)) hi (by rw [h]; rfl), val_main_v138_apply, a101, if_pos h]
  · rw [concatenate_apply_piece (t := S3x8192x8x128) 0 _ _ i 1 (by simp) S1x8192x8x128 _ rfl rfl 1 rfl
      (ValueIdx.ix4 ⟨0, Nat.one_pos⟩ (i 1) (i 2) (i 3)) hi (by rw [h]; rfl), val_main_v139_apply, c.h4, if_neg (by omega), if_pos h]
  · rw [concatenate_apply_piece (t := S3x8192x8x128) 0 _ _ i 2 (by simp) S1x8192x8x128 _ rfl rfl 2 rfl
      (ValueIdx.ix4 ⟨0, Nat.one_pos⟩ (i 1) (i 2) (i 3)) hi (by rw [h]; rfl), val_main_v140_apply, c.h6, if_neg (by omega), if_neg (by omega)]

/-- The maxima of the three row log-sums are real. -/
theorem a109 : ∃ M2 : ℕ → ℕ → ℝ, ∀ i, val_main_v109 (F := Ideal) c.x0 c.x1 c.x5 c.x7 i = ((M2 (i 0).val (i 1).val : ℝ) : EReal) := by
  have h : ∀ i : S8192x8.Idx, ∃ m : ℝ, val_main_v109 (F := Ideal) c.x0 c.x1 c.x5 c.x7 i = ((m : ℝ) : EReal) := fun i => by
    unfold val_main_v109
    refine reduce_max_real (val_main_v106 (F := Ideal) c.x0 c.x1 c.x5 c.x7) _ _ _ i ?_ (fun j => ?_)
      (ValueIdx.ix3 ⟨0, by omega⟩ (i 0) (i 1)) ?_ (c.lv 0 (i 0).val (i 1).val) ?_
    · rw [val_main_cst_20_apply, Ideal.ofBits_def, w_bot]
    · rw [a106]; exact EReal.coe_lt_top _
    · funext a
      match a with
      | ⟨0, _⟩ => rfl
      | ⟨1, _⟩ => rfl
    · rw [a106]
  choose f hf using h
  refine ⟨fun a b => if h : a < 8192 ∧ b < 8 then f (ValueIdx.ix2 ⟨a, h.1⟩ ⟨b, h.2⟩) else 0, fun i => ?_⟩
  have h : (i 0).val < 8192 ∧ (i 1).val < 8 := ⟨(i 0).isLt, (i 1).isLt⟩
  beta_reduce
  rw [hf, dif_pos h]
  refine congrArg _ (congrArg f ?_)
  funext a
  match a with
  | ⟨0, _⟩ => rfl
  | ⟨1, _⟩ => rfl

end Ctx

end Cert.Ref

end
-- ==== Proof.Ref3.lean ====
/- The reference's cotangents: those of the first pattern's result and row log-sum, and that of the scores. -/
module

public import proofs.«01_k».proof.Proof.Ref2

@[expose] public section

set_option maxRecDepth 16384

noncomputable section

namespace Cert.Ref

open Idealize.ShloMosaic Cert.ReferenceIdeal Cert.ReferenceIdeal.Read Cert.Tools Cert.Spec

/-- As `Ctx`, with the real maxima of the patterns' row log-sums. -/
structure Ctx2 extends Ctx where
  M2 : ℕ → ℕ → ℝ
  hM2 : ∀ i, val_main_v109 (F := Ideal) x0 x1 x5 x7 i = ((M2 (i 0).val (i 1).val : ℝ) : EReal)

namespace Ctx2

open Ctx

variable (c : Ctx2)

/-- The exponential of pattern `t`'s row log-sum less the row's maximum. -/
def z (t r h : ℕ) : ℝ := Real.exp (c.lv t r h - c.M2 r h)
/-- Their sum over the patterns. -/
def Z (r h : ℕ) : ℝ := ∑ t : Fin 3, c.z t r h
/-- The cotangent against pattern `t`'s result. -/
def gd (t r h : ℕ) : ℝ := ∑ e : Fin 128, c.G r (128 * h + e) * c.ov t r h e
/-- The cotangent of the first pattern's row log-sum, as the reference forms it. -/
def cl (r h : ℕ) : ℝ := (c.gd 0 r h / c.Z r h + -∑ t : Fin 3, c.gd t r h * (1 / (c.Z r h * c.Z r h)) * c.z t r h) * c.z 0 r h

theorem z_pos (t r h : ℕ) : 0 < c.z t r h := Real.exp_pos _
theorem Z_pos (r h : ℕ) : 0 < c.Z r h := Finset.sum_pos (fun t _ => c.z_pos _ _ _) ⟨0, Finset.mem_univ _⟩

theorem a127 (i : S3x8192x8.Idx) :
    val_main_v127 (F := Ideal) c.x0 c.x1 c.x5 c.x7 i = ((c.M2 (i 1).val (i 2).val : ℝ) : EReal) := by
  rw [val_main_v127_apply, val_main_v126_apply, val_main_v116_apply, c.hM2, val_main_v115_apply, val_main_cst_22_apply,
    Ideal.ofBits_def, w_bot, Ideal.maximumf_def, max_eq_right bot_le]

theorem a129 (i : S3x8192x8.Idx) :
    val_main_v129 (F := Ideal) c.x0 c.x1 c.x5 c.x7 i = ((c.z (i 0).val (i 1).val (i 2).val : ℝ) : EReal) := by
  rw [val_main_v129_apply, val_main_v128_apply, a106, a127, Ideal.hostUnary_exp_def, Ideal.subf_def, exp_sub_coe]
  rfl

theorem a131 (i : S1x8192x8.Idx) :
    val_main_v131 (F := Ideal) c.x0 c.x1 c.x5 c.x7 i = ((c.Z (i 1).val (i 2).val : ℝ) : EReal) := by
  rw [val_main_v131_apply, val_main_v130_apply]
  exact (zsum _ w_zero _ _ fun k => c.a129 _)

theorem a133 (i : S3x8192x8.Idx) :
    val_main_v133 (F := Ideal) c.x0 c.x1 c.x5 c.x7 i
      = ((c.z (i 0).val (i 1).val (i 2).val / c.Z (i 1).val (i 2).val : ℝ) : EReal) := by
  rw [val_main_v133_apply, val_main_v132_apply, a129, a131, Ideal.hostDivf_def]
  exact div_coe _ _ (c.Z_pos _ _).ne'

theorem a136 (i : S1x8192x8.Idx) :
    val_main_v136 (F := Ideal) c.x0 c.x1 c.x5 c.x7 i
      = ((1 / (c.Z (i 1).val (i 2).val * c.Z (i 1).val (i 2).val) : ℝ) : EReal) := by
  rw [val_main_v136_apply, val_main_v134_apply, a131, val_main_v135_apply, val_main_cst_29_apply, Ideal.hostDivf_def, Ideal.mulf_def,
    Ideal.ofBits_def, w_one, ← EReal.coe_mul]
  exact div_coe _ _ (mul_pos (c.Z_pos _ _) (c.Z_pos _ _)).ne'

theorem a149 (i : S3x8192x8x128.Idx) :
    val_main_v149 (F := Ideal) c.x3 i = ((c.G (i 1).val (128 * (i 2).val + (i 3).val) : ℝ) : EReal) := by
  have h2 : (i 2).val < 8 := (i 2).isLt
  have h3 : (i 3).val < 128 := (i 3).isLt
  rw [val_main_v149_apply, val_main_v148_apply, val_main_v147_apply, Ideal.extf_def, c.hg]
  refine congrArg _ (congrArg₂ c.G ?_ ?_)
  · dsimp only [idx_main_v148, idx_main_v149]; omega
  · dsimp only [idx_main_v148, idx_main_v149]; omega

theorem a151 (i : S3x8192x8x128.Idx) :
    val_main_v151 (F := Ideal) c.x0 c.x1 c.x3 c.x5 c.x7 i = ((c.z (i 0).val (i 1).val (i 2).val / c.Z (i 1).val (i 2).val
      * c.G (i 1).val (128 * (i 2).val + (i 3).val) : ℝ) : EReal) := by
  rw [val_main_v151_apply, val_main_v150_apply, val_main_v137_apply, a133, a149, Ideal.mulf_def, ← EReal.coe_mul]

theorem a153 (i : S3x8192x8.Idx) :
    val_main_v153 (F := Ideal) c.x0 c.x1 c.x2 c.x3 c.x4 c.x6 i = ((c.gd (i 0).val (i 1).val (i 2).val : ℝ) : EReal) := by
  rw [val_main_v153_apply]
  refine (zsum _ w_zero _ (fun k : Fin 128 => c.G (i 1).val (128 * (i 2).val + k) * c.ov (i 0).val (i 1).val (i 2).val k) fun k => ?_)
  rw [val_main_v152_apply, a149, a141, Ideal.mulf_def, ← EReal.coe_mul]

theorem a161 (i : S3x8192x8.Idx) :
    val_main_v161 (F := Ideal) c.x0 c.x1 c.x2 c.x3 c.x4 c.x6 i = ((c.gd (i 0).val (i 1).val (i 2).val : ℝ) : EReal) := by
  have h0 : (i 0).val < 3 := (i 0).isLt
  have h1 : (i 1).val < 8192 := (i 1).isLt
  have h2 : (i 2).val < 8 := (i 2).isLt
  rw [val_main_v161_apply]
  refine (zsum _ w_zero _ (fun _ : Fin 1 => c.gd (i 0).val (i 1).val (i 2).val) fun k => ?_).trans (by rw [Fin.sum_univ_one])
  rw [val_main_v154_apply, a153]
  refine congrArg _ ?_
  have hk : k.val = 0 := by omega
  dsimp only [idx_main_v154, idx_main_v161]
  congr 1 <;> omega

/-- The cotangent of the first pattern's result. -/
theorem a156 (i : S8192x8x128.Idx) :
    val_main_v156 (F := Ideal) c.x0 c.x1 c.x3 c.x5 c.x7 i = ((c.z 0 (i 0).val (i 1).val / c.Z (i 0).val (i 1).val
      * c.G (i 0).val (128 * (i 1).val + (i 2).val) : ℝ) : EReal) := by
  have h0 : (i 0).val < 8192 := (i 0).isLt
  have h1 : (i 1).val < 8 := (i 1).isLt
  have h2 : (i 2).val < 128 := (i 2).isLt
  rw [val_main_v156_apply, val_main_v155_apply, a151]
  have e1 : (idx_main_v155 (idx_main_v156 i) 1).val = (i 0).val := by dsimp only [idx_main_v155, idx_main_v156]; omega
  have e2 : (idx_main_v155 (idx_main_v156 i) 2).val = (i 1).val := by dsimp only [idx_main_v155, idx_main_v156]; omega
  have e3 : (idx_main_v155 (idx_main_v156 i) 3).val = (i 2).val := by dsimp only [idx_main_v155, idx_main_v156]; omega
  rw [e1, e2, e3]

theorem a165 (i : S8192x8.Idx) :
    val_main_v165 (F := Ideal) c.x0 c.x1 c.x2 c.x3 c.x4 c.x5 c.x6 c.x7 i = ((∑ t : Fin 3, c.gd t (i 0).val (i 1).val
      * (1 / (c.Z (i 0).val (i 1).val * c.Z (i 0).val (i 1).val)) * c.z t (i 0).val (i 1).val : ℝ) : EReal) := by
  rw [val_main_v165_apply]
  refine zsum _ w_zero _ _ fun k => ?_
  rw [val_main_v164_apply, val_main_v163_apply, a161, a129, val_main_v162_apply, a136, Ideal.mulf_def, Ideal.mulf_def, ← EReal.coe_mul,
    ← EReal.coe_mul]

theorem a170 (i : S8192x8.Idx) :
    val_main_v170 (F := Ideal) c.x0 c.x1 c.x2 c.x3 c.x4 c.x5 c.x6 c.x7 i = ((-∑ t : Fin 3, c.gd t (i 0).val (i 1).val
      * (1 / (c.Z (i 0).val (i 1).val * c.Z (i 0).val (i 1).val)) * c.z t (i 0).val (i 1).val : ℝ) : EReal) := by
  have h0 : (i 0).val < 8192 := (i 0).isLt
  have h1 : (i 1).val < 8 := (i 1).isLt
  rw [val_main_v170_apply]
  refine (zsum _ w_zero _ (fun _ : Fin 1 => -∑ t : Fin 3, c.gd t (i 0).val (i 1).val
      * (1 / (c.Z (i 0).val (i 1).val * c.Z (i 0).val (i 1).val)) * c.z t (i 0).val (i 1).val) fun k => ?_).trans (by rw [Fin.sum_univ_one])
  have hk : k.val = 0 := by omega
  rw [val_main_v167_apply, val_main_v166_apply, a165]
  have e0 : (idx_main_v166 (idx_main_v170 i k) 0).val = (i 0).val := by dsimp only [idx_main_v166, idx_main_v170]; omega
  have e1 : (idx_main_v166 (idx_main_v170 i k) 1).val = (i 1).val := by dsimp only [idx_main_v166, idx_main_v170]; omega
  rw [e0, e1, EReal.coe_neg]
  rfl

/-- The cotangent of the first pattern's row log-sum. -/
theorem a175 (i : S8192x8.Idx) :
    val_main_v175 (F := Ideal) c.x0 c.x1 c.x2 c.x3 c.x4 c.x5 c.x6 c.x7 i = ((c.cl (i 0).val (i 1).val : ℝ) : EReal) := by
  have h0 : (i 0).val < 8192 := (i 0).isLt
  have h1 : (i 1).val < 8 := (i 1).isLt
  rw [val_main_v175_apply, val_main_v174_apply, val_main_v173_apply, val_main_v172_apply, val_main_v169_apply, a161, val_main_v168_apply,
    a131, val_main_v171_apply, a170, a129, Ideal.hostDivf_def, Ideal.mulf_def, Ideal.addf_def, div_coe _ _ (c.Z_pos _ _).ne', ← EReal.coe_add,
    ← EReal.coe_mul]
  have e1 : (idx_main_v174 (idx_main_v175 i) 1).val = (i 0).val := by dsimp only [idx_main_v174, idx_main_v175]; omega
  have e2 : (idx_main_v174 (idx_main_v175 i) 2).val = (i 1).val := by dsimp only [idx_main_v174, idx_main_v175]; omega
  refine congrArg _ ?_
  unfold cl
  rw [← e1, ← e2]

end Ctx2

end Cert.Ref

end
-- ==== Proof.Ref4.lean ====
/- The reference's results are the gradients of `Spec`. -/
module

public import proofs.«01_k».proof.Proof.Ref3
public import Idealize.ShloMosaic.Lib.KernelVsHost

@[expose] public section

set_option maxRecDepth 16384

noncomputable section

namespace Cert.Ref

open Idealize.ShloMosaic Cert.ReferenceIdeal Cert.ReferenceIdeal.Read Cert.Tools Cert.Spec

namespace Ctx2

open Ctx

variable (c : Ctx2)

/-- The gradient of the score. -/
def dS (n h q k : ℕ) : ℝ := ds scaleR c.Q c.K c.V c.G c.O4 c.O16 c.L4 c.L16 n h q k
/-- The weight of the first pattern. -/
def w (r h : ℕ) : ℝ := c.z 0 r h / c.Z r h

theorem Z_eq (r h : ℕ) : c.Z r h = Real.exp (l1 scaleR c.Q c.K r h - c.M2 r h) + Real.exp (c.L4 r h - c.M2 r h)
    + Real.exp (c.L16 r h - c.M2 r h) := by
  unfold Z
  rw [Fin.sum_univ_three]
  rfl

theorem weight (t r h : ℕ) : c.z t r h / c.Z r h = Real.exp (c.lv t r h - lse scaleR c.Q c.K c.L4 c.L16 r h) := by
  rw [Z_eq]
  exact weight_shift _ _ _ _ _ _ _ _ _

theorem delta_eq (r h : ℕ) : delta scaleR c.Q c.K c.V c.G c.O4 c.O16 c.L4 c.L16 r h
    = ∑ t : Fin 3, c.z t r h / c.Z r h * c.gd t r h := by
  rw [Fin.sum_univ_three, weight, weight, weight]
  unfold delta gd
  rw [Finset.mul_sum, Finset.mul_sum, Finset.mul_sum, ← Finset.sum_add_distrib, ← Finset.sum_add_distrib]
  refine Finset.sum_congr rfl fun e _ => ?_
  show c.G r (128 * h + e) * (Real.exp (l1 scaleR c.Q c.K r h - lse scaleR c.Q c.K c.L4 c.L16 r h) * o1 scaleR c.Q c.K c.V r h e
      + Real.exp (c.L4 r h - lse scaleR c.Q c.K c.L4 c.L16 r h) * c.O4 r h e
      + Real.exp (c.L16 r h - lse scaleR c.Q c.K c.L4 c.L16 r h) * c.O16 r h e)
    = Real.exp (l1 scaleR c.Q c.K r h - lse scaleR c.Q c.K c.L4 c.L16 r h) * (c.G r (128 * h + e) * o1 scaleR c.Q c.K c.V r h e)
      + Real.exp (c.L4 r h - lse scaleR c.Q c.K c.L4 c.L16 r h) * (c.G r (128 * h + e) * c.O4 r h e)
      + Real.exp (c.L16 r h - lse scaleR c.Q c.K c.L4 c.L16 r h) * (c.G r (128 * h + e) * c.O16 r h e)
  ring

theorem cl_eq (r h : ℕ) : c.cl r h = c.w r h * (c.gd 0 r h - delta scaleR c.Q c.K c.V c.G c.O4 c.O16 c.L4 c.L16 r h) := by
  have hZ := (c.Z_pos r h).ne'
  rw [delta_eq]
  unfold cl w
  rw [Fin.sum_univ_three, Fin.sum_univ_three]
  field_simp
  ring

theorem gd0_eq (n h q : ℕ) (hq : q < 128) :
    c.gd 0 (128 * n + q) h = ∑ e : Fin 128, c.G (128 * n + q) (128 * h + e) * (c.nn n h q e / c.dn n h q) := by
  unfold gd
  refine Finset.sum_congr rfl fun e _ => ?_
  show c.G (128 * n + q) (128 * h + e) * o1 scaleR c.Q c.K c.V (128 * n + q) h e = _
  rw [o1_row _ _ _ _ _ _ _ _ hq]
  unfold nn dn
  rw [mul_div_mul_right _ _ (Real.exp_pos _).ne']

theorem prob_eq (n h q k : ℕ) (hq : q < 128) :
    c.w (128 * n + q) h / c.dn n h q * c.pe n h q k = prob scaleR c.Q c.K c.L4 c.L16 n h q k := by
  unfold prob pe dn w
  split_ifs
  · rw [weight]
    show Real.exp (l1 scaleR c.Q c.K (128 * n + q) h - _) / _ * _ = _
    rw [l1_row _ _ _ _ _ _ hq, sub_eq_add_neg, Real.exp_add, Real.exp_log (den_pos _ _ _ _ _ _ hq), sub_eq_add_neg, Real.exp_add,
      sub_eq_add_neg, Real.exp_add]
    have h1 := (den_pos scaleR c.Q c.K n h q hq).ne'
    have h2 := (Real.exp_pos (-(c.M n h q))).ne'
    field_simp
  · rw [mul_zero]

/-- The gradient of the score, as the reference forms it. -/
theorem dS_eq (n h q k : ℕ) (hq : q < 128) :
    ((∑ e : Fin 128, c.w (128 * n + q) h * c.G (128 * n + q) (128 * h + e) / c.dn n h q * kw c.V n k (128 * h + e))
      + (-∑ e : Fin 128, c.w (128 * n + q) h * c.G (128 * n + q) (128 * h + e) * (1 / (c.dn n h q * c.dn n h q)) * c.nn n h q e)
      + c.cl (128 * n + q) h / c.dn n h q) * c.pe n h q k = c.dS n h q k := by
  have hd := (c.dn_pos n h q hq).ne'
  have e1 : (∑ e : Fin 128, c.w (128 * n + q) h * c.G (128 * n + q) (128 * h + e) / c.dn n h q * kw c.V n k (128 * h + e))
      = c.w (128 * n + q) h / c.dn n h q * ∑ e : Fin 128, c.G (128 * n + q) (128 * h + e) * kw c.V n k (128 * h + e) := by
    rw [Finset.mul_sum]; exact Finset.sum_congr rfl fun e _ => by ring
  have e2 : (∑ e : Fin 128, c.w (128 * n + q) h * c.G (128 * n + q) (128 * h + e) * (1 / (c.dn n h q * c.dn n h q)) * c.nn n h q e)
      = c.w (128 * n + q) h / c.dn n h q * c.gd 0 (128 * n + q) h := by
    rw [gd0_eq _ _ _ _ hq, Finset.mul_sum]; exact Finset.sum_congr rfl fun e _ => by field_simp
  rw [e1, e2, cl_eq]
  unfold dS ds
  rw [← prob_eq _ _ _ _ _ hq]
  ring

/-- A row's gradients of the scores sum to the cotangent of the row log-sum. -/
theorem dS_sum (n h q : ℕ) (hq : q < 128) : ∑ k : Fin 256, c.dS n h q k = c.cl (128 * n + q) h := by
  have hd := (c.dn_pos n h q hq).ne'
  have hs : ∑ k : Fin 256, c.pe n h q k = c.dn n h q := den_shift _ _ _ _ _ _ _
  have hn : ∀ e : ℕ, ∑ k : Fin 256, kw c.V n k (128 * h + e) * c.pe n h q k = c.nn n h q e := fun e => num_shift _ _ _ _ _ _ _ _ _
  have e1 : ∀ k : Fin 256, c.dS n h q k = c.w (128 * n + q) h / c.dn n h q
      * ((∑ e : Fin 128, c.G (128 * n + q) (128 * h + e) * (kw c.V n k (128 * h + e) * c.pe n h q k))
        - c.pe n h q k * delta scaleR c.Q c.K c.V c.G c.O4 c.O16 c.L4 c.L16 (128 * n + q) h) := fun k => by
    unfold dS ds
    rw [← prob_eq _ _ _ _ _ hq,
      show (∑ e : Fin 128, c.G (128 * n + q) (128 * h + e) * (kw c.V n k (128 * h + e) * c.pe n h q k))
        = (∑ e : Fin 128, c.G (128 * n + q) (128 * h + e) * kw c.V n k (128 * h + e)) * c.pe n h q k by
          rw [Finset.sum_mul]; exact Finset.sum_congr rfl fun e _ => by ring]
    ring
  rw [Finset.sum_congr rfl fun k _ => e1 k, ← Finset.mul_sum, Finset.sum_sub_distrib, ← Finset.sum_mul, hs, Finset.sum_comm,
    Finset.sum_congr rfl fun (e : Fin 128) _ => (by rw [← Finset.mul_sum, hn] :
      ∑ k : Fin 256, c.G (128 * n + q) (128 * h + e) * (kw c.V n k (128 * h + e) * c.pe n h q k)
        = c.G (128 * n + q) (128 * h + e) * c.nn n h q e), cl_eq, gd0_eq _ _ _ _ hq,
    show (∑ e : Fin 128, c.G (128 * n + q) (128 * h + e) * (c.nn n h q e / c.dn n h q))
      = (∑ e : Fin 128, c.G (128 * n + q) (128 * h + e) * c.nn n h q e) / c.dn n h q by
        rw [Finset.sum_div]; exact Finset.sum_congr rfl fun e _ => by ring]
  field_simp

theorem a180 (i : S64x128x8.Idx) :
    val_main_v180 (F := Ideal) c.x0 c.x1 c.x2 c.x3 c.x4 c.x5 c.x6 c.x7 i = ((c.cl (128 * (i 0).val + (i 1).val) (i 2).val : ℝ) : EReal) := by
  have h1 : (i 1).val < 128 := (i 1).isLt
  have h2 : (i 2).val < 8 := (i 2).isLt
  rw [val_main_v180_apply, a175]
  have e0 : (idx_main_v180 i 0).val = 128 * (i 0).val + (i 1).val := by dsimp only [idx_main_v180]; omega
  have e1 : (idx_main_v180 i 1).val = (i 2).val := by dsimp only [idx_main_v180]; omega
  rw [e0, e1]

theorem a181 (i : S64x128x8x128.Idx) :
    val_main_v181 (F := Ideal) c.x0 c.x1 c.x3 c.x5 c.x7 i = ((c.w (128 * (i 0).val + (i 1).val) (i 2).val
      * c.G (128 * (i 0).val + (i 1).val) (128 * (i 2).val + (i 3).val) : ℝ) : EReal) := by
  have h1 : (i 1).val < 128 := (i 1).isLt
  have h2 : (i 2).val < 8 := (i 2).isLt
  have h3 : (i 3).val < 128 := (i 3).isLt
  rw [val_main_v181_apply, a156]
  have e0 : (idx_main_v181 i 0).val = 128 * (i 0).val + (i 1).val := by dsimp only [idx_main_v181]; omega
  have e1 : (idx_main_v181 i 1).val = (i 2).val := by dsimp only [idx_main_v181]; omega
  have e2 : (idx_main_v181 i 2).val = (i 3).val := by dsimp only [idx_main_v181]; omega
  rw [e0, e1, e2]
  rfl

theorem a189 (i : S64x128x8x128.Idx) :
    val_main_v189 (F := Ideal) c.x0 c.x1 c.x3 c.x5 c.x7 i = ((c.w (128 * (i 0).val + (i 1).val) (i 2).val
      * c.G (128 * (i 0).val + (i 1).val) (128 * (i 2).val + (i 3).val) / c.dn (i 0).val (i 2).val (i 1).val : ℝ) : EReal) := by
  rw [val_main_v189_apply, a181, val_main_v188_apply, a95, Ideal.hostDivf_def]
  exact div_coe _ _ (c.dn_pos _ _ _ (i 1).isLt).ne'

theorem a185 (i : S64x128x8.Idx) :
    val_main_v185 (F := Ideal) c.x0 c.x1 c.x2 c.x3 c.x5 c.x7 i = ((∑ e : Fin 128, c.w (128 * (i 0).val + (i 1).val) (i 2).val
      * c.G (128 * (i 0).val + (i 1).val) (128 * (i 2).val + e) * (1 / (c.dn (i 0).val (i 2).val (i 1).val * c.dn (i 0).val (i 2).val (i 1).val))
      * c.nn (i 0).val (i 2).val (i 1).val e : ℝ) : EReal) := by
  rw [val_main_v185_apply]
  refine zsum _ w_zero _ _ fun k => ?_
  rw [val_main_v184_apply, val_main_v183_apply, a181, val_main_v182_apply, a100, a88, Ideal.mulf_def, Ideal.mulf_def, ← EReal.coe_mul,
    ← EReal.coe_mul]

theorem a190 (i : S64x128x8.Idx) :
    val_main_v190 (F := Ideal) c.x0 c.x1 c.x2 c.x3 c.x5 c.x7 i = ((-∑ e : Fin 128, c.w (128 * (i 0).val + (i 1).val) (i 2).val
      * c.G (128 * (i 0).val + (i 1).val) (128 * (i 2).val + e) * (1 / (c.dn (i 0).val (i 2).val (i 1).val * c.dn (i 0).val (i 2).val (i 1).val))
      * c.nn (i 0).val (i 2).val (i 1).val e : ℝ) : EReal) := by
  have h0 : (i 0).val < 64 := (i 0).isLt
  have h1 : (i 1).val < 128 := (i 1).isLt
  have h2 : (i 2).val < 8 := (i 2).isLt
  rw [val_main_v190_apply]
  refine (zsum _ w_zero _ (fun _ : Fin 1 => -∑ e : Fin 128, c.w (128 * (i 0).val + (i 1).val) (i 2).val
      * c.G (128 * (i 0).val + (i 1).val) (128 * (i 2).val + e) * (1 / (c.dn (i 0).val (i 2).val (i 1).val * c.dn (i 0).val (i 2).val (i 1).val))
      * c.nn (i 0).val (i 2).val (i 1).val e) fun k => ?_).trans (by rw [Fin.sum_univ_one])
  have hk : k.val = 0 := by omega
  rw [val_main_v187_apply, val_main_v186_apply, a185]
  have e0 : (idx_main_v186 (idx_main_v190 i k) 0).val = (i 0).val := by dsimp only [idx_main_v186, idx_main_v190]; omega
  have e1 : (idx_main_v186 (idx_main_v190 i k) 1).val = (i 1).val := by dsimp only [idx_main_v186, idx_main_v190]; omega
  have e2 : (idx_main_v186 (idx_main_v190 i k) 2).val = (i 2).val := by dsimp only [idx_main_v186, idx_main_v190]; omega
  rw [e0, e1, e2, EReal.coe_neg]
  rfl

/-- The cotangent of a row's sum of exponentials. -/
def cd (n h q : ℕ) : ℝ :=
  (-∑ e : Fin 128, c.w (128 * n + q) h * c.G (128 * n + q) (128 * h + e) * (1 / (c.dn n h q * c.dn n h q)) * c.nn n h q e)
    + c.cl (128 * n + q) h / c.dn n h q

theorem a192 (i : S64x128x8.Idx) :
    val_main_v192 (F := Ideal) c.x0 c.x1 c.x2 c.x3 c.x4 c.x5 c.x6 c.x7 i = ((c.cd (i 0).val (i 2).val (i 1).val : ℝ) : EReal) := by
  rw [val_main_v192_apply, val_main_v191_apply, a190, a180, a90, Ideal.hostDivf_def, Ideal.addf_def,
    div_coe _ _ (c.dn_pos _ _ _ (i 1).isLt).ne', ← EReal.coe_add]
  rfl

theorem a201 (i : S64x8x128.Idx) :
    val_main_v201 (F := Ideal) c.x0 c.x1 c.x2 c.x3 c.x4 c.x5 c.x6 c.x7 i = ((c.cd (i 0).val (i 1).val (i 2).val : ℝ) : EReal) := by
  rw [val_main_v201_apply]
  refine (zsum _ w_zero _ (fun _ : Fin 1 => c.cd (i 0).val (i 1).val (i 2).val) fun k => ?_).trans (by rw [Fin.sum_univ_one])
  rw [val_main_v196_apply, val_main_v195_apply, a192]

theorem a197 (i : S64x8x128x128.Idx) :
    val_main_v197 (F := Ideal) c.x0 c.x1 c.x3 c.x5 c.x7 i = ((c.w (128 * (i 0).val + (i 3).val) (i 1).val
      * c.G (128 * (i 0).val + (i 3).val) (128 * (i 1).val + (i 2).val) / c.dn (i 0).val (i 1).val (i 3).val : ℝ) : EReal) := by
  rw [val_main_v197_apply, a189]

theorem a204 (i : S64x8x128x256.Idx) :
    val_main_v204 (F := Ideal) c.x0 c.x1 c.x2 c.x3 c.x4 c.x5 c.x6 c.x7 i = ((c.dS (i 0).val (i 1).val (i 2).val (i 3).val : ℝ) : EReal) := by
  have e198 : val_main_v198 (F := Ideal) c.x0 c.x1 c.x2 c.x3 c.x5 c.x7 i = ((∑ e : Fin 128, c.w (128 * (i 0).val + (i 2).val) (i 1).val
      * c.G (128 * (i 0).val + (i 2).val) (128 * (i 1).val + e) / c.dn (i 0).val (i 1).val (i 2).val
      * kw c.V (i 0).val (i 3).val (128 * (i 1).val + e) : ℝ) : EReal) := by
    rw [val_main_v198_apply]
    refine sum_coe _ _ _ fun k _ => ?_
    rw [a197, a29 c.hv, ← EReal.coe_mul]
  rw [val_main_v204_apply, val_main_v203_apply, e198, val_main_v202_apply, a201, a84, Ideal.addf_def, Ideal.mulf_def, ← EReal.coe_add,
    ← EReal.coe_mul]
  refine congrArg _ (Eq.trans ?_ (c.dS_eq _ _ _ _ (i 2).isLt))
  unfold cd
  dsimp only [idx_main_v202]
  ring

theorem a206 (i : S64x8x128.Idx) :
    val_main_v206 (F := Ideal) c.x0 c.x1 c.x2 c.x3 c.x4 c.x5 c.x6 c.x7 i = ((-c.cl (128 * (i 0).val + (i 2).val) (i 1).val : ℝ) : EReal) := by
  rw [val_main_v206_apply]
  refine (zsum _ w_zero _ (fun k : Fin 256 => -c.dS (i 0).val (i 1).val (i 2).val k) fun k => ?_).trans ?_
  · rw [val_main_v205_apply, a204]; rfl
  · rw [Finset.sum_neg_distrib, dS_sum _ _ _ _ (i 2).isLt]

theorem a209 (i : S64x8x128.Idx) :
    val_main_v209 (F := Ideal) c.x0 c.x1 c.x2 c.x3 c.x4 c.x5 c.x6 c.x7 i = ((0 : ℝ) : EReal) := by
  have h0 : (i 0).val < 64 := (i 0).isLt
  have h1 : (i 1).val < 8 := (i 1).isLt
  have h2 : (i 2).val < 128 := (i 2).isLt
  rw [val_main_v209_apply]
  refine (zsum _ w_zero _ (fun _ : Fin 1 => (0 : ℝ)) fun k => ?_).trans (by rw [Fin.sum_univ_one])
  have hk : k.val = 0 := by omega
  rw [val_main_v208_apply, val_main_v194_apply, val_main_v193_apply, a180, val_main_v207_apply, a206, Ideal.addf_def, ← EReal.coe_add]
  refine congrArg _ (add_neg_eq_zero.2 (congrArg₂ c.cl ?_ ?_))
  · dsimp only [idx_main_v193, idx_main_v194, idx_main_v207, idx_main_v209]; omega
  · dsimp only [idx_main_v193, idx_main_v194, idx_main_v207, idx_main_v209]; omega

/-- Whether a score is its row's maximum: one or zero. -/
theorem a79 (i : S64x8x128x256.Idx) : val_main_v79 (F := Ideal) c.x0 c.x1 i = ((0 : ℝ) : EReal) ∨ val_main_v79 (F := Ideal) c.x0 c.x1 i = ((1 : ℝ) : EReal) := by
  rw [val_main_v79_apply]
  generalize val_main_v78 (F := Ideal) c.x0 c.x1 i = b
  show (((b.toNat : ℝ) : EReal) = _ ∨ ((b.toNat : ℝ) : EReal) = _)
  rcases (by have := b.isLt; omega : b.toNat = 0 ∨ b.toNat = 1) with h | h
  · left; rw [h]; norm_num
  · right; rw [h]; norm_num

/-- Nothing reaches the scores by way of the row maxima. -/
theorem a212 (i : S64x8x128x256.Idx) :
    val_main_v212 (F := Ideal) c.x0 c.x1 c.x2 c.x3 c.x4 c.x5 c.x6 c.x7 i = ((0 : ℝ) : EReal) := by
  rw [val_main_v212_apply, Ideal.mulf_def]
  rcases c.a79 i with h | h
  · rw [h, EReal.coe_zero, mul_zero]
  · rw [h, EReal.coe_one, mul_one, val_main_v211_apply, val_main_v210_apply, a209, Ideal.hostDivf_def]
    choose f hf using fun k : Fin 256 => (⟨_, (EReal.coe_toReal (by rcases c.a79 (idx_main_v80 (idx_main_v211 i) k) with h | h <;> rw [h] <;> exact EReal.coe_ne_top _)
      (by rcases c.a79 (idx_main_v80 (idx_main_v211 i) k) with h | h <;> rw [h] <;> exact EReal.coe_ne_bot _)).symm⟩ :
        ∃ r : ℝ, val_main_v79 (F := Ideal) c.x0 c.x1 (idx_main_v80 (idx_main_v211 i) k) = ((r : ℝ) : EReal))
    have f0 : ∀ k, 0 ≤ f k := fun k => by
      have hk := hf k
      rcases c.a79 (idx_main_v80 (idx_main_v211 i) k) with h | h <;> rw [h] at hk <;> have := EReal.coe_injective hk <;> rw [← this] <;> norm_num
    have f1 : f (i 3) = 1 := by
      have hk := hf (i 3)
      have e : idx_main_v80 (idx_main_v211 i) (i 3) = i := by
        funext a
        match a with
        | ⟨0, _⟩ => rfl
        | ⟨1, _⟩ => rfl
        | ⟨2, _⟩ => rfl
        | ⟨3, _⟩ => rfl
      rw [e, h] at hk
      exact (EReal.coe_injective hk).symm
    have hs : 0 < ∑ k, f k := Finset.sum_pos' (fun k _ => f0 k) ⟨i 3, Finset.mem_univ _, by rw [f1]; norm_num⟩
    rw [val_main_v80_apply, zsum _ (show val_main_cst_15 (F := Ideal) (Shape.Idx.first Gen.h_S_) = ((0 : ℝ) : EReal) from w_zero) _ f hf,
      div_coe _ _ hs.ne', zero_div]

theorem dS_of_not (n h q k : ℕ) (hn : ¬ ok n q k) : c.dS n h q k = 0 := by
  unfold dS ds prob
  rw [if_neg hn, zero_mul]

theorem a216 (i : S64x8x128x256.Idx) :
    val_main_v216 (F := Ideal) c.x0 c.x1 c.x2 c.x3 c.x4 c.x5 c.x6 c.x7 i
      = ((c.dS (i 0).val (i 1).val (i 2).val (i 3).val * scaleR : ℝ) : EReal) := by
  rw [val_main_v216_apply, val_main_v214_apply, a74, select_ite, val_main_v213_apply, a204, a212, Ideal.addf_def, val_main_v215_apply,
    val_main_cst_42_apply, Ideal.ofBits_def, w_scale, Ideal.mulf_def, ← EReal.coe_add, add_zero, val_main_call1_v0_apply,
    val_main_call1_cst_apply, Ideal.ofBits_def, w_zero, EReal.coe_mul]
  split_ifs with h
  · rfl
  · rw [c.dS_of_not _ _ _ _ h]

/-- The values' gradient, part by part. -/
theorem a200 (i : S64x256x8x128.Idx) :
    val_main_v200 (F := Ideal) c.x0 c.x1 c.x3 c.x5 c.x7 i
      = ((dvp scaleR c.Q c.K c.G c.L4 c.L16 (i 0).val (i 2).val (i 1).val (i 3).val : ℝ) : EReal) := by
  rw [val_main_v200_apply, val_main_v199_apply]
  refine sum_coe _ _ _ fun q _ => ?_
  rw [a197, a84, ← EReal.coe_mul, ← prob_eq _ _ _ _ _ q.isLt]
  refine congrArg _ ?_
  show _ * _ / _ * _ = _ / _ * _ * _
  ring

theorem a218 (i : S64x256x8x128.Idx) :
    val_main_v218 (F := Ideal) c.x0 c.x1 c.x2 c.x3 c.x4 c.x5 c.x6 c.x7 i
      = ((dkp scaleR c.Q c.K c.V c.G c.O4 c.O16 c.L4 c.L16 (i 0).val (i 2).val (i 1).val (i 3).val * scaleR : ℝ) : EReal) := by
  rw [val_main_v218_apply, val_main_v217_apply]
  refine (sum_coe _ _ (fun q : Fin 128 => c.dS (i 0).val (i 2).val q (i 1).val * scaleR * c.Q (128 * (i 0).val + q) (128 * (i 2).val + (i 3).val))
    fun q _ => ?_).trans (congrArg _ ?_)
  · rw [a216, a15 c.hq, ← EReal.coe_mul]
  · unfold dkp
    rw [Finset.sum_mul]
    exact Finset.sum_congr rfl fun q _ => mul_right_comm _ _ _

theorem a220 (i : S64x128x8x128.Idx) :
    val_main_v220 (F := Ideal) c.x0 c.x1 c.x2 c.x3 c.x4 c.x5 c.x6 c.x7 i
      = ((dq scaleR c.Q c.K c.V c.G c.O4 c.O16 c.L4 c.L16 (i 0).val (i 2).val (i 1).val (i 3).val : ℝ) : EReal) := by
  rw [val_main_v220_apply, val_main_v219_apply]
  refine (sum_coe _ _ (fun k : Fin 256 => c.dS (i 0).val (i 2).val (i 1).val k * scaleR * kw c.K (i 0).val k (128 * (i 2).val + (i 3).val))
    fun k _ => ?_).trans (congrArg _ ?_)
  · rw [a216, a22 c.hk, ← EReal.coe_mul]
  · unfold dq
    rw [Finset.sum_mul]
    exact Finset.sum_congr rfl fun k _ => mul_right_comm _ _ _

theorem a226 (i : S64x128x8x128.Idx) :
    val_main_v226 (F := Ideal) c.x0 c.x1 c.x3 c.x5 c.x7 i
      = ((dv scaleR c.Q c.K c.G c.L4 c.L16 (i 0).val (i 2).val (i 1).val (i 3).val : ℝ) : EReal) := by
  have h0 : (i 0).val < 64 := (i 0).isLt
  have e : val_main_v225 (F := Ideal) c.x0 c.x1 c.x3 c.x5 c.x7 i = ((if (i 0).val < 63 then
      dvp scaleR c.Q c.K c.G c.L4 c.L16 ((i 0).val + 1) (i 2).val (i 1).val (i 3).val else 0 : ℝ) : EReal) := by
    unfold val_main_v225
    by_cases h : (i 0).val < 63
    · rw [if_pos h, pad_apply_of_inside (s := S63x128x8x128) (t := S64x128x8x128) _ _ _ _ _ _ _ i (ValueIdx.ix4 ⟨(i 0).val, h⟩ (i 1) (i 2) (i 3)) (fun a => by
        match a with
        | ⟨0, _⟩ => show (i 0).val = 0 + (i 0).val * 1; omega
        | ⟨1, _⟩ => show (i 1).val = 0 + (i 1).val * 1; omega
        | ⟨2, _⟩ => show (i 2).val = 0 + (i 2).val * 1; omega
        | ⟨3, _⟩ => show (i 3).val = 0 + (i 3).val * 1; omega), val_main_v224_apply, val_main_v221_apply, a200]
      refine congrArg _ ?_
      show dvp _ _ _ _ _ _ (1 + (i 0).val) _ _ _ = _
      rw [add_comm 1]
    · rw [if_neg h, pad_apply_of_not_inside (s := S63x128x8x128) (t := S64x128x8x128) _ _ _ _ _ _ _ i 0 (by
        show ¬(0 ≤ (i 0).val ∧ ((i 0).val - 0) % (0 + 1) = 0 ∧ ((i 0).val - 0) / (0 + 1) < 63)
        omega)]
      exact w_zero
  rw [val_main_v226_apply, val_main_v222_apply, a200, e, Ideal.addf_def, ← EReal.coe_add]
  rfl

theorem a233 (i : S64x128x8x128.Idx) :
    val_main_v233 (F := Ideal) c.x0 c.x1 c.x2 c.x3 c.x4 c.x5 c.x6 c.x7 i
      = ((dk scaleR c.Q c.K c.V c.G c.O4 c.O16 c.L4 c.L16 (i 0).val (i 2).val (i 1).val (i 3).val : ℝ) : EReal) := by
  have h0 : (i 0).val < 64 := (i 0).isLt
  have e : val_main_v232 (F := Ideal) c.x0 c.x1 c.x2 c.x3 c.x4 c.x5 c.x6 c.x7 i = ((if (i 0).val < 63 then
      dkp scaleR c.Q c.K c.V c.G c.O4 c.O16 c.L4 c.L16 ((i 0).val + 1) (i 2).val (i 1).val (i 3).val * scaleR else 0 : ℝ) : EReal) := by
    unfold val_main_v232
    by_cases h : (i 0).val < 63
    · rw [if_pos h, pad_apply_of_inside (s := S63x128x8x128) (t := S64x128x8x128) _ _ _ _ _ _ _ i (ValueIdx.ix4 ⟨(i 0).val, h⟩ (i 1) (i 2) (i 3)) (fun a => by
        match a with
        | ⟨0, _⟩ => show (i 0).val = 0 + (i 0).val * 1; omega
        | ⟨1, _⟩ => show (i 1).val = 0 + (i 1).val * 1; omega
        | ⟨2, _⟩ => show (i 2).val = 0 + (i 2).val * 1; omega
        | ⟨3, _⟩ => show (i 3).val = 0 + (i 3).val * 1; omega), val_main_v231_apply, val_main_v228_apply, a218]
      refine congrArg _ (congrArg (· * scaleR) ?_)
      show dkp _ _ _ _ _ _ _ _ _ (1 + (i 0).val) _ _ _ = _
      rw [add_comm 1]
    · rw [if_neg h, pad_apply_of_not_inside (s := S63x128x8x128) (t := S64x128x8x128) _ _ _ _ _ _ _ i 0 (by
        show ¬(0 ≤ (i 0).val ∧ ((i 0).val - 0) % (0 + 1) = 0 ∧ ((i 0).val - 0) / (0 + 1) < 63)
        omega)]
      exact w_zero
  rw [val_main_v233_apply, val_main_v229_apply, a218, e, Ideal.addf_def, ← EReal.coe_add]
  refine congrArg _ ?_
  unfold dk
  show dkp _ _ _ _ _ _ _ _ _ (i 0).val (i 2).val (128 + (i 1).val) (i 3).val * scaleR + _ = _
  split_ifs <;> ring

/-- The gradient of the queries. -/
theorem res_dq (i : S8192x1024.Idx) :
    val_main_v241 (F := Ideal) c.x0 c.x1 c.x2 c.x3 c.x4 c.x5 c.x6 c.x7 i = ((dq scaleR c.Q c.K c.V c.G c.O4 c.O16 c.L4 c.L16
      ((i 0).val / 128) ((i 1).val / 128) ((i 0).val % 128) ((i 1).val % 128) : ℝ) : EReal) := by
  have h1 : (i 1).val < 1024 := (i 1).isLt
  rw [val_main_v241_apply, val_main_v240_apply, val_main_v235_apply, a220, Ideal.truncf_def]
  refine congrArg _ ?_
  dsimp only [idx_main_v235, idx_main_v240]
  congr 1 <;> omega

/-- The gradient of the keys. -/
theorem res_dk (i : S8192x1024.Idx) :
    val_main_v239 (F := Ideal) c.x0 c.x1 c.x2 c.x3 c.x4 c.x5 c.x6 c.x7 i = ((dk scaleR c.Q c.K c.V c.G c.O4 c.O16 c.L4 c.L16
      ((i 0).val / 128) ((i 1).val / 128) ((i 0).val % 128) ((i 1).val % 128) : ℝ) : EReal) := by
  have h1 : (i 1).val < 1024 := (i 1).isLt
  rw [val_main_v239_apply, val_main_v238_apply, val_main_v234_apply, a233, Ideal.truncf_def]
  refine congrArg _ ?_
  dsimp only [idx_main_v234, idx_main_v238]
  congr 1 <;> omega

/-- The gradient of the values. -/
theorem res_dv (i : S8192x1024.Idx) :
    val_main_v237 (F := Ideal) c.x0 c.x1 c.x3 c.x5 c.x7 i = ((dv scaleR c.Q c.K c.G c.L4 c.L16
      ((i 0).val / 128) ((i 1).val / 128) ((i 0).val % 128) ((i 1).val % 128) : ℝ) : EReal) := by
  have h1 : (i 1).val < 1024 := (i 1).isLt
  rw [val_main_v237_apply, val_main_v236_apply, val_main_v227_apply, a226, Ideal.truncf_def]
  refine congrArg _ ?_
  dsimp only [idx_main_v227, idx_main_v236]
  congr 1 <;> omega

end Ctx2

end Cert.Ref

end
-- ==== Proof.Body.lean ====
/- What one grid point of the kernel computes, written once for every side and head: the tiles of probabilities and of the scores'
   gradients, their products with the blocks, and the three blocks that the point leaves and the rows that it carries on. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Body

open Cert.KernelIdeal Cert.KernelIdeal.Gen Idealize.ShloMosaic Idealize.ShloMosaic.TcCoe Idealize.SL.Sem

variable {F : FTy → Type} [FloatOps F]

/-- The head's slope. -/
def slopeW : Fin 8 → BitVec 32 :=
  ![0x3F000000#32, 0x3E800000#32, 0x3E000000#32, 0x3D800000#32, 0x3D000000#32, 0x3C800000#32, 0x3C000000#32, 0x3B800000#32]

theorem col_slices (h : Fin 8) : S128x128.Slices ![0, h.val] S128x1 := by
  revert h; decide

theorem inb256 (r : Fin 2) (h : Fin 8) : ∀ a, (![128 * r.val, 128 * h.val] : Fin 2 → ℕ) a + S128x128.size a ≤ S256x1024.size a := by
  revert r h; decide

theorem inb128 (h : Fin 8) : ∀ a, (![0, 128 * h.val] : Fin 2 → ℕ) a + S128x128.size a ≤ S128x1024.size a := by
  revert h; decide

theorem inbl (r : Fin 2) : ∀ a, (![128 * r.val, 0] : Fin 2 → ℕ) a + S128x128.size a ≤ S256x128.size a := by
  revert r; decide

/-- Head `h` of half `r` of a block of 256 rows. -/
def ld256 (x : Vec F S256x1024 .bf16) (r : Fin 2) (h : Fin 8) : Vec F S128x128 .bf16 := View.ld x (Rect.unit ![128 * r.val, 128 * h.val] S128x128.size (inb256 r h))
/-- Head `h` of a block of 128 rows. -/
def ld128 (x : Vec F S128x1024 .bf16) (h : Fin 8) : Vec F S128x128 .bf16 := View.ld x (Rect.unit ![0, 128 * h.val] S128x128.size (inb128 h))
/-- Half `r` of a block of row sums. -/
def ldl (x : Vec F S256x128 .f32) (r : Fin 2) : Vec F S128x128 .f32 := View.ld x (Rect.unit ![128 * r.val, 0] S128x128.size (inbl r))

/-- Column `h` of the row sums, spread over the lanes. -/
def col (l : Vec F S128x128 .f32) (h : Fin 8) : FVec F S128x128 .f32 :=
  broadcastTo S128x128 (shapeCast S128x1 (extractStridedSlice S128x1 ![0, h.val]
    (shapeCast S128x128 l shapeCasts_S128x128_S128x128 : FVec F S128x128 .f32) (col_slices h)) shapeCasts_S128x1_S128x1) broadcasts_S128x1_S128x128

/-- Products of tiles: over the lanes of both, over the rows of both, and plain. -/
def mmNT (a b : FVec F S128x128 .bf16) : FVec F S128x128 .f32 := matmul dot_S128x128_S128x128_S128x128_1_1_0_0_n_n none a b (constant S128x128 .f32 0x00000000#32)
def mmTN (a b : FVec F S128x128 .bf16) : FVec F S128x128 .f32 := matmul dot_S128x128_S128x128_S128x128_0_0_1_1_n_n none a b (constant S128x128 .f32 0x00000000#32)
def mmNN (a b : FVec F S128x128 .bf16) : FVec F S128x128 .f32 := matmul dot_S128x128_S128x128_S128x128_1_0_0_1_n_n none a b (constant S128x128 .f32 0x00000000#32)

/-- The probabilities of a tile. -/
def pT (dist : FVec F S128x128 .f32) (valid : IVec S128x128 1) (q k : Vec F S128x128 .bf16) (l : Vec F S128x128 .f32) (h : Fin 8) : FVec F S128x128 .f32 :=
  select valid (exp (subf (subf (mulf (mmNT q k) (broadcast S128x128 (Scalar.ofBits .f32 0x3DB504F3#32)))
    (mulf (broadcast S128x128 (Scalar.ofBits .f32 (slopeW h))) dist)) (col l h))) (broadcast S128x128 (Scalar.ofBits .f32 0x00000000#32))

/-- The gradient of a tile's scores. -/
def dsT (p : FVec F S128x128 .f32) (g v : Vec F S128x128 .bf16) (d : Vec F S128x128 .f32) (h : Fin 8) : FVec F S128x128 .bf16 :=
  truncf .bf16 (mulf p (subf (mmNT g v) (col d h))) bitsLt_bf16_f32

/-- One side of a grid point: its blocks, distances and mask. -/
structure Side (F : FTy → Type) [FloatOps F] where
  q : Fin 8 → Vec F S128x128 .bf16
  g : Fin 8 → Vec F S128x128 .bf16
  k : Fin 8 → Vec F S128x128 .bf16
  v : Fin 8 → Vec F S128x128 .bf16
  l : Vec F S128x128 .f32
  d : Vec F S128x128 .f32
  dist : FVec F S128x128 .f32
  valid : IVec S128x128 1

namespace Side
variable (s : Side F)
def p (h : Fin 8) : FVec F S128x128 .f32 := pT s.dist s.valid (s.q h) (s.k h) s.l h
def ds (h : Fin 8) : FVec F S128x128 .bf16 := dsT (s.p h) (s.g h) (s.v h) s.d h
def dv (h : Fin 8) : FVec F S128x128 .f32 := mmTN (truncf .bf16 (s.p h) bitsLt_bf16_f32) (s.g h)
def dk (h : Fin 8) : FVec F S128x128 .f32 := mmTN (s.ds h) (s.q h)
def dq (h : Fin 8) : FVec F S128x128 .f32 := mmNN (s.ds h) (s.k h)
end Side

/-- The heads' tiles side by side. -/
def cat (f : Fin 8 → FVec F S128x128 .f32) : FVec F S128x1024 .f32 :=
  concatenate S128x1024 1 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩]
    concatenates_S128x128_S128x128_S128x128_S128x128_S128x128_S128x128_S128x128_S128x128_S128x1024_d1

/-- Two halves, one above the other. -/
def cat2 (a b : FVec F S128x1024 .f32) : FVec F S256x1024 .f32 :=
  concatenate S256x1024 0 [⟨S128x1024, a⟩, ⟨S128x1024, b⟩] concatenates_S128x1024_S128x1024_S256x1024_d0

/-- Distances between a row and a key of its own block, and of the block before. -/
def distC : FVec F S128x128 .f32 := sitofp .f32 (subi (iota .tc S128x128 32 [0] iota_S128x128_d0_w32) (iota .tc S128x128 32 [1] iota_S128x128_d1_w32))
def distP : FVec F S128x128 .f32 := sitofp .f32 (addi (subi (iota .tc S128x128 32 [0] iota_S128x128_d0_w32) (iota .tc S128x128 32 [1] iota_S128x128_d1_w32)) (broadcast S128x128 128#32))
/-- The masks: a block's own keys, the keys of the block before for the upper half, and for the rows after the block. -/
def validC : IVec S128x128 1 := cmpi .sle (iota .tc S128x128 32 [1] iota_S128x128_d1_w32) (iota .tc S128x128 32 [0] iota_S128x128_d0_w32)
def validAB (i : grid0.Coords) : IVec S128x128 1 := k0_pay6 i
def validBN (i : grid0.Coords) : IVec S128x128 1 :=
  cmpi .sge (iota .tc S128x128 32 [1] iota_S128x128_d1_w32) (addi (iota .tc S128x128 32 [0] iota_S128x128_d0_w32) (broadcast S128x128
    (Scalar.select (Scalar.andi (Scalar.cmpi .ne (Scalar.select
      (Scalar.andi (Scalar.xori (Scalar.cmpi .slt (Scalar.remsi (Scalar.addi (Scalar.muli 2#32 (BitVec.ofNat 32 (i 0).val)) 2#32) 64#32) 0#32) 0#1)
        (Scalar.cmpi .ne (Scalar.remsi (Scalar.addi (Scalar.muli 2#32 (BitVec.ofNat 32 (i 0).val)) 2#32) 64#32) 0#32))
      (Scalar.addi (Scalar.remsi (Scalar.addi (Scalar.muli 2#32 (BitVec.ofNat 32 (i 0).val)) 2#32) 64#32) 64#32)
      (Scalar.remsi (Scalar.addi (Scalar.muli 2#32 (BitVec.ofNat 32 (i 0).val)) 2#32) 64#32)) 0#32)
      (Scalar.cmpi .slt (Scalar.addi (Scalar.muli 2#32 (BitVec.ofNat 32 (i 0).val)) 2#32) 64#32)) 0#32 128#32)))

section
variable (m : (ℓ : Loc nD τ sig) → Buf (Elt F) ℓ) (c : Dev nD) (t : Fin cfg0.N)

/-- The four sides of point `t`: lower rows with lower keys, upper with lower, upper with upper, and the rows after with upper keys. -/
def sAA : Side F := ⟨ld256 (iblk m c 0 t) 0, ld256 (iblk m c 2 t) 0, ld256 (iblk m c 8 t) 0, ld256 (iblk m c 9 t) 0,
  ldl (iblk m c 4 t) 0, ldl (iblk m c 6 t) 0, distC, validC⟩
def sBA : Side F := ⟨ld256 (iblk m c 0 t) 1, ld256 (iblk m c 2 t) 1, ld256 (iblk m c 8 t) 0, ld256 (iblk m c 9 t) 0,
  ldl (iblk m c 4 t) 1, ldl (iblk m c 6 t) 1, distP, validAB (grid0.coords t)⟩
def sBB : Side F := ⟨ld256 (iblk m c 0 t) 1, ld256 (iblk m c 2 t) 1, ld256 (iblk m c 8 t) 1, ld256 (iblk m c 9 t) 1,
  ldl (iblk m c 4 t) 1, ldl (iblk m c 6 t) 1, distC, validC⟩
def sNB : Side F := ⟨ld128 (iblk m c 1 t), ld128 (iblk m c 3 t), ld256 (iblk m c 8 t) 1, ld256 (iblk m c 9 t) 1,
  iblk m c 5 t, iblk m c 7 t, distP, validBN (grid0.coords t)⟩

/-- The point's three blocks, and what it carries on. -/
def scaled (x : FVec F S128x1024 .f32) : FVec F S128x1024 .f32 := mulf x (broadcast S128x1024 (Scalar.ofBits .f32 0x3DB504F3#32))
def dqBlk (carried : Vec F S128x1024 .f32) : Vec F S256x1024 .bf16 :=
  truncf .bf16 (cat2 (addf carried (scaled (cat (sAA m c t).dq))) (scaled (cat fun h => addf ((sBA m c t).dq h) ((sBB m c t).dq h)))) bitsLt_bf16_f32
def dkBlk : Vec F S256x1024 .bf16 :=
  truncf .bf16 (mulf (cat2 (cat fun h => addf ((sAA m c t).dk h) ((sBA m c t).dk h)) (cat fun h => addf ((sBB m c t).dk h) ((sNB m c t).dk h)))
    (broadcast S256x1024 (Scalar.ofBits .f32 0x3DB504F3#32))) bitsLt_bf16_f32
def dvBlk : Vec F S256x1024 .bf16 :=
  truncf .bf16 (cat2 (cat fun h => addf ((sAA m c t).dv h) ((sBA m c t).dv h)) (cat fun h => addf ((sBB m c t).dv h) ((sNB m c t).dv h))) bitsLt_bf16_f32
def carryBlk : Vec F S128x1024 .f32 := shapeCast S128x1024 (scaled (cat (sNB m c t).dq)) shapeCasts_S128x1024_S128x1024

set_option maxHeartbeats 2000000 in
theorem carry_A (h : t.val % 32 = 0) : (outsAt0 m c t.val t.isLt).2.2.2 = carryBlk m c t := by
  rw [Gen.outsAt0_A m c t h]
  dsimp only
  frame_out
  sl_kernel_rfl
set_option maxHeartbeats 2000000 in
theorem carry_B (h : ¬t.val % 32 = 0) : (outsAt0 m c t.val t.isLt).2.2.2 = carryBlk m c t := by
  rw [Gen.outsAt0_B m c t h]
  dsimp only
  frame_out
  sl_kernel_rfl
set_option maxHeartbeats 2000000 in
theorem dv_A (h : t.val % 32 = 0) : (outsAt0 m c t.val t.isLt).2.2.1 = dvBlk m c t := by
  rw [Gen.outsAt0_A m c t h]
  dsimp only
  frame_out
  sl_kernel_rfl
set_option maxHeartbeats 2000000 in
theorem dv_B (h : ¬t.val % 32 = 0) : (outsAt0 m c t.val t.isLt).2.2.1 = dvBlk m c t := by
  rw [Gen.outsAt0_B m c t h]
  dsimp only
  frame_out
  sl_kernel_rfl
set_option maxHeartbeats 2000000 in
theorem dk_A (h : t.val % 32 = 0) : (outsAt0 m c t.val t.isLt).2.1 = dkBlk m c t := by
  rw [Gen.outsAt0_A m c t h]
  dsimp only
  frame_out
  sl_kernel_rfl
set_option maxHeartbeats 2000000 in
theorem dk_B (h : ¬t.val % 32 = 0) : (outsAt0 m c t.val t.isLt).2.1 = dkBlk m c t := by
  rw [Gen.outsAt0_B m c t h]
  dsimp only
  frame_out
  sl_kernel_rfl
set_option maxHeartbeats 2000000 in
theorem dq_A (h : t.val % 32 = 0) : (outsAt0 m c t.val t.isLt).1 = dqBlk m c t (broadcast S128x1024 (Scalar.ofBits .f32 0x00000000#32)) := by
  rw [Gen.outsAt0_A m c t h]
  dsimp only
  frame_out
  sl_kernel_rfl
set_option maxHeartbeats 2000000 in
theorem dq_B (h : ¬t.val % 32 = 0) : (outsAt0 m c t.val t.isLt).1
    = dqBlk m c t (outsAt0 m c (t.val - 1) (Nat.lt_of_le_of_lt (Nat.sub_le _ _) t.isLt)).2.2.2 := by
  rw [Gen.outsAt0_B m c t h]
  dsimp only
  frame_out
  simp only [read_unread_whole]
  sl_kernel_rfl

end

end Cert.Body

end
-- ==== Proof.BodyVal.lean ====
/- The tiles of one side of a grid point at the ideal values: real tiles in, the real probabilities, gradients of the scores and
   products out; and the heads' tiles side by side, read at an index. -/
module

public import proofs.«01_k».proof.Proof.Body
public import proofs.«01_k».proof.Proof.Spec
public import proofs.«01_k».proof.Proof.Tools
public import Idealize.ShloMosaic.Lib.Pointwise

@[expose] public section

set_option maxRecDepth 16384

noncomputable section

namespace Cert.Body

open Cert.KernelIdeal Cert.KernelIdeal.Gen Cert.Tools Idealize.ShloMosaic Idealize.ShloMosaic.TcCoe Idealize.SL.Sem

/-- An array of two axes holds the reals `f`. -/
def Tile {s : Shape} (hs : s.rank = 2) (x : s.Idx → EReal) (f : ℕ → ℕ → ℝ) : Prop :=
  ∀ i : s.Idx, x i = ((f (i ⟨0, by omega⟩).val (i ⟨1, by omega⟩).val : ℝ) : EReal)

theorem mmNT_val {a b : FVec Ideal S128x128 .bf16} {A B : ℕ → ℕ → ℝ} (ha : Tile rfl a A) (hb : Tile rfl b B) :
    Tile rfl (mmNT (F := Ideal) a b) fun i j => ∑ e : Fin 128, A i e * B j e := by
  intro i
  unfold mmNT
  simp only [matmul, Ideal.matmul_def]
  rw [Ideal.matmul_apply₁ _ rfl rfl]
  refine zsum _ w_zero _ (fun e : Fin 128 => _) fun e => ?_
  rw [ha, hb, ← EReal.coe_mul]; rfl

theorem mmTN_val {a b : FVec Ideal S128x128 .bf16} {A B : ℕ → ℕ → ℝ} (ha : Tile rfl a A) (hb : Tile rfl b B) :
    Tile rfl (mmTN (F := Ideal) a b) fun i j => ∑ e : Fin 128, A e i * B e j := by
  intro i
  unfold mmTN
  simp only [matmul, Ideal.matmul_def]
  rw [Ideal.matmul_apply₁ _ rfl rfl]
  refine zsum _ w_zero _ (fun e : Fin 128 => _) fun e => ?_
  rw [ha, hb, ← EReal.coe_mul]; rfl

theorem mmNN_val {a b : FVec Ideal S128x128 .bf16} {A B : ℕ → ℕ → ℝ} (ha : Tile rfl a A) (hb : Tile rfl b B) :
    Tile rfl (mmNN (F := Ideal) a b) fun i j => ∑ e : Fin 128, A i e * B e j := by
  intro i
  unfold mmNN
  simp only [matmul, Ideal.matmul_def]
  rw [Ideal.matmul_apply₁ _ rfl rfl]
  refine zsum _ w_zero _ (fun e : Fin 128 => _) fun e => ?_
  rw [ha, hb, ← EReal.coe_mul]; rfl

theorem col_val {l : FVec Ideal S128x128 .f32} {L : ℕ → ℕ → ℝ} (h : Fin 8)
    (hl : ∀ i : S128x128.Idx, (i 1).val < 8 → l i = ((L (i 0).val (i 1).val : ℝ) : EReal)) : Tile rfl (col (F := Ideal) l h) fun i _ => L i h.val := by
  intro i
  unfold col
  refine (broadcastTo_apply _ _ i (ValueIdx.ix2 (i 0) (0 : Fin 1)) (fun a => match a with | ⟨0, _⟩ => rfl | ⟨1, _⟩ => rfl)).trans ?_
  refine (shapeCast_apply _ _ _ (ValueIdx.ix2 (i 0) (0 : Fin 1)) rfl).trans ?_
  refine (extractStridedSlice_apply _ _ _ _ (ValueIdx.ix2 (i 0) (⟨h.val, by omega⟩ : Fin 128)) (fun a => match a with | ⟨0, _⟩ => ?_ | ⟨1, _⟩ => ?_)).trans ?_
  · exact (Nat.zero_add _).symm
  · exact rfl
  rw [shapeCast_self]
  exact hl _ h.isLt

theorem slope_val (h : Fin 8) : Ideal.ofBits .f32 (slopeW h) = ((Spec.slope h.val : ℝ) : EReal) := by
  unfold slopeW Spec.slope
  fin_cases h <;> (simp [Ideal.ofBits, Ideal.ieee]; norm_cast; try norm_num [zpow_neg])

theorem distC_val : Tile rfl (distC (F := Ideal)) fun i j => (i : ℝ) - ((128 + j : ℕ) : ℝ) + 128 := by
  intro i
  have h0 : (i 0).val < 128 := (i 0).isLt
  have h1 : (i 1).val < 128 := (i 1).isLt
  have e : distC (F := Ideal) i = ((((iota .tc S128x128 32 [0] iota_S128x128_d0_w32 i - iota .tc S128x128 32 [1] iota_S128x128_d1_w32 i : BitVec 32).toInt : ℤ) : ℝ) : EReal) := rfl
  rw [e, iota_single_apply, iota_single_apply, toInt_sub_of _ _ _ _ (toInt_nat _ (by omega)) (toInt_nat _ (by omega)) (by omega) (by omega)]
  congr 1
  push_cast
  ring_nf

theorem distP_val : Tile rfl (distP (F := Ideal)) fun i j => (i : ℝ) - ((0 + j : ℕ) : ℝ) + 128 := by
  intro i
  have h0 : (i 0).val < 128 := (i 0).isLt
  have h1 : (i 1).val < 128 := (i 1).isLt
  have e : distP (F := Ideal) i = ((((iota .tc S128x128 32 [0] iota_S128x128_d0_w32 i - iota .tc S128x128 32 [1] iota_S128x128_d1_w32 i + 128#32 : BitVec 32).toInt : ℤ) : ℝ) : EReal) := rfl
  rw [e, iota_single_apply, iota_single_apply, toInt_add_of _ _ _ 128 (toInt_sub_of _ _ _ _ (toInt_nat _ (by omega)) (toInt_nat _ (by omega)) (by omega) (by omega)) (by decide) (by omega) (by omega)]
  congr 1
  push_cast
  ring_nf

theorem validC_val (i : S128x128.Idx) : validC i = if (i 1).val ≤ (i 0).val then 1#1 else 0#1 := by
  have h0 : (i 0).val < 128 := (i 0).isLt
  have h1 : (i 1).val < 128 := (i 1).isLt
  have e : validC i = IntOp.cmpi .sle (iota .tc S128x128 32 [1] iota_S128x128_d1_w32 i) (iota .tc S128x128 32 [0] iota_S128x128_d0_w32 i) := rfl
  rw [e, iota_single_apply, iota_single_apply, cmpi_sle, toInt_nat _ (by omega), toInt_nat _ (by omega)]
  simp only [Nat.cast_le]

/-- The reals of one side. -/
structure RSide where
  q : ℕ → ℕ → ℕ → ℝ
  g : ℕ → ℕ → ℕ → ℝ
  k : ℕ → ℕ → ℕ → ℝ
  v : ℕ → ℕ → ℕ → ℝ
  l : ℕ → ℕ → ℝ
  d : ℕ → ℕ → ℝ
  dist : ℕ → ℕ → ℝ
  ok : ℕ → ℕ → Prop
  dec : ∀ i j, Decidable (ok i j)

instance (R : RSide) (i j : ℕ) : Decidable (R.ok i j) := R.dec i j

namespace RSide
variable (R : RSide)
def p (h i j : ℕ) : ℝ :=
  letI := R.dec i j
  if R.ok i j then Real.exp ((∑ e : Fin 128, R.q h i e * R.k h j e) * scaleR - Spec.slope h * R.dist i j - R.l i h) else 0
def ds (h i j : ℕ) : ℝ := R.p h i j * ((∑ e : Fin 128, R.g h i e * R.v h j e) - R.d i h)
def dv (h j e : ℕ) : ℝ := ∑ i : Fin 128, R.p h i j * R.g h i e
def dk (h j e : ℕ) : ℝ := ∑ i : Fin 128, R.ds h i j * R.q h i e
def dq (h i e : ℕ) : ℝ := ∑ j : Fin 128, R.ds h i j * R.k h j e
end RSide

/-- A side holds those reals. -/
structure Side.Is (s : Side Ideal) (R : RSide) : Prop where
  q : ∀ h : Fin 8, Tile rfl (s.q h) (R.q h)
  g : ∀ h : Fin 8, Tile rfl (s.g h) (R.g h)
  k : ∀ h : Fin 8, Tile rfl (s.k h) (R.k h)
  v : ∀ h : Fin 8, Tile rfl (s.v h) (R.v h)
  l : ∀ i : S128x128.Idx, (i 1).val < 8 → s.l i = ((R.l (i 0).val (i 1).val : ℝ) : EReal)
  d : ∀ i : S128x128.Idx, (i 1).val < 8 → s.d i = ((R.d (i 0).val (i 1).val : ℝ) : EReal)
  dist : Tile rfl s.dist R.dist
  valid : ∀ i : S128x128.Idx, letI := R.dec (i 0).val (i 1).val; s.valid i = if R.ok (i 0).val (i 1).val then 1#1 else 0#1

namespace Side.Is
variable {s : Side Ideal} {R : RSide} (H : s.Is R) (h : Fin 8)
include H

theorem p : Tile rfl (s.p h) (R.p h) := by
  intro i
  letI := R.dec (i 0).val (i 1).val
  have e : s.p h i = Scalar.select (s.valid i) (Ideal.exp (mmNT (F := Ideal) (s.q h) (s.k h) i * Ideal.ofBits .f32 0x3DB504F3#32
      - Ideal.ofBits .f32 (slopeW h) * s.dist i - col (F := Ideal) s.l h i)) (Ideal.ofBits .f32 0x00000000#32) := rfl
  rw [e, H.valid i, select_ite, mmNT_val (H.q h) (H.k h) i, H.dist i, col_val h H.l i, slope_val, w_scale, w_zero,
    ← EReal.coe_mul, ← EReal.coe_mul, ← EReal.coe_sub, exp_sub_coe]
  unfold RSide.p
  by_cases hv : R.ok (i 0).val (i 1).val
  · rw [if_pos hv]; refine congrArg _ ?_; exact (if_pos hv).symm
  · rw [if_neg hv]; refine congrArg _ ?_; exact (if_neg hv).symm

theorem ds : Tile rfl (s.ds h) (R.ds h) := by
  intro i
  have e : s.ds h i = s.p h i * (mmNT (F := Ideal) (s.g h) (s.v h) i - col (F := Ideal) s.d h i) := rfl
  rw [e, H.p h i, mmNT_val (H.g h) (H.v h) i, col_val h H.d i, ← EReal.coe_sub, ← EReal.coe_mul]
  rfl

theorem dv : Tile rfl (s.dv h) (R.dv h) := mmTN_val (a := truncf .bf16 (s.p h) bitsLt_bf16_f32) (fun i => H.p h i) (H.g h)
theorem dk : Tile rfl (s.dk h) (R.dk h) := mmTN_val (H.ds h) (H.q h)
theorem dq : Tile rfl (s.dq h) (R.dq h) := mmNN_val (H.ds h) (H.k h)

end Side.Is

theorem cat_val {f : Fin 8 → FVec Ideal S128x128 .f32} {A : ℕ → ℕ → ℕ → ℝ} (hf : ∀ h : Fin 8, Tile rfl (f h) (A h)) :
    Tile rfl (cat f) fun i j => A (j / 128) i (j % 128) := by
  intro i
  have h1 : (i 1).val < 1024 := (i 1).isLt
  obtain ⟨n, hn⟩ : ∃ n : Fin 8, (i 1).val / 128 = n.val := ⟨⟨(i 1).val / 128, by omega⟩, rfl⟩
  have hr : (i 1).val % 128 < 128 := Nat.mod_lt _ (by omega)
  have hv : (i 1).val = 128 * n.val + (i 1).val % 128 := by omega
  have e : cat f i = f n (ValueIdx.ix2 (i 0) (⟨(i 1).val % 128, hr⟩ : Fin 128)) := by
    unfold cat
    fin_cases n
    · refine concatenate_apply_piece (t := S128x1024) 1 _ _ i 0 (by simp) S128x128 _ rfl rfl 0 rfl _ (fun b hb => match b with | ⟨0, _⟩ => rfl | ⟨1, _⟩ => absurd rfl hb) ?_
      exact hv.symm
    · refine concatenate_apply_piece (t := S128x1024) 1 _ _ i 1 (by simp) S128x128 _ rfl rfl 128 rfl _ (fun b hb => match b with | ⟨0, _⟩ => rfl | ⟨1, _⟩ => absurd rfl hb) ?_
      exact hv.symm
    · refine concatenate_apply_piece (t := S128x1024) 1 _ _ i 2 (by simp) S128x128 _ rfl rfl 256 rfl _ (fun b hb => match b with | ⟨0, _⟩ => rfl | ⟨1, _⟩ => absurd rfl hb) ?_
      exact hv.symm
    · refine concatenate_apply_piece (t := S128x1024) 1 _ _ i 3 (by simp) S128x128 _ rfl rfl 384 rfl _ (fun b hb => match b with | ⟨0, _⟩ => rfl | ⟨1, _⟩ => absurd rfl hb) ?_
      exact hv.symm
    · refine concatenate_apply_piece (t := S128x1024) 1 _ _ i 4 (by simp) S128x128 _ rfl rfl 512 rfl _ (fun b hb => match b with | ⟨0, _⟩ => rfl | ⟨1, _⟩ => absurd rfl hb) ?_
      exact hv.symm
    · refine concatenate_apply_piece (t := S128x1024) 1 _ _ i 5 (by simp) S128x128 _ rfl rfl 640 rfl _ (fun b hb => match b with | ⟨0, _⟩ => rfl | ⟨1, _⟩ => absurd rfl hb) ?_
      exact hv.symm
    · refine concatenate_apply_piece (t := S128x1024) 1 _ _ i 6 (by simp) S128x128 _ rfl rfl 768 rfl _ (fun b hb => match b with | ⟨0, _⟩ => rfl | ⟨1, _⟩ => absurd rfl hb) ?_
      exact hv.symm
    · refine concatenate_apply_piece (t := S128x1024) 1 _ _ i 7 (by simp) S128x128 _ rfl rfl 896 rfl _ (fun b hb => match b with | ⟨0, _⟩ => rfl | ⟨1, _⟩ => absurd rfl hb) ?_
      exact hv.symm
  rw [e, hf n]
  show ((A n.val (i 0).val ((i 1).val % 128) : ℝ) : EReal) = ((A ((i 1).val / 128) (i 0).val ((i 1).val % 128) : ℝ) : EReal)
  rw [hn]

theorem cat2_val {a b : FVec Ideal S128x1024 .f32} {A B : ℕ → ℕ → ℝ} (ha : Tile rfl a A) (hb : Tile rfl b B) :
    Tile rfl (cat2 a b) fun i j => if i < 128 then A i j else B (i - 128) j := by
  intro i
  have h0 : (i 0).val < 256 := (i 0).isLt
  unfold cat2
  by_cases h : (i 0).val < 128
  · rw [concatenate_pair_apply_left 0 a b _ i rfl (ValueIdx.ix2 (⟨(i 0).val, h⟩ : Fin 128) (i 1)) (fun c => match c with | ⟨0, _⟩ => rfl | ⟨1, _⟩ => rfl), ha]
    refine congrArg _ ?_; exact (if_pos h).symm
  · rw [concatenate_pair_apply_right 0 a b _ i rfl rfl (ValueIdx.ix2 (⟨(i 0).val - 128, by omega⟩ : Fin 128) (i 1))
      (fun c hc => match c with | ⟨0, _⟩ => absurd rfl hc | ⟨1, _⟩ => rfl) (by show (i 0).val - 128 + 128 = (i 0).val; omega), hb]
    refine congrArg _ ?_; exact (if_neg h).symm

end Cert.Body

end
-- ==== Proof.BlkVal.lean ====
/- What a grid point leaves, in terms of the gradient's mathematics: its four sides hold the tiles of two query blocks against
   the keys of their own block and of the block before. -/
module

public import proofs.«01_k».proof.Proof.BodyVal

@[expose] public section

set_option maxRecDepth 16384

noncomputable section

namespace Cert.Body

open Cert.KernelIdeal Cert.KernelIdeal.Gen Cert.Tools Idealize.ShloMosaic Idealize.ShloMosaic.TcCoe Idealize.SL.Sem

/-- The first key that the upper rows see of the block before, and that the rows after the block see of it. -/
def offAB (i : grid0.Coords) : BitVec 32 :=
  Scalar.select (Scalar.cmpi .ne (Scalar.select
      (Scalar.andi (Scalar.xori (Scalar.cmpi .slt (Scalar.remsi (Scalar.addi (Scalar.muli 2#32 (BitVec.ofNat 32 (i 0).val)) 1#32)
        (Scalar.select (Scalar.cmpi .eq 64#32 0#32) 1#32 64#32)) 0#32) (Scalar.cmpi .slt (Scalar.select (Scalar.cmpi .eq 64#32 0#32) 1#32 64#32) 0#32))
        (Scalar.cmpi .ne (Scalar.remsi (Scalar.addi (Scalar.muli 2#32 (BitVec.ofNat 32 (i 0).val)) 1#32)
        (Scalar.select (Scalar.cmpi .eq 64#32 0#32) 1#32 64#32)) 0#32))
      (Scalar.addi (Scalar.remsi (Scalar.addi (Scalar.muli 2#32 (BitVec.ofNat 32 (i 0).val)) 1#32)
        (Scalar.select (Scalar.cmpi .eq 64#32 0#32) 1#32 64#32)) (Scalar.select (Scalar.cmpi .eq 64#32 0#32) 1#32 64#32))
      (Scalar.remsi (Scalar.addi (Scalar.muli 2#32 (BitVec.ofNat 32 (i 0).val)) 1#32)
        (Scalar.select (Scalar.cmpi .eq 64#32 0#32) 1#32 64#32))) 0#32) 0#32 128#32

def offBN (i : grid0.Coords) : BitVec 32 :=
  Scalar.select (Scalar.andi (Scalar.cmpi .ne (Scalar.select
      (Scalar.andi (Scalar.xori (Scalar.cmpi .slt (Scalar.remsi (Scalar.addi (Scalar.muli 2#32 (BitVec.ofNat 32 (i 0).val)) 2#32) 64#32) 0#32) 0#1)
        (Scalar.cmpi .ne (Scalar.remsi (Scalar.addi (Scalar.muli 2#32 (BitVec.ofNat 32 (i 0).val)) 2#32) 64#32) 0#32))
      (Scalar.addi (Scalar.remsi (Scalar.addi (Scalar.muli 2#32 (BitVec.ofNat 32 (i 0).val)) 2#32) 64#32) 64#32)
      (Scalar.remsi (Scalar.addi (Scalar.muli 2#32 (BitVec.ofNat 32 (i 0).val)) 2#32) 64#32)) 0#32)
      (Scalar.cmpi .slt (Scalar.addi (Scalar.muli 2#32 (BitVec.ofNat 32 (i 0).val)) 2#32) 64#32)) 0#32 128#32

theorem offAB_eq : ∀ t : Fin cfg0.N, offAB (grid0.coords t) = 0#32 :=
  (by decide +kernel : ∀ t : Fin grid0.N, offAB (grid0.coords t) = 0#32)
theorem offBN_eq : ∀ t : Fin cfg0.N, offBN (grid0.coords t) = if t.val < 31 then 0#32 else 128#32 :=
  (by decide +kernel : ∀ t : Fin grid0.N, offBN (grid0.coords t) = if t.val < 31 then 0#32 else 128#32)

theorem sge_val (i : S128x128.Idx) (o : BitVec 32) (n : ℕ) (ho : o = BitVec.ofNat 32 n) (hn : n ≤ 128) :
    IntOp.cmpi .sge (iota .tc S128x128 32 [1] iota_S128x128_d1_w32 i) (iota .tc S128x128 32 [0] iota_S128x128_d0_w32 i + o)
      = if (i 0).val + n ≤ (i 1).val then 1#1 else 0#1 := by
  have h0 : (i 0).val < 128 := (i 0).isLt
  have h1 : (i 1).val < 128 := (i 1).isLt
  subst ho
  rw [iota_single_apply, iota_single_apply, cmpi_sge, toInt_add_of _ _ _ _ (toInt_nat _ (by omega)) (toInt_nat n (by omega)) (by omega) (by omega),
    toInt_nat _ (by omega)]
  by_cases h : (i 0).val + n ≤ (i 1).val
  · rw [if_pos h]; exact if_pos (by exact_mod_cast h)
  · rw [if_neg h]; exact if_neg (by exact_mod_cast h)

theorem validAB_val (t : Fin cfg0.N) (i : S128x128.Idx) : validAB (grid0.coords t) i = if (i 0).val ≤ (i 1).val then 1#1 else 0#1 := by
  have e : validAB (grid0.coords t) i = IntOp.cmpi .sge (iota .tc S128x128 32 [1] iota_S128x128_d1_w32 i)
      (iota .tc S128x128 32 [0] iota_S128x128_d0_w32 i + offAB (grid0.coords t)) := rfl
  rw [e, sge_val i _ 0 (offAB_eq t) (by omega)]
  rfl

theorem validBN_val (t : Fin cfg0.N) (i : S128x128.Idx) :
    validBN (grid0.coords t) i = if t.val < 31 ∧ (i 0).val ≤ (i 1).val then 1#1 else 0#1 := by
  have h0 : (i 0).val < 128 := (i 0).isLt
  have h1 : (i 1).val < 128 := (i 1).isLt
  have e : validBN (grid0.coords t) i = IntOp.cmpi .sge (iota .tc S128x128 32 [1] iota_S128x128_d1_w32 i)
      (iota .tc S128x128 32 [0] iota_S128x128_d0_w32 i + offBN (grid0.coords t)) := rfl
  by_cases ht : t.val < 31
  · rw [e, sge_val i _ 0 ((offBN_eq t).trans (if_pos ht)) (by omega)]
    simp only [ht, true_and, Nat.add_zero]
  · rw [e, sge_val i _ 128 ((offBN_eq t).trans (if_neg ht)) (by omega), if_neg (by omega), if_neg (fun h => ht h.1)]

/-- The reals of a side: query block `n` against 128 of its keys, from key `off`. -/
def specSide (Q K V G : ℕ → ℕ → ℝ) (L D : ℕ → ℕ → ℝ) (n off : ℕ) : RSide where
  q h i e := Q (128 * n + i) (128 * h + e)
  g h i e := G (128 * n + i) (128 * h + e)
  k h j e := Spec.kw K n (off + j) (128 * h + e)
  v h j e := Spec.kw V n (off + j) (128 * h + e)
  l i h := L (128 * n + i) h
  d i h := D (128 * n + i) h
  dist i j := (i : ℝ) - ((off + j : ℕ) : ℝ) + 128
  ok i j := Spec.ok n i (off + j)
  dec _ _ := inferInstance

/-- A side with no key in sight. -/
def deadSide (Q K V G : ℕ → ℕ → ℝ) (L D : ℕ → ℕ → ℝ) (n n' : ℕ) : RSide where
  q h i e := Q (128 * n + i) (128 * h + e)
  g h i e := G (128 * n + i) (128 * h + e)
  k h j e := Spec.kw K n' j (128 * h + e)
  v h j e := Spec.kw V n' j (128 * h + e)
  l i h := L (128 * n + i) h
  d i h := D (128 * n + i) h
  dist i j := (i : ℝ) - ((0 + j : ℕ) : ℝ) + 128
  ok _ _ := False
  dec _ _ := inferInstance

theorem dead_p (Q K V G L D) (n n' h i j : ℕ) : (deadSide Q K V G L D n n').p h i j = 0 := if_neg id
theorem dead_dv (Q K V G L D) (n n' h i j : ℕ) : (deadSide Q K V G L D n n').dv h i j = 0 :=
  Finset.sum_eq_zero fun _ _ => by rw [dead_p, zero_mul]
theorem dead_dk (Q K V G L D) (n n' h i j : ℕ) : (deadSide Q K V G L D n n').dk h i j = 0 :=
  Finset.sum_eq_zero fun _ _ => by rw [RSide.ds, dead_p, zero_mul, zero_mul]

/-- A point's blocks hold real arrays. -/
structure Blocks (m : (ℓ : Loc nD τ sig) → Buf (Elt Ideal) ℓ) (c : Dev nD) (Q K V G : ℕ → ℕ → ℝ) (L D : ℕ → ℕ → ℝ) : Prop where
  q : ∀ (t : Fin cfg0.N) (y : S256x1024.Idx), iblk m c 0 t y = ((Q (256 * t.val + (y 0).val) (y 1).val : ℝ) : EReal)
  qn : ∀ (t : Fin cfg0.N) (y : S128x1024.Idx), iblk m c 1 t y = ((Q (128 * min (2 * t.val + 2) 63 + (y 0).val) (y 1).val : ℝ) : EReal)
  g : ∀ (t : Fin cfg0.N) (y : S256x1024.Idx), iblk m c 2 t y = ((G (256 * t.val + (y 0).val) (y 1).val : ℝ) : EReal)
  gn : ∀ (t : Fin cfg0.N) (y : S128x1024.Idx), iblk m c 3 t y = ((G (128 * min (2 * t.val + 2) 63 + (y 0).val) (y 1).val : ℝ) : EReal)
  l : ∀ (t : Fin cfg0.N) (y : S256x128.Idx), (y 1).val < 8 → iblk m c 4 t y = ((L (256 * t.val + (y 0).val) (y 1).val : ℝ) : EReal)
  ln : ∀ (t : Fin cfg0.N) (y : S128x128.Idx), (y 1).val < 8 → iblk m c 5 t y = ((L (128 * min (2 * t.val + 2) 63 + (y 0).val) (y 1).val : ℝ) : EReal)
  d : ∀ (t : Fin cfg0.N) (y : S256x128.Idx), (y 1).val < 8 → iblk m c 6 t y = ((D (256 * t.val + (y 0).val) (y 1).val : ℝ) : EReal)
  dn : ∀ (t : Fin cfg0.N) (y : S128x128.Idx), (y 1).val < 8 → iblk m c 7 t y = ((D (128 * min (2 * t.val + 2) 63 + (y 0).val) (y 1).val : ℝ) : EReal)
  k : ∀ (t : Fin cfg0.N) (y : S256x1024.Idx), iblk m c 8 t y = ((K (256 * t.val + (y 0).val) (y 1).val : ℝ) : EReal)
  v : ∀ (t : Fin cfg0.N) (y : S256x1024.Idx), iblk m c 9 t y = ((V (256 * t.val + (y 0).val) (y 1).val : ℝ) : EReal)

theorem ld256_val {x : Vec Ideal S256x1024 .bf16} {A : ℕ → ℕ → ℝ} (r : Fin 2) (h : Fin 8)
    (hx : ∀ y : S256x1024.Idx, x y = ((A (y 0).val (y 1).val : ℝ) : EReal)) :
    Tile rfl (ld256 (F := Ideal) x r h) fun i e => A (128 * r.val + i) (128 * h.val + e) := by
  intro i
  have h0 : (i 0).val < 128 := (i 0).isLt
  have h1 : (i 1).val < 128 := (i 1).isLt
  unfold ld256
  refine (View.ld_unit_apply_of x _ _ _ i (ValueIdx.ix2 (⟨128 * r.val + (i 0).val, by omega⟩ : Fin 256) (⟨128 * h.val + (i 1).val, by omega⟩ : Fin 1024))
    (fun a => match a with | ⟨0, _⟩ => rfl | ⟨1, _⟩ => rfl)).trans ?_
  exact hx _

theorem ld128_val {x : Vec Ideal S128x1024 .bf16} {A : ℕ → ℕ → ℝ} (h : Fin 8)
    (hx : ∀ y : S128x1024.Idx, x y = ((A (y 0).val (y 1).val : ℝ) : EReal)) :
    Tile rfl (ld128 (F := Ideal) x h) fun i e => A i (128 * h.val + e) := by
  intro i
  have h0 : (i 0).val < 128 := (i 0).isLt
  have h1 : (i 1).val < 128 := (i 1).isLt
  unfold ld128
  refine (View.ld_unit_apply_of x _ _ _ i (ValueIdx.ix2 (i 0) (⟨128 * h.val + (i 1).val, by omega⟩ : Fin 1024))
    (fun a => match a with | ⟨0, _⟩ => (Nat.zero_add _).symm | ⟨1, _⟩ => rfl)).trans ?_
  exact hx _

theorem ldl_val {x : Vec Ideal S256x128 .f32} {A : ℕ → ℕ → ℝ} (r : Fin 2)
    (hx : ∀ y : S256x128.Idx, (y 1).val < 8 → x y = ((A (y 0).val (y 1).val : ℝ) : EReal)) (i : S128x128.Idx) (hi : (i 1).val < 8) :
    ldl (F := Ideal) x r i = ((A (128 * r.val + (i 0).val) (i 1).val : ℝ) : EReal) := by
  have h0 : (i 0).val < 128 := (i 0).isLt
  have h1 : (i 1).val < 128 := (i 1).isLt
  unfold ldl
  refine (View.ld_unit_apply_of x _ _ _ i (ValueIdx.ix2 (⟨128 * r.val + (i 0).val, by omega⟩ : Fin 256) (i 1))
    (fun a => match a with | ⟨0, _⟩ => rfl | ⟨1, _⟩ => (Nat.zero_add _).symm)).trans ?_
  exact hx _ hi

theorem kw_own (K : ℕ → ℕ → ℝ) (n j c : ℕ) : Spec.kw K n (128 + j) c = K (128 * n + j) c := by
  unfold Spec.kw
  rw [if_neg (by omega)]
  congr 1
  omega
theorem kw_prev (K : ℕ → ℕ → ℝ) (n j c : ℕ) : Spec.kw K (n + 1) (0 + j) c = K (128 * n + j) c := by
  unfold Spec.kw
  rw [if_neg (by omega)]
  congr 1
  omega

theorem Tile.congr {s : Shape} {hs : s.rank = 2} {x : s.Idx → EReal} {f g : ℕ → ℕ → ℝ} (h : Tile hs x f) (e : ∀ i j, f i j = g i j) : Tile hs x g :=
  fun i => (h i).trans (congrArg _ (e _ _))

section
variable {m : (ℓ : Loc nD τ sig) → Buf (Elt Ideal) ℓ} {c : Dev nD} {Q K V G : ℕ → ℕ → ℝ} {L D : ℕ → ℕ → ℝ} (B : Blocks m c Q K V G L D) (t : Fin cfg0.N)
include B

theorem tq0 (h : Fin 8) : Tile rfl (ld256 (F := Ideal) (iblk m c 0 t) 0 h) fun i e => Q (128 * (2 * t.val + 0) + i) (128 * h.val + e) :=
  (ld256_val (x := iblk m c 0 t) (A := fun i e => Q (256 * t.val + i) e) 0 h (B.q t)).congr fun i e =>
    congrArg (fun n => Q n (128 * h.val + e)) (show 256 * t.val + (128 * 0 + i) = 128 * (2 * t.val + 0) + i by omega)
theorem tq1 (h : Fin 8) : Tile rfl (ld256 (F := Ideal) (iblk m c 0 t) 1 h) fun i e => Q (128 * (2 * t.val + 1) + i) (128 * h.val + e) :=
  (ld256_val (x := iblk m c 0 t) (A := fun i e => Q (256 * t.val + i) e) 1 h (B.q t)).congr fun i e =>
    congrArg (fun n => Q n (128 * h.val + e)) (show 256 * t.val + (128 * 1 + i) = 128 * (2 * t.val + 1) + i by omega)
theorem tg0 (h : Fin 8) : Tile rfl (ld256 (F := Ideal) (iblk m c 2 t) 0 h) fun i e => G (128 * (2 * t.val + 0) + i) (128 * h.val + e) :=
  (ld256_val (x := iblk m c 2 t) (A := fun i e => G (256 * t.val + i) e) 0 h (B.g t)).congr fun i e =>
    congrArg (fun n => G n (128 * h.val + e)) (show 256 * t.val + (128 * 0 + i) = 128 * (2 * t.val + 0) + i by omega)
theorem tg1 (h : Fin 8) : Tile rfl (ld256 (F := Ideal) (iblk m c 2 t) 1 h) fun i e => G (128 * (2 * t.val + 1) + i) (128 * h.val + e) :=
  (ld256_val (x := iblk m c 2 t) (A := fun i e => G (256 * t.val + i) e) 1 h (B.g t)).congr fun i e =>
    congrArg (fun n => G n (128 * h.val + e)) (show 256 * t.val + (128 * 1 + i) = 128 * (2 * t.val + 1) + i by omega)
theorem tk0 (h : Fin 8) : Tile rfl (ld256 (F := Ideal) (iblk m c 8 t) 0 h) fun i e => K (128 * (2 * t.val + 0) + i) (128 * h.val + e) :=
  (ld256_val (x := iblk m c 8 t) (A := fun i e => K (256 * t.val + i) e) 0 h (B.k t)).congr fun i e =>
    congrArg (fun n => K n (128 * h.val + e)) (show 256 * t.val + (128 * 0 + i) = 128 * (2 * t.val + 0) + i by omega)
theorem tk1 (h : Fin 8) : Tile rfl (ld256 (F := Ideal) (iblk m c 8 t) 1 h) fun i e => K (128 * (2 * t.val + 1) + i) (128 * h.val + e) :=
  (ld256_val (x := iblk m c 8 t) (A := fun i e => K (256 * t.val + i) e) 1 h (B.k t)).congr fun i e =>
    congrArg (fun n => K n (128 * h.val + e)) (show 256 * t.val + (128 * 1 + i) = 128 * (2 * t.val + 1) + i by omega)
theorem tv0 (h : Fin 8) : Tile rfl (ld256 (F := Ideal) (iblk m c 9 t) 0 h) fun i e => V (128 * (2 * t.val + 0) + i) (128 * h.val + e) :=
  (ld256_val (x := iblk m c 9 t) (A := fun i e => V (256 * t.val + i) e) 0 h (B.v t)).congr fun i e =>
    congrArg (fun n => V n (128 * h.val + e)) (show 256 * t.val + (128 * 0 + i) = 128 * (2 * t.val + 0) + i by omega)
theorem tv1 (h : Fin 8) : Tile rfl (ld256 (F := Ideal) (iblk m c 9 t) 1 h) fun i e => V (128 * (2 * t.val + 1) + i) (128 * h.val + e) :=
  (ld256_val (x := iblk m c 9 t) (A := fun i e => V (256 * t.val + i) e) 1 h (B.v t)).congr fun i e =>
    congrArg (fun n => V n (128 * h.val + e)) (show 256 * t.val + (128 * 1 + i) = 128 * (2 * t.val + 1) + i by omega)
theorem tqn (h : Fin 8) : Tile rfl (ld128 (F := Ideal) (iblk m c 1 t) h) fun i e => Q (128 * min (2 * t.val + 2) 63 + i) (128 * h.val + e) :=
  ld128_val (x := iblk m c 1 t) (A := fun i e => Q (128 * min (2 * t.val + 2) 63 + i) e) h (B.qn t)
theorem tgn (h : Fin 8) : Tile rfl (ld128 (F := Ideal) (iblk m c 3 t) h) fun i e => G (128 * min (2 * t.val + 2) 63 + i) (128 * h.val + e) :=
  ld128_val (x := iblk m c 3 t) (A := fun i e => G (128 * min (2 * t.val + 2) 63 + i) e) h (B.gn t)
theorem tl0 (i : S128x128.Idx) (hi : (i 1).val < 8) :
    ldl (F := Ideal) (iblk m c 4 t) 0 i = ((L (128 * (2 * t.val + 0) + (i 0).val) (i 1).val : ℝ) : EReal) :=
  (ldl_val (x := iblk m c 4 t) (A := fun i e => L (256 * t.val + i) e) 0 (B.l t) i hi).trans (congrArg (fun n => ((L n (i 1).val : ℝ) : EReal))
    (show 256 * t.val + (128 * 0 + (i 0).val) = 128 * (2 * t.val + 0) + (i 0).val by omega))
theorem tl1 (i : S128x128.Idx) (hi : (i 1).val < 8) :
    ldl (F := Ideal) (iblk m c 4 t) 1 i = ((L (128 * (2 * t.val + 1) + (i 0).val) (i 1).val : ℝ) : EReal) :=
  (ldl_val (x := iblk m c 4 t) (A := fun i e => L (256 * t.val + i) e) 1 (B.l t) i hi).trans (congrArg (fun n => ((L n (i 1).val : ℝ) : EReal))
    (show 256 * t.val + (128 * 1 + (i 0).val) = 128 * (2 * t.val + 1) + (i 0).val by omega))
theorem td0 (i : S128x128.Idx) (hi : (i 1).val < 8) :
    ldl (F := Ideal) (iblk m c 6 t) 0 i = ((D (128 * (2 * t.val + 0) + (i 0).val) (i 1).val : ℝ) : EReal) :=
  (ldl_val (x := iblk m c 6 t) (A := fun i e => D (256 * t.val + i) e) 0 (B.d t) i hi).trans (congrArg (fun n => ((D n (i 1).val : ℝ) : EReal))
    (show 256 * t.val + (128 * 0 + (i 0).val) = 128 * (2 * t.val + 0) + (i 0).val by omega))
theorem td1 (i : S128x128.Idx) (hi : (i 1).val < 8) :
    ldl (F := Ideal) (iblk m c 6 t) 1 i = ((D (128 * (2 * t.val + 1) + (i 0).val) (i 1).val : ℝ) : EReal) :=
  (ldl_val (x := iblk m c 6 t) (A := fun i e => D (256 * t.val + i) e) 1 (B.d t) i hi).trans (congrArg (fun n => ((D n (i 1).val : ℝ) : EReal))
    (show 256 * t.val + (128 * 1 + (i 0).val) = 128 * (2 * t.val + 1) + (i 0).val by omega))

omit B in
theorem side_of {q g k v : Fin 8 → FVec Ideal S128x128 .bf16} {l d : FVec Ideal S128x128 .f32} {dist : FVec Ideal S128x128 .f32} {valid : IVec S128x128 1} {R : RSide}
    (hq : ∀ h : Fin 8, Tile rfl (q h) (R.q h)) (hg : ∀ h : Fin 8, Tile rfl (g h) (R.g h)) (hk : ∀ h : Fin 8, Tile rfl (k h) (R.k h))
    (hv : ∀ h : Fin 8, Tile rfl (v h) (R.v h)) (hl : ∀ i : S128x128.Idx, (i 1).val < 8 → l i = ((R.l (i 0).val (i 1).val : ℝ) : EReal))
    (hd : ∀ i : S128x128.Idx, (i 1).val < 8 → d i = ((R.d (i 0).val (i 1).val : ℝ) : EReal)) (hdist : Tile rfl dist R.dist)
    (hvalid : ∀ i : S128x128.Idx, letI := R.dec (i 0).val (i 1).val; valid i = if R.ok (i 0).val (i 1).val then 1#1 else 0#1) :
    Side.Is (⟨q, g, k, v, l, d, dist, valid⟩ : Side Ideal) R := ⟨hq, hg, hk, hv, hl, hd, hdist, hvalid⟩
omit B in
theorem ok_own (n : ℕ) (i j : Fin 128) : j.val ≤ i.val ↔ Spec.ok n i.val (128 + j.val) := by
  unfold Spec.ok; omega
omit B in
theorem ok_prev (n : ℕ) (i j : Fin 128) (hn : 1 ≤ n) : i.val ≤ j.val ↔ Spec.ok n i.val (0 + j.val) := by
  unfold Spec.ok; omega

theorem isAA : (sAA m c t).Is (specSide Q K V G L D (2 * t.val) 128) := by
  unfold sAA
  refine side_of ?_ ?_ ?_ ?_ ?_ ?_ ?_ ?_
  · exact fun h => tq0 B t h
  · exact fun h => tg0 B t h
  · exact fun h => (tk0 B t h).congr fun i e => (kw_own K _ i _).symm
  · exact fun h => (tv0 B t h).congr fun i e => (kw_own V _ i _).symm
  · exact fun i hi => tl0 B t i hi
  · exact fun i hi => td0 B t i hi
  · exact distC_val
  · exact fun i => (validC_val i).trans (if_congr (ok_own _ (i 0) (i 1) ) rfl rfl)

theorem isBB : (sBB m c t).Is (specSide Q K V G L D (2 * t.val + 1) 128) := by
  unfold sBB
  refine side_of ?_ ?_ ?_ ?_ ?_ ?_ ?_ ?_
  · exact fun h => tq1 B t h
  · exact fun h => tg1 B t h
  · exact fun h => (tk1 B t h).congr fun i e => (kw_own K _ i _).symm
  · exact fun h => (tv1 B t h).congr fun i e => (kw_own V _ i _).symm
  · exact fun i hi => tl1 B t i hi
  · exact fun i hi => td1 B t i hi
  · exact distC_val
  · exact fun i => (validC_val i).trans (if_congr (ok_own _ (i 0) (i 1) ) rfl rfl)

theorem isBA : (sBA m c t).Is (specSide Q K V G L D (2 * t.val + 1) 0) := by
  unfold sBA
  refine side_of ?_ ?_ ?_ ?_ ?_ ?_ ?_ ?_
  · exact fun h => tq1 B t h
  · exact fun h => tg1 B t h
  · exact fun h => (tk0 B t h).congr fun i e => (kw_prev K _ i _).symm
  · exact fun h => (tv0 B t h).congr fun i e => (kw_prev V _ i _).symm
  · exact fun i hi => tl1 B t i hi
  · exact fun i hi => td1 B t i hi
  · exact distP_val
  · exact fun i => (validAB_val t i).trans (if_congr (ok_prev _ (i 0) (i 1) (by omega)) rfl rfl)

theorem isNB (ht : t.val < 31) : (sNB m c t).Is (specSide Q K V G L D (2 * t.val + 2) 0) := by
  unfold sNB
  refine side_of ?_ ?_ ?_ ?_ ?_ ?_ ?_ ?_
  · exact fun h => (tqn B t h).congr fun i e => congrArg (fun n => Q (128 * n + i) (128 * h.val + e)) (min_eq_left (by omega))
  · exact fun h => (tgn B t h).congr fun i e => congrArg (fun n => G (128 * n + i) (128 * h.val + e)) (min_eq_left (by omega))
  · exact fun h => (tk1 B t h).congr fun i e => (kw_prev K _ i _).symm
  · exact fun h => (tv1 B t h).congr fun i e => (kw_prev V _ i _).symm
  · exact fun i hi => (B.ln t i hi).trans (congrArg (fun n => ((L (128 * n + (i 0).val) (i 1).val : ℝ) : EReal)) (min_eq_left (by omega)))
  · exact fun i hi => (B.dn t i hi).trans (congrArg (fun n => ((D (128 * n + (i 0).val) (i 1).val : ℝ) : EReal)) (min_eq_left (by omega)))
  · exact distP_val
  · exact fun i => (validBN_val t i).trans (if_congr ((and_iff_right ht).trans (ok_prev _ (i 0) (i 1) (by omega))) rfl rfl)

theorem isNB_last (ht : ¬t.val < 31) : (sNB m c t).Is (deadSide Q K V G L D (min (2 * t.val + 2) 63) (2 * t.val + 2)) := by
  unfold sNB
  refine side_of ?_ ?_ ?_ ?_ ?_ ?_ ?_ ?_
  · exact fun h => tqn B t h
  · exact fun h => tgn B t h
  · exact fun h => (tk1 B t h).congr fun i e => (kw_prev K _ i _).symm.trans (congrArg (fun n => Spec.kw K (2 * t.val + 1 + 1) n (128 * h.val + e)) (Nat.zero_add i))
  · exact fun h => (tv1 B t h).congr fun i e => (kw_prev V _ i _).symm.trans (congrArg (fun n => Spec.kw V (2 * t.val + 1 + 1) n (128 * h.val + e)) (Nat.zero_add i))
  · exact fun i hi => B.ln t i hi
  · exact fun i hi => B.dn t i hi
  · exact distP_val
  · exact fun i => (validBN_val t i).trans (if_congr (iff_false_intro fun h => ht h.1) rfl rfl)

end

section
variable (Q K V G : ℕ → ℕ → ℝ) (O4 O16 : ℕ → ℕ → ℕ → ℝ) (L4 L16 : ℕ → ℕ → ℝ) (n off h : ℕ)

local notation "SS" => specSide Q K V G (Spec.lse scaleR Q K L4 L16) (Spec.delta scaleR Q K V G O4 O16 L4 L16)

theorem spec_p (i j : ℕ) : (SS n off).p h i j = Spec.prob scaleR Q K L4 L16 n h i (off + j) := by
  unfold RSide.p Spec.prob
  refine if_congr Iff.rfl (congrArg Real.exp ?_) rfl
  unfold Spec.sc
  show _ - Spec.slope h * ((i : ℝ) - ((off + j : ℕ) : ℝ) + 128) - _ = _
  have e : (∑ e : Fin 128, (SS n off).q h i e * (SS n off).k h j e) = ∑ e : Fin 128, Q (128 * n + i) (128 * h + e) * Spec.kw K n (off + j) (128 * h + e) := rfl
  rw [e]
  show _ - Spec.lse scaleR Q K L4 L16 (128 * n + i) h = _
  push_cast
  ring

theorem spec_ds (i j : ℕ) : (SS n off).ds h i j = Spec.ds scaleR Q K V G O4 O16 L4 L16 n h i (off + j) := by
  unfold RSide.ds Spec.ds
  rw [spec_p]
  rfl

theorem spec_dv (j e : ℕ) : (SS n off).dv h j e = Spec.dvp scaleR Q K G L4 L16 n h (off + j) e := by
  unfold RSide.dv Spec.dvp
  refine Finset.sum_congr rfl fun i _ => ?_
  rw [spec_p]
  rfl

theorem spec_dk (j e : ℕ) : (SS n off).dk h j e = Spec.dkp scaleR Q K V G O4 O16 L4 L16 n h (off + j) e := by
  unfold RSide.dk Spec.dkp
  refine Finset.sum_congr rfl fun i _ => ?_
  rw [spec_ds]
  rfl

theorem spec_dq (i e : ℕ) : (SS n off).dq h i e
    = ∑ j : Fin 128, Spec.ds scaleR Q K V G O4 O16 L4 L16 n h i (off + j) * Spec.kw K n (off + j) (128 * h + e) := by
  unfold RSide.dq
  refine Finset.sum_congr rfl fun i _ => ?_
  rw [spec_ds]
  rfl

theorem spec_dq_split (i e : ℕ) : Spec.dq scaleR Q K V G O4 O16 L4 L16 n h i e = (SS n 0).dq h i e * scaleR + (SS n 128).dq h i e * scaleR := by
  rw [spec_dq, spec_dq, Spec.dq, ← add_mul]
  congr 1
  rw [show (256 : ℕ) = 128 + 128 from rfl, Fin.sum_univ_add]
  congr 1

/-- The first block sees nothing before it. -/
theorem spec_dq_first (i e : ℕ) : (SS 0 0).dq h i e = 0 := by
  rw [spec_dq]
  refine Finset.sum_eq_zero fun j _ => ?_
  have : Spec.kw K 0 (0 + j) (128 * h + e) = 0 := by unfold Spec.kw; rw [if_pos ⟨rfl, by omega⟩]
  rw [this, mul_zero]

end

section
variable {m : (ℓ : Loc nD τ sig) → Buf (Elt Ideal) ℓ} {c : Dev nD} {Q K V G : ℕ → ℕ → ℝ} {O4 O16 : ℕ → ℕ → ℕ → ℝ} {L4 L16 : ℕ → ℕ → ℝ}
  (B : Blocks m c Q K V G (Spec.lse scaleR Q K L4 L16) (Spec.delta scaleR Q K V G O4 O16 L4 L16)) (t : Fin cfg0.N)
include B

local notation "SS" => specSide Q K V G (Spec.lse scaleR Q K L4 L16) (Spec.delta scaleR Q K V G O4 O16 L4 L16)

omit B in
theorem Tile.add {s : Shape} {hs : s.rank = 2} {φ : FTy} {x y : FVec Ideal s φ} {f g : ℕ → ℕ → ℝ} (hx : Tile hs x f) (hy : Tile hs y g) :
    Tile hs (addf x y) fun i j => f i j + g i j := fun i => by
  show x i + y i = _
  rw [hx i, hy i, ← EReal.coe_add]

omit B in
theorem Tile.scale {s : Shape} {hs : s.rank = 2} {x : FVec Ideal s .f32} {f : ℕ → ℕ → ℝ} (hx : Tile hs x f) :
    Tile hs (mulf x (broadcast s (Scalar.ofBits .f32 0x3DB504F3#32))) fun i j => f i j * scaleR := fun i => by
  show x i * Ideal.ofBits .f32 0x3DB504F3#32 = _
  rw [hx i, w_scale, ← EReal.coe_mul]

theorem carryBlk_val (ht : t.val < 31) : Tile rfl (carryBlk (F := Ideal) m c t) fun i j => (SS (2 * t.val + 2) 0).dq (j / 128) i (j % 128) * scaleR := by
  unfold carryBlk scaled
  rw [shapeCast_self]
  exact Tile.scale (cat_val fun h => (isNB B t ht).dq h)

omit B in
theorem Tile.congr_lt {s : Shape} {hs : s.rank = 2} {x : s.Idx → EReal} {f g : ℕ → ℕ → ℝ} (h : Tile hs x f)
    (e : ∀ i j, i < s.size ⟨0, by omega⟩ → f i j = g i j) : Tile hs x g :=
  fun i => (h i).trans (congrArg _ (e _ _ (i ⟨0, by omega⟩).isLt))

theorem dvBlk_val : Tile rfl (dvBlk (F := Ideal) m c t) fun i j =>
    Spec.dv scaleR Q K G L4 L16 (2 * t.val + i / 128) (j / 128) (i % 128) (j % 128) := by
  have hlt : t.val < 32 := t.isLt
  have hN : ∀ h : Fin 8, Tile rfl ((sNB m c t).dv h) fun j e => if 2 * t.val + 1 < 63 then Spec.dvp scaleR Q K G L4 L16 (2 * t.val + 1 + 1) h j e else 0 := fun h => by
    by_cases ht : t.val < 31
    · refine ((isNB B t ht).dv h).congr fun j e => ?_
      rw [if_pos (by omega), spec_dv, Nat.zero_add]
    · refine ((isNB_last B t ht).dv h).congr fun j e => ?_
      rw [if_neg (by omega), dead_dv]
  have hA : Tile rfl (cat fun h => addf ((sAA m c t).dv h) ((sBA m c t).dv h)) _ := cat_val
    (A := fun h j e => (SS (2 * t.val) 128).dv h j e + (SS (2 * t.val + 1) 0).dv h j e) fun h => ((isAA B t).dv h).add ((isBA B t).dv h)
  have hB : Tile rfl (cat fun h => addf ((sBB m c t).dv h) ((sNB m c t).dv h)) _ := cat_val
    (A := fun h j e => (SS (2 * t.val + 1) 128).dv h j e + if 2 * t.val + 1 < 63 then Spec.dvp scaleR Q K G L4 L16 (2 * t.val + 1 + 1) h j e else 0)
    fun h => ((isBB B t).dv h).add (hN h)
  refine Tile.congr_lt (s := S256x1024) (cat2_val hA hB) fun i j hi => ?_
  have hi' : i < 256 := hi
  unfold Spec.dv
  by_cases h : i < 128
  · rw [if_pos h, Nat.div_eq_of_lt h, Nat.mod_eq_of_lt h, if_pos (show 2 * t.val + 0 < 63 by omega), Nat.add_zero (2 * t.val), spec_dv, spec_dv, Nat.zero_add]
  · rw [if_neg h, show i / 128 = 1 by omega, show i % 128 = i - 128 by omega, spec_dv]

theorem dkBlk_val : Tile rfl (dkBlk (F := Ideal) m c t) fun i j =>
    Spec.dk scaleR Q K V G O4 O16 L4 L16 (2 * t.val + i / 128) (j / 128) (i % 128) (j % 128) := by
  have hlt : t.val < 32 := t.isLt
  have hN : ∀ h : Fin 8, Tile rfl ((sNB m c t).dk h) fun j e => if 2 * t.val + 1 < 63 then Spec.dkp scaleR Q K V G O4 O16 L4 L16 (2 * t.val + 1 + 1) h j e else 0 := fun h => by
    by_cases ht : t.val < 31
    · refine ((isNB B t ht).dk h).congr fun j e => ?_
      rw [if_pos (by omega), spec_dk, Nat.zero_add]
    · refine ((isNB_last B t ht).dk h).congr fun j e => ?_
      rw [if_neg (by omega), dead_dk]
  have hA : Tile rfl (cat fun h => addf ((sAA m c t).dk h) ((sBA m c t).dk h)) _ := cat_val
    (A := fun h j e => (SS (2 * t.val) 128).dk h j e + (SS (2 * t.val + 1) 0).dk h j e) fun h => ((isAA B t).dk h).add ((isBA B t).dk h)
  have hB : Tile rfl (cat fun h => addf ((sBB m c t).dk h) ((sNB m c t).dk h)) _ := cat_val
    (A := fun h j e => (SS (2 * t.val + 1) 128).dk h j e + if 2 * t.val + 1 < 63 then Spec.dkp scaleR Q K V G O4 O16 L4 L16 (2 * t.val + 1 + 1) h j e else 0)
    fun h => ((isBB B t).dk h).add (hN h)
  refine Tile.congr_lt (s := S256x1024) (Tile.scale (cat2_val hA hB)) fun i j hi => ?_
  have hi' : i < 256 := hi
  unfold Spec.dk
  by_cases h : i < 128
  · rw [if_pos h, Nat.div_eq_of_lt h, Nat.mod_eq_of_lt h, if_pos (show 2 * t.val + 0 < 63 by omega), Nat.add_zero (2 * t.val), spec_dk, spec_dk, Nat.zero_add]
  · rw [if_neg h, show i / 128 = 1 by omega, show i % 128 = i - 128 by omega, spec_dk]

theorem dqBlk_val {carried : FVec Ideal S128x1024 .f32} (hc : Tile rfl carried fun i j => (SS (2 * t.val) 0).dq (j / 128) i (j % 128) * scaleR) :
    Tile rfl (dqBlk (F := Ideal) m c t carried) fun i j =>
      Spec.dq scaleR Q K V G O4 O16 L4 L16 (2 * t.val + i / 128) (j / 128) (i % 128) (j % 128) := by
  have hA : Tile rfl (addf carried (scaled (F := Ideal) (cat (sAA m c t).dq))) _ :=
    hc.add (Tile.scale (cat_val (A := fun h j e => (SS (2 * t.val) 128).dq h j e) fun h => (isAA B t).dq h))
  have hB : Tile rfl (scaled (F := Ideal) (cat fun h => addf ((sBA m c t).dq h) ((sBB m c t).dq h))) _ := Tile.scale (cat_val
    (A := fun h j e => (SS (2 * t.val + 1) 0).dq h j e + (SS (2 * t.val + 1) 128).dq h j e) fun h => ((isBA B t).dq h).add ((isBB B t).dq h))
  refine Tile.congr_lt (s := S256x1024) (cat2_val hA hB) fun i j hi => ?_
  have hi' : i < 256 := hi
  rw [spec_dq_split]
  by_cases h : i < 128
  · rw [if_pos h, Nat.div_eq_of_lt h, Nat.mod_eq_of_lt h, Nat.add_zero]
  · rw [if_neg h, show i / 128 = 1 by omega, show i % 128 = i - 128 by omega, add_mul]

end

end Cert.Body

end
-- ==== Proof.HostVal.lean ====
/- The row log-sums and the weights' corrections that the kernel's host part prepares, as the gradient's mathematics. -/
module

public import proofs.«01_k».proof.Proof.PrefixVal
public import proofs.«01_k».proof.Proof.Ref4
public import proofs.«01_k».proof.Proof.BlkVal

@[expose] public section

set_option maxRecDepth 16384

noncomputable section

namespace Cert.Prefix

open Cert.KernelIdeal Cert.KernelIdeal.Gen Cert.Tools Idealize.ShloMosaic Idealize.ShloMosaic.TcCoe Idealize.SL.Sem Idealize.ShloMosaic.StableHlo

section
variable {F : FTy → Type} [FloatOps F] (m : (ℓ : Loc nD τ sig) → Buf (Elt F) ℓ) (c : Dev nD)

abbrev A0 : Arg F := m ((c : Thread nD τ).loc main_arg0)
abbrev A1 : Arg F := m ((c : Thread nD τ).loc main_arg1)
abbrev A2 : Arg F := m ((c : Thread nD τ).loc main_arg2)
abbrev A3 : Arg F := m ((c : Thread nD τ).loc main_arg3)
abbrev A4 : Arg3 F := m ((c : Thread nD τ).loc main_arg4)
abbrev A5 : Arg2 F := m ((c : Thread nD τ).loc main_arg5)
abbrev A6 : Arg3 F := m ((c : Thread nD τ).loc main_arg6)
abbrev A7 : Arg2 F := m ((c : Thread nD τ).loc main_arg7)

/-- The contents after one, two, … stretches. -/
def W0 : Valuation τ sig (Elt F) := fun b => m (c, b)
def W1 : Valuation τ sig (Elt F) := after seg1 (W0 m c)
def W2 : Valuation τ sig (Elt F) := after seg2 (W1 m c)
def W3 : Valuation τ sig (Elt F) := after seg3 (W2 m c)
def W4 : Valuation τ sig (Elt F) := after seg4 (W3 m c)
def W5 : Valuation τ sig (Elt F) := after seg5 (W4 m c)
def W6 : Valuation τ sig (Elt F) := after seg6 (W5 m c)

theorem V_eq (b : Ref sig .tc) : Gen.V m c b = W6 m c (Proc.devRef .tc b) := by
  unfold W6 W5 W4 W3 W2 W1 W0
  rw [← after_app, ← after_app, ← after_app, ← after_app, ← after_app, ← list_eq]

theorem W3_of (r : Ref sig .tc) (h1 : r ∉ seg1_W) (h2 : r ∉ seg2_W) (h3 : r ∉ seg3_W) :
    W3 m c (Proc.devRef .tc r) = W0 m c (Proc.devRef .tc r) :=
  (seg3_keep _ r h3).trans ((seg2_keep _ r h2).trans (seg1_keep _ r h1))

theorem W4_of (r : Ref sig .tc) (h1 : r ∉ seg1_W) (h2 : r ∉ seg2_W) (h3 : r ∉ seg3_W) (h4 : r ∉ seg4_W) :
    W4 m c (Proc.devRef .tc r) = W0 m c (Proc.devRef .tc r) :=
  (seg4_keep _ r h4).trans (W3_of m c r h1 h2 h3)

theorem W2_v70 : W2 m c (Proc.devRef .tc main_v70) = Cert.ReferenceIdeal.Read.val_main_v72 (F := F) (A0 m c) (A1 m c) :=
  seg2_v70 _ _ _ (seg1_v14 _) (seg1_v30 _ _ _ rfl rfl)

theorem W2_v71 : W2 m c (Proc.devRef .tc main_v71) = Cert.ReferenceIdeal.Read.val_main_v73 (F := F) := seg2_v71 _

theorem W2_cst : W2 m c (Proc.devRef .tc main_cst_11) = (constant S_ .f32 0xFF800000#32 : (⟨S_, .f32⟩ : BufTy).Contents (Elt F)) := seg2_cst _

theorem W2_v27 : W2 m c (Proc.devRef .tc main_v27) = Cert.ReferenceIdeal.Read.val_main_v29 (F := F) (A2 m c) :=
  (seg2_keep _ main_v27 (by decide)).trans (seg1_v27 _ _ rfl)

/-- The first pattern's row log-sum. -/
abbrev kl1 : Arg2 F := Cert.ReferenceIdeal.Read.val_main_v102 (F := F) (A0 m c) (A1 m c)
/-- The first pattern's result. -/
abbrev ko1 : Arg3 F := Cert.ReferenceIdeal.Read.val_main_v101 (F := F) (A0 m c) (A1 m c) (A2 m c)

theorem W3_v92 : W3 m c (Proc.devRef .tc main_v92) = kl1 m c := seg3_v92 _ _ _ (W2_v70 m c) (W2_v71 m c) (W2_cst m c)
theorem W3_v91 : W3 m c (Proc.devRef .tc main_v91) = ko1 m c := seg3_v91 _ _ _ _ (W2_v27 m c) (W2_v70 m c) (W2_v71 m c) (W2_cst m c)

theorem W4_v104 : W4 m c (Proc.devRef .tc main_v104) = tLse (kl1 m c) (A5 m c) (A7 m c) :=
  seg4_v104 _ _ _ _ (W3_v92 m c) (W3_of m c main_arg5 (by decide) (by decide) (by decide)) (W3_of m c main_arg7 (by decide) (by decide) (by decide))

theorem W5_v126 : W5 m c (Proc.devRef .tc main_v126)
    = tDelta (A3 m c) (tMix (kl1 m c) (A5 m c) (A7 m c) (tLse (kl1 m c) (A5 m c) (A7 m c)) (ko1 m c) (A4 m c) (A6 m c)) :=
  seg5_v126 _ _ _ _ _ _ _ _ _ ((seg4_keep _ main_v92 (by decide)).trans (W3_v92 m c)) ((seg4_keep _ main_v91 (by decide)).trans (W3_v91 m c))
    (W4_v104 m c)
    (W4_of m c main_arg3 (by decide) (by decide) (by decide) (by decide)) (W4_of m c main_arg4 (by decide) (by decide) (by decide) (by decide))
    (W4_of m c main_arg5 (by decide) (by decide) (by decide) (by decide)) (W4_of m c main_arg6 (by decide) (by decide) (by decide) (by decide))
    (W4_of m c main_arg7 (by decide) (by decide) (by decide) (by decide))

theorem V_v127 : Gen.V m c main_v127 = tPad (tLse (kl1 m c) (A5 m c) (A7 m c)) :=
  (V_eq m c main_v127).trans (seg6_v127 _ _ ((seg5_keep _ main_v104 (by decide)).trans (W4_v104 m c)))

theorem V_v128 : Gen.V m c main_v128
    = tPad (tDelta (A3 m c) (tMix (kl1 m c) (A5 m c) (A7 m c) (tLse (kl1 m c) (A5 m c) (A7 m c)) (ko1 m c) (A4 m c) (A6 m c))) :=
  (V_eq m c main_v128).trans (seg6_v128 _ _ (W5_v126 m c))

end

theorem tPad_val (x : Arg2 Ideal) (i : S8192x128.Idx) (h : (i 1).val < 8) :
    tPad x i = x (ValueIdx.ix2 (i 0) ⟨(i 1).val, h⟩) := by
  unfold tPad
  rw [pad_apply_of_inside (s := S8192x8) (t := S8192x128) _ _ _ _ _ _ _ i (ValueIdx.ix2 (i 0) ⟨(i 1).val, h⟩) (fun a => by
    match a with
    | ⟨0, _⟩ => show (i 0).val = 0 + (i 0).val * 1; omega
    | ⟨1, _⟩ => show (i 1).val = 0 + (i 1).val * 1; omega)]

theorem lhs_dot_0 (i : S8192x8.Idx) (q : dot_S8192x8x128_S8192x8x128_S8192x8_2_2_n_n_01_01.contr.Idx) :
    (dot_S8192x8x128_S8192x8x128_S8192x8_2_2_n_n_01_01.lhsIdx i q 0).val = (i 0).val := by
  unfold DotDims.lhsIdx
  rw [dif_pos (show (0 : Fin S8192x8x128.rank) ∈ dot_S8192x8x128_S8192x8x128_S8192x8_2_2_n_n_01_01.lhsBatch by decide)]
  rfl
theorem lhs_dot_1 (i : S8192x8.Idx) (q : dot_S8192x8x128_S8192x8x128_S8192x8_2_2_n_n_01_01.contr.Idx) :
    (dot_S8192x8x128_S8192x8x128_S8192x8_2_2_n_n_01_01.lhsIdx i q 1).val = (i 1).val := by
  unfold DotDims.lhsIdx
  rw [dif_pos (show (1 : Fin S8192x8x128.rank) ∈ dot_S8192x8x128_S8192x8x128_S8192x8_2_2_n_n_01_01.lhsBatch by decide)]
  rfl
theorem rhs_dot_0 (i : S8192x8.Idx) (q : dot_S8192x8x128_S8192x8x128_S8192x8_2_2_n_n_01_01.contr.Idx) :
    (dot_S8192x8x128_S8192x8x128_S8192x8_2_2_n_n_01_01.rhsIdx i q 0).val = (i 0).val := by
  unfold DotDims.rhsIdx
  rw [dif_pos (show (0 : Fin S8192x8x128.rank) ∈ dot_S8192x8x128_S8192x8x128_S8192x8_2_2_n_n_01_01.rhsBatch by decide)]
  rfl
theorem rhs_dot_1 (i : S8192x8.Idx) (q : dot_S8192x8x128_S8192x8x128_S8192x8_2_2_n_n_01_01.contr.Idx) :
    (dot_S8192x8x128_S8192x8x128_S8192x8_2_2_n_n_01_01.rhsIdx i q 1).val = (i 1).val := by
  unfold DotDims.rhsIdx
  rw [dif_pos (show (1 : Fin S8192x8x128.rank) ∈ dot_S8192x8x128_S8192x8x128_S8192x8_2_2_n_n_01_01.rhsBatch by decide)]
  rfl

/-- A head's product of two rows is a sum over its 128 lanes. -/
theorem headDot (y0 y1 : Arg3 Ideal) (i : S8192x8.Idx) :
    (Host.dotGeneral (F := Ideal) (φ₁ := .f32) (φ₂ := .f32) dot_S8192x8x128_S8192x8x128_S8192x8_2_2_n_n_01_01 none y0 y1 : Arg2 Ideal) i
      = ∑ k : Fin 128, y0 (ValueIdx.ix3 (i 0) (i 1) k) * y1 (ValueIdx.ix3 (i 0) (i 1) k) := by
  simp only [Host.dotGeneral]
  rw [Ideal.dotGeneral_apply, ← Equiv.sum_comp (ValueIdx.contrEquiv1 dot_S8192x8x128_S8192x8x128_S8192x8_2_2_n_n_01_01 128 rfl rfl).symm]
  refine Finset.sum_congr rfl fun k _ => ?_
  have hk := ValueIdx.contrEquiv1_symm_val dot_S8192x8x128_S8192x8x128_S8192x8_2_2_n_n_01_01 128 rfl rfl k
  have el : dot_S8192x8x128_S8192x8x128_S8192x8_2_2_n_n_01_01.lhsIdx i ((ValueIdx.contrEquiv1 dot_S8192x8x128_S8192x8x128_S8192x8_2_2_n_n_01_01 128 rfl rfl).symm k)
      = ValueIdx.ix3 (i 0) (i 1) k := funext fun a => Fin.ext (by
    match a with
    | ⟨0, _⟩ => exact lhs_dot_0 _ _
    | ⟨1, _⟩ => exact lhs_dot_1 _ _
    | ⟨2, _⟩ => exact (dot_S8192x8x128_S8192x8x128_S8192x8_2_2_n_n_01_01.lhsIdx_val_of_single rfl _ _).trans hk)
  have er : dot_S8192x8x128_S8192x8x128_S8192x8_2_2_n_n_01_01.rhsIdx i ((ValueIdx.contrEquiv1 dot_S8192x8x128_S8192x8x128_S8192x8_2_2_n_n_01_01 128 rfl rfl).symm k)
      = ValueIdx.ix3 (i 0) (i 1) k := funext fun a => Fin.ext (by
    match a with
    | ⟨0, _⟩ => exact rhs_dot_0 _ _
    | ⟨1, _⟩ => exact rhs_dot_1 _ _
    | ⟨2, _⟩ => exact (dot_S8192x8x128_S8192x8x128_S8192x8_2_2_n_n_01_01.rhsIdx_val_of_single rfl _ _).trans hk)
  rw [el, er]
  rfl

theorem tMax_apply (l x5 x7 : Arg2 Ideal) (i : S8192x8.Idx) :
    tMax l x5 x7 i = FloatOps.maximumf (F := Ideal) (φ := .f32) (FloatOps.maximumf (F := Ideal) (φ := .f32) (l i) (x5 i)) (x7 i) := rfl
theorem tLse_apply (l x5 x7 : Arg2 Ideal) (i : S8192x8.Idx) :
    tLse l x5 x7 i = FloatOps.addf (F := Ideal) (φ := .f32) (tMax l x5 x7 i) (FloatOps.hostUnary (F := Ideal) (φ := .f32) .log
      (FloatOps.addf (F := Ideal) (φ := .f32) (FloatOps.addf (F := Ideal) (φ := .f32)
        (FloatOps.hostUnary (F := Ideal) (φ := .f32) .exp (FloatOps.subf (F := Ideal) (φ := .f32) (l i) (tMax l x5 x7 i)))
        (FloatOps.hostUnary (F := Ideal) (φ := .f32) .exp (FloatOps.subf (F := Ideal) (φ := .f32) (x5 i) (tMax l x5 x7 i))))
        (FloatOps.hostUnary (F := Ideal) (φ := .f32) .exp (FloatOps.subf (F := Ideal) (φ := .f32) (x7 i) (tMax l x5 x7 i))))) := rfl
theorem tMix_apply (l x5 x7 z : Arg2 Ideal) (o x4 x6 : Arg3 Ideal) (i : S8192x8x128.Idx) :
    tMix l x5 x7 z o x4 x6 i = FloatOps.addf (F := Ideal) (φ := .f32) (FloatOps.addf (F := Ideal) (φ := .f32) (FloatOps.addf (F := Ideal) (φ := .f32)
      (FloatOps.ofBits (F := Ideal) .f32 0x00000000#32) (tPart l z o i)) (tPart x5 z x4 i)) (tPart x7 z x6 i) := rfl

section
variable (C : Cert.Ref.Ctx)

theorem tMax_val (i : S8192x8.Idx) :
    tMax (F := Ideal) (Cert.ReferenceIdeal.Read.val_main_v102 (F := Ideal) C.x0 C.x1) C.x5 C.x7 i
      = ((max (max (Spec.l1 scaleR C.Q C.K (i 0).val (i 1).val) (C.L4 (i 0).val (i 1).val)) (C.L16 (i 0).val (i 1).val) : ℝ) : EReal) := by
  rw [tMax_apply, Ideal.maximumf_def, Ideal.maximumf_def, C.a102, C.h5, C.h7]
  have mono : Monotone (fun x : ℝ => (x : EReal)) := fun _ _ h => EReal.coe_le_coe_iff.2 h
  exact ((mono.map_max).trans (congrArg (max · _) mono.map_max)).symm

/-- The kernel's joint log-sum. -/
theorem tLse_val (i : S8192x8.Idx) :
    tLse (F := Ideal) (Cert.ReferenceIdeal.Read.val_main_v102 (F := Ideal) C.x0 C.x1) C.x5 C.x7 i
      = ((Spec.lse scaleR C.Q C.K C.L4 C.L16 (i 0).val (i 1).val : ℝ) : EReal) := by
  rw [tLse_apply, tMax_val, C.a102, C.h5, C.h7]
  simp only [Ideal.addf_def, Ideal.subf_def, Ideal.hostUnary_exp_def, Ideal.hostUnary_log_def]
  rw [exp_sub_coe, exp_sub_coe, exp_sub_coe, ← EReal.coe_add, ← EReal.coe_add, log_coe _ (by positivity), ← EReal.coe_add]
  exact congrArg _ (Spec.lse_shift _ _ _ _ _ _ _ _)

theorem tPart_val (l z : Arg2 Ideal) (o : Arg3 Ideal) (lr zr : ℝ) (or : ℝ) (i : S8192x8x128.Idx)
    (hl : l (ValueIdx.ix2 (i 0) (i 1)) = (lr : EReal)) (hz : z (ValueIdx.ix2 (i 0) (i 1)) = (zr : EReal)) (ho : o i = (or : EReal)) :
    tPart l z o i = ((Real.exp (lr - zr) * or : ℝ) : EReal) := by
  have e : tPart l z o i = FloatOps.mulf (F := Ideal) (φ := .f32) (FloatOps.hostUnary (F := Ideal) (φ := .f32) .exp (FloatOps.subf (F := Ideal) (φ := .f32) (l (ValueIdx.ix2 (i 0) (i 1))) (z (ValueIdx.ix2 (i 0) (i 1))))) (o i) := by
    show FloatOps.mulf (F := Ideal) (φ := .f32) (broadcastInDim S8192x8x128 ![0, 1, 2] bcast_S8192x8x1_S8192x8x128_0_1_2
      (broadcastInDim S8192x8x1 ![0, 1] bcast_S8192x8_S8192x8x1_0_1 (Host.exp (subf l z))) i) (o i) = _
    rw [broadcastInDim_apply _ bcast_S8192x8x1_S8192x8x128_0_1_2 _ i (ValueIdx.ix3 (i 0) (i 1) 0) (fun a => match a with
      | ⟨0, _⟩ => by show (i 0).val = if (8192 : Nat) = 1 then 0 else (i 0).val; rw [if_neg (by decide)]
      | ⟨1, _⟩ => by show (i 1).val = if (8 : Nat) = 1 then 0 else (i 1).val; rw [if_neg (by decide)]
      | ⟨2, _⟩ => by show 0 = if (1 : Nat) = 1 then 0 else (i 2).val; rw [if_pos rfl]),
      broadcastInDim_apply _ bcast_S8192x8_S8192x8x1_0_1 _ (ValueIdx.ix3 (i 0) (i 1) 0) (ValueIdx.ix2 (i 0) (i 1)) (fun a => match a with
      | ⟨0, _⟩ => by show (i 0).val = if (8192 : Nat) = 1 then 0 else (i 0).val; rw [if_neg (by decide)]
      | ⟨1, _⟩ => by show (i 1).val = if (8 : Nat) = 1 then 0 else (i 1).val; rw [if_neg (by decide)])]
    rfl
  rw [e, hl, hz, ho, Ideal.mulf_def, Ideal.hostUnary_exp_def, Ideal.subf_def, exp_sub_coe, ← EReal.coe_mul]

/-- The kernel's mixture of the three patterns' results. -/
theorem tMix_val (i : S8192x8x128.Idx) :
    tMix (F := Ideal) (Cert.ReferenceIdeal.Read.val_main_v102 (F := Ideal) C.x0 C.x1) C.x5 C.x7
      (tLse (F := Ideal) (Cert.ReferenceIdeal.Read.val_main_v102 (F := Ideal) C.x0 C.x1) C.x5 C.x7)
      (Cert.ReferenceIdeal.Read.val_main_v101 (F := Ideal) C.x0 C.x1 C.x2) C.x4 C.x6 i
      = ((Real.exp (Spec.l1 scaleR C.Q C.K (i 0).val (i 1).val - Spec.lse scaleR C.Q C.K C.L4 C.L16 (i 0).val (i 1).val)
            * Spec.o1 scaleR C.Q C.K C.V (i 0).val (i 1).val (i 2).val
          + Real.exp (C.L4 (i 0).val (i 1).val - Spec.lse scaleR C.Q C.K C.L4 C.L16 (i 0).val (i 1).val) * C.O4 (i 0).val (i 1).val (i 2).val
          + Real.exp (C.L16 (i 0).val (i 1).val - Spec.lse scaleR C.Q C.K C.L4 C.L16 (i 0).val (i 1).val)
            * C.O16 (i 0).val (i 1).val (i 2).val : ℝ) : EReal) := by
  rw [tMix_apply, tPart_val _ _ _ _ _ _ i (C.a102 _) (tLse_val C _) (C.a101 i), tPart_val _ _ _ _ _ _ i (C.h5 _) (tLse_val C _) (C.h4 i),
    tPart_val _ _ _ _ _ _ i (C.h7 _) (tLse_val C _) (C.h6 i)]
  simp only [Ideal.addf_def, Ideal.ofBits_def]
  rw [w_zero, ← EReal.coe_add, ← EReal.coe_add, ← EReal.coe_add, zero_add]

/-- The kernel's correction. -/
theorem tDelta_val (i : S8192x8.Idx) :
    tDelta (F := Ideal) C.x3 (tMix (F := Ideal) (Cert.ReferenceIdeal.Read.val_main_v102 (F := Ideal) C.x0 C.x1) C.x5 C.x7
      (tLse (F := Ideal) (Cert.ReferenceIdeal.Read.val_main_v102 (F := Ideal) C.x0 C.x1) C.x5 C.x7)
      (Cert.ReferenceIdeal.Read.val_main_v101 (F := Ideal) C.x0 C.x1 C.x2) C.x4 C.x6) i
      = ((Spec.delta scaleR C.Q C.K C.V C.G C.O4 C.O16 C.L4 C.L16 (i 0).val (i 1).val : ℝ) : EReal) := by
  have h1 : (i 1).val < 8 := (i 1).isLt
  unfold tDelta
  rw [headDot]
  refine sum_coe _ _ _ fun k _ => ?_
  have h2 : k.val < 128 := k.isLt
  rw [tMix_val, Cert.ReferenceIdeal.Read.val_main_v148_apply, Cert.ReferenceIdeal.Read.val_main_v147_apply, Ideal.extf_def, C.hg, ← EReal.coe_mul]
  refine congrArg _ (congrArg₂ (· * ·) (congrArg₂ C.G ?_ ?_) rfl)
  · show ((((i 0).val * 8 + (i 1).val) * 128 + k.val) / 1024) = (i 0).val
    omega
  · show ((((i 0).val * 8 + (i 1).val) * 128 + k.val) % 1024) = 128 * (i 1).val + k.val
    omega

end

end Cert.Prefix
-- ==== Proof.Out.lean ====
/- The kernel's three result arrays: each block is what its grid point leaves, so each array is a gradient of the reference. -/
module

public import proofs.«01_k».proof.Proof.HostVal
public import Idealize.ShloMosaic.Lib.Pipeline.ValueKit

@[expose] public section

set_option maxRecDepth 16384

noncomputable section

namespace Cert.Out

open Cert.KernelIdeal Cert.KernelIdeal.Gen Cert.Tools Cert.Prefix Cert.Body Idealize.ShloMosaic Idealize.ShloMosaic.TcCoe Idealize.SL.Sem

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![min (2 * t.val + 2) 63, 0] := (by decide +kernel : ∀ t : Fin grid0.N, win0_1.index t = ![min (2 * t.val + 2) 63, 0])
theorem ix2 : ∀ t : Fin cfg0.N, win0_2.index t = ![t.val, 0] := (by decide +kernel : ∀ t : Fin grid0.N, win0_2.index t = ![t.val, 0])
theorem ix3 : ∀ t : Fin cfg0.N, win0_3.index t = ![min (2 * t.val + 2) 63, 0] := (by decide +kernel : ∀ t : Fin grid0.N, win0_3.index t = ![min (2 * t.val + 2) 63, 0])
theorem ix4 : ∀ t : Fin cfg0.N, win0_4.index t = ![t.val, 0] := (by decide +kernel : ∀ t : Fin grid0.N, win0_4.index t = ![t.val, 0])
theorem ix5 : ∀ t : Fin cfg0.N, win0_5.index t = ![min (2 * t.val + 2) 63, 0] := (by decide +kernel : ∀ t : Fin grid0.N, win0_5.index t = ![min (2 * t.val + 2) 63, 0])
theorem ix6 : ∀ t : Fin cfg0.N, win0_6.index t = ![t.val, 0] := (by decide +kernel : ∀ t : Fin grid0.N, win0_6.index t = ![t.val, 0])
theorem ix7 : ∀ t : Fin cfg0.N, win0_7.index t = ![min (2 * t.val + 2) 63, 0] := (by decide +kernel : ∀ t : Fin grid0.N, win0_7.index t = ![min (2 * t.val + 2) 63, 0])
theorem ix8 : ∀ t : Fin cfg0.N, win0_8.index t = ![t.val, 0] := (by decide +kernel : ∀ t : Fin grid0.N, win0_8.index t = ![t.val, 0])
theorem ix9 : ∀ t : Fin cfg0.N, win0_9.index t = ![t.val, 0] := (by decide +kernel : ∀ t : Fin grid0.N, win0_9.index t = ![t.val, 0])
theorem ix10 : ∀ t : Fin cfg0.N, win0_10.index t = ![t.val, 0] := (by decide +kernel : ∀ t : Fin grid0.N, win0_10.index t = ![t.val, 0])
theorem ix11 : ∀ t : Fin cfg0.N, win0_11.index t = ![t.val, 0] := (by decide +kernel : ∀ t : Fin grid0.N, win0_11.index t = ![t.val, 0])
theorem ix12 : ∀ t : Fin cfg0.N, win0_12.index t = ![t.val, 0] := (by decide +kernel : ∀ t : Fin grid0.N, win0_12.index t = ![t.val, 0])

/-- The arguments in memory are those of the reference's reading. -/
structure Fits (m : (ℓ : Loc nD τ sig) → Buf (Elt Ideal) ℓ) (c : Dev nD) (C : Cert.Ref.Ctx) : Prop where
  e0 : A0 m c = C.x0
  e1 : A1 m c = C.x1
  e2 : A2 m c = C.x2
  e3 : A3 m c = C.x3
  e4 : A4 m c = C.x4
  e5 : A5 m c = C.x5
  e6 : A6 m c = C.x6
  e7 : A7 m c = C.x7

section
variable {m : (ℓ : Loc nD τ sig) → Buf (Elt Ideal) ℓ} {c : Dev nD} {C : Cert.Ref.Ctx} (H : Fits m c C)

include H in
theorem V127_val (i : S8192x128.Idx) (h : (i 1).val < 8) :
    (Gen.V m c main_v127 : (⟨S8192x128, .f32⟩ : BufTy).Contents (Elt Ideal)) i
      = ((Spec.lse scaleR C.Q C.K C.L4 C.L16 (i 0).val (i 1).val : ℝ) : EReal) := by
  rw [V_v127, tPad_val _ _ h]
  unfold kl1
  rw [H.e0, H.e1, H.e5, H.e7, tLse_val]

include H in
theorem V128_val (i : S8192x128.Idx) (h : (i 1).val < 8) :
    (Gen.V m c main_v128 : (⟨S8192x128, .f32⟩ : BufTy).Contents (Elt Ideal)) i
      = ((Spec.delta scaleR C.Q C.K C.V C.G C.O4 C.O16 C.L4 C.L16 (i 0).val (i 1).val : ℝ) : EReal) := by
  rw [V_v128, tPad_val _ _ h]
  unfold kl1 ko1
  rw [H.e0, H.e1, H.e2, H.e3, H.e4, H.e5, H.e6, H.e7, tDelta_val]

include H in
theorem V0_val (i : S8192x1024.Idx) : (Gen.V m c main_arg0 : (⟨S8192x1024, .bf16⟩ : BufTy).Contents (Elt Ideal)) i = ((C.Q (i 0).val (i 1).val : ℝ) : EReal) := by
  rw [V_main_arg0]; exact (congrFun H.e0 i).trans (C.hq i)
include H in
theorem V1_val (i : S8192x1024.Idx) : (Gen.V m c main_arg1 : (⟨S8192x1024, .bf16⟩ : BufTy).Contents (Elt Ideal)) i = ((C.K (i 0).val (i 1).val : ℝ) : EReal) := by
  rw [V_main_arg1]; exact (congrFun H.e1 i).trans (C.hk i)
include H in
theorem V2_val (i : S8192x1024.Idx) : (Gen.V m c main_arg2 : (⟨S8192x1024, .bf16⟩ : BufTy).Contents (Elt Ideal)) i = ((C.V (i 0).val (i 1).val : ℝ) : EReal) := by
  rw [V_main_arg2]; exact (congrFun H.e2 i).trans (C.hv i)
include H in
theorem V3_val (i : S8192x1024.Idx) : (Gen.V m c main_arg3 : (⟨S8192x1024, .bf16⟩ : BufTy).Contents (Elt Ideal)) i = ((C.G (i 0).val (i 1).val : ℝ) : EReal) := by
  rw [V_main_arg3]; exact (congrFun H.e3 i).trans (C.hg i)

include H in
theorem rd0 (t : Fin cfg0.N) (y : S256x1024.Idx) : iblk m c 0 t y = ((C.Q (256 * t.val + (y 0).val) (y 1).val : ℝ) : EReal) := by
  blk_simp [iblk]
  have e0 : (((win0_0.blk t).view.emb y) 0).val = 256 * t.val + (y 0).val := by blk_simp [ix0]; first | omega | (show t.val * 256 + _ = _; omega) | (show min (2 * t.val + 2) 63 * 128 + _ = _; omega)
  have e1 : (((win0_0.blk t).view.emb y) 1).val = (y 1).val := by blk_simp [ix0]; first | done | omega | (show 0 * 1024 + _ = _; omega)
  exact (V0_val H ((win0_0.blk t).view.emb y)).trans (congrArg _ (congrArg₂ C.Q e0 e1))

include H in
theorem rd1 (t : Fin cfg0.N) (y : S128x1024.Idx) : iblk m c 1 t y = ((C.Q (128 * min (2 * t.val + 2) 63 + (y 0).val) (y 1).val : ℝ) : EReal) := by
  blk_simp [iblk]
  have e0 : (((win0_1.blk t).view.emb y) 0).val = 128 * min (2 * t.val + 2) 63 + (y 0).val := by blk_simp [ix1]; first | omega | (show t.val * 256 + _ = _; omega) | (show min (2 * t.val + 2) 63 * 128 + _ = _; omega)
  have e1 : (((win0_1.blk t).view.emb y) 1).val = (y 1).val := by blk_simp [ix1]; first | done | omega | (show 0 * 1024 + _ = _; omega)
  exact (V0_val H ((win0_1.blk t).view.emb y)).trans (congrArg _ (congrArg₂ C.Q e0 e1))

include H in
theorem rd2 (t : Fin cfg0.N) (y : S256x1024.Idx) : iblk m c 2 t y = ((C.G (256 * t.val + (y 0).val) (y 1).val : ℝ) : EReal) := by
  blk_simp [iblk]
  have e0 : (((win0_2.blk t).view.emb y) 0).val = 256 * t.val + (y 0).val := by blk_simp [ix2]; first | omega | (show t.val * 256 + _ = _; omega) | (show min (2 * t.val + 2) 63 * 128 + _ = _; omega)
  have e1 : (((win0_2.blk t).view.emb y) 1).val = (y 1).val := by blk_simp [ix2]; first | done | omega | (show 0 * 1024 + _ = _; omega)
  exact (V3_val H ((win0_2.blk t).view.emb y)).trans (congrArg _ (congrArg₂ C.G e0 e1))

include H in
theorem rd3 (t : Fin cfg0.N) (y : S128x1024.Idx) : iblk m c 3 t y = ((C.G (128 * min (2 * t.val + 2) 63 + (y 0).val) (y 1).val : ℝ) : EReal) := by
  blk_simp [iblk]
  have e0 : (((win0_3.blk t).view.emb y) 0).val = 128 * min (2 * t.val + 2) 63 + (y 0).val := by blk_simp [ix3]; first | omega | (show t.val * 256 + _ = _; omega) | (show min (2 * t.val + 2) 63 * 128 + _ = _; omega)
  have e1 : (((win0_3.blk t).view.emb y) 1).val = (y 1).val := by blk_simp [ix3]; first | done | omega | (show 0 * 1024 + _ = _; omega)
  exact (V3_val H ((win0_3.blk t).view.emb y)).trans (congrArg _ (congrArg₂ C.G e0 e1))

include H in
theorem rd4 (t : Fin cfg0.N) (y : S256x128.Idx) (h : (y 1).val < 8) : iblk m c 4 t y = (((Spec.lse scaleR C.Q C.K C.L4 C.L16) (256 * t.val + (y 0).val) (y 1).val : ℝ) : EReal) := by
  blk_simp [iblk]
  have e0 : (((win0_4.blk t).view.emb y) 0).val = 256 * t.val + (y 0).val := by blk_simp [ix4]; first | omega | (show t.val * 256 + _ = _; omega) | (show min (2 * t.val + 2) 63 * 128 + _ = _; omega)
  have e1 : (((win0_4.blk t).view.emb y) 1).val = (y 1).val := by blk_simp [ix4]; first | done | omega | (show 0 * 128 + _ = _; omega)
  exact (V127_val H ((win0_4.blk t).view.emb y) (e1 ▸ h)).trans (congrArg _ (congrArg₂ (Spec.lse scaleR C.Q C.K C.L4 C.L16) e0 e1))

include H in
theorem rd5 (t : Fin cfg0.N) (y : S128x128.Idx) (h : (y 1).val < 8) : iblk m c 5 t y = (((Spec.lse scaleR C.Q C.K C.L4 C.L16) (128 * min (2 * t.val + 2) 63 + (y 0).val) (y 1).val : ℝ) : EReal) := by
  blk_simp [iblk]
  have e0 : (((win0_5.blk t).view.emb y) 0).val = 128 * min (2 * t.val + 2) 63 + (y 0).val := by blk_simp [ix5]; first | omega | (show t.val * 256 + _ = _; omega) | (show min (2 * t.val + 2) 63 * 128 + _ = _; omega)
  have e1 : (((win0_5.blk t).view.emb y) 1).val = (y 1).val := by blk_simp [ix5]; first | done | omega | (show 0 * 128 + _ = _; omega)
  exact (V127_val H ((win0_5.blk t).view.emb y) (e1 ▸ h)).trans (congrArg _ (congrArg₂ (Spec.lse scaleR C.Q C.K C.L4 C.L16) e0 e1))

include H in
theorem rd6 (t : Fin cfg0.N) (y : S256x128.Idx) (h : (y 1).val < 8) : iblk m c 6 t y = (((Spec.delta scaleR C.Q C.K C.V C.G C.O4 C.O16 C.L4 C.L16) (256 * t.val + (y 0).val) (y 1).val : ℝ) : EReal) := by
  blk_simp [iblk]
  have e0 : (((win0_6.blk t).view.emb y) 0).val = 256 * t.val + (y 0).val := by blk_simp [ix6]; first | omega | (show t.val * 256 + _ = _; omega) | (show min (2 * t.val + 2) 63 * 128 + _ = _; omega)
  have e1 : (((win0_6.blk t).view.emb y) 1).val = (y 1).val := by blk_simp [ix6]; first | done | omega | (show 0 * 128 + _ = _; omega)
  exact (V128_val H ((win0_6.blk t).view.emb y) (e1 ▸ h)).trans (congrArg _ (congrArg₂ (Spec.delta scaleR C.Q C.K C.V C.G C.O4 C.O16 C.L4 C.L16) e0 e1))

include H in
theorem rd7 (t : Fin cfg0.N) (y : S128x128.Idx) (h : (y 1).val < 8) : iblk m c 7 t y = (((Spec.delta scaleR C.Q C.K C.V C.G C.O4 C.O16 C.L4 C.L16) (128 * min (2 * t.val + 2) 63 + (y 0).val) (y 1).val : ℝ) : EReal) := by
  blk_simp [iblk]
  have e0 : (((win0_7.blk t).view.emb y) 0).val = 128 * min (2 * t.val + 2) 63 + (y 0).val := by blk_simp [ix7]; first | omega | (show t.val * 256 + _ = _; omega) | (show min (2 * t.val + 2) 63 * 128 + _ = _; omega)
  have e1 : (((win0_7.blk t).view.emb y) 1).val = (y 1).val := by blk_simp [ix7]; first | done | omega | (show 0 * 128 + _ = _; omega)
  exact (V128_val H ((win0_7.blk t).view.emb y) (e1 ▸ h)).trans (congrArg _ (congrArg₂ (Spec.delta scaleR C.Q C.K C.V C.G C.O4 C.O16 C.L4 C.L16) e0 e1))

include H in
theorem rd8 (t : Fin cfg0.N) (y : S256x1024.Idx) : iblk m c 8 t y = ((C.K (256 * t.val + (y 0).val) (y 1).val : ℝ) : EReal) := by
  blk_simp [iblk]
  have e0 : (((win0_8.blk t).view.emb y) 0).val = 256 * t.val + (y 0).val := by blk_simp [ix8]; first | omega | (show t.val * 256 + _ = _; omega) | (show min (2 * t.val + 2) 63 * 128 + _ = _; omega)
  have e1 : (((win0_8.blk t).view.emb y) 1).val = (y 1).val := by blk_simp [ix8]; first | done | omega | (show 0 * 1024 + _ = _; omega)
  exact (V1_val H ((win0_8.blk t).view.emb y)).trans (congrArg _ (congrArg₂ C.K e0 e1))

include H in
theorem rd9 (t : Fin cfg0.N) (y : S256x1024.Idx) : iblk m c 9 t y = ((C.V (256 * t.val + (y 0).val) (y 1).val : ℝ) : EReal) := by
  blk_simp [iblk]
  have e0 : (((win0_9.blk t).view.emb y) 0).val = 256 * t.val + (y 0).val := by blk_simp [ix9]; first | omega | (show t.val * 256 + _ = _; omega) | (show min (2 * t.val + 2) 63 * 128 + _ = _; omega)
  have e1 : (((win0_9.blk t).view.emb y) 1).val = (y 1).val := by blk_simp [ix9]; first | done | omega | (show 0 * 1024 + _ = _; omega)
  exact (V2_val H ((win0_9.blk t).view.emb y)).trans (congrArg _ (congrArg₂ C.V e0 e1))

include H in
/-- The blocks that a grid point reads. -/
theorem blocks : Blocks m c C.Q C.K C.V C.G (Spec.lse scaleR C.Q C.K C.L4 C.L16) (Spec.delta scaleR C.Q C.K C.V C.G C.O4 C.O16 C.L4 C.L16) :=
  ⟨rd0 H, rd1 H, rd2 H, rd3 H, rd4 H, rd5 H, rd6 H, rd7 H, rd8 H, rd9 H⟩

include H in
theorem dv_out (t : Fin cfg0.N) : Tile (s := S256x1024) rfl (outsAt0 m c t.val t.isLt).2.2.1 fun i j =>
    Spec.dv scaleR C.Q C.K C.G C.L4 C.L16 (2 * t.val + i / 128) (j / 128) (i % 128) (j % 128) := by
  by_cases h : t.val % 32 = 0
  · rw [dv_A m c t h]; exact dvBlk_val (blocks H) t
  · rw [dv_B m c t h]; exact dvBlk_val (blocks H) t

include H in
theorem dk_out (t : Fin cfg0.N) : Tile (s := S256x1024) rfl (outsAt0 m c t.val t.isLt).2.1 fun i j =>
    Spec.dk scaleR C.Q C.K C.V C.G C.O4 C.O16 C.L4 C.L16 (2 * t.val + i / 128) (j / 128) (i % 128) (j % 128) := by
  by_cases h : t.val % 32 = 0
  · rw [dk_A m c t h]; exact dkBlk_val (blocks H) t
  · rw [dk_B m c t h]; exact dkBlk_val (blocks H) t

theorem carry_out (t : Fin cfg0.N) : (outsAt0 m c t.val t.isLt).2.2.2 = carryBlk m c t := by
  by_cases h : t.val % 32 = 0
  · exact carry_A m c t h
  · exact carry_B m c t h

include H in
theorem dq_out (t : Fin cfg0.N) : Tile (s := S256x1024) rfl (outsAt0 m c t.val t.isLt).1 fun i j =>
    Spec.dq scaleR C.Q C.K C.V C.G C.O4 C.O16 C.L4 C.L16 (2 * t.val + i / 128) (j / 128) (i % 128) (j % 128) := by
  have hlt : t.val < 32 := t.isLt
  by_cases h : t.val % 32 = 0
  · have h0 : t.val = 0 := by omega
    rw [dq_A m c t h]
    refine dqBlk_val (blocks H) t fun i => ?_
    dsimp only
    rw [h0]
    rw [spec_dq_first, zero_mul]
    exact w_zero
  · rw [dq_B m c t h]
    have ht : t.val - 1 < cfg0.N := Nat.lt_of_le_of_lt (Nat.sub_le _ _) t.isLt
    refine dqBlk_val (blocks H) t ?_
    rw [carry_out (m := m) (c := c) ⟨t.val - 1, ht⟩]
    have e : 2 * t.val = 2 * (⟨t.val - 1, ht⟩ : Fin cfg0.N).val + 2 := by show _ = 2 * (t.val - 1) + 2; omega
    rw [e]
    exact carryBlk_val (blocks H) ⟨t.val - 1, ht⟩ (by show t.val - 1 < 31; omega)

end

section
variable {m : (ℓ : Loc nD τ sig) → Buf (Elt Ideal) ℓ} {c : Dev nD} {C : Cert.Ref.Ctx2} (H : Fits m c C.toCtx)

include H in
/-- The queries' gradient. -/
theorem out_dq : (dats m 0 c).arrAt 10 cfg0.N = Cert.ReferenceIdeal.Read.val_main_v241 (F := Ideal) C.x0 C.x1 C.x2 C.x3 C.x4 C.x5 C.x6 C.x7 := by
  refine (dats m 0 c).arrAt_eq_of_covers 10 _ (by decide +kernel) fun t hf y => ?_
  have hlt : t.val < 32 := t.isLt
  have hy : (y 0).val < 256 := (y 0).isLt
  blk_simp
  rw [after0_10]
  refine (dq_out H t y).trans ?_
  have e0 : (((win0_10.blk t).view.emb y) 0).val = 256 * t.val + (y 0).val := by blk_simp [ix10]; first | omega | (show t.val * 256 + _ = _; omega)
  have e1 : (((win0_10.blk t).view.emb y) 1).val = (y 1).val := by blk_simp [ix10]; first | done | omega | (show 0 * 1024 + _ = _; omega)
  refine Eq.trans (congrArg _ ?_) (C.res_dq ((win0_10.blk t).view.emb y)).symm
  rw [e0, e1, show (256 * t.val + (y 0).val) / 128 = 2 * t.val + (y 0).val / 128 by omega,
    show (256 * t.val + (y 0).val) % 128 = (y 0).val % 128 by omega]
  rfl

include H in
/-- The keys' gradient. -/
theorem out_dk : (dats m 0 c).arrAt 11 cfg0.N = Cert.ReferenceIdeal.Read.val_main_v239 (F := Ideal) C.x0 C.x1 C.x2 C.x3 C.x4 C.x5 C.x6 C.x7 := by
  refine (dats m 0 c).arrAt_eq_of_covers 11 _ (by decide +kernel) fun t hf y => ?_
  have hlt : t.val < 32 := t.isLt
  have hy : (y 0).val < 256 := (y 0).isLt
  blk_simp
  rw [after0_11]
  refine (dk_out H t y).trans ?_
  have e0 : (((win0_11.blk t).view.emb y) 0).val = 256 * t.val + (y 0).val := by blk_simp [ix11]; first | omega | (show t.val * 256 + _ = _; omega)
  have e1 : (((win0_11.blk t).view.emb y) 1).val = (y 1).val := by blk_simp [ix11]; first | done | omega | (show 0 * 1024 + _ = _; omega)
  refine Eq.trans (congrArg _ ?_) (C.res_dk ((win0_11.blk t).view.emb y)).symm
  rw [e0, e1, show (256 * t.val + (y 0).val) / 128 = 2 * t.val + (y 0).val / 128 by omega,
    show (256 * t.val + (y 0).val) % 128 = (y 0).val % 128 by omega]
  rfl

include H in
/-- The values' gradient. -/
theorem out_dv : (dats m 0 c).arrAt 12 cfg0.N = Cert.ReferenceIdeal.Read.val_main_v237 (F := Ideal) C.x0 C.x1 C.x3 C.x5 C.x7 := by
  refine (dats m 0 c).arrAt_eq_of_covers 12 _ (by decide +kernel) fun t hf y => ?_
  have hlt : t.val < 32 := t.isLt
  have hy : (y 0).val < 256 := (y 0).isLt
  blk_simp
  rw [after0_12]
  refine (dv_out H t y).trans ?_
  have e0 : (((win0_12.blk t).view.emb y) 0).val = 256 * t.val + (y 0).val := by blk_simp [ix12]; first | omega | (show t.val * 256 + _ = _; omega)
  have e1 : (((win0_12.blk t).view.emb y) 1).val = (y 1).val := by blk_simp [ix12]; first | done | omega | (show 0 * 1024 + _ = _; omega)
  refine Eq.trans (congrArg _ ?_) (C.res_dv ((win0_12.blk t).view.emb y)).symm
  rw [e0, e1, show (256 * t.val + (y 0).val) / 128 = 2 * t.val + (y 0).val / 128 by omega,
    show (256 * t.val + (y 0).val) % 128 = (y 0).val % 128 by omega]
  rfl

end

end Cert.Out
-- ==== Proof.Final.lean ====
/- From finite arguments to the equality of the two programs' results: the arguments' real values, and both runs read at the results. -/
module

public import proofs.«01_k».proof.Defs
public import proofs.«01_k».proof.Proof.Out
public import proofs.«01_k».proof.Proof.Gen.ReferenceIdeal.Run
public import Idealize.ShloMosaic.Lib.Quiescent

@[expose] public section

set_option maxRecDepth 16384

noncomputable section

namespace Cert.Final

open Idealize.ShloMosaic Idealize.SL.Sem Cert.Ref

/-- The side conditions of the precondition. -/
theorem preFacts : Cert.Pre_finite.Facts where
  bitsLt_bf16_f32 := by decide
  bcast_S_S8192x1024 := by decide
  bcast_S_S8192x8x128 := by decide
  bcast_S_S8192x8 := by decide

/-- An extended real whose absolute value lies below infinity is a real number. -/
theorem real_of_lt (x : Ideal .f32)
    (h : FloatOps.cmpf (F := Ideal) .olt (FloatOps.hostAbsf x) (FloatOps.ofBits .f32 0x7F800000#32) = 1#1) : ∃ r : ℝ, x = ((r : ℝ) : EReal) := by
  rw [Ideal.cmpf_def, Ideal.hostAbsf_def, Ideal.absf_def, Ideal.ofBits_def, Cert.Tools.w_top] at h
  have hlt : max x (-x) < (⊤ : EReal) := by
    by_contra hn
    have h0 : Ideal.cmp .olt (max x (-x)) (⊤ : EReal) = 0#1 := by simp [Ideal.cmp, hn]
    rw [h0] at h
    exact absurd h (by decide)
  obtain ⟨h1, h2⟩ := max_lt_iff.1 hlt
  refine ⟨EReal.toReal x, (EReal.coe_toReal h1.ne ?_).symm⟩
  rintro rfl
  exact absurd h2 (by simp)

/-- Real entries of an 8192 by 1024 array, as a function of two numbers. -/
theorem reals_a (x : In) (h : ∀ i, ∃ r : ℝ, x i = ((r : ℝ) : EReal)) : ∃ A : ℕ → ℕ → ℝ, Holds x A := by
  choose f hf using h
  refine ⟨fun a b => if h : a < 8192 ∧ b < 1024 then f (ValueIdx.ix2 ⟨a, h.1⟩ ⟨b, h.2⟩) else 0, fun i => ?_⟩
  have h : (i 0).val < 8192 ∧ (i 1).val < 1024 := ⟨(i 0).isLt, (i 1).isLt⟩
  beta_reduce
  rw [hf, dif_pos h]
  refine congrArg _ (congrArg f ?_)
  funext a
  match a with
  | ⟨0, _⟩ => rfl
  | ⟨1, _⟩ => rfl

/-- Real entries of an 8192 by 8 array, as a function of two numbers. -/
theorem reals_b (x : In2) (h : ∀ i, ∃ r : ℝ, x i = ((r : ℝ) : EReal)) :
    ∃ A : ℕ → ℕ → ℝ, ∀ i, x i = ((A (i 0).val (i 1).val : ℝ) : EReal) := by
  choose f hf using h
  refine ⟨fun a b => if h : a < 8192 ∧ b < 8 then f (ValueIdx.ix2 ⟨a, h.1⟩ ⟨b, h.2⟩) else 0, fun i => ?_⟩
  have h : (i 0).val < 8192 ∧ (i 1).val < 8 := ⟨(i 0).isLt, (i 1).isLt⟩
  beta_reduce
  rw [hf, dif_pos h]
  refine congrArg _ (congrArg f ?_)
  funext a
  match a with
  | ⟨0, _⟩ => rfl
  | ⟨1, _⟩ => rfl

/-- Real entries of an 8192 by 8 by 128 array, as a function of three numbers. -/
theorem reals_c (x : In3) (h : ∀ i, ∃ r : ℝ, x i = ((r : ℝ) : EReal)) :
    ∃ A : ℕ → ℕ → ℕ → ℝ, ∀ i, x i = ((A (i 0).val (i 1).val (i 2).val : ℝ) : EReal) := by
  choose f hf using h
  refine ⟨fun a b c => if h : a < 8192 ∧ b < 8 ∧ c < 128 then f (ValueIdx.ix3 ⟨a, h.1⟩ ⟨b, h.2.1⟩ ⟨c, h.2.2⟩) else 0, fun i => ?_⟩
  have h : (i 0).val < 8192 ∧ (i 1).val < 8 ∧ (i 2).val < 128 := ⟨(i 0).isLt, (i 1).isLt, (i 2).isLt⟩
  beta_reduce
  rw [hf, dif_pos h]
  refine congrArg _ (congrArg f ?_)
  funext a
  match a with
  | ⟨0, _⟩ => rfl
  | ⟨1, _⟩ => rfl
  | ⟨2, _⟩ => rfl

/-- Equal arguments, equal values. -/
theorem ref_congr8 {α β γ δ : Type} (f : α → α → α → α → β → γ → β → γ → δ) {a b c d a' b' c' d' : α} {p r p' r' : β} {q s q' s' : γ}
    (h0 : a = a') (h1 : b = b') (h2 : c = c') (h3 : d = d') (h4 : p = p') (h5 : q = q') (h6 : r = r') (h7 : s = s') :
    f a b c d p q r s = f a' b' c' d' p' q' r' s' := by
  subst h0 h1 h2 h3 h4 h5 h6 h7; rfl
theorem ref_congr5 {α γ δ : Type} (f : α → α → α → γ → γ → δ) {a b c a' b' c' : α} {q s q' s' : γ}
    (h0 : a = a') (h1 : b = b') (h2 : c = c') (h5 : q = q') (h7 : s = s') :
    f a b c q s = f a' b' c' q' s' := by
  subst h0 h1 h2 h5 h7; rfl

variable (m : (ℓ : Loc Cert.KernelIdeal.nD Cert.KernelIdeal.τ Cert.KernelIdeal.sig) → Buf (Elt Ideal) ℓ)

/-- Finite arguments have real values, and with them the maxima the reference takes are real. -/
theorem exists_ctx (hm : Cert.Pre_KernelIdeal_finite (hPre_finite := preFacts) m) (c : Dev Cert.KernelIdeal.nD) :
    ∃ C : Ctx2, Cert.Out.Fits m c C.toCtx := by
  obtain ⟨h0, h1, h2, h3, h4, h5, h6, h7⟩ := hm c
  obtain ⟨Q, hq⟩ := reals_a (Cert.Prefix.A0 m c) fun i => real_of_lt _ (congrFun h0 i)
  obtain ⟨K, hk⟩ := reals_a (Cert.Prefix.A1 m c) fun i => real_of_lt _ (congrFun h1 i)
  obtain ⟨V, hv⟩ := reals_a (Cert.Prefix.A2 m c) fun i => real_of_lt _ (congrFun h2 i)
  obtain ⟨G, hg⟩ := reals_a (Cert.Prefix.A3 m c) fun i => real_of_lt _ (congrFun h3 i)
  obtain ⟨O4, h4⟩ := reals_c (Cert.Prefix.A4 m c) fun i => real_of_lt _ (congrFun h4 i)
  obtain ⟨L4, h5⟩ := reals_b (Cert.Prefix.A5 m c) fun i => real_of_lt _ (congrFun h5 i)
  obtain ⟨O16, h6⟩ := reals_c (Cert.Prefix.A6 m c) fun i => real_of_lt _ (congrFun h6 i)
  obtain ⟨L16, h7⟩ := reals_b (Cert.Prefix.A7 m c) fun i => real_of_lt _ (congrFun h7 i)
  obtain ⟨M, hM⟩ := a75 hq hk
  let C : Ctx := ⟨Cert.Prefix.A0 m c, Cert.Prefix.A1 m c, Cert.Prefix.A2 m c, Cert.Prefix.A3 m c, Cert.Prefix.A4 m c,
    Cert.Prefix.A5 m c, Cert.Prefix.A6 m c, Cert.Prefix.A7 m c, Q, K, V, G, O4, O16, L4, L16, M, hq, hk, hv, hg, h4, h5, h6, h7, hM⟩
  obtain ⟨M2, hM2⟩ := C.a109
  exact ⟨⟨C, M2, hM2⟩, ⟨rfl, rfl, rfl, rfl, rfl, rfl, rfl, rfl⟩⟩

section
open Cert.KernelIdeal Cert.KernelIdeal.Gen

/-- The gradients, as the reference's terms of the kernel's arguments. -/
def gq (c : Dev nD) : (⟨Cert.ReferenceIdeal.S8192x1024, .bf16⟩ : BufTy).Contents (Elt Ideal) :=
  Cert.ReferenceIdeal.Read.val_main_v241 (F := Ideal) (Cert.Prefix.A0 m c) (Cert.Prefix.A1 m c) (Cert.Prefix.A2 m c) (Cert.Prefix.A3 m c) (Cert.Prefix.A4 m c) (Cert.Prefix.A5 m c) (Cert.Prefix.A6 m c) (Cert.Prefix.A7 m c)
def gk (c : Dev nD) : (⟨Cert.ReferenceIdeal.S8192x1024, .bf16⟩ : BufTy).Contents (Elt Ideal) :=
  Cert.ReferenceIdeal.Read.val_main_v239 (F := Ideal) (Cert.Prefix.A0 m c) (Cert.Prefix.A1 m c) (Cert.Prefix.A2 m c) (Cert.Prefix.A3 m c) (Cert.Prefix.A4 m c) (Cert.Prefix.A5 m c) (Cert.Prefix.A6 m c) (Cert.Prefix.A7 m c)
def gv (c : Dev nD) : (⟨Cert.ReferenceIdeal.S8192x1024, .bf16⟩ : BufTy).Contents (Elt Ideal) :=
  Cert.ReferenceIdeal.Read.val_main_v237 (F := Ideal) (Cert.Prefix.A0 m c) (Cert.Prefix.A1 m c) (Cert.Prefix.A3 m c) (Cert.Prefix.A5 m c) (Cert.Prefix.A7 m c)

theorem arr_q {c : Dev nD} {C : Ctx2} (H : Cert.Out.Fits m c C.toCtx) : (dats m 0 c).arrAt 10 cfg0.N = gq m c :=
  (Cert.Out.out_dq H).trans (by unfold gq; rw [H.e0, H.e1, H.e2, H.e3, H.e4, H.e5, H.e6, H.e7])
theorem arr_k {c : Dev nD} {C : Ctx2} (H : Cert.Out.Fits m c C.toCtx) : (dats m 0 c).arrAt 11 cfg0.N = gk m c :=
  (Cert.Out.out_dk H).trans (by unfold gk; rw [H.e0, H.e1, H.e2, H.e3, H.e4, H.e5, H.e6, H.e7])
theorem arr_v {c : Dev nD} {C : Ctx2} (H : Cert.Out.Fits m c C.toCtx) : (dats m 0 c).arrAt 12 cfg0.N = gv m c :=
  (Cert.Out.out_dv H).trans (by unfold gv; rw [H.e0, H.e1, H.e3, H.e5, H.e7])

/-- The kernel's run, read at its results and its arguments. -/
theorem run_kernel (hm : Cert.Pre_KernelIdeal_finite (hPre_finite := preFacts) m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v129_0) = gq m c
      ∧ r.2.mem ((c.tc : Thread nD τ).loc main_v129_1) = gk m c
      ∧ r.2.mem ((c.tc : Thread nD τ).loc main_v129_2) = gv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ?_) (θ_run_and (run_main m ρ) (unchanged m ρ))
  obtain ⟨C, H⟩ := exists_ctx m hm c
  exact ⟨((h.1 c).1 10).trans (arr_q m H), ((h.1 c).1 11).trans (arr_k m H), ((h.1 c).1 12).trans (arr_v m H), h.2 c⟩

end

section
open Cert.ReferenceIdeal

variable (m' : (ℓ : Loc nD τ sig) → Buf (Elt Ideal) ℓ)

/-- The reference leaves its arguments, and has no semaphore. -/
theorem frame_ref (ρ : Dev nD → PrngReg) :
    θ_run (defs (F := Ideal)) (onTc (τ := τ) (main (F := Ideal))) ⟨m', fun _ => 0, ρ⟩ (fun r => (∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7))
      ∧ r.2.sem = fun _ => 0) :=
  (θ_run defs _ _).mono (fun r h => ⟨fun c => (h c).2.2.2, sem_eq_zero_of_no_sems (by decide) r.2⟩) (Cert.ReferenceIdeal.Value.run m' ρ)

/-- The reference's run, read at its results and its arguments, from a memory that agrees on the arguments. -/
theorem run_ref (ρ : Dev nD → PrngReg) (hA : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    θ_run (defs (F := Ideal)) (onTc (τ := τ) (main (F := Ideal))) ⟨m', fun _ => 0, ρ⟩ (fun r => ∀ c : Dev nD,
      r.2.mem ((c.tc : Thread nD τ).loc main_v241) = gq m c
      ∧ r.2.mem ((c.tc : Thread nD τ).loc main_v239) = gk m c
      ∧ r.2.mem ((c.tc : Thread nD τ).loc main_v237) = gv m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) := by
  refine (θ_run defs _ _).mono (fun r h c => ?_) (Cert.ReferenceIdeal.Value.run m' ρ)
  obtain ⟨e0, e1, e2, e3, e4, e5, e6, e7⟩ := hA c
  refine ⟨(h c).1.trans ((Read.val_main_v241_eq (StableHlo.launchContents m' c)).trans ?_),
    (h c).2.1.trans ((Read.val_main_v239_eq (StableHlo.launchContents m' c)).trans ?_),
    (h c).2.2.1.trans ((Read.val_main_v237_eq (StableHlo.launchContents m' c)).trans ?_), (h c).2.2.2⟩
  · unfold gq
    exact ref_congr8 _ e0 e1 e2 e3 e4 e5 e6 e7
  · unfold gk
    exact ref_congr8 _ e0 e1 e2 e3 e4 e5 e6 e7
  · unfold gv
    exact ref_congr5 _ e0 e1 e3 e5 e7

end

end Cert.Final

end
-- ==== Proof.MmTools.lean ====
/- Sums of products by blocks, and arrays of extended reals as functions of natural numbers. -/
module

public import Idealize.ShloMosaic.Lib.Pipeline.Value
public import Idealize.ShloMosaic.Lib.ValueIdx
public import Idealize.ShloMosaic.PureOps.Ideal.Laws
public import Idealize.ShloMosaic.Lib.IdealHost
public import proofs.«01_k».proof.Proof.Tools

@[expose] public section

noncomputable section

namespace Cert.MmTools

open Idealize.ShloMosaic

/-- The entries of an array of two axes, as a function of two numbers. -/
theorem exists_nat {a b : ℕ} (x : (⟨2, ![a, b]⟩ : Shape).Idx → EReal) : ∃ A : ℕ → ℕ → EReal, ∀ i, x i = A (i 0).val (i 1).val := by
  refine ⟨fun p q => if h : p < a ∧ q < b then x (ValueIdx.ix2 ⟨p, h.1⟩ ⟨q, h.2⟩) else 0, fun i => ?_⟩
  have h : (i 0).val < a ∧ (i 1).val < b := ⟨(i 0).isLt, (i 1).isLt⟩
  beta_reduce
  rw [dif_pos h]
  refine congrArg x ?_
  funext d
  match d with
  | ⟨0, _⟩ => rfl
  | ⟨1, _⟩ => rfl

/-- The square of the positive part. -/
def sqr (x : EReal) : EReal := max x 0 * max x 0

/-- Four consecutive sums of 2048 terms are one sum of 8192. -/
theorem four_blocks (f : ℕ → EReal) :
    (((∑ k : Fin 2048, f (2048 * 0 + k.val)) + ∑ k : Fin 2048, f (2048 * 1 + k.val)) + ∑ k : Fin 2048, f (2048 * 2 + k.val))
      + ∑ k : Fin 2048, f (2048 * 3 + k.val) = ∑ k : Fin 8192, f k.val := by
  have h (g : ℕ → EReal) (n : ℕ) : ∑ k : Fin n, g k.val = ∑ k ∈ Finset.range n, g k := (Finset.sum_range g).symm
  rw [h f, h (fun k => f (2048 * 0 + k)), h (fun k => f (2048 * 1 + k)), h (fun k => f (2048 * 2 + k)), h (fun k => f (2048 * 3 + k)),
    show (8192 : ℕ) = 2048 + 2048 + 2048 + 2048 from rfl, Finset.sum_range_add, Finset.sum_range_add, Finset.sum_range_add]
  simp only [Nat.mul_zero, Nat.zero_add, Nat.mul_one]

/-- Four consecutive sums of 1024 terms are one sum of 4096. -/
theorem four_blocks_1024 (f : ℕ → EReal) :
    (((∑ k : Fin 1024, f (1024 * 0 + k.val)) + ∑ k : Fin 1024, f (1024 * 1 + k.val)) + ∑ k : Fin 1024, f (1024 * 2 + k.val))
      + ∑ k : Fin 1024, f (1024 * 3 + k.val) = ∑ k : Fin 4096, f k.val := by
  have h (g : ℕ → EReal) (n : ℕ) : ∑ k : Fin n, g k.val = ∑ k ∈ Finset.range n, g k := (Finset.sum_range g).symm
  rw [h f, h (fun k => f (1024 * 0 + k)), h (fun k => f (1024 * 1 + k)), h (fun k => f (1024 * 2 + k)), h (fun k => f (1024 * 3 + k)),
    show (4096 : ℕ) = 1024 + 1024 + 1024 + 1024 from rfl, Finset.sum_range_add, Finset.sum_range_add, Finset.sum_range_add]
  simp only [Nat.mul_zero, Nat.zero_add, Nat.mul_one]

/-- A leading axis of extent one dropped. -/
theorem drop_axis {a b : ℕ} {x : (⟨3, ![1, a, b]⟩ : Shape).Idx → EReal} (h : (⟨3, ![1, a, b]⟩ : Shape).ShapeCasts ⟨2, ![a, b]⟩) {B : ℕ → ℕ → EReal}
    (hx : ∀ i, x i = B (i 1).val (i 2).val) (j : (⟨2, ![a, b]⟩ : Shape).Idx) : shapeCast (⟨2, ![a, b]⟩ : Shape) x h j = B (j 0).val (j 1).val := by
  refine (shapeCast_apply x h j (fun d => match d with | ⟨0, _⟩ => ⟨0, Nat.one_pos⟩ | ⟨1, _⟩ => ⟨(j 0).val, (j 0).isLt⟩ | ⟨2, _⟩ => ⟨(j 1).val, (j 1).isLt⟩) ?_).trans (hx _)
  rw [Shape.rowMajor_val_two, Shape.rowMajor_val_three]
  show ((0 * a + (j 0).val) * b + (j 1).val) = (j 0).val * b + (j 1).val
  rw [Nat.zero_mul, Nat.zero_add]

/-- A leading axis of extent one added. -/
theorem add_axis {a b : ℕ} {x : (⟨2, ![a, b]⟩ : Shape).Idx → EReal} (h : (⟨2, ![a, b]⟩ : Shape).ShapeCasts ⟨3, ![1, a, b]⟩) (j : (⟨3, ![1, a, b]⟩ : Shape).Idx) :
    shapeCast (⟨3, ![1, a, b]⟩ : Shape) x h j = x (ValueIdx.ix2 (j 1) (j 2)) := by
  have h0 : (j 0).val = 0 := by have h : (j 0).val < 1 := (j 0).isLt; omega
  refine shapeCast_apply x h j (ValueIdx.ix2 (j 1) (j 2)) ?_
  rw [Shape.rowMajor_val_two, Shape.rowMajor_val_three, h0]
  show (j 1).val * b + (j 2).val = (0 * a + (j 1).val) * b + (j 2).val
  rw [Nat.zero_mul, Nat.zero_add]

/-- A matrix of 8192 columns cut into four blocks of 2048 columns. -/
theorem column_blocks {x : (⟨2, ![2048, 8192]⟩ : Shape).Idx → EReal} (h : (⟨2, ![2048, 8192]⟩ : Shape).ShapeCasts ⟨3, ![2048, 4, 2048]⟩)
    (h' : (⟨3, ![2048, 4, 2048]⟩ : Shape).Transposes [1, 0, 2] ⟨3, ![4, 2048, 2048]⟩) {B : ℕ → ℕ → EReal} (hx : ∀ i, x i = B (i 0).val (i 1).val)
    (j : (⟨3, ![4, 2048, 2048]⟩ : Shape).Idx) :
    transpose (⟨3, ![4, 2048, 2048]⟩ : Shape) [1, 0, 2] (shapeCast (⟨3, ![2048, 4, 2048]⟩ : Shape) x h) h' j = B (j 1).val (2048 * (j 0).val + (j 2).val) := by
  have b0 : (j 0).val < 4 := (j 0).isLt
  have b2 : (j 2).val < 2048 := (j 2).isLt
  refine (transpose_apply [1, 0, 2] _ h' j (fun d => match d with | ⟨0, _⟩ => ⟨(j 1).val, (j 1).isLt⟩ | ⟨1, _⟩ => ⟨(j 0).val, (j 0).isLt⟩ | ⟨2, _⟩ => ⟨(j 2).val, (j 2).isLt⟩)
    (fun b => match b with | ⟨0, _⟩ => rfl | ⟨1, _⟩ => rfl | ⟨2, _⟩ => rfl)).trans ?_
  refine (shapeCast_apply x h _ (fun d => match d with | ⟨0, _⟩ => ⟨(j 1).val, (j 1).isLt⟩ | ⟨1, _⟩ => ⟨2048 * (j 0).val + (j 2).val, by show _ < 8192; omega⟩) ?_).trans (hx _)
  rw [Shape.rowMajor_val_two, Shape.rowMajor_val_three]
  show (j 1).val * 8192 + (2048 * (j 0).val + (j 2).val) = ((j 1).val * 4 + (j 0).val) * 2048 + (j 2).val
  omega

/-- A matrix of 4096 columns cut into four blocks of 1024 columns. -/
theorem column_blocks_1024 {x : (⟨2, ![2048, 4096]⟩ : Shape).Idx → EReal} (h : (⟨2, ![2048, 4096]⟩ : Shape).ShapeCasts ⟨3, ![2048, 4, 1024]⟩)
    (h' : (⟨3, ![2048, 4, 1024]⟩ : Shape).Transposes [1, 0, 2] ⟨3, ![4, 2048, 1024]⟩) {B : ℕ → ℕ → EReal} (hx : ∀ i, x i = B (i 0).val (i 1).val)
    (j : (⟨3, ![4, 2048, 1024]⟩ : Shape).Idx) :
    transpose (⟨3, ![4, 2048, 1024]⟩ : Shape) [1, 0, 2] (shapeCast (⟨3, ![2048, 4, 1024]⟩ : Shape) x h) h' j = B (j 1).val (1024 * (j 0).val + (j 2).val) := by
  have b0 : (j 0).val < 4 := (j 0).isLt
  have b2 : (j 2).val < 1024 := (j 2).isLt
  refine (transpose_apply [1, 0, 2] _ h' j (fun d => match d with | ⟨0, _⟩ => ⟨(j 1).val, (j 1).isLt⟩ | ⟨1, _⟩ => ⟨(j 0).val, (j 0).isLt⟩ | ⟨2, _⟩ => ⟨(j 2).val, (j 2).isLt⟩)
    (fun b => match b with | ⟨0, _⟩ => rfl | ⟨1, _⟩ => rfl | ⟨2, _⟩ => rfl)).trans ?_
  refine (shapeCast_apply x h _ (fun d => match d with | ⟨0, _⟩ => ⟨(j 1).val, (j 1).isLt⟩ | ⟨1, _⟩ => ⟨1024 * (j 0).val + (j 2).val, by show _ < 4096; omega⟩) ?_).trans (hx _)
  rw [Shape.rowMajor_val_two, Shape.rowMajor_val_three]
  show (j 1).val * 4096 + (1024 * (j 0).val + (j 2).val) = ((j 1).val * 4 + (j 0).val) * 1024 + (j 2).val
  omega

/-- The rectifier's branch is idle in the gradient of its square: where it would give zero, the factor is zero. -/
theorem relu_branch (a s : EReal) :
    Scalar.select (Ideal.cmp .ogt a (Ideal.ofBits .f32 0x00000000#32)) (s * (((2 : ℝ) : EReal) * max a 0)) (Ideal.ofBits .f32 0x00000000#32) = s * (((2 : ℝ) : EReal) * max a 0) := by
  rw [Ideal.ofBits_zero_f32]
  by_cases h : 0 < a
  · simp [Scalar.select, Ideal.cmp, h]
  · rw [max_eq_right (not_lt.mp h), mul_zero, mul_zero]
    simp [Scalar.select]

end Cert.MmTools

end
-- ==== Proof.MmFf2Bwd.lean ====
/- The gradient of the feed-forward layer's hidden array. -/
module

public import proofs.«01_k».proof.Proof.MmTools
public import proofs.«01_k».proof.Proof.Gen.Ff2Bwd.Frame
public import proofs.«01_k».proof.Proof.Gen.Ff2BwdIdeal.Frame
public import proofs.«01_k».proof.Proof.Gen.Ff2BwdRefIdeal.Run
public import proofs.«01_k».proof.Proof.Gen.Ff2BwdRefIdeal.Read
public import Idealize.ShloMosaic.Lib.Pipeline.ValueKit
public import Idealize.ShloMosaic.Lib.Quiescent

@[expose] public section

set_option maxRecDepth 16384

noncomputable section

namespace Cert.MmFf2Bwd

open Cert.Ff2BwdIdeal Cert.Ff2BwdIdeal.Gen Cert.MmTools Idealize.ShloMosaic Idealize.ShloMosaic.TcCoe Idealize.SL.Sem

/-- One term of the sum of products. -/
def term (A B : ℕ → ℕ → EReal) (i j k : ℕ) : EReal := A i k * B j k

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x2048 .bf16} {x1 : Vec Ideal S2048x2048 .bf16} {x2 : Vec Ideal S1024x2048 .bf16} {A B C : ℕ → ℕ → EReal} (h0 : ∀ i : S1024x2048.Idx, x0 i = A (i 0).val (i 1).val) (h1 : ∀ i : S2048x2048.Idx, x1 i = B (i 0).val (i 1).val) (h2 : ∀ i : S1024x2048.Idx, x2 i = C (i 0).val (i 1).val) (i : S1024x2048.Idx) : k0_pay1 (F := Ideal) x0 x1 x2 i = (∑ k : Fin 2048, term A B (i 0).val (i 1).val k.val) * (((2 : ℝ) : EReal) * max (C (i 0).val (i 1).val) 0) := by
  unfold k0_pay1
  simp only [matmul, Ideal.matmul_def, truncf, Ideal.truncf_def]
  refine congrArg₂ (· * ·) ?_ ?_
  · rw [Ideal.matmul_apply₁ _ rfl rfl]
    refine (congrArg (· + _) Ideal.ofBits_zero_f32).trans ((zero_add _).trans (Finset.sum_congr rfl fun k _ => ?_))
    rw [h0, h1]
    rfl
  · show Ideal.ofBits .f32 0x40000000#32 * max (x2 i) (Ideal.ofBits .f32 0x00000000#32) = _
    rw [Cert.Tools.w_two, Ideal.ofBits_zero_f32, h2]

/-- What a grid point leaves in the result's block. -/
theorem out_val (x0 : Vec Ideal S1024x2048 .bf16) (x1 : Vec Ideal S2048x2048 .bf16) (x2 : Vec Ideal S1024x2048 .bf16) : out0_3 (F := Ideal) x0 x1 x2 = k0_pay1 x0 x1 x2 := by
  unfold out0_3
  rw [View.canon_unit_zero hz]
  simp only [View.ld_unit_zero (S := S1024x2048) hz, View.ld_unit_zero (S := S2048x2048) hz]

/-! Where each window's block lies. -/

theorem ix0 : ∀ t : Fin cfg0.N, win0_0.index t = ![t.val / 4, 0] := (by decide +kernel : ∀ t : Fin grid0.N, win0_0.index t = ![t.val / 4, 0])
theorem ix1 : ∀ t : Fin cfg0.N, win0_1.index t = ![t.val % 4, 0] := (by decide +kernel : ∀ t : Fin grid0.N, win0_1.index t = ![t.val % 4, 0])
theorem ix2 : ∀ t : Fin cfg0.N, win0_2.index t = ![t.val / 4, t.val % 4] := (by decide +kernel : ∀ t : Fin grid0.N, win0_2.index t = ![t.val / 4, t.val % 4])
theorem ix3 : ∀ t : Fin cfg0.N, win0_3.index t = ![t.val / 4, t.val % 4] := (by decide +kernel : ∀ t : Fin grid0.N, win0_3.index t = ![t.val / 4, t.val % 4])

variable (m : (ℓ : Loc nD τ sig) → Buf (Elt Ideal) ℓ)

abbrev X0 (c : Dev nD) : (⟨S8192x8192, .bf16⟩ : BufTy).Contents (Elt Ideal) := m ((c : Thread nD τ).loc main_arg0)
abbrev X1 (c : Dev nD) : (⟨S8192x2048, .bf16⟩ : BufTy).Contents (Elt Ideal) := m ((c : Thread nD τ).loc main_arg1)
abbrev X2 (c : Dev nD) : (⟨S8192x2048, .bf16⟩ : BufTy).Contents (Elt Ideal) := m ((c : Thread nD τ).loc main_arg2)

section
variable {m : (ℓ : Loc nD τ sig) → Buf (Elt Ideal) ℓ} {c : Dev nD} {A B C : ℕ → ℕ → EReal}

theorem rd0 (h0 : ∀ i : S8192x2048.Idx, X2 m c i = A (i 0).val (i 1).val) (t : Fin cfg0.N) (y : S1024x2048.Idx) : iblk m c 0 t y = A (1024 * (t.val / 4) + (y 0).val) ((y 1).val) := by
  blk_simp [iblk]
  have e0 : (((win0_0.blk t).view.emb y) 0).val = 1024 * (t.val / 4) + (y 0).val := by blk_simp [ix0]; first | done | omega | (show (t.val / 4) * 1024 + _ = _; omega)
  have e1 : (((win0_0.blk t).view.emb y) 1).val = (y 1).val := by blk_simp [ix0]; first | done | omega | (show (0) * 2048 + _ = _; omega)
  refine (congrFun (V_main_arg2 m c) ((win0_0.blk t).view.emb y)).trans ((h0 _).trans ?_)
  rw [e0, e1]

theorem rd1 (h1 : ∀ i : S8192x2048.Idx, X1 m c i = B (i 0).val (i 1).val) (t : Fin cfg0.N) (y : S2048x2048.Idx) : iblk m c 1 t y = B (2048 * (t.val % 4) + (y 0).val) ((y 1).val) := by
  blk_simp [iblk]
  have e0 : (((win0_1.blk t).view.emb y) 0).val = 2048 * (t.val % 4) + (y 0).val := by blk_simp [ix1]; first | done | omega | (show (t.val % 4) * 2048 + _ = _; omega)
  have e1 : (((win0_1.blk t).view.emb y) 1).val = (y 1).val := by blk_simp [ix1]; first | done | omega | (show (0) * 2048 + _ = _; omega)
  refine (congrFun (V_main_arg1 m c) ((win0_1.blk t).view.emb y)).trans ((h1 _).trans ?_)
  rw [e0, e1]

theorem rd2 (h2 : ∀ i : S8192x8192.Idx, X0 m c i = C (i 0).val (i 1).val) (t : Fin cfg0.N) (y : S1024x2048.Idx) : iblk m c 2 t y = C (1024 * (t.val / 4) + (y 0).val) (2048 * (t.val % 4) + (y 1).val) := by
  blk_simp [iblk]
  have e0 : (((win0_2.blk t).view.emb y) 0).val = 1024 * (t.val / 4) + (y 0).val := by blk_simp [ix2]; first | done | omega | (show (t.val / 4) * 1024 + _ = _; omega)
  have e1 : (((win0_2.blk t).view.emb y) 1).val = 2048 * (t.val % 4) + (y 1).val := by blk_simp [ix2]; first | done | omega | (show (t.val % 4) * 2048 + _ = _; omega)
  refine (congrFun (V_main_arg0 m c) ((win0_2.blk t).view.emb y)).trans ((h2 _).trans ?_)
  rw [e0, e1]

/-- The product of the blocks that a grid point reads. -/
theorem part_val (h0 : ∀ i : S8192x2048.Idx, X2 m c i = A (i 0).val (i 1).val) (h1 : ∀ i : S8192x2048.Idx, X1 m c i = B (i 0).val (i 1).val) (h2 : ∀ i : S8192x8192.Idx, X0 m c i = C (i 0).val (i 1).val) (t : Fin cfg0.N) (y : S1024x2048.Idx) : k0_pay1 (F := Ideal) (iblk m c 0 t) (iblk m c 1 t) (iblk m c 2 t) y = (∑ k : Fin 2048, term A B (1024 * (t.val / 4) + (y 0).val) (2048 * (t.val % 4) + (y 1).val) (k.val)) * (((2 : ℝ) : EReal) * max (C (1024 * (t.val / 4) + (y 0).val) (2048 * (t.val % 4) + (y 1).val)) 0) := by
  refine (pay_val (A := fun p q => A (1024 * (t.val / 4) + p) (q)) (B := fun p q => B (2048 * (t.val % 4) + p) (q)) (C := fun p q => C (1024 * (t.val / 4) + p) (2048 * (t.val % 4) + q)) (rd0 h0 t) (rd1 h1 t) (rd2 h2 t) y).trans ?_
  rfl

end

/-! The reference. -/

/-- An entry of the reference's result. -/
theorem ref_val {x0 : (⟨S8192x8192, .bf16⟩ : BufTy).Contents (Elt Ideal)} {x1 : (⟨S8192x2048, .bf16⟩ : BufTy).Contents (Elt Ideal)} {x2 : (⟨S8192x2048, .bf16⟩ : BufTy).Contents (Elt Ideal)} {A B C : ℕ → ℕ → EReal} (h0 : ∀ i : S8192x8192.Idx, x0 i = C (i 0).val (i 1).val) (h1 : ∀ i : S8192x2048.Idx, x1 i = B (i 0).val (i 1).val) (h2 : ∀ i : S8192x2048.Idx, x2 i = A (i 0).val (i 1).val) (i : S8192x8192.Idx) :
    Cert.Ff2BwdRefIdeal.Read.val_main_v15 (F := Ideal) x0 x1 x2 i = (∑ k : Fin 2048, term A B (i 0).val (i 1).val k.val) * (((2 : ℝ) : EReal) * max (C (i 0).val (i 1).val) 0) := by
  have z : ∀ j, Cert.Ff2BwdRefIdeal.Read.val_main_v0 (F := Ideal) x0 j = C (j 0).val (j 1).val := fun j => by
    rw [Cert.Ff2BwdRefIdeal.Read.val_main_v0_apply, Ideal.extf_def, h0]
  have q : Cert.Ff2BwdRefIdeal.Read.val_main_v7 (F := Ideal) x0 i = ((2 : ℝ) : EReal) * max (C (i 0).val (i 1).val) 0 := by
    rw [Cert.Ff2BwdRefIdeal.Read.val_main_v7_apply, Cert.Ff2BwdRefIdeal.Read.val_main_v6_apply, Cert.Ff2BwdRefIdeal.Read.val_main_cst_1_apply,
      Cert.Ff2BwdRefIdeal.Read.val_main_v1_apply, Cert.Ff2BwdRefIdeal.Read.val_main_call0_v0_apply, Cert.Ff2BwdRefIdeal.Read.val_main_call0_cst_apply, z]
    show Ideal.ofBits .f32 0x40000000#32 * max _ (Ideal.ofBits .f32 0x00000000#32) = _
    rw [Cert.Tools.w_two, Ideal.ofBits_zero_f32]
  have s : Cert.Ff2BwdRefIdeal.Read.val_main_v11 (F := Ideal) x1 x2 i = ∑ k : Fin 2048, term A B (i 0).val (i 1).val k.val := by
    rw [Cert.Ff2BwdRefIdeal.Read.val_main_v11_apply]
    refine Finset.sum_congr rfl fun k _ => ?_
    rw [Cert.Ff2BwdRefIdeal.Read.val_main_v10_apply, Cert.Ff2BwdRefIdeal.Read.val_main_v8_apply, Ideal.extf_def, Ideal.extf_def, h2, h1]
    rfl
  rw [Cert.Ff2BwdRefIdeal.Read.val_main_v15_apply, Ideal.truncf_def, Cert.Ff2BwdRefIdeal.Read.val_main_v14_apply, Cert.Ff2BwdRefIdeal.Read.val_main_v12_apply,
    Cert.Ff2BwdRefIdeal.Read.val_main_v3_apply, Cert.Ff2BwdRefIdeal.Read.val_main_v2_apply, Cert.Ff2BwdRefIdeal.Read.val_main_cst_apply,
    Cert.Ff2BwdRefIdeal.Read.val_main_v13_apply, Cert.Ff2BwdRefIdeal.Read.val_main_cst_2_apply, z, q, s]
  exact relu_branch _ _

/-- The result, as the reference's term of the kernel's arguments. -/
def result (c : Dev nD) : (⟨S8192x8192, .bf16⟩ : BufTy).Contents (Elt Ideal) := Cert.Ff2BwdRefIdeal.Read.val_main_v15 (F := Ideal) (X0 m c) (X1 m c) (X2 m c)

/-- The kernel's result array. -/
theorem arr (c : Dev nD) : (dats m 0 c).arrAt 3 cfg0.N = result m c := by
  obtain ⟨A, h0⟩ := exists_nat (X2 m c)
  obtain ⟨B, h1⟩ := exists_nat (X1 m c)
  obtain ⟨C, h2⟩ := exists_nat (X0 m c)
  refine (dats m 0 c).arrAt_eq_of_covers 3 _ (by decide +kernel) fun t hf y => ?_
  have hy0 : (y 0).val < 1024 := (y 0).isLt
  have hy1 : (y 1).val < 2048 := (y 1).isLt
  blk_simp
  rw [after0_3]
  have e0 : (((win0_3.blk t).view.emb y) 0).val = 1024 * (t.val / 4) + (y 0).val := by blk_simp [ix3]; first | done | omega | (show (t.val / 4) * 1024 + _ = _; omega)
  have e1 : (((win0_3.blk t).view.emb y) 1).val = 2048 * (t.val % 4) + (y 1).val := by blk_simp [ix3]; first | done | omega | (show (t.val % 4) * 2048 + _ = _; omega)
  rw [out_val]
  refine (part_val h0 h1 h2 t y).trans (Eq.trans ?_ (ref_val h2 h1 h0 ((win0_3.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (arr m c), h.2 c⟩) (θ_run_and (run_main m ρ) (unchanged m ρ))

section
variable (m' : (ℓ : Loc Cert.Ff2BwdRefIdeal.nD Cert.Ff2BwdRefIdeal.τ Cert.Ff2BwdRefIdeal.sig) → Buf (Elt Ideal) ℓ)

/-- The reference leaves its arguments, and has no semaphore. -/
theorem frame_ref (ρ : Dev Cert.Ff2BwdRefIdeal.nD → PrngReg) :
    θ_run (Cert.Ff2BwdRefIdeal.defs (F := Ideal)) (onTc (τ := Cert.Ff2BwdRefIdeal.τ) (Cert.Ff2BwdRefIdeal.main (F := Ideal))) ⟨m', fun _ => 0, ρ⟩ (fun r => (∀ c : Dev Cert.Ff2BwdRefIdeal.nD,
      r.2.mem ((c.tc : Thread Cert.Ff2BwdRefIdeal.nD Cert.Ff2BwdRefIdeal.τ).loc Cert.Ff2BwdRefIdeal.main_arg0) = m' ((c.tc : Thread Cert.Ff2BwdRefIdeal.nD Cert.Ff2BwdRefIdeal.τ).loc Cert.Ff2BwdRefIdeal.main_arg0)
      ∧ r.2.mem ((c.tc : Thread Cert.Ff2BwdRefIdeal.nD Cert.Ff2BwdRefIdeal.τ).loc Cert.Ff2BwdRefIdeal.main_arg1) = m' ((c.tc : Thread Cert.Ff2BwdRefIdeal.nD Cert.Ff2BwdRefIdeal.τ).loc Cert.Ff2BwdRefIdeal.main_arg1)
      ∧ r.2.mem ((c.tc : Thread Cert.Ff2BwdRefIdeal.nD Cert.Ff2BwdRefIdeal.τ).loc Cert.Ff2BwdRefIdeal.main_arg2) = m' ((c.tc : Thread Cert.Ff2BwdRefIdeal.nD Cert.Ff2BwdRefIdeal.τ).loc Cert.Ff2BwdRefIdeal.main_arg2))
      ∧ r.2.sem = fun _ => 0) :=
  (θ_run Cert.Ff2BwdRefIdeal.defs _ _).mono (fun r h => ⟨fun c => (h c).2, sem_eq_zero_of_no_sems (by decide) r.2⟩) (Cert.Ff2BwdRefIdeal.Value.run m' ρ)

/-- The reference's run, read at its result and its arguments, from a memory that agrees on the arguments. -/
theorem run_ref (ρ : Dev Cert.Ff2BwdRefIdeal.nD → PrngReg) (hA : ∀ c : Dev Cert.Ff2BwdIdeal.nD,
      m' ((c.tc : Thread Cert.Ff2BwdRefIdeal.nD Cert.Ff2BwdRefIdeal.τ).loc Cert.Ff2BwdRefIdeal.main_arg0) = m ((c.tc : Thread Cert.Ff2BwdIdeal.nD Cert.Ff2BwdIdeal.τ).loc Cert.Ff2BwdIdeal.main_arg0)
      ∧ m' ((c.tc : Thread Cert.Ff2BwdRefIdeal.nD Cert.Ff2BwdRefIdeal.τ).loc Cert.Ff2BwdRefIdeal.main_arg1) = m ((c.tc : Thread Cert.Ff2BwdIdeal.nD Cert.Ff2BwdIdeal.τ).loc Cert.Ff2BwdIdeal.main_arg1)
      ∧ m' ((c.tc : Thread Cert.Ff2BwdRefIdeal.nD Cert.Ff2BwdRefIdeal.τ).loc Cert.Ff2BwdRefIdeal.main_arg2) = m ((c.tc : Thread Cert.Ff2BwdIdeal.nD Cert.Ff2BwdIdeal.τ).loc Cert.Ff2BwdIdeal.main_arg2)) :
    θ_run (Cert.Ff2BwdRefIdeal.defs (F := Ideal)) (onTc (τ := Cert.Ff2BwdRefIdeal.τ) (Cert.Ff2BwdRefIdeal.main (F := Ideal))) ⟨m', fun _ => 0, ρ⟩ (fun r => ∀ c : Dev Cert.Ff2BwdRefIdeal.nD,
      r.2.mem ((c.tc : Thread Cert.Ff2BwdRefIdeal.nD Cert.Ff2BwdRefIdeal.τ).loc Cert.Ff2BwdRefIdeal.main_v15) = result m c
      ∧ r.2.mem ((c.tc : Thread Cert.Ff2BwdRefIdeal.nD Cert.Ff2BwdRefIdeal.τ).loc Cert.Ff2BwdRefIdeal.main_arg0) = m' ((c.tc : Thread Cert.Ff2BwdRefIdeal.nD Cert.Ff2BwdRefIdeal.τ).loc Cert.Ff2BwdRefIdeal.main_arg0)
      ∧ r.2.mem ((c.tc : Thread Cert.Ff2BwdRefIdeal.nD Cert.Ff2BwdRefIdeal.τ).loc Cert.Ff2BwdRefIdeal.main_arg1) = m' ((c.tc : Thread Cert.Ff2BwdRefIdeal.nD Cert.Ff2BwdRefIdeal.τ).loc Cert.Ff2BwdRefIdeal.main_arg1)
      ∧ r.2.mem ((c.tc : Thread Cert.Ff2BwdRefIdeal.nD Cert.Ff2BwdRefIdeal.τ).loc Cert.Ff2BwdRefIdeal.main_arg2) = m' ((c.tc : Thread Cert.Ff2BwdRefIdeal.nD Cert.Ff2BwdRefIdeal.τ).loc Cert.Ff2BwdRefIdeal.main_arg2)) := by
  refine (θ_run Cert.Ff2BwdRefIdeal.defs _ _).mono (fun r h c => ?_) (Cert.Ff2BwdRefIdeal.Value.run m' ρ)
  have e := hA c
  refine ⟨(h c).1.trans ?_, (h c).2⟩
  refine (Cert.Ff2BwdRefIdeal.Read.val_main_v15_eq (F := Ideal) _ _ _).trans ?_
  show _ = Cert.Ff2BwdRefIdeal.Read.val_main_v15 (F := Ideal) (m ((c.tc : Thread Cert.Ff2BwdIdeal.nD Cert.Ff2BwdIdeal.τ).loc Cert.Ff2BwdIdeal.main_arg0)) (m ((c.tc : Thread Cert.Ff2BwdIdeal.nD Cert.Ff2BwdIdeal.τ).loc Cert.Ff2BwdIdeal.main_arg1)) (m ((c.tc : Thread Cert.Ff2BwdIdeal.nD Cert.Ff2BwdIdeal.τ).loc Cert.Ff2BwdIdeal.main_arg2))
  rw [e.1, e.2.1, e.2.2]

end

end Cert.MmFf2Bwd

end
-- ==== Proof.MmFf2Wgrad.lean ====
/- The gradient of the feed-forward layer's second weight. -/
module

public import proofs.«01_k».proof.Proof.MmTools
public import proofs.«01_k».proof.Proof.Gen.Ff2Wgrad.Frame
public import proofs.«01_k».proof.Proof.Gen.Ff2WgradIdeal.Frame
public import proofs.«01_k».proof.Proof.Gen.Ff2WgradRefIdeal.Run
public import proofs.«01_k».proof.Proof.Gen.Ff2WgradRefIdeal.Read
public import Idealize.ShloMosaic.Lib.Pipeline.ValueKit
public import Idealize.ShloMosaic.Lib.Quiescent

@[expose] public section

set_option maxRecDepth 16384

noncomputable section

namespace Cert.MmFf2Wgrad

open Cert.Ff2WgradIdeal Cert.Ff2WgradIdeal.Gen Cert.MmTools Idealize.ShloMosaic Idealize.ShloMosaic.TcCoe Idealize.SL.Sem

/-- One term of the sum of products. -/
def term (A B : ℕ → ℕ → EReal) (i j k : ℕ) : EReal := sqr (A k i) * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S2048x1024 .bf16} {x1 : Vec Ideal S2048x1024 .bf16} {A B : ℕ → ℕ → EReal} (h0 : ∀ i : S2048x1024.Idx, x0 i = A (i 0).val (i 1).val) (h1 : ∀ i : S2048x1024.Idx, x1 i = B (i 0).val (i 1).val) (i : S1024x1024.Idx) : k0_pay1 (F := Ideal) x0 x1 i = ∑ k : Fin 2048, term A B (i 0).val (i 1).val k.val := by
  unfold k0_pay1
  have q : ∀ j : S2048x1024.Idx, max (x0 j) (Ideal.ofBits .f32 0x00000000#32) * max (x0 j) (Ideal.ofBits .f32 0x00000000#32) = sqr (A (j 0).val (j 1).val) := fun j => by
    rw [Ideal.ofBits_zero_f32, h0]; rfl
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  exact congrArg₂ (· * ·) (q _) (h1 _)

/-- The first point of a run of four leaves its own product. -/
theorem first_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : cond0_0 i) (hc1 : ¬cond0_1 i) (hc2 : ¬cond0_2 i) (x0 : Vec Ideal S2048x1024 .bf16) (x1 : Vec Ideal S2048x1024 .bf16) :
    sout0_A_0 (F := Ideal) c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  unfold k0_pay2
  simp only [View.readAt_eq_ld, w3.read_unread, w4.read_unread, w6.read_unread, View.ld_unit_zero (S := S2048x1024) hz, View.ld_unit_zero (S := S1024x1024) hz, shapeCast_self]

/-- A point in the middle of a run adds its product to what the point before left. -/
theorem middle_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : ¬cond0_2 i) (x0 : Vec Ideal S2048x1024 .bf16) (x1 : Vec Ideal S2048x1024 .bf16) (xs : Vec Ideal S1024x1024 .f32) :
    sout0_B_0 (F := Ideal) c i a3 w3 a4 w4 a5 w5 a6 w6 hc0 hc1 hc2 x0 x1 xs = addf xs (k0_pay1 x0 x1) := by
  unfold sout0_B_0
  rw [View.read_writes_eq_canon _ _ _ (scover0_B_0 c i a3 w3 a4 w4 a5 w5 a6 w6 hc0 hc1 hc2 x0 x1 xs)]
  unfold kernelRun0_B
  dsimp only
  sl_unfold_words
  rw [View.canon_unit_zero hz]
  unfold k0_pay3
  simp only [View.readAt_eq_ld, w3.read_unread, w4.read_unread, w6.read_unread, View.ld_unit_zero (S := S2048x1024) hz, View.ld_unit_zero (S := S1024x1024) hz, shapeCast_self]

/-- The last point of a run writes the sum of what the point before left and its own product. -/
theorem last_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : cond0_2 i) (x0 : Vec Ideal S2048x1024 .bf16) (x1 : Vec Ideal S2048x1024 .bf16) (xs : Vec Ideal S1024x1024 .f32) :
    out0_C_2 (F := Ideal) c i a3 w3 a4 w4 a5 w5 a6 w6 hc0 hc1 hc2 x0 x1 xs = k0_pay4 (addf xs (k0_pay1 x0 x1)) := by
  unfold out0_C_2
  rw [View.read_writes_eq_canon _ _ _ (cover0_C_2 c i a3 w3 a4 w4 a5 w5 a6 w6 hc0 hc1 hc2 x0 x1 xs)]
  unfold kernelRun0_C
  dsimp only
  sl_unfold_words
  rw [View.canon_unit_zero hz, View.readCov_unit_zero (S := S1024x1024) _ hz]
  unfold k0_pay3
  simp only [View.readAt_eq_ld, w3.read_unread, w4.read_unread, w6.read_unread, View.ld_unit_zero (S := S2048x1024) hz, View.ld_unit_zero (S := S1024x1024) hz, shapeCast_self]

theorem store_val (x : Vec Ideal S1024x1024 .f32) (i : S1024x1024.Idx) : k0_pay4 (F := Ideal) x i = x i := rfl

/-! Where each window's block lies. -/

theorem ix0 : ∀ t : Fin cfg0.N, win0_0.index t = ![t.val % 4, t.val / 8] := (by decide +kernel : ∀ t : Fin grid0.N, win0_0.index t = ![t.val % 4, t.val / 8])
theorem ix1 : ∀ t : Fin cfg0.N, win0_1.index t = ![t.val % 4, t.val / 4 % 2] := (by decide +kernel : ∀ t : Fin grid0.N, win0_1.index t = ![t.val % 4, t.val / 4 % 2])
theorem ix2 : ∀ t : Fin cfg0.N, win0_2.index t = ![t.val / 8, t.val / 4 % 2] := (by decide +kernel : ∀ t : Fin grid0.N, win0_2.index t = ![t.val / 8, t.val / 4 % 2])

variable (m : (ℓ : Loc nD τ sig) → Buf (Elt Ideal) ℓ)

abbrev X0 (c : Dev nD) : (⟨S8192x8192, .bf16⟩ : BufTy).Contents (Elt Ideal) := m ((c : Thread nD τ).loc main_arg0)
abbrev X1 (c : Dev nD) : (⟨S8192x2048, .bf16⟩ : BufTy).Contents (Elt Ideal) := m ((c : Thread nD τ).loc main_arg1)
abbrev X2 (c : Dev nD) : (⟨S8192x2048, .bf16⟩ : BufTy).Contents (Elt Ideal) := m ((c : Thread nD τ).loc main_arg2)

section
variable {m : (ℓ : Loc nD τ sig) → Buf (Elt Ideal) ℓ} {c : Dev nD} {A B : ℕ → ℕ → EReal}

theorem rd0 (h0 : ∀ i : S8192x8192.Idx, X0 m c i = A (i 0).val (i 1).val) (t : Fin cfg0.N) (y : S2048x1024.Idx) : iblk m c 0 t y = A (2048 * (t.val % 4) + (y 0).val) (1024 * (t.val / 8) + (y 1).val) := by
  blk_simp [iblk]
  have e0 : (((win0_0.blk t).view.emb y) 0).val = 2048 * (t.val % 4) + (y 0).val := by blk_simp [ix0]; first | done | omega | (show (t.val % 4) * 2048 + _ = _; omega)
  have e1 : (((win0_0.blk t).view.emb y) 1).val = 1024 * (t.val / 8) + (y 1).val := by blk_simp [ix0]; first | done | omega | (show (t.val / 8) * 1024 + _ = _; omega)
  refine (congrFun (V_main_arg0 m c) ((win0_0.blk t).view.emb y)).trans ((h0 _).trans ?_)
  rw [e0, e1]

theorem rd1 (h1 : ∀ i : S8192x2048.Idx, X2 m c i = B (i 0).val (i 1).val) (t : Fin cfg0.N) (y : S2048x1024.Idx) : iblk m c 1 t y = B (2048 * (t.val % 4) + (y 0).val) (1024 * (t.val / 4 % 2) + (y 1).val) := by
  blk_simp [iblk]
  have e0 : (((win0_1.blk t).view.emb y) 0).val = 2048 * (t.val % 4) + (y 0).val := by blk_simp [ix1]; first | done | omega | (show (t.val % 4) * 2048 + _ = _; omega)
  have e1 : (((win0_1.blk t).view.emb y) 1).val = 1024 * (t.val / 4 % 2) + (y 1).val := by blk_simp [ix1]; first | done | omega | (show (t.val / 4 % 2) * 1024 + _ = _; omega)
  refine (congrFun (V_main_arg2 m c) ((win0_1.blk t).view.emb y)).trans ((h1 _).trans ?_)
  rw [e0, e1]

/-- The product of the blocks that a grid point reads. -/
theorem part_val (h0 : ∀ i : S8192x8192.Idx, X0 m c i = A (i 0).val (i 1).val) (h1 : ∀ i : S8192x2048.Idx, X2 m c i = B (i 0).val (i 1).val) (t : Fin cfg0.N) (y : S1024x1024.Idx) : k0_pay1 (F := Ideal) (iblk m c 0 t) (iblk m c 1 t) y = ∑ k : Fin 2048, term A B (1024 * (t.val / 8) + (y 0).val) (1024 * (t.val / 4 % 2) + (y 1).val) (2048 * (t.val % 4) + k.val) := by
  refine (pay_val (A := fun p q => A (2048 * (t.val % 4) + p) (1024 * (t.val / 8) + q)) (B := fun p q => B (2048 * (t.val % 4) + p) (1024 * (t.val / 4 % 2) + q)) (rd0 h0 t) (rd1 h1 t) y).trans ?_
  rfl

theorem acc_first (h0 : ∀ i : S8192x8192.Idx, X0 m c i = A (i 0).val (i 1).val) (h1 : ∀ i : S8192x2048.Idx, X2 m c i = B (i 0).val (i 1).val) (t : Fin cfg0.N) (h : t.val % 4 = 0) (y : S1024x1024.Idx) :
    (outsAt0 m c t.val t.isLt).2 y = ∑ k : Fin 2048, term A B (1024 * (t.val / 8) + (y 0).val) (1024 * (t.val / 4 % 2) + (y 1).val) (2048 * (t.val % 4) + k.val) := by
  rw [outsAt0_A m c t h (by omega) (by omega)]
  dsimp only
  rw [first_val]
  exact part_val h0 h1 t y

theorem acc_next (h0 : ∀ i : S8192x8192.Idx, X0 m c i = A (i 0).val (i 1).val) (h1 : ∀ i : S8192x2048.Idx, X2 m c i = B (i 0).val (i 1).val) (t : Fin cfg0.N) (h : ¬t.val % 4 = 0) (h3 : ¬t.val % 4 = 3) (y : S1024x1024.Idx) :
    (outsAt0 m c t.val t.isLt).2 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_B m c t h (by omega) h3]
  dsimp only
  rw [middle_val]
  exact congrArg (_ + ·) (part_val h0 h1 t y)

theorem acc_last (h0 : ∀ i : S8192x8192.Idx, X0 m c i = A (i 0).val (i 1).val) (h1 : ∀ i : S8192x2048.Idx, X2 m c i = B (i 0).val (i 1).val) (t : Fin cfg0.N) (h3 : t.val % 4 = 3) (y : S1024x1024.Idx) :
    (outsAt0 m c t.val t.isLt).1 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_C m c t (by omega) (by omega) h3]
  dsimp only
  rw [last_val, store_val]
  exact congrArg (_ + ·) (part_val h0 h1 t y)

/-- What the last point of a run writes: the whole sum. -/
theorem res_val (h0 : ∀ i : S8192x8192.Idx, X0 m c i = A (i 0).val (i 1).val) (h1 : ∀ i : S8192x2048.Idx, X2 m c i = B (i 0).val (i 1).val) (t : Fin cfg0.N) (h3 : t.val % 4 = 3) (y : S1024x1024.Idx) :
    (outsAt0 m c t.val t.isLt).1 y = ∑ k : Fin 8192, term A B (1024 * (t.val / 8) + (y 0).val) (1024 * (t.val / 4 % 2) + (y 1).val) k.val := by
  have hN : t.val < cfg0.N := t.isLt
  have a0 := acc_first h0 h1 ⟨t.val - 3, by omega⟩ (by show (t.val - 3) % 4 = 0; omega) y
  have a1 := acc_next h0 h1 ⟨t.val - 2, by omega⟩ (by show ¬(t.val - 2) % 4 = 0; omega) (by show ¬(t.val - 2) % 4 = 3; omega) y
  have a2 := acc_next h0 h1 ⟨t.val - 1, by omega⟩ (by show ¬(t.val - 1) % 4 = 0; omega) (by show ¬(t.val - 1) % 4 = 3; omega) y
  have a3 := acc_last h0 h1 t h3 y
  dsimp only at a0 a1 a2
  have e (u v : ℕ) (hu : u < cfg0.N) (hv : v < cfg0.N) (h : u = v) : outsAt0 m c u hu = outsAt0 m c v hv := by subst h; rfl
  rw [e (t.val - 2 - 1) (t.val - 3) _ (by omega) (by omega), a0] at a1
  rw [e (t.val - 1 - 1) (t.val - 2) _ (by omega) (by omega), a1] at a2
  rw [a2] at a3
  rw [a3, ← four_blocks (fun k => term A B (1024 * (t.val / 8) + (y 0).val) (1024 * (t.val / 4 % 2) + (y 1).val) k)]
  have d0 : (t.val - 3) % 4 = 0 := by omega
  have d1 : (t.val - 2) % 4 = 1 := by omega
  have d2 : (t.val - 1) % 4 = 2 := by omega
  simp only [d0, d1, d2, h3]
  have i0 : (t.val - 3) / 8 = t.val / 8 := by omega
  have i1 : (t.val - 2) / 8 = t.val / 8 := by omega
  have i2 : (t.val - 1) / 8 = t.val / 8 := by omega
  have j0 : (t.val - 3) / 4 = t.val / 4 := by omega
  have j1 : (t.val - 2) / 4 = t.val / 4 := by omega
  have j2 : (t.val - 1) / 4 = t.val / 4 := by omega
  simp only [i0, i1, i2, j0, j1, j2]

end

/-! The reference. -/

/-- An entry of the reference's result. -/
theorem ref_val {x0 : (⟨S8192x8192, .bf16⟩ : BufTy).Contents (Elt Ideal)} {x2 : (⟨S8192x2048, .bf16⟩ : BufTy).Contents (Elt Ideal)} {A B : ℕ → ℕ → EReal} (h0 : ∀ i : S8192x8192.Idx, x0 i = A (i 0).val (i 1).val) (h2 : ∀ i : S8192x2048.Idx, x2 i = B (i 0).val (i 1).val) (i : S8192x2048.Idx) :
    Cert.Ff2WgradRefIdeal.Read.val_main_v8 (F := Ideal) x0 x2 i = ∑ k : Fin 8192, term A B (i 0).val (i 1).val k.val := by
  have q : ∀ j : S8192x8192.Idx, Cert.Ff2WgradRefIdeal.Read.val_main_v2 (F := Ideal) x0 j = sqr (A (j 0).val (j 1).val) := fun j => by
    rw [Cert.Ff2WgradRefIdeal.Read.val_main_v2_apply, Cert.Ff2WgradRefIdeal.Read.val_main_v1_apply, Cert.Ff2WgradRefIdeal.Read.val_main_v0_apply, Ideal.extf_def,
      Cert.Ff2WgradRefIdeal.Read.val_main_call0_v0_apply, Cert.Ff2WgradRefIdeal.Read.val_main_call0_cst_apply, h0]
    show max _ (Ideal.ofBits .f32 0x00000000#32) * max _ (Ideal.ofBits .f32 0x00000000#32) = _
    rw [Ideal.ofBits_zero_f32]; rfl
  rw [Cert.Ff2WgradRefIdeal.Read.val_main_v8_apply, Ideal.truncf_def, Cert.Ff2WgradRefIdeal.Read.val_main_v7_apply, Cert.Ff2WgradRefIdeal.Read.val_main_v6_apply]
  refine Finset.sum_congr rfl fun k _ => ?_
  rw [q, Cert.Ff2WgradRefIdeal.Read.val_main_v5_apply, Ideal.extf_def, h2, mul_comm]
  rfl

/-- The result, as the reference's term of the kernel's arguments. -/
def result (c : Dev nD) : (⟨S8192x2048, .bf16⟩ : BufTy).Contents (Elt Ideal) := Cert.Ff2WgradRefIdeal.Read.val_main_v8 (F := Ideal) (X0 m c) (X2 m c)

/-- The kernel's result array. -/
theorem arr (c : Dev nD) : (dats m 0 c).arrAt 2 cfg0.N = result m c := by
  obtain ⟨A, h0⟩ := exists_nat (X0 m c)
  obtain ⟨B, h1⟩ := exists_nat (X2 m c)
  refine (dats m 0 c).arrAt_eq_of_covers 2 _ (by decide +kernel) fun t hf y => ?_
  have h3 := (flush0_2 t).1 hf
  have hy0 : (y 0).val < 1024 := (y 0).isLt
  have hy1 : (y 1).val < 1024 := (y 1).isLt
  blk_simp
  rw [after0_2]
  have e0 : (((win0_2.blk t).view.emb y) 0).val = 1024 * (t.val / 8) + (y 0).val := by blk_simp [ix2]; first | done | omega | (show (t.val / 8) * 1024 + _ = _; omega)
  have e1 : (((win0_2.blk t).view.emb y) 1).val = 1024 * (t.val / 4 % 2) + (y 1).val := by blk_simp [ix2]; first | done | omega | (show (t.val / 4 % 2) * 1024 + _ = _; omega)
  refine (res_val h0 h1 t h3 y).trans (Eq.trans ?_ (ref_val h0 h1 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.Ff2WgradRefIdeal.nD Cert.Ff2WgradRefIdeal.τ Cert.Ff2WgradRefIdeal.sig) → Buf (Elt Ideal) ℓ)

/-- The reference leaves its arguments, and has no semaphore. -/
theorem frame_ref (ρ : Dev Cert.Ff2WgradRefIdeal.nD → PrngReg) :
    θ_run (Cert.Ff2WgradRefIdeal.defs (F := Ideal)) (onTc (τ := Cert.Ff2WgradRefIdeal.τ) (Cert.Ff2WgradRefIdeal.main (F := Ideal))) ⟨m', fun _ => 0, ρ⟩ (fun r => (∀ c : Dev Cert.Ff2WgradRefIdeal.nD,
      r.2.mem ((c.tc : Thread Cert.Ff2WgradRefIdeal.nD Cert.Ff2WgradRefIdeal.τ).loc Cert.Ff2WgradRefIdeal.main_arg0) = m' ((c.tc : Thread Cert.Ff2WgradRefIdeal.nD Cert.Ff2WgradRefIdeal.τ).loc Cert.Ff2WgradRefIdeal.main_arg0)
      ∧ r.2.mem ((c.tc : Thread Cert.Ff2WgradRefIdeal.nD Cert.Ff2WgradRefIdeal.τ).loc Cert.Ff2WgradRefIdeal.main_arg1) = m' ((c.tc : Thread Cert.Ff2WgradRefIdeal.nD Cert.Ff2WgradRefIdeal.τ).loc Cert.Ff2WgradRefIdeal.main_arg1)
      ∧ r.2.mem ((c.tc : Thread Cert.Ff2WgradRefIdeal.nD Cert.Ff2WgradRefIdeal.τ).loc Cert.Ff2WgradRefIdeal.main_arg2) = m' ((c.tc : Thread Cert.Ff2WgradRefIdeal.nD Cert.Ff2WgradRefIdeal.τ).loc Cert.Ff2WgradRefIdeal.main_arg2))
      ∧ r.2.sem = fun _ => 0) :=
  (θ_run Cert.Ff2WgradRefIdeal.defs _ _).mono (fun r h => ⟨fun c => (h c).2, sem_eq_zero_of_no_sems (by decide) r.2⟩) (Cert.Ff2WgradRefIdeal.Value.run m' ρ)

/-- The reference's run, read at its result and its arguments, from a memory that agrees on the arguments. -/
theorem run_ref (ρ : Dev Cert.Ff2WgradRefIdeal.nD → PrngReg) (hA : ∀ c : Dev Cert.Ff2WgradIdeal.nD,
      m' ((c.tc : Thread Cert.Ff2WgradRefIdeal.nD Cert.Ff2WgradRefIdeal.τ).loc Cert.Ff2WgradRefIdeal.main_arg0) = m ((c.tc : Thread Cert.Ff2WgradIdeal.nD Cert.Ff2WgradIdeal.τ).loc Cert.Ff2WgradIdeal.main_arg0)
      ∧ m' ((c.tc : Thread Cert.Ff2WgradRefIdeal.nD Cert.Ff2WgradRefIdeal.τ).loc Cert.Ff2WgradRefIdeal.main_arg1) = m ((c.tc : Thread Cert.Ff2WgradIdeal.nD Cert.Ff2WgradIdeal.τ).loc Cert.Ff2WgradIdeal.main_arg1)
      ∧ m' ((c.tc : Thread Cert.Ff2WgradRefIdeal.nD Cert.Ff2WgradRefIdeal.τ).loc Cert.Ff2WgradRefIdeal.main_arg2) = m ((c.tc : Thread Cert.Ff2WgradIdeal.nD Cert.Ff2WgradIdeal.τ).loc Cert.Ff2WgradIdeal.main_arg2)) :
    θ_run (Cert.Ff2WgradRefIdeal.defs (F := Ideal)) (onTc (τ := Cert.Ff2WgradRefIdeal.τ) (Cert.Ff2WgradRefIdeal.main (F := Ideal))) ⟨m', fun _ => 0, ρ⟩ (fun r => ∀ c : Dev Cert.Ff2WgradRefIdeal.nD,
      r.2.mem ((c.tc : Thread Cert.Ff2WgradRefIdeal.nD Cert.Ff2WgradRefIdeal.τ).loc Cert.Ff2WgradRefIdeal.main_v8) = result m c
      ∧ r.2.mem ((c.tc : Thread Cert.Ff2WgradRefIdeal.nD Cert.Ff2WgradRefIdeal.τ).loc Cert.Ff2WgradRefIdeal.main_arg0) = m' ((c.tc : Thread Cert.Ff2WgradRefIdeal.nD Cert.Ff2WgradRefIdeal.τ).loc Cert.Ff2WgradRefIdeal.main_arg0)
      ∧ r.2.mem ((c.tc : Thread Cert.Ff2WgradRefIdeal.nD Cert.Ff2WgradRefIdeal.τ).loc Cert.Ff2WgradRefIdeal.main_arg1) = m' ((c.tc : Thread Cert.Ff2WgradRefIdeal.nD Cert.Ff2WgradRefIdeal.τ).loc Cert.Ff2WgradRefIdeal.main_arg1)
      ∧ r.2.mem ((c.tc : Thread Cert.Ff2WgradRefIdeal.nD Cert.Ff2WgradRefIdeal.τ).loc Cert.Ff2WgradRefIdeal.main_arg2) = m' ((c.tc : Thread Cert.Ff2WgradRefIdeal.nD Cert.Ff2WgradRefIdeal.τ).loc Cert.Ff2WgradRefIdeal.main_arg2)) := by
  refine (θ_run Cert.Ff2WgradRefIdeal.defs _ _).mono (fun r h c => ?_) (Cert.Ff2WgradRefIdeal.Value.run m' ρ)
  have e := hA c
  refine ⟨(h c).1.trans ?_, (h c).2⟩
  refine (Cert.Ff2WgradRefIdeal.Read.val_main_v8_eq (F := Ideal) _ _).trans ?_
  show _ = Cert.Ff2WgradRefIdeal.Read.val_main_v8 (F := Ideal) (m ((c.tc : Thread Cert.Ff2WgradIdeal.nD Cert.Ff2WgradIdeal.τ).loc Cert.Ff2WgradIdeal.main_arg0)) (m ((c.tc : Thread Cert.Ff2WgradIdeal.nD Cert.Ff2WgradIdeal.τ).loc Cert.Ff2WgradIdeal.main_arg2))
  rw [e.1, e.2.2]

end

end Cert.MmFf2Wgrad

end
-- ==== Proof.MmFf1Wgrad.lean ====
/- The gradient of the feed-forward layer's first weight, by its four column blocks. -/
module

public import proofs.«01_k».proof.Proof.MmTools
public import proofs.«01_k».proof.Proof.Gen.Ff1Wgrad.Frame
public import proofs.«01_k».proof.Proof.Gen.Ff1WgradIdeal.Frame
public import proofs.«01_k».proof.Proof.Gen.Ff1WgradRefIdeal.Run
public import proofs.«01_k».proof.Proof.Gen.Ff1WgradRefIdeal.Read
public import Idealize.ShloMosaic.Lib.Pipeline.ValueKit
public import Idealize.ShloMosaic.Lib.Quiescent

@[expose] public section

set_option maxRecDepth 16384

noncomputable section

namespace Cert.MmFf1Wgrad

open Cert.Ff1WgradIdeal Cert.Ff1WgradIdeal.Gen Cert.MmTools Idealize.ShloMosaic Idealize.ShloMosaic.TcCoe Idealize.SL.Sem

/-- One term of the sum of products. -/
def term (A B : ℕ → ℕ → EReal) (i j k : ℕ) : EReal := A k i * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S2048x1024 .bf16} {x1 : Vec Ideal S2048x1024 .bf16} {A B : ℕ → ℕ → EReal} (h0 : ∀ i : S2048x1024.Idx, x0 i = A (i 0).val (i 1).val) (h1 : ∀ i : S2048x1024.Idx, x1 i = B (i 0).val (i 1).val) (i : S1024x1024.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, h1]
  rfl

/-- The first point of a run of four leaves its own product. -/
theorem first_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1x1024x1024 .bf16) (w5 : a5.IsWhole) (a6 : Memref sig .tc .vmem S1024x1024 .f32) (w6 : a6.IsWhole) (hc0 : cond0_0 i) (hc1 : ¬cond0_1 i) (hc2 : ¬cond0_2 i) (x0 : Vec Ideal S2048x1024 .bf16) (x1 : Vec Ideal S2048x1024 .bf16) :
    sout0_A_0 (F := Ideal) c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  unfold k0_pay2
  simp only [View.readAt_eq_ld, w3.read_unread, w4.read_unread, w6.read_unread, View.ld_unit_zero (S := S2048x1024) hz, View.ld_unit_zero (S := S1024x1024) hz, shapeCast_self]

/-- A point in the middle of a run adds its product to what the point before left. -/
theorem middle_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1x1024x1024 .bf16) (w5 : a5.IsWhole) (a6 : Memref sig .tc .vmem S1024x1024 .f32) (w6 : a6.IsWhole) (hc0 : ¬cond0_0 i) (hc1 : cond0_1 i) (hc2 : ¬cond0_2 i) (x0 : Vec Ideal S2048x1024 .bf16) (x1 : Vec Ideal S2048x1024 .bf16) (xs : Vec Ideal S1024x1024 .f32) :
    sout0_B_0 (F := Ideal) c i a3 w3 a4 w4 a5 w5 a6 w6 hc0 hc1 hc2 x0 x1 xs = addf xs (k0_pay1 x0 x1) := by
  unfold sout0_B_0
  rw [View.read_writes_eq_canon _ _ _ (scover0_B_0 c i a3 w3 a4 w4 a5 w5 a6 w6 hc0 hc1 hc2 x0 x1 xs)]
  unfold kernelRun0_B
  dsimp only
  sl_unfold_words
  rw [View.canon_unit_zero hz]
  unfold k0_pay3
  simp only [View.readAt_eq_ld, w3.read_unread, w4.read_unread, w6.read_unread, View.ld_unit_zero (S := S2048x1024) hz, View.ld_unit_zero (S := S1024x1024) hz, shapeCast_self]

/-- The last point of a run writes the sum of what the point before left and its own product. -/
theorem last_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1x1024x1024 .bf16) (w5 : a5.IsWhole) (a6 : Memref sig .tc .vmem S1024x1024 .f32) (w6 : a6.IsWhole) (hc0 : ¬cond0_0 i) (hc1 : cond0_1 i) (hc2 : cond0_2 i) (x0 : Vec Ideal S2048x1024 .bf16) (x1 : Vec Ideal S2048x1024 .bf16) (xs : Vec Ideal S1024x1024 .f32) :
    out0_C_2 (F := Ideal) c i a3 w3 a4 w4 a5 w5 a6 w6 hc0 hc1 hc2 x0 x1 xs = k0_pay4 (addf xs (k0_pay1 x0 x1)) := by
  unfold out0_C_2
  rw [View.read_writes_eq_canon _ _ _ (cover0_C_2 c i a3 w3 a4 w4 a5 w5 a6 w6 hc0 hc1 hc2 x0 x1 xs)]
  unfold kernelRun0_C
  dsimp only
  sl_unfold_words
  rw [View.canon_unit_zero hz3, View.readCov_unit_zero (S := S1024x1024) _ hz]
  unfold k0_pay3
  simp only [View.readAt_eq_ld, w3.read_unread, w4.read_unread, w6.read_unread, View.ld_unit_zero (S := S2048x1024) hz, View.ld_unit_zero (S := S1024x1024) hz, shapeCast_self]

theorem store_val (x : Vec Ideal S1024x1024 .f32) (i : S1x1024x1024.Idx) : k0_pay4 (F := Ideal) x i = x (ValueIdx.ix2 (i 1) (i 2)) := by
  unfold k0_pay4
  exact add_axis _ i

/-! Where each window's block lies. -/

theorem ix0 : ∀ t : Fin cfg0.N, win0_0.index t = ![t.val % 4, t.val / 32] := (by decide +kernel : ∀ t : Fin grid0.N, win0_0.index t = ![t.val % 4, t.val / 32])
theorem ix1 : ∀ t : Fin cfg0.N, win0_1.index t = ![t.val % 4, t.val / 4 % 8] := (by decide +kernel : ∀ t : Fin grid0.N, win0_1.index t = ![t.val % 4, t.val / 4 % 8])
theorem ix2 : ∀ t : Fin cfg0.N, win0_2.index t = ![t.val / 4 % 8 / 2, t.val / 32, t.val / 4 % 8 % 2] := (by decide +kernel : ∀ t : Fin grid0.N, win0_2.index t = ![t.val / 4 % 8 / 2, t.val / 32, t.val / 4 % 8 % 2])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x8192, .bf16⟩ : BufTy).Contents (Elt Ideal) := m ((c : Thread nD τ).loc main_arg1)
abbrev X2 (c : Dev nD) : (⟨S8192x8192, .bf16⟩ : BufTy).Contents (Elt Ideal) := m ((c : Thread nD τ).loc main_arg2)

section
variable {m : (ℓ : Loc nD τ sig) → Buf (Elt Ideal) ℓ} {c : Dev nD} {A B : ℕ → ℕ → EReal}

theorem rd0 (h0 : ∀ i : S8192x2048.Idx, X0 m c i = A (i 0).val (i 1).val) (t : Fin cfg0.N) (y : S2048x1024.Idx) : iblk m c 0 t y = A (2048 * (t.val % 4) + (y 0).val) (1024 * (t.val / 32) + (y 1).val) := by
  blk_simp [iblk]
  have e0 : (((win0_0.blk t).view.emb y) 0).val = 2048 * (t.val % 4) + (y 0).val := by blk_simp [ix0]; first | done | omega | (show (t.val % 4) * 2048 + _ = _; omega)
  have e1 : (((win0_0.blk t).view.emb y) 1).val = 1024 * (t.val / 32) + (y 1).val := by blk_simp [ix0]; first | done | omega | (show (t.val / 32) * 1024 + _ = _; omega)
  refine (congrFun (V_main_arg0 m c) ((win0_0.blk t).view.emb y)).trans ((h0 _).trans ?_)
  rw [e0, e1]

theorem rd1 (h1 : ∀ i : S8192x8192.Idx, X2 m c i = B (i 0).val (i 1).val) (t : Fin cfg0.N) (y : S2048x1024.Idx) : iblk m c 1 t y = B (2048 * (t.val % 4) + (y 0).val) (1024 * (t.val / 4 % 8) + (y 1).val) := by
  blk_simp [iblk]
  have e0 : (((win0_1.blk t).view.emb y) 0).val = 2048 * (t.val % 4) + (y 0).val := by blk_simp [ix1]; first | done | omega | (show (t.val % 4) * 2048 + _ = _; omega)
  have e1 : (((win0_1.blk t).view.emb y) 1).val = 1024 * (t.val / 4 % 8) + (y 1).val := by blk_simp [ix1]; first | done | omega | (show (t.val / 4 % 8) * 1024 + _ = _; omega)
  refine (congrFun (V_main_arg2 m c) ((win0_1.blk t).view.emb y)).trans ((h1 _).trans ?_)
  rw [e0, e1]

/-- The product of the blocks that a grid point reads. -/
theorem part_val (h0 : ∀ i : S8192x2048.Idx, X0 m c i = A (i 0).val (i 1).val) (h1 : ∀ i : S8192x8192.Idx, X2 m c i = B (i 0).val (i 1).val) (t : Fin cfg0.N) (y : S1024x1024.Idx) : k0_pay1 (F := Ideal) (iblk m c 0 t) (iblk m c 1 t) y = ∑ k : Fin 2048, term A B (1024 * (t.val / 32) + (y 0).val) (1024 * (t.val / 4 % 8) + (y 1).val) (2048 * (t.val % 4) + k.val) := by
  refine (pay_val (A := fun p q => A (2048 * (t.val % 4) + p) (1024 * (t.val / 32) + q)) (B := fun p q => B (2048 * (t.val % 4) + p) (1024 * (t.val / 4 % 8) + q)) (rd0 h0 t) (rd1 h1 t) y).trans ?_
  rfl

theorem acc_first (h0 : ∀ i : S8192x2048.Idx, X0 m c i = A (i 0).val (i 1).val) (h1 : ∀ i : S8192x8192.Idx, X2 m c i = B (i 0).val (i 1).val) (t : Fin cfg0.N) (h : t.val % 4 = 0) (y : S1024x1024.Idx) :
    (outsAt0 m c t.val t.isLt).2 y = ∑ k : Fin 2048, term A B (1024 * (t.val / 32) + (y 0).val) (1024 * (t.val / 4 % 8) + (y 1).val) (2048 * (t.val % 4) + k.val) := by
  rw [outsAt0_A m c t h (by omega) (by omega)]
  dsimp only
  rw [first_val]
  exact part_val h0 h1 t y

theorem acc_next (h0 : ∀ i : S8192x2048.Idx, X0 m c i = A (i 0).val (i 1).val) (h1 : ∀ i : S8192x8192.Idx, X2 m c i = B (i 0).val (i 1).val) (t : Fin cfg0.N) (h : ¬t.val % 4 = 0) (h3 : ¬t.val % 4 = 3) (y : S1024x1024.Idx) :
    (outsAt0 m c t.val t.isLt).2 y = (outsAt0 m c (t.val - 1) (Nat.lt_of_le_of_lt (Nat.sub_le _ _) t.isLt)).2 y + ∑ k : Fin 2048, term A B (1024 * (t.val / 32) + (y 0).val) (1024 * (t.val / 4 % 8) + (y 1).val) (2048 * (t.val % 4) + k.val) := by
  rw [outsAt0_B m c t h (by omega) h3]
  dsimp only
  rw [middle_val]
  exact congrArg (_ + ·) (part_val h0 h1 t y)

theorem acc_last (h0 : ∀ i : S8192x2048.Idx, X0 m c i = A (i 0).val (i 1).val) (h1 : ∀ i : S8192x8192.Idx, X2 m c i = B (i 0).val (i 1).val) (t : Fin cfg0.N) (h3 : t.val % 4 = 3) (y : S1x1024x1024.Idx) :
    (outsAt0 m c t.val t.isLt).1 y = (outsAt0 m c (t.val - 1) (Nat.lt_of_le_of_lt (Nat.sub_le _ _) t.isLt)).2 (ValueIdx.ix2 (y 1) (y 2)) + ∑ k : Fin 2048, term A B (1024 * (t.val / 32) + (y 1).val) (1024 * (t.val / 4 % 8) + (y 2).val) (2048 * (t.val % 4) + k.val) := by
  rw [outsAt0_C m c t (by omega) (by omega) h3]
  dsimp only
  rw [last_val, store_val]
  exact congrArg (_ + ·) (part_val h0 h1 t (ValueIdx.ix2 (y 1) (y 2)))

/-- What the last point of a run writes: the whole sum. -/
theorem res_val (h0 : ∀ i : S8192x2048.Idx, X0 m c i = A (i 0).val (i 1).val) (h1 : ∀ i : S8192x8192.Idx, X2 m c i = B (i 0).val (i 1).val) (t : Fin cfg0.N) (h3 : t.val % 4 = 3) (y : S1x1024x1024.Idx) :
    (outsAt0 m c t.val t.isLt).1 y = ∑ k : Fin 8192, term A B (1024 * (t.val / 32) + (y 1).val) (1024 * (t.val / 4 % 8) + (y 2).val) k.val := by
  have hN : t.val < cfg0.N := t.isLt
  have a0 := acc_first h0 h1 ⟨t.val - 3, by omega⟩ (by show (t.val - 3) % 4 = 0; omega) (ValueIdx.ix2 (y 1) (y 2))
  have a1 := acc_next h0 h1 ⟨t.val - 2, by omega⟩ (by show ¬(t.val - 2) % 4 = 0; omega) (by show ¬(t.val - 2) % 4 = 3; omega) (ValueIdx.ix2 (y 1) (y 2))
  have a2 := acc_next h0 h1 ⟨t.val - 1, by omega⟩ (by show ¬(t.val - 1) % 4 = 0; omega) (by show ¬(t.val - 1) % 4 = 3; omega) (ValueIdx.ix2 (y 1) (y 2))
  have a3 := acc_last h0 h1 t h3 y
  dsimp only at a0 a1 a2
  have e (u v : ℕ) (hu : u < cfg0.N) (hv : v < cfg0.N) (h : u = v) : outsAt0 m c u hu = outsAt0 m c v hv := by subst h; rfl
  rw [e (t.val - 2 - 1) (t.val - 3) _ (by omega) (by omega), a0] at a1
  rw [e (t.val - 1 - 1) (t.val - 2) _ (by omega) (by omega), a1] at a2
  rw [a2] at a3
  rw [a3, ← four_blocks (fun k => term A B (1024 * (t.val / 32) + (y 1).val) (1024 * (t.val / 4 % 8) + (y 2).val) k)]
  have d0 : (t.val - 3) % 4 = 0 := by omega
  have d1 : (t.val - 2) % 4 = 1 := by omega
  have d2 : (t.val - 1) % 4 = 2 := by omega
  simp only [d0, d1, d2, h3]
  have i0 : (t.val - 3) / 32 = t.val / 32 := by omega
  have i1 : (t.val - 2) / 32 = t.val / 32 := by omega
  have i2 : (t.val - 1) / 32 = t.val / 32 := by omega
  have j0 : (t.val - 3) / 4 = t.val / 4 := by omega
  have j1 : (t.val - 2) / 4 = t.val / 4 := by omega
  have j2 : (t.val - 1) / 4 = t.val / 4 := by omega
  simp only [i0, i1, i2, j0, j1, j2]

end

/-! The reference. -/

/-- An entry of the reference's result. -/
theorem ref_val {x0 : (⟨S8192x2048, .bf16⟩ : BufTy).Contents (Elt Ideal)} {x2 : (⟨S8192x8192, .bf16⟩ : BufTy).Contents (Elt Ideal)} {A B : ℕ → ℕ → EReal} (h0 : ∀ i : S8192x2048.Idx, x0 i = A (i 0).val (i 1).val) (h2 : ∀ i : S8192x8192.Idx, x2 i = B (i 0).val (i 1).val) (i : S4x2048x2048.Idx) :
    Cert.Ff1WgradRefIdeal.Read.val_main_v8 (F := Ideal) x0 x2 i = ∑ k : Fin 8192, term A B (i 1).val (2048 * (i 0).val + (i 2).val) k.val := by
  have b0 : (i 0).val < 4 := (i 0).isLt
  have b1 : (i 1).val < 2048 := (i 1).isLt
  have b2 : (i 2).val < 2048 := (i 2).isLt
  have hr : (((i 1).val * 4 + (i 0).val) * 2048 + (i 2).val) / 8192 = (i 1).val := by omega
  have hc : (((i 1).val * 4 + (i 0).val) * 2048 + (i 2).val) % 8192 = 2048 * (i 0).val + (i 2).val := by omega
  rw [Cert.Ff1WgradRefIdeal.Read.val_main_v8_apply, Cert.Ff1WgradRefIdeal.Read.val_main_v7_apply, Cert.Ff1WgradRefIdeal.Read.val_main_v6_apply,
    Ideal.truncf_def, Cert.Ff1WgradRefIdeal.Read.val_main_v5_apply, Cert.Ff1WgradRefIdeal.Read.val_main_v4_apply]
  refine Finset.sum_congr rfl fun k _ => ?_
  rw [Cert.Ff1WgradRefIdeal.Read.val_main_v3_apply, Cert.Ff1WgradRefIdeal.Read.val_main_v0_apply, Ideal.extf_def, Ideal.extf_def, h0, h2, mul_comm]
  exact congrArg₂ (· * ·) (congrArg (A k.val) hr) (congrArg (B k.val) hc)

/-- The result, as the reference's term of the kernel's arguments. -/
def result (c : Dev nD) : (⟨S4x2048x2048, .bf16⟩ : BufTy).Contents (Elt Ideal) := Cert.Ff1WgradRefIdeal.Read.val_main_v8 (F := Ideal) (X0 m c) (X2 m c)

/-- The kernel's result array. -/
theorem arr (c : Dev nD) : (dats m 0 c).arrAt 2 cfg0.N = result m c := by
  obtain ⟨A, h0⟩ := exists_nat (X0 m c)
  obtain ⟨B, h1⟩ := exists_nat (X2 m c)
  refine (dats m 0 c).arrAt_eq_of_covers 2 _ (by decide +kernel) fun t hf y => ?_
  have h3 := (flush0_2 t).1 hf
  have hy0 : (y 0).val < 1 := (y 0).isLt
  have hy1 : (y 1).val < 1024 := (y 1).isLt
  have hy2 : (y 2).val < 1024 := (y 2).isLt
  blk_simp
  rw [after0_2]
  have e0 : (((win0_2.blk t).view.emb y) 0).val = 1 * (t.val / 4 % 8 / 2) + (y 0).val := by blk_simp [ix2]; first | done | omega | (show (t.val / 4 % 8 / 2) * 1 + _ = _; omega)
  have e1 : (((win0_2.blk t).view.emb y) 1).val = 1024 * (t.val / 32) + (y 1).val := by blk_simp [ix2]; first | done | omega | (show (t.val / 32) * 1024 + _ = _; omega)
  have e2 : (((win0_2.blk t).view.emb y) 2).val = 1024 * (t.val / 4 % 8 % 2) + (y 2).val := by blk_simp [ix2]; first | done | omega | (show (t.val / 4 % 8 % 2) * 1024 + _ = _; omega)
  refine (res_val h0 h1 t h3 y).trans (Eq.trans ?_ (ref_val h0 h1 ((win0_2.blk t).view.emb y)).symm)
  rw [e0, e1, e2]
  rw [show 2048 * (1 * (t.val / 4 % 8 / 2) + (y 0).val) + (1024 * (t.val / 4 % 8 % 2) + (y 2).val) = (1024 * (t.val / 4 % 8) + (y 2).val) by omega]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.Ff1WgradRefIdeal.nD Cert.Ff1WgradRefIdeal.τ Cert.Ff1WgradRefIdeal.sig) → Buf (Elt Ideal) ℓ)

/-- The reference leaves its arguments, and has no semaphore. -/
theorem frame_ref (ρ : Dev Cert.Ff1WgradRefIdeal.nD → PrngReg) :
    θ_run (Cert.Ff1WgradRefIdeal.defs (F := Ideal)) (onTc (τ := Cert.Ff1WgradRefIdeal.τ) (Cert.Ff1WgradRefIdeal.main (F := Ideal))) ⟨m', fun _ => 0, ρ⟩ (fun r => (∀ c : Dev Cert.Ff1WgradRefIdeal.nD,
      r.2.mem ((c.tc : Thread Cert.Ff1WgradRefIdeal.nD Cert.Ff1WgradRefIdeal.τ).loc Cert.Ff1WgradRefIdeal.main_arg0) = m' ((c.tc : Thread Cert.Ff1WgradRefIdeal.nD Cert.Ff1WgradRefIdeal.τ).loc Cert.Ff1WgradRefIdeal.main_arg0)
      ∧ r.2.mem ((c.tc : Thread Cert.Ff1WgradRefIdeal.nD Cert.Ff1WgradRefIdeal.τ).loc Cert.Ff1WgradRefIdeal.main_arg1) = m' ((c.tc : Thread Cert.Ff1WgradRefIdeal.nD Cert.Ff1WgradRefIdeal.τ).loc Cert.Ff1WgradRefIdeal.main_arg1)
      ∧ r.2.mem ((c.tc : Thread Cert.Ff1WgradRefIdeal.nD Cert.Ff1WgradRefIdeal.τ).loc Cert.Ff1WgradRefIdeal.main_arg2) = m' ((c.tc : Thread Cert.Ff1WgradRefIdeal.nD Cert.Ff1WgradRefIdeal.τ).loc Cert.Ff1WgradRefIdeal.main_arg2))
      ∧ r.2.sem = fun _ => 0) :=
  (θ_run Cert.Ff1WgradRefIdeal.defs _ _).mono (fun r h => ⟨fun c => (h c).2, sem_eq_zero_of_no_sems (by decide) r.2⟩) (Cert.Ff1WgradRefIdeal.Value.run m' ρ)

/-- The reference's run, read at its result and its arguments, from a memory that agrees on the arguments. -/
theorem run_ref (ρ : Dev Cert.Ff1WgradRefIdeal.nD → PrngReg) (hA : ∀ c : Dev Cert.Ff1WgradIdeal.nD,
      m' ((c.tc : Thread Cert.Ff1WgradRefIdeal.nD Cert.Ff1WgradRefIdeal.τ).loc Cert.Ff1WgradRefIdeal.main_arg0) = m ((c.tc : Thread Cert.Ff1WgradIdeal.nD Cert.Ff1WgradIdeal.τ).loc Cert.Ff1WgradIdeal.main_arg0)
      ∧ m' ((c.tc : Thread Cert.Ff1WgradRefIdeal.nD Cert.Ff1WgradRefIdeal.τ).loc Cert.Ff1WgradRefIdeal.main_arg1) = m ((c.tc : Thread Cert.Ff1WgradIdeal.nD Cert.Ff1WgradIdeal.τ).loc Cert.Ff1WgradIdeal.main_arg1)
      ∧ m' ((c.tc : Thread Cert.Ff1WgradRefIdeal.nD Cert.Ff1WgradRefIdeal.τ).loc Cert.Ff1WgradRefIdeal.main_arg2) = m ((c.tc : Thread Cert.Ff1WgradIdeal.nD Cert.Ff1WgradIdeal.τ).loc Cert.Ff1WgradIdeal.main_arg2)) :
    θ_run (Cert.Ff1WgradRefIdeal.defs (F := Ideal)) (onTc (τ := Cert.Ff1WgradRefIdeal.τ) (Cert.Ff1WgradRefIdeal.main (F := Ideal))) ⟨m', fun _ => 0, ρ⟩ (fun r => ∀ c : Dev Cert.Ff1WgradRefIdeal.nD,
      r.2.mem ((c.tc : Thread Cert.Ff1WgradRefIdeal.nD Cert.Ff1WgradRefIdeal.τ).loc Cert.Ff1WgradRefIdeal.main_v8) = result m c
      ∧ r.2.mem ((c.tc : Thread Cert.Ff1WgradRefIdeal.nD Cert.Ff1WgradRefIdeal.τ).loc Cert.Ff1WgradRefIdeal.main_arg0) = m' ((c.tc : Thread Cert.Ff1WgradRefIdeal.nD Cert.Ff1WgradRefIdeal.τ).loc Cert.Ff1WgradRefIdeal.main_arg0)
      ∧ r.2.mem ((c.tc : Thread Cert.Ff1WgradRefIdeal.nD Cert.Ff1WgradRefIdeal.τ).loc Cert.Ff1WgradRefIdeal.main_arg1) = m' ((c.tc : Thread Cert.Ff1WgradRefIdeal.nD Cert.Ff1WgradRefIdeal.τ).loc Cert.Ff1WgradRefIdeal.main_arg1)
      ∧ r.2.mem ((c.tc : Thread Cert.Ff1WgradRefIdeal.nD Cert.Ff1WgradRefIdeal.τ).loc Cert.Ff1WgradRefIdeal.main_arg2) = m' ((c.tc : Thread Cert.Ff1WgradRefIdeal.nD Cert.Ff1WgradRefIdeal.τ).loc Cert.Ff1WgradRefIdeal.main_arg2)) := by
  refine (θ_run Cert.Ff1WgradRefIdeal.defs _ _).mono (fun r h c => ?_) (Cert.Ff1WgradRefIdeal.Value.run m' ρ)
  have e := hA c
  refine ⟨(h c).1.trans ?_, (h c).2⟩
  refine (Cert.Ff1WgradRefIdeal.Read.val_main_v8_eq (F := Ideal) _ _).trans ?_
  show _ = Cert.Ff1WgradRefIdeal.Read.val_main_v8 (F := Ideal) (m ((c.tc : Thread Cert.Ff1WgradIdeal.nD Cert.Ff1WgradIdeal.τ).loc Cert.Ff1WgradIdeal.main_arg0)) (m ((c.tc : Thread Cert.Ff1WgradIdeal.nD Cert.Ff1WgradIdeal.τ).loc Cert.Ff1WgradIdeal.main_arg2))
  rw [e.1, e.2.2]

end

end Cert.MmFf1Wgrad

end
-- ==== Proof.MmFf1Bwd.lean ====
/- The gradient of the feed-forward layer's input. -/
module

public import proofs.«01_k».proof.Proof.MmTools
public import proofs.«01_k».proof.Proof.Gen.Ff1Bwd.Frame
public import proofs.«01_k».proof.Proof.Gen.Ff1BwdIdeal.Frame
public import proofs.«01_k».proof.Proof.Gen.Ff1BwdRefIdeal.Run
public import proofs.«01_k».proof.Proof.Gen.Ff1BwdRefIdeal.Read
public import Idealize.ShloMosaic.Lib.Pipeline.ValueKit
public import Idealize.ShloMosaic.Lib.Quiescent

@[expose] public section

set_option maxRecDepth 16384

noncomputable section

namespace Cert.MmFf1Bwd

open Cert.Ff1BwdIdeal Cert.Ff1BwdIdeal.Gen Cert.MmTools Idealize.ShloMosaic Idealize.ShloMosaic.TcCoe Idealize.SL.Sem

/-- One term of the sum of products. -/
def term (A B : ℕ → ℕ → EReal) (i j k : ℕ) : EReal := A i k * B j k

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x2048 .bf16} {x1 : Vec Ideal S1x1024x2048 .bf16} {A B : ℕ → ℕ → EReal} (h0 : ∀ i : S1024x2048.Idx, x0 i = A (i 0).val (i 1).val) (h1 : ∀ i : S1x1024x2048.Idx, x1 i = B (i 1).val (i 2).val) (i : S1024x1024.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, drop_axis _ h1]
  rfl

/-- The first point of a run of four leaves its own product. -/
theorem first_val (c : Dev nD) (i : grid0.Coords) (a3 : Memref sig .tc .vmem S1024x2048 .bf16) (w3 : a3.IsWhole) (a4 : Memref sig .tc .vmem S1x1024x2048 .bf16) (w4 : a4.IsWhole) (a5 : Memref sig .tc .vmem S1024x1024 .bf16) (w5 : a5.IsWhole) (a6 : Memref sig .tc .vmem S1024x1024 .f32) (w6 : a6.IsWhole) (hc0 : cond0_0 i) (hc1 : ¬cond0_1 i) (hc2 : ¬cond0_2 i) (x0 : Vec Ideal S1024x2048 .bf16) (x1 : Vec Ideal S1x1024x2048 .bf16) :
    sout0_A_0 (F := Ideal) c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  unfold k0_pay2
  simp only [View.readAt_eq_ld, w3.read_unread, w4.read_unread, w6.read_unread, View.ld_unit_zero (S := S1024x2048) hz, View.ld_unit_zero (S := S1x1024x2048) hz3, View.ld_unit_zero (S := S1024x1024) hz, shapeCast_self]

/-- A point in the middle of a run adds its product to what the point before left. -/
theorem middle_val (c : Dev nD) (i : grid0.Coords) (a3 : Memref sig .tc .vmem S1024x2048 .bf16) (w3 : a3.IsWhole) (a4 : Memref sig .tc .vmem S1x1024x2048 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : ¬cond0_2 i) (x0 : Vec Ideal S1024x2048 .bf16) (x1 : Vec Ideal S1x1024x2048 .bf16) (xs : Vec Ideal S1024x1024 .f32) :
    sout0_B_0 (F := Ideal) c i a3 w3 a4 w4 a5 w5 a6 w6 hc0 hc1 hc2 x0 x1 xs = addf xs (k0_pay1 x0 x1) := by
  unfold sout0_B_0
  rw [View.read_writes_eq_canon _ _ _ (scover0_B_0 c i a3 w3 a4 w4 a5 w5 a6 w6 hc0 hc1 hc2 x0 x1 xs)]
  unfold kernelRun0_B
  dsimp only
  sl_unfold_words
  rw [View.canon_unit_zero hz]
  unfold k0_pay3
  simp only [View.readAt_eq_ld, w3.read_unread, w4.read_unread, w6.read_unread, View.ld_unit_zero (S := S1024x2048) hz, View.ld_unit_zero (S := S1x1024x2048) hz3, View.ld_unit_zero (S := S1024x1024) hz, shapeCast_self]

/-- The last point of a run writes the sum of what the point before left and its own product. -/
theorem last_val (c : Dev nD) (i : grid0.Coords) (a3 : Memref sig .tc .vmem S1024x2048 .bf16) (w3 : a3.IsWhole) (a4 : Memref sig .tc .vmem S1x1024x2048 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : cond0_2 i) (x0 : Vec Ideal S1024x2048 .bf16) (x1 : Vec Ideal S1x1024x2048 .bf16) (xs : Vec Ideal S1024x1024 .f32) :
    out0_C_2 (F := Ideal) c i a3 w3 a4 w4 a5 w5 a6 w6 hc0 hc1 hc2 x0 x1 xs = k0_pay4 (addf xs (k0_pay1 x0 x1)) := by
  unfold out0_C_2
  rw [View.read_writes_eq_canon _ _ _ (cover0_C_2 c i a3 w3 a4 w4 a5 w5 a6 w6 hc0 hc1 hc2 x0 x1 xs)]
  unfold kernelRun0_C
  dsimp only
  sl_unfold_words
  rw [View.canon_unit_zero hz, View.readCov_unit_zero (S := S1024x1024) _ hz]
  unfold k0_pay3
  simp only [View.readAt_eq_ld, w3.read_unread, w4.read_unread, w6.read_unread, View.ld_unit_zero (S := S1024x2048) hz, View.ld_unit_zero (S := S1x1024x2048) hz3, View.ld_unit_zero (S := S1024x1024) hz, shapeCast_self]

theorem store_val (x : Vec Ideal S1024x1024 .f32) (i : S1024x1024.Idx) : k0_pay4 (F := Ideal) x i = x i := rfl

/-! Where each window's block lies. -/

theorem ix0 : ∀ t : Fin cfg0.N, win0_0.index t = ![t.val / 8, t.val % 4] := (by decide +kernel : ∀ t : Fin grid0.N, win0_0.index t = ![t.val / 8, t.val % 4])
theorem ix1 : ∀ t : Fin cfg0.N, win0_1.index t = ![t.val % 4, t.val / 4 % 2, 0] := (by decide +kernel : ∀ t : Fin grid0.N, win0_1.index t = ![t.val % 4, t.val / 4 % 2, 0])
theorem ix2 : ∀ t : Fin cfg0.N, win0_2.index t = ![t.val / 8, t.val / 4 % 2] := (by decide +kernel : ∀ t : Fin grid0.N, win0_2.index t = ![t.val / 8, t.val / 4 % 2])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x8192, .bf16⟩ : BufTy).Contents (Elt Ideal) := m ((c : Thread nD τ).loc main_arg1)
abbrev X2 (c : Dev nD) : (⟨S8192x8192, .bf16⟩ : BufTy).Contents (Elt Ideal) := m ((c : Thread nD τ).loc main_arg2)

section
variable {m : (ℓ : Loc nD τ sig) → Buf (Elt Ideal) ℓ} {c : Dev nD} {A B : ℕ → ℕ → EReal}

/-- The weight as the kernel's host part hands it over: cut into its four column blocks. -/
theorem V1_val (h1 : ∀ i : S2048x8192.Idx, X1 m c i = B (i 0).val (i 1).val) (i : S4x2048x2048.Idx) : V m c main_v1 i = B (i 1).val (2048 * (i 0).val + (i 2).val) := by
  have e : V m c main_v1 = transpose S4x2048x2048 [1, 0, 2] (shapeCast S2048x4x2048 (X1 m c) shapeCasts_S2048x8192_S2048x4x2048) transposes_S2048x4x2048_S4x2048x2048_1_0_2 := by
    dsimp only [V, hostOps0]
    after_results_simp
    all_goals rfl
  rw [e]
  exact column_blocks _ _ h1 i

theorem rd0 (h0 : ∀ i : S8192x8192.Idx, X2 m c i = A (i 0).val (i 1).val) (t : Fin cfg0.N) (y : S1024x2048.Idx) : iblk m c 0 t y = A (1024 * (t.val / 8) + (y 0).val) (2048 * (t.val % 4) + (y 1).val) := by
  blk_simp [iblk]
  have e0 : (((win0_0.blk t).view.emb y) 0).val = 1024 * (t.val / 8) + (y 0).val := by blk_simp [ix0]; first | done | omega | (show (t.val / 8) * 1024 + _ = _; omega)
  have e1 : (((win0_0.blk t).view.emb y) 1).val = 2048 * (t.val % 4) + (y 1).val := by blk_simp [ix0]; first | done | omega | (show (t.val % 4) * 2048 + _ = _; omega)
  refine (congrFun (V_main_arg2 m c) ((win0_0.blk t).view.emb y)).trans ((h0 _).trans ?_)
  rw [e0, e1]

theorem rd1 (h1 : ∀ i : S2048x8192.Idx, X1 m c i = B (i 0).val (i 1).val) (t : Fin cfg0.N) (y : S1x1024x2048.Idx) : iblk m c 1 t y = B (1024 * (t.val / 4 % 2) + (y 1).val) (2048 * (t.val % 4) + (y 2).val) := by
  have hy : (y 0).val < 1 := (y 0).isLt
  blk_simp [iblk]
  have e0 : (((win0_1.blk t).view.emb y) 0).val = t.val % 4 := by blk_simp [ix1]; first | done | omega | (show (t.val % 4) * 1 + _ = _; omega)
  have e1 : (((win0_1.blk t).view.emb y) 1).val = 1024 * (t.val / 4 % 2) + (y 1).val := by blk_simp [ix1]; first | done | omega | (show (t.val / 4 % 2) * 1024 + _ = _; omega)
  have e2 : (((win0_1.blk t).view.emb y) 2).val = (y 2).val := by blk_simp [ix1]; first | done | omega | (show (0) * 2048 + _ = _; omega)
  refine (V1_val h1 ((win0_1.blk t).view.emb y)).trans ?_
  rw [e0, e1, e2]

/-- The product of the blocks that a grid point reads. -/
theorem part_val (h0 : ∀ i : S8192x8192.Idx, X2 m c i = A (i 0).val (i 1).val) (h1 : ∀ i : S2048x8192.Idx, X1 m c i = B (i 0).val (i 1).val) (t : Fin cfg0.N) (y : S1024x1024.Idx) : k0_pay1 (F := Ideal) (iblk m c 0 t) (iblk m c 1 t) y = ∑ k : Fin 2048, term A B (1024 * (t.val / 8) + (y 0).val) (1024 * (t.val / 4 % 2) + (y 1).val) (2048 * (t.val % 4) + k.val) := by
  refine (pay_val (A := fun p q => A (1024 * (t.val / 8) + p) (2048 * (t.val % 4) + q)) (B := fun p q => B (1024 * (t.val / 4 % 2) + p) (2048 * (t.val % 4) + q)) (rd0 h0 t) (rd1 h1 t) y).trans ?_
  rfl

theorem acc_first (h0 : ∀ i : S8192x8192.Idx, X2 m c i = A (i 0).val (i 1).val) (h1 : ∀ i : S2048x8192.Idx, X1 m c i = B (i 0).val (i 1).val) (t : Fin cfg0.N) (h : t.val % 4 = 0) (y : S1024x1024.Idx) :
    (outsAt0 m c t.val t.isLt).2 y = ∑ k : Fin 2048, term A B (1024 * (t.val / 8) + (y 0).val) (1024 * (t.val / 4 % 2) + (y 1).val) (2048 * (t.val % 4) + k.val) := by
  rw [outsAt0_A m c t h (by omega) (by omega)]
  dsimp only
  rw [first_val]
  exact part_val h0 h1 t y

theorem acc_next (h0 : ∀ i : S8192x8192.Idx, X2 m c i = A (i 0).val (i 1).val) (h1 : ∀ i : S2048x8192.Idx, X1 m c i = B (i 0).val (i 1).val) (t : Fin cfg0.N) (h : ¬t.val % 4 = 0) (h3 : ¬t.val % 4 = 3) (y : S1024x1024.Idx) :
    (outsAt0 m c t.val t.isLt).2 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_B m c t h (by omega) h3]
  dsimp only
  rw [middle_val]
  exact congrArg (_ + ·) (part_val h0 h1 t y)

theorem acc_last (h0 : ∀ i : S8192x8192.Idx, X2 m c i = A (i 0).val (i 1).val) (h1 : ∀ i : S2048x8192.Idx, X1 m c i = B (i 0).val (i 1).val) (t : Fin cfg0.N) (h3 : t.val % 4 = 3) (y : S1024x1024.Idx) :
    (outsAt0 m c t.val t.isLt).1 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_C m c t (by omega) (by omega) h3]
  dsimp only
  rw [last_val, store_val]
  exact congrArg (_ + ·) (part_val h0 h1 t y)

/-- What the last point of a run writes: the whole sum. -/
theorem res_val (h0 : ∀ i : S8192x8192.Idx, X2 m c i = A (i 0).val (i 1).val) (h1 : ∀ i : S2048x8192.Idx, X1 m c i = B (i 0).val (i 1).val) (t : Fin cfg0.N) (h3 : t.val % 4 = 3) (y : S1024x1024.Idx) :
    (outsAt0 m c t.val t.isLt).1 y = ∑ k : Fin 8192, term A B (1024 * (t.val / 8) + (y 0).val) (1024 * (t.val / 4 % 2) + (y 1).val) k.val := by
  have hN : t.val < cfg0.N := t.isLt
  have a0 := acc_first h0 h1 ⟨t.val - 3, by omega⟩ (by show (t.val - 3) % 4 = 0; omega) y
  have a1 := acc_next h0 h1 ⟨t.val - 2, by omega⟩ (by show ¬(t.val - 2) % 4 = 0; omega) (by show ¬(t.val - 2) % 4 = 3; omega) y
  have a2 := acc_next h0 h1 ⟨t.val - 1, by omega⟩ (by show ¬(t.val - 1) % 4 = 0; omega) (by show ¬(t.val - 1) % 4 = 3; omega) y
  have a3 := acc_last h0 h1 t h3 y
  dsimp only at a0 a1 a2
  have e (u v : ℕ) (hu : u < cfg0.N) (hv : v < cfg0.N) (h : u = v) : outsAt0 m c u hu = outsAt0 m c v hv := by subst h; rfl
  rw [e (t.val - 2 - 1) (t.val - 3) _ (by omega) (by omega), a0] at a1
  rw [e (t.val - 1 - 1) (t.val - 2) _ (by omega) (by omega), a1] at a2
  rw [a2] at a3
  rw [a3, ← four_blocks (fun k => term A B (1024 * (t.val / 8) + (y 0).val) (1024 * (t.val / 4 % 2) + (y 1).val) k)]
  have d0 : (t.val - 3) % 4 = 0 := by omega
  have d1 : (t.val - 2) % 4 = 1 := by omega
  have d2 : (t.val - 1) % 4 = 2 := by omega
  simp only [d0, d1, d2, h3]
  have i0 : (t.val - 3) / 8 = t.val / 8 := by omega
  have i1 : (t.val - 2) / 8 = t.val / 8 := by omega
  have i2 : (t.val - 1) / 8 = t.val / 8 := by omega
  have j0 : (t.val - 3) / 4 = t.val / 4 := by omega
  have j1 : (t.val - 2) / 4 = t.val / 4 := by omega
  have j2 : (t.val - 1) / 4 = t.val / 4 := by omega
  simp only [i0, i1, i2, j0, j1, j2]

end

/-! The reference. -/

/-- An entry of the reference's result. -/
theorem ref_val {x1 : (⟨S2048x8192, .bf16⟩ : BufTy).Contents (Elt Ideal)} {x2 : (⟨S8192x8192, .bf16⟩ : BufTy).Contents (Elt Ideal)} {A B : ℕ → ℕ → EReal} (h1 : ∀ i : S2048x8192.Idx, x1 i = B (i 0).val (i 1).val) (h2 : ∀ i : S8192x8192.Idx, x2 i = A (i 0).val (i 1).val) (i : S8192x2048.Idx) :
    Cert.Ff1BwdRefIdeal.Read.val_main_v5 (F := Ideal) x1 x2 i = ∑ k : Fin 8192, term A B (i 0).val (i 1).val k.val := by
  rw [Cert.Ff1BwdRefIdeal.Read.val_main_v5_apply, Ideal.truncf_def, Cert.Ff1BwdRefIdeal.Read.val_main_v4_apply]
  refine Finset.sum_congr rfl fun k _ => ?_
  rw [Cert.Ff1BwdRefIdeal.Read.val_main_v3_apply, Cert.Ff1BwdRefIdeal.Read.val_main_v1_apply, Ideal.extf_def, Ideal.extf_def, h2, h1]
  rfl

/-- The result, as the reference's term of the kernel's arguments. -/
def result (c : Dev nD) : (⟨S8192x2048, .bf16⟩ : BufTy).Contents (Elt Ideal) := Cert.Ff1BwdRefIdeal.Read.val_main_v5 (F := Ideal) (X1 m c) (X2 m c)

/-- The kernel's result array. -/
theorem arr (c : Dev nD) : (dats m 0 c).arrAt 2 cfg0.N = result m c := by
  obtain ⟨A, h0⟩ := exists_nat (X2 m c)
  obtain ⟨B, h1⟩ := exists_nat (X1 m c)
  refine (dats m 0 c).arrAt_eq_of_covers 2 _ (by decide +kernel) fun t hf y => ?_
  have h3 := (flush0_2 t).1 hf
  have hy0 : (y 0).val < 1024 := (y 0).isLt
  have hy1 : (y 1).val < 1024 := (y 1).isLt
  blk_simp
  rw [after0_2]
  have e0 : (((win0_2.blk t).view.emb y) 0).val = 1024 * (t.val / 8) + (y 0).val := by blk_simp [ix2]; first | done | omega | (show (t.val / 8) * 1024 + _ = _; omega)
  have e1 : (((win0_2.blk t).view.emb y) 1).val = 1024 * (t.val / 4 % 2) + (y 1).val := by blk_simp [ix2]; first | done | omega | (show (t.val / 4 % 2) * 1024 + _ = _; omega)
  refine (res_val h0 h1 t h3 y).trans (Eq.trans ?_ (ref_val h1 h0 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.Ff1BwdRefIdeal.nD Cert.Ff1BwdRefIdeal.τ Cert.Ff1BwdRefIdeal.sig) → Buf (Elt Ideal) ℓ)

/-- The reference leaves its arguments, and has no semaphore. -/
theorem frame_ref (ρ : Dev Cert.Ff1BwdRefIdeal.nD → PrngReg) :
    θ_run (Cert.Ff1BwdRefIdeal.defs (F := Ideal)) (onTc (τ := Cert.Ff1BwdRefIdeal.τ) (Cert.Ff1BwdRefIdeal.main (F := Ideal))) ⟨m', fun _ => 0, ρ⟩ (fun r => (∀ c : Dev Cert.Ff1BwdRefIdeal.nD,
      r.2.mem ((c.tc : Thread Cert.Ff1BwdRefIdeal.nD Cert.Ff1BwdRefIdeal.τ).loc Cert.Ff1BwdRefIdeal.main_arg0) = m' ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m' ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m' ((c.tc : Thread Cert.Ff1BwdRefIdeal.nD Cert.Ff1BwdRefIdeal.τ).loc Cert.Ff1BwdRefIdeal.main_arg2))
      ∧ r.2.sem = fun _ => 0) :=
  (θ_run Cert.Ff1BwdRefIdeal.defs _ _).mono (fun r h => ⟨fun c => (h c).2, sem_eq_zero_of_no_sems (by decide) r.2⟩) (Cert.Ff1BwdRefIdeal.Value.run m' ρ)

/-- The reference's run, read at its result and its arguments, from a memory that agrees on the arguments. -/
theorem run_ref (ρ : Dev Cert.Ff1BwdRefIdeal.nD → PrngReg) (hA : ∀ c : Dev Cert.Ff1BwdIdeal.nD,
      m' ((c.tc : Thread Cert.Ff1BwdRefIdeal.nD Cert.Ff1BwdRefIdeal.τ).loc Cert.Ff1BwdRefIdeal.main_arg0) = m ((c.tc : Thread Cert.Ff1BwdIdeal.nD Cert.Ff1BwdIdeal.τ).loc Cert.Ff1BwdIdeal.main_arg0)
      ∧ m' ((c.tc : Thread Cert.Ff1BwdRefIdeal.nD Cert.Ff1BwdRefIdeal.τ).loc Cert.Ff1BwdRefIdeal.main_arg1) = m ((c.tc : Thread Cert.Ff1BwdIdeal.nD Cert.Ff1BwdIdeal.τ).loc Cert.Ff1BwdIdeal.main_arg1)
      ∧ m' ((c.tc : Thread Cert.Ff1BwdRefIdeal.nD Cert.Ff1BwdRefIdeal.τ).loc Cert.Ff1BwdRefIdeal.main_arg2) = m ((c.tc : Thread Cert.Ff1BwdIdeal.nD Cert.Ff1BwdIdeal.τ).loc Cert.Ff1BwdIdeal.main_arg2)) :
    θ_run (Cert.Ff1BwdRefIdeal.defs (F := Ideal)) (onTc (τ := Cert.Ff1BwdRefIdeal.τ) (Cert.Ff1BwdRefIdeal.main (F := Ideal))) ⟨m', fun _ => 0, ρ⟩ (fun r => ∀ c : Dev Cert.Ff1BwdRefIdeal.nD,
      r.2.mem ((c.tc : Thread Cert.Ff1BwdRefIdeal.nD Cert.Ff1BwdRefIdeal.τ).loc Cert.Ff1BwdRefIdeal.main_v5) = result m c
      ∧ r.2.mem ((c.tc : Thread Cert.Ff1BwdRefIdeal.nD Cert.Ff1BwdRefIdeal.τ).loc Cert.Ff1BwdRefIdeal.main_arg0) = m' ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m' ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m' ((c.tc : Thread Cert.Ff1BwdRefIdeal.nD Cert.Ff1BwdRefIdeal.τ).loc Cert.Ff1BwdRefIdeal.main_arg2)) := by
  refine (θ_run Cert.Ff1BwdRefIdeal.defs _ _).mono (fun r h c => ?_) (Cert.Ff1BwdRefIdeal.Value.run m' ρ)
  have e := hA c
  refine ⟨(h c).1.trans ?_, (h c).2⟩
  refine (Cert.Ff1BwdRefIdeal.Read.val_main_v5_eq (F := Ideal) _ _).trans ?_
  show _ = Cert.Ff1BwdRefIdeal.Read.val_main_v5 (F := Ideal) (m ((c.tc : Thread Cert.Ff1BwdIdeal.nD Cert.Ff1BwdIdeal.τ).loc Cert.Ff1BwdIdeal.main_arg1)) (m ((c.tc : Thread Cert.Ff1BwdIdeal.nD Cert.Ff1BwdIdeal.τ).loc Cert.Ff1BwdIdeal.main_arg2))
  rw [e.2.1, e.2.2]

end

end Cert.MmFf1Bwd

end
-- ==== Proof.MmFf1.lean ====
/- The feed-forward layer's first product. -/
module

public import proofs.«01_k».proof.Proof.MmTools
public import proofs.«01_k».proof.Proof.Gen.Ff1.Frame
public import proofs.«01_k».proof.Proof.Gen.Ff1Ideal.Frame
public import proofs.«01_k».proof.Proof.Gen.Ff1RefIdeal.Run
public import proofs.«01_k».proof.Proof.Gen.Ff1RefIdeal.Read
public import Idealize.ShloMosaic.Lib.Pipeline.ValueKit
public import Idealize.ShloMosaic.Lib.Quiescent

@[expose] public section

set_option maxRecDepth 16384

noncomputable section

namespace Cert.MmFf1

open Cert.Ff1Ideal Cert.Ff1Ideal.Gen Cert.MmTools Idealize.ShloMosaic Idealize.ShloMosaic.TcCoe Idealize.SL.Sem

/-- One term of the sum of products. -/
def term (A B : ℕ → ℕ → EReal) (i j k : ℕ) : EReal := A i k * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x2048 .bf16} {x1 : Vec Ideal S1x2048x2048 .bf16} {A B : ℕ → ℕ → EReal} (h0 : ∀ i : S1024x2048.Idx, x0 i = A (i 0).val (i 1).val) (h1 : ∀ i : S1x2048x2048.Idx, x1 i = B (i 1).val (i 2).val) (i : S1024x2048.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, drop_axis _ h1]
  rfl

/-- What a grid point leaves in the result's block. -/
theorem out_val (x0 : Vec Ideal S1024x2048 .bf16) (x1 : Vec Ideal S1x2048x2048 .bf16) : out0_2 (F := Ideal) x0 x1 = k0_pay1 x0 x1 := by
  unfold out0_2
  rw [View.canon_unit_zero hz]
  simp only [View.ld_unit_zero (S := S1024x2048) hz, View.ld_unit_zero (S := S1x2048x2048) hz3]

/-! Where each window's block lies. -/

theorem ix0 : ∀ t : Fin cfg0.N, win0_0.index t = ![t.val / 4, 0] := (by decide +kernel : ∀ t : Fin grid0.N, win0_0.index t = ![t.val / 4, 0])
theorem ix1 : ∀ t : Fin cfg0.N, win0_1.index t = ![t.val % 4, 0, 0] := (by decide +kernel : ∀ t : Fin grid0.N, win0_1.index t = ![t.val % 4, 0, 0])
theorem ix2 : ∀ t : Fin cfg0.N, win0_2.index t = ![t.val / 4, t.val % 4] := (by decide +kernel : ∀ t : Fin grid0.N, win0_2.index t = ![t.val / 4, t.val % 4])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x8192, .bf16⟩ : BufTy).Contents (Elt Ideal) := m ((c : Thread nD τ).loc main_arg1)

section
variable {m : (ℓ : Loc nD τ sig) → Buf (Elt Ideal) ℓ} {c : Dev nD} {A B : ℕ → ℕ → EReal}

/-- The weight as the kernel's host part hands it over: cut into its four column blocks. -/
theorem V1_val (h1 : ∀ i : S2048x8192.Idx, X1 m c i = B (i 0).val (i 1).val) (i : S4x2048x2048.Idx) : V m c main_v1 i = B (i 1).val (2048 * (i 0).val + (i 2).val) := by
  have e : V m c main_v1 = transpose S4x2048x2048 [1, 0, 2] (shapeCast S2048x4x2048 (X1 m c) shapeCasts_S2048x8192_S2048x4x2048) transposes_S2048x4x2048_S4x2048x2048_1_0_2 := by
    dsimp only [V, hostOps0]
    after_results_simp
    all_goals rfl
  rw [e]
  exact column_blocks _ _ h1 i

theorem rd0 (h0 : ∀ i : S8192x2048.Idx, X0 m c i = A (i 0).val (i 1).val) (t : Fin cfg0.N) (y : S1024x2048.Idx) : iblk m c 0 t y = A (1024 * (t.val / 4) + (y 0).val) ((y 1).val) := by
  blk_simp [iblk]
  have e0 : (((win0_0.blk t).view.emb y) 0).val = 1024 * (t.val / 4) + (y 0).val := by blk_simp [ix0]; first | done | omega | (show (t.val / 4) * 1024 + _ = _; omega)
  have e1 : (((win0_0.blk t).view.emb y) 1).val = (y 1).val := by blk_simp [ix0]; first | done | omega | (show (0) * 2048 + _ = _; omega)
  refine (congrFun (V_main_arg0 m c) ((win0_0.blk t).view.emb y)).trans ((h0 _).trans ?_)
  rw [e0, e1]

theorem rd1 (h1 : ∀ i : S2048x8192.Idx, X1 m c i = B (i 0).val (i 1).val) (t : Fin cfg0.N) (y : S1x2048x2048.Idx) : iblk m c 1 t y = B ((y 1).val) (2048 * (t.val % 4) + (y 2).val) := by
  have hy : (y 0).val < 1 := (y 0).isLt
  blk_simp [iblk]
  have e0 : (((win0_1.blk t).view.emb y) 0).val = t.val % 4 := by blk_simp [ix1]; first | done | omega | (show (t.val % 4) * 1 + _ = _; omega)
  have e1 : (((win0_1.blk t).view.emb y) 1).val = (y 1).val := by blk_simp [ix1]; first | done | omega | (show (0) * 2048 + _ = _; omega)
  have e2 : (((win0_1.blk t).view.emb y) 2).val = (y 2).val := by blk_simp [ix1]; first | done | omega | (show (0) * 2048 + _ = _; omega)
  refine (V1_val h1 ((win0_1.blk t).view.emb y)).trans ?_
  rw [e0, e1, e2]

/-- The product of the blocks that a grid point reads. -/
theorem part_val (h0 : ∀ i : S8192x2048.Idx, X0 m c i = A (i 0).val (i 1).val) (h1 : ∀ i : S2048x8192.Idx, X1 m c i = B (i 0).val (i 1).val) (t : Fin cfg0.N) (y : S1024x2048.Idx) : k0_pay1 (F := Ideal) (iblk m c 0 t) (iblk m c 1 t) y = ∑ k : Fin 2048, term A B (1024 * (t.val / 4) + (y 0).val) (2048 * (t.val % 4) + (y 1).val) (k.val) := by
  refine (pay_val (A := fun p q => A (1024 * (t.val / 4) + p) (q)) (B := fun p q => B (p) (2048 * (t.val % 4) + q)) (rd0 h0 t) (rd1 h1 t) y).trans ?_
  rfl

end

/-! The reference. -/

/-- An entry of the reference's result. -/
theorem ref_val {x0 : (⟨S8192x2048, .bf16⟩ : BufTy).Contents (Elt Ideal)} {x1 : (⟨S2048x8192, .bf16⟩ : BufTy).Contents (Elt Ideal)} {A B : ℕ → ℕ → EReal} (h0 : ∀ i : S8192x2048.Idx, x0 i = A (i 0).val (i 1).val) (h1 : ∀ i : S2048x8192.Idx, x1 i = B (i 0).val (i 1).val) (i : S8192x8192.Idx) :
    Cert.Ff1RefIdeal.Read.val_main_v3 (F := Ideal) x0 x1 i = ∑ k : Fin 2048, term A B (i 0).val (i 1).val k.val := by
  rw [Cert.Ff1RefIdeal.Read.val_main_v3_apply, Ideal.truncf_def, Cert.Ff1RefIdeal.Read.val_main_v2_apply]
  refine Finset.sum_congr rfl fun k _ => ?_
  rw [Cert.Ff1RefIdeal.Read.val_main_v0_apply, Cert.Ff1RefIdeal.Read.val_main_v1_apply, Ideal.extf_def, Ideal.extf_def, h0, h1]
  rfl

/-- The result, as the reference's term of the kernel's arguments. -/
def result (c : Dev nD) : (⟨S8192x8192, .bf16⟩ : BufTy).Contents (Elt Ideal) := Cert.Ff1RefIdeal.Read.val_main_v3 (F := Ideal) (X0 m c) (X1 m c)

/-- The kernel's result array. -/
theorem arr (c : Dev nD) : (dats m 0 c).arrAt 2 cfg0.N = result m c := by
  obtain ⟨A, h0⟩ := exists_nat (X0 m c)
  obtain ⟨B, h1⟩ := exists_nat (X1 m c)
  refine (dats m 0 c).arrAt_eq_of_covers 2 _ (by decide +kernel) fun t hf y => ?_
  have hy0 : (y 0).val < 1024 := (y 0).isLt
  have hy1 : (y 1).val < 2048 := (y 1).isLt
  blk_simp
  rw [after0_2]
  have e0 : (((win0_2.blk t).view.emb y) 0).val = 1024 * (t.val / 4) + (y 0).val := by blk_simp [ix2]; first | done | omega | (show (t.val / 4) * 1024 + _ = _; omega)
  have e1 : (((win0_2.blk t).view.emb y) 1).val = 2048 * (t.val % 4) + (y 1).val := by blk_simp [ix2]; first | done | omega | (show (t.val % 4) * 2048 + _ = _; omega)
  rw [out_val]
  refine (part_val h0 h1 t y).trans (Eq.trans ?_ (ref_val h0 h1 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (arr m c), h.2 c⟩) (θ_run_and (run_main m ρ) (unchanged m ρ))

section
variable (m' : (ℓ : Loc Cert.Ff1RefIdeal.nD Cert.Ff1RefIdeal.τ Cert.Ff1RefIdeal.sig) → Buf (Elt Ideal) ℓ)

/-- The reference leaves its arguments, and has no semaphore. -/
theorem frame_ref (ρ : Dev Cert.Ff1RefIdeal.nD → PrngReg) :
    θ_run (Cert.Ff1RefIdeal.defs (F := Ideal)) (onTc (τ := Cert.Ff1RefIdeal.τ) (Cert.Ff1RefIdeal.main (F := Ideal))) ⟨m', fun _ => 0, ρ⟩ (fun r => (∀ c : Dev Cert.Ff1RefIdeal.nD,
      r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))
      ∧ r.2.sem = fun _ => 0) :=
  (θ_run Cert.Ff1RefIdeal.defs _ _).mono (fun r h => ⟨fun c => (h c).2, sem_eq_zero_of_no_sems (by decide) r.2⟩) (Cert.Ff1RefIdeal.Value.run m' ρ)

/-- The reference's run, read at its result and its arguments, from a memory that agrees on the arguments. -/
theorem run_ref (ρ : Dev Cert.Ff1RefIdeal.nD → PrngReg) (hA : ∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) :
    θ_run (Cert.Ff1RefIdeal.defs (F := Ideal)) (onTc (τ := Cert.Ff1RefIdeal.τ) (Cert.Ff1RefIdeal.main (F := Ideal))) ⟨m', fun _ => 0, ρ⟩ (fun r => ∀ c : Dev Cert.Ff1RefIdeal.nD,
      r.2.mem ((c.tc : Thread Cert.Ff1RefIdeal.nD Cert.Ff1RefIdeal.τ).loc Cert.Ff1RefIdeal.main_v3) = result m c
      ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)) := by
  refine (θ_run Cert.Ff1RefIdeal.defs _ _).mono (fun r h c => ?_) (Cert.Ff1RefIdeal.Value.run m' ρ)
  have e := hA c
  refine ⟨(h c).1.trans ?_, (h c).2⟩
  refine (Cert.Ff1RefIdeal.Read.val_main_v3_eq (F := Ideal) _ _).trans ?_
  show _ = Cert.Ff1RefIdeal.Read.val_main_v3 (F := Ideal) (m ((c.tc : Thread Cert.Ff1Ideal.nD Cert.Ff1Ideal.τ).loc Cert.Ff1Ideal.main_arg0)) (m ((c.tc : Thread Cert.Ff1Ideal.nD Cert.Ff1Ideal.τ).loc Cert.Ff1Ideal.main_arg1))
  rw [e.1, e.2]

end

end Cert.MmFf1

end
-- ==== Proof.MmFf2.lean ====
/- The feed-forward layer's second product, with the squared rectifier. -/
module

public import proofs.«01_k».proof.Proof.MmTools
public import proofs.«01_k».proof.Proof.Gen.Ff2.Frame
public import proofs.«01_k».proof.Proof.Gen.Ff2Ideal.Frame
public import proofs.«01_k».proof.Proof.Gen.Ff2RefIdeal.Run
public import proofs.«01_k».proof.Proof.Gen.Ff2RefIdeal.Read
public import Idealize.ShloMosaic.Lib.Pipeline.ValueKit
public import Idealize.ShloMosaic.Lib.Quiescent

@[expose] public section

set_option maxRecDepth 16384

noncomputable section

namespace Cert.MmFf2

open Cert.Ff2Ideal Cert.Ff2Ideal.Gen Cert.MmTools Idealize.ShloMosaic Idealize.ShloMosaic.TcCoe Idealize.SL.Sem

/-- One term of the sum of products. -/
def term (A B : ℕ → ℕ → EReal) (i j k : ℕ) : EReal := sqr (A i k) * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x2048 .bf16} {x1 : Vec Ideal S2048x1024 .bf16} {A B : ℕ → ℕ → EReal} (h0 : ∀ i : S1024x2048.Idx, x0 i = A (i 0).val (i 1).val) (h1 : ∀ i : S2048x1024.Idx, x1 i = B (i 0).val (i 1).val) (i : S1024x1024.Idx) : k0_pay1 (F := Ideal) x0 x1 i = ∑ k : Fin 2048, term A B (i 0).val (i 1).val k.val := by
  unfold k0_pay1
  have q : ∀ j : S1024x2048.Idx, max (x0 j) (Ideal.ofBits .f32 0x00000000#32) * max (x0 j) (Ideal.ofBits .f32 0x00000000#32) = sqr (A (j 0).val (j 1).val) := fun j => by
    rw [Ideal.ofBits_zero_f32, h0]; rfl
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  exact congrArg₂ (· * ·) (q _) (h1 _)

/-- The first point of a run of four leaves its own product. -/
theorem first_val (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : cond0_0 i) (hc1 : ¬cond0_1 i) (hc2 : ¬cond0_2 i) (x0 : Vec Ideal S1024x2048 .bf16) (x1 : Vec Ideal S2048x1024 .bf16) :
    sout0_A_0 (F := Ideal) c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  unfold k0_pay2
  simp only [View.readAt_eq_ld, w3.read_unread, w4.read_unread, w6.read_unread, View.ld_unit_zero (S := S1024x2048) hz, View.ld_unit_zero (S := S2048x1024) hz, View.ld_unit_zero (S := S1024x1024) hz, shapeCast_self]

/-- A point in the middle of a run adds its product to what the point before left. -/
theorem middle_val (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : ¬cond0_2 i) (x0 : Vec Ideal S1024x2048 .bf16) (x1 : Vec Ideal S2048x1024 .bf16) (xs : Vec Ideal S1024x1024 .f32) :
    sout0_B_0 (F := Ideal) c i a3 w3 a4 w4 a5 w5 a6 w6 hc0 hc1 hc2 x0 x1 xs = addf xs (k0_pay1 x0 x1) := by
  unfold sout0_B_0
  rw [View.read_writes_eq_canon _ _ _ (scover0_B_0 c i a3 w3 a4 w4 a5 w5 a6 w6 hc0 hc1 hc2 x0 x1 xs)]
  unfold kernelRun0_B
  dsimp only
  sl_unfold_words
  rw [View.canon_unit_zero hz]
  unfold k0_pay3
  simp only [View.readAt_eq_ld, w3.read_unread, w4.read_unread, w6.read_unread, View.ld_unit_zero (S := S1024x2048) hz, View.ld_unit_zero (S := S2048x1024) hz, View.ld_unit_zero (S := S1024x1024) hz, shapeCast_self]

/-- The last point of a run writes the sum of what the point before left and its own product. -/
theorem last_val (c : Dev nD) (i : grid0.Coords) (a3 : Memref sig .tc .vmem S1024x2048 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : cond0_2 i) (x0 : Vec Ideal S1024x2048 .bf16) (x1 : Vec Ideal S2048x1024 .bf16) (xs : Vec Ideal S1024x1024 .f32) :
    out0_C_2 (F := Ideal) c i a3 w3 a4 w4 a5 w5 a6 w6 hc0 hc1 hc2 x0 x1 xs = k0_pay4 (addf xs (k0_pay1 x0 x1)) := by
  unfold out0_C_2
  rw [View.read_writes_eq_canon _ _ _ (cover0_C_2 c i a3 w3 a4 w4 a5 w5 a6 w6 hc0 hc1 hc2 x0 x1 xs)]
  unfold kernelRun0_C
  dsimp only
  sl_unfold_words
  rw [View.canon_unit_zero hz, View.readCov_unit_zero (S := S1024x1024) _ hz]
  unfold k0_pay3
  simp only [View.readAt_eq_ld, w3.read_unread, w4.read_unread, w6.read_unread, View.ld_unit_zero (S := S1024x2048) hz, View.ld_unit_zero (S := S2048x1024) hz, View.ld_unit_zero (S := S1024x1024) hz, shapeCast_self]

theorem store_val (x : Vec Ideal S1024x1024 .f32) (i : S1024x1024.Idx) : k0_pay4 (F := Ideal) x i = x i := rfl

/-! Where each window's block lies. -/

theorem ix0 : ∀ t : Fin cfg0.N, win0_0.index t = ![t.val / 8, t.val % 4] := (by decide +kernel : ∀ t : Fin grid0.N, win0_0.index t = ![t.val / 8, t.val % 4])
theorem ix1 : ∀ t : Fin cfg0.N, win0_1.index t = ![t.val % 4, t.val / 4 % 2] := (by decide +kernel : ∀ t : Fin grid0.N, win0_1.index t = ![t.val % 4, t.val / 4 % 2])
theorem ix2 : ∀ t : Fin cfg0.N, win0_2.index t = ![t.val / 8, t.val / 4 % 2] := (by decide +kernel : ∀ t : Fin grid0.N, win0_2.index t = ![t.val / 8, t.val / 4 % 2])

variable (m : (ℓ : Loc nD τ sig) → Buf (Elt Ideal) ℓ)

abbrev X0 (c : Dev nD) : (⟨S8192x8192, .bf16⟩ : BufTy).Contents (Elt Ideal) := m ((c : Thread nD τ).loc main_arg0)
abbrev X1 (c : Dev nD) : (⟨S8192x2048, .bf16⟩ : BufTy).Contents (Elt Ideal) := m ((c : Thread nD τ).loc main_arg1)

section
variable {m : (ℓ : Loc nD τ sig) → Buf (Elt Ideal) ℓ} {c : Dev nD} {A B : ℕ → ℕ → EReal}

theorem rd0 (h0 : ∀ i : S8192x8192.Idx, X0 m c i = A (i 0).val (i 1).val) (t : Fin cfg0.N) (y : S1024x2048.Idx) : iblk m c 0 t y = A (1024 * (t.val / 8) + (y 0).val) (2048 * (t.val % 4) + (y 1).val) := by
  blk_simp [iblk]
  have e0 : (((win0_0.blk t).view.emb y) 0).val = 1024 * (t.val / 8) + (y 0).val := by blk_simp [ix0]; first | done | omega | (show (t.val / 8) * 1024 + _ = _; omega)
  have e1 : (((win0_0.blk t).view.emb y) 1).val = 2048 * (t.val % 4) + (y 1).val := by blk_simp [ix0]; first | done | omega | (show (t.val % 4) * 2048 + _ = _; omega)
  refine (congrFun (V_main_arg0 m c) ((win0_0.blk t).view.emb y)).trans ((h0 _).trans ?_)
  rw [e0, e1]

theorem rd1 (h1 : ∀ i : S8192x2048.Idx, X1 m c i = B (i 0).val (i 1).val) (t : Fin cfg0.N) (y : S2048x1024.Idx) : iblk m c 1 t y = B (2048 * (t.val % 4) + (y 0).val) (1024 * (t.val / 4 % 2) + (y 1).val) := by
  blk_simp [iblk]
  have e0 : (((win0_1.blk t).view.emb y) 0).val = 2048 * (t.val % 4) + (y 0).val := by blk_simp [ix1]; first | done | omega | (show (t.val % 4) * 2048 + _ = _; omega)
  have e1 : (((win0_1.blk t).view.emb y) 1).val = 1024 * (t.val / 4 % 2) + (y 1).val := by blk_simp [ix1]; first | done | omega | (show (t.val / 4 % 2) * 1024 + _ = _; omega)
  refine (congrFun (V_main_arg1 m c) ((win0_1.blk t).view.emb y)).trans ((h1 _).trans ?_)
  rw [e0, e1]

/-- The product of the blocks that a grid point reads. -/
theorem part_val (h0 : ∀ i : S8192x8192.Idx, X0 m c i = A (i 0).val (i 1).val) (h1 : ∀ i : S8192x2048.Idx, X1 m c i = B (i 0).val (i 1).val) (t : Fin cfg0.N) (y : S1024x1024.Idx) : k0_pay1 (F := Ideal) (iblk m c 0 t) (iblk m c 1 t) y = ∑ k : Fin 2048, term A B (1024 * (t.val / 8) + (y 0).val) (1024 * (t.val / 4 % 2) + (y 1).val) (2048 * (t.val % 4) + k.val) := by
  refine (pay_val (A := fun p q => A (1024 * (t.val / 8) + p) (2048 * (t.val % 4) + q)) (B := fun p q => B (2048 * (t.val % 4) + p) (1024 * (t.val / 4 % 2) + q)) (rd0 h0 t) (rd1 h1 t) y).trans ?_
  rfl

theorem acc_first (h0 : ∀ i : S8192x8192.Idx, X0 m c i = A (i 0).val (i 1).val) (h1 : ∀ i : S8192x2048.Idx, X1 m c i = B (i 0).val (i 1).val) (t : Fin cfg0.N) (h : t.val % 4 = 0) (y : S1024x1024.Idx) :
    (outsAt0 m c t.val t.isLt).2 y = ∑ k : Fin 2048, term A B (1024 * (t.val / 8) + (y 0).val) (1024 * (t.val / 4 % 2) + (y 1).val) (2048 * (t.val % 4) + k.val) := by
  rw [outsAt0_A m c t h (by omega) (by omega)]
  dsimp only
  rw [first_val]
  exact part_val h0 h1 t y

theorem acc_next (h0 : ∀ i : S8192x8192.Idx, X0 m c i = A (i 0).val (i 1).val) (h1 : ∀ i : S8192x2048.Idx, X1 m c i = B (i 0).val (i 1).val) (t : Fin cfg0.N) (h : ¬t.val % 4 = 0) (h3 : ¬t.val % 4 = 3) (y : S1024x1024.Idx) :
    (outsAt0 m c t.val t.isLt).2 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_B m c t h (by omega) h3]
  dsimp only
  rw [middle_val]
  exact congrArg (_ + ·) (part_val h0 h1 t y)

theorem acc_last (h0 : ∀ i : S8192x8192.Idx, X0 m c i = A (i 0).val (i 1).val) (h1 : ∀ i : S8192x2048.Idx, X1 m c i = B (i 0).val (i 1).val) (t : Fin cfg0.N) (h3 : t.val % 4 = 3) (y : S1024x1024.Idx) :
    (outsAt0 m c t.val t.isLt).1 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_C m c t (by omega) (by omega) h3]
  dsimp only
  rw [last_val, store_val]
  exact congrArg (_ + ·) (part_val h0 h1 t y)

/-- What the last point of a run writes: the whole sum. -/
theorem res_val (h0 : ∀ i : S8192x8192.Idx, X0 m c i = A (i 0).val (i 1).val) (h1 : ∀ i : S8192x2048.Idx, X1 m c i = B (i 0).val (i 1).val) (t : Fin cfg0.N) (h3 : t.val % 4 = 3) (y : S1024x1024.Idx) :
    (outsAt0 m c t.val t.isLt).1 y = ∑ k : Fin 8192, term A B (1024 * (t.val / 8) + (y 0).val) (1024 * (t.val / 4 % 2) + (y 1).val) k.val := by
  have hN : t.val < cfg0.N := t.isLt
  have a0 := acc_first h0 h1 ⟨t.val - 3, by omega⟩ (by show (t.val - 3) % 4 = 0; omega) y
  have a1 := acc_next h0 h1 ⟨t.val - 2, by omega⟩ (by show ¬(t.val - 2) % 4 = 0; omega) (by show ¬(t.val - 2) % 4 = 3; omega) y
  have a2 := acc_next h0 h1 ⟨t.val - 1, by omega⟩ (by show ¬(t.val - 1) % 4 = 0; omega) (by show ¬(t.val - 1) % 4 = 3; omega) y
  have a3 := acc_last h0 h1 t h3 y
  dsimp only at a0 a1 a2
  have e (u v : ℕ) (hu : u < cfg0.N) (hv : v < cfg0.N) (h : u = v) : outsAt0 m c u hu = outsAt0 m c v hv := by subst h; rfl
  rw [e (t.val - 2 - 1) (t.val - 3) _ (by omega) (by omega), a0] at a1
  rw [e (t.val - 1 - 1) (t.val - 2) _ (by omega) (by omega), a1] at a2
  rw [a2] at a3
  rw [a3, ← four_blocks (fun k => term A B (1024 * (t.val / 8) + (y 0).val) (1024 * (t.val / 4 % 2) + (y 1).val) k)]
  have d0 : (t.val - 3) % 4 = 0 := by omega
  have d1 : (t.val - 2) % 4 = 1 := by omega
  have d2 : (t.val - 1) % 4 = 2 := by omega
  simp only [d0, d1, d2, h3]
  have i0 : (t.val - 3) / 8 = t.val / 8 := by omega
  have i1 : (t.val - 2) / 8 = t.val / 8 := by omega
  have i2 : (t.val - 1) / 8 = t.val / 8 := by omega
  have j0 : (t.val - 3) / 4 = t.val / 4 := by omega
  have j1 : (t.val - 2) / 4 = t.val / 4 := by omega
  have j2 : (t.val - 1) / 4 = t.val / 4 := by omega
  simp only [i0, i1, i2, j0, j1, j2]

end

/-! The reference. -/

/-- An entry of the reference's result. -/
theorem ref_val {x0 : (⟨S8192x8192, .bf16⟩ : BufTy).Contents (Elt Ideal)} {x1 : (⟨S8192x2048, .bf16⟩ : BufTy).Contents (Elt Ideal)} {A B : ℕ → ℕ → EReal} (h0 : ∀ i : S8192x8192.Idx, x0 i = A (i 0).val (i 1).val) (h1 : ∀ i : S8192x2048.Idx, x1 i = B (i 0).val (i 1).val) (i : S8192x2048.Idx) :
    Cert.Ff2RefIdeal.Read.val_main_v5 (F := Ideal) x0 x1 i = ∑ k : Fin 8192, term A B (i 0).val (i 1).val k.val := by
  have q : ∀ j : S8192x8192.Idx, Cert.Ff2RefIdeal.Read.val_main_v2 (F := Ideal) x0 j = sqr (A (j 0).val (j 1).val) := fun j => by
    rw [Cert.Ff2RefIdeal.Read.val_main_v2_apply, Cert.Ff2RefIdeal.Read.val_main_v1_apply, Cert.Ff2RefIdeal.Read.val_main_v0_apply, Ideal.extf_def,
      Cert.Ff2RefIdeal.Read.val_main_call0_v0_apply, Cert.Ff2RefIdeal.Read.val_main_call0_cst_apply, h0]
    show max _ (Ideal.ofBits .f32 0x00000000#32) * max _ (Ideal.ofBits .f32 0x00000000#32) = _
    rw [Ideal.ofBits_zero_f32]; rfl
  rw [Cert.Ff2RefIdeal.Read.val_main_v5_apply, Ideal.truncf_def, Cert.Ff2RefIdeal.Read.val_main_v4_apply]
  refine Finset.sum_congr rfl fun k _ => ?_
  rw [q, Cert.Ff2RefIdeal.Read.val_main_v3_apply, Ideal.extf_def, h1]
  rfl

/-- The result, as the reference's term of the kernel's arguments. -/
def result (c : Dev nD) : (⟨S8192x2048, .bf16⟩ : BufTy).Contents (Elt Ideal) := Cert.Ff2RefIdeal.Read.val_main_v5 (F := Ideal) (X0 m c) (X1 m c)

/-- The kernel's result array. -/
theorem arr (c : Dev nD) : (dats m 0 c).arrAt 2 cfg0.N = result m c := by
  obtain ⟨A, h0⟩ := exists_nat (X0 m c)
  obtain ⟨B, h1⟩ := exists_nat (X1 m c)
  refine (dats m 0 c).arrAt_eq_of_covers 2 _ (by decide +kernel) fun t hf y => ?_
  have h3 := (flush0_2 t).1 hf
  have hy0 : (y 0).val < 1024 := (y 0).isLt
  have hy1 : (y 1).val < 1024 := (y 1).isLt
  blk_simp
  rw [after0_2]
  have e0 : (((win0_2.blk t).view.emb y) 0).val = 1024 * (t.val / 8) + (y 0).val := by blk_simp [ix2]; first | done | omega | (show (t.val / 8) * 1024 + _ = _; omega)
  have e1 : (((win0_2.blk t).view.emb y) 1).val = 1024 * (t.val / 4 % 2) + (y 1).val := by blk_simp [ix2]; first | done | omega | (show (t.val / 4 % 2) * 1024 + _ = _; omega)
  refine (res_val h0 h1 t h3 y).trans (Eq.trans ?_ (ref_val h0 h1 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (arr m c), h.2 c⟩) (θ_run_and (run_main m ρ) (unchanged m ρ))

section
variable (m' : (ℓ : Loc Cert.Ff2RefIdeal.nD Cert.Ff2RefIdeal.τ Cert.Ff2RefIdeal.sig) → Buf (Elt Ideal) ℓ)

/-- The reference leaves its arguments, and has no semaphore. -/
theorem frame_ref (ρ : Dev Cert.Ff2RefIdeal.nD → PrngReg) :
    θ_run (Cert.Ff2RefIdeal.defs (F := Ideal)) (onTc (τ := Cert.Ff2RefIdeal.τ) (Cert.Ff2RefIdeal.main (F := Ideal))) ⟨m', fun _ => 0, ρ⟩ (fun r => (∀ c : Dev Cert.Ff2RefIdeal.nD,
      r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))
      ∧ r.2.sem = fun _ => 0) :=
  (θ_run Cert.Ff2RefIdeal.defs _ _).mono (fun r h => ⟨fun c => (h c).2, sem_eq_zero_of_no_sems (by decide) r.2⟩) (Cert.Ff2RefIdeal.Value.run m' ρ)

/-- The reference's run, read at its result and its arguments, from a memory that agrees on the arguments. -/
theorem run_ref (ρ : Dev Cert.Ff2RefIdeal.nD → PrngReg) (hA : ∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) :
    θ_run (Cert.Ff2RefIdeal.defs (F := Ideal)) (onTc (τ := Cert.Ff2RefIdeal.τ) (Cert.Ff2RefIdeal.main (F := Ideal))) ⟨m', fun _ => 0, ρ⟩ (fun r => ∀ c : Dev Cert.Ff2RefIdeal.nD,
      r.2.mem ((c.tc : Thread Cert.Ff2RefIdeal.nD Cert.Ff2RefIdeal.τ).loc Cert.Ff2RefIdeal.main_v5) = result m c
      ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)) := by
  refine (θ_run Cert.Ff2RefIdeal.defs _ _).mono (fun r h c => ?_) (Cert.Ff2RefIdeal.Value.run m' ρ)
  have e := hA c
  refine ⟨(h c).1.trans ?_, (h c).2⟩
  refine (Cert.Ff2RefIdeal.Read.val_main_v5_eq (F := Ideal) _ _).trans ?_
  show _ = Cert.Ff2RefIdeal.Read.val_main_v5 (F := Ideal) (m ((c.tc : Thread Cert.Ff2Ideal.nD Cert.Ff2Ideal.τ).loc Cert.Ff2Ideal.main_arg0)) (m ((c.tc : Thread Cert.Ff2Ideal.nD Cert.Ff2Ideal.τ).loc Cert.Ff2Ideal.main_arg1))
  rw [e.1, e.2]

end

end Cert.MmFf2

end
-- ==== Proof.MmMixBwd.lean ====
/- The gradient of the mixer's concatenated branches. -/
module

public import proofs.«01_k».proof.Proof.MmTools
public import proofs.«01_k».proof.Proof.Gen.MixBwd.Frame
public import proofs.«01_k».proof.Proof.Gen.MixBwdIdeal.Frame
public import proofs.«01_k».proof.Proof.Gen.MixBwdRefIdeal.Run
public import proofs.«01_k».proof.Proof.Gen.MixBwdRefIdeal.Read
public import Idealize.ShloMosaic.Lib.Pipeline.ValueKit
public import Idealize.ShloMosaic.Lib.Quiescent

@[expose] public section

set_option maxRecDepth 16384

noncomputable section

namespace Cert.MmMixBwd

open Cert.MixBwdIdeal Cert.MixBwdIdeal.Gen Cert.MmTools Idealize.ShloMosaic Idealize.ShloMosaic.TcCoe Idealize.SL.Sem

/-- One term of the sum of products. -/
def term (A B : ℕ → ℕ → EReal) (i j k : ℕ) : EReal := A i k * B j k

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x2048 .bf16} {x1 : Vec Ideal S2048x2048 .bf16} {A B : ℕ → ℕ → EReal} (h0 : ∀ i : S1024x2048.Idx, x0 i = A (i 0).val (i 1).val) (h1 : ∀ i : S2048x2048.Idx, x1 i = B (i 0).val (i 1).val) (i : S1024x2048.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, h1]
  rfl

/-- What a grid point leaves in the result's block. -/
theorem out_val (x0 : Vec Ideal S1024x2048 .bf16) (x1 : Vec Ideal S2048x2048 .bf16) : out0_2 (F := Ideal) x0 x1 = k0_pay1 x0 x1 := by
  unfold out0_2
  rw [View.canon_unit_zero hz]
  simp only [View.ld_unit_zero (S := S1024x2048) hz, View.ld_unit_zero (S := S2048x2048) hz]

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x2048, .bf16⟩ : BufTy).Contents (Elt Ideal) := m ((c : Thread nD τ).loc main_arg1)
abbrev X2 (c : Dev nD) : (⟨S8192x2048, .bf16⟩ : BufTy).Contents (Elt Ideal) := m ((c : Thread nD τ).loc main_arg2)

section
variable {m : (ℓ : Loc nD τ sig) → Buf (Elt Ideal) ℓ} {c : Dev nD} {A B : ℕ → ℕ → EReal}

theorem rd0 (h0 : ∀ i : S8192x2048.Idx, X2 m c i = A (i 0).val (i 1).val) (t : Fin cfg0.N) (y : S1024x2048.Idx) : iblk m c 0 t y = A (1024 * (t.val) + (y 0).val) ((y 1).val) := by
  blk_simp [iblk]
  have e0 : (((win0_0.blk t).view.emb y) 0).val = 1024 * (t.val) + (y 0).val := by blk_simp [ix0]; first | done | omega | (show (t.val) * 1024 + _ = _; omega)
  have e1 : (((win0_0.blk t).view.emb y) 1).val = (y 1).val := by blk_simp [ix0]; first | done | omega | (show (0) * 2048 + _ = _; omega)
  refine (congrFun (V_main_arg2 m c) ((win0_0.blk t).view.emb y)).trans ((h0 _).trans ?_)
  rw [e0, e1]

theorem rd1 (h1 : ∀ i : S2048x2048.Idx, X1 m c i = B (i 0).val (i 1).val) (t : Fin cfg0.N) (y : S2048x2048.Idx) : iblk m c 1 t y = B ((y 0).val) ((y 1).val) := by
  blk_simp [iblk]
  have e0 : (((win0_1.blk t).view.emb y) 0).val = (y 0).val := by blk_simp [ix1]; first | done | omega | (show (0) * 2048 + _ = _; omega)
  have e1 : (((win0_1.blk t).view.emb y) 1).val = (y 1).val := by blk_simp [ix1]; first | done | omega | (show (0) * 2048 + _ = _; omega)
  refine (congrFun (V_main_arg1 m c) ((win0_1.blk t).view.emb y)).trans ((h1 _).trans ?_)
  rw [e0, e1]

/-- The product of the blocks that a grid point reads. -/
theorem part_val (h0 : ∀ i : S8192x2048.Idx, X2 m c i = A (i 0).val (i 1).val) (h1 : ∀ i : S2048x2048.Idx, X1 m c i = B (i 0).val (i 1).val) (t : Fin cfg0.N) (y : S1024x2048.Idx) : k0_pay1 (F := Ideal) (iblk m c 0 t) (iblk m c 1 t) y = ∑ k : Fin 2048, term A B (1024 * (t.val) + (y 0).val) (y 1).val (k.val) := by
  refine (pay_val (A := fun p q => A (1024 * (t.val) + p) (q)) (B := fun p q => B (p) (q)) (rd0 h0 t) (rd1 h1 t) y).trans ?_
  rfl

end

/-! The reference. -/

/-- An entry of the reference's result. -/
theorem ref_val {x1 : (⟨S2048x2048, .bf16⟩ : BufTy).Contents (Elt Ideal)} {x2 : (⟨S8192x2048, .bf16⟩ : BufTy).Contents (Elt Ideal)} {A B : ℕ → ℕ → EReal} (h1 : ∀ i : S2048x2048.Idx, x1 i = B (i 0).val (i 1).val) (h2 : ∀ i : S8192x2048.Idx, x2 i = A (i 0).val (i 1).val) (i : S8192x2048.Idx) :
    Cert.MixBwdRefIdeal.Read.val_main_v5 (F := Ideal) x1 x2 i = ∑ k : Fin 2048, term A B (i 0).val (i 1).val k.val := by
  rw [Cert.MixBwdRefIdeal.Read.val_main_v5_apply, Ideal.truncf_def, Cert.MixBwdRefIdeal.Read.val_main_v4_apply]
  refine Finset.sum_congr rfl fun k _ => ?_
  rw [Cert.MixBwdRefIdeal.Read.val_main_v3_apply, Cert.MixBwdRefIdeal.Read.val_main_v1_apply, Ideal.extf_def, Ideal.extf_def, h2, h1]
  rfl

/-- The result, as the reference's term of the kernel's arguments. -/
def result (c : Dev nD) : (⟨S8192x2048, .bf16⟩ : BufTy).Contents (Elt Ideal) := Cert.MixBwdRefIdeal.Read.val_main_v5 (F := Ideal) (X1 m c) (X2 m c)

/-- The kernel's result array. -/
theorem arr (c : Dev nD) : (dats m 0 c).arrAt 2 cfg0.N = result m c := by
  obtain ⟨A, h0⟩ := exists_nat (X2 m c)
  obtain ⟨B, h1⟩ := exists_nat (X1 m c)
  refine (dats m 0 c).arrAt_eq_of_covers 2 _ (by decide +kernel) fun t hf y => ?_
  have hy0 : (y 0).val < 1024 := (y 0).isLt
  have hy1 : (y 1).val < 2048 := (y 1).isLt
  blk_simp
  rw [after0_2]
  have e0 : (((win0_2.blk t).view.emb y) 0).val = 1024 * (t.val) + (y 0).val := by blk_simp [ix2]; first | done | omega | (show (t.val) * 1024 + _ = _; omega)
  have e1 : (((win0_2.blk t).view.emb y) 1).val = (y 1).val := by blk_simp [ix2]; first | done | omega | (show (0) * 2048 + _ = _; omega)
  rw [out_val]
  refine (part_val h0 h1 t y).trans (Eq.trans ?_ (ref_val h1 h0 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.MixBwdRefIdeal.nD Cert.MixBwdRefIdeal.τ Cert.MixBwdRefIdeal.sig) → Buf (Elt Ideal) ℓ)

/-- The reference leaves its arguments, and has no semaphore. -/
theorem frame_ref (ρ : Dev Cert.MixBwdRefIdeal.nD → PrngReg) :
    θ_run (Cert.MixBwdRefIdeal.defs (F := Ideal)) (onTc (τ := Cert.MixBwdRefIdeal.τ) (Cert.MixBwdRefIdeal.main (F := Ideal))) ⟨m', fun _ => 0, ρ⟩ (fun r => (∀ c : Dev Cert.MixBwdRefIdeal.nD,
      r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2))
      ∧ r.2.sem = fun _ => 0) :=
  (θ_run Cert.MixBwdRefIdeal.defs _ _).mono (fun r h => ⟨fun c => (h c).2, sem_eq_zero_of_no_sems (by decide) r.2⟩) (Cert.MixBwdRefIdeal.Value.run m' ρ)

/-- The reference's run, read at its result and its arguments, from a memory that agrees on the arguments. -/
theorem run_ref (ρ : Dev Cert.MixBwdRefIdeal.nD → PrngReg) (hA : ∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)) :
    θ_run (Cert.MixBwdRefIdeal.defs (F := Ideal)) (onTc (τ := Cert.MixBwdRefIdeal.τ) (Cert.MixBwdRefIdeal.main (F := Ideal))) ⟨m', fun _ => 0, ρ⟩ (fun r => ∀ c : Dev Cert.MixBwdRefIdeal.nD,
      r.2.mem ((c.tc : Thread Cert.MixBwdRefIdeal.nD Cert.MixBwdRefIdeal.τ).loc Cert.MixBwdRefIdeal.main_v5) = result m c
      ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)) := by
  refine (θ_run Cert.MixBwdRefIdeal.defs _ _).mono (fun r h c => ?_) (Cert.MixBwdRefIdeal.Value.run m' ρ)
  have e := hA c
  refine ⟨(h c).1.trans ?_, (h c).2⟩
  refine (Cert.MixBwdRefIdeal.Read.val_main_v5_eq (F := Ideal) _ _).trans ?_
  show _ = Cert.MixBwdRefIdeal.Read.val_main_v5 (F := Ideal) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2))
  rw [e.2.1, e.2.2]

end

end Cert.MmMixBwd

end
-- ==== Proof.MmMixWgrad.lean ====
/- The gradient of the mixer's output weight. -/
module

public import proofs.«01_k».proof.Proof.MmTools
public import proofs.«01_k».proof.Proof.Gen.MixWgrad.Frame
public import proofs.«01_k».proof.Proof.Gen.MixWgradIdeal.Frame
public import proofs.«01_k».proof.Proof.Gen.MixWgradRefIdeal.Run
public import proofs.«01_k».proof.Proof.Gen.MixWgradRefIdeal.Read
public import Idealize.ShloMosaic.Lib.Pipeline.ValueKit
public import Idealize.ShloMosaic.Lib.Quiescent

@[expose] public section

set_option maxRecDepth 16384

noncomputable section

namespace Cert.MmMixWgrad

open Cert.MixWgradIdeal Cert.MixWgradIdeal.Gen Cert.MmTools Idealize.ShloMosaic Idealize.ShloMosaic.TcCoe Idealize.SL.Sem

/-- One term of the sum of products. -/
def term (A B : ℕ → ℕ → EReal) (i j k : ℕ) : EReal := A k i * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S2048x1024 .bf16} {x1 : Vec Ideal S2048x1024 .bf16} {A B : ℕ → ℕ → EReal} (h0 : ∀ i : S2048x1024.Idx, x0 i = A (i 0).val (i 1).val) (h1 : ∀ i : S2048x1024.Idx, x1 i = B (i 0).val (i 1).val) (i : S1024x1024.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, h1]
  rfl

/-- The first point of a run of four leaves its own product. -/
theorem first_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : cond0_0 i) (hc1 : ¬cond0_1 i) (hc2 : ¬cond0_2 i) (x0 : Vec Ideal S2048x1024 .bf16) (x1 : Vec Ideal S2048x1024 .bf16) :
    sout0_A_0 (F := Ideal) c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  unfold k0_pay2
  simp only [View.readAt_eq_ld, w3.read_unread, w4.read_unread, w6.read_unread, View.ld_unit_zero (S := S2048x1024) hz, View.ld_unit_zero (S := S1024x1024) hz, shapeCast_self]

/-- A point in the middle of a run adds its product to what the point before left. -/
theorem middle_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : ¬cond0_2 i) (x0 : Vec Ideal S2048x1024 .bf16) (x1 : Vec Ideal S2048x1024 .bf16) (xs : Vec Ideal S1024x1024 .f32) :
    sout0_B_0 (F := Ideal) c i a3 w3 a4 w4 a5 w5 a6 w6 hc0 hc1 hc2 x0 x1 xs = addf xs (k0_pay1 x0 x1) := by
  unfold sout0_B_0
  rw [View.read_writes_eq_canon _ _ _ (scover0_B_0 c i a3 w3 a4 w4 a5 w5 a6 w6 hc0 hc1 hc2 x0 x1 xs)]
  unfold kernelRun0_B
  dsimp only
  sl_unfold_words
  rw [View.canon_unit_zero hz]
  unfold k0_pay3
  simp only [View.readAt_eq_ld, w3.read_unread, w4.read_unread, w6.read_unread, View.ld_unit_zero (S := S2048x1024) hz, View.ld_unit_zero (S := S1024x1024) hz, shapeCast_self]

/-- The last point of a run writes the sum of what the point before left and its own product. -/
theorem last_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1024x1024 .bf16) (w5 : a5.IsWhole) (a6 : Memref sig .tc .vmem S1024x1024 .f32) (w6 : a6.IsWhole) (hc0 : ¬cond0_0 i) (hc1 : cond0_1 i) (hc2 : cond0_2 i) (x0 : Vec Ideal S2048x1024 .bf16) (x1 : Vec Ideal S2048x1024 .bf16) (xs : Vec Ideal S1024x1024 .f32) :
    out0_C_2 (F := Ideal) c i a3 w3 a4 w4 a5 w5 a6 w6 hc0 hc1 hc2 x0 x1 xs = k0_pay4 (addf xs (k0_pay1 x0 x1)) := by
  unfold out0_C_2
  rw [View.read_writes_eq_canon _ _ _ (cover0_C_2 c i a3 w3 a4 w4 a5 w5 a6 w6 hc0 hc1 hc2 x0 x1 xs)]
  unfold kernelRun0_C
  dsimp only
  sl_unfold_words
  rw [View.canon_unit_zero hz, View.readCov_unit_zero (S := S1024x1024) _ hz]
  unfold k0_pay3
  simp only [View.readAt_eq_ld, w3.read_unread, w4.read_unread, w6.read_unread, View.ld_unit_zero (S := S2048x1024) hz, View.ld_unit_zero (S := S1024x1024) hz, shapeCast_self]

theorem store_val (x : Vec Ideal S1024x1024 .f32) (i : S1024x1024.Idx) : k0_pay4 (F := Ideal) x i = x i := rfl

/-! Where each window's block lies. -/

theorem ix0 : ∀ t : Fin cfg0.N, win0_0.index t = ![t.val % 4, t.val / 8] := (by decide +kernel : ∀ t : Fin grid0.N, win0_0.index t = ![t.val % 4, t.val / 8])
theorem ix1 : ∀ t : Fin cfg0.N, win0_1.index t = ![t.val % 4, t.val / 4 % 2] := (by decide +kernel : ∀ t : Fin grid0.N, win0_1.index t = ![t.val % 4, t.val / 4 % 2])
theorem ix2 : ∀ t : Fin cfg0.N, win0_2.index t = ![t.val / 8, t.val / 4 % 2] := (by decide +kernel : ∀ t : Fin grid0.N, win0_2.index t = ![t.val / 8, t.val / 4 % 2])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x2048, .bf16⟩ : BufTy).Contents (Elt Ideal) := m ((c : Thread nD τ).loc main_arg1)
abbrev X2 (c : Dev nD) : (⟨S8192x2048, .bf16⟩ : BufTy).Contents (Elt Ideal) := m ((c : Thread nD τ).loc main_arg2)

section
variable {m : (ℓ : Loc nD τ sig) → Buf (Elt Ideal) ℓ} {c : Dev nD} {A B : ℕ → ℕ → EReal}

theorem rd0 (h0 : ∀ i : S8192x2048.Idx, X0 m c i = A (i 0).val (i 1).val) (t : Fin cfg0.N) (y : S2048x1024.Idx) : iblk m c 0 t y = A (2048 * (t.val % 4) + (y 0).val) (1024 * (t.val / 8) + (y 1).val) := by
  blk_simp [iblk]
  have e0 : (((win0_0.blk t).view.emb y) 0).val = 2048 * (t.val % 4) + (y 0).val := by blk_simp [ix0]; first | done | omega | (show (t.val % 4) * 2048 + _ = _; omega)
  have e1 : (((win0_0.blk t).view.emb y) 1).val = 1024 * (t.val / 8) + (y 1).val := by blk_simp [ix0]; first | done | omega | (show (t.val / 8) * 1024 + _ = _; omega)
  refine (congrFun (V_main_arg0 m c) ((win0_0.blk t).view.emb y)).trans ((h0 _).trans ?_)
  rw [e0, e1]

theorem rd1 (h1 : ∀ i : S8192x2048.Idx, X2 m c i = B (i 0).val (i 1).val) (t : Fin cfg0.N) (y : S2048x1024.Idx) : iblk m c 1 t y = B (2048 * (t.val % 4) + (y 0).val) (1024 * (t.val / 4 % 2) + (y 1).val) := by
  blk_simp [iblk]
  have e0 : (((win0_1.blk t).view.emb y) 0).val = 2048 * (t.val % 4) + (y 0).val := by blk_simp [ix1]; first | done | omega | (show (t.val % 4) * 2048 + _ = _; omega)
  have e1 : (((win0_1.blk t).view.emb y) 1).val = 1024 * (t.val / 4 % 2) + (y 1).val := by blk_simp [ix1]; first | done | omega | (show (t.val / 4 % 2) * 1024 + _ = _; omega)
  refine (congrFun (V_main_arg2 m c) ((win0_1.blk t).view.emb y)).trans ((h1 _).trans ?_)
  rw [e0, e1]

/-- The product of the blocks that a grid point reads. -/
theorem part_val (h0 : ∀ i : S8192x2048.Idx, X0 m c i = A (i 0).val (i 1).val) (h1 : ∀ i : S8192x2048.Idx, X2 m c i = B (i 0).val (i 1).val) (t : Fin cfg0.N) (y : S1024x1024.Idx) : k0_pay1 (F := Ideal) (iblk m c 0 t) (iblk m c 1 t) y = ∑ k : Fin 2048, term A B (1024 * (t.val / 8) + (y 0).val) (1024 * (t.val / 4 % 2) + (y 1).val) (2048 * (t.val % 4) + k.val) := by
  refine (pay_val (A := fun p q => A (2048 * (t.val % 4) + p) (1024 * (t.val / 8) + q)) (B := fun p q => B (2048 * (t.val % 4) + p) (1024 * (t.val / 4 % 2) + q)) (rd0 h0 t) (rd1 h1 t) y).trans ?_
  rfl

theorem acc_first (h0 : ∀ i : S8192x2048.Idx, X0 m c i = A (i 0).val (i 1).val) (h1 : ∀ i : S8192x2048.Idx, X2 m c i = B (i 0).val (i 1).val) (t : Fin cfg0.N) (h : t.val % 4 = 0) (y : S1024x1024.Idx) :
    (outsAt0 m c t.val t.isLt).2 y = ∑ k : Fin 2048, term A B (1024 * (t.val / 8) + (y 0).val) (1024 * (t.val / 4 % 2) + (y 1).val) (2048 * (t.val % 4) + k.val) := by
  rw [outsAt0_A m c t h (by omega) (by omega)]
  dsimp only
  rw [first_val]
  exact part_val h0 h1 t y

theorem acc_next (h0 : ∀ i : S8192x2048.Idx, X0 m c i = A (i 0).val (i 1).val) (h1 : ∀ i : S8192x2048.Idx, X2 m c i = B (i 0).val (i 1).val) (t : Fin cfg0.N) (h : ¬t.val % 4 = 0) (h3 : ¬t.val % 4 = 3) (y : S1024x1024.Idx) :
    (outsAt0 m c t.val t.isLt).2 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_B m c t h (by omega) h3]
  dsimp only
  rw [middle_val]
  exact congrArg (_ + ·) (part_val h0 h1 t y)

theorem acc_last (h0 : ∀ i : S8192x2048.Idx, X0 m c i = A (i 0).val (i 1).val) (h1 : ∀ i : S8192x2048.Idx, X2 m c i = B (i 0).val (i 1).val) (t : Fin cfg0.N) (h3 : t.val % 4 = 3) (y : S1024x1024.Idx) :
    (outsAt0 m c t.val t.isLt).1 y = (outsAt0 m c (t.val - 1) (Nat.lt_of_le_of_lt (Nat.sub_le _ _) t.isLt)).2 y + ∑ k : Fin 2048, term A B (1024 * (t.val / 8) + (y 0).val) (1024 * (t.val / 4 % 2) + (y 1).val) (2048 * (t.val % 4) + k.val) := by
  rw [outsAt0_C m c t (by omega) (by omega) h3]
  dsimp only
  rw [last_val, store_val]
  exact congrArg (_ + ·) (part_val h0 h1 t y)

/-- What the last point of a run writes: the whole sum. -/
theorem res_val (h0 : ∀ i : S8192x2048.Idx, X0 m c i = A (i 0).val (i 1).val) (h1 : ∀ i : S8192x2048.Idx, X2 m c i = B (i 0).val (i 1).val) (t : Fin cfg0.N) (h3 : t.val % 4 = 3) (y : S1024x1024.Idx) :
    (outsAt0 m c t.val t.isLt).1 y = ∑ k : Fin 8192, term A B (1024 * (t.val / 8) + (y 0).val) (1024 * (t.val / 4 % 2) + (y 1).val) k.val := by
  have hN : t.val < cfg0.N := t.isLt
  have a0 := acc_first h0 h1 ⟨t.val - 3, by omega⟩ (by show (t.val - 3) % 4 = 0; omega) y
  have a1 := acc_next h0 h1 ⟨t.val - 2, by omega⟩ (by show ¬(t.val - 2) % 4 = 0; omega) (by show ¬(t.val - 2) % 4 = 3; omega) y
  have a2 := acc_next h0 h1 ⟨t.val - 1, by omega⟩ (by show ¬(t.val - 1) % 4 = 0; omega) (by show ¬(t.val - 1) % 4 = 3; omega) y
  have a3 := acc_last h0 h1 t h3 y
  dsimp only at a0 a1 a2
  have e (u v : ℕ) (hu : u < cfg0.N) (hv : v < cfg0.N) (h : u = v) : outsAt0 m c u hu = outsAt0 m c v hv := by subst h; rfl
  rw [e (t.val - 2 - 1) (t.val - 3) _ (by omega) (by omega), a0] at a1
  rw [e (t.val - 1 - 1) (t.val - 2) _ (by omega) (by omega), a1] at a2
  rw [a2] at a3
  rw [a3, ← four_blocks (fun k => term A B (1024 * (t.val / 8) + (y 0).val) (1024 * (t.val / 4 % 2) + (y 1).val) k)]
  have d0 : (t.val - 3) % 4 = 0 := by omega
  have d1 : (t.val - 2) % 4 = 1 := by omega
  have d2 : (t.val - 1) % 4 = 2 := by omega
  simp only [d0, d1, d2, h3]
  have i0 : (t.val - 3) / 8 = t.val / 8 := by omega
  have i1 : (t.val - 2) / 8 = t.val / 8 := by omega
  have i2 : (t.val - 1) / 8 = t.val / 8 := by omega
  have j0 : (t.val - 3) / 4 = t.val / 4 := by omega
  have j1 : (t.val - 2) / 4 = t.val / 4 := by omega
  have j2 : (t.val - 1) / 4 = t.val / 4 := by omega
  simp only [i0, i1, i2, j0, j1, j2]

end

/-! The reference. -/

/-- An entry of the reference's result. -/
theorem ref_val {x0 : (⟨S8192x2048, .bf16⟩ : BufTy).Contents (Elt Ideal)} {x2 : (⟨S8192x2048, .bf16⟩ : BufTy).Contents (Elt Ideal)} {A B : ℕ → ℕ → EReal} (h0 : ∀ i : S8192x2048.Idx, x0 i = A (i 0).val (i 1).val) (h2 : ∀ i : S8192x2048.Idx, x2 i = B (i 0).val (i 1).val) (i : S2048x2048.Idx) :
    Cert.MixWgradRefIdeal.Read.val_main_v6 (F := Ideal) x0 x2 i = ∑ k : Fin 8192, term A B (i 0).val (i 1).val k.val := by
  rw [Cert.MixWgradRefIdeal.Read.val_main_v6_apply, Ideal.truncf_def, Cert.MixWgradRefIdeal.Read.val_main_v5_apply, Cert.MixWgradRefIdeal.Read.val_main_v4_apply]
  refine Finset.sum_congr rfl fun k _ => ?_
  rw [Cert.MixWgradRefIdeal.Read.val_main_v0_apply, Cert.MixWgradRefIdeal.Read.val_main_v3_apply, Ideal.extf_def, Ideal.extf_def, h0, h2, mul_comm]
  rfl

/-- The result, as the reference's term of the kernel's arguments. -/
def result (c : Dev nD) : (⟨S2048x2048, .bf16⟩ : BufTy).Contents (Elt Ideal) := Cert.MixWgradRefIdeal.Read.val_main_v6 (F := Ideal) (X0 m c) (X2 m c)

/-- The kernel's result array. -/
theorem arr (c : Dev nD) : (dats m 0 c).arrAt 2 cfg0.N = result m c := by
  obtain ⟨A, h0⟩ := exists_nat (X0 m c)
  obtain ⟨B, h1⟩ := exists_nat (X2 m c)
  refine (dats m 0 c).arrAt_eq_of_covers 2 _ (by decide +kernel) fun t hf y => ?_
  have h3 := (flush0_2 t).1 hf
  have hy0 : (y 0).val < 1024 := (y 0).isLt
  have hy1 : (y 1).val < 1024 := (y 1).isLt
  blk_simp
  rw [after0_2]
  have e0 : (((win0_2.blk t).view.emb y) 0).val = 1024 * (t.val / 8) + (y 0).val := by blk_simp [ix2]; first | done | omega | (show (t.val / 8) * 1024 + _ = _; omega)
  have e1 : (((win0_2.blk t).view.emb y) 1).val = 1024 * (t.val / 4 % 2) + (y 1).val := by blk_simp [ix2]; first | done | omega | (show (t.val / 4 % 2) * 1024 + _ = _; omega)
  refine (res_val h0 h1 t h3 y).trans (Eq.trans ?_ (ref_val h0 h1 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.MixWgradRefIdeal.nD Cert.MixWgradRefIdeal.τ Cert.MixWgradRefIdeal.sig) → Buf (Elt Ideal) ℓ)

/-- The reference leaves its arguments, and has no semaphore. -/
theorem frame_ref (ρ : Dev Cert.MixWgradRefIdeal.nD → PrngReg) :
    θ_run (Cert.MixWgradRefIdeal.defs (F := Ideal)) (onTc (τ := Cert.MixWgradRefIdeal.τ) (Cert.MixWgradRefIdeal.main (F := Ideal))) ⟨m', fun _ => 0, ρ⟩ (fun r => (∀ c : Dev Cert.MixWgradRefIdeal.nD,
      r.2.mem ((c.tc : Thread Cert.MixWgradRefIdeal.nD Cert.MixWgradRefIdeal.τ).loc Cert.MixWgradRefIdeal.main_arg0) = m' ((c.tc : Thread Cert.MixWgradRefIdeal.nD Cert.MixWgradRefIdeal.τ).loc Cert.MixWgradRefIdeal.main_arg0)
      ∧ r.2.mem ((c.tc : Thread Cert.MixWgradRefIdeal.nD Cert.MixWgradRefIdeal.τ).loc Cert.MixWgradRefIdeal.main_arg1) = m' ((c.tc : Thread Cert.MixWgradRefIdeal.nD Cert.MixWgradRefIdeal.τ).loc Cert.MixWgradRefIdeal.main_arg1)
      ∧ r.2.mem ((c.tc : Thread Cert.MixWgradRefIdeal.nD Cert.MixWgradRefIdeal.τ).loc Cert.MixWgradRefIdeal.main_arg2) = m' ((c.tc : Thread Cert.MixWgradRefIdeal.nD Cert.MixWgradRefIdeal.τ).loc Cert.MixWgradRefIdeal.main_arg2))
      ∧ r.2.sem = fun _ => 0) :=
  (θ_run Cert.MixWgradRefIdeal.defs _ _).mono (fun r h => ⟨fun c => (h c).2, sem_eq_zero_of_no_sems (by decide) r.2⟩) (Cert.MixWgradRefIdeal.Value.run m' ρ)

/-- The reference's run, read at its result and its arguments, from a memory that agrees on the arguments. -/
theorem run_ref (ρ : Dev Cert.MixWgradRefIdeal.nD → PrngReg) (hA : ∀ c : Dev Cert.MixWgradIdeal.nD,
      m' ((c.tc : Thread Cert.MixWgradRefIdeal.nD Cert.MixWgradRefIdeal.τ).loc Cert.MixWgradRefIdeal.main_arg0) = m ((c.tc : Thread Cert.MixWgradIdeal.nD Cert.MixWgradIdeal.τ).loc Cert.MixWgradIdeal.main_arg0)
      ∧ m' ((c.tc : Thread Cert.MixWgradRefIdeal.nD Cert.MixWgradRefIdeal.τ).loc Cert.MixWgradRefIdeal.main_arg1) = m ((c.tc : Thread Cert.MixWgradIdeal.nD Cert.MixWgradIdeal.τ).loc Cert.MixWgradIdeal.main_arg1)
      ∧ m' ((c.tc : Thread Cert.MixWgradRefIdeal.nD Cert.MixWgradRefIdeal.τ).loc Cert.MixWgradRefIdeal.main_arg2) = m ((c.tc : Thread Cert.MixWgradIdeal.nD Cert.MixWgradIdeal.τ).loc Cert.MixWgradIdeal.main_arg2)) :
    θ_run (Cert.MixWgradRefIdeal.defs (F := Ideal)) (onTc (τ := Cert.MixWgradRefIdeal.τ) (Cert.MixWgradRefIdeal.main (F := Ideal))) ⟨m', fun _ => 0, ρ⟩ (fun r => ∀ c : Dev Cert.MixWgradRefIdeal.nD,
      r.2.mem ((c.tc : Thread Cert.MixWgradRefIdeal.nD Cert.MixWgradRefIdeal.τ).loc Cert.MixWgradRefIdeal.main_v6) = result m c
      ∧ r.2.mem ((c.tc : Thread Cert.MixWgradRefIdeal.nD Cert.MixWgradRefIdeal.τ).loc Cert.MixWgradRefIdeal.main_arg0) = m' ((c.tc : Thread Cert.MixWgradRefIdeal.nD Cert.MixWgradRefIdeal.τ).loc Cert.MixWgradRefIdeal.main_arg0)
      ∧ r.2.mem ((c.tc : Thread Cert.MixWgradRefIdeal.nD Cert.MixWgradRefIdeal.τ).loc Cert.MixWgradRefIdeal.main_arg1) = m' ((c.tc : Thread Cert.MixWgradRefIdeal.nD Cert.MixWgradRefIdeal.τ).loc Cert.MixWgradRefIdeal.main_arg1)
      ∧ r.2.mem ((c.tc : Thread Cert.MixWgradRefIdeal.nD Cert.MixWgradRefIdeal.τ).loc Cert.MixWgradRefIdeal.main_arg2) = m' ((c.tc : Thread Cert.MixWgradRefIdeal.nD Cert.MixWgradRefIdeal.τ).loc Cert.MixWgradRefIdeal.main_arg2)) := by
  refine (θ_run Cert.MixWgradRefIdeal.defs _ _).mono (fun r h c => ?_) (Cert.MixWgradRefIdeal.Value.run m' ρ)
  have e := hA c
  refine ⟨(h c).1.trans ?_, (h c).2⟩
  refine (Cert.MixWgradRefIdeal.Read.val_main_v6_eq (F := Ideal) _ _).trans ?_
  show _ = Cert.MixWgradRefIdeal.Read.val_main_v6 (F := Ideal) (m ((c.tc : Thread Cert.MixWgradIdeal.nD Cert.MixWgradIdeal.τ).loc Cert.MixWgradIdeal.main_arg0)) (m ((c.tc : Thread Cert.MixWgradIdeal.nD Cert.MixWgradIdeal.τ).loc Cert.MixWgradIdeal.main_arg2))
  rw [e.1, e.2.2]

end

end Cert.MmMixWgrad

end
-- ==== Proof.MmMix.lean ====
/- The mixer's output product. -/
module

public import proofs.«01_k».proof.Proof.MmTools
public import proofs.«01_k».proof.Proof.Gen.Mix.Frame
public import proofs.«01_k».proof.Proof.Gen.MixIdeal.Frame
public import proofs.«01_k».proof.Proof.Gen.MixRefIdeal.Run
public import proofs.«01_k».proof.Proof.Gen.MixRefIdeal.Read
public import Idealize.ShloMosaic.Lib.Pipeline.ValueKit
public import Idealize.ShloMosaic.Lib.Quiescent

@[expose] public section

set_option maxRecDepth 16384

noncomputable section

namespace Cert.MmMix

open Cert.MixIdeal Cert.MixIdeal.Gen Cert.MmTools Idealize.ShloMosaic Idealize.ShloMosaic.TcCoe Idealize.SL.Sem

/-- One term of the sum of products. -/
def term (A B : ℕ → ℕ → EReal) (i j k : ℕ) : EReal := A i k * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x2048 .bf16} {x1 : Vec Ideal S2048x2048 .bf16} {A B : ℕ → ℕ → EReal} (h0 : ∀ i : S1024x2048.Idx, x0 i = A (i 0).val (i 1).val) (h1 : ∀ i : S2048x2048.Idx, x1 i = B (i 0).val (i 1).val) (i : S1024x2048.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, h1]
  rfl

/-- What a grid point leaves in the result's block. -/
theorem out_val (x0 : Vec Ideal S1024x2048 .bf16) (x1 : Vec Ideal S2048x2048 .bf16) : out0_2 (F := Ideal) x0 x1 = k0_pay1 x0 x1 := by
  unfold out0_2
  rw [View.canon_unit_zero hz]
  simp only [View.ld_unit_zero (S := S1024x2048) hz, View.ld_unit_zero (S := S2048x2048) hz]

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x2048, .bf16⟩ : BufTy).Contents (Elt Ideal) := m ((c : Thread nD τ).loc main_arg1)

section
variable {m : (ℓ : Loc nD τ sig) → Buf (Elt Ideal) ℓ} {c : Dev nD} {A B : ℕ → ℕ → EReal}

theorem rd0 (h0 : ∀ i : S8192x2048.Idx, X0 m c i = A (i 0).val (i 1).val) (t : Fin cfg0.N) (y : S1024x2048.Idx) : iblk m c 0 t y = A (1024 * (t.val) + (y 0).val) ((y 1).val) := by
  blk_simp [iblk]
  have e0 : (((win0_0.blk t).view.emb y) 0).val = 1024 * (t.val) + (y 0).val := by blk_simp [ix0]; first | done | omega | (show (t.val) * 1024 + _ = _; omega)
  have e1 : (((win0_0.blk t).view.emb y) 1).val = (y 1).val := by blk_simp [ix0]; first | done | omega | (show (0) * 2048 + _ = _; omega)
  refine (congrFun (V_main_arg0 m c) ((win0_0.blk t).view.emb y)).trans ((h0 _).trans ?_)
  rw [e0, e1]

theorem rd1 (h1 : ∀ i : S2048x2048.Idx, X1 m c i = B (i 0).val (i 1).val) (t : Fin cfg0.N) (y : S2048x2048.Idx) : iblk m c 1 t y = B ((y 0).val) ((y 1).val) := by
  blk_simp [iblk]
  have e0 : (((win0_1.blk t).view.emb y) 0).val = (y 0).val := by blk_simp [ix1]; first | done | omega | (show (0) * 2048 + _ = _; omega)
  have e1 : (((win0_1.blk t).view.emb y) 1).val = (y 1).val := by blk_simp [ix1]; first | done | omega | (show (0) * 2048 + _ = _; omega)
  refine (congrFun (V_main_arg1 m c) ((win0_1.blk t).view.emb y)).trans ((h1 _).trans ?_)
  rw [e0, e1]

/-- The product of the blocks that a grid point reads. -/
theorem part_val (h0 : ∀ i : S8192x2048.Idx, X0 m c i = A (i 0).val (i 1).val) (h1 : ∀ i : S2048x2048.Idx, X1 m c i = B (i 0).val (i 1).val) (t : Fin cfg0.N) (y : S1024x2048.Idx) : k0_pay1 (F := Ideal) (iblk m c 0 t) (iblk m c 1 t) y = ∑ k : Fin 2048, term A B (1024 * (t.val) + (y 0).val) (y 1).val (k.val) := by
  refine (pay_val (A := fun p q => A (1024 * (t.val) + p) (q)) (B := fun p q => B (p) (q)) (rd0 h0 t) (rd1 h1 t) y).trans ?_
  rfl

end

/-! The reference. -/

/-- An entry of the reference's result. -/
theorem ref_val {x0 : (⟨S8192x2048, .bf16⟩ : BufTy).Contents (Elt Ideal)} {x1 : (⟨S2048x2048, .bf16⟩ : BufTy).Contents (Elt Ideal)} {A B : ℕ → ℕ → EReal} (h0 : ∀ i : S8192x2048.Idx, x0 i = A (i 0).val (i 1).val) (h1 : ∀ i : S2048x2048.Idx, x1 i = B (i 0).val (i 1).val) (i : S8192x2048.Idx) :
    Cert.MixRefIdeal.Read.val_main_v3 (F := Ideal) x0 x1 i = ∑ k : Fin 2048, term A B (i 0).val (i 1).val k.val := by
  rw [Cert.MixRefIdeal.Read.val_main_v3_apply, Ideal.truncf_def, Cert.MixRefIdeal.Read.val_main_v2_apply]
  refine Finset.sum_congr rfl fun k _ => ?_
  rw [Cert.MixRefIdeal.Read.val_main_v0_apply, Cert.MixRefIdeal.Read.val_main_v1_apply, Ideal.extf_def, Ideal.extf_def, h0, h1]
  rfl

/-- The result, as the reference's term of the kernel's arguments. -/
def result (c : Dev nD) : (⟨S8192x2048, .bf16⟩ : BufTy).Contents (Elt Ideal) := Cert.MixRefIdeal.Read.val_main_v3 (F := Ideal) (X0 m c) (X1 m c)

/-- The kernel's result array. -/
theorem arr (c : Dev nD) : (dats m 0 c).arrAt 2 cfg0.N = result m c := by
  obtain ⟨A, h0⟩ := exists_nat (X0 m c)
  obtain ⟨B, h1⟩ := exists_nat (X1 m c)
  refine (dats m 0 c).arrAt_eq_of_covers 2 _ (by decide +kernel) fun t hf y => ?_
  have hy0 : (y 0).val < 1024 := (y 0).isLt
  have hy1 : (y 1).val < 2048 := (y 1).isLt
  blk_simp
  rw [after0_2]
  have e0 : (((win0_2.blk t).view.emb y) 0).val = 1024 * (t.val) + (y 0).val := by blk_simp [ix2]; first | done | omega | (show (t.val) * 1024 + _ = _; omega)
  have e1 : (((win0_2.blk t).view.emb y) 1).val = (y 1).val := by blk_simp [ix2]; first | done | omega | (show (0) * 2048 + _ = _; omega)
  rw [out_val]
  refine (part_val h0 h1 t y).trans (Eq.trans ?_ (ref_val h0 h1 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (arr m c), h.2 c⟩) (θ_run_and (run_main m ρ) (unchanged m ρ))

section
variable (m' : (ℓ : Loc Cert.MixRefIdeal.nD Cert.MixRefIdeal.τ Cert.MixRefIdeal.sig) → Buf (Elt Ideal) ℓ)

/-- The reference leaves its arguments, and has no semaphore. -/
theorem frame_ref (ρ : Dev Cert.MixRefIdeal.nD → PrngReg) :
    θ_run (Cert.MixRefIdeal.defs (F := Ideal)) (onTc (τ := Cert.MixRefIdeal.τ) (Cert.MixRefIdeal.main (F := Ideal))) ⟨m', fun _ => 0, ρ⟩ (fun r => (∀ c : Dev Cert.MixRefIdeal.nD,
      r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))
      ∧ r.2.sem = fun _ => 0) :=
  (θ_run Cert.MixRefIdeal.defs _ _).mono (fun r h => ⟨fun c => (h c).2, sem_eq_zero_of_no_sems (by decide) r.2⟩) (Cert.MixRefIdeal.Value.run m' ρ)

/-- The reference's run, read at its result and its arguments, from a memory that agrees on the arguments. -/
theorem run_ref (ρ : Dev Cert.MixRefIdeal.nD → PrngReg) (hA : ∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) :
    θ_run (Cert.MixRefIdeal.defs (F := Ideal)) (onTc (τ := Cert.MixRefIdeal.τ) (Cert.MixRefIdeal.main (F := Ideal))) ⟨m', fun _ => 0, ρ⟩ (fun r => ∀ c : Dev Cert.MixRefIdeal.nD,
      r.2.mem ((c.tc : Thread Cert.MixRefIdeal.nD Cert.MixRefIdeal.τ).loc Cert.MixRefIdeal.main_v3) = result m c
      ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)) := by
  refine (θ_run Cert.MixRefIdeal.defs _ _).mono (fun r h c => ?_) (Cert.MixRefIdeal.Value.run m' ρ)
  have e := hA c
  refine ⟨(h c).1.trans ?_, (h c).2⟩
  refine (Cert.MixRefIdeal.Read.val_main_v3_eq (F := Ideal) _ _).trans ?_
  show _ = Cert.MixRefIdeal.Read.val_main_v3 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1))
  rw [e.1, e.2]

end

end Cert.MmMix

end
-- ==== Proof.MmIn.lean ====
/- The input projection. -/
module

public import proofs.«01_k».proof.Proof.MmTools
public import proofs.«01_k».proof.Proof.Gen.In.Frame
public import proofs.«01_k».proof.Proof.Gen.InIdeal.Frame
public import proofs.«01_k».proof.Proof.Gen.InRefIdeal.Run
public import proofs.«01_k».proof.Proof.Gen.InRefIdeal.Read
public import Idealize.ShloMosaic.Lib.Pipeline.ValueKit
public import Idealize.ShloMosaic.Lib.Quiescent

@[expose] public section

set_option maxRecDepth 16384

noncomputable section

namespace Cert.MmIn

open Cert.InIdeal Cert.InIdeal.Gen Cert.MmTools Idealize.ShloMosaic Idealize.ShloMosaic.TcCoe Idealize.SL.Sem

/-- One term of the sum of products. -/
def term (A B : ℕ → ℕ → EReal) (i j k : ℕ) : EReal := A i k * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x2048 .bf16} {x1 : Vec Ideal S1x2048x1024 .bf16} {A B : ℕ → ℕ → EReal} (h0 : ∀ i : S1024x2048.Idx, x0 i = A (i 0).val (i 1).val) (h1 : ∀ i : S1x2048x1024.Idx, x1 i = B (i 1).val (i 2).val) (i : S1024x1024.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, drop_axis _ h1]
  rfl

/-- What a grid point leaves in the result's block. -/
theorem out_val (x0 : Vec Ideal S1024x2048 .bf16) (x1 : Vec Ideal S1x2048x1024 .bf16) : out0_2 (F := Ideal) x0 x1 = k0_pay1 x0 x1 := by
  unfold out0_2
  rw [View.canon_unit_zero hz]
  simp only [View.ld_unit_zero (S := S1024x2048) hz, View.ld_unit_zero (S := S1x2048x1024) hz3]

/-! Where each window's block lies. -/

theorem ix0 : ∀ t : Fin cfg0.N, win0_0.index t = ![t.val / 4, 0] := (by decide +kernel : ∀ t : Fin grid0.N, win0_0.index t = ![t.val / 4, 0])
theorem ix1 : ∀ t : Fin cfg0.N, win0_1.index t = ![t.val % 4, 0, 0] := (by decide +kernel : ∀ t : Fin grid0.N, win0_1.index t = ![t.val % 4, 0, 0])
theorem ix2 : ∀ t : Fin cfg0.N, win0_2.index t = ![t.val / 4, t.val % 4] := (by decide +kernel : ∀ t : Fin grid0.N, win0_2.index t = ![t.val / 4, t.val % 4])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x4096, .bf16⟩ : BufTy).Contents (Elt Ideal) := m ((c : Thread nD τ).loc main_arg1)

section
variable {m : (ℓ : Loc nD τ sig) → Buf (Elt Ideal) ℓ} {c : Dev nD} {A B : ℕ → ℕ → EReal}

/-- The weight as the kernel's host part hands it over: cut into its four column blocks. -/
theorem V1_val (h1 : ∀ i : S2048x4096.Idx, X1 m c i = B (i 0).val (i 1).val) (i : S4x2048x1024.Idx) : V m c main_v1 i = B (i 1).val (1024 * (i 0).val + (i 2).val) := by
  have e : V m c main_v1 = transpose S4x2048x1024 [1, 0, 2] (shapeCast S2048x4x1024 (X1 m c) shapeCasts_S2048x4096_S2048x4x1024) transposes_S2048x4x1024_S4x2048x1024_1_0_2 := by
    dsimp only [V, hostOps0]
    after_results_simp
    all_goals rfl
  rw [e]
  exact column_blocks_1024 _ _ h1 i

theorem rd0 (h0 : ∀ i : S8192x2048.Idx, X0 m c i = A (i 0).val (i 1).val) (t : Fin cfg0.N) (y : S1024x2048.Idx) : iblk m c 0 t y = A (1024 * (t.val / 4) + (y 0).val) ((y 1).val) := by
  blk_simp [iblk]
  have e0 : (((win0_0.blk t).view.emb y) 0).val = 1024 * (t.val / 4) + (y 0).val := by blk_simp [ix0]; first | done | omega | (show (t.val / 4) * 1024 + _ = _; omega)
  have e1 : (((win0_0.blk t).view.emb y) 1).val = (y 1).val := by blk_simp [ix0]; first | done | omega | (show (0) * 2048 + _ = _; omega)
  refine (congrFun (V_main_arg0 m c) ((win0_0.blk t).view.emb y)).trans ((h0 _).trans ?_)
  rw [e0, e1]

theorem rd1 (h1 : ∀ i : S2048x4096.Idx, X1 m c i = B (i 0).val (i 1).val) (t : Fin cfg0.N) (y : S1x2048x1024.Idx) : iblk m c 1 t y = B ((y 1).val) (1024 * (t.val % 4) + (y 2).val) := by
  have hy : (y 0).val < 1 := (y 0).isLt
  blk_simp [iblk]
  have e0 : (((win0_1.blk t).view.emb y) 0).val = t.val % 4 := by blk_simp [ix1]; first | done | omega | (show (t.val % 4) * 1 + _ = _; omega)
  have e1 : (((win0_1.blk t).view.emb y) 1).val = (y 1).val := by blk_simp [ix1]; first | done | omega | (show (0) * 2048 + _ = _; omega)
  have e2 : (((win0_1.blk t).view.emb y) 2).val = (y 2).val := by blk_simp [ix1]; first | done | omega | (show (0) * 1024 + _ = _; omega)
  refine (V1_val h1 ((win0_1.blk t).view.emb y)).trans ?_
  rw [e0, e1, e2]

/-- The product of the blocks that a grid point reads. -/
theorem part_val (h0 : ∀ i : S8192x2048.Idx, X0 m c i = A (i 0).val (i 1).val) (h1 : ∀ i : S2048x4096.Idx, X1 m c i = B (i 0).val (i 1).val) (t : Fin cfg0.N) (y : S1024x1024.Idx) : k0_pay1 (F := Ideal) (iblk m c 0 t) (iblk m c 1 t) y = ∑ k : Fin 2048, term A B (1024 * (t.val / 4) + (y 0).val) (1024 * (t.val % 4) + (y 1).val) (k.val) := by
  refine (pay_val (A := fun p q => A (1024 * (t.val / 4) + p) (q)) (B := fun p q => B (p) (1024 * (t.val % 4) + q)) (rd0 h0 t) (rd1 h1 t) y).trans ?_
  rfl

end

/-! The reference. -/

/-- An entry of the reference's result. -/
theorem ref_val {x0 : (⟨S8192x2048, .bf16⟩ : BufTy).Contents (Elt Ideal)} {x1 : (⟨S2048x4096, .bf16⟩ : BufTy).Contents (Elt Ideal)} {A B : ℕ → ℕ → EReal} (h0 : ∀ i : S8192x2048.Idx, x0 i = A (i 0).val (i 1).val) (h1 : ∀ i : S2048x4096.Idx, x1 i = B (i 0).val (i 1).val) (i : S8192x4096.Idx) :
    Cert.InRefIdeal.Read.val_main_v3 (F := Ideal) x0 x1 i = ∑ k : Fin 2048, term A B (i 0).val (i 1).val k.val := by
  rw [Cert.InRefIdeal.Read.val_main_v3_apply, Ideal.truncf_def, Cert.InRefIdeal.Read.val_main_v2_apply]
  refine Finset.sum_congr rfl fun k _ => ?_
  rw [Cert.InRefIdeal.Read.val_main_v0_apply, Cert.InRefIdeal.Read.val_main_v1_apply, Ideal.extf_def, Ideal.extf_def, h0, h1]
  rfl

/-- The result, as the reference's term of the kernel's arguments. -/
def result (c : Dev nD) : (⟨S8192x4096, .bf16⟩ : BufTy).Contents (Elt Ideal) := Cert.InRefIdeal.Read.val_main_v3 (F := Ideal) (X0 m c) (X1 m c)

/-- The kernel's result array. -/
theorem arr (c : Dev nD) : (dats m 0 c).arrAt 2 cfg0.N = result m c := by
  obtain ⟨A, h0⟩ := exists_nat (X0 m c)
  obtain ⟨B, h1⟩ := exists_nat (X1 m c)
  refine (dats m 0 c).arrAt_eq_of_covers 2 _ (by decide +kernel) fun t hf y => ?_
  have hy0 : (y 0).val < 1024 := (y 0).isLt
  have hy1 : (y 1).val < 1024 := (y 1).isLt
  blk_simp
  rw [after0_2]
  have e0 : (((win0_2.blk t).view.emb y) 0).val = 1024 * (t.val / 4) + (y 0).val := by blk_simp [ix2]; first | done | omega | (show (t.val / 4) * 1024 + _ = _; omega)
  have e1 : (((win0_2.blk t).view.emb y) 1).val = 1024 * (t.val % 4) + (y 1).val := by blk_simp [ix2]; first | done | omega | (show (t.val % 4) * 1024 + _ = _; omega)
  rw [out_val]
  refine (part_val h0 h1 t y).trans (Eq.trans ?_ (ref_val h0 h1 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (arr m c), h.2 c⟩) (θ_run_and (run_main m ρ) (unchanged m ρ))

section
variable (m' : (ℓ : Loc Cert.InRefIdeal.nD Cert.InRefIdeal.τ Cert.InRefIdeal.sig) → Buf (Elt Ideal) ℓ)

/-- The reference leaves its arguments, and has no semaphore. -/
theorem frame_ref (ρ : Dev Cert.InRefIdeal.nD → PrngReg) :
    θ_run (Cert.InRefIdeal.defs (F := Ideal)) (onTc (τ := Cert.InRefIdeal.τ) (Cert.InRefIdeal.main (F := Ideal))) ⟨m', fun _ => 0, ρ⟩ (fun r => (∀ c : Dev Cert.InRefIdeal.nD,
      r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))
      ∧ r.2.sem = fun _ => 0) :=
  (θ_run Cert.InRefIdeal.defs _ _).mono (fun r h => ⟨fun c => (h c).2, sem_eq_zero_of_no_sems (by decide) r.2⟩) (Cert.InRefIdeal.Value.run m' ρ)

/-- The reference's run, read at its result and its arguments, from a memory that agrees on the arguments. -/
theorem run_ref (ρ : Dev Cert.InRefIdeal.nD → PrngReg) (hA : ∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) :
    θ_run (Cert.InRefIdeal.defs (F := Ideal)) (onTc (τ := Cert.InRefIdeal.τ) (Cert.InRefIdeal.main (F := Ideal))) ⟨m', fun _ => 0, ρ⟩ (fun r => ∀ c : Dev Cert.InRefIdeal.nD,
      r.2.mem ((c.tc : Thread Cert.InRefIdeal.nD Cert.InRefIdeal.τ).loc Cert.InRefIdeal.main_v3) = result m c
      ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)) := by
  refine (θ_run Cert.InRefIdeal.defs _ _).mono (fun r h c => ?_) (Cert.InRefIdeal.Value.run m' ρ)
  have e := hA c
  refine ⟨(h c).1.trans ?_, (h c).2⟩
  refine (Cert.InRefIdeal.Read.val_main_v3_eq (F := Ideal) _ _).trans ?_
  show _ = Cert.InRefIdeal.Read.val_main_v3 (F := Ideal) (m ((c.tc : Thread Cert.InIdeal.nD Cert.InIdeal.τ).loc Cert.InIdeal.main_arg0)) (m ((c.tc : Thread Cert.InIdeal.nD Cert.InIdeal.τ).loc Cert.InIdeal.main_arg1))
  rw [e.1, e.2]

end

end Cert.MmIn

end
-- ==== Proof.MmInWgrad.lean ====
/- The gradient of the input weights, by their four column blocks. -/
module

public import proofs.«01_k».proof.Proof.MmTools
public import proofs.«01_k».proof.Proof.Gen.InWgrad.Frame
public import proofs.«01_k».proof.Proof.Gen.InWgradIdeal.Frame
public import proofs.«01_k».proof.Proof.Gen.InWgradRefIdeal.Run
public import proofs.«01_k».proof.Proof.Gen.InWgradRefIdeal.Read
public import Idealize.ShloMosaic.Lib.Pipeline.ValueKit
public import Idealize.ShloMosaic.Lib.Quiescent

@[expose] public section

set_option maxRecDepth 16384

noncomputable section

namespace Cert.MmInWgrad

open Cert.InWgradIdeal Cert.InWgradIdeal.Gen Cert.MmTools Idealize.ShloMosaic Idealize.ShloMosaic.TcCoe Idealize.SL.Sem

/-- One term of the sum of products. -/
def term (A B : ℕ → ℕ → EReal) (i j k : ℕ) : EReal := A k i * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S2048x1024 .bf16} {x1 : Vec Ideal S2048x1024 .bf16} {A B : ℕ → ℕ → EReal} (h0 : ∀ i : S2048x1024.Idx, x0 i = A (i 0).val (i 1).val) (h1 : ∀ i : S2048x1024.Idx, x1 i = B (i 0).val (i 1).val) (i : S1024x1024.Idx) : k0_pay1 (F := Ideal) x0 x1 i = ∑ k : Fin 2048, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, h1]
  rfl

/-- The first point of a run of four leaves its own product. -/
theorem first_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1x1024x1024 .bf16) (w5 : a5.IsWhole) (a6 : Memref sig .tc .vmem S1024x1024 .f32) (w6 : a6.IsWhole) (hc0 : cond0_0 i) (hc1 : ¬cond0_1 i) (hc2 : ¬cond0_2 i) (x0 : Vec Ideal S2048x1024 .bf16) (x1 : Vec Ideal S2048x1024 .bf16) :
    sout0_A_0 (F := Ideal) c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  unfold k0_pay2
  simp only [View.readAt_eq_ld, w3.read_unread, w4.read_unread, w6.read_unread, View.ld_unit_zero (S := S2048x1024) hz, View.ld_unit_zero (S := S1024x1024) hz, shapeCast_self]

/-- A point in the middle of a run adds its product to what the point before left. -/
theorem middle_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1x1024x1024 .bf16) (w5 : a5.IsWhole) (a6 : Memref sig .tc .vmem S1024x1024 .f32) (w6 : a6.IsWhole) (hc0 : ¬cond0_0 i) (hc1 : cond0_1 i) (hc2 : ¬cond0_2 i) (x0 : Vec Ideal S2048x1024 .bf16) (x1 : Vec Ideal S2048x1024 .bf16) (xs : Vec Ideal S1024x1024 .f32) :
    sout0_B_0 (F := Ideal) c i a3 w3 a4 w4 a5 w5 a6 w6 hc0 hc1 hc2 x0 x1 xs = addf xs (k0_pay1 x0 x1) := by
  unfold sout0_B_0
  rw [View.read_writes_eq_canon _ _ _ (scover0_B_0 c i a3 w3 a4 w4 a5 w5 a6 w6 hc0 hc1 hc2 x0 x1 xs)]
  unfold kernelRun0_B
  dsimp only
  sl_unfold_words
  rw [View.canon_unit_zero hz]
  unfold k0_pay3
  simp only [View.readAt_eq_ld, w3.read_unread, w4.read_unread, w6.read_unread, View.ld_unit_zero (S := S2048x1024) hz, View.ld_unit_zero (S := S1024x1024) hz, shapeCast_self]

/-- The last point of a run writes the sum of what the point before left and its own product. -/
theorem last_val (c : Dev nD) (i : grid0.Coords) (a3 : Memref sig .tc .vmem S2048x1024 .bf16) (w3 : a3.IsWhole) (a4 : Memref sig .tc .vmem S2048x1024 .bf16) (w4 : a4.IsWhole) (a5 : Memref sig .tc .vmem S1x1024x1024 .bf16) (w5 : a5.IsWhole) (a6 : Memref sig .tc .vmem S1024x1024 .f32) (w6 : a6.IsWhole) (hc0 : ¬cond0_0 i) (hc1 : cond0_1 i) (hc2 : cond0_2 i) (x0 : Vec Ideal S2048x1024 .bf16) (x1 : Vec Ideal S2048x1024 .bf16) (xs : Vec Ideal S1024x1024 .f32) :
    out0_C_2 (F := Ideal) c i a3 w3 a4 w4 a5 w5 a6 w6 hc0 hc1 hc2 x0 x1 xs = k0_pay4 (addf xs (k0_pay1 x0 x1)) := by
  unfold out0_C_2
  rw [View.read_writes_eq_canon _ _ _ (cover0_C_2 c i a3 w3 a4 w4 a5 w5 a6 w6 hc0 hc1 hc2 x0 x1 xs)]
  unfold kernelRun0_C
  dsimp only
  sl_unfold_words
  rw [View.canon_unit_zero hz3, View.readCov_unit_zero (S := S1024x1024) _ hz]
  unfold k0_pay3
  simp only [View.readAt_eq_ld, w3.read_unread, w4.read_unread, w6.read_unread, View.ld_unit_zero (S := S2048x1024) hz, View.ld_unit_zero (S := S1024x1024) hz, shapeCast_self]

theorem store_val (x : Vec Ideal S1024x1024 .f32) (i : S1x1024x1024.Idx) : k0_pay4 (F := Ideal) x i = x (ValueIdx.ix2 (i 1) (i 2)) := by
  unfold k0_pay4
  exact add_axis _ i

/-! Where each window's block lies. -/

theorem ix0 : ∀ t : Fin cfg0.N, win0_0.index t = ![t.val % 4, t.val / 16] := (by decide +kernel : ∀ t : Fin grid0.N, win0_0.index t = ![t.val % 4, t.val / 16])
theorem ix1 : ∀ t : Fin cfg0.N, win0_1.index t = ![t.val % 4, t.val / 4 % 4] := (by decide +kernel : ∀ t : Fin grid0.N, win0_1.index t = ![t.val % 4, t.val / 4 % 4])
theorem ix2 : ∀ t : Fin cfg0.N, win0_2.index t = ![t.val / 4 % 4, t.val / 16, 0] := (by decide +kernel : ∀ t : Fin grid0.N, win0_2.index t = ![t.val / 4 % 4, t.val / 16, 0])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x4096, .bf16⟩ : BufTy).Contents (Elt Ideal) := m ((c : Thread nD τ).loc main_arg1)
abbrev X2 (c : Dev nD) : (⟨S8192x4096, .bf16⟩ : BufTy).Contents (Elt Ideal) := m ((c : Thread nD τ).loc main_arg2)

section
variable {m : (ℓ : Loc nD τ sig) → Buf (Elt Ideal) ℓ} {c : Dev nD} {A B : ℕ → ℕ → EReal}

theorem rd0 (h0 : ∀ i : S8192x2048.Idx, X0 m c i = A (i 0).val (i 1).val) (t : Fin cfg0.N) (y : S2048x1024.Idx) : iblk m c 0 t y = A (2048 * (t.val % 4) + (y 0).val) (1024 * (t.val / 16) + (y 1).val) := by
  blk_simp [iblk]
  have e0 : (((win0_0.blk t).view.emb y) 0).val = 2048 * (t.val % 4) + (y 0).val := by blk_simp [ix0]; first | done | omega | (show (t.val % 4) * 2048 + _ = _; omega)
  have e1 : (((win0_0.blk t).view.emb y) 1).val = 1024 * (t.val / 16) + (y 1).val := by blk_simp [ix0]; first | done | omega | (show (t.val / 16) * 1024 + _ = _; omega)
  refine (congrFun (V_main_arg0 m c) ((win0_0.blk t).view.emb y)).trans ((h0 _).trans ?_)
  rw [e0, e1]

theorem rd1 (h1 : ∀ i : S8192x4096.Idx, X2 m c i = B (i 0).val (i 1).val) (t : Fin cfg0.N) (y : S2048x1024.Idx) : iblk m c 1 t y = B (2048 * (t.val % 4) + (y 0).val) (1024 * (t.val / 4 % 4) + (y 1).val) := by
  blk_simp [iblk]
  have e0 : (((win0_1.blk t).view.emb y) 0).val = 2048 * (t.val % 4) + (y 0).val := by blk_simp [ix1]; first | done | omega | (show (t.val % 4) * 2048 + _ = _; omega)
  have e1 : (((win0_1.blk t).view.emb y) 1).val = 1024 * (t.val / 4 % 4) + (y 1).val := by blk_simp [ix1]; first | done | omega | (show (t.val / 4 % 4) * 1024 + _ = _; omega)
  refine (congrFun (V_main_arg2 m c) ((win0_1.blk t).view.emb y)).trans ((h1 _).trans ?_)
  rw [e0, e1]

/-- The product of the blocks that a grid point reads. -/
theorem part_val (h0 : ∀ i : S8192x2048.Idx, X0 m c i = A (i 0).val (i 1).val) (h1 : ∀ i : S8192x4096.Idx, X2 m c i = B (i 0).val (i 1).val) (t : Fin cfg0.N) (y : S1024x1024.Idx) : k0_pay1 (F := Ideal) (iblk m c 0 t) (iblk m c 1 t) y = ∑ k : Fin 2048, term A B (1024 * (t.val / 16) + (y 0).val) (1024 * (t.val / 4 % 4) + (y 1).val) (2048 * (t.val % 4) + k.val) := by
  refine (pay_val (A := fun p q => A (2048 * (t.val % 4) + p) (1024 * (t.val / 16) + q)) (B := fun p q => B (2048 * (t.val % 4) + p) (1024 * (t.val / 4 % 4) + q)) (rd0 h0 t) (rd1 h1 t) y).trans ?_
  rfl

theorem acc_first (h0 : ∀ i : S8192x2048.Idx, X0 m c i = A (i 0).val (i 1).val) (h1 : ∀ i : S8192x4096.Idx, X2 m c i = B (i 0).val (i 1).val) (t : Fin cfg0.N) (h : t.val % 4 = 0) (y : S1024x1024.Idx) :
    (outsAt0 m c t.val t.isLt).2 y = ∑ k : Fin 2048, term A B (1024 * (t.val / 16) + (y 0).val) (1024 * (t.val / 4 % 4) + (y 1).val) (2048 * (t.val % 4) + k.val) := by
  rw [outsAt0_A m c t h (by omega) (by omega)]
  dsimp only
  rw [first_val]
  exact part_val h0 h1 t y

theorem acc_next (h0 : ∀ i : S8192x2048.Idx, X0 m c i = A (i 0).val (i 1).val) (h1 : ∀ i : S8192x4096.Idx, X2 m c i = B (i 0).val (i 1).val) (t : Fin cfg0.N) (h : ¬t.val % 4 = 0) (h3 : ¬t.val % 4 = 3) (y : S1024x1024.Idx) :
    (outsAt0 m c t.val t.isLt).2 y = (outsAt0 m c (t.val - 1) (Nat.lt_of_le_of_lt (Nat.sub_le _ _) t.isLt)).2 y + ∑ k : Fin 2048, term A B (1024 * (t.val / 16) + (y 0).val) (1024 * (t.val / 4 % 4) + (y 1).val) (2048 * (t.val % 4) + k.val) := by
  rw [outsAt0_B m c t h (by omega) h3]
  dsimp only
  rw [middle_val]
  exact congrArg (_ + ·) (part_val h0 h1 t y)

theorem acc_last (h0 : ∀ i : S8192x2048.Idx, X0 m c i = A (i 0).val (i 1).val) (h1 : ∀ i : S8192x4096.Idx, X2 m c i = B (i 0).val (i 1).val) (t : Fin cfg0.N) (h3 : t.val % 4 = 3) (y : S1x1024x1024.Idx) :
    (outsAt0 m c t.val t.isLt).1 y = (outsAt0 m c (t.val - 1) (Nat.lt_of_le_of_lt (Nat.sub_le _ _) t.isLt)).2 (ValueIdx.ix2 (y 1) (y 2)) + ∑ k : Fin 2048, term A B (1024 * (t.val / 16) + (y 1).val) (1024 * (t.val / 4 % 4) + (y 2).val) (2048 * (t.val % 4) + k.val) := by
  rw [outsAt0_C m c t (by omega) (by omega) h3]
  dsimp only
  rw [last_val, store_val]
  exact congrArg (_ + ·) (part_val h0 h1 t (ValueIdx.ix2 (y 1) (y 2)))

/-- What the last point of a run writes: the whole sum. -/
theorem res_val (h0 : ∀ i : S8192x2048.Idx, X0 m c i = A (i 0).val (i 1).val) (h1 : ∀ i : S8192x4096.Idx, X2 m c i = B (i 0).val (i 1).val) (t : Fin cfg0.N) (h3 : t.val % 4 = 3) (y : S1x1024x1024.Idx) :
    (outsAt0 m c t.val t.isLt).1 y = ∑ k : Fin 8192, term A B (1024 * (t.val / 16) + (y 1).val) (1024 * (t.val / 4 % 4) + (y 2).val) k.val := by
  have hN : t.val < cfg0.N := t.isLt
  have a0 := acc_first h0 h1 ⟨t.val - 3, by omega⟩ (by show (t.val - 3) % 4 = 0; omega) (ValueIdx.ix2 (y 1) (y 2))
  have a1 := acc_next h0 h1 ⟨t.val - 2, by omega⟩ (by show ¬(t.val - 2) % 4 = 0; omega) (by show ¬(t.val - 2) % 4 = 3; omega) (ValueIdx.ix2 (y 1) (y 2))
  have a2 := acc_next h0 h1 ⟨t.val - 1, by omega⟩ (by show ¬(t.val - 1) % 4 = 0; omega) (by show ¬(t.val - 1) % 4 = 3; omega) (ValueIdx.ix2 (y 1) (y 2))
  have a3 := acc_last h0 h1 t h3 y
  dsimp only at a0 a1 a2
  have e (u v : ℕ) (hu : u < cfg0.N) (hv : v < cfg0.N) (h : u = v) : outsAt0 m c u hu = outsAt0 m c v hv := by subst h; rfl
  rw [e (t.val - 2 - 1) (t.val - 3) _ (by omega) (by omega), a0] at a1
  rw [e (t.val - 1 - 1) (t.val - 2) _ (by omega) (by omega), a1] at a2
  rw [a2] at a3
  rw [a3, ← four_blocks (fun k => term A B (1024 * (t.val / 16) + (y 1).val) (1024 * (t.val / 4 % 4) + (y 2).val) k)]
  have d0 : (t.val - 3) % 4 = 0 := by omega
  have d1 : (t.val - 2) % 4 = 1 := by omega
  have d2 : (t.val - 1) % 4 = 2 := by omega
  simp only [d0, d1, d2, h3]
  have i0 : (t.val - 3) / 16 = t.val / 16 := by omega
  have i1 : (t.val - 2) / 16 = t.val / 16 := by omega
  have i2 : (t.val - 1) / 16 = t.val / 16 := by omega
  have j0 : (t.val - 3) / 4 = t.val / 4 := by omega
  have j1 : (t.val - 2) / 4 = t.val / 4 := by omega
  have j2 : (t.val - 1) / 4 = t.val / 4 := by omega
  simp only [i0, i1, i2, j0, j1, j2]

end

/-! The reference. -/

/-- An entry of the reference's result. -/
theorem ref_val {x0 : (⟨S8192x2048, .bf16⟩ : BufTy).Contents (Elt Ideal)} {x2 : (⟨S8192x4096, .bf16⟩ : BufTy).Contents (Elt Ideal)} {A B : ℕ → ℕ → EReal} (h0 : ∀ i : S8192x2048.Idx, x0 i = A (i 0).val (i 1).val) (h2 : ∀ i : S8192x4096.Idx, x2 i = B (i 0).val (i 1).val) (i : S4x2048x1024.Idx) :
    Cert.InWgradRefIdeal.Read.val_main_v8 (F := Ideal) x0 x2 i = ∑ k : Fin 8192, term A B (i 1).val (1024 * (i 0).val + (i 2).val) k.val := by
  have b0 : (i 0).val < 4 := (i 0).isLt
  have b1 : (i 1).val < 2048 := (i 1).isLt
  have b2 : (i 2).val < 1024 := (i 2).isLt
  have hr : (((i 1).val * 4 + (i 0).val) * 1024 + (i 2).val) / 4096 = (i 1).val := by omega
  have hc : (((i 1).val * 4 + (i 0).val) * 1024 + (i 2).val) % 4096 = 1024 * (i 0).val + (i 2).val := by omega
  rw [Cert.InWgradRefIdeal.Read.val_main_v8_apply, Cert.InWgradRefIdeal.Read.val_main_v7_apply, Cert.InWgradRefIdeal.Read.val_main_v6_apply,
    Ideal.truncf_def, Cert.InWgradRefIdeal.Read.val_main_v5_apply, Cert.InWgradRefIdeal.Read.val_main_v4_apply]
  refine Finset.sum_congr rfl fun k _ => ?_
  rw [Cert.InWgradRefIdeal.Read.val_main_v3_apply, Cert.InWgradRefIdeal.Read.val_main_v0_apply, Ideal.extf_def, Ideal.extf_def, h0, h2, mul_comm]
  exact congrArg₂ (· * ·) (congrArg (A k.val) hr) (congrArg (B k.val) hc)

/-- The result, as the reference's term of the kernel's arguments. -/
def result (c : Dev nD) : (⟨S4x2048x1024, .bf16⟩ : BufTy).Contents (Elt Ideal) := Cert.InWgradRefIdeal.Read.val_main_v8 (F := Ideal) (X0 m c) (X2 m c)

/-- The kernel's result array. -/
theorem arr (c : Dev nD) : (dats m 0 c).arrAt 2 cfg0.N = result m c := by
  obtain ⟨A, h0⟩ := exists_nat (X0 m c)
  obtain ⟨B, h1⟩ := exists_nat (X2 m c)
  refine (dats m 0 c).arrAt_eq_of_covers 2 _ (by decide +kernel) fun t hf y => ?_
  have h3 := (flush0_2 t).1 hf
  have hy0 : (y 0).val < 1 := (y 0).isLt
  have hy1 : (y 1).val < 1024 := (y 1).isLt
  have hy2 : (y 2).val < 1024 := (y 2).isLt
  blk_simp
  rw [after0_2]
  have e0 : (((win0_2.blk t).view.emb y) 0).val = 1 * (t.val / 4 % 4) + (y 0).val := by blk_simp [ix2]; first | done | omega | (show (t.val / 4 % 4) * 1 + _ = _; omega)
  have e1 : (((win0_2.blk t).view.emb y) 1).val = 1024 * (t.val / 16) + (y 1).val := by blk_simp [ix2]; first | done | omega | (show (t.val / 16) * 1024 + _ = _; omega)
  have e2 : (((win0_2.blk t).view.emb y) 2).val = (y 2).val := by blk_simp [ix2]; first | done | omega | (show (0) * 1024 + _ = _; omega)
  refine (res_val h0 h1 t h3 y).trans (Eq.trans ?_ (ref_val h0 h1 ((win0_2.blk t).view.emb y)).symm)
  rw [e0, e1, e2]
  rw [show 1024 * (1 * (t.val / 4 % 4) + (y 0).val) + ((y 2).val) = (1024 * (t.val / 4 % 4) + (y 2).val) by omega]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.InWgradRefIdeal.nD Cert.InWgradRefIdeal.τ Cert.InWgradRefIdeal.sig) → Buf (Elt Ideal) ℓ)

/-- The reference leaves its arguments, and has no semaphore. -/
theorem frame_ref (ρ : Dev Cert.InWgradRefIdeal.nD → PrngReg) :
    θ_run (Cert.InWgradRefIdeal.defs (F := Ideal)) (onTc (τ := Cert.InWgradRefIdeal.τ) (Cert.InWgradRefIdeal.main (F := Ideal))) ⟨m', fun _ => 0, ρ⟩ (fun r => (∀ c : Dev Cert.InWgradRefIdeal.nD,
      r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1)
      ∧ r.2.mem ((c.tc : Thread Cert.InWgradRefIdeal.nD Cert.InWgradRefIdeal.τ).loc Cert.InWgradRefIdeal.main_arg2) = m' ((c.tc : Thread Cert.InWgradRefIdeal.nD Cert.InWgradRefIdeal.τ).loc Cert.InWgradRefIdeal.main_arg2))
      ∧ r.2.sem = fun _ => 0) :=
  (θ_run Cert.InWgradRefIdeal.defs _ _).mono (fun r h => ⟨fun c => (h c).2, sem_eq_zero_of_no_sems (by decide) r.2⟩) (Cert.InWgradRefIdeal.Value.run m' ρ)

/-- The reference's run, read at its result and its arguments, from a memory that agrees on the arguments. -/
theorem run_ref (ρ : Dev Cert.InWgradRefIdeal.nD → PrngReg) (hA : ∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)
      ∧ m' ((c.tc : Thread Cert.InWgradRefIdeal.nD Cert.InWgradRefIdeal.τ).loc Cert.InWgradRefIdeal.main_arg2) = m ((c.tc : Thread Cert.InWgradIdeal.nD Cert.InWgradIdeal.τ).loc Cert.InWgradIdeal.main_arg2)) :
    θ_run (Cert.InWgradRefIdeal.defs (F := Ideal)) (onTc (τ := Cert.InWgradRefIdeal.τ) (Cert.InWgradRefIdeal.main (F := Ideal))) ⟨m', fun _ => 0, ρ⟩ (fun r => ∀ c : Dev Cert.InWgradRefIdeal.nD,
      r.2.mem ((c.tc : Thread Cert.InWgradRefIdeal.nD Cert.InWgradRefIdeal.τ).loc Cert.InWgradRefIdeal.main_v8) = result m c
      ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1)
      ∧ r.2.mem ((c.tc : Thread Cert.InWgradRefIdeal.nD Cert.InWgradRefIdeal.τ).loc Cert.InWgradRefIdeal.main_arg2) = m' ((c.tc : Thread Cert.InWgradRefIdeal.nD Cert.InWgradRefIdeal.τ).loc Cert.InWgradRefIdeal.main_arg2)) := by
  refine (θ_run Cert.InWgradRefIdeal.defs _ _).mono (fun r h c => ?_) (Cert.InWgradRefIdeal.Value.run m' ρ)
  have e := hA c
  refine ⟨(h c).1.trans ?_, (h c).2⟩
  refine (Cert.InWgradRefIdeal.Read.val_main_v8_eq (F := Ideal) _ _).trans ?_
  show _ = Cert.InWgradRefIdeal.Read.val_main_v8 (F := Ideal) (m ((c.tc : Thread Cert.InWgradIdeal.nD Cert.InWgradIdeal.τ).loc Cert.InWgradIdeal.main_arg0)) (m ((c.tc : Thread Cert.InWgradIdeal.nD Cert.InWgradIdeal.τ).loc Cert.InWgradIdeal.main_arg2))
  rw [e.1, e.2.2]

end

end Cert.MmInWgrad

end
-- ==== Proof.MmInBwd.lean ====
/- The gradient of the input projection's input. -/
module

public import proofs.«01_k».proof.Proof.MmTools
public import proofs.«01_k».proof.Proof.Gen.InBwd.Frame
public import proofs.«01_k».proof.Proof.Gen.InBwdIdeal.Frame
public import proofs.«01_k».proof.Proof.Gen.InBwdRefIdeal.Run
public import proofs.«01_k».proof.Proof.Gen.InBwdRefIdeal.Read
public import Idealize.ShloMosaic.Lib.Pipeline.ValueKit
public import Idealize.ShloMosaic.Lib.Quiescent

@[expose] public section

set_option maxRecDepth 16384

noncomputable section

namespace Cert.MmInBwd

open Cert.InBwdIdeal Cert.InBwdIdeal.Gen Cert.MmTools Idealize.ShloMosaic Idealize.ShloMosaic.TcCoe Idealize.SL.Sem

/-- One term of the sum of products. -/
def term (A B : ℕ → ℕ → EReal) (i j k : ℕ) : EReal := A i k * B j k

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S1024x1024 .bf16} {x1 : Vec Ideal S1x2048x1024 .bf16} {A B : ℕ → ℕ → EReal} (h0 : ∀ i : S1024x1024.Idx, x0 i = A (i 0).val (i 1).val) (h1 : ∀ i : S1x2048x1024.Idx, x1 i = B (i 1).val (i 2).val) (i : S1024x2048.Idx) : k0_pay1 (F := Ideal) x0 x1 i = ∑ k : Fin 1024, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, drop_axis _ h1]
  rfl

/-- The first point of a run of four leaves its own product. -/
theorem first_val (c : Dev nD) (i : grid0.Coords) (a3 : Memref sig .tc .vmem S1024x1024 .bf16) (w3 : a3.IsWhole) (a4 : Memref sig .tc .vmem S1x2048x1024 .bf16) (w4 : a4.IsWhole) (a5 : Memref sig .tc .vmem S1024x2048 .bf16) (w5 : a5.IsWhole) (a6 : Memref sig .tc .vmem S1024x2048 .f32) (w6 : a6.IsWhole) (hc0 : cond0_0 i) (hc1 : ¬cond0_1 i) (hc2 : ¬cond0_2 i) (x0 : Vec Ideal S1024x1024 .bf16) (x1 : Vec Ideal S1x2048x1024 .bf16) :
    sout0_A_0 (F := Ideal) c i a3 w3 a4 w4 a5 w5 a6 w6 hc0 hc1 hc2 x0 x1 = k0_pay1 x0 x1 := by
  unfold sout0_A_0
  rw [View.read_writes_eq_canon _ _ _ (scover0_A_0 c i a3 w3 a4 w4 a5 w5 a6 w6 hc0 hc1 hc2 x0 x1)]
  unfold kernelRun0_A
  dsimp only
  sl_unfold_words
  rw [View.canon_unit_zero hz]
  unfold k0_pay2
  simp only [View.readAt_eq_ld, w3.read_unread, w4.read_unread, w6.read_unread, View.ld_unit_zero (S := S1024x1024) hz, View.ld_unit_zero (S := S1x2048x1024) hz3, View.ld_unit_zero (S := S1024x2048) hz, shapeCast_self]

/-- A point in the middle of a run adds its product to what the point before left. -/
theorem middle_val (c : Dev nD) (i : grid0.Coords) (a3 : Memref sig .tc .vmem S1024x1024 .bf16) (w3 : a3.IsWhole) (a4 : Memref sig .tc .vmem S1x2048x1024 .bf16) (w4 : a4.IsWhole) (a5 : Memref sig .tc .vmem S1024x2048 .bf16) (w5 : a5.IsWhole) (a6 : Memref sig .tc .vmem S1024x2048 .f32) (w6 : a6.IsWhole) (hc0 : ¬cond0_0 i) (hc1 : cond0_1 i) (hc2 : ¬cond0_2 i) (x0 : Vec Ideal S1024x1024 .bf16) (x1 : Vec Ideal S1x2048x1024 .bf16) (xs : Vec Ideal S1024x2048 .f32) :
    sout0_B_0 (F := Ideal) c i a3 w3 a4 w4 a5 w5 a6 w6 hc0 hc1 hc2 x0 x1 xs = addf xs (k0_pay1 x0 x1) := by
  unfold sout0_B_0
  rw [View.read_writes_eq_canon _ _ _ (scover0_B_0 c i a3 w3 a4 w4 a5 w5 a6 w6 hc0 hc1 hc2 x0 x1 xs)]
  unfold kernelRun0_B
  dsimp only
  sl_unfold_words
  rw [View.canon_unit_zero hz]
  unfold k0_pay3
  simp only [View.readAt_eq_ld, w3.read_unread, w4.read_unread, w6.read_unread, View.ld_unit_zero (S := S1024x1024) hz, View.ld_unit_zero (S := S1x2048x1024) hz3, View.ld_unit_zero (S := S1024x2048) hz, shapeCast_self]

/-- The last point of a run writes the sum of what the point before left and its own product. -/
theorem last_val (c : Dev nD) (i : grid0.Coords) (a3 : Memref sig .tc .vmem S1024x1024 .bf16) (w3 : a3.IsWhole) (a4 : Memref sig .tc .vmem S1x2048x1024 .bf16) (w4 : a4.IsWhole) (a5 : Memref sig .tc .vmem S1024x2048 .bf16) (w5 : a5.IsWhole) (a6 : Memref sig .tc .vmem S1024x2048 .f32) (w6 : a6.IsWhole) (hc0 : ¬cond0_0 i) (hc1 : cond0_1 i) (hc2 : cond0_2 i) (x0 : Vec Ideal S1024x1024 .bf16) (x1 : Vec Ideal S1x2048x1024 .bf16) (xs : Vec Ideal S1024x2048 .f32) :
    out0_C_2 (F := Ideal) c i a3 w3 a4 w4 a5 w5 a6 w6 hc0 hc1 hc2 x0 x1 xs = k0_pay4 (addf xs (k0_pay1 x0 x1)) := by
  unfold out0_C_2
  rw [View.read_writes_eq_canon _ _ _ (cover0_C_2 c i a3 w3 a4 w4 a5 w5 a6 w6 hc0 hc1 hc2 x0 x1 xs)]
  unfold kernelRun0_C
  dsimp only
  sl_unfold_words
  rw [View.canon_unit_zero hz, View.readCov_unit_zero (S := S1024x2048) _ hz]
  unfold k0_pay3
  simp only [View.readAt_eq_ld, w3.read_unread, w4.read_unread, w6.read_unread, View.ld_unit_zero (S := S1024x1024) hz, View.ld_unit_zero (S := S1x2048x1024) hz3, View.ld_unit_zero (S := S1024x2048) hz, shapeCast_self]

theorem store_val (x : Vec Ideal S1024x2048 .f32) (i : S1024x2048.Idx) : k0_pay4 (F := Ideal) x i = x i := rfl

/-! Where each window's block lies. -/

theorem ix0 : ∀ t : Fin cfg0.N, win0_0.index t = ![t.val / 4, t.val % 4] := (by decide +kernel : ∀ t : Fin grid0.N, win0_0.index t = ![t.val / 4, t.val % 4])
theorem ix1 : ∀ t : Fin cfg0.N, win0_1.index t = ![t.val % 4, 0, 0] := (by decide +kernel : ∀ t : Fin grid0.N, win0_1.index t = ![t.val % 4, 0, 0])
theorem ix2 : ∀ t : Fin cfg0.N, win0_2.index t = ![t.val / 4, 0] := (by decide +kernel : ∀ t : Fin grid0.N, win0_2.index t = ![t.val / 4, 0])

variable (m : (ℓ : Loc nD τ sig) → Buf (Elt Ideal) ℓ)

abbrev X0 (c : Dev nD) : (⟨S8192x2048, .bf16⟩ : BufTy).Contents (Elt Ideal) := m ((c : Thread nD τ).loc main_arg0)
abbrev X1 (c : Dev nD) : (⟨S2048x4096, .bf16⟩ : BufTy).Contents (Elt Ideal) := m ((c : Thread nD τ).loc main_arg1)
abbrev X2 (c : Dev nD) : (⟨S8192x4096, .bf16⟩ : BufTy).Contents (Elt Ideal) := m ((c : Thread nD τ).loc main_arg2)

section
variable {m : (ℓ : Loc nD τ sig) → Buf (Elt Ideal) ℓ} {c : Dev nD} {A B : ℕ → ℕ → EReal}

/-- The weight as the kernel's host part hands it over: cut into its four column blocks. -/
theorem V1_val (h1 : ∀ i : S2048x4096.Idx, X1 m c i = B (i 0).val (i 1).val) (i : S4x2048x1024.Idx) : V m c main_v1 i = B (i 1).val (1024 * (i 0).val + (i 2).val) := by
  have e : V m c main_v1 = transpose S4x2048x1024 [1, 0, 2] (shapeCast S2048x4x1024 (X1 m c) shapeCasts_S2048x4096_S2048x4x1024) transposes_S2048x4x1024_S4x2048x1024_1_0_2 := by
    dsimp only [V, hostOps0]
    after_results_simp
    all_goals rfl
  rw [e]
  exact column_blocks_1024 _ _ h1 i

theorem rd0 (h0 : ∀ i : S8192x4096.Idx, X2 m c i = A (i 0).val (i 1).val) (t : Fin cfg0.N) (y : S1024x1024.Idx) : iblk m c 0 t y = A (1024 * (t.val / 4) + (y 0).val) (1024 * (t.val % 4) + (y 1).val) := by
  blk_simp [iblk]
  have e0 : (((win0_0.blk t).view.emb y) 0).val = 1024 * (t.val / 4) + (y 0).val := by blk_simp [ix0]; first | done | omega | (show (t.val / 4) * 1024 + _ = _; omega)
  have e1 : (((win0_0.blk t).view.emb y) 1).val = 1024 * (t.val % 4) + (y 1).val := by blk_simp [ix0]; first | done | omega | (show (t.val % 4) * 1024 + _ = _; omega)
  refine (congrFun (V_main_arg2 m c) ((win0_0.blk t).view.emb y)).trans ((h0 _).trans ?_)
  rw [e0, e1]

theorem rd1 (h1 : ∀ i : S2048x4096.Idx, X1 m c i = B (i 0).val (i 1).val) (t : Fin cfg0.N) (y : S1x2048x1024.Idx) : iblk m c 1 t y = B ((y 1).val) (1024 * (t.val % 4) + (y 2).val) := by
  have hy : (y 0).val < 1 := (y 0).isLt
  blk_simp [iblk]
  have e0 : (((win0_1.blk t).view.emb y) 0).val = t.val % 4 := by blk_simp [ix1]; first | done | omega | (show (t.val % 4) * 1 + _ = _; omega)
  have e1 : (((win0_1.blk t).view.emb y) 1).val = (y 1).val := by blk_simp [ix1]; first | done | omega | (show (0) * 2048 + _ = _; omega)
  have e2 : (((win0_1.blk t).view.emb y) 2).val = (y 2).val := by blk_simp [ix1]; first | done | omega | (show (0) * 1024 + _ = _; omega)
  refine (V1_val h1 ((win0_1.blk t).view.emb y)).trans ?_
  rw [e0, e1, e2]

/-- The product of the blocks that a grid point reads. -/
theorem part_val (h0 : ∀ i : S8192x4096.Idx, X2 m c i = A (i 0).val (i 1).val) (h1 : ∀ i : S2048x4096.Idx, X1 m c i = B (i 0).val (i 1).val) (t : Fin cfg0.N) (y : S1024x2048.Idx) : k0_pay1 (F := Ideal) (iblk m c 0 t) (iblk m c 1 t) y = ∑ k : Fin 1024, term A B (1024 * (t.val / 4) + (y 0).val) (y 1).val (1024 * (t.val % 4) + k.val) := by
  refine (pay_val (A := fun p q => A (1024 * (t.val / 4) + p) (1024 * (t.val % 4) + q)) (B := fun p q => B (p) (1024 * (t.val % 4) + q)) (rd0 h0 t) (rd1 h1 t) y).trans ?_
  rfl

theorem acc_first (h0 : ∀ i : S8192x4096.Idx, X2 m c i = A (i 0).val (i 1).val) (h1 : ∀ i : S2048x4096.Idx, X1 m c i = B (i 0).val (i 1).val) (t : Fin cfg0.N) (h : t.val % 4 = 0) (y : S1024x2048.Idx) :
    (outsAt0 m c t.val t.isLt).2 y = ∑ k : Fin 1024, term A B (1024 * (t.val / 4) + (y 0).val) (y 1).val (1024 * (t.val % 4) + k.val) := by
  rw [outsAt0_A m c t h (by omega) (by omega)]
  dsimp only
  rw [first_val]
  exact part_val h0 h1 t y

theorem acc_next (h0 : ∀ i : S8192x4096.Idx, X2 m c i = A (i 0).val (i 1).val) (h1 : ∀ i : S2048x4096.Idx, X1 m c i = B (i 0).val (i 1).val) (t : Fin cfg0.N) (h : ¬t.val % 4 = 0) (h3 : ¬t.val % 4 = 3) (y : S1024x2048.Idx) :
    (outsAt0 m c t.val t.isLt).2 y = (outsAt0 m c (t.val - 1) (Nat.lt_of_le_of_lt (Nat.sub_le _ _) t.isLt)).2 y + ∑ k : Fin 1024, term A B (1024 * (t.val / 4) + (y 0).val) (y 1).val (1024 * (t.val % 4) + k.val) := by
  rw [outsAt0_B m c t h (by omega) h3]
  dsimp only
  rw [middle_val]
  exact congrArg (_ + ·) (part_val h0 h1 t y)

theorem acc_last (h0 : ∀ i : S8192x4096.Idx, X2 m c i = A (i 0).val (i 1).val) (h1 : ∀ i : S2048x4096.Idx, X1 m c i = B (i 0).val (i 1).val) (t : Fin cfg0.N) (h3 : t.val % 4 = 3) (y : S1024x2048.Idx) :
    (outsAt0 m c t.val t.isLt).1 y = (outsAt0 m c (t.val - 1) (Nat.lt_of_le_of_lt (Nat.sub_le _ _) t.isLt)).2 y + ∑ k : Fin 1024, term A B (1024 * (t.val / 4) + (y 0).val) (y 1).val (1024 * (t.val % 4) + k.val) := by
  rw [outsAt0_C m c t (by omega) (by omega) h3]
  dsimp only
  rw [last_val, store_val]
  exact congrArg (_ + ·) (part_val h0 h1 t y)

/-- What the last point of a run writes: the whole sum. -/
theorem res_val (h0 : ∀ i : S8192x4096.Idx, X2 m c i = A (i 0).val (i 1).val) (h1 : ∀ i : S2048x4096.Idx, X1 m c i = B (i 0).val (i 1).val) (t : Fin cfg0.N) (h3 : t.val % 4 = 3) (y : S1024x2048.Idx) :
    (outsAt0 m c t.val t.isLt).1 y = ∑ k : Fin 4096, term A B (1024 * (t.val / 4) + (y 0).val) (y 1).val k.val := by
  have hN : t.val < cfg0.N := t.isLt
  have a0 := acc_first h0 h1 ⟨t.val - 3, by omega⟩ (by show (t.val - 3) % 4 = 0; omega) y
  have a1 := acc_next h0 h1 ⟨t.val - 2, by omega⟩ (by show ¬(t.val - 2) % 4 = 0; omega) (by show ¬(t.val - 2) % 4 = 3; omega) y
  have a2 := acc_next h0 h1 ⟨t.val - 1, by omega⟩ (by show ¬(t.val - 1) % 4 = 0; omega) (by show ¬(t.val - 1) % 4 = 3; omega) y
  have a3 := acc_last h0 h1 t h3 y
  dsimp only at a0 a1 a2
  have e (u v : ℕ) (hu : u < cfg0.N) (hv : v < cfg0.N) (h : u = v) : outsAt0 m c u hu = outsAt0 m c v hv := by subst h; rfl
  rw [e (t.val - 2 - 1) (t.val - 3) _ (by omega) (by omega), a0] at a1
  rw [e (t.val - 1 - 1) (t.val - 2) _ (by omega) (by omega), a1] at a2
  rw [a2] at a3
  rw [a3, ← four_blocks_1024 (fun k => term A B (1024 * (t.val / 4) + (y 0).val) (y 1).val k)]
  have d0 : (t.val - 3) % 4 = 0 := by omega
  have d1 : (t.val - 2) % 4 = 1 := by omega
  have d2 : (t.val - 1) % 4 = 2 := by omega
  simp only [d0, d1, d2, h3]
  have i0 : (t.val - 3) / 4 = t.val / 4 := by omega
  have i1 : (t.val - 2) / 4 = t.val / 4 := by omega
  have i2 : (t.val - 1) / 4 = t.val / 4 := by omega
  simp only [i0, i1, i2]

end

/-! The reference. -/

/-- An entry of the reference's result. -/
theorem ref_val {x1 : (⟨S2048x4096, .bf16⟩ : BufTy).Contents (Elt Ideal)} {x2 : (⟨S8192x4096, .bf16⟩ : BufTy).Contents (Elt Ideal)} {A B : ℕ → ℕ → EReal} (h1 : ∀ i : S2048x4096.Idx, x1 i = B (i 0).val (i 1).val) (h2 : ∀ i : S8192x4096.Idx, x2 i = A (i 0).val (i 1).val) (i : S8192x2048.Idx) :
    Cert.InBwdRefIdeal.Read.val_main_v5 (F := Ideal) x1 x2 i = ∑ k : Fin 4096, term A B (i 0).val (i 1).val k.val := by
  rw [Cert.InBwdRefIdeal.Read.val_main_v5_apply, Ideal.truncf_def, Cert.InBwdRefIdeal.Read.val_main_v4_apply]
  refine Finset.sum_congr rfl fun k _ => ?_
  rw [Cert.InBwdRefIdeal.Read.val_main_v3_apply, Cert.InBwdRefIdeal.Read.val_main_v1_apply, Ideal.extf_def, Ideal.extf_def, h2, h1]
  rfl

/-- The result, as the reference's term of the kernel's arguments. -/
def result (c : Dev nD) : (⟨S8192x2048, .bf16⟩ : BufTy).Contents (Elt Ideal) := Cert.InBwdRefIdeal.Read.val_main_v5 (F := Ideal) (X1 m c) (X2 m c)

/-- The kernel's result array. -/
theorem arr (c : Dev nD) : (dats m 0 c).arrAt 2 cfg0.N = result m c := by
  obtain ⟨A, h0⟩ := exists_nat (X2 m c)
  obtain ⟨B, h1⟩ := exists_nat (X1 m c)
  refine (dats m 0 c).arrAt_eq_of_covers 2 _ (by decide +kernel) fun t hf y => ?_
  have h3 := (flush0_2 t).1 hf
  have hy0 : (y 0).val < 1024 := (y 0).isLt
  have hy1 : (y 1).val < 2048 := (y 1).isLt
  blk_simp
  rw [after0_2]
  have e0 : (((win0_2.blk t).view.emb y) 0).val = 1024 * (t.val / 4) + (y 0).val := by blk_simp [ix2]; first | done | omega | (show (t.val / 4) * 1024 + _ = _; omega)
  have e1 : (((win0_2.blk t).view.emb y) 1).val = (y 1).val := by blk_simp [ix2]; first | done | omega | (show (0) * 2048 + _ = _; omega)
  refine (res_val h0 h1 t h3 y).trans (Eq.trans ?_ (ref_val h1 h0 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.InBwdRefIdeal.nD Cert.InBwdRefIdeal.τ Cert.InBwdRefIdeal.sig) → Buf (Elt Ideal) ℓ)

/-- The reference leaves its arguments, and has no semaphore. -/
theorem frame_ref (ρ : Dev Cert.InBwdRefIdeal.nD → PrngReg) :
    θ_run (Cert.InBwdRefIdeal.defs (F := Ideal)) (onTc (τ := Cert.InBwdRefIdeal.τ) (Cert.InBwdRefIdeal.main (F := Ideal))) ⟨m', fun _ => 0, ρ⟩ (fun r => (∀ c : Dev Cert.InBwdRefIdeal.nD,
      r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2))
      ∧ r.2.sem = fun _ => 0) :=
  (θ_run Cert.InBwdRefIdeal.defs _ _).mono (fun r h => ⟨fun c => (h c).2, sem_eq_zero_of_no_sems (by decide) r.2⟩) (Cert.InBwdRefIdeal.Value.run m' ρ)

/-- The reference's run, read at its result and its arguments, from a memory that agrees on the arguments. -/
theorem run_ref (ρ : Dev Cert.InBwdRefIdeal.nD → PrngReg) (hA : ∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)) :
    θ_run (Cert.InBwdRefIdeal.defs (F := Ideal)) (onTc (τ := Cert.InBwdRefIdeal.τ) (Cert.InBwdRefIdeal.main (F := Ideal))) ⟨m', fun _ => 0, ρ⟩ (fun r => ∀ c : Dev Cert.InBwdRefIdeal.nD,
      r.2.mem ((c.tc : Thread Cert.InBwdRefIdeal.nD Cert.InBwdRefIdeal.τ).loc Cert.InBwdRefIdeal.main_v5) = result m c
      ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)) := by
  refine (θ_run Cert.InBwdRefIdeal.defs _ _).mono (fun r h c => ?_) (Cert.InBwdRefIdeal.Value.run m' ρ)
  have e := hA c
  refine ⟨(h c).1.trans ?_, (h c).2⟩
  refine (Cert.InBwdRefIdeal.Read.val_main_v5_eq (F := Ideal) _ _).trans ?_
  show _ = Cert.InBwdRefIdeal.Read.val_main_v5 (F := Ideal) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2))
  rw [e.2.1, e.2.2]

end

end Cert.MmInBwd

end
-- ==== Proof.MmAdaWgrad.lean ====
/- The gradient of the conditioning weights: one chip's part. -/
module

public import proofs.«01_k».proof.Proof.MmTools
public import proofs.«01_k».proof.Proof.Gen.AdaWgrad.Frame
public import proofs.«01_k».proof.Proof.Gen.AdaWgradIdeal.Frame
public import proofs.«01_k».proof.Proof.Gen.AdaWgradRefIdeal.Run
public import proofs.«01_k».proof.Proof.Gen.AdaWgradRefIdeal.Read
public import Idealize.ShloMosaic.Lib.Pipeline.ValueKit
public import Idealize.ShloMosaic.Lib.Quiescent

@[expose] public section

set_option maxRecDepth 16384

noncomputable section

namespace Cert.MmAdaWgrad

open Cert.AdaWgradIdeal Cert.AdaWgradIdeal.Gen Cert.MmTools Idealize.ShloMosaic Idealize.ShloMosaic.TcCoe Idealize.SL.Sem

/-- One term of the sum of products. -/
def term (A B : ℕ → ℕ → EReal) (i j k : ℕ) : EReal := A k i * B k j

theorem hz : (![0, 0] : Fin 2 → Nat) = fun _ => 0 := funext fun a => by fin_cases a <;> rfl
theorem hz3 : (![0, 0, 0] : Fin 3 → Nat) = fun _ => 0 := funext fun a => by fin_cases a <;> rfl

/-- The product that one grid point forms. -/
theorem pay_val {x0 : Vec Ideal S8x512 .f32} {x1 : Vec Ideal S8x512 .f32} {A B : ℕ → ℕ → EReal} (h0 : ∀ i : S8x512.Idx, x0 i = A (i 0).val (i 1).val) (h1 : ∀ i : S8x512.Idx, x1 i = B (i 0).val (i 1).val) (i : S512x512.Idx) : k0_pay1 (F := Ideal) x0 x1 i = ∑ k : Fin 8, term A B (i 0).val (i 1).val k.val := by
  unfold k0_pay1
  simp only [matmul, Ideal.matmul_def, truncf, Ideal.truncf_def]
  rw [Ideal.matmul_apply₁ _ rfl rfl]
  refine (congrArg (· + _) Ideal.ofBits_zero_f32).trans ((zero_add _).trans (Finset.sum_congr rfl fun k _ => ?_))
  rw [h0, h1]
  rfl

/-- What a grid point leaves in the result's block. -/
theorem out_val (x0 : Vec Ideal S8x512 .f32) (x1 : Vec Ideal S8x512 .f32) : out0_2 (F := Ideal) x0 x1 = k0_pay1 x0 x1 := by
  unfold out0_2
  rw [View.canon_unit_zero hz]
  simp only [View.ld_unit_zero (S := S8x512) hz]

/-! Where each window's block lies. -/

theorem ix0 : ∀ t : Fin cfg0.N, win0_0.index t = ![0, t.val / 6] := (by decide +kernel : ∀ t : Fin grid0.N, win0_0.index t = ![0, t.val / 6])
theorem ix1 : ∀ t : Fin cfg0.N, win0_1.index t = ![0, t.val % 6] := (by decide +kernel : ∀ t : Fin grid0.N, win0_1.index t = ![0, t.val % 6])
theorem ix2 : ∀ t : Fin cfg0.N, win0_2.index t = ![t.val / 6, t.val % 6] := (by decide +kernel : ∀ t : Fin grid0.N, win0_2.index t = ![t.val / 6, t.val % 6])

variable (m : (ℓ : Loc nD τ sig) → Buf (Elt Ideal) ℓ)

abbrev X0 (c : Dev nD) : (⟨S8x2048, .f32⟩ : BufTy).Contents (Elt Ideal) := m ((c : Thread nD τ).loc main_arg0)
abbrev X1 (c : Dev nD) : (⟨S2048x3072, .f32⟩ : BufTy).Contents (Elt Ideal) := m ((c : Thread nD τ).loc main_arg1)
abbrev X2 (c : Dev nD) : (⟨S8x3072, .f32⟩ : BufTy).Contents (Elt Ideal) := m ((c : Thread nD τ).loc main_arg2)

section
variable {m : (ℓ : Loc nD τ sig) → Buf (Elt Ideal) ℓ} {c : Dev nD} {A B : ℕ → ℕ → EReal}

theorem rd0 (h0 : ∀ i : S8x2048.Idx, X0 m c i = A (i 0).val (i 1).val) (t : Fin cfg0.N) (y : S8x512.Idx) : iblk m c 0 t y = A ((y 0).val) (512 * (t.val / 6) + (y 1).val) := by
  blk_simp [iblk]
  have e0 : (((win0_0.blk t).view.emb y) 0).val = (y 0).val := by blk_simp [ix0]; first | done | omega | (show (0) * 8 + _ = _; omega)
  have e1 : (((win0_0.blk t).view.emb y) 1).val = 512 * (t.val / 6) + (y 1).val := by blk_simp [ix0]; first | done | omega | (show (t.val / 6) * 512 + _ = _; omega)
  refine (congrFun (V_main_arg0 m c) ((win0_0.blk t).view.emb y)).trans ((h0 _).trans ?_)
  rw [e0, e1]

theorem rd1 (h1 : ∀ i : S8x3072.Idx, X2 m c i = B (i 0).val (i 1).val) (t : Fin cfg0.N) (y : S8x512.Idx) : iblk m c 1 t y = B ((y 0).val) (512 * (t.val % 6) + (y 1).val) := by
  blk_simp [iblk]
  have e0 : (((win0_1.blk t).view.emb y) 0).val = (y 0).val := by blk_simp [ix1]; first | done | omega | (show (0) * 8 + _ = _; omega)
  have e1 : (((win0_1.blk t).view.emb y) 1).val = 512 * (t.val % 6) + (y 1).val := by blk_simp [ix1]; first | done | omega | (show (t.val % 6) * 512 + _ = _; omega)
  refine (congrFun (V_main_arg2 m c) ((win0_1.blk t).view.emb y)).trans ((h1 _).trans ?_)
  rw [e0, e1]

/-- The product of the blocks that a grid point reads. -/
theorem part_val (h0 : ∀ i : S8x2048.Idx, X0 m c i = A (i 0).val (i 1).val) (h1 : ∀ i : S8x3072.Idx, X2 m c i = B (i 0).val (i 1).val) (t : Fin cfg0.N) (y : S512x512.Idx) : k0_pay1 (F := Ideal) (iblk m c 0 t) (iblk m c 1 t) y = ∑ k : Fin 8, term A B (512 * (t.val / 6) + (y 0).val) (512 * (t.val % 6) + (y 1).val) (k.val) := by
  refine (pay_val (A := fun p q => A (p) (512 * (t.val / 6) + q)) (B := fun p q => B (p) (512 * (t.val % 6) + q)) (rd0 h0 t) (rd1 h1 t) y).trans ?_
  rfl

end

/-! The reference. -/

/-- An entry of the reference's result. -/
theorem ref_val {x0 : (⟨S8x2048, .f32⟩ : BufTy).Contents (Elt Ideal)} {x2 : (⟨S8x3072, .f32⟩ : BufTy).Contents (Elt Ideal)} {A B : ℕ → ℕ → EReal} (h0 : ∀ i : S8x2048.Idx, x0 i = A (i 0).val (i 1).val) (h2 : ∀ i : S8x3072.Idx, x2 i = B (i 0).val (i 1).val) (i : S2048x3072.Idx) :
    Cert.AdaWgradRefIdeal.Read.val_main_v2 (F := Ideal) x0 x2 i = ∑ k : Fin 8, term A B (i 0).val (i 1).val k.val := by
  rw [Cert.AdaWgradRefIdeal.Read.val_main_v2_apply, Cert.AdaWgradRefIdeal.Read.val_main_v1_apply]
  refine Finset.sum_congr rfl fun k _ => ?_
  rw [h0, h2, mul_comm]
  rfl

/-- The result, as the reference's term of the kernel's arguments. -/
def result (c : Dev nD) : (⟨S2048x3072, .f32⟩ : BufTy).Contents (Elt Ideal) := Cert.AdaWgradRefIdeal.Read.val_main_v2 (F := Ideal) (X0 m c) (X2 m c)

/-- The kernel's result array. -/
theorem arr (c : Dev nD) : (dats m 0 c).arrAt 2 cfg0.N = result m c := by
  obtain ⟨A, h0⟩ := exists_nat (X0 m c)
  obtain ⟨B, h1⟩ := exists_nat (X2 m c)
  refine (dats m 0 c).arrAt_eq_of_covers 2 _ (by decide +kernel) fun t hf y => ?_
  have hy0 : (y 0).val < 512 := (y 0).isLt
  have hy1 : (y 1).val < 512 := (y 1).isLt
  blk_simp
  rw [after0_2]
  have e0 : (((win0_2.blk t).view.emb y) 0).val = 512 * (t.val / 6) + (y 0).val := by blk_simp [ix2]; first | done | omega | (show (t.val / 6) * 512 + _ = _; omega)
  have e1 : (((win0_2.blk t).view.emb y) 1).val = 512 * (t.val % 6) + (y 1).val := by blk_simp [ix2]; first | done | omega | (show (t.val % 6) * 512 + _ = _; omega)
  rw [out_val]
  refine (part_val h0 h1 t y).trans (Eq.trans ?_ (ref_val h0 h1 ((win0_2.blk t).view.emb y)).symm)
  rw [e0, e1]

/-- The kernel's run, read at its result and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (arr m c), h.2 c⟩) (θ_run_and (run_main m ρ) (unchanged m ρ))

section
variable (m' : (ℓ : Loc Cert.AdaWgradRefIdeal.nD Cert.AdaWgradRefIdeal.τ Cert.AdaWgradRefIdeal.sig) → Buf (Elt Ideal) ℓ)

/-- The reference leaves its arguments, and has no semaphore. -/
theorem frame_ref (ρ : Dev Cert.AdaWgradRefIdeal.nD → PrngReg) :
    θ_run (Cert.AdaWgradRefIdeal.defs (F := Ideal)) (onTc (τ := Cert.AdaWgradRefIdeal.τ) (Cert.AdaWgradRefIdeal.main (F := Ideal))) ⟨m', fun _ => 0, ρ⟩ (fun r => (∀ c : Dev Cert.AdaWgradRefIdeal.nD,
      r.2.mem ((c.tc : Thread Cert.AdaWgradRefIdeal.nD Cert.AdaWgradRefIdeal.τ).loc Cert.AdaWgradRefIdeal.main_arg0) = m' ((c.tc : Thread Cert.AdaWgradRefIdeal.nD Cert.AdaWgradRefIdeal.τ).loc Cert.AdaWgradRefIdeal.main_arg0)
      ∧ r.2.mem ((c.tc : Thread Cert.AdaWgradRefIdeal.nD Cert.AdaWgradRefIdeal.τ).loc Cert.AdaWgradRefIdeal.main_arg1) = m' ((c.tc : Thread Cert.AdaWgradRefIdeal.nD Cert.AdaWgradRefIdeal.τ).loc Cert.AdaWgradRefIdeal.main_arg1)
      ∧ r.2.mem ((c.tc : Thread Cert.AdaWgradRefIdeal.nD Cert.AdaWgradRefIdeal.τ).loc Cert.AdaWgradRefIdeal.main_arg2) = m' ((c.tc : Thread Cert.AdaWgradRefIdeal.nD Cert.AdaWgradRefIdeal.τ).loc Cert.AdaWgradRefIdeal.main_arg2))
      ∧ r.2.sem = fun _ => 0) :=
  (θ_run Cert.AdaWgradRefIdeal.defs _ _).mono (fun r h => ⟨fun c => (h c).2, sem_eq_zero_of_no_sems (by decide) r.2⟩) (Cert.AdaWgradRefIdeal.Value.run m' ρ)

/-- The reference's run, read at its result and its arguments, from a memory that agrees on the arguments. -/
theorem run_ref (ρ : Dev Cert.AdaWgradRefIdeal.nD → PrngReg) (hA : ∀ c : Dev Cert.AdaWgradIdeal.nD,
      m' ((c.tc : Thread Cert.AdaWgradRefIdeal.nD Cert.AdaWgradRefIdeal.τ).loc Cert.AdaWgradRefIdeal.main_arg0) = m ((c.tc : Thread Cert.AdaWgradIdeal.nD Cert.AdaWgradIdeal.τ).loc Cert.AdaWgradIdeal.main_arg0)
      ∧ m' ((c.tc : Thread Cert.AdaWgradRefIdeal.nD Cert.AdaWgradRefIdeal.τ).loc Cert.AdaWgradRefIdeal.main_arg1) = m ((c.tc : Thread Cert.AdaWgradIdeal.nD Cert.AdaWgradIdeal.τ).loc Cert.AdaWgradIdeal.main_arg1)
      ∧ m' ((c.tc : Thread Cert.AdaWgradRefIdeal.nD Cert.AdaWgradRefIdeal.τ).loc Cert.AdaWgradRefIdeal.main_arg2) = m ((c.tc : Thread Cert.AdaWgradIdeal.nD Cert.AdaWgradIdeal.τ).loc Cert.AdaWgradIdeal.main_arg2)) :
    θ_run (Cert.AdaWgradRefIdeal.defs (F := Ideal)) (onTc (τ := Cert.AdaWgradRefIdeal.τ) (Cert.AdaWgradRefIdeal.main (F := Ideal))) ⟨m', fun _ => 0, ρ⟩ (fun r => ∀ c : Dev Cert.AdaWgradRefIdeal.nD,
      r.2.mem ((c.tc : Thread Cert.AdaWgradRefIdeal.nD Cert.AdaWgradRefIdeal.τ).loc Cert.AdaWgradRefIdeal.main_v2) = result m c
      ∧ r.2.mem ((c.tc : Thread Cert.AdaWgradRefIdeal.nD Cert.AdaWgradRefIdeal.τ).loc Cert.AdaWgradRefIdeal.main_arg0) = m' ((c.tc : Thread Cert.AdaWgradRefIdeal.nD Cert.AdaWgradRefIdeal.τ).loc Cert.AdaWgradRefIdeal.main_arg0)
      ∧ r.2.mem ((c.tc : Thread Cert.AdaWgradRefIdeal.nD Cert.AdaWgradRefIdeal.τ).loc Cert.AdaWgradRefIdeal.main_arg1) = m' ((c.tc : Thread Cert.AdaWgradRefIdeal.nD Cert.AdaWgradRefIdeal.τ).loc Cert.AdaWgradRefIdeal.main_arg1)
      ∧ r.2.mem ((c.tc : Thread Cert.AdaWgradRefIdeal.nD Cert.AdaWgradRefIdeal.τ).loc Cert.AdaWgradRefIdeal.main_arg2) = m' ((c.tc : Thread Cert.AdaWgradRefIdeal.nD Cert.AdaWgradRefIdeal.τ).loc Cert.AdaWgradRefIdeal.main_arg2)) := by
  refine (θ_run Cert.AdaWgradRefIdeal.defs _ _).mono (fun r h c => ?_) (Cert.AdaWgradRefIdeal.Value.run m' ρ)
  have e := hA c
  refine ⟨(h c).1.trans ?_, (h c).2⟩
  refine (Cert.AdaWgradRefIdeal.Read.val_main_v2_eq (F := Ideal) _ _).trans ?_
  show _ = Cert.AdaWgradRefIdeal.Read.val_main_v2 (F := Ideal) (m ((c.tc : Thread Cert.AdaWgradIdeal.nD Cert.AdaWgradIdeal.τ).loc Cert.AdaWgradIdeal.main_arg0)) (m ((c.tc : Thread Cert.AdaWgradIdeal.nD Cert.AdaWgradIdeal.τ).loc Cert.AdaWgradIdeal.main_arg2))
  rw [e.1, e.2.2]

end

end Cert.MmAdaWgrad

end
-- ==== Proof.StepTools.lean ====
/- One AdamW step of one entry, as extended reals. -/
module

public import Idealize.ShloMosaic.PureOps.Ideal

@[expose] public section

noncomputable section

namespace Cert.StepTools

open Idealize.ShloMosaic

/-- The new first moment, of the gradient and the old one. -/
def newM (g m : EReal) : EReal := Ideal.ofBits .f32 0x3F666666#32 * m + Ideal.ofBits .f32 0x3DCCCCCD#32 * g

/-- The new second moment, of the gradient and the old one. -/
def newV (g v : EReal) : EReal := Ideal.ofBits .f32 0x3F7FBE77#32 * v + Ideal.ofBits .f32 0x3A83126F#32 * (g * g)

/-- What is added to the weight. -/
def delta (w g m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.StepTools

end
-- ==== Proof.StepAdamFf1.lean ====
/- The AdamW step of the MLP's first weight: one chip's part. -/
module

public import proofs.«01_k».proof.Proof.StepTools
public import proofs.«01_k».proof.Proof.Gen.AdamFf1.Frame
public import proofs.«01_k».proof.Proof.Gen.AdamFf1Ideal.Frame
public import proofs.«01_k».proof.Proof.Gen.AdamFf1RefIdeal.Run
public import proofs.«01_k».proof.Proof.Gen.AdamFf1RefIdeal.Read
public import Idealize.ShloMosaic.Lib.Pipeline.ValueKit
public import Idealize.ShloMosaic.Lib.Quiescent

@[expose] public section

set_option maxRecDepth 16384

noncomputable section

namespace Cert.StepAdamFf1

open Cert.AdamFf1Ideal Cert.AdamFf1Ideal.Gen Cert.StepTools Idealize.ShloMosaic Idealize.ShloMosaic.TcCoe Idealize.SL.Sem

theorem hz : (![0, 0] : Fin 2 → Nat) = fun _ => 0 := funext fun a => by fin_cases a <;> rfl

/-! What a grid point leaves in the three results' blocks. -/

theorem out_delta (x0 x1 x2 x3 : Vec Ideal S128x2048 .f32) (y : S128x2048.Idx) : out0_4 (F := Ideal) x0 x1 x2 x3 y = Cert.StepTools.delta (x0 y) (x1 y) (x2 y) (x3 y) := by
  unfold out0_4
  rw [View.canon_unit_zero hz]
  simp only [View.ld_unit_zero (S := S128x2048) hz]
  rfl

theorem out_m (x0 x1 x2 x3 : Vec Ideal S128x2048 .f32) (y : S128x2048.Idx) : out0_5 (F := Ideal) x0 x1 x2 x3 y = Cert.StepTools.newM (x1 y) (x2 y) := by
  unfold out0_5
  rw [View.canon_unit_zero hz]
  simp only [View.ld_unit_zero (S := S128x2048) hz]
  rfl

theorem out_v (x0 x1 x2 x3 : Vec Ideal S128x2048 .f32) (y : S128x2048.Idx) : out0_6 (F := Ideal) x0 x1 x2 x3 y = Cert.StepTools.newV (x1 y) (x3 y) := by
  unfold out0_6
  rw [View.canon_unit_zero hz]
  simp only [View.ld_unit_zero (S := S128x2048) hz]
  rfl

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

variable (m : (ℓ : Loc nD τ sig) → Buf (Elt Ideal) ℓ)

abbrev X0 (c : Dev nD) : (⟨S2048x2048, .f32⟩ : BufTy).Contents (Elt Ideal) := m ((c : Thread nD τ).loc main_arg0)
abbrev X1 (c : Dev nD) : (⟨S2048x2048, .f32⟩ : BufTy).Contents (Elt Ideal) := m ((c : Thread nD τ).loc main_arg1)
abbrev X2 (c : Dev nD) : (⟨S2048x2048, .f32⟩ : BufTy).Contents (Elt Ideal) := m ((c : Thread nD τ).loc main_arg2)
abbrev X3 (c : Dev nD) : (⟨S2048x2048, .f32⟩ : BufTy).Contents (Elt Ideal) := m ((c : Thread nD τ).loc main_arg3)

/-! A block's entry is the array's entry at the block's rows. -/

theorem rd0_4 (c : Dev nD) (t : Fin cfg0.N) (y : S128x2048.Idx) : iblk m c 0 t y = X0 m c ((win0_4.blk t).view.emb y) := by
  blk_simp [iblk]
  refine (congrFun (V_main_arg0 m c) ((win0_0.blk t).view.emb y)).trans (congrArg (X0 m c) (funext fun a => Fin.ext ?_))
  fin_cases a
  · blk_simp [ix0, ix4]
  · blk_simp [ix0, ix4]

theorem rd0_5 (c : Dev nD) (t : Fin cfg0.N) (y : S128x2048.Idx) : iblk m c 0 t y = X0 m c ((win0_5.blk t).view.emb y) := by
  blk_simp [iblk]
  refine (congrFun (V_main_arg0 m c) ((win0_0.blk t).view.emb y)).trans (congrArg (X0 m c) (funext fun a => Fin.ext ?_))
  fin_cases a
  · blk_simp [ix0, ix5]
  · blk_simp [ix0, ix5]

theorem rd0_6 (c : Dev nD) (t : Fin cfg0.N) (y : S128x2048.Idx) : iblk m c 0 t y = X0 m c ((win0_6.blk t).view.emb y) := by
  blk_simp [iblk]
  refine (congrFun (V_main_arg0 m c) ((win0_0.blk t).view.emb y)).trans (congrArg (X0 m c) (funext fun a => Fin.ext ?_))
  fin_cases a
  · blk_simp [ix0, ix6]
  · blk_simp [ix0, ix6]

theorem rd1_4 (c : Dev nD) (t : Fin cfg0.N) (y : S128x2048.Idx) : iblk m c 1 t y = X1 m c ((win0_4.blk t).view.emb y) := by
  blk_simp [iblk]
  refine (congrFun (V_main_arg1 m c) ((win0_1.blk t).view.emb y)).trans (congrArg (X1 m c) (funext fun a => Fin.ext ?_))
  fin_cases a
  · blk_simp [ix1, ix4]
  · blk_simp [ix1, ix4]

theorem rd1_5 (c : Dev nD) (t : Fin cfg0.N) (y : S128x2048.Idx) : iblk m c 1 t y = X1 m c ((win0_5.blk t).view.emb y) := by
  blk_simp [iblk]
  refine (congrFun (V_main_arg1 m c) ((win0_1.blk t).view.emb y)).trans (congrArg (X1 m c) (funext fun a => Fin.ext ?_))
  fin_cases a
  · blk_simp [ix1, ix5]
  · blk_simp [ix1, ix5]

theorem rd1_6 (c : Dev nD) (t : Fin cfg0.N) (y : S128x2048.Idx) : iblk m c 1 t y = X1 m c ((win0_6.blk t).view.emb y) := by
  blk_simp [iblk]
  refine (congrFun (V_main_arg1 m c) ((win0_1.blk t).view.emb y)).trans (congrArg (X1 m c) (funext fun a => Fin.ext ?_))
  fin_cases a
  · blk_simp [ix1, ix6]
  · blk_simp [ix1, ix6]

theorem rd2_4 (c : Dev nD) (t : Fin cfg0.N) (y : S128x2048.Idx) : iblk m c 2 t y = X2 m c ((win0_4.blk t).view.emb y) := by
  blk_simp [iblk]
  refine (congrFun (V_main_arg2 m c) ((win0_2.blk t).view.emb y)).trans (congrArg (X2 m c) (funext fun a => Fin.ext ?_))
  fin_cases a
  · blk_simp [ix2, ix4]
  · blk_simp [ix2, ix4]

theorem rd2_5 (c : Dev nD) (t : Fin cfg0.N) (y : S128x2048.Idx) : iblk m c 2 t y = X2 m c ((win0_5.blk t).view.emb y) := by
  blk_simp [iblk]
  refine (congrFun (V_main_arg2 m c) ((win0_2.blk t).view.emb y)).trans (congrArg (X2 m c) (funext fun a => Fin.ext ?_))
  fin_cases a
  · blk_simp [ix2, ix5]
  · blk_simp [ix2, ix5]

theorem rd2_6 (c : Dev nD) (t : Fin cfg0.N) (y : S128x2048.Idx) : iblk m c 2 t y = X2 m c ((win0_6.blk t).view.emb y) := by
  blk_simp [iblk]
  refine (congrFun (V_main_arg2 m c) ((win0_2.blk t).view.emb y)).trans (congrArg (X2 m c) (funext fun a => Fin.ext ?_))
  fin_cases a
  · blk_simp [ix2, ix6]
  · blk_simp [ix2, ix6]

theorem rd3_4 (c : Dev nD) (t : Fin cfg0.N) (y : S128x2048.Idx) : iblk m c 3 t y = X3 m c ((win0_4.blk t).view.emb y) := by
  blk_simp [iblk]
  refine (congrFun (V_main_arg3 m c) ((win0_3.blk t).view.emb y)).trans (congrArg (X3 m c) (funext fun a => Fin.ext ?_))
  fin_cases a
  · blk_simp [ix3, ix4]
  · blk_simp [ix3, ix4]

theorem rd3_5 (c : Dev nD) (t : Fin cfg0.N) (y : S128x2048.Idx) : iblk m c 3 t y = X3 m c ((win0_5.blk t).view.emb y) := by
  blk_simp [iblk]
  refine (congrFun (V_main_arg3 m c) ((win0_3.blk t).view.emb y)).trans (congrArg (X3 m c) (funext fun a => Fin.ext ?_))
  fin_cases a
  · blk_simp [ix3, ix5]
  · blk_simp [ix3, ix5]

theorem rd3_6 (c : Dev nD) (t : Fin cfg0.N) (y : S128x2048.Idx) : iblk m c 3 t y = X3 m c ((win0_6.blk t).view.emb y) := by
  blk_simp [iblk]
  refine (congrFun (V_main_arg3 m c) ((win0_3.blk t).view.emb y)).trans (congrArg (X3 m c) (funext fun a => Fin.ext ?_))
  fin_cases a
  · blk_simp [ix3, ix6]
  · blk_simp [ix3, ix6]

/-! The reference's entries. -/

theorem ref_m (x1 x2 : (⟨S2048x2048, .f32⟩ : BufTy).Contents (Elt Ideal)) (i : S2048x2048.Idx) :
    Cert.AdamFf1RefIdeal.Read.val_main_v4 (F := Ideal) x1 x2 i = Cert.StepTools.newM (x1 i) (x2 i) := by
  rw [Cert.AdamFf1RefIdeal.Read.val_main_v4_apply, Cert.AdamFf1RefIdeal.Read.val_main_v1_apply, Cert.AdamFf1RefIdeal.Read.val_main_v3_apply, Cert.AdamFf1RefIdeal.Read.val_main_v0_apply, Cert.AdamFf1RefIdeal.Read.val_main_v2_apply]
  rfl

theorem ref_v (x1 x3 : (⟨S2048x2048, .f32⟩ : BufTy).Contents (Elt Ideal)) (i : S2048x2048.Idx) :
    Cert.AdamFf1RefIdeal.Read.val_main_v10 (F := Ideal) x1 x3 i = Cert.StepTools.newV (x1 i) (x3 i) := by
  rw [Cert.AdamFf1RefIdeal.Read.val_main_v10_apply, Cert.AdamFf1RefIdeal.Read.val_main_v6_apply, Cert.AdamFf1RefIdeal.Read.val_main_v9_apply, Cert.AdamFf1RefIdeal.Read.val_main_v5_apply, Cert.AdamFf1RefIdeal.Read.val_main_v8_apply, Cert.AdamFf1RefIdeal.Read.val_main_v7_apply]
  rfl

theorem ref_delta (x0 x1 x2 x3 : (⟨S2048x2048, .f32⟩ : BufTy).Contents (Elt Ideal)) (i : S2048x2048.Idx) :
    Cert.AdamFf1RefIdeal.Read.val_main_v23 (F := Ideal) x0 x1 x2 x3 i = Cert.StepTools.delta (x0 i) (x1 i) (x2 i) (x3 i) := by
  rw [Cert.AdamFf1RefIdeal.Read.val_main_v23_apply, Cert.AdamFf1RefIdeal.Read.val_main_v22_apply, Cert.AdamFf1RefIdeal.Read.val_main_v21_apply, Cert.AdamFf1RefIdeal.Read.val_main_v18_apply, Cert.AdamFf1RefIdeal.Read.val_main_v20_apply, Cert.AdamFf1RefIdeal.Read.val_main_v12_apply,
    Cert.AdamFf1RefIdeal.Read.val_main_v17_apply, Cert.AdamFf1RefIdeal.Read.val_main_v19_apply, Cert.AdamFf1RefIdeal.Read.val_main_v11_apply, Cert.AdamFf1RefIdeal.Read.val_main_v15_apply, Cert.AdamFf1RefIdeal.Read.val_main_v16_apply, Cert.AdamFf1RefIdeal.Read.val_main_v14_apply,
    Cert.AdamFf1RefIdeal.Read.val_main_v13_apply, ref_m, ref_v]
  rfl

/-! The results, as the reference's terms of the kernel's arguments. -/

def delta (c : Dev nD) : (⟨S2048x2048, .f32⟩ : BufTy).Contents (Elt Ideal) := Cert.AdamFf1RefIdeal.Read.val_main_v23 (F := Ideal) (X0 m c) (X1 m c) (X2 m c) (X3 m c)
def newM (c : Dev nD) : (⟨S2048x2048, .f32⟩ : BufTy).Contents (Elt Ideal) := Cert.AdamFf1RefIdeal.Read.val_main_v4 (F := Ideal) (X1 m c) (X2 m c)
def newV (c : Dev nD) : (⟨S2048x2048, .f32⟩ : BufTy).Contents (Elt Ideal) := Cert.AdamFf1RefIdeal.Read.val_main_v10 (F := Ideal) (X1 m c) (X3 m c)

/-! The kernel's three result arrays. -/

theorem arr_delta (c : Dev nD) : (dats m 0 c).arrAt 4 cfg0.N = delta m c := by
  refine (dats m 0 c).arrAt_eq_of_covers 4 _ (by decide +kernel) fun t hf y => ?_
  blk_simp
  rw [after0_4, out_delta]
  refine Eq.trans ?_ (ref_delta (X0 m c) (X1 m c) (X2 m c) (X3 m c) ((win0_4.blk t).view.emb y)).symm
  rw [rd0_4 m c t y, rd1_4 m c t y, rd2_4 m c t y, rd3_4 m c t y]

theorem arr_m (c : Dev nD) : (dats m 0 c).arrAt 5 cfg0.N = newM m c := by
  refine (dats m 0 c).arrAt_eq_of_covers 5 _ (by decide +kernel) fun t hf y => ?_
  blk_simp
  rw [after0_5, out_m]
  refine Eq.trans ?_ (ref_m (X1 m c) (X2 m c) ((win0_5.blk t).view.emb y)).symm
  rw [rd1_5 m c t y, rd2_5 m c t y]

theorem arr_v (c : Dev nD) : (dats m 0 c).arrAt 6 cfg0.N = newV m c := by
  refine (dats m 0 c).arrAt_eq_of_covers 6 _ (by decide +kernel) fun t hf y => ?_
  blk_simp
  rw [after0_6, out_v]
  refine Eq.trans ?_ (ref_v (X1 m c) (X3 m c) ((win0_6.blk t).view.emb y)).symm
  rw [rd1_6 m c t y, rd3_6 m c t y]

/-- The kernel's run, read at its results and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (arr_delta m c), ((h.1 c).1 5).trans (arr_m m c), ((h.1 c).1 6).trans (arr_v m c), h.2 c⟩)
    (θ_run_and (run_main m ρ) (unchanged m ρ))

section
variable (m' : (ℓ : Loc Cert.AdamFf1RefIdeal.nD Cert.AdamFf1RefIdeal.τ Cert.AdamFf1RefIdeal.sig) → Buf (Elt Ideal) ℓ)

/-- The reference leaves its arguments, and has no semaphore. -/
theorem frame_ref (ρ : Dev Cert.AdamFf1RefIdeal.nD → PrngReg) :
    θ_run (Cert.AdamFf1RefIdeal.defs (F := Ideal)) (onTc (τ := Cert.AdamFf1RefIdeal.τ) (Cert.AdamFf1RefIdeal.main (F := Ideal))) ⟨m', fun _ => 0, ρ⟩ (fun r => (∀ c : Dev Cert.AdamFf1RefIdeal.nD,
      r.2.mem ((c.tc : Thread Cert.AdamFf1RefIdeal.nD Cert.AdamFf1RefIdeal.τ).loc Cert.AdamFf1RefIdeal.main_arg0) = m' ((c.tc : Thread Cert.AdamFf1RefIdeal.nD Cert.AdamFf1RefIdeal.τ).loc Cert.AdamFf1RefIdeal.main_arg0)
      ∧ r.2.mem ((c.tc : Thread Cert.AdamFf1RefIdeal.nD Cert.AdamFf1RefIdeal.τ).loc Cert.AdamFf1RefIdeal.main_arg1) = m' ((c.tc : Thread Cert.AdamFf1RefIdeal.nD Cert.AdamFf1RefIdeal.τ).loc Cert.AdamFf1RefIdeal.main_arg1)
      ∧ r.2.mem ((c.tc : Thread Cert.AdamFf1RefIdeal.nD Cert.AdamFf1RefIdeal.τ).loc Cert.AdamFf1RefIdeal.main_arg2) = m' ((c.tc : Thread Cert.AdamFf1RefIdeal.nD Cert.AdamFf1RefIdeal.τ).loc Cert.AdamFf1RefIdeal.main_arg2)
      ∧ r.2.mem ((c.tc : Thread Cert.AdamFf1RefIdeal.nD Cert.AdamFf1RefIdeal.τ).loc Cert.AdamFf1RefIdeal.main_arg3) = m' ((c.tc : Thread Cert.AdamFf1RefIdeal.nD Cert.AdamFf1RefIdeal.τ).loc Cert.AdamFf1RefIdeal.main_arg3))
      ∧ r.2.sem = fun _ => 0) :=
  (θ_run Cert.AdamFf1RefIdeal.defs _ _).mono (fun r h => ⟨fun c => (h c).2.2.2, sem_eq_zero_of_no_sems (by decide) r.2⟩) (Cert.AdamFf1RefIdeal.Value.run m' ρ)

/-- The reference's run, read at its results and its arguments, from a memory that agrees on the arguments. -/
theorem run_ref (ρ : Dev Cert.AdamFf1RefIdeal.nD → PrngReg) (hA : ∀ c : Dev Cert.AdamFf1Ideal.nD,
      m' ((c.tc : Thread Cert.AdamFf1RefIdeal.nD Cert.AdamFf1RefIdeal.τ).loc Cert.AdamFf1RefIdeal.main_arg0) = m ((c.tc : Thread Cert.AdamFf1Ideal.nD Cert.AdamFf1Ideal.τ).loc Cert.AdamFf1Ideal.main_arg0)
      ∧ m' ((c.tc : Thread Cert.AdamFf1RefIdeal.nD Cert.AdamFf1RefIdeal.τ).loc Cert.AdamFf1RefIdeal.main_arg1) = m ((c.tc : Thread Cert.AdamFf1Ideal.nD Cert.AdamFf1Ideal.τ).loc Cert.AdamFf1Ideal.main_arg1)
      ∧ m' ((c.tc : Thread Cert.AdamFf1RefIdeal.nD Cert.AdamFf1RefIdeal.τ).loc Cert.AdamFf1RefIdeal.main_arg2) = m ((c.tc : Thread Cert.AdamFf1Ideal.nD Cert.AdamFf1Ideal.τ).loc Cert.AdamFf1Ideal.main_arg2)
      ∧ m' ((c.tc : Thread Cert.AdamFf1RefIdeal.nD Cert.AdamFf1RefIdeal.τ).loc Cert.AdamFf1RefIdeal.main_arg3) = m ((c.tc : Thread Cert.AdamFf1Ideal.nD Cert.AdamFf1Ideal.τ).loc Cert.AdamFf1Ideal.main_arg3)) :
    θ_run (Cert.AdamFf1RefIdeal.defs (F := Ideal)) (onTc (τ := Cert.AdamFf1RefIdeal.τ) (Cert.AdamFf1RefIdeal.main (F := Ideal))) ⟨m', fun _ => 0, ρ⟩ (fun r => ∀ c : Dev Cert.AdamFf1RefIdeal.nD,
      r.2.mem ((c.tc : Thread Cert.AdamFf1RefIdeal.nD Cert.AdamFf1RefIdeal.τ).loc Cert.AdamFf1RefIdeal.main_v23) = delta m c
      ∧ r.2.mem ((c.tc : Thread Cert.AdamFf1RefIdeal.nD Cert.AdamFf1RefIdeal.τ).loc Cert.AdamFf1RefIdeal.main_v4) = newM m c
      ∧ r.2.mem ((c.tc : Thread Cert.AdamFf1RefIdeal.nD Cert.AdamFf1RefIdeal.τ).loc Cert.AdamFf1RefIdeal.main_v10) = newV m c
      ∧ r.2.mem ((c.tc : Thread Cert.AdamFf1RefIdeal.nD Cert.AdamFf1RefIdeal.τ).loc Cert.AdamFf1RefIdeal.main_arg0) = m' ((c.tc : Thread Cert.AdamFf1RefIdeal.nD Cert.AdamFf1RefIdeal.τ).loc Cert.AdamFf1RefIdeal.main_arg0)
      ∧ r.2.mem ((c.tc : Thread Cert.AdamFf1RefIdeal.nD Cert.AdamFf1RefIdeal.τ).loc Cert.AdamFf1RefIdeal.main_arg1) = m' ((c.tc : Thread Cert.AdamFf1RefIdeal.nD Cert.AdamFf1RefIdeal.τ).loc Cert.AdamFf1RefIdeal.main_arg1)
      ∧ r.2.mem ((c.tc : Thread Cert.AdamFf1RefIdeal.nD Cert.AdamFf1RefIdeal.τ).loc Cert.AdamFf1RefIdeal.main_arg2) = m' ((c.tc : Thread Cert.AdamFf1RefIdeal.nD Cert.AdamFf1RefIdeal.τ).loc Cert.AdamFf1RefIdeal.main_arg2)
      ∧ r.2.mem ((c.tc : Thread Cert.AdamFf1RefIdeal.nD Cert.AdamFf1RefIdeal.τ).loc Cert.AdamFf1RefIdeal.main_arg3) = m' ((c.tc : Thread Cert.AdamFf1RefIdeal.nD Cert.AdamFf1RefIdeal.τ).loc Cert.AdamFf1RefIdeal.main_arg3)) := by
  refine (θ_run Cert.AdamFf1RefIdeal.defs _ _).mono (fun r h c => ?_) (Cert.AdamFf1RefIdeal.Value.run m' ρ)
  have e := hA c
  refine ⟨(h c).1.trans ?_, (h c).2.1.trans ?_, (h c).2.2.1.trans ?_, (h c).2.2.2⟩
  · refine (Cert.AdamFf1RefIdeal.Read.val_main_v23_eq (F := Ideal) _ _ _ _).trans ?_
    show _ = Cert.AdamFf1RefIdeal.Read.val_main_v23 (F := Ideal) (m ((c.tc : Thread Cert.AdamFf1Ideal.nD Cert.AdamFf1Ideal.τ).loc Cert.AdamFf1Ideal.main_arg0)) (m ((c.tc : Thread Cert.AdamFf1Ideal.nD Cert.AdamFf1Ideal.τ).loc Cert.AdamFf1Ideal.main_arg1)) (m ((c.tc : Thread Cert.AdamFf1Ideal.nD Cert.AdamFf1Ideal.τ).loc Cert.AdamFf1Ideal.main_arg2)) (m ((c.tc : Thread Cert.AdamFf1Ideal.nD Cert.AdamFf1Ideal.τ).loc Cert.AdamFf1Ideal.main_arg3))
    rw [e.1, e.2.1, e.2.2.1, e.2.2.2]
  · refine (Cert.AdamFf1RefIdeal.Read.val_main_v4_eq (F := Ideal) _ _).trans ?_
    show _ = Cert.AdamFf1RefIdeal.Read.val_main_v4 (F := Ideal) (m ((c.tc : Thread Cert.AdamFf1Ideal.nD Cert.AdamFf1Ideal.τ).loc Cert.AdamFf1Ideal.main_arg1)) (m ((c.tc : Thread Cert.AdamFf1Ideal.nD Cert.AdamFf1Ideal.τ).loc Cert.AdamFf1Ideal.main_arg2))
    rw [e.2.1, e.2.2.1]
  · refine (Cert.AdamFf1RefIdeal.Read.val_main_v10_eq (F := Ideal) _ _).trans ?_
    show _ = Cert.AdamFf1RefIdeal.Read.val_main_v10 (F := Ideal) (m ((c.tc : Thread Cert.AdamFf1Ideal.nD Cert.AdamFf1Ideal.τ).loc Cert.AdamFf1Ideal.main_arg1)) (m ((c.tc : Thread Cert.AdamFf1Ideal.nD Cert.AdamFf1Ideal.τ).loc Cert.AdamFf1Ideal.main_arg3))
    rw [e.2.1, e.2.2.2]

end

end Cert.StepAdamFf1

end
-- ==== Proof.StepAdamFf2.lean ====
/- The AdamW step of the MLP's second weight: one chip's part. -/
module

public import proofs.«01_k».proof.Proof.StepTools
public import proofs.«01_k».proof.Proof.Gen.AdamFf2.Frame
public import proofs.«01_k».proof.Proof.Gen.AdamFf2Ideal.Frame
public import proofs.«01_k».proof.Proof.Gen.AdamFf2RefIdeal.Run
public import proofs.«01_k».proof.Proof.Gen.AdamFf2RefIdeal.Read
public import Idealize.ShloMosaic.Lib.Pipeline.ValueKit
public import Idealize.ShloMosaic.Lib.Quiescent

@[expose] public section

set_option maxRecDepth 16384

noncomputable section

namespace Cert.StepAdamFf2

open Cert.AdamFf2Ideal Cert.AdamFf2Ideal.Gen Cert.StepTools Idealize.ShloMosaic Idealize.ShloMosaic.TcCoe Idealize.SL.Sem

theorem hz : (![0, 0] : Fin 2 → Nat) = fun _ => 0 := funext fun a => by fin_cases a <;> rfl

/-! What a grid point leaves in the three results' blocks. -/

theorem out_delta (x0 x1 x2 x3 : Vec Ideal S128x2048 .f32) (y : S128x2048.Idx) : out0_4 (F := Ideal) x0 x1 x2 x3 y = Cert.StepTools.delta (x0 y) (x1 y) (x2 y) (x3 y) := by
  unfold out0_4
  rw [View.canon_unit_zero hz]
  simp only [View.ld_unit_zero (S := S128x2048) hz]
  rfl

theorem out_m (x0 x1 x2 x3 : Vec Ideal S128x2048 .f32) (y : S128x2048.Idx) : out0_5 (F := Ideal) x0 x1 x2 x3 y = Cert.StepTools.newM (x1 y) (x2 y) := by
  unfold out0_5
  rw [View.canon_unit_zero hz]
  simp only [View.ld_unit_zero (S := S128x2048) hz]
  rfl

theorem out_v (x0 x1 x2 x3 : Vec Ideal S128x2048 .f32) (y : S128x2048.Idx) : out0_6 (F := Ideal) x0 x1 x2 x3 y = Cert.StepTools.newV (x1 y) (x3 y) := by
  unfold out0_6
  rw [View.canon_unit_zero hz]
  simp only [View.ld_unit_zero (S := S128x2048) hz]
  rfl

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

variable (m : (ℓ : Loc nD τ sig) → Buf (Elt Ideal) ℓ)

abbrev X0 (c : Dev nD) : (⟨S2048x2048, .f32⟩ : BufTy).Contents (Elt Ideal) := m ((c : Thread nD τ).loc main_arg0)
abbrev X1 (c : Dev nD) : (⟨S2048x2048, .f32⟩ : BufTy).Contents (Elt Ideal) := m ((c : Thread nD τ).loc main_arg1)
abbrev X2 (c : Dev nD) : (⟨S2048x2048, .f32⟩ : BufTy).Contents (Elt Ideal) := m ((c : Thread nD τ).loc main_arg2)
abbrev X3 (c : Dev nD) : (⟨S2048x2048, .f32⟩ : BufTy).Contents (Elt Ideal) := m ((c : Thread nD τ).loc main_arg3)

/-! A block's entry is the array's entry at the block's rows. -/

theorem rd0_4 (c : Dev nD) (t : Fin cfg0.N) (y : S128x2048.Idx) : iblk m c 0 t y = X0 m c ((win0_4.blk t).view.emb y) := by
  blk_simp [iblk]
  refine (congrFun (V_main_arg0 m c) ((win0_0.blk t).view.emb y)).trans (congrArg (X0 m c) (funext fun a => Fin.ext ?_))
  fin_cases a
  · blk_simp [ix0, ix4]
  · blk_simp [ix0, ix4]

theorem rd0_5 (c : Dev nD) (t : Fin cfg0.N) (y : S128x2048.Idx) : iblk m c 0 t y = X0 m c ((win0_5.blk t).view.emb y) := by
  blk_simp [iblk]
  refine (congrFun (V_main_arg0 m c) ((win0_0.blk t).view.emb y)).trans (congrArg (X0 m c) (funext fun a => Fin.ext ?_))
  fin_cases a
  · blk_simp [ix0, ix5]
  · blk_simp [ix0, ix5]

theorem rd0_6 (c : Dev nD) (t : Fin cfg0.N) (y : S128x2048.Idx) : iblk m c 0 t y = X0 m c ((win0_6.blk t).view.emb y) := by
  blk_simp [iblk]
  refine (congrFun (V_main_arg0 m c) ((win0_0.blk t).view.emb y)).trans (congrArg (X0 m c) (funext fun a => Fin.ext ?_))
  fin_cases a
  · blk_simp [ix0, ix6]
  · blk_simp [ix0, ix6]

theorem rd1_4 (c : Dev nD) (t : Fin cfg0.N) (y : S128x2048.Idx) : iblk m c 1 t y = X1 m c ((win0_4.blk t).view.emb y) := by
  blk_simp [iblk]
  refine (congrFun (V_main_arg1 m c) ((win0_1.blk t).view.emb y)).trans (congrArg (X1 m c) (funext fun a => Fin.ext ?_))
  fin_cases a
  · blk_simp [ix1, ix4]
  · blk_simp [ix1, ix4]

theorem rd1_5 (c : Dev nD) (t : Fin cfg0.N) (y : S128x2048.Idx) : iblk m c 1 t y = X1 m c ((win0_5.blk t).view.emb y) := by
  blk_simp [iblk]
  refine (congrFun (V_main_arg1 m c) ((win0_1.blk t).view.emb y)).trans (congrArg (X1 m c) (funext fun a => Fin.ext ?_))
  fin_cases a
  · blk_simp [ix1, ix5]
  · blk_simp [ix1, ix5]

theorem rd1_6 (c : Dev nD) (t : Fin cfg0.N) (y : S128x2048.Idx) : iblk m c 1 t y = X1 m c ((win0_6.blk t).view.emb y) := by
  blk_simp [iblk]
  refine (congrFun (V_main_arg1 m c) ((win0_1.blk t).view.emb y)).trans (congrArg (X1 m c) (funext fun a => Fin.ext ?_))
  fin_cases a
  · blk_simp [ix1, ix6]
  · blk_simp [ix1, ix6]

theorem rd2_4 (c : Dev nD) (t : Fin cfg0.N) (y : S128x2048.Idx) : iblk m c 2 t y = X2 m c ((win0_4.blk t).view.emb y) := by
  blk_simp [iblk]
  refine (congrFun (V_main_arg2 m c) ((win0_2.blk t).view.emb y)).trans (congrArg (X2 m c) (funext fun a => Fin.ext ?_))
  fin_cases a
  · blk_simp [ix2, ix4]
  · blk_simp [ix2, ix4]

theorem rd2_5 (c : Dev nD) (t : Fin cfg0.N) (y : S128x2048.Idx) : iblk m c 2 t y = X2 m c ((win0_5.blk t).view.emb y) := by
  blk_simp [iblk]
  refine (congrFun (V_main_arg2 m c) ((win0_2.blk t).view.emb y)).trans (congrArg (X2 m c) (funext fun a => Fin.ext ?_))
  fin_cases a
  · blk_simp [ix2, ix5]
  · blk_simp [ix2, ix5]

theorem rd2_6 (c : Dev nD) (t : Fin cfg0.N) (y : S128x2048.Idx) : iblk m c 2 t y = X2 m c ((win0_6.blk t).view.emb y) := by
  blk_simp [iblk]
  refine (congrFun (V_main_arg2 m c) ((win0_2.blk t).view.emb y)).trans (congrArg (X2 m c) (funext fun a => Fin.ext ?_))
  fin_cases a
  · blk_simp [ix2, ix6]
  · blk_simp [ix2, ix6]

theorem rd3_4 (c : Dev nD) (t : Fin cfg0.N) (y : S128x2048.Idx) : iblk m c 3 t y = X3 m c ((win0_4.blk t).view.emb y) := by
  blk_simp [iblk]
  refine (congrFun (V_main_arg3 m c) ((win0_3.blk t).view.emb y)).trans (congrArg (X3 m c) (funext fun a => Fin.ext ?_))
  fin_cases a
  · blk_simp [ix3, ix4]
  · blk_simp [ix3, ix4]

theorem rd3_5 (c : Dev nD) (t : Fin cfg0.N) (y : S128x2048.Idx) : iblk m c 3 t y = X3 m c ((win0_5.blk t).view.emb y) := by
  blk_simp [iblk]
  refine (congrFun (V_main_arg3 m c) ((win0_3.blk t).view.emb y)).trans (congrArg (X3 m c) (funext fun a => Fin.ext ?_))
  fin_cases a
  · blk_simp [ix3, ix5]
  · blk_simp [ix3, ix5]

theorem rd3_6 (c : Dev nD) (t : Fin cfg0.N) (y : S128x2048.Idx) : iblk m c 3 t y = X3 m c ((win0_6.blk t).view.emb y) := by
  blk_simp [iblk]
  refine (congrFun (V_main_arg3 m c) ((win0_3.blk t).view.emb y)).trans (congrArg (X3 m c) (funext fun a => Fin.ext ?_))
  fin_cases a
  · blk_simp [ix3, ix6]
  · blk_simp [ix3, ix6]

/-! The reference's entries. -/

theorem ref_m (x1 x2 : (⟨S2048x2048, .f32⟩ : BufTy).Contents (Elt Ideal)) (i : S2048x2048.Idx) :
    Cert.AdamFf2RefIdeal.Read.val_main_v4 (F := Ideal) x1 x2 i = Cert.StepTools.newM (x1 i) (x2 i) := by
  rw [Cert.AdamFf2RefIdeal.Read.val_main_v4_apply, Cert.AdamFf2RefIdeal.Read.val_main_v1_apply, Cert.AdamFf2RefIdeal.Read.val_main_v3_apply, Cert.AdamFf2RefIdeal.Read.val_main_v0_apply, Cert.AdamFf2RefIdeal.Read.val_main_v2_apply]
  rfl

theorem ref_v (x1 x3 : (⟨S2048x2048, .f32⟩ : BufTy).Contents (Elt Ideal)) (i : S2048x2048.Idx) :
    Cert.AdamFf2RefIdeal.Read.val_main_v10 (F := Ideal) x1 x3 i = Cert.StepTools.newV (x1 i) (x3 i) := by
  rw [Cert.AdamFf2RefIdeal.Read.val_main_v10_apply, Cert.AdamFf2RefIdeal.Read.val_main_v6_apply, Cert.AdamFf2RefIdeal.Read.val_main_v9_apply, Cert.AdamFf2RefIdeal.Read.val_main_v5_apply, Cert.AdamFf2RefIdeal.Read.val_main_v8_apply, Cert.AdamFf2RefIdeal.Read.val_main_v7_apply]
  rfl

theorem ref_delta (x0 x1 x2 x3 : (⟨S2048x2048, .f32⟩ : BufTy).Contents (Elt Ideal)) (i : S2048x2048.Idx) :
    Cert.AdamFf2RefIdeal.Read.val_main_v23 (F := Ideal) x0 x1 x2 x3 i = Cert.StepTools.delta (x0 i) (x1 i) (x2 i) (x3 i) := by
  rw [Cert.AdamFf2RefIdeal.Read.val_main_v23_apply, Cert.AdamFf2RefIdeal.Read.val_main_v22_apply, Cert.AdamFf2RefIdeal.Read.val_main_v21_apply, Cert.AdamFf2RefIdeal.Read.val_main_v18_apply, Cert.AdamFf2RefIdeal.Read.val_main_v20_apply, Cert.AdamFf2RefIdeal.Read.val_main_v12_apply,
    Cert.AdamFf2RefIdeal.Read.val_main_v17_apply, Cert.AdamFf2RefIdeal.Read.val_main_v19_apply, Cert.AdamFf2RefIdeal.Read.val_main_v11_apply, Cert.AdamFf2RefIdeal.Read.val_main_v15_apply, Cert.AdamFf2RefIdeal.Read.val_main_v16_apply, Cert.AdamFf2RefIdeal.Read.val_main_v14_apply,
    Cert.AdamFf2RefIdeal.Read.val_main_v13_apply, ref_m, ref_v]
  rfl

/-! The results, as the reference's terms of the kernel's arguments. -/

def delta (c : Dev nD) : (⟨S2048x2048, .f32⟩ : BufTy).Contents (Elt Ideal) := Cert.AdamFf2RefIdeal.Read.val_main_v23 (F := Ideal) (X0 m c) (X1 m c) (X2 m c) (X3 m c)
def newM (c : Dev nD) : (⟨S2048x2048, .f32⟩ : BufTy).Contents (Elt Ideal) := Cert.AdamFf2RefIdeal.Read.val_main_v4 (F := Ideal) (X1 m c) (X2 m c)
def newV (c : Dev nD) : (⟨S2048x2048, .f32⟩ : BufTy).Contents (Elt Ideal) := Cert.AdamFf2RefIdeal.Read.val_main_v10 (F := Ideal) (X1 m c) (X3 m c)

/-! The kernel's three result arrays. -/

theorem arr_delta (c : Dev nD) : (dats m 0 c).arrAt 4 cfg0.N = delta m c := by
  refine (dats m 0 c).arrAt_eq_of_covers 4 _ (by decide +kernel) fun t hf y => ?_
  blk_simp
  rw [after0_4, out_delta]
  refine Eq.trans ?_ (ref_delta (X0 m c) (X1 m c) (X2 m c) (X3 m c) ((win0_4.blk t).view.emb y)).symm
  rw [rd0_4 m c t y, rd1_4 m c t y, rd2_4 m c t y, rd3_4 m c t y]

theorem arr_m (c : Dev nD) : (dats m 0 c).arrAt 5 cfg0.N = newM m c := by
  refine (dats m 0 c).arrAt_eq_of_covers 5 _ (by decide +kernel) fun t hf y => ?_
  blk_simp
  rw [after0_5, out_m]
  refine Eq.trans ?_ (ref_m (X1 m c) (X2 m c) ((win0_5.blk t).view.emb y)).symm
  rw [rd1_5 m c t y, rd2_5 m c t y]

theorem arr_v (c : Dev nD) : (dats m 0 c).arrAt 6 cfg0.N = newV m c := by
  refine (dats m 0 c).arrAt_eq_of_covers 6 _ (by decide +kernel) fun t hf y => ?_
  blk_simp
  rw [after0_6, out_v]
  refine Eq.trans ?_ (ref_v (X1 m c) (X3 m c) ((win0_6.blk t).view.emb y)).symm
  rw [rd1_6 m c t y, rd3_6 m c t y]

/-- The kernel's run, read at its results and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (arr_delta m c), ((h.1 c).1 5).trans (arr_m m c), ((h.1 c).1 6).trans (arr_v m c), h.2 c⟩)
    (θ_run_and (run_main m ρ) (unchanged m ρ))

section
variable (m' : (ℓ : Loc Cert.AdamFf2RefIdeal.nD Cert.AdamFf2RefIdeal.τ Cert.AdamFf2RefIdeal.sig) → Buf (Elt Ideal) ℓ)

/-- The reference leaves its arguments, and has no semaphore. -/
theorem frame_ref (ρ : Dev Cert.AdamFf2RefIdeal.nD → PrngReg) :
    θ_run (Cert.AdamFf2RefIdeal.defs (F := Ideal)) (onTc (τ := Cert.AdamFf2RefIdeal.τ) (Cert.AdamFf2RefIdeal.main (F := Ideal))) ⟨m', fun _ => 0, ρ⟩ (fun r => (∀ c : Dev Cert.AdamFf2RefIdeal.nD,
      r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3))
      ∧ r.2.sem = fun _ => 0) :=
  (θ_run Cert.AdamFf2RefIdeal.defs _ _).mono (fun r h => ⟨fun c => (h c).2.2.2, sem_eq_zero_of_no_sems (by decide) r.2⟩) (Cert.AdamFf2RefIdeal.Value.run m' ρ)

/-- The reference's run, read at its results and its arguments, from a memory that agrees on the arguments. -/
theorem run_ref (ρ : Dev Cert.AdamFf2RefIdeal.nD → PrngReg) (hA : ∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)) :
    θ_run (Cert.AdamFf2RefIdeal.defs (F := Ideal)) (onTc (τ := Cert.AdamFf2RefIdeal.τ) (Cert.AdamFf2RefIdeal.main (F := Ideal))) ⟨m', fun _ => 0, ρ⟩ (fun r => ∀ c : Dev Cert.AdamFf2RefIdeal.nD,
      r.2.mem ((c.tc : Thread Cert.AdamFf2RefIdeal.nD Cert.AdamFf2RefIdeal.τ).loc Cert.AdamFf2RefIdeal.main_v23) = delta m c
      ∧ r.2.mem ((c.tc : Thread Cert.AdamFf2RefIdeal.nD Cert.AdamFf2RefIdeal.τ).loc Cert.AdamFf2RefIdeal.main_v4) = newM m c
      ∧ r.2.mem ((c.tc : Thread Cert.AdamFf2RefIdeal.nD Cert.AdamFf2RefIdeal.τ).loc Cert.AdamFf2RefIdeal.main_v10) = newV m c
      ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3)) := by
  refine (θ_run Cert.AdamFf2RefIdeal.defs _ _).mono (fun r h c => ?_) (Cert.AdamFf2RefIdeal.Value.run m' ρ)
  have e := hA c
  refine ⟨(h c).1.trans ?_, (h c).2.1.trans ?_, (h c).2.2.1.trans ?_, (h c).2.2.2⟩
  · refine (Cert.AdamFf2RefIdeal.Read.val_main_v23_eq (F := Ideal) _ _ _ _).trans ?_
    show _ = Cert.AdamFf2RefIdeal.Read.val_main_v23 (F := Ideal) (m ((c.tc : Thread Cert.AdamFf2Ideal.nD Cert.AdamFf2Ideal.τ).loc Cert.AdamFf2Ideal.main_arg0)) (m ((c.tc : Thread Cert.AdamFf2Ideal.nD Cert.AdamFf2Ideal.τ).loc Cert.AdamFf2Ideal.main_arg1)) (m ((c.tc : Thread Cert.AdamFf2Ideal.nD Cert.AdamFf2Ideal.τ).loc Cert.AdamFf2Ideal.main_arg2)) (m ((c.tc : Thread Cert.AdamFf2Ideal.nD Cert.AdamFf2Ideal.τ).loc Cert.AdamFf2Ideal.main_arg3))
    rw [e.1, e.2.1, e.2.2.1, e.2.2.2]
  · refine (Cert.AdamFf2RefIdeal.Read.val_main_v4_eq (F := Ideal) _ _).trans ?_
    show _ = Cert.AdamFf2RefIdeal.Read.val_main_v4 (F := Ideal) (m ((c.tc : Thread Cert.AdamFf2Ideal.nD Cert.AdamFf2Ideal.τ).loc Cert.AdamFf2Ideal.main_arg1)) (m ((c.tc : Thread Cert.AdamFf2Ideal.nD Cert.AdamFf2Ideal.τ).loc Cert.AdamFf2Ideal.main_arg2))
    rw [e.2.1, e.2.2.1]
  · refine (Cert.AdamFf2RefIdeal.Read.val_main_v10_eq (F := Ideal) _ _).trans ?_
    show _ = Cert.AdamFf2RefIdeal.Read.val_main_v10 (F := Ideal) (m ((c.tc : Thread Cert.AdamFf2Ideal.nD Cert.AdamFf2Ideal.τ).loc Cert.AdamFf2Ideal.main_arg1)) (m ((c.tc : Thread Cert.AdamFf2Ideal.nD Cert.AdamFf2Ideal.τ).loc Cert.AdamFf2Ideal.main_arg3))
    rw [e.2.1, e.2.2.2]

end

end Cert.StepAdamFf2

end
-- ==== Proof.StepAdamOut.lean ====
/- The AdamW step of the output weight: one chip's part. -/
module

public import proofs.«01_k».proof.Proof.StepTools
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Quiescent

@[expose] public section

set_option maxRecDepth 16384

noncomputable section

namespace Cert.StepAdamOut

open Cert.AdamOutIdeal Cert.AdamOutIdeal.Gen Cert.StepTools Idealize.ShloMosaic Idealize.ShloMosaic.TcCoe Idealize.SL.Sem

theorem hz : (![0, 0] : Fin 2 → Nat) = fun _ => 0 := funext fun a => by fin_cases a <;> rfl

/-! What a grid point leaves in the three results' blocks. -/

theorem out_delta (x0 x1 x2 x3 : Vec Ideal S128x2048 .f32) (y : S128x2048.Idx) : out0_4 (F := Ideal) x0 x1 x2 x3 y = Cert.StepTools.delta (x0 y) (x1 y) (x2 y) (x3 y) := by
  unfold out0_4
  rw [View.canon_unit_zero hz]
  simp only [View.ld_unit_zero (S := S128x2048) hz]
  rfl

theorem out_m (x0 x1 x2 x3 : Vec Ideal S128x2048 .f32) (y : S128x2048.Idx) : out0_5 (F := Ideal) x0 x1 x2 x3 y = Cert.StepTools.newM (x1 y) (x2 y) := by
  unfold out0_5
  rw [View.canon_unit_zero hz]
  simp only [View.ld_unit_zero (S := S128x2048) hz]
  rfl

theorem out_v (x0 x1 x2 x3 : Vec Ideal S128x2048 .f32) (y : S128x2048.Idx) : out0_6 (F := Ideal) x0 x1 x2 x3 y = Cert.StepTools.newV (x1 y) (x3 y) := by
  unfold out0_6
  rw [View.canon_unit_zero hz]
  simp only [View.ld_unit_zero (S := S128x2048) hz]
  rfl

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

variable (m : (ℓ : Loc nD τ sig) → Buf (Elt Ideal) ℓ)

abbrev X0 (c : Dev nD) : (⟨S512x2048, .f32⟩ : BufTy).Contents (Elt Ideal) := m ((c : Thread nD τ).loc main_arg0)
abbrev X1 (c : Dev nD) : (⟨S512x2048, .f32⟩ : BufTy).Contents (Elt Ideal) := m ((c : Thread nD τ).loc main_arg1)
abbrev X2 (c : Dev nD) : (⟨S512x2048, .f32⟩ : BufTy).Contents (Elt Ideal) := m ((c : Thread nD τ).loc main_arg2)
abbrev X3 (c : Dev nD) : (⟨S512x2048, .f32⟩ : BufTy).Contents (Elt Ideal) := m ((c : Thread nD τ).loc main_arg3)

/-! A block's entry is the array's entry at the block's rows. -/

theorem rd0_4 (c : Dev nD) (t : Fin cfg0.N) (y : S128x2048.Idx) : iblk m c 0 t y = X0 m c ((win0_4.blk t).view.emb y) := by
  blk_simp [iblk]
  refine (congrFun (V_main_arg0 m c) ((win0_0.blk t).view.emb y)).trans (congrArg (X0 m c) (funext fun a => Fin.ext ?_))
  fin_cases a
  · blk_simp [ix0, ix4]
  · blk_simp [ix0, ix4]

theorem rd0_5 (c : Dev nD) (t : Fin cfg0.N) (y : S128x2048.Idx) : iblk m c 0 t y = X0 m c ((win0_5.blk t).view.emb y) := by
  blk_simp [iblk]
  refine (congrFun (V_main_arg0 m c) ((win0_0.blk t).view.emb y)).trans (congrArg (X0 m c) (funext fun a => Fin.ext ?_))
  fin_cases a
  · blk_simp [ix0, ix5]
  · blk_simp [ix0, ix5]

theorem rd0_6 (c : Dev nD) (t : Fin cfg0.N) (y : S128x2048.Idx) : iblk m c 0 t y = X0 m c ((win0_6.blk t).view.emb y) := by
  blk_simp [iblk]
  refine (congrFun (V_main_arg0 m c) ((win0_0.blk t).view.emb y)).trans (congrArg (X0 m c) (funext fun a => Fin.ext ?_))
  fin_cases a
  · blk_simp [ix0, ix6]
  · blk_simp [ix0, ix6]

theorem rd1_4 (c : Dev nD) (t : Fin cfg0.N) (y : S128x2048.Idx) : iblk m c 1 t y = X1 m c ((win0_4.blk t).view.emb y) := by
  blk_simp [iblk]
  refine (congrFun (V_main_arg1 m c) ((win0_1.blk t).view.emb y)).trans (congrArg (X1 m c) (funext fun a => Fin.ext ?_))
  fin_cases a
  · blk_simp [ix1, ix4]
  · blk_simp [ix1, ix4]

theorem rd1_5 (c : Dev nD) (t : Fin cfg0.N) (y : S128x2048.Idx) : iblk m c 1 t y = X1 m c ((win0_5.blk t).view.emb y) := by
  blk_simp [iblk]
  refine (congrFun (V_main_arg1 m c) ((win0_1.blk t).view.emb y)).trans (congrArg (X1 m c) (funext fun a => Fin.ext ?_))
  fin_cases a
  · blk_simp [ix1, ix5]
  · blk_simp [ix1, ix5]

theorem rd1_6 (c : Dev nD) (t : Fin cfg0.N) (y : S128x2048.Idx) : iblk m c 1 t y = X1 m c ((win0_6.blk t).view.emb y) := by
  blk_simp [iblk]
  refine (congrFun (V_main_arg1 m c) ((win0_1.blk t).view.emb y)).trans (congrArg (X1 m c) (funext fun a => Fin.ext ?_))
  fin_cases a
  · blk_simp [ix1, ix6]
  · blk_simp [ix1, ix6]

theorem rd2_4 (c : Dev nD) (t : Fin cfg0.N) (y : S128x2048.Idx) : iblk m c 2 t y = X2 m c ((win0_4.blk t).view.emb y) := by
  blk_simp [iblk]
  refine (congrFun (V_main_arg2 m c) ((win0_2.blk t).view.emb y)).trans (congrArg (X2 m c) (funext fun a => Fin.ext ?_))
  fin_cases a
  · blk_simp [ix2, ix4]
  · blk_simp [ix2, ix4]

theorem rd2_5 (c : Dev nD) (t : Fin cfg0.N) (y : S128x2048.Idx) : iblk m c 2 t y = X2 m c ((win0_5.blk t).view.emb y) := by
  blk_simp [iblk]
  refine (congrFun (V_main_arg2 m c) ((win0_2.blk t).view.emb y)).trans (congrArg (X2 m c) (funext fun a => Fin.ext ?_))
  fin_cases a
  · blk_simp [ix2, ix5]
  · blk_simp [ix2, ix5]

theorem rd2_6 (c : Dev nD) (t : Fin cfg0.N) (y : S128x2048.Idx) : iblk m c 2 t y = X2 m c ((win0_6.blk t).view.emb y) := by
  blk_simp [iblk]
  refine (congrFun (V_main_arg2 m c) ((win0_2.blk t).view.emb y)).trans (congrArg (X2 m c) (funext fun a => Fin.ext ?_))
  fin_cases a
  · blk_simp [ix2, ix6]
  · blk_simp [ix2, ix6]

theorem rd3_4 (c : Dev nD) (t : Fin cfg0.N) (y : S128x2048.Idx) : iblk m c 3 t y = X3 m c ((win0_4.blk t).view.emb y) := by
  blk_simp [iblk]
  refine (congrFun (V_main_arg3 m c) ((win0_3.blk t).view.emb y)).trans (congrArg (X3 m c) (funext fun a => Fin.ext ?_))
  fin_cases a
  · blk_simp [ix3, ix4]
  · blk_simp [ix3, ix4]

theorem rd3_5 (c : Dev nD) (t : Fin cfg0.N) (y : S128x2048.Idx) : iblk m c 3 t y = X3 m c ((win0_5.blk t).view.emb y) := by
  blk_simp [iblk]
  refine (congrFun (V_main_arg3 m c) ((win0_3.blk t).view.emb y)).trans (congrArg (X3 m c) (funext fun a => Fin.ext ?_))
  fin_cases a
  · blk_simp [ix3, ix5]
  · blk_simp [ix3, ix5]

theorem rd3_6 (c : Dev nD) (t : Fin cfg0.N) (y : S128x2048.Idx) : iblk m c 3 t y = X3 m c ((win0_6.blk t).view.emb y) := by
  blk_simp [iblk]
  refine (congrFun (V_main_arg3 m c) ((win0_3.blk t).view.emb y)).trans (congrArg (X3 m c) (funext fun a => Fin.ext ?_))
  fin_cases a
  · blk_simp [ix3, ix6]
  · blk_simp [ix3, ix6]

/-! The reference's entries. -/

theorem ref_m (x1 x2 : (⟨S512x2048, .f32⟩ : BufTy).Contents (Elt Ideal)) (i : S512x2048.Idx) :
    Cert.AdamOutRefIdeal.Read.val_main_v4 (F := Ideal) x1 x2 i = Cert.StepTools.newM (x1 i) (x2 i) := by
  rw [Cert.AdamOutRefIdeal.Read.val_main_v4_apply, Cert.AdamOutRefIdeal.Read.val_main_v1_apply, Cert.AdamOutRefIdeal.Read.val_main_v3_apply, Cert.AdamOutRefIdeal.Read.val_main_v0_apply, Cert.AdamOutRefIdeal.Read.val_main_v2_apply]
  rfl

theorem ref_v (x1 x3 : (⟨S512x2048, .f32⟩ : BufTy).Contents (Elt Ideal)) (i : S512x2048.Idx) :
    Cert.AdamOutRefIdeal.Read.val_main_v10 (F := Ideal) x1 x3 i = Cert.StepTools.newV (x1 i) (x3 i) := by
  rw [Cert.AdamOutRefIdeal.Read.val_main_v10_apply, Cert.AdamOutRefIdeal.Read.val_main_v6_apply, Cert.AdamOutRefIdeal.Read.val_main_v9_apply, Cert.AdamOutRefIdeal.Read.val_main_v5_apply, Cert.AdamOutRefIdeal.Read.val_main_v8_apply, Cert.AdamOutRefIdeal.Read.val_main_v7_apply]
  rfl

theorem ref_delta (x0 x1 x2 x3 : (⟨S512x2048, .f32⟩ : BufTy).Contents (Elt Ideal)) (i : S512x2048.Idx) :
    Cert.AdamOutRefIdeal.Read.val_main_v23 (F := Ideal) x0 x1 x2 x3 i = Cert.StepTools.delta (x0 i) (x1 i) (x2 i) (x3 i) := by
  rw [Cert.AdamOutRefIdeal.Read.val_main_v23_apply, Cert.AdamOutRefIdeal.Read.val_main_v22_apply, Cert.AdamOutRefIdeal.Read.val_main_v21_apply, Cert.AdamOutRefIdeal.Read.val_main_v18_apply, Cert.AdamOutRefIdeal.Read.val_main_v20_apply, Cert.AdamOutRefIdeal.Read.val_main_v12_apply,
    Cert.AdamOutRefIdeal.Read.val_main_v17_apply, Cert.AdamOutRefIdeal.Read.val_main_v19_apply, Cert.AdamOutRefIdeal.Read.val_main_v11_apply, Cert.AdamOutRefIdeal.Read.val_main_v15_apply, Cert.AdamOutRefIdeal.Read.val_main_v16_apply, Cert.AdamOutRefIdeal.Read.val_main_v14_apply,
    Cert.AdamOutRefIdeal.Read.val_main_v13_apply, ref_m, ref_v]
  rfl

/-! The results, as the reference's terms of the kernel's arguments. -/

def delta (c : Dev nD) : (⟨S512x2048, .f32⟩ : BufTy).Contents (Elt Ideal) := Cert.AdamOutRefIdeal.Read.val_main_v23 (F := Ideal) (X0 m c) (X1 m c) (X2 m c) (X3 m c)
def newM (c : Dev nD) : (⟨S512x2048, .f32⟩ : BufTy).Contents (Elt Ideal) := Cert.AdamOutRefIdeal.Read.val_main_v4 (F := Ideal) (X1 m c) (X2 m c)
def newV (c : Dev nD) : (⟨S512x2048, .f32⟩ : BufTy).Contents (Elt Ideal) := Cert.AdamOutRefIdeal.Read.val_main_v10 (F := Ideal) (X1 m c) (X3 m c)

/-! The kernel's three result arrays. -/

theorem arr_delta (c : Dev nD) : (dats m 0 c).arrAt 4 cfg0.N = delta m c := by
  refine (dats m 0 c).arrAt_eq_of_covers 4 _ (by decide +kernel) fun t hf y => ?_
  blk_simp
  rw [after0_4, out_delta]
  refine Eq.trans ?_ (ref_delta (X0 m c) (X1 m c) (X2 m c) (X3 m c) ((win0_4.blk t).view.emb y)).symm
  rw [rd0_4 m c t y, rd1_4 m c t y, rd2_4 m c t y, rd3_4 m c t y]

theorem arr_m (c : Dev nD) : (dats m 0 c).arrAt 5 cfg0.N = newM m c := by
  refine (dats m 0 c).arrAt_eq_of_covers 5 _ (by decide +kernel) fun t hf y => ?_
  blk_simp
  rw [after0_5, out_m]
  refine Eq.trans ?_ (ref_m (X1 m c) (X2 m c) ((win0_5.blk t).view.emb y)).symm
  rw [rd1_5 m c t y, rd2_5 m c t y]

theorem arr_v (c : Dev nD) : (dats m 0 c).arrAt 6 cfg0.N = newV m c := by
  refine (dats m 0 c).arrAt_eq_of_covers 6 _ (by decide +kernel) fun t hf y => ?_
  blk_simp
  rw [after0_6, out_v]
  refine Eq.trans ?_ (ref_v (X1 m c) (X3 m c) ((win0_6.blk t).view.emb y)).symm
  rw [rd1_6 m c t y, rd3_6 m c t y]

/-- The kernel's run, read at its results and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (arr_delta m c), ((h.1 c).1 5).trans (arr_m m c), ((h.1 c).1 6).trans (arr_v m c), h.2 c⟩)
    (θ_run_and (run_main m ρ) (unchanged m ρ))

section
variable (m' : (ℓ : Loc Cert.AdamOutRefIdeal.nD Cert.AdamOutRefIdeal.τ Cert.AdamOutRefIdeal.sig) → Buf (Elt Ideal) ℓ)

/-- The reference leaves its arguments, and has no semaphore. -/
theorem frame_ref (ρ : Dev Cert.AdamOutRefIdeal.nD → PrngReg) :
    θ_run (Cert.AdamOutRefIdeal.defs (F := Ideal)) (onTc (τ := Cert.AdamOutRefIdeal.τ) (Cert.AdamOutRefIdeal.main (F := Ideal))) ⟨m', fun _ => 0, ρ⟩ (fun r => (∀ c : Dev Cert.AdamOutRefIdeal.nD,
      r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))
      ∧ r.2.sem = fun _ => 0) :=
  (θ_run Cert.AdamOutRefIdeal.defs _ _).mono (fun r h => ⟨fun c => (h c).2.2.2, sem_eq_zero_of_no_sems (by decide) r.2⟩) (Cert.AdamOutRefIdeal.Value.run m' ρ)

/-- The reference's run, read at its results and its arguments, from a memory that agrees on the arguments. -/
theorem run_ref (ρ : Dev Cert.AdamOutRefIdeal.nD → PrngReg) (hA : ∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) :
    θ_run (Cert.AdamOutRefIdeal.defs (F := Ideal)) (onTc (τ := Cert.AdamOutRefIdeal.τ) (Cert.AdamOutRefIdeal.main (F := Ideal))) ⟨m', fun _ => 0, ρ⟩ (fun r => ∀ c : Dev Cert.AdamOutRefIdeal.nD,
      r.2.mem ((c.tc : Thread Cert.AdamOutRefIdeal.nD Cert.AdamOutRefIdeal.τ).loc Cert.AdamOutRefIdeal.main_v23) = delta m c
      ∧ r.2.mem ((c.tc : Thread Cert.AdamOutRefIdeal.nD Cert.AdamOutRefIdeal.τ).loc Cert.AdamOutRefIdeal.main_v4) = newM m c
      ∧ r.2.mem ((c.tc : Thread Cert.AdamOutRefIdeal.nD Cert.AdamOutRefIdeal.τ).loc Cert.AdamOutRefIdeal.main_v10) = newV m c
      ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)) := by
  refine (θ_run Cert.AdamOutRefIdeal.defs _ _).mono (fun r h c => ?_) (Cert.AdamOutRefIdeal.Value.run m' ρ)
  have e := hA c
  refine ⟨(h c).1.trans ?_, (h c).2.1.trans ?_, (h c).2.2.1.trans ?_, (h c).2.2.2⟩
  · refine (Cert.AdamOutRefIdeal.Read.val_main_v23_eq (F := Ideal) _ _ _ _).trans ?_
    show _ = Cert.AdamOutRefIdeal.Read.val_main_v23 (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3))
    rw [e.1, e.2.1, e.2.2.1, e.2.2.2]
  · refine (Cert.AdamOutRefIdeal.Read.val_main_v4_eq (F := Ideal) _ _).trans ?_
    show _ = Cert.AdamOutRefIdeal.Read.val_main_v4 (F := Ideal) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2))
    rw [e.2.1, e.2.2.1]
  · refine (Cert.AdamOutRefIdeal.Read.val_main_v10_eq (F := Ideal) _ _).trans ?_
    show _ = Cert.AdamOutRefIdeal.Read.val_main_v10 (F := Ideal) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg3))
    rw [e.2.1, e.2.2.2]

end

end Cert.StepAdamOut

end
-- ==== Proof.StepAdamIn.lean ====
/- The AdamW step of the input weight: one chip's part. -/
module

public import proofs.«01_k».proof.Proof.StepTools
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamInRefIdeal.Read
public import Idealize.ShloMosaic.Lib.Pipeline.ValueKit
public import Idealize.ShloMosaic.Lib.Quiescent

@[expose] public section

set_option maxRecDepth 16384

noncomputable section

namespace Cert.StepAdamIn

open Cert.AdamInIdeal Cert.AdamInIdeal.Gen Cert.StepTools Idealize.ShloMosaic Idealize.ShloMosaic.TcCoe Idealize.SL.Sem

theorem hz : (![0, 0] : Fin 2 → Nat) = fun _ => 0 := funext fun a => by fin_cases a <;> rfl

/-! What a grid point leaves in the three results' blocks. -/

theorem out_delta (x0 x1 x2 x3 : Vec Ideal S128x1024 .f32) (y : S128x1024.Idx) : out0_4 (F := Ideal) x0 x1 x2 x3 y = Cert.StepTools.delta (x0 y) (x1 y) (x2 y) (x3 y) := by
  unfold out0_4
  rw [View.canon_unit_zero hz]
  simp only [View.ld_unit_zero (S := S128x1024) hz]
  rfl

theorem out_m (x0 x1 x2 x3 : Vec Ideal S128x1024 .f32) (y : S128x1024.Idx) : out0_5 (F := Ideal) x0 x1 x2 x3 y = Cert.StepTools.newM (x1 y) (x2 y) := by
  unfold out0_5
  rw [View.canon_unit_zero hz]
  simp only [View.ld_unit_zero (S := S128x1024) hz]
  rfl

theorem out_v (x0 x1 x2 x3 : Vec Ideal S128x1024 .f32) (y : S128x1024.Idx) : out0_6 (F := Ideal) x0 x1 x2 x3 y = Cert.StepTools.newV (x1 y) (x3 y) := by
  unfold out0_6
  rw [View.canon_unit_zero hz]
  simp only [View.ld_unit_zero (S := S128x1024) hz]
  rfl

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

variable (m : (ℓ : Loc nD τ sig) → Buf (Elt Ideal) ℓ)

abbrev X0 (c : Dev nD) : (⟨S2048x1024, .f32⟩ : BufTy).Contents (Elt Ideal) := m ((c : Thread nD τ).loc main_arg0)
abbrev X1 (c : Dev nD) : (⟨S2048x1024, .f32⟩ : BufTy).Contents (Elt Ideal) := m ((c : Thread nD τ).loc main_arg1)
abbrev X2 (c : Dev nD) : (⟨S2048x1024, .f32⟩ : BufTy).Contents (Elt Ideal) := m ((c : Thread nD τ).loc main_arg2)
abbrev X3 (c : Dev nD) : (⟨S2048x1024, .f32⟩ : BufTy).Contents (Elt Ideal) := m ((c : Thread nD τ).loc main_arg3)

/-! A block's entry is the array's entry at the block's rows. -/

theorem rd0_4 (c : Dev nD) (t : Fin cfg0.N) (y : S128x1024.Idx) : iblk m c 0 t y = X0 m c ((win0_4.blk t).view.emb y) := by
  blk_simp [iblk]
  refine (congrFun (V_main_arg0 m c) ((win0_0.blk t).view.emb y)).trans (congrArg (X0 m c) (funext fun a => Fin.ext ?_))
  fin_cases a
  · blk_simp [ix0, ix4]
  · blk_simp [ix0, ix4]

theorem rd0_5 (c : Dev nD) (t : Fin cfg0.N) (y : S128x1024.Idx) : iblk m c 0 t y = X0 m c ((win0_5.blk t).view.emb y) := by
  blk_simp [iblk]
  refine (congrFun (V_main_arg0 m c) ((win0_0.blk t).view.emb y)).trans (congrArg (X0 m c) (funext fun a => Fin.ext ?_))
  fin_cases a
  · blk_simp [ix0, ix5]
  · blk_simp [ix0, ix5]

theorem rd0_6 (c : Dev nD) (t : Fin cfg0.N) (y : S128x1024.Idx) : iblk m c 0 t y = X0 m c ((win0_6.blk t).view.emb y) := by
  blk_simp [iblk]
  refine (congrFun (V_main_arg0 m c) ((win0_0.blk t).view.emb y)).trans (congrArg (X0 m c) (funext fun a => Fin.ext ?_))
  fin_cases a
  · blk_simp [ix0, ix6]
  · blk_simp [ix0, ix6]

theorem rd1_4 (c : Dev nD) (t : Fin cfg0.N) (y : S128x1024.Idx) : iblk m c 1 t y = X1 m c ((win0_4.blk t).view.emb y) := by
  blk_simp [iblk]
  refine (congrFun (V_main_arg1 m c) ((win0_1.blk t).view.emb y)).trans (congrArg (X1 m c) (funext fun a => Fin.ext ?_))
  fin_cases a
  · blk_simp [ix1, ix4]
  · blk_simp [ix1, ix4]

theorem rd1_5 (c : Dev nD) (t : Fin cfg0.N) (y : S128x1024.Idx) : iblk m c 1 t y = X1 m c ((win0_5.blk t).view.emb y) := by
  blk_simp [iblk]
  refine (congrFun (V_main_arg1 m c) ((win0_1.blk t).view.emb y)).trans (congrArg (X1 m c) (funext fun a => Fin.ext ?_))
  fin_cases a
  · blk_simp [ix1, ix5]
  · blk_simp [ix1, ix5]

theorem rd1_6 (c : Dev nD) (t : Fin cfg0.N) (y : S128x1024.Idx) : iblk m c 1 t y = X1 m c ((win0_6.blk t).view.emb y) := by
  blk_simp [iblk]
  refine (congrFun (V_main_arg1 m c) ((win0_1.blk t).view.emb y)).trans (congrArg (X1 m c) (funext fun a => Fin.ext ?_))
  fin_cases a
  · blk_simp [ix1, ix6]
  · blk_simp [ix1, ix6]

theorem rd2_4 (c : Dev nD) (t : Fin cfg0.N) (y : S128x1024.Idx) : iblk m c 2 t y = X2 m c ((win0_4.blk t).view.emb y) := by
  blk_simp [iblk]
  refine (congrFun (V_main_arg2 m c) ((win0_2.blk t).view.emb y)).trans (congrArg (X2 m c) (funext fun a => Fin.ext ?_))
  fin_cases a
  · blk_simp [ix2, ix4]
  · blk_simp [ix2, ix4]

theorem rd2_5 (c : Dev nD) (t : Fin cfg0.N) (y : S128x1024.Idx) : iblk m c 2 t y = X2 m c ((win0_5.blk t).view.emb y) := by
  blk_simp [iblk]
  refine (congrFun (V_main_arg2 m c) ((win0_2.blk t).view.emb y)).trans (congrArg (X2 m c) (funext fun a => Fin.ext ?_))
  fin_cases a
  · blk_simp [ix2, ix5]
  · blk_simp [ix2, ix5]

theorem rd2_6 (c : Dev nD) (t : Fin cfg0.N) (y : S128x1024.Idx) : iblk m c 2 t y = X2 m c ((win0_6.blk t).view.emb y) := by
  blk_simp [iblk]
  refine (congrFun (V_main_arg2 m c) ((win0_2.blk t).view.emb y)).trans (congrArg (X2 m c) (funext fun a => Fin.ext ?_))
  fin_cases a
  · blk_simp [ix2, ix6]
  · blk_simp [ix2, ix6]

theorem rd3_4 (c : Dev nD) (t : Fin cfg0.N) (y : S128x1024.Idx) : iblk m c 3 t y = X3 m c ((win0_4.blk t).view.emb y) := by
  blk_simp [iblk]
  refine (congrFun (V_main_arg3 m c) ((win0_3.blk t).view.emb y)).trans (congrArg (X3 m c) (funext fun a => Fin.ext ?_))
  fin_cases a
  · blk_simp [ix3, ix4]
  · blk_simp [ix3, ix4]

theorem rd3_5 (c : Dev nD) (t : Fin cfg0.N) (y : S128x1024.Idx) : iblk m c 3 t y = X3 m c ((win0_5.blk t).view.emb y) := by
  blk_simp [iblk]
  refine (congrFun (V_main_arg3 m c) ((win0_3.blk t).view.emb y)).trans (congrArg (X3 m c) (funext fun a => Fin.ext ?_))
  fin_cases a
  · blk_simp [ix3, ix5]
  · blk_simp [ix3, ix5]

theorem rd3_6 (c : Dev nD) (t : Fin cfg0.N) (y : S128x1024.Idx) : iblk m c 3 t y = X3 m c ((win0_6.blk t).view.emb y) := by
  blk_simp [iblk]
  refine (congrFun (V_main_arg3 m c) ((win0_3.blk t).view.emb y)).trans (congrArg (X3 m c) (funext fun a => Fin.ext ?_))
  fin_cases a
  · blk_simp [ix3, ix6]
  · blk_simp [ix3, ix6]

/-! The reference's entries. -/

theorem ref_m (x1 x2 : (⟨S2048x1024, .f32⟩ : BufTy).Contents (Elt Ideal)) (i : S2048x1024.Idx) :
    Cert.AdamInRefIdeal.Read.val_main_v4 (F := Ideal) x1 x2 i = Cert.StepTools.newM (x1 i) (x2 i) := by
  rw [Cert.AdamInRefIdeal.Read.val_main_v4_apply, Cert.AdamInRefIdeal.Read.val_main_v1_apply, Cert.AdamInRefIdeal.Read.val_main_v3_apply, Cert.AdamInRefIdeal.Read.val_main_v0_apply, Cert.AdamInRefIdeal.Read.val_main_v2_apply]
  rfl

theorem ref_v (x1 x3 : (⟨S2048x1024, .f32⟩ : BufTy).Contents (Elt Ideal)) (i : S2048x1024.Idx) :
    Cert.AdamInRefIdeal.Read.val_main_v10 (F := Ideal) x1 x3 i = Cert.StepTools.newV (x1 i) (x3 i) := by
  rw [Cert.AdamInRefIdeal.Read.val_main_v10_apply, Cert.AdamInRefIdeal.Read.val_main_v6_apply, Cert.AdamInRefIdeal.Read.val_main_v9_apply, Cert.AdamInRefIdeal.Read.val_main_v5_apply, Cert.AdamInRefIdeal.Read.val_main_v8_apply, Cert.AdamInRefIdeal.Read.val_main_v7_apply]
  rfl

theorem ref_delta (x0 x1 x2 x3 : (⟨S2048x1024, .f32⟩ : BufTy).Contents (Elt Ideal)) (i : S2048x1024.Idx) :
    Cert.AdamInRefIdeal.Read.val_main_v23 (F := Ideal) x0 x1 x2 x3 i = Cert.StepTools.delta (x0 i) (x1 i) (x2 i) (x3 i) := by
  rw [Cert.AdamInRefIdeal.Read.val_main_v23_apply, Cert.AdamInRefIdeal.Read.val_main_v22_apply, Cert.AdamInRefIdeal.Read.val_main_v21_apply, Cert.AdamInRefIdeal.Read.val_main_v18_apply, Cert.AdamInRefIdeal.Read.val_main_v20_apply, Cert.AdamInRefIdeal.Read.val_main_v12_apply,
    Cert.AdamInRefIdeal.Read.val_main_v17_apply, Cert.AdamInRefIdeal.Read.val_main_v19_apply, Cert.AdamInRefIdeal.Read.val_main_v11_apply, Cert.AdamInRefIdeal.Read.val_main_v15_apply, Cert.AdamInRefIdeal.Read.val_main_v16_apply, Cert.AdamInRefIdeal.Read.val_main_v14_apply,
    Cert.AdamInRefIdeal.Read.val_main_v13_apply, ref_m, ref_v]
  rfl

/-! The results, as the reference's terms of the kernel's arguments. -/

def delta (c : Dev nD) : (⟨S2048x1024, .f32⟩ : BufTy).Contents (Elt Ideal) := Cert.AdamInRefIdeal.Read.val_main_v23 (F := Ideal) (X0 m c) (X1 m c) (X2 m c) (X3 m c)
def newM (c : Dev nD) : (⟨S2048x1024, .f32⟩ : BufTy).Contents (Elt Ideal) := Cert.AdamInRefIdeal.Read.val_main_v4 (F := Ideal) (X1 m c) (X2 m c)
def newV (c : Dev nD) : (⟨S2048x1024, .f32⟩ : BufTy).Contents (Elt Ideal) := Cert.AdamInRefIdeal.Read.val_main_v10 (F := Ideal) (X1 m c) (X3 m c)

/-! The kernel's three result arrays. -/

theorem arr_delta (c : Dev nD) : (dats m 0 c).arrAt 4 cfg0.N = delta m c := by
  refine (dats m 0 c).arrAt_eq_of_covers 4 _ (by decide +kernel) fun t hf y => ?_
  blk_simp
  rw [after0_4, out_delta]
  refine Eq.trans ?_ (ref_delta (X0 m c) (X1 m c) (X2 m c) (X3 m c) ((win0_4.blk t).view.emb y)).symm
  rw [rd0_4 m c t y, rd1_4 m c t y, rd2_4 m c t y, rd3_4 m c t y]

theorem arr_m (c : Dev nD) : (dats m 0 c).arrAt 5 cfg0.N = newM m c := by
  refine (dats m 0 c).arrAt_eq_of_covers 5 _ (by decide +kernel) fun t hf y => ?_
  blk_simp
  rw [after0_5, out_m]
  refine Eq.trans ?_ (ref_m (X1 m c) (X2 m c) ((win0_5.blk t).view.emb y)).symm
  rw [rd1_5 m c t y, rd2_5 m c t y]

theorem arr_v (c : Dev nD) : (dats m 0 c).arrAt 6 cfg0.N = newV m c := by
  refine (dats m 0 c).arrAt_eq_of_covers 6 _ (by decide +kernel) fun t hf y => ?_
  blk_simp
  rw [after0_6, out_v]
  refine Eq.trans ?_ (ref_v (X1 m c) (X3 m c) ((win0_6.blk t).view.emb y)).symm
  rw [rd1_6 m c t y, rd3_6 m c t y]

/-- The kernel's run, read at its results and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (arr_delta m c), ((h.1 c).1 5).trans (arr_m m c), ((h.1 c).1 6).trans (arr_v m c), h.2 c⟩)
    (θ_run_and (run_main m ρ) (unchanged m ρ))

section
variable (m' : (ℓ : Loc Cert.AdamInRefIdeal.nD Cert.AdamInRefIdeal.τ Cert.AdamInRefIdeal.sig) → Buf (Elt Ideal) ℓ)

/-- The reference leaves its arguments, and has no semaphore. -/
theorem frame_ref (ρ : Dev Cert.AdamInRefIdeal.nD → PrngReg) :
    θ_run (Cert.AdamInRefIdeal.defs (F := Ideal)) (onTc (τ := Cert.AdamInRefIdeal.τ) (Cert.AdamInRefIdeal.main (F := Ideal))) ⟨m', fun _ => 0, ρ⟩ (fun r => (∀ c : Dev Cert.AdamInRefIdeal.nD,
      r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))
      ∧ r.2.sem = fun _ => 0) :=
  (θ_run Cert.AdamInRefIdeal.defs _ _).mono (fun r h => ⟨fun c => (h c).2.2.2, sem_eq_zero_of_no_sems (by decide) r.2⟩) (Cert.AdamInRefIdeal.Value.run m' ρ)

/-- The reference's run, read at its results and its arguments, from a memory that agrees on the arguments. -/
theorem run_ref (ρ : Dev Cert.AdamInRefIdeal.nD → PrngReg) (hA : ∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) :
    θ_run (Cert.AdamInRefIdeal.defs (F := Ideal)) (onTc (τ := Cert.AdamInRefIdeal.τ) (Cert.AdamInRefIdeal.main (F := Ideal))) ⟨m', fun _ => 0, ρ⟩ (fun r => ∀ c : Dev Cert.AdamInRefIdeal.nD,
      r.2.mem ((c.tc : Thread Cert.AdamInRefIdeal.nD Cert.AdamInRefIdeal.τ).loc Cert.AdamInRefIdeal.main_v23) = delta m c
      ∧ r.2.mem ((c.tc : Thread Cert.AdamInRefIdeal.nD Cert.AdamInRefIdeal.τ).loc Cert.AdamInRefIdeal.main_v4) = newM m c
      ∧ r.2.mem ((c.tc : Thread Cert.AdamInRefIdeal.nD Cert.AdamInRefIdeal.τ).loc Cert.AdamInRefIdeal.main_v10) = newV m c
      ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)) := by
  refine (θ_run Cert.AdamInRefIdeal.defs _ _).mono (fun r h c => ?_) (Cert.AdamInRefIdeal.Value.run m' ρ)
  have e := hA c
  refine ⟨(h c).1.trans ?_, (h c).2.1.trans ?_, (h c).2.2.1.trans ?_, (h c).2.2.2⟩
  · refine (Cert.AdamInRefIdeal.Read.val_main_v23_eq (F := Ideal) _ _ _ _).trans ?_
    show _ = Cert.AdamInRefIdeal.Read.val_main_v23 (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3))
    rw [e.1, e.2.1, e.2.2.1, e.2.2.2]
  · refine (Cert.AdamInRefIdeal.Read.val_main_v4_eq (F := Ideal) _ _).trans ?_
    show _ = Cert.AdamInRefIdeal.Read.val_main_v4 (F := Ideal) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2))
    rw [e.2.1, e.2.2.1]
  · refine (Cert.AdamInRefIdeal.Read.val_main_v10_eq (F := Ideal) _ _).trans ?_
    show _ = Cert.AdamInRefIdeal.Read.val_main_v10 (F := Ideal) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg3))
    rw [e.2.1, e.2.2.2]

end

end Cert.StepAdamIn

end
-- ==== Proof.StepAdamGlu.lean ====
/- The AdamW step of the gate's weight: one chip's part. -/
module

public import proofs.«01_k».proof.Proof.StepTools
public import proofs.«01_k».proof.Proof.Gen.AdamGlu.Frame
public import proofs.«01_k».proof.Proof.Gen.AdamGluIdeal.Frame
public import proofs.«01_k».proof.Proof.Gen.AdamGluRefIdeal.Run
public import proofs.«01_k».proof.Proof.Gen.AdamGluRefIdeal.Read
public import Idealize.ShloMosaic.Lib.Pipeline.ValueKit
public import Idealize.ShloMosaic.Lib.Quiescent

@[expose] public section

set_option maxRecDepth 16384

noncomputable section

namespace Cert.StepAdamGlu

open Cert.AdamGluIdeal Cert.AdamGluIdeal.Gen Cert.StepTools Idealize.ShloMosaic Idealize.ShloMosaic.TcCoe Idealize.SL.Sem

theorem hz : (![0, 0] : Fin 2 → Nat) = fun _ => 0 := funext fun a => by fin_cases a <;> rfl

/-! What a grid point leaves in the three results' blocks. -/

theorem out_delta (x0 x1 x2 x3 : Vec Ideal S128x1024 .f32) (y : S128x1024.Idx) : out0_4 (F := Ideal) x0 x1 x2 x3 y = Cert.StepTools.delta (x0 y) (x1 y) (x2 y) (x3 y) := by
  unfold out0_4
  rw [View.canon_unit_zero hz]
  simp only [View.ld_unit_zero (S := S128x1024) hz]
  rfl

theorem out_m (x0 x1 x2 x3 : Vec Ideal S128x1024 .f32) (y : S128x1024.Idx) : out0_5 (F := Ideal) x0 x1 x2 x3 y = Cert.StepTools.newM (x1 y) (x2 y) := by
  unfold out0_5
  rw [View.canon_unit_zero hz]
  simp only [View.ld_unit_zero (S := S128x1024) hz]
  rfl

theorem out_v (x0 x1 x2 x3 : Vec Ideal S128x1024 .f32) (y : S128x1024.Idx) : out0_6 (F := Ideal) x0 x1 x2 x3 y = Cert.StepTools.newV (x1 y) (x3 y) := by
  unfold out0_6
  rw [View.canon_unit_zero hz]
  simp only [View.ld_unit_zero (S := S128x1024) hz]
  rfl

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

variable (m : (ℓ : Loc nD τ sig) → Buf (Elt Ideal) ℓ)

abbrev X0 (c : Dev nD) : (⟨S256x1024, .f32⟩ : BufTy).Contents (Elt Ideal) := m ((c : Thread nD τ).loc main_arg0)
abbrev X1 (c : Dev nD) : (⟨S256x1024, .f32⟩ : BufTy).Contents (Elt Ideal) := m ((c : Thread nD τ).loc main_arg1)
abbrev X2 (c : Dev nD) : (⟨S256x1024, .f32⟩ : BufTy).Contents (Elt Ideal) := m ((c : Thread nD τ).loc main_arg2)
abbrev X3 (c : Dev nD) : (⟨S256x1024, .f32⟩ : BufTy).Contents (Elt Ideal) := m ((c : Thread nD τ).loc main_arg3)

/-! A block's entry is the array's entry at the block's rows. -/

theorem rd0_4 (c : Dev nD) (t : Fin cfg0.N) (y : S128x1024.Idx) : iblk m c 0 t y = X0 m c ((win0_4.blk t).view.emb y) := by
  blk_simp [iblk]
  refine (congrFun (V_main_arg0 m c) ((win0_0.blk t).view.emb y)).trans (congrArg (X0 m c) (funext fun a => Fin.ext ?_))
  fin_cases a
  · blk_simp [ix0, ix4]
  · blk_simp [ix0, ix4]

theorem rd0_5 (c : Dev nD) (t : Fin cfg0.N) (y : S128x1024.Idx) : iblk m c 0 t y = X0 m c ((win0_5.blk t).view.emb y) := by
  blk_simp [iblk]
  refine (congrFun (V_main_arg0 m c) ((win0_0.blk t).view.emb y)).trans (congrArg (X0 m c) (funext fun a => Fin.ext ?_))
  fin_cases a
  · blk_simp [ix0, ix5]
  · blk_simp [ix0, ix5]

theorem rd0_6 (c : Dev nD) (t : Fin cfg0.N) (y : S128x1024.Idx) : iblk m c 0 t y = X0 m c ((win0_6.blk t).view.emb y) := by
  blk_simp [iblk]
  refine (congrFun (V_main_arg0 m c) ((win0_0.blk t).view.emb y)).trans (congrArg (X0 m c) (funext fun a => Fin.ext ?_))
  fin_cases a
  · blk_simp [ix0, ix6]
  · blk_simp [ix0, ix6]

theorem rd1_4 (c : Dev nD) (t : Fin cfg0.N) (y : S128x1024.Idx) : iblk m c 1 t y = X1 m c ((win0_4.blk t).view.emb y) := by
  blk_simp [iblk]
  refine (congrFun (V_main_arg1 m c) ((win0_1.blk t).view.emb y)).trans (congrArg (X1 m c) (funext fun a => Fin.ext ?_))
  fin_cases a
  · blk_simp [ix1, ix4]
  · blk_simp [ix1, ix4]

theorem rd1_5 (c : Dev nD) (t : Fin cfg0.N) (y : S128x1024.Idx) : iblk m c 1 t y = X1 m c ((win0_5.blk t).view.emb y) := by
  blk_simp [iblk]
  refine (congrFun (V_main_arg1 m c) ((win0_1.blk t).view.emb y)).trans (congrArg (X1 m c) (funext fun a => Fin.ext ?_))
  fin_cases a
  · blk_simp [ix1, ix5]
  · blk_simp [ix1, ix5]

theorem rd1_6 (c : Dev nD) (t : Fin cfg0.N) (y : S128x1024.Idx) : iblk m c 1 t y = X1 m c ((win0_6.blk t).view.emb y) := by
  blk_simp [iblk]
  refine (congrFun (V_main_arg1 m c) ((win0_1.blk t).view.emb y)).trans (congrArg (X1 m c) (funext fun a => Fin.ext ?_))
  fin_cases a
  · blk_simp [ix1, ix6]
  · blk_simp [ix1, ix6]

theorem rd2_4 (c : Dev nD) (t : Fin cfg0.N) (y : S128x1024.Idx) : iblk m c 2 t y = X2 m c ((win0_4.blk t).view.emb y) := by
  blk_simp [iblk]
  refine (congrFun (V_main_arg2 m c) ((win0_2.blk t).view.emb y)).trans (congrArg (X2 m c) (funext fun a => Fin.ext ?_))
  fin_cases a
  · blk_simp [ix2, ix4]
  · blk_simp [ix2, ix4]

theorem rd2_5 (c : Dev nD) (t : Fin cfg0.N) (y : S128x1024.Idx) : iblk m c 2 t y = X2 m c ((win0_5.blk t).view.emb y) := by
  blk_simp [iblk]
  refine (congrFun (V_main_arg2 m c) ((win0_2.blk t).view.emb y)).trans (congrArg (X2 m c) (funext fun a => Fin.ext ?_))
  fin_cases a
  · blk_simp [ix2, ix5]
  · blk_simp [ix2, ix5]

theorem rd2_6 (c : Dev nD) (t : Fin cfg0.N) (y : S128x1024.Idx) : iblk m c 2 t y = X2 m c ((win0_6.blk t).view.emb y) := by
  blk_simp [iblk]
  refine (congrFun (V_main_arg2 m c) ((win0_2.blk t).view.emb y)).trans (congrArg (X2 m c) (funext fun a => Fin.ext ?_))
  fin_cases a
  · blk_simp [ix2, ix6]
  · blk_simp [ix2, ix6]

theorem rd3_4 (c : Dev nD) (t : Fin cfg0.N) (y : S128x1024.Idx) : iblk m c 3 t y = X3 m c ((win0_4.blk t).view.emb y) := by
  blk_simp [iblk]
  refine (congrFun (V_main_arg3 m c) ((win0_3.blk t).view.emb y)).trans (congrArg (X3 m c) (funext fun a => Fin.ext ?_))
  fin_cases a
  · blk_simp [ix3, ix4]
  · blk_simp [ix3, ix4]

theorem rd3_5 (c : Dev nD) (t : Fin cfg0.N) (y : S128x1024.Idx) : iblk m c 3 t y = X3 m c ((win0_5.blk t).view.emb y) := by
  blk_simp [iblk]
  refine (congrFun (V_main_arg3 m c) ((win0_3.blk t).view.emb y)).trans (congrArg (X3 m c) (funext fun a => Fin.ext ?_))
  fin_cases a
  · blk_simp [ix3, ix5]
  · blk_simp [ix3, ix5]

theorem rd3_6 (c : Dev nD) (t : Fin cfg0.N) (y : S128x1024.Idx) : iblk m c 3 t y = X3 m c ((win0_6.blk t).view.emb y) := by
  blk_simp [iblk]
  refine (congrFun (V_main_arg3 m c) ((win0_3.blk t).view.emb y)).trans (congrArg (X3 m c) (funext fun a => Fin.ext ?_))
  fin_cases a
  · blk_simp [ix3, ix6]
  · blk_simp [ix3, ix6]

/-! The reference's entries. -/

theorem ref_m (x1 x2 : (⟨S256x1024, .f32⟩ : BufTy).Contents (Elt Ideal)) (i : S256x1024.Idx) :
    Cert.AdamGluRefIdeal.Read.val_main_v4 (F := Ideal) x1 x2 i = Cert.StepTools.newM (x1 i) (x2 i) := by
  rw [Cert.AdamGluRefIdeal.Read.val_main_v4_apply, Cert.AdamGluRefIdeal.Read.val_main_v1_apply, Cert.AdamGluRefIdeal.Read.val_main_v3_apply, Cert.AdamGluRefIdeal.Read.val_main_v0_apply, Cert.AdamGluRefIdeal.Read.val_main_v2_apply]
  rfl

theorem ref_v (x1 x3 : (⟨S256x1024, .f32⟩ : BufTy).Contents (Elt Ideal)) (i : S256x1024.Idx) :
    Cert.AdamGluRefIdeal.Read.val_main_v10 (F := Ideal) x1 x3 i = Cert.StepTools.newV (x1 i) (x3 i) := by
  rw [Cert.AdamGluRefIdeal.Read.val_main_v10_apply, Cert.AdamGluRefIdeal.Read.val_main_v6_apply, Cert.AdamGluRefIdeal.Read.val_main_v9_apply, Cert.AdamGluRefIdeal.Read.val_main_v5_apply, Cert.AdamGluRefIdeal.Read.val_main_v8_apply, Cert.AdamGluRefIdeal.Read.val_main_v7_apply]
  rfl

theorem ref_delta (x0 x1 x2 x3 : (⟨S256x1024, .f32⟩ : BufTy).Contents (Elt Ideal)) (i : S256x1024.Idx) :
    Cert.AdamGluRefIdeal.Read.val_main_v23 (F := Ideal) x0 x1 x2 x3 i = Cert.StepTools.delta (x0 i) (x1 i) (x2 i) (x3 i) := by
  rw [Cert.AdamGluRefIdeal.Read.val_main_v23_apply, Cert.AdamGluRefIdeal.Read.val_main_v22_apply, Cert.AdamGluRefIdeal.Read.val_main_v21_apply, Cert.AdamGluRefIdeal.Read.val_main_v18_apply, Cert.AdamGluRefIdeal.Read.val_main_v20_apply, Cert.AdamGluRefIdeal.Read.val_main_v12_apply,
    Cert.AdamGluRefIdeal.Read.val_main_v17_apply, Cert.AdamGluRefIdeal.Read.val_main_v19_apply, Cert.AdamGluRefIdeal.Read.val_main_v11_apply, Cert.AdamGluRefIdeal.Read.val_main_v15_apply, Cert.AdamGluRefIdeal.Read.val_main_v16_apply, Cert.AdamGluRefIdeal.Read.val_main_v14_apply,
    Cert.AdamGluRefIdeal.Read.val_main_v13_apply, ref_m, ref_v]
  rfl

/-! The results, as the reference's terms of the kernel's arguments. -/

def delta (c : Dev nD) : (⟨S256x1024, .f32⟩ : BufTy).Contents (Elt Ideal) := Cert.AdamGluRefIdeal.Read.val_main_v23 (F := Ideal) (X0 m c) (X1 m c) (X2 m c) (X3 m c)
def newM (c : Dev nD) : (⟨S256x1024, .f32⟩ : BufTy).Contents (Elt Ideal) := Cert.AdamGluRefIdeal.Read.val_main_v4 (F := Ideal) (X1 m c) (X2 m c)
def newV (c : Dev nD) : (⟨S256x1024, .f32⟩ : BufTy).Contents (Elt Ideal) := Cert.AdamGluRefIdeal.Read.val_main_v10 (F := Ideal) (X1 m c) (X3 m c)

/-! The kernel's three result arrays. -/

theorem arr_delta (c : Dev nD) : (dats m 0 c).arrAt 4 cfg0.N = delta m c := by
  refine (dats m 0 c).arrAt_eq_of_covers 4 _ (by decide +kernel) fun t hf y => ?_
  blk_simp
  rw [after0_4, out_delta]
  refine Eq.trans ?_ (ref_delta (X0 m c) (X1 m c) (X2 m c) (X3 m c) ((win0_4.blk t).view.emb y)).symm
  rw [rd0_4 m c t y, rd1_4 m c t y, rd2_4 m c t y, rd3_4 m c t y]

theorem arr_m (c : Dev nD) : (dats m 0 c).arrAt 5 cfg0.N = newM m c := by
  refine (dats m 0 c).arrAt_eq_of_covers 5 _ (by decide +kernel) fun t hf y => ?_
  blk_simp
  rw [after0_5, out_m]
  refine Eq.trans ?_ (ref_m (X1 m c) (X2 m c) ((win0_5.blk t).view.emb y)).symm
  rw [rd1_5 m c t y, rd2_5 m c t y]

theorem arr_v (c : Dev nD) : (dats m 0 c).arrAt 6 cfg0.N = newV m c := by
  refine (dats m 0 c).arrAt_eq_of_covers 6 _ (by decide +kernel) fun t hf y => ?_
  blk_simp
  rw [after0_6, out_v]
  refine Eq.trans ?_ (ref_v (X1 m c) (X3 m c) ((win0_6.blk t).view.emb y)).symm
  rw [rd1_6 m c t y, rd3_6 m c t y]

/-- The kernel's run, read at its results and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (arr_delta m c), ((h.1 c).1 5).trans (arr_m m c), ((h.1 c).1 6).trans (arr_v m c), h.2 c⟩)
    (θ_run_and (run_main m ρ) (unchanged m ρ))

section
variable (m' : (ℓ : Loc Cert.AdamGluRefIdeal.nD Cert.AdamGluRefIdeal.τ Cert.AdamGluRefIdeal.sig) → Buf (Elt Ideal) ℓ)

/-- The reference leaves its arguments, and has no semaphore. -/
theorem frame_ref (ρ : Dev Cert.AdamGluRefIdeal.nD → PrngReg) :
    θ_run (Cert.AdamGluRefIdeal.defs (F := Ideal)) (onTc (τ := Cert.AdamGluRefIdeal.τ) (Cert.AdamGluRefIdeal.main (F := Ideal))) ⟨m', fun _ => 0, ρ⟩ (fun r => (∀ c : Dev Cert.AdamGluRefIdeal.nD,
      r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))
      ∧ r.2.sem = fun _ => 0) :=
  (θ_run Cert.AdamGluRefIdeal.defs _ _).mono (fun r h => ⟨fun c => (h c).2.2.2, sem_eq_zero_of_no_sems (by decide) r.2⟩) (Cert.AdamGluRefIdeal.Value.run m' ρ)

/-- The reference's run, read at its results and its arguments, from a memory that agrees on the arguments. -/
theorem run_ref (ρ : Dev Cert.AdamGluRefIdeal.nD → PrngReg) (hA : ∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) :
    θ_run (Cert.AdamGluRefIdeal.defs (F := Ideal)) (onTc (τ := Cert.AdamGluRefIdeal.τ) (Cert.AdamGluRefIdeal.main (F := Ideal))) ⟨m', fun _ => 0, ρ⟩ (fun r => ∀ c : Dev Cert.AdamGluRefIdeal.nD,
      r.2.mem ((c.tc : Thread Cert.AdamGluRefIdeal.nD Cert.AdamGluRefIdeal.τ).loc Cert.AdamGluRefIdeal.main_v23) = delta m c
      ∧ r.2.mem ((c.tc : Thread Cert.AdamGluRefIdeal.nD Cert.AdamGluRefIdeal.τ).loc Cert.AdamGluRefIdeal.main_v4) = newM m c
      ∧ r.2.mem ((c.tc : Thread Cert.AdamGluRefIdeal.nD Cert.AdamGluRefIdeal.τ).loc Cert.AdamGluRefIdeal.main_v10) = newV m c
      ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)) := by
  refine (θ_run Cert.AdamGluRefIdeal.defs _ _).mono (fun r h c => ?_) (Cert.AdamGluRefIdeal.Value.run m' ρ)
  have e := hA c
  refine ⟨(h c).1.trans ?_, (h c).2.1.trans ?_, (h c).2.2.1.trans ?_, (h c).2.2.2⟩
  · refine (Cert.AdamGluRefIdeal.Read.val_main_v23_eq (F := Ideal) _ _ _ _).trans ?_
    show _ = Cert.AdamGluRefIdeal.Read.val_main_v23 (F := Ideal) (m ((c.tc : Thread Cert.AdamGluIdeal.nD Cert.AdamGluIdeal.τ).loc Cert.AdamGluIdeal.main_arg0)) (m ((c.tc : Thread Cert.AdamGluIdeal.nD Cert.AdamGluIdeal.τ).loc Cert.AdamGluIdeal.main_arg1)) (m ((c.tc : Thread Cert.AdamGluIdeal.nD Cert.AdamGluIdeal.τ).loc Cert.AdamGluIdeal.main_arg2)) (m ((c.tc : Thread Cert.AdamGluIdeal.nD Cert.AdamGluIdeal.τ).loc Cert.AdamGluIdeal.main_arg3))
    rw [e.1, e.2.1, e.2.2.1, e.2.2.2]
  · refine (Cert.AdamGluRefIdeal.Read.val_main_v4_eq (F := Ideal) _ _).trans ?_
    show _ = Cert.AdamGluRefIdeal.Read.val_main_v4 (F := Ideal) (m ((c.tc : Thread Cert.AdamGluIdeal.nD Cert.AdamGluIdeal.τ).loc Cert.AdamGluIdeal.main_arg1)) (m ((c.tc : Thread Cert.AdamGluIdeal.nD Cert.AdamGluIdeal.τ).loc Cert.AdamGluIdeal.main_arg2))
    rw [e.2.1, e.2.2.1]
  · refine (Cert.AdamGluRefIdeal.Read.val_main_v10_eq (F := Ideal) _ _).trans ?_
    show _ = Cert.AdamGluRefIdeal.Read.val_main_v10 (F := Ideal) (m ((c.tc : Thread Cert.AdamGluIdeal.nD Cert.AdamGluIdeal.τ).loc Cert.AdamGluIdeal.main_arg1)) (m ((c.tc : Thread Cert.AdamGluIdeal.nD Cert.AdamGluIdeal.τ).loc Cert.AdamGluIdeal.main_arg3))
    rw [e.2.1, e.2.2.2]

end

end Cert.StepAdamGlu

end
-- ==== Proof.StepAdamAda.lean ====
/- The AdamW step of the conditioning weight: one chip's part. -/
module

public import proofs.«01_k».proof.Proof.StepTools
public import proofs.«01_k».proof.Proof.Gen.AdamAda.Frame
public import proofs.«01_k».proof.Proof.Gen.AdamAdaIdeal.Frame
public import proofs.«01_k».proof.Proof.Gen.AdamAdaRefIdeal.Run
public import proofs.«01_k».proof.Proof.Gen.AdamAdaRefIdeal.Read
public import Idealize.ShloMosaic.Lib.Pipeline.ValueKit
public import Idealize.ShloMosaic.Lib.Quiescent

@[expose] public section

set_option maxRecDepth 16384

noncomputable section

namespace Cert.StepAdamAda

open Cert.AdamAdaIdeal Cert.AdamAdaIdeal.Gen Cert.StepTools Idealize.ShloMosaic Idealize.ShloMosaic.TcCoe Idealize.SL.Sem

theorem hz : (![0, 0] : Fin 2 → Nat) = fun _ => 0 := funext fun a => by fin_cases a <;> rfl

/-! What a grid point leaves in the three results' blocks. -/

theorem out_delta (x0 x1 x2 x3 : Vec Ideal S128x3072 .f32) (y : S128x3072.Idx) : out0_4 (F := Ideal) x0 x1 x2 x3 y = Cert.StepTools.delta (x0 y) (x1 y) (x2 y) (x3 y) := by
  unfold out0_4
  rw [View.canon_unit_zero hz]
  simp only [View.ld_unit_zero (S := S128x3072) hz]
  rfl

theorem out_m (x0 x1 x2 x3 : Vec Ideal S128x3072 .f32) (y : S128x3072.Idx) : out0_5 (F := Ideal) x0 x1 x2 x3 y = Cert.StepTools.newM (x1 y) (x2 y) := by
  unfold out0_5
  rw [View.canon_unit_zero hz]
  simp only [View.ld_unit_zero (S := S128x3072) hz]
  rfl

theorem out_v (x0 x1 x2 x3 : Vec Ideal S128x3072 .f32) (y : S128x3072.Idx) : out0_6 (F := Ideal) x0 x1 x2 x3 y = Cert.StepTools.newV (x1 y) (x3 y) := by
  unfold out0_6
  rw [View.canon_unit_zero hz]
  simp only [View.ld_unit_zero (S := S128x3072) hz]
  rfl

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

variable (m : (ℓ : Loc nD τ sig) → Buf (Elt Ideal) ℓ)

abbrev X0 (c : Dev nD) : (⟨S2048x3072, .f32⟩ : BufTy).Contents (Elt Ideal) := m ((c : Thread nD τ).loc main_arg0)
abbrev X1 (c : Dev nD) : (⟨S2048x3072, .f32⟩ : BufTy).Contents (Elt Ideal) := m ((c : Thread nD τ).loc main_arg1)
abbrev X2 (c : Dev nD) : (⟨S2048x3072, .f32⟩ : BufTy).Contents (Elt Ideal) := m ((c : Thread nD τ).loc main_arg2)
abbrev X3 (c : Dev nD) : (⟨S2048x3072, .f32⟩ : BufTy).Contents (Elt Ideal) := m ((c : Thread nD τ).loc main_arg3)

/-! A block's entry is the array's entry at the block's rows. -/

theorem rd0_4 (c : Dev nD) (t : Fin cfg0.N) (y : S128x3072.Idx) : iblk m c 0 t y = X0 m c ((win0_4.blk t).view.emb y) := by
  blk_simp [iblk]
  refine (congrFun (V_main_arg0 m c) ((win0_0.blk t).view.emb y)).trans (congrArg (X0 m c) (funext fun a => Fin.ext ?_))
  fin_cases a
  · blk_simp [ix0, ix4]
  · blk_simp [ix0, ix4]

theorem rd0_5 (c : Dev nD) (t : Fin cfg0.N) (y : S128x3072.Idx) : iblk m c 0 t y = X0 m c ((win0_5.blk t).view.emb y) := by
  blk_simp [iblk]
  refine (congrFun (V_main_arg0 m c) ((win0_0.blk t).view.emb y)).trans (congrArg (X0 m c) (funext fun a => Fin.ext ?_))
  fin_cases a
  · blk_simp [ix0, ix5]
  · blk_simp [ix0, ix5]

theorem rd0_6 (c : Dev nD) (t : Fin cfg0.N) (y : S128x3072.Idx) : iblk m c 0 t y = X0 m c ((win0_6.blk t).view.emb y) := by
  blk_simp [iblk]
  refine (congrFun (V_main_arg0 m c) ((win0_0.blk t).view.emb y)).trans (congrArg (X0 m c) (funext fun a => Fin.ext ?_))
  fin_cases a
  · blk_simp [ix0, ix6]
  · blk_simp [ix0, ix6]

theorem rd1_4 (c : Dev nD) (t : Fin cfg0.N) (y : S128x3072.Idx) : iblk m c 1 t y = X1 m c ((win0_4.blk t).view.emb y) := by
  blk_simp [iblk]
  refine (congrFun (V_main_arg1 m c) ((win0_1.blk t).view.emb y)).trans (congrArg (X1 m c) (funext fun a => Fin.ext ?_))
  fin_cases a
  · blk_simp [ix1, ix4]
  · blk_simp [ix1, ix4]

theorem rd1_5 (c : Dev nD) (t : Fin cfg0.N) (y : S128x3072.Idx) : iblk m c 1 t y = X1 m c ((win0_5.blk t).view.emb y) := by
  blk_simp [iblk]
  refine (congrFun (V_main_arg1 m c) ((win0_1.blk t).view.emb y)).trans (congrArg (X1 m c) (funext fun a => Fin.ext ?_))
  fin_cases a
  · blk_simp [ix1, ix5]
  · blk_simp [ix1, ix5]

theorem rd1_6 (c : Dev nD) (t : Fin cfg0.N) (y : S128x3072.Idx) : iblk m c 1 t y = X1 m c ((win0_6.blk t).view.emb y) := by
  blk_simp [iblk]
  refine (congrFun (V_main_arg1 m c) ((win0_1.blk t).view.emb y)).trans (congrArg (X1 m c) (funext fun a => Fin.ext ?_))
  fin_cases a
  · blk_simp [ix1, ix6]
  · blk_simp [ix1, ix6]

theorem rd2_4 (c : Dev nD) (t : Fin cfg0.N) (y : S128x3072.Idx) : iblk m c 2 t y = X2 m c ((win0_4.blk t).view.emb y) := by
  blk_simp [iblk]
  refine (congrFun (V_main_arg2 m c) ((win0_2.blk t).view.emb y)).trans (congrArg (X2 m c) (funext fun a => Fin.ext ?_))
  fin_cases a
  · blk_simp [ix2, ix4]
  · blk_simp [ix2, ix4]

theorem rd2_5 (c : Dev nD) (t : Fin cfg0.N) (y : S128x3072.Idx) : iblk m c 2 t y = X2 m c ((win0_5.blk t).view.emb y) := by
  blk_simp [iblk]
  refine (congrFun (V_main_arg2 m c) ((win0_2.blk t).view.emb y)).trans (congrArg (X2 m c) (funext fun a => Fin.ext ?_))
  fin_cases a
  · blk_simp [ix2, ix5]
  · blk_simp [ix2, ix5]

theorem rd2_6 (c : Dev nD) (t : Fin cfg0.N) (y : S128x3072.Idx) : iblk m c 2 t y = X2 m c ((win0_6.blk t).view.emb y) := by
  blk_simp [iblk]
  refine (congrFun (V_main_arg2 m c) ((win0_2.blk t).view.emb y)).trans (congrArg (X2 m c) (funext fun a => Fin.ext ?_))
  fin_cases a
  · blk_simp [ix2, ix6]
  · blk_simp [ix2, ix6]

theorem rd3_4 (c : Dev nD) (t : Fin cfg0.N) (y : S128x3072.Idx) : iblk m c 3 t y = X3 m c ((win0_4.blk t).view.emb y) := by
  blk_simp [iblk]
  refine (congrFun (V_main_arg3 m c) ((win0_3.blk t).view.emb y)).trans (congrArg (X3 m c) (funext fun a => Fin.ext ?_))
  fin_cases a
  · blk_simp [ix3, ix4]
  · blk_simp [ix3, ix4]

theorem rd3_5 (c : Dev nD) (t : Fin cfg0.N) (y : S128x3072.Idx) : iblk m c 3 t y = X3 m c ((win0_5.blk t).view.emb y) := by
  blk_simp [iblk]
  refine (congrFun (V_main_arg3 m c) ((win0_3.blk t).view.emb y)).trans (congrArg (X3 m c) (funext fun a => Fin.ext ?_))
  fin_cases a
  · blk_simp [ix3, ix5]
  · blk_simp [ix3, ix5]

theorem rd3_6 (c : Dev nD) (t : Fin cfg0.N) (y : S128x3072.Idx) : iblk m c 3 t y = X3 m c ((win0_6.blk t).view.emb y) := by
  blk_simp [iblk]
  refine (congrFun (V_main_arg3 m c) ((win0_3.blk t).view.emb y)).trans (congrArg (X3 m c) (funext fun a => Fin.ext ?_))
  fin_cases a
  · blk_simp [ix3, ix6]
  · blk_simp [ix3, ix6]

/-! The reference's entries. -/

theorem ref_m (x1 x2 : (⟨S2048x3072, .f32⟩ : BufTy).Contents (Elt Ideal)) (i : S2048x3072.Idx) :
    Cert.AdamAdaRefIdeal.Read.val_main_v4 (F := Ideal) x1 x2 i = Cert.StepTools.newM (x1 i) (x2 i) := by
  rw [Cert.AdamAdaRefIdeal.Read.val_main_v4_apply, Cert.AdamAdaRefIdeal.Read.val_main_v1_apply, Cert.AdamAdaRefIdeal.Read.val_main_v3_apply, Cert.AdamAdaRefIdeal.Read.val_main_v0_apply, Cert.AdamAdaRefIdeal.Read.val_main_v2_apply]
  rfl

theorem ref_v (x1 x3 : (⟨S2048x3072, .f32⟩ : BufTy).Contents (Elt Ideal)) (i : S2048x3072.Idx) :
    Cert.AdamAdaRefIdeal.Read.val_main_v10 (F := Ideal) x1 x3 i = Cert.StepTools.newV (x1 i) (x3 i) := by
  rw [Cert.AdamAdaRefIdeal.Read.val_main_v10_apply, Cert.AdamAdaRefIdeal.Read.val_main_v6_apply, Cert.AdamAdaRefIdeal.Read.val_main_v9_apply, Cert.AdamAdaRefIdeal.Read.val_main_v5_apply, Cert.AdamAdaRefIdeal.Read.val_main_v8_apply, Cert.AdamAdaRefIdeal.Read.val_main_v7_apply]
  rfl

theorem ref_delta (x0 x1 x2 x3 : (⟨S2048x3072, .f32⟩ : BufTy).Contents (Elt Ideal)) (i : S2048x3072.Idx) :
    Cert.AdamAdaRefIdeal.Read.val_main_v23 (F := Ideal) x0 x1 x2 x3 i = Cert.StepTools.delta (x0 i) (x1 i) (x2 i) (x3 i) := by
  rw [Cert.AdamAdaRefIdeal.Read.val_main_v23_apply, Cert.AdamAdaRefIdeal.Read.val_main_v22_apply, Cert.AdamAdaRefIdeal.Read.val_main_v21_apply, Cert.AdamAdaRefIdeal.Read.val_main_v18_apply, Cert.AdamAdaRefIdeal.Read.val_main_v20_apply, Cert.AdamAdaRefIdeal.Read.val_main_v12_apply,
    Cert.AdamAdaRefIdeal.Read.val_main_v17_apply, Cert.AdamAdaRefIdeal.Read.val_main_v19_apply, Cert.AdamAdaRefIdeal.Read.val_main_v11_apply, Cert.AdamAdaRefIdeal.Read.val_main_v15_apply, Cert.AdamAdaRefIdeal.Read.val_main_v16_apply, Cert.AdamAdaRefIdeal.Read.val_main_v14_apply,
    Cert.AdamAdaRefIdeal.Read.val_main_v13_apply, ref_m, ref_v]
  rfl

/-! The results, as the reference's terms of the kernel's arguments. -/

def delta (c : Dev nD) : (⟨S2048x3072, .f32⟩ : BufTy).Contents (Elt Ideal) := Cert.AdamAdaRefIdeal.Read.val_main_v23 (F := Ideal) (X0 m c) (X1 m c) (X2 m c) (X3 m c)
def newM (c : Dev nD) : (⟨S2048x3072, .f32⟩ : BufTy).Contents (Elt Ideal) := Cert.AdamAdaRefIdeal.Read.val_main_v4 (F := Ideal) (X1 m c) (X2 m c)
def newV (c : Dev nD) : (⟨S2048x3072, .f32⟩ : BufTy).Contents (Elt Ideal) := Cert.AdamAdaRefIdeal.Read.val_main_v10 (F := Ideal) (X1 m c) (X3 m c)

/-! The kernel's three result arrays. -/

theorem arr_delta (c : Dev nD) : (dats m 0 c).arrAt 4 cfg0.N = delta m c := by
  refine (dats m 0 c).arrAt_eq_of_covers 4 _ (by decide +kernel) fun t hf y => ?_
  blk_simp
  rw [after0_4, out_delta]
  refine Eq.trans ?_ (ref_delta (X0 m c) (X1 m c) (X2 m c) (X3 m c) ((win0_4.blk t).view.emb y)).symm
  rw [rd0_4 m c t y, rd1_4 m c t y, rd2_4 m c t y, rd3_4 m c t y]

theorem arr_m (c : Dev nD) : (dats m 0 c).arrAt 5 cfg0.N = newM m c := by
  refine (dats m 0 c).arrAt_eq_of_covers 5 _ (by decide +kernel) fun t hf y => ?_
  blk_simp
  rw [after0_5, out_m]
  refine Eq.trans ?_ (ref_m (X1 m c) (X2 m c) ((win0_5.blk t).view.emb y)).symm
  rw [rd1_5 m c t y, rd2_5 m c t y]

theorem arr_v (c : Dev nD) : (dats m 0 c).arrAt 6 cfg0.N = newV m c := by
  refine (dats m 0 c).arrAt_eq_of_covers 6 _ (by decide +kernel) fun t hf y => ?_
  blk_simp
  rw [after0_6, out_v]
  refine Eq.trans ?_ (ref_v (X1 m c) (X3 m c) ((win0_6.blk t).view.emb y)).symm
  rw [rd1_6 m c t y, rd3_6 m c t y]

/-- The kernel's run, read at its results and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (arr_delta m c), ((h.1 c).1 5).trans (arr_m m c), ((h.1 c).1 6).trans (arr_v m c), h.2 c⟩)
    (θ_run_and (run_main m ρ) (unchanged m ρ))

section
variable (m' : (ℓ : Loc Cert.AdamAdaRefIdeal.nD Cert.AdamAdaRefIdeal.τ Cert.AdamAdaRefIdeal.sig) → Buf (Elt Ideal) ℓ)

/-- The reference leaves its arguments, and has no semaphore. -/
theorem frame_ref (ρ : Dev Cert.AdamAdaRefIdeal.nD → PrngReg) :
    θ_run (Cert.AdamAdaRefIdeal.defs (F := Ideal)) (onTc (τ := Cert.AdamAdaRefIdeal.τ) (Cert.AdamAdaRefIdeal.main (F := Ideal))) ⟨m', fun _ => 0, ρ⟩ (fun r => (∀ c : Dev Cert.AdamAdaRefIdeal.nD,
      r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))
      ∧ r.2.sem = fun _ => 0) :=
  (θ_run Cert.AdamAdaRefIdeal.defs _ _).mono (fun r h => ⟨fun c => (h c).2.2.2, sem_eq_zero_of_no_sems (by decide) r.2⟩) (Cert.AdamAdaRefIdeal.Value.run m' ρ)

/-- The reference's run, read at its results and its arguments, from a memory that agrees on the arguments. -/
theorem run_ref (ρ : Dev Cert.AdamAdaRefIdeal.nD → PrngReg) (hA : ∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) :
    θ_run (Cert.AdamAdaRefIdeal.defs (F := Ideal)) (onTc (τ := Cert.AdamAdaRefIdeal.τ) (Cert.AdamAdaRefIdeal.main (F := Ideal))) ⟨m', fun _ => 0, ρ⟩ (fun r => ∀ c : Dev Cert.AdamAdaRefIdeal.nD,
      r.2.mem ((c.tc : Thread Cert.AdamAdaRefIdeal.nD Cert.AdamAdaRefIdeal.τ).loc Cert.AdamAdaRefIdeal.main_v23) = delta m c
      ∧ r.2.mem ((c.tc : Thread Cert.AdamAdaRefIdeal.nD Cert.AdamAdaRefIdeal.τ).loc Cert.AdamAdaRefIdeal.main_v4) = newM m c
      ∧ r.2.mem ((c.tc : Thread Cert.AdamAdaRefIdeal.nD Cert.AdamAdaRefIdeal.τ).loc Cert.AdamAdaRefIdeal.main_v10) = newV m c
      ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)) := by
  refine (θ_run Cert.AdamAdaRefIdeal.defs _ _).mono (fun r h c => ?_) (Cert.AdamAdaRefIdeal.Value.run m' ρ)
  have e := hA c
  refine ⟨(h c).1.trans ?_, (h c).2.1.trans ?_, (h c).2.2.1.trans ?_, (h c).2.2.2⟩
  · refine (Cert.AdamAdaRefIdeal.Read.val_main_v23_eq (F := Ideal) _ _ _ _).trans ?_
    show _ = Cert.AdamAdaRefIdeal.Read.val_main_v23 (F := Ideal) (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg2)) (m ((c.tc : Thread Cert.AdamAdaIdeal.nD Cert.AdamAdaIdeal.τ).loc Cert.AdamAdaIdeal.main_arg3))
    rw [e.1, e.2.1, e.2.2.1, e.2.2.2]
  · refine (Cert.AdamAdaRefIdeal.Read.val_main_v4_eq (F := Ideal) _ _).trans ?_
    show _ = Cert.AdamAdaRefIdeal.Read.val_main_v4 (F := Ideal) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg2))
    rw [e.2.1, e.2.2.1]
  · refine (Cert.AdamAdaRefIdeal.Read.val_main_v10_eq (F := Ideal) _ _).trans ?_
    show _ = Cert.AdamAdaRefIdeal.Read.val_main_v10 (F := Ideal) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg3))
    rw [e.2.1, e.2.2.2]

end

end Cert.StepAdamAda

end
-- ==== Proof.StepAdamSmall.lean ====
/- The AdamW step of the small weights, packed. -/
module

public import proofs.«01_k».proof.Proof.StepTools
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Quiescent

@[expose] public section

set_option maxRecDepth 16384

noncomputable section

namespace Cert.StepAdamSmall

open Cert.AdamSmallIdeal Cert.AdamSmallIdeal.Gen Cert.StepTools Idealize.ShloMosaic Idealize.ShloMosaic.TcCoe Idealize.SL.Sem

theorem hz : (![0, 0] : Fin 2 → Nat) = fun _ => 0 := funext fun a => by fin_cases a <;> rfl

/-! What a grid point leaves in the three results' blocks. -/

theorem out_delta (x0 x1 x2 x3 : Vec Ideal S32x1024 .f32) (y : S32x1024.Idx) : out0_4 (F := Ideal) x0 x1 x2 x3 y = Cert.StepTools.delta (x0 y) (x1 y) (x2 y) (x3 y) := by
  unfold out0_4
  rw [View.canon_unit_zero hz]
  simp only [View.ld_unit_zero (S := S32x1024) hz]
  rfl

theorem out_m (x0 x1 x2 x3 : Vec Ideal S32x1024 .f32) (y : S32x1024.Idx) : out0_5 (F := Ideal) x0 x1 x2 x3 y = Cert.StepTools.newM (x1 y) (x2 y) := by
  unfold out0_5
  rw [View.canon_unit_zero hz]
  simp only [View.ld_unit_zero (S := S32x1024) hz]
  rfl

theorem out_v (x0 x1 x2 x3 : Vec Ideal S32x1024 .f32) (y : S32x1024.Idx) : out0_6 (F := Ideal) x0 x1 x2 x3 y = Cert.StepTools.newV (x1 y) (x3 y) := by
  unfold out0_6
  rw [View.canon_unit_zero hz]
  simp only [View.ld_unit_zero (S := S32x1024) hz]
  rfl

/-! Where each window's block lies. -/

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

variable (m : (ℓ : Loc nD τ sig) → Buf (Elt Ideal) ℓ)

abbrev X0 (c : Dev nD) : (⟨S288x1024, .f32⟩ : BufTy).Contents (Elt Ideal) := m ((c : Thread nD τ).loc main_arg0)
abbrev X1 (c : Dev nD) : (⟨S288x1024, .f32⟩ : BufTy).Contents (Elt Ideal) := m ((c : Thread nD τ).loc main_arg1)
abbrev X2 (c : Dev nD) : (⟨S288x1024, .f32⟩ : BufTy).Contents (Elt Ideal) := m ((c : Thread nD τ).loc main_arg2)
abbrev X3 (c : Dev nD) : (⟨S288x1024, .f32⟩ : BufTy).Contents (Elt Ideal) := m ((c : Thread nD τ).loc main_arg3)

/-! A block's entry is the array's entry at the block's rows. -/

theorem rd0_4 (c : Dev nD) (t : Fin cfg0.N) (y : S32x1024.Idx) : iblk m c 0 t y = X0 m c ((win0_4.blk t).view.emb y) := by
  blk_simp [iblk]
  refine (congrFun (V_main_arg0 m c) ((win0_0.blk t).view.emb y)).trans (congrArg (X0 m c) (funext fun a => Fin.ext ?_))
  fin_cases a
  · blk_simp [ix0, ix4]
  · blk_simp [ix0, ix4]

theorem rd0_5 (c : Dev nD) (t : Fin cfg0.N) (y : S32x1024.Idx) : iblk m c 0 t y = X0 m c ((win0_5.blk t).view.emb y) := by
  blk_simp [iblk]
  refine (congrFun (V_main_arg0 m c) ((win0_0.blk t).view.emb y)).trans (congrArg (X0 m c) (funext fun a => Fin.ext ?_))
  fin_cases a
  · blk_simp [ix0, ix5]
  · blk_simp [ix0, ix5]

theorem rd0_6 (c : Dev nD) (t : Fin cfg0.N) (y : S32x1024.Idx) : iblk m c 0 t y = X0 m c ((win0_6.blk t).view.emb y) := by
  blk_simp [iblk]
  refine (congrFun (V_main_arg0 m c) ((win0_0.blk t).view.emb y)).trans (congrArg (X0 m c) (funext fun a => Fin.ext ?_))
  fin_cases a
  · blk_simp [ix0, ix6]
  · blk_simp [ix0, ix6]

theorem rd1_4 (c : Dev nD) (t : Fin cfg0.N) (y : S32x1024.Idx) : iblk m c 1 t y = X1 m c ((win0_4.blk t).view.emb y) := by
  blk_simp [iblk]
  refine (congrFun (V_main_arg1 m c) ((win0_1.blk t).view.emb y)).trans (congrArg (X1 m c) (funext fun a => Fin.ext ?_))
  fin_cases a
  · blk_simp [ix1, ix4]
  · blk_simp [ix1, ix4]

theorem rd1_5 (c : Dev nD) (t : Fin cfg0.N) (y : S32x1024.Idx) : iblk m c 1 t y = X1 m c ((win0_5.blk t).view.emb y) := by
  blk_simp [iblk]
  refine (congrFun (V_main_arg1 m c) ((win0_1.blk t).view.emb y)).trans (congrArg (X1 m c) (funext fun a => Fin.ext ?_))
  fin_cases a
  · blk_simp [ix1, ix5]
  · blk_simp [ix1, ix5]

theorem rd1_6 (c : Dev nD) (t : Fin cfg0.N) (y : S32x1024.Idx) : iblk m c 1 t y = X1 m c ((win0_6.blk t).view.emb y) := by
  blk_simp [iblk]
  refine (congrFun (V_main_arg1 m c) ((win0_1.blk t).view.emb y)).trans (congrArg (X1 m c) (funext fun a => Fin.ext ?_))
  fin_cases a
  · blk_simp [ix1, ix6]
  · blk_simp [ix1, ix6]

theorem rd2_4 (c : Dev nD) (t : Fin cfg0.N) (y : S32x1024.Idx) : iblk m c 2 t y = X2 m c ((win0_4.blk t).view.emb y) := by
  blk_simp [iblk]
  refine (congrFun (V_main_arg2 m c) ((win0_2.blk t).view.emb y)).trans (congrArg (X2 m c) (funext fun a => Fin.ext ?_))
  fin_cases a
  · blk_simp [ix2, ix4]
  · blk_simp [ix2, ix4]

theorem rd2_5 (c : Dev nD) (t : Fin cfg0.N) (y : S32x1024.Idx) : iblk m c 2 t y = X2 m c ((win0_5.blk t).view.emb y) := by
  blk_simp [iblk]
  refine (congrFun (V_main_arg2 m c) ((win0_2.blk t).view.emb y)).trans (congrArg (X2 m c) (funext fun a => Fin.ext ?_))
  fin_cases a
  · blk_simp [ix2, ix5]
  · blk_simp [ix2, ix5]

theorem rd2_6 (c : Dev nD) (t : Fin cfg0.N) (y : S32x1024.Idx) : iblk m c 2 t y = X2 m c ((win0_6.blk t).view.emb y) := by
  blk_simp [iblk]
  refine (congrFun (V_main_arg2 m c) ((win0_2.blk t).view.emb y)).trans (congrArg (X2 m c) (funext fun a => Fin.ext ?_))
  fin_cases a
  · blk_simp [ix2, ix6]
  · blk_simp [ix2, ix6]

theorem rd3_4 (c : Dev nD) (t : Fin cfg0.N) (y : S32x1024.Idx) : iblk m c 3 t y = X3 m c ((win0_4.blk t).view.emb y) := by
  blk_simp [iblk]
  refine (congrFun (V_main_arg3 m c) ((win0_3.blk t).view.emb y)).trans (congrArg (X3 m c) (funext fun a => Fin.ext ?_))
  fin_cases a
  · blk_simp [ix3, ix4]
  · blk_simp [ix3, ix4]

theorem rd3_5 (c : Dev nD) (t : Fin cfg0.N) (y : S32x1024.Idx) : iblk m c 3 t y = X3 m c ((win0_5.blk t).view.emb y) := by
  blk_simp [iblk]
  refine (congrFun (V_main_arg3 m c) ((win0_3.blk t).view.emb y)).trans (congrArg (X3 m c) (funext fun a => Fin.ext ?_))
  fin_cases a
  · blk_simp [ix3, ix5]
  · blk_simp [ix3, ix5]

theorem rd3_6 (c : Dev nD) (t : Fin cfg0.N) (y : S32x1024.Idx) : iblk m c 3 t y = X3 m c ((win0_6.blk t).view.emb y) := by
  blk_simp [iblk]
  refine (congrFun (V_main_arg3 m c) ((win0_3.blk t).view.emb y)).trans (congrArg (X3 m c) (funext fun a => Fin.ext ?_))
  fin_cases a
  · blk_simp [ix3, ix6]
  · blk_simp [ix3, ix6]

/-! The reference's entries. -/

theorem ref_m (x1 x2 : (⟨S288x1024, .f32⟩ : BufTy).Contents (Elt Ideal)) (i : S288x1024.Idx) :
    Cert.AdamSmallRefIdeal.Read.val_main_v4 (F := Ideal) x1 x2 i = Cert.StepTools.newM (x1 i) (x2 i) := by
  rw [Cert.AdamSmallRefIdeal.Read.val_main_v4_apply, Cert.AdamSmallRefIdeal.Read.val_main_v1_apply, Cert.AdamSmallRefIdeal.Read.val_main_v3_apply, Cert.AdamSmallRefIdeal.Read.val_main_v0_apply, Cert.AdamSmallRefIdeal.Read.val_main_v2_apply]
  rfl

theorem ref_v (x1 x3 : (⟨S288x1024, .f32⟩ : BufTy).Contents (Elt Ideal)) (i : S288x1024.Idx) :
    Cert.AdamSmallRefIdeal.Read.val_main_v10 (F := Ideal) x1 x3 i = Cert.StepTools.newV (x1 i) (x3 i) := by
  rw [Cert.AdamSmallRefIdeal.Read.val_main_v10_apply, Cert.AdamSmallRefIdeal.Read.val_main_v6_apply, Cert.AdamSmallRefIdeal.Read.val_main_v9_apply, Cert.AdamSmallRefIdeal.Read.val_main_v5_apply, Cert.AdamSmallRefIdeal.Read.val_main_v8_apply, Cert.AdamSmallRefIdeal.Read.val_main_v7_apply]
  rfl

theorem ref_delta (x0 x1 x2 x3 : (⟨S288x1024, .f32⟩ : BufTy).Contents (Elt Ideal)) (i : S288x1024.Idx) :
    Cert.AdamSmallRefIdeal.Read.val_main_v23 (F := Ideal) x0 x1 x2 x3 i = Cert.StepTools.delta (x0 i) (x1 i) (x2 i) (x3 i) := by
  rw [Cert.AdamSmallRefIdeal.Read.val_main_v23_apply, Cert.AdamSmallRefIdeal.Read.val_main_v22_apply, Cert.AdamSmallRefIdeal.Read.val_main_v21_apply, Cert.AdamSmallRefIdeal.Read.val_main_v18_apply, Cert.AdamSmallRefIdeal.Read.val_main_v20_apply, Cert.AdamSmallRefIdeal.Read.val_main_v12_apply,
    Cert.AdamSmallRefIdeal.Read.val_main_v17_apply, Cert.AdamSmallRefIdeal.Read.val_main_v19_apply, Cert.AdamSmallRefIdeal.Read.val_main_v11_apply, Cert.AdamSmallRefIdeal.Read.val_main_v15_apply, Cert.AdamSmallRefIdeal.Read.val_main_v16_apply, Cert.AdamSmallRefIdeal.Read.val_main_v14_apply,
    Cert.AdamSmallRefIdeal.Read.val_main_v13_apply, ref_m, ref_v]
  rfl

/-! The results, as the reference's terms of the kernel's arguments. -/

def delta (c : Dev nD) : (⟨S288x1024, .f32⟩ : BufTy).Contents (Elt Ideal) := Cert.AdamSmallRefIdeal.Read.val_main_v23 (F := Ideal) (X0 m c) (X1 m c) (X2 m c) (X3 m c)
def newM (c : Dev nD) : (⟨S288x1024, .f32⟩ : BufTy).Contents (Elt Ideal) := Cert.AdamSmallRefIdeal.Read.val_main_v4 (F := Ideal) (X1 m c) (X2 m c)
def newV (c : Dev nD) : (⟨S288x1024, .f32⟩ : BufTy).Contents (Elt Ideal) := Cert.AdamSmallRefIdeal.Read.val_main_v10 (F := Ideal) (X1 m c) (X3 m c)

/-! The kernel's three result arrays. -/

theorem arr_delta (c : Dev nD) : (dats m 0 c).arrAt 4 cfg0.N = delta m c := by
  refine (dats m 0 c).arrAt_eq_of_covers 4 _ (by decide +kernel) fun t hf y => ?_
  blk_simp
  rw [after0_4, out_delta]
  refine Eq.trans ?_ (ref_delta (X0 m c) (X1 m c) (X2 m c) (X3 m c) ((win0_4.blk t).view.emb y)).symm
  rw [rd0_4 m c t y, rd1_4 m c t y, rd2_4 m c t y, rd3_4 m c t y]

theorem arr_m (c : Dev nD) : (dats m 0 c).arrAt 5 cfg0.N = newM m c := by
  refine (dats m 0 c).arrAt_eq_of_covers 5 _ (by decide +kernel) fun t hf y => ?_
  blk_simp
  rw [after0_5, out_m]
  refine Eq.trans ?_ (ref_m (X1 m c) (X2 m c) ((win0_5.blk t).view.emb y)).symm
  rw [rd1_5 m c t y, rd2_5 m c t y]

theorem arr_v (c : Dev nD) : (dats m 0 c).arrAt 6 cfg0.N = newV m c := by
  refine (dats m 0 c).arrAt_eq_of_covers 6 _ (by decide +kernel) fun t hf y => ?_
  blk_simp
  rw [after0_6, out_v]
  refine Eq.trans ?_ (ref_v (X1 m c) (X3 m c) ((win0_6.blk t).view.emb y)).symm
  rw [rd1_6 m c t y, rd3_6 m c t y]

/-- The kernel's run, read at its results and its arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (arr_delta m c), ((h.1 c).1 5).trans (arr_m m c), ((h.1 c).1 6).trans (arr_v m c), h.2 c⟩)
    (θ_run_and (run_main m ρ) (unchanged m ρ))

section
variable (m' : (ℓ : Loc Cert.AdamSmallRefIdeal.nD Cert.AdamSmallRefIdeal.τ Cert.AdamSmallRefIdeal.sig) → Buf (Elt Ideal) ℓ)

/-- The reference leaves its arguments, and has no semaphore. -/
theorem frame_ref (ρ : Dev Cert.AdamSmallRefIdeal.nD → PrngReg) :
    θ_run (Cert.AdamSmallRefIdeal.defs (F := Ideal)) (onTc (τ := Cert.AdamSmallRefIdeal.τ) (Cert.AdamSmallRefIdeal.main (F := Ideal))) ⟨m', fun _ => 0, ρ⟩ (fun r => (∀ c : Dev Cert.AdamSmallRefIdeal.nD,
      r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))
      ∧ r.2.sem = fun _ => 0) :=
  (θ_run Cert.AdamSmallRefIdeal.defs _ _).mono (fun r h => ⟨fun c => (h c).2.2.2, sem_eq_zero_of_no_sems (by decide) r.2⟩) (Cert.AdamSmallRefIdeal.Value.run m' ρ)

/-- The reference's run, read at its results and its arguments, from a memory that agrees on the arguments. -/
theorem run_ref (ρ : Dev Cert.AdamSmallRefIdeal.nD → PrngReg) (hA : ∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) :
    θ_run (Cert.AdamSmallRefIdeal.defs (F := Ideal)) (onTc (τ := Cert.AdamSmallRefIdeal.τ) (Cert.AdamSmallRefIdeal.main (F := Ideal))) ⟨m', fun _ => 0, ρ⟩ (fun r => ∀ c : Dev Cert.AdamSmallRefIdeal.nD,
      r.2.mem ((c.tc : Thread Cert.AdamSmallRefIdeal.nD Cert.AdamSmallRefIdeal.τ).loc Cert.AdamSmallRefIdeal.main_v23) = delta m c
      ∧ r.2.mem ((c.tc : Thread Cert.AdamSmallRefIdeal.nD Cert.AdamSmallRefIdeal.τ).loc Cert.AdamSmallRefIdeal.main_v4) = newM m c
      ∧ r.2.mem ((c.tc : Thread Cert.AdamSmallRefIdeal.nD Cert.AdamSmallRefIdeal.τ).loc Cert.AdamSmallRefIdeal.main_v10) = newV m c
      ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)) := by
  refine (θ_run Cert.AdamSmallRefIdeal.defs _ _).mono (fun r h c => ?_) (Cert.AdamSmallRefIdeal.Value.run m' ρ)
  have e := hA c
  refine ⟨(h c).1.trans ?_, (h c).2.1.trans ?_, (h c).2.2.1.trans ?_, (h c).2.2.2⟩
  · refine (Cert.AdamSmallRefIdeal.Read.val_main_v23_eq (F := Ideal) _ _ _ _).trans ?_
    show _ = Cert.AdamSmallRefIdeal.Read.val_main_v23 (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3))
    rw [e.1, e.2.1, e.2.2.1, e.2.2.2]
  · refine (Cert.AdamSmallRefIdeal.Read.val_main_v4_eq (F := Ideal) _ _).trans ?_
    show _ = Cert.AdamSmallRefIdeal.Read.val_main_v4 (F := Ideal) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2))
    rw [e.2.1, e.2.2.1]
  · refine (Cert.AdamSmallRefIdeal.Read.val_main_v10_eq (F := Ideal) _ _).trans ?_
    show _ = Cert.AdamSmallRefIdeal.Read.val_main_v10 (F := Ideal) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg3))
    rw [e.2.1, e.2.2.2]

end

end Cert.StepAdamSmall

end
-- ==== Proof.StepSumSmall.lean ====
/- The sum of the eight sequences' gradients of the small weights, packed. -/
module

public import proofs.«01_k».proof.Proof.MmTools
public import proofs.«01_k».proof.Proof.Gen.SumSmall.Frame
public import proofs.«01_k».proof.Proof.Gen.SumSmallIdeal.Frame
public import proofs.«01_k».proof.Proof.Gen.SumSmallRefIdeal.Run
public import proofs.«01_k».proof.Proof.Gen.SumSmallRefIdeal.Read
public import Idealize.ShloMosaic.Lib.Pipeline.ValueKit
public import Idealize.ShloMosaic.Lib.Quiescent

@[expose] public section

set_option maxRecDepth 16384

noncomputable section

namespace Cert.StepSumSmall

open Cert.SumSmallIdeal Cert.SumSmallIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The entry of sequence `k` at a row and a column. -/
def at_ (k : Fin 8) (j : S288x1024.Idx) : S8x288x1024.Idx := fun a => match a with
  | ⟨0, _⟩ => ⟨k.val, k.isLt⟩
  | ⟨1, _⟩ => ⟨(j 0).val, (j 0).isLt⟩
  | ⟨2, _⟩ => ⟨(j 1).val, (j 1).isLt⟩

/-- One sequence's slice, its leading axis dropped. -/
theorem slice_entry (k : Fin 8) (x : Vec Ideal S8x288x1024 .f32) (h : S8x288x1024.Slices ![k.val, 0, 0] S1x288x1024) (h' : S1x288x1024.ShapeCasts S288x1024)
    (j : S288x1024.Idx) : shapeCast S288x1024 (extractStridedSlice S1x288x1024 ![k.val, 0, 0] x h) h' j = x (at_ k j) := by
  refine (shapeCast_apply _ h' j (fun d => match d with | ⟨0, _⟩ => ⟨0, Nat.one_pos⟩ | ⟨1, _⟩ => ⟨(j 0).val, (j 0).isLt⟩ | ⟨2, _⟩ => ⟨(j 1).val, (j 1).isLt⟩) ?_).trans ?_
  · rw [Shape.rowMajor_val_two, Shape.rowMajor_val_three]
    show ((0 * 288 + (j 0).val) * 1024 + (j 1).val) = (j 0).val * 1024 + (j 1).val
    rw [Nat.zero_mul, Nat.zero_add]
  · refine extractStridedSlice_apply _ x h _ (at_ k j) fun a => ?_
    fin_cases a
    · show k.val = k.val + 0
      rfl
    · show (j 0).val = 0 + (j 0).val
      omega
    · show (j 1).val = 0 + (j 1).val
      omega

theorem out_sum (x : Vec Ideal S8x288x1024 .f32) (j : S288x1024.Idx) : out0_1 (F := Ideal) x j = ∑ k : Fin 8, (x (at_ k j) : EReal) := by
  unfold out0_1
  rw [View.canon_unit_zero hz2]
  simp only [View.ld_unit_zero (S := S8x288x1024) hz3]
  rw [Fin.sum_univ_eight, ← slice_entry 0 x slices_S8x288x1024_o0_0_0_S1x288x1024 shapeCasts_S1x288x1024_S288x1024 j,
    ← slice_entry 1 x slices_S8x288x1024_o1_0_0_S1x288x1024 shapeCasts_S1x288x1024_S288x1024 j,
    ← slice_entry 2 x slices_S8x288x1024_o2_0_0_S1x288x1024 shapeCasts_S1x288x1024_S288x1024 j,
    ← slice_entry 3 x slices_S8x288x1024_o3_0_0_S1x288x1024 shapeCasts_S1x288x1024_S288x1024 j,
    ← slice_entry 4 x slices_S8x288x1024_o4_0_0_S1x288x1024 shapeCasts_S1x288x1024_S288x1024 j,
    ← slice_entry 5 x slices_S8x288x1024_o5_0_0_S1x288x1024 shapeCasts_S1x288x1024_S288x1024 j,
    ← slice_entry 6 x slices_S8x288x1024_o6_0_0_S1x288x1024 shapeCasts_S1x288x1024_S288x1024 j,
    ← slice_entry 7 x slices_S8x288x1024_o7_0_0_S1x288x1024 shapeCasts_S1x288x1024_S288x1024 j]
  rfl

theorem ix0 : ∀ t : Fin cfg0.N, win0_0.index t = ![0, 0, 0] := (by decide +kernel : ∀ t : Fin grid0.N, win0_0.index t = ![0, 0, 0])
theorem ix1 : ∀ t : Fin cfg0.N, win0_1.index t = ![0, 0] := (by decide +kernel : ∀ t : Fin grid0.N, win0_1.index t = ![0, 0])

variable (m : (ℓ : Loc nD τ sig) → Buf (Elt Ideal) ℓ)

abbrev X0 (c : Dev nD) : (⟨S8x288x1024, .f32⟩ : BufTy).Contents (Elt Ideal) := m ((c : Thread nD τ).loc main_arg0)

/-- The one block read is the whole array. -/
theorem rd0 (c : Dev nD) (t : Fin cfg0.N) (y : S288x1024.Idx) (k : Fin 8) : iblk m c 0 t (at_ k y) = X0 m c (at_ k ((win0_1.blk t).view.emb y)) := by
  blk_simp [iblk]
  refine (congrFun (V_main_arg0 m c) ((win0_0.blk t).view.emb (at_ k y))).trans (congrArg (X0 m c) (funext fun a => Fin.ext ?_))
  fin_cases a
  · blk_simp [at_, ix0, ix1]
  · blk_simp [at_, ix0, ix1]
  · blk_simp [at_, ix0, ix1]

/-- The result, as the reference's term of the kernel's argument. -/
def result (c : Dev nD) : (⟨S288x1024, .f32⟩ : BufTy).Contents (Elt Ideal) := Cert.SumSmallRefIdeal.Read.val_main_v0 (F := Ideal) (X0 m c)

theorem ref_sum (x : (⟨S8x288x1024, .f32⟩ : BufTy).Contents (Elt Ideal)) (i : S288x1024.Idx) :
    Cert.SumSmallRefIdeal.Read.val_main_v0 (F := Ideal) x i = ∑ k : Fin 8, (x (at_ k i) : EReal) := by
  rw [Cert.SumSmallRefIdeal.Read.val_main_v0_apply, Cert.SumSmallRefIdeal.Read.val_main_cst_apply]
  refine Eq.trans (congrArg (· + _) (Ideal.ofBits_zero_f32)) ?_
  rw [zero_add]
  rfl

theorem arr_sum (c : Dev nD) : (dats m 0 c).arrAt 1 cfg0.N = result m c := by
  refine (dats m 0 c).arrAt_eq_of_covers 1 _ (by decide +kernel) fun t hf y => ?_
  blk_simp
  rw [after0_1, out_sum]
  refine Eq.trans ?_ (ref_sum (X0 m c) ((win0_1.blk t).view.emb y)).symm
  exact congrArg (fun f : Fin 8 → EReal => ∑ k : Fin 8, f k) (funext fun k => rd0 m c t y k)

/-- The kernel's run, read at its result and its argument. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)) :=
  (θ_run defs _ _).mono (fun r h c => ⟨((h.1 c).1 1).trans (arr_sum m c), h.2 c⟩) (θ_run_and (run_main m ρ) (unchanged m ρ))

section
variable (m' : (ℓ : Loc Cert.SumSmallRefIdeal.nD Cert.SumSmallRefIdeal.τ Cert.SumSmallRefIdeal.sig) → Buf (Elt Ideal) ℓ)

/-- The reference leaves its argument, and has no semaphore. -/
theorem frame_ref (ρ : Dev Cert.SumSmallRefIdeal.nD → PrngReg) :
    θ_run (Cert.SumSmallRefIdeal.defs (F := Ideal)) (onTc (τ := Cert.SumSmallRefIdeal.τ) (Cert.SumSmallRefIdeal.main (F := Ideal))) ⟨m', fun _ => 0, ρ⟩ (fun r => (∀ c : Dev Cert.SumSmallRefIdeal.nD,
      r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))
      ∧ r.2.sem = fun _ => 0) :=
  (θ_run Cert.SumSmallRefIdeal.defs _ _).mono (fun r h => ⟨fun c => (h c).2, sem_eq_zero_of_no_sems (by decide) r.2⟩) (Cert.SumSmallRefIdeal.Value.run m' ρ)

/-- The reference's run, read at its result and its argument, from a memory that agrees on the argument. -/
theorem run_ref (ρ : Dev Cert.SumSmallRefIdeal.nD → PrngReg) (hA : ∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) :
    θ_run (Cert.SumSmallRefIdeal.defs (F := Ideal)) (onTc (τ := Cert.SumSmallRefIdeal.τ) (Cert.SumSmallRefIdeal.main (F := Ideal))) ⟨m', fun _ => 0, ρ⟩ (fun r => ∀ c : Dev Cert.SumSmallRefIdeal.nD,
      r.2.mem ((c.tc : Thread Cert.SumSmallRefIdeal.nD Cert.SumSmallRefIdeal.τ).loc Cert.SumSmallRefIdeal.main_v0) = result m c
      ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)) := by
  refine (θ_run Cert.SumSmallRefIdeal.defs _ _).mono (fun r h c => ?_) (Cert.SumSmallRefIdeal.Value.run m' ρ)
  refine ⟨(h c).1.trans ?_, (h c).2⟩
  refine (Cert.SumSmallRefIdeal.Read.val_main_v0_eq (F := Ideal) _).trans ?_
  show _ = Cert.SumSmallRefIdeal.Read.val_main_v0 (F := Ideal) (m ((c.tc : Thread Cert.SumSmallIdeal.nD Cert.SumSmallIdeal.τ).loc Cert.SumSmallIdeal.main_arg0))
  rw [hA c]

end

end Cert.StepSumSmall

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Final
public import proofs.«01_k».proof.Proof.MmFf2Bwd
public import proofs.«01_k».proof.Proof.MmFf2Wgrad
public import proofs.«01_k».proof.Proof.MmFf1Wgrad
public import proofs.«01_k».proof.Proof.MmFf1Bwd
public import proofs.«01_k».proof.Proof.MmFf1
public import proofs.«01_k».proof.Proof.MmFf2
public import proofs.«01_k».proof.Proof.MmMixBwd
public import proofs.«01_k».proof.Proof.MmMixWgrad
public import proofs.«01_k».proof.Proof.MmMix
public import proofs.«01_k».proof.Proof.MmIn
public import proofs.«01_k».proof.Proof.MmInWgrad
public import proofs.«01_k».proof.Proof.MmInBwd
public import proofs.«01_k».proof.Proof.MmAdaWgrad
public import proofs.«01_k».proof.Proof.StepAdamFf1
public import proofs.«01_k».proof.Proof.StepAdamFf2
public import proofs.«01_k».proof.Proof.StepAdamOut
public import proofs.«01_k».proof.Proof.StepAdamIn
public import proofs.«01_k».proof.Proof.StepAdamGlu
public import proofs.«01_k».proof.Proof.StepAdamAda
public import proofs.«01_k».proof.Proof.StepAdamSmall
public import proofs.«01_k».proof.Proof.StepSumSmall
public import Idealize.ShloMosaic.Adequacy
public import Idealize.ShloMosaic.Init

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Ff2Bwd.Gen.facts, Cert.Ff2BwdIdeal.Gen.facts, Cert.Ff2BwdRefIdeal.Gen.facts,
  Cert.Ff2Wgrad.Gen.facts, Cert.Ff2WgradIdeal.Gen.facts, Cert.Ff2WgradRefIdeal.Gen.facts,
  Cert.Ff1Wgrad.Gen.facts, Cert.Ff1WgradIdeal.Gen.facts, Cert.Ff1WgradRefIdeal.Gen.facts,
  Cert.Ff1Bwd.Gen.facts, Cert.Ff1BwdIdeal.Gen.facts, Cert.Ff1BwdRefIdeal.Gen.facts,
  Cert.Ff1.Gen.facts, Cert.Ff1Ideal.Gen.facts, Cert.Ff1RefIdeal.Gen.facts,
  Cert.Ff2.Gen.facts, Cert.Ff2Ideal.Gen.facts, Cert.Ff2RefIdeal.Gen.facts,
  Cert.MixBwd.Gen.facts, Cert.MixBwdIdeal.Gen.facts, Cert.MixBwdRefIdeal.Gen.facts,
  Cert.MixWgrad.Gen.facts, Cert.MixWgradIdeal.Gen.facts, Cert.MixWgradRefIdeal.Gen.facts,
  Cert.Mix.Gen.facts, Cert.MixIdeal.Gen.facts, Cert.MixRefIdeal.Gen.facts,
  Cert.In.Gen.facts, Cert.InIdeal.Gen.facts, Cert.InRefIdeal.Gen.facts,
  Cert.InWgrad.Gen.facts, Cert.InWgradIdeal.Gen.facts, Cert.InWgradRefIdeal.Gen.facts,
  Cert.InBwd.Gen.facts, Cert.InBwdIdeal.Gen.facts, Cert.InBwdRefIdeal.Gen.facts,
  Cert.AdaWgrad.Gen.facts, Cert.AdaWgradIdeal.Gen.facts, Cert.AdaWgradRefIdeal.Gen.facts,
  Cert.AdamFf1.Gen.facts, Cert.AdamFf1Ideal.Gen.facts, Cert.AdamFf1RefIdeal.Gen.facts,
  Cert.AdamFf2.Gen.facts, Cert.AdamFf2Ideal.Gen.facts, Cert.AdamFf2RefIdeal.Gen.facts,
  Cert.AdamOut.Gen.facts, Cert.AdamOutIdeal.Gen.facts, Cert.AdamOutRefIdeal.Gen.facts,
  Cert.AdamIn.Gen.facts, Cert.AdamInIdeal.Gen.facts, Cert.AdamInRefIdeal.Gen.facts,
  Cert.AdamGlu.Gen.facts, Cert.AdamGluIdeal.Gen.facts, Cert.AdamGluRefIdeal.Gen.facts,
  Cert.AdamAda.Gen.facts, Cert.AdamAdaIdeal.Gen.facts, Cert.AdamAdaRefIdeal.Gen.facts,
  Cert.AdamSmall.Gen.facts, Cert.AdamSmallIdeal.Gen.facts, Cert.AdamSmallRefIdeal.Gen.facts,
  Cert.SumSmall.Gen.facts, Cert.SumSmallIdeal.Gen.facts, Cert.SumSmallRefIdeal.Gen.facts,
  Cert.Final.preFacts,
  fun m ρ _ => Cert.Kernel.Gen.frame m ρ, fun m ρ _ => Cert.KernelIdeal.Gen.frame m ρ, fun m ρ _ => Cert.KernelIdeal.Gen.frame m ρ,
  fun m ρ _ => Cert.Final.frame_ref m ρ, fun m ρ _ => Cert.Final.frame_ref m ρ,
  fun m ρ _ => Cert.Ff2Bwd.Gen.frame m ρ, fun m ρ _ => Cert.Ff2BwdIdeal.Gen.frame m ρ, fun m ρ _ => Cert.MmFf2Bwd.frame_ref m ρ,
  fun m ρ _ => Cert.Ff2Wgrad.Gen.frame m ρ, fun m ρ _ => Cert.Ff2WgradIdeal.Gen.frame m ρ, fun m ρ _ => Cert.MmFf2Wgrad.frame_ref m ρ,
  fun m ρ _ => Cert.Ff1Wgrad.Gen.frame m ρ, fun m ρ _ => Cert.Ff1WgradIdeal.Gen.frame m ρ, fun m ρ _ => Cert.MmFf1Wgrad.frame_ref m ρ,
  fun m ρ _ => Cert.Ff1Bwd.Gen.frame m ρ, fun m ρ _ => Cert.Ff1BwdIdeal.Gen.frame m ρ, fun m ρ _ => Cert.MmFf1Bwd.frame_ref m ρ,
  fun m ρ _ => Cert.Ff1.Gen.frame m ρ, fun m ρ _ => Cert.Ff1Ideal.Gen.frame m ρ, fun m ρ _ => Cert.MmFf1.frame_ref m ρ,
  fun m ρ _ => Cert.Ff2.Gen.frame m ρ, fun m ρ _ => Cert.Ff2Ideal.Gen.frame m ρ, fun m ρ _ => Cert.MmFf2.frame_ref m ρ,
  fun m ρ _ => Cert.MixBwd.Gen.frame m ρ, fun m ρ _ => Cert.MixBwdIdeal.Gen.frame m ρ, fun m ρ _ => Cert.MmMixBwd.frame_ref m ρ,
  fun m ρ _ => Cert.MixWgrad.Gen.frame m ρ, fun m ρ _ => Cert.MixWgradIdeal.Gen.frame m ρ, fun m ρ _ => Cert.MmMixWgrad.frame_ref m ρ,
  fun m ρ _ => Cert.Mix.Gen.frame m ρ, fun m ρ _ => Cert.MixIdeal.Gen.frame m ρ, fun m ρ _ => Cert.MmMix.frame_ref m ρ,
  fun m ρ _ => Cert.In.Gen.frame m ρ, fun m ρ _ => Cert.InIdeal.Gen.frame m ρ, fun m ρ _ => Cert.MmIn.frame_ref m ρ,
  fun m ρ _ => Cert.InWgrad.Gen.frame m ρ, fun m ρ _ => Cert.InWgradIdeal.Gen.frame m ρ, fun m ρ _ => Cert.MmInWgrad.frame_ref m ρ,
  fun m ρ _ => Cert.InBwd.Gen.frame m ρ, fun m ρ _ => Cert.InBwdIdeal.Gen.frame m ρ, fun m ρ _ => Cert.MmInBwd.frame_ref m ρ,
  fun m ρ _ => Cert.AdaWgrad.Gen.frame m ρ, fun m ρ _ => Cert.AdaWgradIdeal.Gen.frame m ρ, fun m ρ _ => Cert.MmAdaWgrad.frame_ref m ρ,
  fun m ρ _ => Cert.AdamFf1.Gen.frame m ρ, fun m ρ _ => Cert.AdamFf1Ideal.Gen.frame m ρ, fun m ρ _ => Cert.StepAdamFf1.frame_ref m ρ,
  fun m ρ _ => Cert.AdamFf2.Gen.frame m ρ, fun m ρ _ => Cert.AdamFf2Ideal.Gen.frame m ρ, fun m ρ _ => Cert.StepAdamFf2.frame_ref m ρ,
  fun m ρ _ => Cert.AdamOut.Gen.frame m ρ, fun m ρ _ => Cert.AdamOutIdeal.Gen.frame m ρ, fun m ρ _ => Cert.StepAdamOut.frame_ref m ρ,
  fun m ρ _ => Cert.AdamIn.Gen.frame m ρ, fun m ρ _ => Cert.AdamInIdeal.Gen.frame m ρ, fun m ρ _ => Cert.StepAdamIn.frame_ref m ρ,
  fun m ρ _ => Cert.AdamGlu.Gen.frame m ρ, fun m ρ _ => Cert.AdamGluIdeal.Gen.frame m ρ, fun m ρ _ => Cert.StepAdamGlu.frame_ref m ρ,
  fun m ρ _ => Cert.AdamAda.Gen.frame m ρ, fun m ρ _ => Cert.AdamAdaIdeal.Gen.frame m ρ, fun m ρ _ => Cert.StepAdamAda.frame_ref m ρ,
  fun m ρ _ => Cert.AdamSmall.Gen.frame m ρ, fun m ρ _ => Cert.AdamSmallIdeal.Gen.frame m ρ, fun m ρ _ => Cert.StepAdamSmall.frame_ref m ρ,
  fun m ρ _ => Cert.SumSmall.Gen.frame m ρ, fun m ρ _ => Cert.SumSmallIdeal.Gen.frame m ρ, fun m ρ _ => Cert.StepSumSmall.frame_ref m ρ,
  trivial, fun m ρ m' ρ' hm hA => ⟨Cert.Final.gq m, Cert.Final.gk m, Cert.Final.gv m, Cert.Final.run_kernel m hm ρ, Cert.Final.run_ref m m' ρ' hA⟩,
  trivial, fun m ρ m' ρ' _ hA => ⟨Cert.MmFf2Bwd.result m, Cert.MmFf2Bwd.run_kernel m ρ, Cert.MmFf2Bwd.run_ref m m' ρ' hA⟩,
  trivial, fun m ρ m' ρ' _ hA => ⟨Cert.MmFf2Wgrad.result m, Cert.MmFf2Wgrad.run_kernel m ρ, Cert.MmFf2Wgrad.run_ref m m' ρ' hA⟩,
  trivial, fun m ρ m' ρ' _ hA => ⟨Cert.MmFf1Wgrad.result m, Cert.MmFf1Wgrad.run_kernel m ρ, Cert.MmFf1Wgrad.run_ref m m' ρ' hA⟩,
  trivial, fun m ρ m' ρ' _ hA => ⟨Cert.MmFf1Bwd.result m, Cert.MmFf1Bwd.run_kernel m ρ, Cert.MmFf1Bwd.run_ref m m' ρ' hA⟩,
  trivial, fun m ρ m' ρ' _ hA => ⟨Cert.MmFf1.result m, Cert.MmFf1.run_kernel m ρ, Cert.MmFf1.run_ref m m' ρ' hA⟩,
  trivial, fun m ρ m' ρ' _ hA => ⟨Cert.MmFf2.result m, Cert.MmFf2.run_kernel m ρ, Cert.MmFf2.run_ref m m' ρ' hA⟩,
  trivial, fun m ρ m' ρ' _ hA => ⟨Cert.MmMixBwd.result m, Cert.MmMixBwd.run_kernel m ρ, Cert.MmMixBwd.run_ref m m' ρ' hA⟩,
  trivial, fun m ρ m' ρ' _ hA => ⟨Cert.MmMixWgrad.result m, Cert.MmMixWgrad.run_kernel m ρ, Cert.MmMixWgrad.run_ref m m' ρ' hA⟩,
  trivial, fun m ρ m' ρ' _ hA => ⟨Cert.MmMix.result m, Cert.MmMix.run_kernel m ρ, Cert.MmMix.run_ref m m' ρ' hA⟩,
  trivial, fun m ρ m' ρ' _ hA => ⟨Cert.MmIn.result m, Cert.MmIn.run_kernel m ρ, Cert.MmIn.run_ref m m' ρ' hA⟩,
  trivial, fun m ρ m' ρ' _ hA => ⟨Cert.MmInWgrad.result m, Cert.MmInWgrad.run_kernel m ρ, Cert.MmInWgrad.run_ref m m' ρ' hA⟩,
  trivial, fun m ρ m' ρ' _ hA => ⟨Cert.MmInBwd.result m, Cert.MmInBwd.run_kernel m ρ, Cert.MmInBwd.run_ref m m' ρ' hA⟩,
  trivial, fun m ρ m' ρ' _ hA => ⟨Cert.MmAdaWgrad.result m, Cert.MmAdaWgrad.run_kernel m ρ, Cert.MmAdaWgrad.run_ref m m' ρ' hA⟩,
  trivial, fun m ρ m' ρ' _ hA => ⟨Cert.StepAdamFf1.delta m, Cert.StepAdamFf1.newM m, Cert.StepAdamFf1.newV m, Cert.StepAdamFf1.run_kernel m ρ, Cert.StepAdamFf1.run_ref m m' ρ' hA⟩,
  trivial, fun m ρ m' ρ' _ hA => ⟨Cert.StepAdamFf2.delta m, Cert.StepAdamFf2.newM m, Cert.StepAdamFf2.newV m, Cert.StepAdamFf2.run_kernel m ρ, Cert.StepAdamFf2.run_ref m m' ρ' hA⟩,
  trivial, fun m ρ m' ρ' _ hA => ⟨Cert.StepAdamOut.delta m, Cert.StepAdamOut.newM m, Cert.StepAdamOut.newV m, Cert.StepAdamOut.run_kernel m ρ, Cert.StepAdamOut.run_ref m m' ρ' hA⟩,
  trivial, fun m ρ m' ρ' _ hA => ⟨Cert.StepAdamIn.delta m, Cert.StepAdamIn.newM m, Cert.StepAdamIn.newV m, Cert.StepAdamIn.run_kernel m ρ, Cert.StepAdamIn.run_ref m m' ρ' hA⟩,
  trivial, fun m ρ m' ρ' _ hA => ⟨Cert.StepAdamGlu.delta m, Cert.StepAdamGlu.newM m, Cert.StepAdamGlu.newV m, Cert.StepAdamGlu.run_kernel m ρ, Cert.StepAdamGlu.run_ref m m' ρ' hA⟩,
  trivial, fun m ρ m' ρ' _ hA => ⟨Cert.StepAdamAda.delta m, Cert.StepAdamAda.newM m, Cert.StepAdamAda.newV m, Cert.StepAdamAda.run_kernel m ρ, Cert.StepAdamAda.run_ref m m' ρ' hA⟩,
  trivial, fun m ρ m' ρ' _ hA => ⟨Cert.StepAdamSmall.delta m, Cert.StepAdamSmall.newM m, Cert.StepAdamSmall.newV m, Cert.StepAdamSmall.run_kernel m ρ, Cert.StepAdamSmall.run_ref m m' ρ' hA⟩,
  trivial, fun m ρ m' ρ' _ hA => ⟨Cert.StepSumSmall.result m, Cert.StepSumSmall.run_kernel m ρ, Cert.StepSumSmall.run_ref m m' ρ' hA⟩⟩

end Cert.Proof

end
